-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def Pre_ProjDw (m : (ℓ : Loc Cert.ProjDw.nD Cert.ProjDw.τ Cert.ProjDw.sig) → Buf (Elt Bits) ℓ) : Prop :=
  True

def Pre_ProjDwIdeal (m : (ℓ : Loc Cert.ProjDwIdeal.nD Cert.ProjDwIdeal.τ Cert.ProjDwIdeal.sig) → Buf (Elt Ideal) ℓ) : Prop :=
  True

def Pre_ProjDwRefIdeal (m : (ℓ : Loc Cert.ProjDwRefIdeal.nD Cert.ProjDwRefIdeal.τ Cert.ProjDwRefIdeal.sig) → Buf (Elt Ideal) ℓ) : Prop :=
  True

def Pre_ProjDx (m : (ℓ : Loc Cert.ProjDx.nD Cert.ProjDx.τ Cert.ProjDx.sig) → Buf (Elt Bits) ℓ) : Prop :=
  True

def Pre_ProjDxIdeal (m : (ℓ : Loc Cert.ProjDxIdeal.nD Cert.ProjDxIdeal.τ Cert.ProjDxIdeal.sig) → Buf (Elt Ideal) ℓ) : Prop :=
  True

def Pre_ProjDxRefIdeal (m : (ℓ : Loc Cert.ProjDxRefIdeal.nD Cert.ProjDxRefIdeal.τ Cert.ProjDxRefIdeal.sig) → Buf (Elt Ideal) ℓ) : Prop :=
  True

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxIdeal_nonneg [hPre_nonneg : Cert.Pre_nonneg.Facts] (m : (ℓ : Loc Cert.DownDxIdeal.nD Cert.DownDxIdeal.τ Cert.DownDxIdeal.sig) → Buf (Elt Ideal) ℓ) : Prop :=
  ∀ c : Dev Cert.DownDxIdeal.nD,
    (Cert.Pre_nonneg.fn (F := Ideal) (m ((c.tc : Thread Cert.DownDxIdeal.nD Cert.DownDxIdeal.τ).loc Cert.DownDxIdeal.main_arg0)) (m ((c.tc : Thread Cert.DownDxIdeal.nD Cert.DownDxIdeal.τ).loc Cert.DownDxIdeal.main_arg1)) (m ((c.tc : Thread Cert.DownDxIdeal.nD Cert.DownDxIdeal.τ).loc Cert.DownDxIdeal.main_arg2))) = (fun _ => 1#1)

def Pre_DownDxRefIdeal (m : (ℓ : Loc Cert.DownDxRefIdeal.nD Cert.DownDxRefIdeal.τ Cert.DownDxRefIdeal.sig) → Buf (Elt Ideal) ℓ) : Prop :=
  True

def Pre_DownDxRefIdeal_nonneg [hPre_nonneg : Cert.Pre_nonneg.Facts] (m : (ℓ : Loc Cert.DownDxRefIdeal.nD Cert.DownDxRefIdeal.τ Cert.DownDxRefIdeal.sig) → Buf (Elt Ideal) ℓ) : Prop :=
  ∀ c : Dev Cert.DownDxRefIdeal.nD,
    (Cert.Pre_nonneg.fn (F := Ideal) (m ((c.tc : Thread Cert.DownDxRefIdeal.nD Cert.DownDxRefIdeal.τ).loc Cert.DownDxRefIdeal.main_arg0)) (m ((c.tc : Thread Cert.DownDxRefIdeal.nD Cert.DownDxRefIdeal.τ).loc Cert.DownDxRefIdeal.main_arg1)) (m ((c.tc : Thread Cert.DownDxRefIdeal.nD Cert.DownDxRefIdeal.τ).loc Cert.DownDxRefIdeal.main_arg2))) = (fun _ => 1#1)

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_UpDxRefIdeal (m : (ℓ : Loc Cert.UpDxRefIdeal.nD Cert.UpDxRefIdeal.τ Cert.UpDxRefIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwRefIdeal (m : (ℓ : Loc Cert.UpDwRefIdeal.nD Cert.UpDwRefIdeal.τ Cert.UpDwRefIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwRefIdeal (m : (ℓ : Loc Cert.OutDwRefIdeal.nD Cert.OutDwRefIdeal.τ Cert.OutDwRefIdeal.sig) → Buf (Elt Ideal) ℓ) : Prop :=
  True

def Pre_SsmDx (m : (ℓ : Loc Cert.SsmDx.nD Cert.SsmDx.τ Cert.SsmDx.sig) → Buf (Elt Bits) ℓ) : Prop :=
  True

def Pre_SsmDxIdeal (m : (ℓ : Loc Cert.SsmDxIdeal.nD Cert.SsmDxIdeal.τ Cert.SsmDxIdeal.sig) → Buf (Elt Ideal) ℓ) : Prop :=
  True

def Pre_SsmDxRefIdeal (m : (ℓ : Loc Cert.SsmDxRefIdeal.nD Cert.SsmDxRefIdeal.τ Cert.SsmDxRefIdeal.sig) → Buf (Elt Ideal) ℓ) : Prop :=
  True

def Pre_SsmDw (m : (ℓ : Loc Cert.SsmDw.nD Cert.SsmDw.τ Cert.SsmDw.sig) → Buf (Elt Bits) ℓ) : Prop :=
  True

def Pre_SsmDwIdeal (m : (ℓ : Loc Cert.SsmDwIdeal.nD Cert.SsmDwIdeal.τ Cert.SsmDwIdeal.sig) → Buf (Elt Ideal) ℓ) : Prop :=
  True

def Pre_SsmDwRefIdeal (m : (ℓ : Loc Cert.SsmDwRefIdeal.nD Cert.SsmDwRefIdeal.τ Cert.SsmDwRefIdeal.sig) → Buf (Elt Ideal) ℓ) : Prop :=
  True

def Pre_GdnDx (m : (ℓ : Loc Cert.GdnDx.nD Cert.GdnDx.τ Cert.GdnDx.sig) → Buf (Elt Bits) ℓ) : Prop :=
  True

def Pre_GdnDxIdeal (m : (ℓ : Loc Cert.GdnDxIdeal.nD Cert.GdnDxIdeal.τ Cert.GdnDxIdeal.sig) → Buf (Elt Ideal) ℓ) : Prop :=
  True

def Pre_GdnDxRefIdeal (m : (ℓ : Loc Cert.GdnDxRefIdeal.nD Cert.GdnDxRefIdeal.τ Cert.GdnDxRefIdeal.sig) → Buf (Elt Ideal) ℓ) : Prop :=
  True

def Pre_GdnDw (m : (ℓ : Loc Cert.GdnDw.nD Cert.GdnDw.τ Cert.GdnDw.sig) → Buf (Elt Bits) ℓ) : Prop :=
  True

def Pre_GdnDwIdeal (m : (ℓ : Loc Cert.GdnDwIdeal.nD Cert.GdnDwIdeal.τ Cert.GdnDwIdeal.sig) → Buf (Elt Ideal) ℓ) : Prop :=
  True

def Pre_GdnDwRefIdeal (m : (ℓ : Loc Cert.GdnDwRefIdeal.nD Cert.GdnDwRefIdeal.τ Cert.GdnDwRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Ssm (m : (ℓ : Loc Cert.Ssm.nD Cert.Ssm.τ Cert.Ssm.sig) → Buf (Elt Bits) ℓ) : Prop :=
  True

def Pre_SsmIdeal (m : (ℓ : Loc Cert.SsmIdeal.nD Cert.SsmIdeal.τ Cert.SsmIdeal.sig) → Buf (Elt Ideal) ℓ) : Prop :=
  True

def Pre_SsmRefIdeal (m : (ℓ : Loc Cert.SsmRefIdeal.nD Cert.SsmRefIdeal.τ Cert.SsmRefIdeal.sig) → Buf (Elt Ideal) ℓ) : Prop :=
  True

def Pre_Small (m : (ℓ : Loc Cert.Small.nD Cert.Small.τ Cert.Small.sig) → Buf (Elt Bits) ℓ) : Prop :=
  True

def Pre_SmallIdeal (m : (ℓ : Loc Cert.SmallIdeal.nD Cert.SmallIdeal.τ Cert.SmallIdeal.sig) → Buf (Elt Ideal) ℓ) : Prop :=
  True

def Pre_SmallRefIdeal (m : (ℓ : Loc Cert.SmallRefIdeal.nD Cert.SmallRefIdeal.τ Cert.SmallRefIdeal.sig) → Buf (Elt Ideal) ℓ) : Prop :=
  True

def Pre_SmallDw (m : (ℓ : Loc Cert.SmallDw.nD Cert.SmallDw.τ Cert.SmallDw.sig) → Buf (Elt Bits) ℓ) : Prop :=
  True

def Pre_SmallDwIdeal (m : (ℓ : Loc Cert.SmallDwIdeal.nD Cert.SmallDwIdeal.τ Cert.SmallDwIdeal.sig) → Buf (Elt Ideal) ℓ) : Prop :=
  True

def Pre_SmallDwRefIdeal (m : (ℓ : Loc Cert.SmallDwRefIdeal.nD Cert.SmallDwRefIdeal.τ Cert.SmallDwRefIdeal.sig) → Buf (Elt Ideal) ℓ) : Prop :=
  True

def Pre_SmallDx (m : (ℓ : Loc Cert.SmallDx.nD Cert.SmallDx.τ Cert.SmallDx.sig) → Buf (Elt Bits) ℓ) : Prop :=
  True

def Pre_SmallDxIdeal (m : (ℓ : Loc Cert.SmallDxIdeal.nD Cert.SmallDxIdeal.τ Cert.SmallDxIdeal.sig) → Buf (Elt Ideal) ℓ) : Prop :=
  True

def Pre_SmallDxRefIdeal (m : (ℓ : Loc Cert.SmallDxRefIdeal.nD Cert.SmallDxRefIdeal.τ Cert.SmallDxRefIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpRefIdeal (m : (ℓ : Loc Cert.AdamUpRefIdeal.nD Cert.AdamUpRefIdeal.τ Cert.AdamUpRefIdeal.sig) → Buf (Elt Ideal) ℓ) : Prop :=
  True

def Pre_AdamRep (m : (ℓ : Loc Cert.AdamRep.nD Cert.AdamRep.τ Cert.AdamRep.sig) → Buf (Elt Bits) ℓ) : Prop :=
  True

def Pre_AdamRepIdeal (m : (ℓ : Loc Cert.AdamRepIdeal.nD Cert.AdamRepIdeal.τ Cert.AdamRepIdeal.sig) → Buf (Elt Ideal) ℓ) : Prop :=
  True

def Pre_AdamRepRefIdeal (m : (ℓ : Loc Cert.AdamRepRefIdeal.nD Cert.AdamRepRefIdeal.τ Cert.AdamRepRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamMlpUp (m : (ℓ : Loc Cert.AdamMlpUp.nD Cert.AdamMlpUp.τ Cert.AdamMlpUp.sig) → Buf (Elt Bits) ℓ) : Prop :=
  True

def Pre_AdamMlpUpIdeal (m : (ℓ : Loc Cert.AdamMlpUpIdeal.nD Cert.AdamMlpUpIdeal.τ Cert.AdamMlpUpIdeal.sig) → Buf (Elt Ideal) ℓ) : Prop :=
  True

def Pre_AdamMlpUpRefIdeal (m : (ℓ : Loc Cert.AdamMlpUpRefIdeal.nD Cert.AdamMlpUpRefIdeal.τ Cert.AdamMlpUpRefIdeal.sig) → Buf (Elt Ideal) ℓ) : Prop :=
  True

def Pre_AdamMlpDown (m : (ℓ : Loc Cert.AdamMlpDown.nD Cert.AdamMlpDown.τ Cert.AdamMlpDown.sig) → Buf (Elt Bits) ℓ) : Prop :=
  True

def Pre_AdamMlpDownIdeal (m : (ℓ : Loc Cert.AdamMlpDownIdeal.nD Cert.AdamMlpDownIdeal.τ Cert.AdamMlpDownIdeal.sig) → Buf (Elt Ideal) ℓ) : Prop :=
  True

def Pre_AdamMlpDownRefIdeal (m : (ℓ : Loc Cert.AdamMlpDownRefIdeal.nD Cert.AdamMlpDownRefIdeal.τ Cert.AdamMlpDownRefIdeal.sig) → Buf (Elt Ideal) ℓ) : Prop :=
  True

def Pre_AdamAda (m : (ℓ : Loc Cert.AdamAda.nD Cert.AdamAda.τ Cert.AdamAda.sig) → Buf (Elt Bits) ℓ) : Prop :=
  True

def Pre_AdamAdaIdeal (m : (ℓ : Loc Cert.AdamAdaIdeal.nD Cert.AdamAdaIdeal.τ Cert.AdamAdaIdeal.sig) → Buf (Elt Ideal) ℓ) : Prop :=
  True

def Pre_AdamAdaRefIdeal (m : (ℓ : Loc Cert.AdamAdaRefIdeal.nD Cert.AdamAdaRefIdeal.τ Cert.AdamAdaRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamConv (m : (ℓ : Loc Cert.AdamConv.nD Cert.AdamConv.τ Cert.AdamConv.sig) → Buf (Elt Bits) ℓ) : Prop :=
  True

def Pre_AdamConvIdeal (m : (ℓ : Loc Cert.AdamConvIdeal.nD Cert.AdamConvIdeal.τ Cert.AdamConvIdeal.sig) → Buf (Elt Ideal) ℓ) : Prop :=
  True

def Pre_AdamConvRefIdeal (m : (ℓ : Loc Cert.AdamConvRefIdeal.nD Cert.AdamConvRefIdeal.τ Cert.AdamConvRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ProjDw [hProjDw : Cert.ProjDw.Facts] : Prop :=
  ∀ (m : (ℓ : Loc Cert.ProjDw.nD Cert.ProjDw.τ Cert.ProjDw.sig) → Buf (Elt Bits) ℓ) (g : Dev Cert.ProjDw.nD → PrngReg), Pre_ProjDw m →
    θ_run (Cert.ProjDw.defs (F := Bits)) (onTc (τ := Cert.ProjDw.τ) (Cert.ProjDw.main (F := Bits))) ⟨m, fun _ => 0, g⟩ (fun r => (∀ c : Dev Cert.ProjDw.nD,
      r.2.mem ((c.tc : Thread Cert.ProjDw.nD Cert.ProjDw.τ).loc Cert.ProjDw.main_arg0) = m ((c.tc : Thread Cert.ProjDw.nD Cert.ProjDw.τ).loc Cert.ProjDw.main_arg0)
      ∧ r.2.mem ((c.tc : Thread Cert.ProjDw.nD Cert.ProjDw.τ).loc Cert.ProjDw.main_arg1) = m ((c.tc : Thread Cert.ProjDw.nD Cert.ProjDw.τ).loc Cert.ProjDw.main_arg1))
      ∧ r.2.sem = fun _ => 0)

def quiescent_ProjDwIdeal [hProjDwIdeal : Cert.ProjDwIdeal.Facts] : Prop :=
  ∀ (m : (ℓ : Loc Cert.ProjDwIdeal.nD Cert.ProjDwIdeal.τ Cert.ProjDwIdeal.sig) → Buf (Elt Ideal) ℓ) (g : Dev Cert.ProjDwIdeal.nD → PrngReg), Pre_ProjDwIdeal m →
    θ_run (Cert.ProjDwIdeal.defs (F := Ideal)) (onTc (τ := Cert.ProjDwIdeal.τ) (Cert.ProjDwIdeal.main (F := Ideal))) ⟨m, fun _ => 0, g⟩ (fun r => (∀ c : Dev Cert.ProjDwIdeal.nD,
      r.2.mem ((c.tc : Thread Cert.ProjDwIdeal.nD Cert.ProjDwIdeal.τ).loc Cert.ProjDwIdeal.main_arg0) = m ((c.tc : Thread Cert.ProjDwIdeal.nD Cert.ProjDwIdeal.τ).loc Cert.ProjDwIdeal.main_arg0)
      ∧ r.2.mem ((c.tc : Thread Cert.ProjDwIdeal.nD Cert.ProjDwIdeal.τ).loc Cert.ProjDwIdeal.main_arg1) = m ((c.tc : Thread Cert.ProjDwIdeal.nD Cert.ProjDwIdeal.τ).loc Cert.ProjDwIdeal.main_arg1))
      ∧ r.2.sem = fun _ => 0)

def quiescent_ProjDwRefIdeal [hProjDwRefIdeal : Cert.ProjDwRefIdeal.Facts] : Prop :=
  ∀ (m : (ℓ : Loc Cert.ProjDwRefIdeal.nD Cert.ProjDwRefIdeal.τ Cert.ProjDwRefIdeal.sig) → Buf (Elt Ideal) ℓ) (g : Dev Cert.ProjDwRefIdeal.nD → PrngReg), Pre_ProjDwRefIdeal m →
    θ_run (Cert.ProjDwRefIdeal.defs (F := Ideal)) (onTc (τ := Cert.ProjDwRefIdeal.τ) (Cert.ProjDwRefIdeal.main (F := Ideal))) ⟨m, fun _ => 0, g⟩ (fun r => (∀ c : Dev Cert.ProjDwRefIdeal.nD,
      r.2.mem ((c.tc : Thread Cert.ProjDwRefIdeal.nD Cert.ProjDwRefIdeal.τ).loc Cert.ProjDwRefIdeal.main_arg0) = m ((c.tc : Thread Cert.ProjDwRefIdeal.nD Cert.ProjDwRefIdeal.τ).loc Cert.ProjDwRefIdeal.main_arg0)
      ∧ r.2.mem ((c.tc : Thread Cert.ProjDwRefIdeal.nD Cert.ProjDwRefIdeal.τ).loc Cert.ProjDwRefIdeal.main_arg1) = m ((c.tc : Thread Cert.ProjDwRefIdeal.nD Cert.ProjDwRefIdeal.τ).loc Cert.ProjDwRefIdeal.main_arg1))
      ∧ r.2.sem = fun _ => 0)

def quiescent_ProjDx [hProjDx : Cert.ProjDx.Facts] : Prop :=
  ∀ (m : (ℓ : Loc Cert.ProjDx.nD Cert.ProjDx.τ Cert.ProjDx.sig) → Buf (Elt Bits) ℓ) (g : Dev Cert.ProjDx.nD → PrngReg), Pre_ProjDx m →
    θ_run (Cert.ProjDx.defs (F := Bits)) (onTc (τ := Cert.ProjDx.τ) (Cert.ProjDx.main (F := Bits))) ⟨m, fun _ => 0, g⟩ (fun r => (∀ c : Dev Cert.ProjDx.nD,
      r.2.mem ((c.tc : Thread Cert.ProjDx.nD Cert.ProjDx.τ).loc Cert.ProjDx.main_arg0) = m ((c.tc : Thread Cert.ProjDx.nD Cert.ProjDx.τ).loc Cert.ProjDx.main_arg0)
      ∧ r.2.mem ((c.tc : Thread Cert.ProjDx.nD Cert.ProjDx.τ).loc Cert.ProjDx.main_arg1) = m ((c.tc : Thread Cert.ProjDx.nD Cert.ProjDx.τ).loc Cert.ProjDx.main_arg1)
      ∧ r.2.mem ((c.tc : Thread Cert.ProjDx.nD Cert.ProjDx.τ).loc Cert.ProjDx.main_arg2) = m ((c.tc : Thread Cert.ProjDx.nD Cert.ProjDx.τ).loc Cert.ProjDx.main_arg2))
      ∧ r.2.sem = fun _ => 0)

def quiescent_ProjDxIdeal [hProjDxIdeal : Cert.ProjDxIdeal.Facts] : Prop :=
  ∀ (m : (ℓ : Loc Cert.ProjDxIdeal.nD Cert.ProjDxIdeal.τ Cert.ProjDxIdeal.sig) → Buf (Elt Ideal) ℓ) (g : Dev Cert.ProjDxIdeal.nD → PrngReg), Pre_ProjDxIdeal m →
    θ_run (Cert.ProjDxIdeal.defs (F := Ideal)) (onTc (τ := Cert.ProjDxIdeal.τ) (Cert.ProjDxIdeal.main (F := Ideal))) ⟨m, fun _ => 0, g⟩ (fun r => (∀ c : Dev Cert.ProjDxIdeal.nD,
      r.2.mem ((c.tc : Thread Cert.ProjDxIdeal.nD Cert.ProjDxIdeal.τ).loc Cert.ProjDxIdeal.main_arg0) = m ((c.tc : Thread Cert.ProjDxIdeal.nD Cert.ProjDxIdeal.τ).loc Cert.ProjDxIdeal.main_arg0)
      ∧ r.2.mem ((c.tc : Thread Cert.ProjDxIdeal.nD Cert.ProjDxIdeal.τ).loc Cert.ProjDxIdeal.main_arg1) = m ((c.tc : Thread Cert.ProjDxIdeal.nD Cert.ProjDxIdeal.τ).loc Cert.ProjDxIdeal.main_arg1)
      ∧ r.2.mem ((c.tc : Thread Cert.ProjDxIdeal.nD Cert.ProjDxIdeal.τ).loc Cert.ProjDxIdeal.main_arg2) = m ((c.tc : Thread Cert.ProjDxIdeal.nD Cert.ProjDxIdeal.τ).loc Cert.ProjDxIdeal.main_arg2))
      ∧ r.2.sem = fun _ => 0)

def quiescent_ProjDxRefIdeal [hProjDxRefIdeal : Cert.ProjDxRefIdeal.Facts] : Prop :=
  ∀ (m : (ℓ : Loc Cert.ProjDxRefIdeal.nD Cert.ProjDxRefIdeal.τ Cert.ProjDxRefIdeal.sig) → Buf (Elt Ideal) ℓ) (g : Dev Cert.ProjDxRefIdeal.nD → PrngReg), Pre_ProjDxRefIdeal m →
    θ_run (Cert.ProjDxRefIdeal.defs (F := Ideal)) (onTc (τ := Cert.ProjDxRefIdeal.τ) (Cert.ProjDxRefIdeal.main (F := Ideal))) ⟨m, fun _ => 0, g⟩ (fun r => (∀ c : Dev Cert.ProjDxRefIdeal.nD,
      r.2.mem ((c.tc : Thread Cert.ProjDxRefIdeal.nD Cert.ProjDxRefIdeal.τ).loc Cert.ProjDxRefIdeal.main_arg0) = m ((c.tc : Thread Cert.ProjDxRefIdeal.nD Cert.ProjDxRefIdeal.τ).loc Cert.ProjDxRefIdeal.main_arg0)
      ∧ r.2.mem ((c.tc : Thread Cert.ProjDxRefIdeal.nD Cert.ProjDxRefIdeal.τ).loc Cert.ProjDxRefIdeal.main_arg1) = m ((c.tc : Thread Cert.ProjDxRefIdeal.nD Cert.ProjDxRefIdeal.τ).loc Cert.ProjDxRefIdeal.main_arg1)
      ∧ r.2.mem ((c.tc : Thread Cert.ProjDxRefIdeal.nD Cert.ProjDxRefIdeal.τ).loc Cert.ProjDxRefIdeal.main_arg2) = m ((c.tc : Thread Cert.ProjDxRefIdeal.nD Cert.ProjDxRefIdeal.τ).loc Cert.ProjDxRefIdeal.main_arg2))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1)
      ∧ r.2.mem ((c.tc : Thread Cert.DownDx.nD Cert.DownDx.τ).loc Cert.DownDx.main_arg2) = m ((c.tc : Thread Cert.DownDx.nD Cert.DownDx.τ).loc Cert.DownDx.main_arg2))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1)
      ∧ r.2.mem ((c.tc : Thread Cert.DownDxIdeal.nD Cert.DownDxIdeal.τ).loc Cert.DownDxIdeal.main_arg2) = m ((c.tc : Thread Cert.DownDxIdeal.nD Cert.DownDxIdeal.τ).loc Cert.DownDxIdeal.main_arg2))
      ∧ r.2.sem = fun _ => 0)

def quiescent_DownDxIdeal_pre_nonneg [hDownDxIdeal : Cert.DownDxIdeal.Facts] [hPre_nonneg : Cert.Pre_nonneg.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal_nonneg m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1)
      ∧ r.2.mem ((c.tc : Thread Cert.DownDxIdeal.nD Cert.DownDxIdeal.τ).loc Cert.DownDxIdeal.main_arg2) = m ((c.tc : Thread Cert.DownDxIdeal.nD Cert.DownDxIdeal.τ).loc Cert.DownDxIdeal.main_arg2))
      ∧ r.2.sem = fun _ => 0)

def quiescent_DownDxRefIdeal [hDownDxRefIdeal : Cert.DownDxRefIdeal.Facts] : Prop :=
  ∀ (m : (ℓ : Loc Cert.DownDxRefIdeal.nD Cert.DownDxRefIdeal.τ Cert.DownDxRefIdeal.sig) → Buf (Elt Ideal) ℓ) (g : Dev Cert.DownDxRefIdeal.nD → PrngReg), Pre_DownDxRefIdeal m →
    θ_run (Cert.DownDxRefIdeal.defs (F := Ideal)) (onTc (τ := Cert.DownDxRefIdeal.τ) (Cert.DownDxRefIdeal.main (F := Ideal))) ⟨m, fun _ => 0, g⟩ (fun r => (∀ c : Dev Cert.DownDxRefIdeal.nD,
      r.2.mem ((c.tc : Thread Cert.DownDxRefIdeal.nD Cert.DownDxRefIdeal.τ).loc Cert.DownDxRefIdeal.main_arg0) = m ((c.tc : Thread Cert.DownDxRefIdeal.nD Cert.DownDxRefIdeal.τ).loc Cert.DownDxRefIdeal.main_arg0)
      ∧ r.2.mem ((c.tc : Thread Cert.DownDxRefIdeal.nD Cert.DownDxRefIdeal.τ).loc Cert.DownDxRefIdeal.main_arg1) = m ((c.tc : Thread Cert.DownDxRefIdeal.nD Cert.DownDxRefIdeal.τ).loc Cert.DownDxRefIdeal.main_arg1)
      ∧ r.2.mem ((c.tc : Thread Cert.DownDxRefIdeal.nD Cert.DownDxRefIdeal.τ).loc Cert.DownDxRefIdeal.main_arg2) = m ((c.tc : Thread Cert.DownDxRefIdeal.nD Cert.DownDxRefIdeal.τ).loc Cert.DownDxRefIdeal.main_arg2))
      ∧ r.2.sem = fun _ => 0)

def quiescent_DownDxRefIdeal_pre_nonneg [hDownDxRefIdeal : Cert.DownDxRefIdeal.Facts] [hPre_nonneg : Cert.Pre_nonneg.Facts] : Prop :=
  ∀ (m : (ℓ : Loc Cert.DownDxRefIdeal.nD Cert.DownDxRefIdeal.τ Cert.DownDxRefIdeal.sig) → Buf (Elt Ideal) ℓ) (g : Dev Cert.DownDxRefIdeal.nD → PrngReg), Pre_DownDxRefIdeal_nonneg m →
    θ_run (Cert.DownDxRefIdeal.defs (F := Ideal)) (onTc (τ := Cert.DownDxRefIdeal.τ) (Cert.DownDxRefIdeal.main (F := Ideal))) ⟨m, fun _ => 0, g⟩ (fun r => (∀ c : Dev Cert.DownDxRefIdeal.nD,
      r.2.mem ((c.tc : Thread Cert.DownDxRefIdeal.nD Cert.DownDxRefIdeal.τ).loc Cert.DownDxRefIdeal.main_arg0) = m ((c.tc : Thread Cert.DownDxRefIdeal.nD Cert.DownDxRefIdeal.τ).loc Cert.DownDxRefIdeal.main_arg0)
      ∧ r.2.mem ((c.tc : Thread Cert.DownDxRefIdeal.nD Cert.DownDxRefIdeal.τ).loc Cert.DownDxRefIdeal.main_arg1) = m ((c.tc : Thread Cert.DownDxRefIdeal.nD Cert.DownDxRefIdeal.τ).loc Cert.DownDxRefIdeal.main_arg1)
      ∧ r.2.mem ((c.tc : Thread Cert.DownDxRefIdeal.nD Cert.DownDxRefIdeal.τ).loc Cert.DownDxRefIdeal.main_arg2) = m ((c.tc : Thread Cert.DownDxRefIdeal.nD Cert.DownDxRefIdeal.τ).loc Cert.DownDxRefIdeal.main_arg2))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ r.2.sem = fun _ => 0)

def quiescent_UpDxRefIdeal [hUpDxRefIdeal : Cert.UpDxRefIdeal.Facts] : Prop :=
  ∀ (m : (ℓ : Loc Cert.UpDxRefIdeal.nD Cert.UpDxRefIdeal.τ Cert.UpDxRefIdeal.sig) → Buf (Elt Ideal) ℓ) (g : Dev Cert.UpDxRefIdeal.nD → PrngReg), Pre_UpDxRefIdeal m →
    θ_run (Cert.UpDxRefIdeal.defs (F := Ideal)) (onTc (τ := Cert.UpDxRefIdeal.τ) (Cert.UpDxRefIdeal.main (F := Ideal))) ⟨m, fun _ => 0, g⟩ (fun r => (∀ c : Dev Cert.UpDxRefIdeal.nD,
      r.2.mem ((c.tc : Thread Cert.UpDxRefIdeal.nD Cert.UpDxRefIdeal.τ).loc Cert.UpDxRefIdeal.main_arg0) = m ((c.tc : Thread Cert.UpDxRefIdeal.nD Cert.UpDxRefIdeal.τ).loc Cert.UpDxRefIdeal.main_arg0)
      ∧ r.2.mem ((c.tc : Thread Cert.UpDxRefIdeal.nD Cert.UpDxRefIdeal.τ).loc Cert.UpDxRefIdeal.main_arg1) = m ((c.tc : Thread Cert.UpDxRefIdeal.nD Cert.UpDxRefIdeal.τ).loc Cert.UpDxRefIdeal.main_arg1))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ r.2.sem = fun _ => 0)

def quiescent_UpDwRefIdeal [hUpDwRefIdeal : Cert.UpDwRefIdeal.Facts] : Prop :=
  ∀ (m : (ℓ : Loc Cert.UpDwRefIdeal.nD Cert.UpDwRefIdeal.τ Cert.UpDwRefIdeal.sig) → Buf (Elt Ideal) ℓ) (g : Dev Cert.UpDwRefIdeal.nD → PrngReg), Pre_UpDwRefIdeal m →
    θ_run (Cert.UpDwRefIdeal.defs (F := Ideal)) (onTc (τ := Cert.UpDwRefIdeal.τ) (Cert.UpDwRefIdeal.main (F := Ideal))) ⟨m, fun _ => 0, g⟩ (fun r => (∀ c : Dev Cert.UpDwRefIdeal.nD,
      r.2.mem ((c.tc : Thread Cert.UpDwRefIdeal.nD Cert.UpDwRefIdeal.τ).loc Cert.UpDwRefIdeal.main_arg0) = m ((c.tc : Thread Cert.UpDwRefIdeal.nD Cert.UpDwRefIdeal.τ).loc Cert.UpDwRefIdeal.main_arg0)
      ∧ r.2.mem ((c.tc : Thread Cert.UpDwRefIdeal.nD Cert.UpDwRefIdeal.τ).loc Cert.UpDwRefIdeal.main_arg1) = m ((c.tc : Thread Cert.UpDwRefIdeal.nD Cert.UpDwRefIdeal.τ).loc Cert.UpDwRefIdeal.main_arg1))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

def quiescent_OutDwRefIdeal [hOutDwRefIdeal : Cert.OutDwRefIdeal.Facts] : Prop :=
  ∀ (m : (ℓ : Loc Cert.OutDwRefIdeal.nD Cert.OutDwRefIdeal.τ Cert.OutDwRefIdeal.sig) → Buf (Elt Ideal) ℓ) (g : Dev Cert.OutDwRefIdeal.nD → PrngReg), Pre_OutDwRefIdeal m →
    θ_run (Cert.OutDwRefIdeal.defs (F := Ideal)) (onTc (τ := Cert.OutDwRefIdeal.τ) (Cert.OutDwRefIdeal.main (F := Ideal))) ⟨m, fun _ => 0, g⟩ (fun r => (∀ c : Dev Cert.OutDwRefIdeal.nD,
      r.2.mem ((c.tc : Thread Cert.OutDwRefIdeal.nD Cert.OutDwRefIdeal.τ).loc Cert.OutDwRefIdeal.main_arg0) = m ((c.tc : Thread Cert.OutDwRefIdeal.nD Cert.OutDwRefIdeal.τ).loc Cert.OutDwRefIdeal.main_arg0)
      ∧ r.2.mem ((c.tc : Thread Cert.OutDwRefIdeal.nD Cert.OutDwRefIdeal.τ).loc Cert.OutDwRefIdeal.main_arg1) = m ((c.tc : Thread Cert.OutDwRefIdeal.nD Cert.OutDwRefIdeal.τ).loc Cert.OutDwRefIdeal.main_arg1))
      ∧ r.2.sem = fun _ => 0)

def quiescent_SsmDx [hSsmDx : Cert.SsmDx.Facts] : Prop :=
  ∀ (m : (ℓ : Loc Cert.SsmDx.nD Cert.SsmDx.τ Cert.SsmDx.sig) → Buf (Elt Bits) ℓ) (g : Dev Cert.SsmDx.nD → PrngReg), Pre_SsmDx m →
    θ_run (Cert.SsmDx.defs (F := Bits)) (onTc (τ := Cert.SsmDx.τ) (Cert.SsmDx.main (F := Bits))) ⟨m, fun _ => 0, g⟩ (fun r => (∀ c : Dev Cert.SsmDx.nD,
      r.2.mem ((c.tc : Thread Cert.SsmDx.nD Cert.SsmDx.τ).loc Cert.SsmDx.main_arg0) = m ((c.tc : Thread Cert.SsmDx.nD Cert.SsmDx.τ).loc Cert.SsmDx.main_arg0)
      ∧ r.2.mem ((c.tc : Thread Cert.SsmDx.nD Cert.SsmDx.τ).loc Cert.SsmDx.main_arg1) = m ((c.tc : Thread Cert.SsmDx.nD Cert.SsmDx.τ).loc Cert.SsmDx.main_arg1))
      ∧ r.2.sem = fun _ => 0)

def quiescent_SsmDxIdeal [hSsmDxIdeal : Cert.SsmDxIdeal.Facts] : Prop :=
  ∀ (m : (ℓ : Loc Cert.SsmDxIdeal.nD Cert.SsmDxIdeal.τ Cert.SsmDxIdeal.sig) → Buf (Elt Ideal) ℓ) (g : Dev Cert.SsmDxIdeal.nD → PrngReg), Pre_SsmDxIdeal m →
    θ_run (Cert.SsmDxIdeal.defs (F := Ideal)) (onTc (τ := Cert.SsmDxIdeal.τ) (Cert.SsmDxIdeal.main (F := Ideal))) ⟨m, fun _ => 0, g⟩ (fun r => (∀ c : Dev Cert.SsmDxIdeal.nD,
      r.2.mem ((c.tc : Thread Cert.SsmDxIdeal.nD Cert.SsmDxIdeal.τ).loc Cert.SsmDxIdeal.main_arg0) = m ((c.tc : Thread Cert.SsmDxIdeal.nD Cert.SsmDxIdeal.τ).loc Cert.SsmDxIdeal.main_arg0)
      ∧ r.2.mem ((c.tc : Thread Cert.SsmDxIdeal.nD Cert.SsmDxIdeal.τ).loc Cert.SsmDxIdeal.main_arg1) = m ((c.tc : Thread Cert.SsmDxIdeal.nD Cert.SsmDxIdeal.τ).loc Cert.SsmDxIdeal.main_arg1))
      ∧ r.2.sem = fun _ => 0)

def quiescent_SsmDxRefIdeal [hSsmDxRefIdeal : Cert.SsmDxRefIdeal.Facts] : Prop :=
  ∀ (m : (ℓ : Loc Cert.SsmDxRefIdeal.nD Cert.SsmDxRefIdeal.τ Cert.SsmDxRefIdeal.sig) → Buf (Elt Ideal) ℓ) (g : Dev Cert.SsmDxRefIdeal.nD → PrngReg), Pre_SsmDxRefIdeal m →
    θ_run (Cert.SsmDxRefIdeal.defs (F := Ideal)) (onTc (τ := Cert.SsmDxRefIdeal.τ) (Cert.SsmDxRefIdeal.main (F := Ideal))) ⟨m, fun _ => 0, g⟩ (fun r => (∀ c : Dev Cert.SsmDxRefIdeal.nD,
      r.2.mem ((c.tc : Thread Cert.SsmDxRefIdeal.nD Cert.SsmDxRefIdeal.τ).loc Cert.SsmDxRefIdeal.main_arg0) = m ((c.tc : Thread Cert.SsmDxRefIdeal.nD Cert.SsmDxRefIdeal.τ).loc Cert.SsmDxRefIdeal.main_arg0)
      ∧ r.2.mem ((c.tc : Thread Cert.SsmDxRefIdeal.nD Cert.SsmDxRefIdeal.τ).loc Cert.SsmDxRefIdeal.main_arg1) = m ((c.tc : Thread Cert.SsmDxRefIdeal.nD Cert.SsmDxRefIdeal.τ).loc Cert.SsmDxRefIdeal.main_arg1))
      ∧ r.2.sem = fun _ => 0)

def quiescent_SsmDw [hSsmDw : Cert.SsmDw.Facts] : Prop :=
  ∀ (m : (ℓ : Loc Cert.SsmDw.nD Cert.SsmDw.τ Cert.SsmDw.sig) → Buf (Elt Bits) ℓ) (g : Dev Cert.SsmDw.nD → PrngReg), Pre_SsmDw m →
    θ_run (Cert.SsmDw.defs (F := Bits)) (onTc (τ := Cert.SsmDw.τ) (Cert.SsmDw.main (F := Bits))) ⟨m, fun _ => 0, g⟩ (fun r => (∀ c : Dev Cert.SsmDw.nD,
      r.2.mem ((c.tc : Thread Cert.SsmDw.nD Cert.SsmDw.τ).loc Cert.SsmDw.main_arg0) = m ((c.tc : Thread Cert.SsmDw.nD Cert.SsmDw.τ).loc Cert.SsmDw.main_arg0)
      ∧ r.2.mem ((c.tc : Thread Cert.SsmDw.nD Cert.SsmDw.τ).loc Cert.SsmDw.main_arg1) = m ((c.tc : Thread Cert.SsmDw.nD Cert.SsmDw.τ).loc Cert.SsmDw.main_arg1))
      ∧ r.2.sem = fun _ => 0)

def quiescent_SsmDwIdeal [hSsmDwIdeal : Cert.SsmDwIdeal.Facts] : Prop :=
  ∀ (m : (ℓ : Loc Cert.SsmDwIdeal.nD Cert.SsmDwIdeal.τ Cert.SsmDwIdeal.sig) → Buf (Elt Ideal) ℓ) (g : Dev Cert.SsmDwIdeal.nD → PrngReg), Pre_SsmDwIdeal m →
    θ_run (Cert.SsmDwIdeal.defs (F := Ideal)) (onTc (τ := Cert.SsmDwIdeal.τ) (Cert.SsmDwIdeal.main (F := Ideal))) ⟨m, fun _ => 0, g⟩ (fun r => (∀ c : Dev Cert.SsmDwIdeal.nD,
      r.2.mem ((c.tc : Thread Cert.SsmDwIdeal.nD Cert.SsmDwIdeal.τ).loc Cert.SsmDwIdeal.main_arg0) = m ((c.tc : Thread Cert.SsmDwIdeal.nD Cert.SsmDwIdeal.τ).loc Cert.SsmDwIdeal.main_arg0)
      ∧ r.2.mem ((c.tc : Thread Cert.SsmDwIdeal.nD Cert.SsmDwIdeal.τ).loc Cert.SsmDwIdeal.main_arg1) = m ((c.tc : Thread Cert.SsmDwIdeal.nD Cert.SsmDwIdeal.τ).loc Cert.SsmDwIdeal.main_arg1))
      ∧ r.2.sem = fun _ => 0)

def quiescent_SsmDwRefIdeal [hSsmDwRefIdeal : Cert.SsmDwRefIdeal.Facts] : Prop :=
  ∀ (m : (ℓ : Loc Cert.SsmDwRefIdeal.nD Cert.SsmDwRefIdeal.τ Cert.SsmDwRefIdeal.sig) → Buf (Elt Ideal) ℓ) (g : Dev Cert.SsmDwRefIdeal.nD → PrngReg), Pre_SsmDwRefIdeal m →
    θ_run (Cert.SsmDwRefIdeal.defs (F := Ideal)) (onTc (τ := Cert.SsmDwRefIdeal.τ) (Cert.SsmDwRefIdeal.main (F := Ideal))) ⟨m, fun _ => 0, g⟩ (fun r => (∀ c : Dev Cert.SsmDwRefIdeal.nD,
      r.2.mem ((c.tc : Thread Cert.SsmDwRefIdeal.nD Cert.SsmDwRefIdeal.τ).loc Cert.SsmDwRefIdeal.main_arg0) = m ((c.tc : Thread Cert.SsmDwRefIdeal.nD Cert.SsmDwRefIdeal.τ).loc Cert.SsmDwRefIdeal.main_arg0)
      ∧ r.2.mem ((c.tc : Thread Cert.SsmDwRefIdeal.nD Cert.SsmDwRefIdeal.τ).loc Cert.SsmDwRefIdeal.main_arg1) = m ((c.tc : Thread Cert.SsmDwRefIdeal.nD Cert.SsmDwRefIdeal.τ).loc Cert.SsmDwRefIdeal.main_arg1))
      ∧ r.2.sem = fun _ => 0)

def quiescent_GdnDx [hGdnDx : Cert.GdnDx.Facts] : Prop :=
  ∀ (m : (ℓ : Loc Cert.GdnDx.nD Cert.GdnDx.τ Cert.GdnDx.sig) → Buf (Elt Bits) ℓ) (g : Dev Cert.GdnDx.nD → PrngReg), Pre_GdnDx m →
    θ_run (Cert.GdnDx.defs (F := Bits)) (onTc (τ := Cert.GdnDx.τ) (Cert.GdnDx.main (F := Bits))) ⟨m, fun _ => 0, g⟩ (fun r => (∀ c : Dev Cert.GdnDx.nD,
      r.2.mem ((c.tc : Thread Cert.GdnDx.nD Cert.GdnDx.τ).loc Cert.GdnDx.main_arg0) = m ((c.tc : Thread Cert.GdnDx.nD Cert.GdnDx.τ).loc Cert.GdnDx.main_arg0)
      ∧ r.2.mem ((c.tc : Thread Cert.GdnDx.nD Cert.GdnDx.τ).loc Cert.GdnDx.main_arg1) = m ((c.tc : Thread Cert.GdnDx.nD Cert.GdnDx.τ).loc Cert.GdnDx.main_arg1))
      ∧ r.2.sem = fun _ => 0)

def quiescent_GdnDxIdeal [hGdnDxIdeal : Cert.GdnDxIdeal.Facts] : Prop :=
  ∀ (m : (ℓ : Loc Cert.GdnDxIdeal.nD Cert.GdnDxIdeal.τ Cert.GdnDxIdeal.sig) → Buf (Elt Ideal) ℓ) (g : Dev Cert.GdnDxIdeal.nD → PrngReg), Pre_GdnDxIdeal m →
    θ_run (Cert.GdnDxIdeal.defs (F := Ideal)) (onTc (τ := Cert.GdnDxIdeal.τ) (Cert.GdnDxIdeal.main (F := Ideal))) ⟨m, fun _ => 0, g⟩ (fun r => (∀ c : Dev Cert.GdnDxIdeal.nD,
      r.2.mem ((c.tc : Thread Cert.GdnDxIdeal.nD Cert.GdnDxIdeal.τ).loc Cert.GdnDxIdeal.main_arg0) = m ((c.tc : Thread Cert.GdnDxIdeal.nD Cert.GdnDxIdeal.τ).loc Cert.GdnDxIdeal.main_arg0)
      ∧ r.2.mem ((c.tc : Thread Cert.GdnDxIdeal.nD Cert.GdnDxIdeal.τ).loc Cert.GdnDxIdeal.main_arg1) = m ((c.tc : Thread Cert.GdnDxIdeal.nD Cert.GdnDxIdeal.τ).loc Cert.GdnDxIdeal.main_arg1))
      ∧ r.2.sem = fun _ => 0)

def quiescent_GdnDxRefIdeal [hGdnDxRefIdeal : Cert.GdnDxRefIdeal.Facts] : Prop :=
  ∀ (m : (ℓ : Loc Cert.GdnDxRefIdeal.nD Cert.GdnDxRefIdeal.τ Cert.GdnDxRefIdeal.sig) → Buf (Elt Ideal) ℓ) (g : Dev Cert.GdnDxRefIdeal.nD → PrngReg), Pre_GdnDxRefIdeal m →
    θ_run (Cert.GdnDxRefIdeal.defs (F := Ideal)) (onTc (τ := Cert.GdnDxRefIdeal.τ) (Cert.GdnDxRefIdeal.main (F := Ideal))) ⟨m, fun _ => 0, g⟩ (fun r => (∀ c : Dev Cert.GdnDxRefIdeal.nD,
      r.2.mem ((c.tc : Thread Cert.GdnDxRefIdeal.nD Cert.GdnDxRefIdeal.τ).loc Cert.GdnDxRefIdeal.main_arg0) = m ((c.tc : Thread Cert.GdnDxRefIdeal.nD Cert.GdnDxRefIdeal.τ).loc Cert.GdnDxRefIdeal.main_arg0)
      ∧ r.2.mem ((c.tc : Thread Cert.GdnDxRefIdeal.nD Cert.GdnDxRefIdeal.τ).loc Cert.GdnDxRefIdeal.main_arg1) = m ((c.tc : Thread Cert.GdnDxRefIdeal.nD Cert.GdnDxRefIdeal.τ).loc Cert.GdnDxRefIdeal.main_arg1))
      ∧ r.2.sem = fun _ => 0)

def quiescent_GdnDw [hGdnDw : Cert.GdnDw.Facts] : Prop :=
  ∀ (m : (ℓ : Loc Cert.GdnDw.nD Cert.GdnDw.τ Cert.GdnDw.sig) → Buf (Elt Bits) ℓ) (g : Dev Cert.GdnDw.nD → PrngReg), Pre_GdnDw m →
    θ_run (Cert.GdnDw.defs (F := Bits)) (onTc (τ := Cert.GdnDw.τ) (Cert.GdnDw.main (F := Bits))) ⟨m, fun _ => 0, g⟩ (fun r => (∀ c : Dev Cert.GdnDw.nD,
      r.2.mem ((c.tc : Thread Cert.GdnDw.nD Cert.GdnDw.τ).loc Cert.GdnDw.main_arg0) = m ((c.tc : Thread Cert.GdnDw.nD Cert.GdnDw.τ).loc Cert.GdnDw.main_arg0)
      ∧ r.2.mem ((c.tc : Thread Cert.GdnDw.nD Cert.GdnDw.τ).loc Cert.GdnDw.main_arg1) = m ((c.tc : Thread Cert.GdnDw.nD Cert.GdnDw.τ).loc Cert.GdnDw.main_arg1))
      ∧ r.2.sem = fun _ => 0)

def quiescent_GdnDwIdeal [hGdnDwIdeal : Cert.GdnDwIdeal.Facts] : Prop :=
  ∀ (m : (ℓ : Loc Cert.GdnDwIdeal.nD Cert.GdnDwIdeal.τ Cert.GdnDwIdeal.sig) → Buf (Elt Ideal) ℓ) (g : Dev Cert.GdnDwIdeal.nD → PrngReg), Pre_GdnDwIdeal m →
    θ_run (Cert.GdnDwIdeal.defs (F := Ideal)) (onTc (τ := Cert.GdnDwIdeal.τ) (Cert.GdnDwIdeal.main (F := Ideal))) ⟨m, fun _ => 0, g⟩ (fun r => (∀ c : Dev Cert.GdnDwIdeal.nD,
      r.2.mem ((c.tc : Thread Cert.GdnDwIdeal.nD Cert.GdnDwIdeal.τ).loc Cert.GdnDwIdeal.main_arg0) = m ((c.tc : Thread Cert.GdnDwIdeal.nD Cert.GdnDwIdeal.τ).loc Cert.GdnDwIdeal.main_arg0)
      ∧ r.2.mem ((c.tc : Thread Cert.GdnDwIdeal.nD Cert.GdnDwIdeal.τ).loc Cert.GdnDwIdeal.main_arg1) = m ((c.tc : Thread Cert.GdnDwIdeal.nD Cert.GdnDwIdeal.τ).loc Cert.GdnDwIdeal.main_arg1))
      ∧ r.2.sem = fun _ => 0)

def quiescent_GdnDwRefIdeal [hGdnDwRefIdeal : Cert.GdnDwRefIdeal.Facts] : Prop :=
  ∀ (m : (ℓ : Loc Cert.GdnDwRefIdeal.nD Cert.GdnDwRefIdeal.τ Cert.GdnDwRefIdeal.sig) → Buf (Elt Ideal) ℓ) (g : Dev Cert.GdnDwRefIdeal.nD → PrngReg), Pre_GdnDwRefIdeal m →
    θ_run (Cert.GdnDwRefIdeal.defs (F := Ideal)) (onTc (τ := Cert.GdnDwRefIdeal.τ) (Cert.GdnDwRefIdeal.main (F := Ideal))) ⟨m, fun _ => 0, g⟩ (fun r => (∀ c : Dev Cert.GdnDwRefIdeal.nD,
      r.2.mem ((c.tc : Thread Cert.GdnDwRefIdeal.nD Cert.GdnDwRefIdeal.τ).loc Cert.GdnDwRefIdeal.main_arg0) = m ((c.tc : Thread Cert.GdnDwRefIdeal.nD Cert.GdnDwRefIdeal.τ).loc Cert.GdnDwRefIdeal.main_arg0)
      ∧ r.2.mem ((c.tc : Thread Cert.GdnDwRefIdeal.nD Cert.GdnDwRefIdeal.τ).loc Cert.GdnDwRefIdeal.main_arg1) = m ((c.tc : Thread Cert.GdnDwRefIdeal.nD Cert.GdnDwRefIdeal.τ).loc Cert.GdnDwRefIdeal.main_arg1))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1))
      ∧ r.2.sem = fun _ => 0)

def quiescent_Ssm [hSsm : Cert.Ssm.Facts] : Prop :=
  ∀ (m : (ℓ : Loc Cert.Ssm.nD Cert.Ssm.τ Cert.Ssm.sig) → Buf (Elt Bits) ℓ) (g : Dev Cert.Ssm.nD → PrngReg), Pre_Ssm m →
    θ_run (Cert.Ssm.defs (F := Bits)) (onTc (τ := Cert.Ssm.τ) (Cert.Ssm.main (F := Bits))) ⟨m, fun _ => 0, g⟩ (fun r => (∀ c : Dev Cert.Ssm.nD,
      r.2.mem ((c.tc : Thread Cert.Ssm.nD Cert.Ssm.τ).loc Cert.Ssm.main_arg0) = m ((c.tc : Thread Cert.Ssm.nD Cert.Ssm.τ).loc Cert.Ssm.main_arg0)
      ∧ r.2.mem ((c.tc : Thread Cert.Ssm.nD Cert.Ssm.τ).loc Cert.Ssm.main_arg1) = m ((c.tc : Thread Cert.Ssm.nD Cert.Ssm.τ).loc Cert.Ssm.main_arg1))
      ∧ r.2.sem = fun _ => 0)

def quiescent_SsmIdeal [hSsmIdeal : Cert.SsmIdeal.Facts] : Prop :=
  ∀ (m : (ℓ : Loc Cert.SsmIdeal.nD Cert.SsmIdeal.τ Cert.SsmIdeal.sig) → Buf (Elt Ideal) ℓ) (g : Dev Cert.SsmIdeal.nD → PrngReg), Pre_SsmIdeal m →
    θ_run (Cert.SsmIdeal.defs (F := Ideal)) (onTc (τ := Cert.SsmIdeal.τ) (Cert.SsmIdeal.main (F := Ideal))) ⟨m, fun _ => 0, g⟩ (fun r => (∀ c : Dev Cert.SsmIdeal.nD,
      r.2.mem ((c.tc : Thread Cert.SsmIdeal.nD Cert.SsmIdeal.τ).loc Cert.SsmIdeal.main_arg0) = m ((c.tc : Thread Cert.SsmIdeal.nD Cert.SsmIdeal.τ).loc Cert.SsmIdeal.main_arg0)
      ∧ r.2.mem ((c.tc : Thread Cert.SsmIdeal.nD Cert.SsmIdeal.τ).loc Cert.SsmIdeal.main_arg1) = m ((c.tc : Thread Cert.SsmIdeal.nD Cert.SsmIdeal.τ).loc Cert.SsmIdeal.main_arg1))
      ∧ r.2.sem = fun _ => 0)

def quiescent_SsmRefIdeal [hSsmRefIdeal : Cert.SsmRefIdeal.Facts] : Prop :=
  ∀ (m : (ℓ : Loc Cert.SsmRefIdeal.nD Cert.SsmRefIdeal.τ Cert.SsmRefIdeal.sig) → Buf (Elt Ideal) ℓ) (g : Dev Cert.SsmRefIdeal.nD → PrngReg), Pre_SsmRefIdeal m →
    θ_run (Cert.SsmRefIdeal.defs (F := Ideal)) (onTc (τ := Cert.SsmRefIdeal.τ) (Cert.SsmRefIdeal.main (F := Ideal))) ⟨m, fun _ => 0, g⟩ (fun r => (∀ c : Dev Cert.SsmRefIdeal.nD,
      r.2.mem ((c.tc : Thread Cert.SsmRefIdeal.nD Cert.SsmRefIdeal.τ).loc Cert.SsmRefIdeal.main_arg0) = m ((c.tc : Thread Cert.SsmRefIdeal.nD Cert.SsmRefIdeal.τ).loc Cert.SsmRefIdeal.main_arg0)
      ∧ r.2.mem ((c.tc : Thread Cert.SsmRefIdeal.nD Cert.SsmRefIdeal.τ).loc Cert.SsmRefIdeal.main_arg1) = m ((c.tc : Thread Cert.SsmRefIdeal.nD Cert.SsmRefIdeal.τ).loc Cert.SsmRefIdeal.main_arg1))
      ∧ r.2.sem = fun _ => 0)

def quiescent_Small [hSmall : Cert.Small.Facts] : Prop :=
  ∀ (m : (ℓ : Loc Cert.Small.nD Cert.Small.τ Cert.Small.sig) → Buf (Elt Bits) ℓ) (g : Dev Cert.Small.nD → PrngReg), Pre_Small m →
    θ_run (Cert.Small.defs (F := Bits)) (onTc (τ := Cert.Small.τ) (Cert.Small.main (F := Bits))) ⟨m, fun _ => 0, g⟩ (fun r => (∀ c : Dev Cert.Small.nD,
      r.2.mem ((c.tc : Thread Cert.Small.nD Cert.Small.τ).loc Cert.Small.main_arg0) = m ((c.tc : Thread Cert.Small.nD Cert.Small.τ).loc Cert.Small.main_arg0)
      ∧ r.2.mem ((c.tc : Thread Cert.Small.nD Cert.Small.τ).loc Cert.Small.main_arg1) = m ((c.tc : Thread Cert.Small.nD Cert.Small.τ).loc Cert.Small.main_arg1))
      ∧ r.2.sem = fun _ => 0)

def quiescent_SmallIdeal [hSmallIdeal : Cert.SmallIdeal.Facts] : Prop :=
  ∀ (m : (ℓ : Loc Cert.SmallIdeal.nD Cert.SmallIdeal.τ Cert.SmallIdeal.sig) → Buf (Elt Ideal) ℓ) (g : Dev Cert.SmallIdeal.nD → PrngReg), Pre_SmallIdeal m →
    θ_run (Cert.SmallIdeal.defs (F := Ideal)) (onTc (τ := Cert.SmallIdeal.τ) (Cert.SmallIdeal.main (F := Ideal))) ⟨m, fun _ => 0, g⟩ (fun r => (∀ c : Dev Cert.SmallIdeal.nD,
      r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0)
      ∧ r.2.mem ((c.tc : Thread Cert.SmallIdeal.nD Cert.SmallIdeal.τ).loc Cert.SmallIdeal.main_arg1) = m ((c.tc : Thread Cert.SmallIdeal.nD Cert.SmallIdeal.τ).loc Cert.SmallIdeal.main_arg1))
      ∧ r.2.sem = fun _ => 0)

def quiescent_SmallRefIdeal [hSmallRefIdeal : Cert.SmallRefIdeal.Facts] : Prop :=
  ∀ (m : (ℓ : Loc Cert.SmallRefIdeal.nD Cert.SmallRefIdeal.τ Cert.SmallRefIdeal.sig) → Buf (Elt Ideal) ℓ) (g : Dev Cert.SmallRefIdeal.nD → PrngReg), Pre_SmallRefIdeal m →
    θ_run (Cert.SmallRefIdeal.defs (F := Ideal)) (onTc (τ := Cert.SmallRefIdeal.τ) (Cert.SmallRefIdeal.main (F := Ideal))) ⟨m, fun _ => 0, g⟩ (fun r => (∀ c : Dev Cert.SmallRefIdeal.nD,
      r.2.mem ((c.tc : Thread Cert.SmallRefIdeal.nD Cert.SmallRefIdeal.τ).loc Cert.SmallRefIdeal.main_arg0) = m ((c.tc : Thread Cert.SmallRefIdeal.nD Cert.SmallRefIdeal.τ).loc Cert.SmallRefIdeal.main_arg0)
      ∧ r.2.mem ((c.tc : Thread Cert.SmallRefIdeal.nD Cert.SmallRefIdeal.τ).loc Cert.SmallRefIdeal.main_arg1) = m ((c.tc : Thread Cert.SmallRefIdeal.nD Cert.SmallRefIdeal.τ).loc Cert.SmallRefIdeal.main_arg1))
      ∧ r.2.sem = fun _ => 0)

def quiescent_SmallDw [hSmallDw : Cert.SmallDw.Facts] : Prop :=
  ∀ (m : (ℓ : Loc Cert.SmallDw.nD Cert.SmallDw.τ Cert.SmallDw.sig) → Buf (Elt Bits) ℓ) (g : Dev Cert.SmallDw.nD → PrngReg), Pre_SmallDw m →
    θ_run (Cert.SmallDw.defs (F := Bits)) (onTc (τ := Cert.SmallDw.τ) (Cert.SmallDw.main (F := Bits))) ⟨m, fun _ => 0, g⟩ (fun r => (∀ c : Dev Cert.SmallDw.nD,
      r.2.mem ((c.tc : Thread Cert.SmallDw.nD Cert.SmallDw.τ).loc Cert.SmallDw.main_arg0) = m ((c.tc : Thread Cert.SmallDw.nD Cert.SmallDw.τ).loc Cert.SmallDw.main_arg0)
      ∧ r.2.mem ((c.tc : Thread Cert.SmallDw.nD Cert.SmallDw.τ).loc Cert.SmallDw.main_arg1) = m ((c.tc : Thread Cert.SmallDw.nD Cert.SmallDw.τ).loc Cert.SmallDw.main_arg1))
      ∧ r.2.sem = fun _ => 0)

def quiescent_SmallDwIdeal [hSmallDwIdeal : Cert.SmallDwIdeal.Facts] : Prop :=
  ∀ (m : (ℓ : Loc Cert.SmallDwIdeal.nD Cert.SmallDwIdeal.τ Cert.SmallDwIdeal.sig) → Buf (Elt Ideal) ℓ) (g : Dev Cert.SmallDwIdeal.nD → PrngReg), Pre_SmallDwIdeal m →
    θ_run (Cert.SmallDwIdeal.defs (F := Ideal)) (onTc (τ := Cert.SmallDwIdeal.τ) (Cert.SmallDwIdeal.main (F := Ideal))) ⟨m, fun _ => 0, g⟩ (fun r => (∀ c : Dev Cert.SmallDwIdeal.nD,
      r.2.mem ((c.tc : Thread Cert.SmallDwIdeal.nD Cert.SmallDwIdeal.τ).loc Cert.SmallDwIdeal.main_arg0) = m ((c.tc : Thread Cert.SmallDwIdeal.nD Cert.SmallDwIdeal.τ).loc Cert.SmallDwIdeal.main_arg0)
      ∧ r.2.mem ((c.tc : Thread Cert.SmallDwIdeal.nD Cert.SmallDwIdeal.τ).loc Cert.SmallDwIdeal.main_arg1) = m ((c.tc : Thread Cert.SmallDwIdeal.nD Cert.SmallDwIdeal.τ).loc Cert.SmallDwIdeal.main_arg1))
      ∧ r.2.sem = fun _ => 0)

def quiescent_SmallDwRefIdeal [hSmallDwRefIdeal : Cert.SmallDwRefIdeal.Facts] : Prop :=
  ∀ (m : (ℓ : Loc Cert.SmallDwRefIdeal.nD Cert.SmallDwRefIdeal.τ Cert.SmallDwRefIdeal.sig) → Buf (Elt Ideal) ℓ) (g : Dev Cert.SmallDwRefIdeal.nD → PrngReg), Pre_SmallDwRefIdeal m →
    θ_run (Cert.SmallDwRefIdeal.defs (F := Ideal)) (onTc (τ := Cert.SmallDwRefIdeal.τ) (Cert.SmallDwRefIdeal.main (F := Ideal))) ⟨m, fun _ => 0, g⟩ (fun r => (∀ c : Dev Cert.SmallDwRefIdeal.nD,
      r.2.mem ((c.tc : Thread Cert.SmallDwRefIdeal.nD Cert.SmallDwRefIdeal.τ).loc Cert.SmallDwRefIdeal.main_arg0) = m ((c.tc : Thread Cert.SmallDwRefIdeal.nD Cert.SmallDwRefIdeal.τ).loc Cert.SmallDwRefIdeal.main_arg0)
      ∧ r.2.mem ((c.tc : Thread Cert.SmallDwRefIdeal.nD Cert.SmallDwRefIdeal.τ).loc Cert.SmallDwRefIdeal.main_arg1) = m ((c.tc : Thread Cert.SmallDwRefIdeal.nD Cert.SmallDwRefIdeal.τ).loc Cert.SmallDwRefIdeal.main_arg1))
      ∧ r.2.sem = fun _ => 0)

def quiescent_SmallDx [hSmallDx : Cert.SmallDx.Facts] : Prop :=
  ∀ (m : (ℓ : Loc Cert.SmallDx.nD Cert.SmallDx.τ Cert.SmallDx.sig) → Buf (Elt Bits) ℓ) (g : Dev Cert.SmallDx.nD → PrngReg), Pre_SmallDx m →
    θ_run (Cert.SmallDx.defs (F := Bits)) (onTc (τ := Cert.SmallDx.τ) (Cert.SmallDx.main (F := Bits))) ⟨m, fun _ => 0, g⟩ (fun r => (∀ c : Dev Cert.SmallDx.nD,
      r.2.mem ((c.tc : Thread Cert.SmallDx.nD Cert.SmallDx.τ).loc Cert.SmallDx.main_arg0) = m ((c.tc : Thread Cert.SmallDx.nD Cert.SmallDx.τ).loc Cert.SmallDx.main_arg0)
      ∧ r.2.mem ((c.tc : Thread Cert.SmallDx.nD Cert.SmallDx.τ).loc Cert.SmallDx.main_arg1) = m ((c.tc : Thread Cert.SmallDx.nD Cert.SmallDx.τ).loc Cert.SmallDx.main_arg1))
      ∧ r.2.sem = fun _ => 0)

def quiescent_SmallDxIdeal [hSmallDxIdeal : Cert.SmallDxIdeal.Facts] : Prop :=
  ∀ (m : (ℓ : Loc Cert.SmallDxIdeal.nD Cert.SmallDxIdeal.τ Cert.SmallDxIdeal.sig) → Buf (Elt Ideal) ℓ) (g : Dev Cert.SmallDxIdeal.nD → PrngReg), Pre_SmallDxIdeal m →
    θ_run (Cert.SmallDxIdeal.defs (F := Ideal)) (onTc (τ := Cert.SmallDxIdeal.τ) (Cert.SmallDxIdeal.main (F := Ideal))) ⟨m, fun _ => 0, g⟩ (fun r => (∀ c : Dev Cert.SmallDxIdeal.nD,
      r.2.mem ((c.tc : Thread Cert.SmallDxIdeal.nD Cert.SmallDxIdeal.τ).loc Cert.SmallDxIdeal.main_arg0) = m ((c.tc : Thread Cert.SmallDxIdeal.nD Cert.SmallDxIdeal.τ).loc Cert.SmallDxIdeal.main_arg0)
      ∧ r.2.mem ((c.tc : Thread Cert.SmallDxIdeal.nD Cert.SmallDxIdeal.τ).loc Cert.SmallDxIdeal.main_arg1) = m ((c.tc : Thread Cert.SmallDxIdeal.nD Cert.SmallDxIdeal.τ).loc Cert.SmallDxIdeal.main_arg1))
      ∧ r.2.sem = fun _ => 0)

def quiescent_SmallDxRefIdeal [hSmallDxRefIdeal : Cert.SmallDxRefIdeal.Facts] : Prop :=
  ∀ (m : (ℓ : Loc Cert.SmallDxRefIdeal.nD Cert.SmallDxRefIdeal.τ Cert.SmallDxRefIdeal.sig) → Buf (Elt Ideal) ℓ) (g : Dev Cert.SmallDxRefIdeal.nD → PrngReg), Pre_SmallDxRefIdeal m →
    θ_run (Cert.SmallDxRefIdeal.defs (F := Ideal)) (onTc (τ := Cert.SmallDxRefIdeal.τ) (Cert.SmallDxRefIdeal.main (F := Ideal))) ⟨m, fun _ => 0, g⟩ (fun r => (∀ c : Dev Cert.SmallDxRefIdeal.nD,
      r.2.mem ((c.tc : Thread Cert.SmallDxRefIdeal.nD Cert.SmallDxRefIdeal.τ).loc Cert.SmallDxRefIdeal.main_arg0) = m ((c.tc : Thread Cert.SmallDxRefIdeal.nD Cert.SmallDxRefIdeal.τ).loc Cert.SmallDxRefIdeal.main_arg0)
      ∧ r.2.mem ((c.tc : Thread Cert.SmallDxRefIdeal.nD Cert.SmallDxRefIdeal.τ).loc Cert.SmallDxRefIdeal.main_arg1) = m ((c.tc : Thread Cert.SmallDxRefIdeal.nD Cert.SmallDxRefIdeal.τ).loc Cert.SmallDxRefIdeal.main_arg1))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ r.2.sem = fun _ => 0)

def quiescent_AdamUpRefIdeal [hAdamUpRefIdeal : Cert.AdamUpRefIdeal.Facts] : Prop :=
  ∀ (m : (ℓ : Loc Cert.AdamUpRefIdeal.nD Cert.AdamUpRefIdeal.τ Cert.AdamUpRefIdeal.sig) → Buf (Elt Ideal) ℓ) (g : Dev Cert.AdamUpRefIdeal.nD → PrngReg), Pre_AdamUpRefIdeal m →
    θ_run (Cert.AdamUpRefIdeal.defs (F := Ideal)) (onTc (τ := Cert.AdamUpRefIdeal.τ) (Cert.AdamUpRefIdeal.main (F := Ideal))) ⟨m, fun _ => 0, g⟩ (fun r => (∀ c : Dev Cert.AdamUpRefIdeal.nD,
      r.2.mem ((c.tc : Thread Cert.AdamUpRefIdeal.nD Cert.AdamUpRefIdeal.τ).loc Cert.AdamUpRefIdeal.main_arg0) = m ((c.tc : Thread Cert.AdamUpRefIdeal.nD Cert.AdamUpRefIdeal.τ).loc Cert.AdamUpRefIdeal.main_arg0)
      ∧ r.2.mem ((c.tc : Thread Cert.AdamUpRefIdeal.nD Cert.AdamUpRefIdeal.τ).loc Cert.AdamUpRefIdeal.main_arg1) = m ((c.tc : Thread Cert.AdamUpRefIdeal.nD Cert.AdamUpRefIdeal.τ).loc Cert.AdamUpRefIdeal.main_arg1)
      ∧ r.2.mem ((c.tc : Thread Cert.AdamUpRefIdeal.nD Cert.AdamUpRefIdeal.τ).loc Cert.AdamUpRefIdeal.main_arg2) = m ((c.tc : Thread Cert.AdamUpRefIdeal.nD Cert.AdamUpRefIdeal.τ).loc Cert.AdamUpRefIdeal.main_arg2)
      ∧ r.2.mem ((c.tc : Thread Cert.AdamUpRefIdeal.nD Cert.AdamUpRefIdeal.τ).loc Cert.AdamUpRefIdeal.main_arg3) = m ((c.tc : Thread Cert.AdamUpRefIdeal.nD Cert.AdamUpRefIdeal.τ).loc Cert.AdamUpRefIdeal.main_arg3))
      ∧ r.2.sem = fun _ => 0)

def quiescent_AdamRep [hAdamRep : Cert.AdamRep.Facts] : Prop :=
  ∀ (m : (ℓ : Loc Cert.AdamRep.nD Cert.AdamRep.τ Cert.AdamRep.sig) → Buf (Elt Bits) ℓ) (g : Dev Cert.AdamRep.nD → PrngReg), Pre_AdamRep m →
    θ_run (Cert.AdamRep.defs (F := Bits)) (onTc (τ := Cert.AdamRep.τ) (Cert.AdamRep.main (F := Bits))) ⟨m, fun _ => 0, g⟩ (fun r => (∀ c : Dev Cert.AdamRep.nD,
      r.2.mem ((c.tc : Thread Cert.AdamRep.nD Cert.AdamRep.τ).loc Cert.AdamRep.main_arg0) = m ((c.tc : Thread Cert.AdamRep.nD Cert.AdamRep.τ).loc Cert.AdamRep.main_arg0)
      ∧ r.2.mem ((c.tc : Thread Cert.AdamRep.nD Cert.AdamRep.τ).loc Cert.AdamRep.main_arg1) = m ((c.tc : Thread Cert.AdamRep.nD Cert.AdamRep.τ).loc Cert.AdamRep.main_arg1)
      ∧ r.2.mem ((c.tc : Thread Cert.AdamRep.nD Cert.AdamRep.τ).loc Cert.AdamRep.main_arg2) = m ((c.tc : Thread Cert.AdamRep.nD Cert.AdamRep.τ).loc Cert.AdamRep.main_arg2)
      ∧ r.2.mem ((c.tc : Thread Cert.AdamRep.nD Cert.AdamRep.τ).loc Cert.AdamRep.main_arg3) = m ((c.tc : Thread Cert.AdamRep.nD Cert.AdamRep.τ).loc Cert.AdamRep.main_arg3))
      ∧ r.2.sem = fun _ => 0)

def quiescent_AdamRepIdeal [hAdamRepIdeal : Cert.AdamRepIdeal.Facts] : Prop :=
  ∀ (m : (ℓ : Loc Cert.AdamRepIdeal.nD Cert.AdamRepIdeal.τ Cert.AdamRepIdeal.sig) → Buf (Elt Ideal) ℓ) (g : Dev Cert.AdamRepIdeal.nD → PrngReg), Pre_AdamRepIdeal m →
    θ_run (Cert.AdamRepIdeal.defs (F := Ideal)) (onTc (τ := Cert.AdamRepIdeal.τ) (Cert.AdamRepIdeal.main (F := Ideal))) ⟨m, fun _ => 0, g⟩ (fun r => (∀ c : Dev Cert.AdamRepIdeal.nD,
      r.2.mem ((c.tc : Thread Cert.AdamRepIdeal.nD Cert.AdamRepIdeal.τ).loc Cert.AdamRepIdeal.main_arg0) = m ((c.tc : Thread Cert.AdamRepIdeal.nD Cert.AdamRepIdeal.τ).loc Cert.AdamRepIdeal.main_arg0)
      ∧ r.2.mem ((c.tc : Thread Cert.AdamRepIdeal.nD Cert.AdamRepIdeal.τ).loc Cert.AdamRepIdeal.main_arg1) = m ((c.tc : Thread Cert.AdamRepIdeal.nD Cert.AdamRepIdeal.τ).loc Cert.AdamRepIdeal.main_arg1)
      ∧ r.2.mem ((c.tc : Thread Cert.AdamRepIdeal.nD Cert.AdamRepIdeal.τ).loc Cert.AdamRepIdeal.main_arg2) = m ((c.tc : Thread Cert.AdamRepIdeal.nD Cert.AdamRepIdeal.τ).loc Cert.AdamRepIdeal.main_arg2)
      ∧ r.2.mem ((c.tc : Thread Cert.AdamRepIdeal.nD Cert.AdamRepIdeal.τ).loc Cert.AdamRepIdeal.main_arg3) = m ((c.tc : Thread Cert.AdamRepIdeal.nD Cert.AdamRepIdeal.τ).loc Cert.AdamRepIdeal.main_arg3))
      ∧ r.2.sem = fun _ => 0)

def quiescent_AdamRepRefIdeal [hAdamRepRefIdeal : Cert.AdamRepRefIdeal.Facts] : Prop :=
  ∀ (m : (ℓ : Loc Cert.AdamRepRefIdeal.nD Cert.AdamRepRefIdeal.τ Cert.AdamRepRefIdeal.sig) → Buf (Elt Ideal) ℓ) (g : Dev Cert.AdamRepRefIdeal.nD → PrngReg), Pre_AdamRepRefIdeal m →
    θ_run (Cert.AdamRepRefIdeal.defs (F := Ideal)) (onTc (τ := Cert.AdamRepRefIdeal.τ) (Cert.AdamRepRefIdeal.main (F := Ideal))) ⟨m, fun _ => 0, g⟩ (fun r => (∀ c : Dev Cert.AdamRepRefIdeal.nD,
      r.2.mem ((c.tc : Thread Cert.AdamRepRefIdeal.nD Cert.AdamRepRefIdeal.τ).loc Cert.AdamRepRefIdeal.main_arg0) = m ((c.tc : Thread Cert.AdamRepRefIdeal.nD Cert.AdamRepRefIdeal.τ).loc Cert.AdamRepRefIdeal.main_arg0)
      ∧ r.2.mem ((c.tc : Thread Cert.AdamRepRefIdeal.nD Cert.AdamRepRefIdeal.τ).loc Cert.AdamRepRefIdeal.main_arg1) = m ((c.tc : Thread Cert.AdamRepRefIdeal.nD Cert.AdamRepRefIdeal.τ).loc Cert.AdamRepRefIdeal.main_arg1)
      ∧ r.2.mem ((c.tc : Thread Cert.AdamRepRefIdeal.nD Cert.AdamRepRefIdeal.τ).loc Cert.AdamRepRefIdeal.main_arg2) = m ((c.tc : Thread Cert.AdamRepRefIdeal.nD Cert.AdamRepRefIdeal.τ).loc Cert.AdamRepRefIdeal.main_arg2)
      ∧ r.2.mem ((c.tc : Thread Cert.AdamRepRefIdeal.nD Cert.AdamRepRefIdeal.τ).loc Cert.AdamRepRefIdeal.main_arg3) = m ((c.tc : Thread Cert.AdamRepRefIdeal.nD Cert.AdamRepRefIdeal.τ).loc Cert.AdamRepRefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_AdamMlpUp [hAdamMlpUp : Cert.AdamMlpUp.Facts] : Prop :=
  ∀ (m : (ℓ : Loc Cert.AdamMlpUp.nD Cert.AdamMlpUp.τ Cert.AdamMlpUp.sig) → Buf (Elt Bits) ℓ) (g : Dev Cert.AdamMlpUp.nD → PrngReg), Pre_AdamMlpUp m →
    θ_run (Cert.AdamMlpUp.defs (F := Bits)) (onTc (τ := Cert.AdamMlpUp.τ) (Cert.AdamMlpUp.main (F := Bits))) ⟨m, fun _ => 0, g⟩ (fun r => (∀ c : Dev Cert.AdamMlpUp.nD,
      r.2.mem ((c.tc : Thread Cert.AdamMlpUp.nD Cert.AdamMlpUp.τ).loc Cert.AdamMlpUp.main_arg0) = m ((c.tc : Thread Cert.AdamMlpUp.nD Cert.AdamMlpUp.τ).loc Cert.AdamMlpUp.main_arg0)
      ∧ r.2.mem ((c.tc : Thread Cert.AdamMlpUp.nD Cert.AdamMlpUp.τ).loc Cert.AdamMlpUp.main_arg1) = m ((c.tc : Thread Cert.AdamMlpUp.nD Cert.AdamMlpUp.τ).loc Cert.AdamMlpUp.main_arg1)
      ∧ r.2.mem ((c.tc : Thread Cert.AdamMlpUp.nD Cert.AdamMlpUp.τ).loc Cert.AdamMlpUp.main_arg2) = m ((c.tc : Thread Cert.AdamMlpUp.nD Cert.AdamMlpUp.τ).loc Cert.AdamMlpUp.main_arg2)
      ∧ r.2.mem ((c.tc : Thread Cert.AdamMlpUp.nD Cert.AdamMlpUp.τ).loc Cert.AdamMlpUp.main_arg3) = m ((c.tc : Thread Cert.AdamMlpUp.nD Cert.AdamMlpUp.τ).loc Cert.AdamMlpUp.main_arg3))
      ∧ r.2.sem = fun _ => 0)

def quiescent_AdamMlpUpIdeal [hAdamMlpUpIdeal : Cert.AdamMlpUpIdeal.Facts] : Prop :=
  ∀ (m : (ℓ : Loc Cert.AdamMlpUpIdeal.nD Cert.AdamMlpUpIdeal.τ Cert.AdamMlpUpIdeal.sig) → Buf (Elt Ideal) ℓ) (g : Dev Cert.AdamMlpUpIdeal.nD → PrngReg), Pre_AdamMlpUpIdeal m →
    θ_run (Cert.AdamMlpUpIdeal.defs (F := Ideal)) (onTc (τ := Cert.AdamMlpUpIdeal.τ) (Cert.AdamMlpUpIdeal.main (F := Ideal))) ⟨m, fun _ => 0, g⟩ (fun r => (∀ c : Dev Cert.AdamMlpUpIdeal.nD,
      r.2.mem ((c.tc : Thread Cert.AdamMlpUpIdeal.nD Cert.AdamMlpUpIdeal.τ).loc Cert.AdamMlpUpIdeal.main_arg0) = m ((c.tc : Thread Cert.AdamMlpUpIdeal.nD Cert.AdamMlpUpIdeal.τ).loc Cert.AdamMlpUpIdeal.main_arg0)
      ∧ r.2.mem ((c.tc : Thread Cert.AdamMlpUpIdeal.nD Cert.AdamMlpUpIdeal.τ).loc Cert.AdamMlpUpIdeal.main_arg1) = m ((c.tc : Thread Cert.AdamMlpUpIdeal.nD Cert.AdamMlpUpIdeal.τ).loc Cert.AdamMlpUpIdeal.main_arg1)
      ∧ r.2.mem ((c.tc : Thread Cert.AdamMlpUpIdeal.nD Cert.AdamMlpUpIdeal.τ).loc Cert.AdamMlpUpIdeal.main_arg2) = m ((c.tc : Thread Cert.AdamMlpUpIdeal.nD Cert.AdamMlpUpIdeal.τ).loc Cert.AdamMlpUpIdeal.main_arg2)
      ∧ r.2.mem ((c.tc : Thread Cert.AdamMlpUpIdeal.nD Cert.AdamMlpUpIdeal.τ).loc Cert.AdamMlpUpIdeal.main_arg3) = m ((c.tc : Thread Cert.AdamMlpUpIdeal.nD Cert.AdamMlpUpIdeal.τ).loc Cert.AdamMlpUpIdeal.main_arg3))
      ∧ r.2.sem = fun _ => 0)

def quiescent_AdamMlpUpRefIdeal [hAdamMlpUpRefIdeal : Cert.AdamMlpUpRefIdeal.Facts] : Prop :=
  ∀ (m : (ℓ : Loc Cert.AdamMlpUpRefIdeal.nD Cert.AdamMlpUpRefIdeal.τ Cert.AdamMlpUpRefIdeal.sig) → Buf (Elt Ideal) ℓ) (g : Dev Cert.AdamMlpUpRefIdeal.nD → PrngReg), Pre_AdamMlpUpRefIdeal m →
    θ_run (Cert.AdamMlpUpRefIdeal.defs (F := Ideal)) (onTc (τ := Cert.AdamMlpUpRefIdeal.τ) (Cert.AdamMlpUpRefIdeal.main (F := Ideal))) ⟨m, fun _ => 0, g⟩ (fun r => (∀ c : Dev Cert.AdamMlpUpRefIdeal.nD,
      r.2.mem ((c.tc : Thread Cert.AdamMlpUpRefIdeal.nD Cert.AdamMlpUpRefIdeal.τ).loc Cert.AdamMlpUpRefIdeal.main_arg0) = m ((c.tc : Thread Cert.AdamMlpUpRefIdeal.nD Cert.AdamMlpUpRefIdeal.τ).loc Cert.AdamMlpUpRefIdeal.main_arg0)
      ∧ r.2.mem ((c.tc : Thread Cert.AdamMlpUpRefIdeal.nD Cert.AdamMlpUpRefIdeal.τ).loc Cert.AdamMlpUpRefIdeal.main_arg1) = m ((c.tc : Thread Cert.AdamMlpUpRefIdeal.nD Cert.AdamMlpUpRefIdeal.τ).loc Cert.AdamMlpUpRefIdeal.main_arg1)
      ∧ r.2.mem ((c.tc : Thread Cert.AdamMlpUpRefIdeal.nD Cert.AdamMlpUpRefIdeal.τ).loc Cert.AdamMlpUpRefIdeal.main_arg2) = m ((c.tc : Thread Cert.AdamMlpUpRefIdeal.nD Cert.AdamMlpUpRefIdeal.τ).loc Cert.AdamMlpUpRefIdeal.main_arg2)
      ∧ r.2.mem ((c.tc : Thread Cert.AdamMlpUpRefIdeal.nD Cert.AdamMlpUpRefIdeal.τ).loc Cert.AdamMlpUpRefIdeal.main_arg3) = m ((c.tc : Thread Cert.AdamMlpUpRefIdeal.nD Cert.AdamMlpUpRefIdeal.τ).loc Cert.AdamMlpUpRefIdeal.main_arg3))
      ∧ r.2.sem = fun _ => 0)

def quiescent_AdamMlpDown [hAdamMlpDown : Cert.AdamMlpDown.Facts] : Prop :=
  ∀ (m : (ℓ : Loc Cert.AdamMlpDown.nD Cert.AdamMlpDown.τ Cert.AdamMlpDown.sig) → Buf (Elt Bits) ℓ) (g : Dev Cert.AdamMlpDown.nD → PrngReg), Pre_AdamMlpDown m →
    θ_run (Cert.AdamMlpDown.defs (F := Bits)) (onTc (τ := Cert.AdamMlpDown.τ) (Cert.AdamMlpDown.main (F := Bits))) ⟨m, fun _ => 0, g⟩ (fun r => (∀ c : Dev Cert.AdamMlpDown.nD,
      r.2.mem ((c.tc : Thread Cert.AdamMlpDown.nD Cert.AdamMlpDown.τ).loc Cert.AdamMlpDown.main_arg0) = m ((c.tc : Thread Cert.AdamMlpDown.nD Cert.AdamMlpDown.τ).loc Cert.AdamMlpDown.main_arg0)
      ∧ r.2.mem ((c.tc : Thread Cert.AdamMlpDown.nD Cert.AdamMlpDown.τ).loc Cert.AdamMlpDown.main_arg1) = m ((c.tc : Thread Cert.AdamMlpDown.nD Cert.AdamMlpDown.τ).loc Cert.AdamMlpDown.main_arg1)
      ∧ r.2.mem ((c.tc : Thread Cert.AdamMlpDown.nD Cert.AdamMlpDown.τ).loc Cert.AdamMlpDown.main_arg2) = m ((c.tc : Thread Cert.AdamMlpDown.nD Cert.AdamMlpDown.τ).loc Cert.AdamMlpDown.main_arg2)
      ∧ r.2.mem ((c.tc : Thread Cert.AdamMlpDown.nD Cert.AdamMlpDown.τ).loc Cert.AdamMlpDown.main_arg3) = m ((c.tc : Thread Cert.AdamMlpDown.nD Cert.AdamMlpDown.τ).loc Cert.AdamMlpDown.main_arg3))
      ∧ r.2.sem = fun _ => 0)

def quiescent_AdamMlpDownIdeal [hAdamMlpDownIdeal : Cert.AdamMlpDownIdeal.Facts] : Prop :=
  ∀ (m : (ℓ : Loc Cert.AdamMlpDownIdeal.nD Cert.AdamMlpDownIdeal.τ Cert.AdamMlpDownIdeal.sig) → Buf (Elt Ideal) ℓ) (g : Dev Cert.AdamMlpDownIdeal.nD → PrngReg), Pre_AdamMlpDownIdeal m →
    θ_run (Cert.AdamMlpDownIdeal.defs (F := Ideal)) (onTc (τ := Cert.AdamMlpDownIdeal.τ) (Cert.AdamMlpDownIdeal.main (F := Ideal))) ⟨m, fun _ => 0, g⟩ (fun r => (∀ c : Dev Cert.AdamMlpDownIdeal.nD,
      r.2.mem ((c.tc : Thread Cert.AdamMlpDownIdeal.nD Cert.AdamMlpDownIdeal.τ).loc Cert.AdamMlpDownIdeal.main_arg0) = m ((c.tc : Thread Cert.AdamMlpDownIdeal.nD Cert.AdamMlpDownIdeal.τ).loc Cert.AdamMlpDownIdeal.main_arg0)
      ∧ r.2.mem ((c.tc : Thread Cert.AdamMlpDownIdeal.nD Cert.AdamMlpDownIdeal.τ).loc Cert.AdamMlpDownIdeal.main_arg1) = m ((c.tc : Thread Cert.AdamMlpDownIdeal.nD Cert.AdamMlpDownIdeal.τ).loc Cert.AdamMlpDownIdeal.main_arg1)
      ∧ r.2.mem ((c.tc : Thread Cert.AdamMlpDownIdeal.nD Cert.AdamMlpDownIdeal.τ).loc Cert.AdamMlpDownIdeal.main_arg2) = m ((c.tc : Thread Cert.AdamMlpDownIdeal.nD Cert.AdamMlpDownIdeal.τ).loc Cert.AdamMlpDownIdeal.main_arg2)
      ∧ r.2.mem ((c.tc : Thread Cert.AdamMlpDownIdeal.nD Cert.AdamMlpDownIdeal.τ).loc Cert.AdamMlpDownIdeal.main_arg3) = m ((c.tc : Thread Cert.AdamMlpDownIdeal.nD Cert.AdamMlpDownIdeal.τ).loc Cert.AdamMlpDownIdeal.main_arg3))
      ∧ r.2.sem = fun _ => 0)

def quiescent_AdamMlpDownRefIdeal [hAdamMlpDownRefIdeal : Cert.AdamMlpDownRefIdeal.Facts] : Prop :=
  ∀ (m : (ℓ : Loc Cert.AdamMlpDownRefIdeal.nD Cert.AdamMlpDownRefIdeal.τ Cert.AdamMlpDownRefIdeal.sig) → Buf (Elt Ideal) ℓ) (g : Dev Cert.AdamMlpDownRefIdeal.nD → PrngReg), Pre_AdamMlpDownRefIdeal m →
    θ_run (Cert.AdamMlpDownRefIdeal.defs (F := Ideal)) (onTc (τ := Cert.AdamMlpDownRefIdeal.τ) (Cert.AdamMlpDownRefIdeal.main (F := Ideal))) ⟨m, fun _ => 0, g⟩ (fun r => (∀ c : Dev Cert.AdamMlpDownRefIdeal.nD,
      r.2.mem ((c.tc : Thread Cert.AdamMlpDownRefIdeal.nD Cert.AdamMlpDownRefIdeal.τ).loc Cert.AdamMlpDownRefIdeal.main_arg0) = m ((c.tc : Thread Cert.AdamMlpDownRefIdeal.nD Cert.AdamMlpDownRefIdeal.τ).loc Cert.AdamMlpDownRefIdeal.main_arg0)
      ∧ r.2.mem ((c.tc : Thread Cert.AdamMlpDownRefIdeal.nD Cert.AdamMlpDownRefIdeal.τ).loc Cert.AdamMlpDownRefIdeal.main_arg1) = m ((c.tc : Thread Cert.AdamMlpDownRefIdeal.nD Cert.AdamMlpDownRefIdeal.τ).loc Cert.AdamMlpDownRefIdeal.main_arg1)
      ∧ r.2.mem ((c.tc : Thread Cert.AdamMlpDownRefIdeal.nD Cert.AdamMlpDownRefIdeal.τ).loc Cert.AdamMlpDownRefIdeal.main_arg2) = m ((c.tc : Thread Cert.AdamMlpDownRefIdeal.nD Cert.AdamMlpDownRefIdeal.τ).loc Cert.AdamMlpDownRefIdeal.main_arg2)
      ∧ r.2.mem ((c.tc : Thread Cert.AdamMlpDownRefIdeal.nD Cert.AdamMlpDownRefIdeal.τ).loc Cert.AdamMlpDownRefIdeal.main_arg3) = m ((c.tc : Thread Cert.AdamMlpDownRefIdeal.nD Cert.AdamMlpDownRefIdeal.τ).loc Cert.AdamMlpDownRefIdeal.main_arg3))
      ∧ r.2.sem = fun _ => 0)

def quiescent_AdamAda [hAdamAda : Cert.AdamAda.Facts] : Prop :=
  ∀ (m : (ℓ : Loc Cert.AdamAda.nD Cert.AdamAda.τ Cert.AdamAda.sig) → Buf (Elt Bits) ℓ) (g : Dev Cert.AdamAda.nD → PrngReg), Pre_AdamAda m →
    θ_run (Cert.AdamAda.defs (F := Bits)) (onTc (τ := Cert.AdamAda.τ) (Cert.AdamAda.main (F := Bits))) ⟨m, fun _ => 0, g⟩ (fun r => (∀ c : Dev Cert.AdamAda.nD,
      r.2.mem ((c.tc : Thread Cert.AdamAda.nD Cert.AdamAda.τ).loc Cert.AdamAda.main_arg0) = m ((c.tc : Thread Cert.AdamAda.nD Cert.AdamAda.τ).loc Cert.AdamAda.main_arg0)
      ∧ r.2.mem ((c.tc : Thread Cert.AdamAda.nD Cert.AdamAda.τ).loc Cert.AdamAda.main_arg1) = m ((c.tc : Thread Cert.AdamAda.nD Cert.AdamAda.τ).loc Cert.AdamAda.main_arg1)
      ∧ r.2.mem ((c.tc : Thread Cert.AdamAda.nD Cert.AdamAda.τ).loc Cert.AdamAda.main_arg2) = m ((c.tc : Thread Cert.AdamAda.nD Cert.AdamAda.τ).loc Cert.AdamAda.main_arg2)
      ∧ r.2.mem ((c.tc : Thread Cert.AdamAda.nD Cert.AdamAda.τ).loc Cert.AdamAda.main_arg3) = m ((c.tc : Thread Cert.AdamAda.nD Cert.AdamAda.τ).loc Cert.AdamAda.main_arg3))
      ∧ r.2.sem = fun _ => 0)

def quiescent_AdamAdaIdeal [hAdamAdaIdeal : Cert.AdamAdaIdeal.Facts] : Prop :=
  ∀ (m : (ℓ : Loc Cert.AdamAdaIdeal.nD Cert.AdamAdaIdeal.τ Cert.AdamAdaIdeal.sig) → Buf (Elt Ideal) ℓ) (g : Dev Cert.AdamAdaIdeal.nD → PrngReg), Pre_AdamAdaIdeal m →
    θ_run (Cert.AdamAdaIdeal.defs (F := Ideal)) (onTc (τ := Cert.AdamAdaIdeal.τ) (Cert.AdamAdaIdeal.main (F := Ideal))) ⟨m, fun _ => 0, g⟩ (fun r => (∀ c : Dev Cert.AdamAdaIdeal.nD,
      r.2.mem ((c.tc : Thread Cert.AdamAdaIdeal.nD Cert.AdamAdaIdeal.τ).loc Cert.AdamAdaIdeal.main_arg0) = m ((c.tc : Thread Cert.AdamAdaIdeal.nD Cert.AdamAdaIdeal.τ).loc Cert.AdamAdaIdeal.main_arg0)
      ∧ r.2.mem ((c.tc : Thread Cert.AdamAdaIdeal.nD Cert.AdamAdaIdeal.τ).loc Cert.AdamAdaIdeal.main_arg1) = m ((c.tc : Thread Cert.AdamAdaIdeal.nD Cert.AdamAdaIdeal.τ).loc Cert.AdamAdaIdeal.main_arg1)
      ∧ r.2.mem ((c.tc : Thread Cert.AdamAdaIdeal.nD Cert.AdamAdaIdeal.τ).loc Cert.AdamAdaIdeal.main_arg2) = m ((c.tc : Thread Cert.AdamAdaIdeal.nD Cert.AdamAdaIdeal.τ).loc Cert.AdamAdaIdeal.main_arg2)
      ∧ r.2.mem ((c.tc : Thread Cert.AdamAdaIdeal.nD Cert.AdamAdaIdeal.τ).loc Cert.AdamAdaIdeal.main_arg3) = m ((c.tc : Thread Cert.AdamAdaIdeal.nD Cert.AdamAdaIdeal.τ).loc Cert.AdamAdaIdeal.main_arg3))
      ∧ r.2.sem = fun _ => 0)

def quiescent_AdamAdaRefIdeal [hAdamAdaRefIdeal : Cert.AdamAdaRefIdeal.Facts] : Prop :=
  ∀ (m : (ℓ : Loc Cert.AdamAdaRefIdeal.nD Cert.AdamAdaRefIdeal.τ Cert.AdamAdaRefIdeal.sig) → Buf (Elt Ideal) ℓ) (g : Dev Cert.AdamAdaRefIdeal.nD → PrngReg), Pre_AdamAdaRefIdeal m →
    θ_run (Cert.AdamAdaRefIdeal.defs (F := Ideal)) (onTc (τ := Cert.AdamAdaRefIdeal.τ) (Cert.AdamAdaRefIdeal.main (F := Ideal))) ⟨m, fun _ => 0, g⟩ (fun r => (∀ c : Dev Cert.AdamAdaRefIdeal.nD,
      r.2.mem ((c.tc : Thread Cert.AdamAdaRefIdeal.nD Cert.AdamAdaRefIdeal.τ).loc Cert.AdamAdaRefIdeal.main_arg0) = m ((c.tc : Thread Cert.AdamAdaRefIdeal.nD Cert.AdamAdaRefIdeal.τ).loc Cert.AdamAdaRefIdeal.main_arg0)
      ∧ r.2.mem ((c.tc : Thread Cert.AdamAdaRefIdeal.nD Cert.AdamAdaRefIdeal.τ).loc Cert.AdamAdaRefIdeal.main_arg1) = m ((c.tc : Thread Cert.AdamAdaRefIdeal.nD Cert.AdamAdaRefIdeal.τ).loc Cert.AdamAdaRefIdeal.main_arg1)
      ∧ r.2.mem ((c.tc : Thread Cert.AdamAdaRefIdeal.nD Cert.AdamAdaRefIdeal.τ).loc Cert.AdamAdaRefIdeal.main_arg2) = m ((c.tc : Thread Cert.AdamAdaRefIdeal.nD Cert.AdamAdaRefIdeal.τ).loc Cert.AdamAdaRefIdeal.main_arg2)
      ∧ r.2.mem ((c.tc : Thread Cert.AdamAdaRefIdeal.nD Cert.AdamAdaRefIdeal.τ).loc Cert.AdamAdaRefIdeal.main_arg3) = m ((c.tc : Thread Cert.AdamAdaRefIdeal.nD Cert.AdamAdaRefIdeal.τ).loc Cert.AdamAdaRefIdeal.main_arg3))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamConv [hAdamConv : Cert.AdamConv.Facts] : Prop :=
  ∀ (m : (ℓ : Loc Cert.AdamConv.nD Cert.AdamConv.τ Cert.AdamConv.sig) → Buf (Elt Bits) ℓ) (g : Dev Cert.AdamConv.nD → PrngReg), Pre_AdamConv m →
    θ_run (Cert.AdamConv.defs (F := Bits)) (onTc (τ := Cert.AdamConv.τ) (Cert.AdamConv.main (F := Bits))) ⟨m, fun _ => 0, g⟩ (fun r => (∀ c : Dev Cert.AdamConv.nD,
      r.2.mem ((c.tc : Thread Cert.AdamConv.nD Cert.AdamConv.τ).loc Cert.AdamConv.main_arg0) = m ((c.tc : Thread Cert.AdamConv.nD Cert.AdamConv.τ).loc Cert.AdamConv.main_arg0)
      ∧ r.2.mem ((c.tc : Thread Cert.AdamConv.nD Cert.AdamConv.τ).loc Cert.AdamConv.main_arg1) = m ((c.tc : Thread Cert.AdamConv.nD Cert.AdamConv.τ).loc Cert.AdamConv.main_arg1)
      ∧ r.2.mem ((c.tc : Thread Cert.AdamConv.nD Cert.AdamConv.τ).loc Cert.AdamConv.main_arg2) = m ((c.tc : Thread Cert.AdamConv.nD Cert.AdamConv.τ).loc Cert.AdamConv.main_arg2)
      ∧ r.2.mem ((c.tc : Thread Cert.AdamConv.nD Cert.AdamConv.τ).loc Cert.AdamConv.main_arg3) = m ((c.tc : Thread Cert.AdamConv.nD Cert.AdamConv.τ).loc Cert.AdamConv.main_arg3))
      ∧ r.2.sem = fun _ => 0)

def quiescent_AdamConvIdeal [hAdamConvIdeal : Cert.AdamConvIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg), Pre_AdamConvIdeal m →
    θ_run (Cert.AdamConvIdeal.defs (F := Ideal)) (onTc (τ := Cert.AdamConvIdeal.τ) (Cert.AdamConvIdeal.main (F := Ideal))) ⟨m, fun _ => 0, g⟩ (fun r => (∀ c : Dev Cert.AdamConvIdeal.nD,
      r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
      ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
      ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
      ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3))
      ∧ r.2.sem = fun _ => 0)

def quiescent_AdamConvRefIdeal [hAdamConvRefIdeal : Cert.AdamConvRefIdeal.Facts] : Prop :=
  ∀ (m : (ℓ : Loc Cert.AdamConvRefIdeal.nD Cert.AdamConvRefIdeal.τ Cert.AdamConvRefIdeal.sig) → Buf (Elt Ideal) ℓ) (g : Dev Cert.AdamConvRefIdeal.nD → PrngReg), Pre_AdamConvRefIdeal m →
    θ_run (Cert.AdamConvRefIdeal.defs (F := Ideal)) (onTc (τ := Cert.AdamConvRefIdeal.τ) (Cert.AdamConvRefIdeal.main (F := Ideal))) ⟨m, fun _ => 0, g⟩ (fun r => (∀ c : Dev Cert.AdamConvRefIdeal.nD,
      r.2.mem ((c.tc : Thread Cert.AdamConvRefIdeal.nD Cert.AdamConvRefIdeal.τ).loc Cert.AdamConvRefIdeal.main_arg0) = m ((c.tc : Thread Cert.AdamConvRefIdeal.nD Cert.AdamConvRefIdeal.τ).loc Cert.AdamConvRefIdeal.main_arg0)
      ∧ r.2.mem ((c.tc : Thread Cert.AdamConvRefIdeal.nD Cert.AdamConvRefIdeal.τ).loc Cert.AdamConvRefIdeal.main_arg1) = m ((c.tc : Thread Cert.AdamConvRefIdeal.nD Cert.AdamConvRefIdeal.τ).loc Cert.AdamConvRefIdeal.main_arg1)
      ∧ r.2.mem ((c.tc : Thread Cert.AdamConvRefIdeal.nD Cert.AdamConvRefIdeal.τ).loc Cert.AdamConvRefIdeal.main_arg2) = m ((c.tc : Thread Cert.AdamConvRefIdeal.nD Cert.AdamConvRefIdeal.τ).loc Cert.AdamConvRefIdeal.main_arg2)
      ∧ r.2.mem ((c.tc : Thread Cert.AdamConvRefIdeal.nD Cert.AdamConvRefIdeal.τ).loc Cert.AdamConvRefIdeal.main_arg3) = m ((c.tc : Thread Cert.AdamConvRefIdeal.nD Cert.AdamConvRefIdeal.τ).loc Cert.AdamConvRefIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)) (v2 : (c : Dev Cert.KernelIdeal.nD) → Buf (Elt Ideal) ((c.tc : Thread Cert.KernelIdeal.nD Cert.KernelIdeal.τ).loc Cert.KernelIdeal.main_v10_2)) (v3 : (c : Dev Cert.KernelIdeal.nD) → Buf (Elt Ideal) ((c.tc : Thread Cert.KernelIdeal.nD Cert.KernelIdeal.τ).loc Cert.KernelIdeal.main_v10_3)) (v4 : (c : Dev Cert.KernelIdeal.nD) → Buf (Elt Ideal) ((c.tc : Thread Cert.KernelIdeal.nD Cert.KernelIdeal.τ).loc Cert.KernelIdeal.main_v10_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_v10_2) = v2 c
          ∧ r.2.mem ((c.tc : Thread Cert.KernelIdeal.nD Cert.KernelIdeal.τ).loc Cert.KernelIdeal.main_v10_3) = v3 c
          ∧ r.2.mem ((c.tc : Thread Cert.KernelIdeal.nD Cert.KernelIdeal.τ).loc Cert.KernelIdeal.main_v10_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_v41) = v1 c
          ∧ r.2.mem ((c.tc : Thread Cert.ReferenceIdeal.nD Cert.ReferenceIdeal.τ).loc Cert.ReferenceIdeal.main_v43) = v2 c
          ∧ r.2.mem ((c.tc : Thread Cert.ReferenceIdeal.nD Cert.ReferenceIdeal.τ).loc Cert.ReferenceIdeal.main_v47) = v3 c
          ∧ r.2.mem ((c.tc : Thread Cert.ReferenceIdeal.nD Cert.ReferenceIdeal.τ).loc Cert.ReferenceIdeal.main_v48) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def preserves_ProjDw_ProjDwIdeal : Prop :=
  True

def algebraic_ProjDwIdeal_ProjDwRefIdeal [hProjDwIdeal : Cert.ProjDwIdeal.Facts] [hProjDwRefIdeal : Cert.ProjDwRefIdeal.Facts] : Prop :=
  ∀ (m : (ℓ : Loc Cert.ProjDwIdeal.nD Cert.ProjDwIdeal.τ Cert.ProjDwIdeal.sig) → Buf (Elt Ideal) ℓ) (g : Dev Cert.ProjDwIdeal.nD → PrngReg)
    (m' : (ℓ : Loc Cert.ProjDwRefIdeal.nD Cert.ProjDwRefIdeal.τ Cert.ProjDwRefIdeal.sig) → Buf (Elt Ideal) ℓ) (g' : Dev Cert.ProjDwRefIdeal.nD → PrngReg), Pre_ProjDwIdeal m →
    (∀ c : Dev Cert.ProjDwIdeal.nD,
      m' ((c.tc : Thread Cert.ProjDwRefIdeal.nD Cert.ProjDwRefIdeal.τ).loc Cert.ProjDwRefIdeal.main_arg0) = m ((c.tc : Thread Cert.ProjDwIdeal.nD Cert.ProjDwIdeal.τ).loc Cert.ProjDwIdeal.main_arg0)
      ∧ m' ((c.tc : Thread Cert.ProjDwRefIdeal.nD Cert.ProjDwRefIdeal.τ).loc Cert.ProjDwRefIdeal.main_arg1) = m ((c.tc : Thread Cert.ProjDwIdeal.nD Cert.ProjDwIdeal.τ).loc Cert.ProjDwIdeal.main_arg1)) →
    ∃ (v0 : (c : Dev Cert.ProjDwIdeal.nD) → Buf (Elt Ideal) ((c.tc : Thread Cert.ProjDwIdeal.nD Cert.ProjDwIdeal.τ).loc Cert.ProjDwIdeal.main_v0)),
      θ_run (Cert.ProjDwIdeal.defs (F := Ideal)) (onTc (τ := Cert.ProjDwIdeal.τ) (Cert.ProjDwIdeal.main (F := Ideal))) ⟨m, fun _ => 0, g⟩ (fun r => ∀ c : Dev Cert.ProjDwIdeal.nD,
          r.2.mem ((c.tc : Thread Cert.ProjDwIdeal.nD Cert.ProjDwIdeal.τ).loc Cert.ProjDwIdeal.main_v0) = v0 c
          ∧ r.2.mem ((c.tc : Thread Cert.ProjDwIdeal.nD Cert.ProjDwIdeal.τ).loc Cert.ProjDwIdeal.main_arg0) = m ((c.tc : Thread Cert.ProjDwIdeal.nD Cert.ProjDwIdeal.τ).loc Cert.ProjDwIdeal.main_arg0)
          ∧ r.2.mem ((c.tc : Thread Cert.ProjDwIdeal.nD Cert.ProjDwIdeal.τ).loc Cert.ProjDwIdeal.main_arg1) = m ((c.tc : Thread Cert.ProjDwIdeal.nD Cert.ProjDwIdeal.τ).loc Cert.ProjDwIdeal.main_arg1))
      ∧ θ_run (Cert.ProjDwRefIdeal.defs (F := Ideal)) (onTc (τ := Cert.ProjDwRefIdeal.τ) (Cert.ProjDwRefIdeal.main (F := Ideal))) ⟨m', fun _ => 0, g'⟩ (fun r => ∀ c : Dev Cert.ProjDwRefIdeal.nD,
          r.2.mem ((c.tc : Thread Cert.ProjDwRefIdeal.nD Cert.ProjDwRefIdeal.τ).loc Cert.ProjDwRefIdeal.main_v6) = v0 c
          ∧ r.2.mem ((c.tc : Thread Cert.ProjDwRefIdeal.nD Cert.ProjDwRefIdeal.τ).loc Cert.ProjDwRefIdeal.main_arg0) = m' ((c.tc : Thread Cert.ProjDwRefIdeal.nD Cert.ProjDwRefIdeal.τ).loc Cert.ProjDwRefIdeal.main_arg0)
          ∧ r.2.mem ((c.tc : Thread Cert.ProjDwRefIdeal.nD Cert.ProjDwRefIdeal.τ).loc Cert.ProjDwRefIdeal.main_arg1) = m' ((c.tc : Thread Cert.ProjDwRefIdeal.nD Cert.ProjDwRefIdeal.τ).loc Cert.ProjDwRefIdeal.main_arg1))

def preserves_ProjDx_ProjDxIdeal : Prop :=
  True

def algebraic_ProjDxIdeal_ProjDxRefIdeal [hProjDxIdeal : Cert.ProjDxIdeal.Facts] [hProjDxRefIdeal : Cert.ProjDxRefIdeal.Facts] : Prop :=
  ∀ (m : (ℓ : Loc Cert.ProjDxIdeal.nD Cert.ProjDxIdeal.τ Cert.ProjDxIdeal.sig) → Buf (Elt Ideal) ℓ) (g : Dev Cert.ProjDxIdeal.nD → PrngReg)
    (m' : (ℓ : Loc Cert.ProjDxRefIdeal.nD Cert.ProjDxRefIdeal.τ Cert.ProjDxRefIdeal.sig) → Buf (Elt Ideal) ℓ) (g' : Dev Cert.ProjDxRefIdeal.nD → PrngReg), Pre_ProjDxIdeal m →
    (∀ c : Dev Cert.ProjDxIdeal.nD,
      m' ((c.tc : Thread Cert.ProjDxRefIdeal.nD Cert.ProjDxRefIdeal.τ).loc Cert.ProjDxRefIdeal.main_arg0) = m ((c.tc : Thread Cert.ProjDxIdeal.nD Cert.ProjDxIdeal.τ).loc Cert.ProjDxIdeal.main_arg0)
      ∧ m' ((c.tc : Thread Cert.ProjDxRefIdeal.nD Cert.ProjDxRefIdeal.τ).loc Cert.ProjDxRefIdeal.main_arg1) = m ((c.tc : Thread Cert.ProjDxIdeal.nD Cert.ProjDxIdeal.τ).loc Cert.ProjDxIdeal.main_arg1)
      ∧ m' ((c.tc : Thread Cert.ProjDxRefIdeal.nD Cert.ProjDxRefIdeal.τ).loc Cert.ProjDxRefIdeal.main_arg2) = m ((c.tc : Thread Cert.ProjDxIdeal.nD Cert.ProjDxIdeal.τ).loc Cert.ProjDxIdeal.main_arg2)) →
    ∃ (v0 : (c : Dev Cert.ProjDxIdeal.nD) → Buf (Elt Ideal) ((c.tc : Thread Cert.ProjDxIdeal.nD Cert.ProjDxIdeal.τ).loc Cert.ProjDxIdeal.main_v0)),
      θ_run (Cert.ProjDxIdeal.defs (F := Ideal)) (onTc (τ := Cert.ProjDxIdeal.τ) (Cert.ProjDxIdeal.main (F := Ideal))) ⟨m, fun _ => 0, g⟩ (fun r => ∀ c : Dev Cert.ProjDxIdeal.nD,
          r.2.mem ((c.tc : Thread Cert.ProjDxIdeal.nD Cert.ProjDxIdeal.τ).loc Cert.ProjDxIdeal.main_v0) = v0 c
          ∧ r.2.mem ((c.tc : Thread Cert.ProjDxIdeal.nD Cert.ProjDxIdeal.τ).loc Cert.ProjDxIdeal.main_arg0) = m ((c.tc : Thread Cert.ProjDxIdeal.nD Cert.ProjDxIdeal.τ).loc Cert.ProjDxIdeal.main_arg0)
          ∧ r.2.mem ((c.tc : Thread Cert.ProjDxIdeal.nD Cert.ProjDxIdeal.τ).loc Cert.ProjDxIdeal.main_arg1) = m ((c.tc : Thread Cert.ProjDxIdeal.nD Cert.ProjDxIdeal.τ).loc Cert.ProjDxIdeal.main_arg1)
          ∧ r.2.mem ((c.tc : Thread Cert.ProjDxIdeal.nD Cert.ProjDxIdeal.τ).loc Cert.ProjDxIdeal.main_arg2) = m ((c.tc : Thread Cert.ProjDxIdeal.nD Cert.ProjDxIdeal.τ).loc Cert.ProjDxIdeal.main_arg2))
      ∧ θ_run (Cert.ProjDxRefIdeal.defs (F := Ideal)) (onTc (τ := Cert.ProjDxRefIdeal.τ) (Cert.ProjDxRefIdeal.main (F := Ideal))) ⟨m', fun _ => 0, g'⟩ (fun r => ∀ c : Dev Cert.ProjDxRefIdeal.nD,
          r.2.mem ((c.tc : Thread Cert.ProjDxRefIdeal.nD Cert.ProjDxRefIdeal.τ).loc Cert.ProjDxRefIdeal.main_v5) = v0 c
          ∧ r.2.mem ((c.tc : Thread Cert.ProjDxRefIdeal.nD Cert.ProjDxRefIdeal.τ).loc Cert.ProjDxRefIdeal.main_arg0) = m' ((c.tc : Thread Cert.ProjDxRefIdeal.nD Cert.ProjDxRefIdeal.τ).loc Cert.ProjDxRefIdeal.main_arg0)
          ∧ r.2.mem ((c.tc : Thread Cert.ProjDxRefIdeal.nD Cert.ProjDxRefIdeal.τ).loc Cert.ProjDxRefIdeal.main_arg1) = m' ((c.tc : Thread Cert.ProjDxRefIdeal.nD Cert.ProjDxRefIdeal.τ).loc Cert.ProjDxRefIdeal.main_arg1)
          ∧ r.2.mem ((c.tc : Thread Cert.ProjDxRefIdeal.nD Cert.ProjDxRefIdeal.τ).loc Cert.ProjDxRefIdeal.main_arg2) = m' ((c.tc : Thread Cert.ProjDxRefIdeal.nD Cert.ProjDxRefIdeal.τ).loc Cert.ProjDxRefIdeal.main_arg2))

def preserves_DownDx_DownDxIdeal : Prop :=
  True

def algebraic_DownDxIdeal_DownDxRefIdeal_pre_nonneg [hDownDxIdeal : Cert.DownDxIdeal.Facts] [hDownDxRefIdeal : Cert.DownDxRefIdeal.Facts] [hPre_nonneg : Cert.Pre_nonneg.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxRefIdeal.nD Cert.DownDxRefIdeal.τ Cert.DownDxRefIdeal.sig) → Buf (Elt Ideal) ℓ) (g' : Dev Cert.DownDxRefIdeal.nD → PrngReg), Pre_DownDxIdeal_nonneg m →
    (∀ c : Dev Cert.DownDxIdeal.nD,
      m' ((c.tc : Thread Cert.DownDxRefIdeal.nD Cert.DownDxRefIdeal.τ).loc Cert.DownDxRefIdeal.main_arg0) = m ((c.tc : Thread Cert.DownDxIdeal.nD Cert.DownDxIdeal.τ).loc Cert.DownDxIdeal.main_arg0)
      ∧ m' ((c.tc : Thread Cert.DownDxRefIdeal.nD Cert.DownDxRefIdeal.τ).loc Cert.DownDxRefIdeal.main_arg1) = m ((c.tc : Thread Cert.DownDxIdeal.nD Cert.DownDxIdeal.τ).loc Cert.DownDxIdeal.main_arg1)
      ∧ m' ((c.tc : Thread Cert.DownDxRefIdeal.nD Cert.DownDxRefIdeal.τ).loc Cert.DownDxRefIdeal.main_arg2) = m ((c.tc : Thread Cert.DownDxIdeal.nD Cert.DownDxIdeal.τ).loc Cert.DownDxIdeal.main_arg2)) →
    ∃ (v0 : (c : Dev Cert.DownDxIdeal.nD) → Buf (Elt Ideal) ((c.tc : Thread Cert.DownDxIdeal.nD Cert.DownDxIdeal.τ).loc Cert.DownDxIdeal.main_v0)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v0) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1)
          ∧ r.2.mem ((c.tc : Thread Cert.DownDxIdeal.nD Cert.DownDxIdeal.τ).loc Cert.DownDxIdeal.main_arg2) = m ((c.tc : Thread Cert.DownDxIdeal.nD Cert.DownDxIdeal.τ).loc Cert.DownDxIdeal.main_arg2))
      ∧ θ_run (Cert.DownDxRefIdeal.defs (F := Ideal)) (onTc (τ := Cert.DownDxRefIdeal.τ) (Cert.DownDxRefIdeal.main (F := Ideal))) ⟨m', fun _ => 0, g'⟩ (fun r => ∀ c : Dev Cert.DownDxRefIdeal.nD,
          r.2.mem ((c.tc : Thread Cert.DownDxRefIdeal.nD Cert.DownDxRefIdeal.τ).loc Cert.DownDxRefIdeal.main_v15) = v0 c
          ∧ r.2.mem ((c.tc : Thread Cert.DownDxRefIdeal.nD Cert.DownDxRefIdeal.τ).loc Cert.DownDxRefIdeal.main_arg0) = m' ((c.tc : Thread Cert.DownDxRefIdeal.nD Cert.DownDxRefIdeal.τ).loc Cert.DownDxRefIdeal.main_arg0)
          ∧ r.2.mem ((c.tc : Thread Cert.DownDxRefIdeal.nD Cert.DownDxRefIdeal.τ).loc Cert.DownDxRefIdeal.main_arg1) = m' ((c.tc : Thread Cert.DownDxRefIdeal.nD Cert.DownDxRefIdeal.τ).loc Cert.DownDxRefIdeal.main_arg1)
          ∧ r.2.mem ((c.tc : Thread Cert.DownDxRefIdeal.nD Cert.DownDxRefIdeal.τ).loc Cert.DownDxRefIdeal.main_arg2) = m' ((c.tc : Thread Cert.DownDxRefIdeal.nD Cert.DownDxRefIdeal.τ).loc Cert.DownDxRefIdeal.main_arg2))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v0)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v0) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v6) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1))

def preserves_UpDx_UpDxIdeal : Prop :=
  True

def algebraic_UpDxIdeal_UpDxRefIdeal [hUpDxIdeal : Cert.UpDxIdeal.Facts] [hUpDxRefIdeal : Cert.UpDxRefIdeal.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.UpDxRefIdeal.nD Cert.UpDxRefIdeal.τ Cert.UpDxRefIdeal.sig) → Buf (Elt Ideal) ℓ) (g' : Dev Cert.UpDxRefIdeal.nD → PrngReg), Pre_UpDxIdeal m →
    (∀ c : Dev Cert.UpDxIdeal.nD,
      m' ((c.tc : Thread Cert.UpDxRefIdeal.nD Cert.UpDxRefIdeal.τ).loc Cert.UpDxRefIdeal.main_arg0) = m ((c.tc : Thread Cert.UpDxIdeal.nD Cert.UpDxIdeal.τ).loc Cert.UpDxIdeal.main_arg0)
      ∧ m' ((c.tc : Thread Cert.UpDxRefIdeal.nD Cert.UpDxRefIdeal.τ).loc Cert.UpDxRefIdeal.main_arg1) = m ((c.tc : Thread Cert.UpDxIdeal.nD Cert.UpDxIdeal.τ).loc Cert.UpDxIdeal.main_arg1)) →
    ∃ (v0 : (c : Dev Cert.UpDxIdeal.nD) → Buf (Elt Ideal) ((c.tc : Thread Cert.UpDxIdeal.nD Cert.UpDxIdeal.τ).loc Cert.UpDxIdeal.main_v0)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v0) = v0 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ θ_run (Cert.UpDxRefIdeal.defs (F := Ideal)) (onTc (τ := Cert.UpDxRefIdeal.τ) (Cert.UpDxRefIdeal.main (F := Ideal))) ⟨m', fun _ => 0, g'⟩ (fun r => ∀ c : Dev Cert.UpDxRefIdeal.nD,
          r.2.mem ((c.tc : Thread Cert.UpDxRefIdeal.nD Cert.UpDxRefIdeal.τ).loc Cert.UpDxRefIdeal.main_v4) = v0 c
          ∧ r.2.mem ((c.tc : Thread Cert.UpDxRefIdeal.nD Cert.UpDxRefIdeal.τ).loc Cert.UpDxRefIdeal.main_arg0) = m' ((c.tc : Thread Cert.UpDxRefIdeal.nD Cert.UpDxRefIdeal.τ).loc Cert.UpDxRefIdeal.main_arg0)
          ∧ r.2.mem ((c.tc : Thread Cert.UpDxRefIdeal.nD Cert.UpDxRefIdeal.τ).loc Cert.UpDxRefIdeal.main_arg1) = m' ((c.tc : Thread Cert.UpDxRefIdeal.nD Cert.UpDxRefIdeal.τ).loc Cert.UpDxRefIdeal.main_arg1))

def preserves_UpDw_UpDwIdeal : Prop :=
  True

def algebraic_UpDwIdeal_UpDwRefIdeal [hUpDwIdeal : Cert.UpDwIdeal.Facts] [hUpDwRefIdeal : Cert.UpDwRefIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwRefIdeal.nD Cert.UpDwRefIdeal.τ Cert.UpDwRefIdeal.sig) → Buf (Elt Ideal) ℓ) (g' : Dev Cert.UpDwRefIdeal.nD → PrngReg), Pre_UpDwIdeal m →
    (∀ c : Dev Cert.UpDwIdeal.nD,
      m' ((c.tc : Thread Cert.UpDwRefIdeal.nD Cert.UpDwRefIdeal.τ).loc Cert.UpDwRefIdeal.main_arg0) = m ((c.tc : Thread Cert.UpDwIdeal.nD Cert.UpDwIdeal.τ).loc Cert.UpDwIdeal.main_arg0)
      ∧ m' ((c.tc : Thread Cert.UpDwRefIdeal.nD Cert.UpDwRefIdeal.τ).loc Cert.UpDwRefIdeal.main_arg1) = m ((c.tc : Thread Cert.UpDwIdeal.nD Cert.UpDwIdeal.τ).loc Cert.UpDwIdeal.main_arg1)) →
    ∃ (v0 : (c : Dev Cert.UpDwIdeal.nD) → Buf (Elt Ideal) ((c.tc : Thread Cert.UpDwIdeal.nD Cert.UpDwIdeal.τ).loc Cert.UpDwIdeal.main_v0)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v0) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ θ_run (Cert.UpDwRefIdeal.defs (F := Ideal)) (onTc (τ := Cert.UpDwRefIdeal.τ) (Cert.UpDwRefIdeal.main (F := Ideal))) ⟨m', fun _ => 0, g'⟩ (fun r => ∀ c : Dev Cert.UpDwRefIdeal.nD,
          r.2.mem ((c.tc : Thread Cert.UpDwRefIdeal.nD Cert.UpDwRefIdeal.τ).loc Cert.UpDwRefIdeal.main_v6) = v0 c
          ∧ r.2.mem ((c.tc : Thread Cert.UpDwRefIdeal.nD Cert.UpDwRefIdeal.τ).loc Cert.UpDwRefIdeal.main_arg0) = m' ((c.tc : Thread Cert.UpDwRefIdeal.nD Cert.UpDwRefIdeal.τ).loc Cert.UpDwRefIdeal.main_arg0)
          ∧ r.2.mem ((c.tc : Thread Cert.UpDwRefIdeal.nD Cert.UpDwRefIdeal.τ).loc Cert.UpDwRefIdeal.main_arg1) = m' ((c.tc : Thread Cert.UpDwRefIdeal.nD Cert.UpDwRefIdeal.τ).loc Cert.UpDwRefIdeal.main_arg1))

def preserves_OutDw_OutDwIdeal : Prop :=
  True

def algebraic_OutDwIdeal_OutDwRefIdeal [hOutDwIdeal : Cert.OutDwIdeal.Facts] [hOutDwRefIdeal : Cert.OutDwRefIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwRefIdeal.nD Cert.OutDwRefIdeal.τ Cert.OutDwRefIdeal.sig) → Buf (Elt Ideal) ℓ) (g' : Dev Cert.OutDwRefIdeal.nD → PrngReg), Pre_OutDwIdeal m →
    (∀ c : Dev Cert.OutDwIdeal.nD,
      m' ((c.tc : Thread Cert.OutDwRefIdeal.nD Cert.OutDwRefIdeal.τ).loc Cert.OutDwRefIdeal.main_arg0) = m ((c.tc : Thread Cert.OutDwIdeal.nD Cert.OutDwIdeal.τ).loc Cert.OutDwIdeal.main_arg0)
      ∧ m' ((c.tc : Thread Cert.OutDwRefIdeal.nD Cert.OutDwRefIdeal.τ).loc Cert.OutDwRefIdeal.main_arg1) = m ((c.tc : Thread Cert.OutDwIdeal.nD Cert.OutDwIdeal.τ).loc Cert.OutDwIdeal.main_arg1)) →
    ∃ (v0 : (c : Dev Cert.OutDwIdeal.nD) → Buf (Elt Ideal) ((c.tc : Thread Cert.OutDwIdeal.nD Cert.OutDwIdeal.τ).loc Cert.OutDwIdeal.main_v0)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v0) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ θ_run (Cert.OutDwRefIdeal.defs (F := Ideal)) (onTc (τ := Cert.OutDwRefIdeal.τ) (Cert.OutDwRefIdeal.main (F := Ideal))) ⟨m', fun _ => 0, g'⟩ (fun r => ∀ c : Dev Cert.OutDwRefIdeal.nD,
          r.2.mem ((c.tc : Thread Cert.OutDwRefIdeal.nD Cert.OutDwRefIdeal.τ).loc Cert.OutDwRefIdeal.main_v6) = v0 c
          ∧ r.2.mem ((c.tc : Thread Cert.OutDwRefIdeal.nD Cert.OutDwRefIdeal.τ).loc Cert.OutDwRefIdeal.main_arg0) = m' ((c.tc : Thread Cert.OutDwRefIdeal.nD Cert.OutDwRefIdeal.τ).loc Cert.OutDwRefIdeal.main_arg0)
          ∧ r.2.mem ((c.tc : Thread Cert.OutDwRefIdeal.nD Cert.OutDwRefIdeal.τ).loc Cert.OutDwRefIdeal.main_arg1) = m' ((c.tc : Thread Cert.OutDwRefIdeal.nD Cert.OutDwRefIdeal.τ).loc Cert.OutDwRefIdeal.main_arg1))

def preserves_SsmDx_SsmDxIdeal : Prop :=
  True

def algebraic_SsmDxIdeal_SsmDxRefIdeal [hSsmDxIdeal : Cert.SsmDxIdeal.Facts] [hSsmDxRefIdeal : Cert.SsmDxRefIdeal.Facts] : Prop :=
  ∀ (m : (ℓ : Loc Cert.SsmDxIdeal.nD Cert.SsmDxIdeal.τ Cert.SsmDxIdeal.sig) → Buf (Elt Ideal) ℓ) (g : Dev Cert.SsmDxIdeal.nD → PrngReg)
    (m' : (ℓ : Loc Cert.SsmDxRefIdeal.nD Cert.SsmDxRefIdeal.τ Cert.SsmDxRefIdeal.sig) → Buf (Elt Ideal) ℓ) (g' : Dev Cert.SsmDxRefIdeal.nD → PrngReg), Pre_SsmDxIdeal m →
    (∀ c : Dev Cert.SsmDxIdeal.nD,
      m' ((c.tc : Thread Cert.SsmDxRefIdeal.nD Cert.SsmDxRefIdeal.τ).loc Cert.SsmDxRefIdeal.main_arg0) = m ((c.tc : Thread Cert.SsmDxIdeal.nD Cert.SsmDxIdeal.τ).loc Cert.SsmDxIdeal.main_arg0)
      ∧ m' ((c.tc : Thread Cert.SsmDxRefIdeal.nD Cert.SsmDxRefIdeal.τ).loc Cert.SsmDxRefIdeal.main_arg1) = m ((c.tc : Thread Cert.SsmDxIdeal.nD Cert.SsmDxIdeal.τ).loc Cert.SsmDxIdeal.main_arg1)) →
    ∃ (v0 : (c : Dev Cert.SsmDxIdeal.nD) → Buf (Elt Ideal) ((c.tc : Thread Cert.SsmDxIdeal.nD Cert.SsmDxIdeal.τ).loc Cert.SsmDxIdeal.main_v0)),
      θ_run (Cert.SsmDxIdeal.defs (F := Ideal)) (onTc (τ := Cert.SsmDxIdeal.τ) (Cert.SsmDxIdeal.main (F := Ideal))) ⟨m, fun _ => 0, g⟩ (fun r => ∀ c : Dev Cert.SsmDxIdeal.nD,
          r.2.mem ((c.tc : Thread Cert.SsmDxIdeal.nD Cert.SsmDxIdeal.τ).loc Cert.SsmDxIdeal.main_v0) = v0 c
          ∧ r.2.mem ((c.tc : Thread Cert.SsmDxIdeal.nD Cert.SsmDxIdeal.τ).loc Cert.SsmDxIdeal.main_arg0) = m ((c.tc : Thread Cert.SsmDxIdeal.nD Cert.SsmDxIdeal.τ).loc Cert.SsmDxIdeal.main_arg0)
          ∧ r.2.mem ((c.tc : Thread Cert.SsmDxIdeal.nD Cert.SsmDxIdeal.τ).loc Cert.SsmDxIdeal.main_arg1) = m ((c.tc : Thread Cert.SsmDxIdeal.nD Cert.SsmDxIdeal.τ).loc Cert.SsmDxIdeal.main_arg1))
      ∧ θ_run (Cert.SsmDxRefIdeal.defs (F := Ideal)) (onTc (τ := Cert.SsmDxRefIdeal.τ) (Cert.SsmDxRefIdeal.main (F := Ideal))) ⟨m', fun _ => 0, g'⟩ (fun r => ∀ c : Dev Cert.SsmDxRefIdeal.nD,
          r.2.mem ((c.tc : Thread Cert.SsmDxRefIdeal.nD Cert.SsmDxRefIdeal.τ).loc Cert.SsmDxRefIdeal.main_v4) = v0 c
          ∧ r.2.mem ((c.tc : Thread Cert.SsmDxRefIdeal.nD Cert.SsmDxRefIdeal.τ).loc Cert.SsmDxRefIdeal.main_arg0) = m' ((c.tc : Thread Cert.SsmDxRefIdeal.nD Cert.SsmDxRefIdeal.τ).loc Cert.SsmDxRefIdeal.main_arg0)
          ∧ r.2.mem ((c.tc : Thread Cert.SsmDxRefIdeal.nD Cert.SsmDxRefIdeal.τ).loc Cert.SsmDxRefIdeal.main_arg1) = m' ((c.tc : Thread Cert.SsmDxRefIdeal.nD Cert.SsmDxRefIdeal.τ).loc Cert.SsmDxRefIdeal.main_arg1))

def preserves_SsmDw_SsmDwIdeal : Prop :=
  True

def algebraic_SsmDwIdeal_SsmDwRefIdeal [hSsmDwIdeal : Cert.SsmDwIdeal.Facts] [hSsmDwRefIdeal : Cert.SsmDwRefIdeal.Facts] : Prop :=
  ∀ (m : (ℓ : Loc Cert.SsmDwIdeal.nD Cert.SsmDwIdeal.τ Cert.SsmDwIdeal.sig) → Buf (Elt Ideal) ℓ) (g : Dev Cert.SsmDwIdeal.nD → PrngReg)
    (m' : (ℓ : Loc Cert.SsmDwRefIdeal.nD Cert.SsmDwRefIdeal.τ Cert.SsmDwRefIdeal.sig) → Buf (Elt Ideal) ℓ) (g' : Dev Cert.SsmDwRefIdeal.nD → PrngReg), Pre_SsmDwIdeal m →
    (∀ c : Dev Cert.SsmDwIdeal.nD,
      m' ((c.tc : Thread Cert.SsmDwRefIdeal.nD Cert.SsmDwRefIdeal.τ).loc Cert.SsmDwRefIdeal.main_arg0) = m ((c.tc : Thread Cert.SsmDwIdeal.nD Cert.SsmDwIdeal.τ).loc Cert.SsmDwIdeal.main_arg0)
      ∧ m' ((c.tc : Thread Cert.SsmDwRefIdeal.nD Cert.SsmDwRefIdeal.τ).loc Cert.SsmDwRefIdeal.main_arg1) = m ((c.tc : Thread Cert.SsmDwIdeal.nD Cert.SsmDwIdeal.τ).loc Cert.SsmDwIdeal.main_arg1)) →
    ∃ (v0 : (c : Dev Cert.SsmDwIdeal.nD) → Buf (Elt Ideal) ((c.tc : Thread Cert.SsmDwIdeal.nD Cert.SsmDwIdeal.τ).loc Cert.SsmDwIdeal.main_v0)),
      θ_run (Cert.SsmDwIdeal.defs (F := Ideal)) (onTc (τ := Cert.SsmDwIdeal.τ) (Cert.SsmDwIdeal.main (F := Ideal))) ⟨m, fun _ => 0, g⟩ (fun r => ∀ c : Dev Cert.SsmDwIdeal.nD,
          r.2.mem ((c.tc : Thread Cert.SsmDwIdeal.nD Cert.SsmDwIdeal.τ).loc Cert.SsmDwIdeal.main_v0) = v0 c
          ∧ r.2.mem ((c.tc : Thread Cert.SsmDwIdeal.nD Cert.SsmDwIdeal.τ).loc Cert.SsmDwIdeal.main_arg0) = m ((c.tc : Thread Cert.SsmDwIdeal.nD Cert.SsmDwIdeal.τ).loc Cert.SsmDwIdeal.main_arg0)
          ∧ r.2.mem ((c.tc : Thread Cert.SsmDwIdeal.nD Cert.SsmDwIdeal.τ).loc Cert.SsmDwIdeal.main_arg1) = m ((c.tc : Thread Cert.SsmDwIdeal.nD Cert.SsmDwIdeal.τ).loc Cert.SsmDwIdeal.main_arg1))
      ∧ θ_run (Cert.SsmDwRefIdeal.defs (F := Ideal)) (onTc (τ := Cert.SsmDwRefIdeal.τ) (Cert.SsmDwRefIdeal.main (F := Ideal))) ⟨m', fun _ => 0, g'⟩ (fun r => ∀ c : Dev Cert.SsmDwRefIdeal.nD,
          r.2.mem ((c.tc : Thread Cert.SsmDwRefIdeal.nD Cert.SsmDwRefIdeal.τ).loc Cert.SsmDwRefIdeal.main_v6) = v0 c
          ∧ r.2.mem ((c.tc : Thread Cert.SsmDwRefIdeal.nD Cert.SsmDwRefIdeal.τ).loc Cert.SsmDwRefIdeal.main_arg0) = m' ((c.tc : Thread Cert.SsmDwRefIdeal.nD Cert.SsmDwRefIdeal.τ).loc Cert.SsmDwRefIdeal.main_arg0)
          ∧ r.2.mem ((c.tc : Thread Cert.SsmDwRefIdeal.nD Cert.SsmDwRefIdeal.τ).loc Cert.SsmDwRefIdeal.main_arg1) = m' ((c.tc : Thread Cert.SsmDwRefIdeal.nD Cert.SsmDwRefIdeal.τ).loc Cert.SsmDwRefIdeal.main_arg1))

def preserves_GdnDx_GdnDxIdeal : Prop :=
  True

def algebraic_GdnDxIdeal_GdnDxRefIdeal [hGdnDxIdeal : Cert.GdnDxIdeal.Facts] [hGdnDxRefIdeal : Cert.GdnDxRefIdeal.Facts] : Prop :=
  ∀ (m : (ℓ : Loc Cert.GdnDxIdeal.nD Cert.GdnDxIdeal.τ Cert.GdnDxIdeal.sig) → Buf (Elt Ideal) ℓ) (g : Dev Cert.GdnDxIdeal.nD → PrngReg)
    (m' : (ℓ : Loc Cert.GdnDxRefIdeal.nD Cert.GdnDxRefIdeal.τ Cert.GdnDxRefIdeal.sig) → Buf (Elt Ideal) ℓ) (g' : Dev Cert.GdnDxRefIdeal.nD → PrngReg), Pre_GdnDxIdeal m →
    (∀ c : Dev Cert.GdnDxIdeal.nD,
      m' ((c.tc : Thread Cert.GdnDxRefIdeal.nD Cert.GdnDxRefIdeal.τ).loc Cert.GdnDxRefIdeal.main_arg0) = m ((c.tc : Thread Cert.GdnDxIdeal.nD Cert.GdnDxIdeal.τ).loc Cert.GdnDxIdeal.main_arg0)
      ∧ m' ((c.tc : Thread Cert.GdnDxRefIdeal.nD Cert.GdnDxRefIdeal.τ).loc Cert.GdnDxRefIdeal.main_arg1) = m ((c.tc : Thread Cert.GdnDxIdeal.nD Cert.GdnDxIdeal.τ).loc Cert.GdnDxIdeal.main_arg1)) →
    ∃ (v0 : (c : Dev Cert.GdnDxIdeal.nD) → Buf (Elt Ideal) ((c.tc : Thread Cert.GdnDxIdeal.nD Cert.GdnDxIdeal.τ).loc Cert.GdnDxIdeal.main_v0)),
      θ_run (Cert.GdnDxIdeal.defs (F := Ideal)) (onTc (τ := Cert.GdnDxIdeal.τ) (Cert.GdnDxIdeal.main (F := Ideal))) ⟨m, fun _ => 0, g⟩ (fun r => ∀ c : Dev Cert.GdnDxIdeal.nD,
          r.2.mem ((c.tc : Thread Cert.GdnDxIdeal.nD Cert.GdnDxIdeal.τ).loc Cert.GdnDxIdeal.main_v0) = v0 c
          ∧ r.2.mem ((c.tc : Thread Cert.GdnDxIdeal.nD Cert.GdnDxIdeal.τ).loc Cert.GdnDxIdeal.main_arg0) = m ((c.tc : Thread Cert.GdnDxIdeal.nD Cert.GdnDxIdeal.τ).loc Cert.GdnDxIdeal.main_arg0)
          ∧ r.2.mem ((c.tc : Thread Cert.GdnDxIdeal.nD Cert.GdnDxIdeal.τ).loc Cert.GdnDxIdeal.main_arg1) = m ((c.tc : Thread Cert.GdnDxIdeal.nD Cert.GdnDxIdeal.τ).loc Cert.GdnDxIdeal.main_arg1))
      ∧ θ_run (Cert.GdnDxRefIdeal.defs (F := Ideal)) (onTc (τ := Cert.GdnDxRefIdeal.τ) (Cert.GdnDxRefIdeal.main (F := Ideal))) ⟨m', fun _ => 0, g'⟩ (fun r => ∀ c : Dev Cert.GdnDxRefIdeal.nD,
          r.2.mem ((c.tc : Thread Cert.GdnDxRefIdeal.nD Cert.GdnDxRefIdeal.τ).loc Cert.GdnDxRefIdeal.main_v4) = v0 c
          ∧ r.2.mem ((c.tc : Thread Cert.GdnDxRefIdeal.nD Cert.GdnDxRefIdeal.τ).loc Cert.GdnDxRefIdeal.main_arg0) = m' ((c.tc : Thread Cert.GdnDxRefIdeal.nD Cert.GdnDxRefIdeal.τ).loc Cert.GdnDxRefIdeal.main_arg0)
          ∧ r.2.mem ((c.tc : Thread Cert.GdnDxRefIdeal.nD Cert.GdnDxRefIdeal.τ).loc Cert.GdnDxRefIdeal.main_arg1) = m' ((c.tc : Thread Cert.GdnDxRefIdeal.nD Cert.GdnDxRefIdeal.τ).loc Cert.GdnDxRefIdeal.main_arg1))

def preserves_GdnDw_GdnDwIdeal : Prop :=
  True

def algebraic_GdnDwIdeal_GdnDwRefIdeal [hGdnDwIdeal : Cert.GdnDwIdeal.Facts] [hGdnDwRefIdeal : Cert.GdnDwRefIdeal.Facts] : Prop :=
  ∀ (m : (ℓ : Loc Cert.GdnDwIdeal.nD Cert.GdnDwIdeal.τ Cert.GdnDwIdeal.sig) → Buf (Elt Ideal) ℓ) (g : Dev Cert.GdnDwIdeal.nD → PrngReg)
    (m' : (ℓ : Loc Cert.GdnDwRefIdeal.nD Cert.GdnDwRefIdeal.τ Cert.GdnDwRefIdeal.sig) → Buf (Elt Ideal) ℓ) (g' : Dev Cert.GdnDwRefIdeal.nD → PrngReg), Pre_GdnDwIdeal m →
    (∀ c : Dev Cert.GdnDwIdeal.nD,
      m' ((c.tc : Thread Cert.GdnDwRefIdeal.nD Cert.GdnDwRefIdeal.τ).loc Cert.GdnDwRefIdeal.main_arg0) = m ((c.tc : Thread Cert.GdnDwIdeal.nD Cert.GdnDwIdeal.τ).loc Cert.GdnDwIdeal.main_arg0)
      ∧ m' ((c.tc : Thread Cert.GdnDwRefIdeal.nD Cert.GdnDwRefIdeal.τ).loc Cert.GdnDwRefIdeal.main_arg1) = m ((c.tc : Thread Cert.GdnDwIdeal.nD Cert.GdnDwIdeal.τ).loc Cert.GdnDwIdeal.main_arg1)) →
    ∃ (v0 : (c : Dev Cert.GdnDwIdeal.nD) → Buf (Elt Ideal) ((c.tc : Thread Cert.GdnDwIdeal.nD Cert.GdnDwIdeal.τ).loc Cert.GdnDwIdeal.main_v0)),
      θ_run (Cert.GdnDwIdeal.defs (F := Ideal)) (onTc (τ := Cert.GdnDwIdeal.τ) (Cert.GdnDwIdeal.main (F := Ideal))) ⟨m, fun _ => 0, g⟩ (fun r => ∀ c : Dev Cert.GdnDwIdeal.nD,
          r.2.mem ((c.tc : Thread Cert.GdnDwIdeal.nD Cert.GdnDwIdeal.τ).loc Cert.GdnDwIdeal.main_v0) = v0 c
          ∧ r.2.mem ((c.tc : Thread Cert.GdnDwIdeal.nD Cert.GdnDwIdeal.τ).loc Cert.GdnDwIdeal.main_arg0) = m ((c.tc : Thread Cert.GdnDwIdeal.nD Cert.GdnDwIdeal.τ).loc Cert.GdnDwIdeal.main_arg0)
          ∧ r.2.mem ((c.tc : Thread Cert.GdnDwIdeal.nD Cert.GdnDwIdeal.τ).loc Cert.GdnDwIdeal.main_arg1) = m ((c.tc : Thread Cert.GdnDwIdeal.nD Cert.GdnDwIdeal.τ).loc Cert.GdnDwIdeal.main_arg1))
      ∧ θ_run (Cert.GdnDwRefIdeal.defs (F := Ideal)) (onTc (τ := Cert.GdnDwRefIdeal.τ) (Cert.GdnDwRefIdeal.main (F := Ideal))) ⟨m', fun _ => 0, g'⟩ (fun r => ∀ c : Dev Cert.GdnDwRefIdeal.nD,
          r.2.mem ((c.tc : Thread Cert.GdnDwRefIdeal.nD Cert.GdnDwRefIdeal.τ).loc Cert.GdnDwRefIdeal.main_v6) = v0 c
          ∧ r.2.mem ((c.tc : Thread Cert.GdnDwRefIdeal.nD Cert.GdnDwRefIdeal.τ).loc Cert.GdnDwRefIdeal.main_arg0) = m' ((c.tc : Thread Cert.GdnDwRefIdeal.nD Cert.GdnDwRefIdeal.τ).loc Cert.GdnDwRefIdeal.main_arg0)
          ∧ r.2.mem ((c.tc : Thread Cert.GdnDwRefIdeal.nD Cert.GdnDwRefIdeal.τ).loc Cert.GdnDwRefIdeal.main_arg1) = m' ((c.tc : Thread Cert.GdnDwRefIdeal.nD Cert.GdnDwRefIdeal.τ).loc Cert.GdnDwRefIdeal.main_arg1))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v0)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v3) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0_0)) (v1 : (c : Dev Cert.UpIdeal.nD) → Buf (Elt Ideal) ((c.tc : Thread Cert.UpIdeal.nD Cert.UpIdeal.τ).loc Cert.UpIdeal.main_v0_1)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0_0) = v0 c
          ∧ r.2.mem ((c.tc : Thread Cert.UpIdeal.nD Cert.UpIdeal.τ).loc Cert.UpIdeal.main_v0_1) = v1 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v4) = v0 c
          ∧ r.2.mem ((c.tc : Thread Cert.UpRefIdeal.nD Cert.UpRefIdeal.τ).loc Cert.UpRefIdeal.main_v6) = v1 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v2) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1))

def preserves_Ssm_SsmIdeal : Prop :=
  True

def algebraic_SsmIdeal_SsmRefIdeal [hSsmIdeal : Cert.SsmIdeal.Facts] [hSsmRefIdeal : Cert.SsmRefIdeal.Facts] : Prop :=
  ∀ (m : (ℓ : Loc Cert.SsmIdeal.nD Cert.SsmIdeal.τ Cert.SsmIdeal.sig) → Buf (Elt Ideal) ℓ) (g : Dev Cert.SsmIdeal.nD → PrngReg)
    (m' : (ℓ : Loc Cert.SsmRefIdeal.nD Cert.SsmRefIdeal.τ Cert.SsmRefIdeal.sig) → Buf (Elt Ideal) ℓ) (g' : Dev Cert.SsmRefIdeal.nD → PrngReg), Pre_SsmIdeal m →
    (∀ c : Dev Cert.SsmIdeal.nD,
      m' ((c.tc : Thread Cert.SsmRefIdeal.nD Cert.SsmRefIdeal.τ).loc Cert.SsmRefIdeal.main_arg0) = m ((c.tc : Thread Cert.SsmIdeal.nD Cert.SsmIdeal.τ).loc Cert.SsmIdeal.main_arg0)
      ∧ m' ((c.tc : Thread Cert.SsmRefIdeal.nD Cert.SsmRefIdeal.τ).loc Cert.SsmRefIdeal.main_arg1) = m ((c.tc : Thread Cert.SsmIdeal.nD Cert.SsmIdeal.τ).loc Cert.SsmIdeal.main_arg1)) →
    ∃ (v0 : (c : Dev Cert.SsmIdeal.nD) → Buf (Elt Ideal) ((c.tc : Thread Cert.SsmIdeal.nD Cert.SsmIdeal.τ).loc Cert.SsmIdeal.main_v0)),
      θ_run (Cert.SsmIdeal.defs (F := Ideal)) (onTc (τ := Cert.SsmIdeal.τ) (Cert.SsmIdeal.main (F := Ideal))) ⟨m, fun _ => 0, g⟩ (fun r => ∀ c : Dev Cert.SsmIdeal.nD,
          r.2.mem ((c.tc : Thread Cert.SsmIdeal.nD Cert.SsmIdeal.τ).loc Cert.SsmIdeal.main_v0) = v0 c
          ∧ r.2.mem ((c.tc : Thread Cert.SsmIdeal.nD Cert.SsmIdeal.τ).loc Cert.SsmIdeal.main_arg0) = m ((c.tc : Thread Cert.SsmIdeal.nD Cert.SsmIdeal.τ).loc Cert.SsmIdeal.main_arg0)
          ∧ r.2.mem ((c.tc : Thread Cert.SsmIdeal.nD Cert.SsmIdeal.τ).loc Cert.SsmIdeal.main_arg1) = m ((c.tc : Thread Cert.SsmIdeal.nD Cert.SsmIdeal.τ).loc Cert.SsmIdeal.main_arg1))
      ∧ θ_run (Cert.SsmRefIdeal.defs (F := Ideal)) (onTc (τ := Cert.SsmRefIdeal.τ) (Cert.SsmRefIdeal.main (F := Ideal))) ⟨m', fun _ => 0, g'⟩ (fun r => ∀ c : Dev Cert.SsmRefIdeal.nD,
          r.2.mem ((c.tc : Thread Cert.SsmRefIdeal.nD Cert.SsmRefIdeal.τ).loc Cert.SsmRefIdeal.main_v2) = v0 c
          ∧ r.2.mem ((c.tc : Thread Cert.SsmRefIdeal.nD Cert.SsmRefIdeal.τ).loc Cert.SsmRefIdeal.main_arg0) = m' ((c.tc : Thread Cert.SsmRefIdeal.nD Cert.SsmRefIdeal.τ).loc Cert.SsmRefIdeal.main_arg0)
          ∧ r.2.mem ((c.tc : Thread Cert.SsmRefIdeal.nD Cert.SsmRefIdeal.τ).loc Cert.SsmRefIdeal.main_arg1) = m' ((c.tc : Thread Cert.SsmRefIdeal.nD Cert.SsmRefIdeal.τ).loc Cert.SsmRefIdeal.main_arg1))

def preserves_Small_SmallIdeal : Prop :=
  True

def algebraic_SmallIdeal_SmallRefIdeal [hSmallIdeal : Cert.SmallIdeal.Facts] [hSmallRefIdeal : Cert.SmallRefIdeal.Facts] : Prop :=
  ∀ (m : (ℓ : Loc Cert.SmallIdeal.nD Cert.SmallIdeal.τ Cert.SmallIdeal.sig) → Buf (Elt Ideal) ℓ) (g : Dev Cert.SmallIdeal.nD → PrngReg)
    (m' : (ℓ : Loc Cert.SmallRefIdeal.nD Cert.SmallRefIdeal.τ Cert.SmallRefIdeal.sig) → Buf (Elt Ideal) ℓ) (g' : Dev Cert.SmallRefIdeal.nD → PrngReg), Pre_SmallIdeal m →
    (∀ c : Dev Cert.SmallIdeal.nD,
      m' ((c.tc : Thread Cert.SmallRefIdeal.nD Cert.SmallRefIdeal.τ).loc Cert.SmallRefIdeal.main_arg0) = m ((c.tc : Thread Cert.SmallIdeal.nD Cert.SmallIdeal.τ).loc Cert.SmallIdeal.main_arg0)
      ∧ m' ((c.tc : Thread Cert.SmallRefIdeal.nD Cert.SmallRefIdeal.τ).loc Cert.SmallRefIdeal.main_arg1) = m ((c.tc : Thread Cert.SmallIdeal.nD Cert.SmallIdeal.τ).loc Cert.SmallIdeal.main_arg1)) →
    ∃ (v0 : (c : Dev Cert.SmallIdeal.nD) → Buf (Elt Ideal) ((c.tc : Thread Cert.SmallIdeal.nD Cert.SmallIdeal.τ).loc Cert.SmallIdeal.main_v0)),
      θ_run (Cert.SmallIdeal.defs (F := Ideal)) (onTc (τ := Cert.SmallIdeal.τ) (Cert.SmallIdeal.main (F := Ideal))) ⟨m, fun _ => 0, g⟩ (fun r => ∀ c : Dev Cert.SmallIdeal.nD,
          r.2.mem ((c.tc : Thread Cert.SmallIdeal.nD Cert.SmallIdeal.τ).loc Cert.SmallIdeal.main_v0) = v0 c
          ∧ r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0)
          ∧ r.2.mem ((c.tc : Thread Cert.SmallIdeal.nD Cert.SmallIdeal.τ).loc Cert.SmallIdeal.main_arg1) = m ((c.tc : Thread Cert.SmallIdeal.nD Cert.SmallIdeal.τ).loc Cert.SmallIdeal.main_arg1))
      ∧ θ_run (Cert.SmallRefIdeal.defs (F := Ideal)) (onTc (τ := Cert.SmallRefIdeal.τ) (Cert.SmallRefIdeal.main (F := Ideal))) ⟨m', fun _ => 0, g'⟩ (fun r => ∀ c : Dev Cert.SmallRefIdeal.nD,
          r.2.mem ((c.tc : Thread Cert.SmallRefIdeal.nD Cert.SmallRefIdeal.τ).loc Cert.SmallRefIdeal.main_v2) = v0 c
          ∧ r.2.mem ((c.tc : Thread Cert.SmallRefIdeal.nD Cert.SmallRefIdeal.τ).loc Cert.SmallRefIdeal.main_arg0) = m' ((c.tc : Thread Cert.SmallRefIdeal.nD Cert.SmallRefIdeal.τ).loc Cert.SmallRefIdeal.main_arg0)
          ∧ r.2.mem ((c.tc : Thread Cert.SmallRefIdeal.nD Cert.SmallRefIdeal.τ).loc Cert.SmallRefIdeal.main_arg1) = m' ((c.tc : Thread Cert.SmallRefIdeal.nD Cert.SmallRefIdeal.τ).loc Cert.SmallRefIdeal.main_arg1))

def preserves_SmallDw_SmallDwIdeal : Prop :=
  True

def algebraic_SmallDwIdeal_SmallDwRefIdeal [hSmallDwIdeal : Cert.SmallDwIdeal.Facts] [hSmallDwRefIdeal : Cert.SmallDwRefIdeal.Facts] : Prop :=
  ∀ (m : (ℓ : Loc Cert.SmallDwIdeal.nD Cert.SmallDwIdeal.τ Cert.SmallDwIdeal.sig) → Buf (Elt Ideal) ℓ) (g : Dev Cert.SmallDwIdeal.nD → PrngReg)
    (m' : (ℓ : Loc Cert.SmallDwRefIdeal.nD Cert.SmallDwRefIdeal.τ Cert.SmallDwRefIdeal.sig) → Buf (Elt Ideal) ℓ) (g' : Dev Cert.SmallDwRefIdeal.nD → PrngReg), Pre_SmallDwIdeal m →
    (∀ c : Dev Cert.SmallDwIdeal.nD,
      m' ((c.tc : Thread Cert.SmallDwRefIdeal.nD Cert.SmallDwRefIdeal.τ).loc Cert.SmallDwRefIdeal.main_arg0) = m ((c.tc : Thread Cert.SmallDwIdeal.nD Cert.SmallDwIdeal.τ).loc Cert.SmallDwIdeal.main_arg0)
      ∧ m' ((c.tc : Thread Cert.SmallDwRefIdeal.nD Cert.SmallDwRefIdeal.τ).loc Cert.SmallDwRefIdeal.main_arg1) = m ((c.tc : Thread Cert.SmallDwIdeal.nD Cert.SmallDwIdeal.τ).loc Cert.SmallDwIdeal.main_arg1)) →
    ∃ (v0 : (c : Dev Cert.SmallDwIdeal.nD) → Buf (Elt Ideal) ((c.tc : Thread Cert.SmallDwIdeal.nD Cert.SmallDwIdeal.τ).loc Cert.SmallDwIdeal.main_v0)),
      θ_run (Cert.SmallDwIdeal.defs (F := Ideal)) (onTc (τ := Cert.SmallDwIdeal.τ) (Cert.SmallDwIdeal.main (F := Ideal))) ⟨m, fun _ => 0, g⟩ (fun r => ∀ c : Dev Cert.SmallDwIdeal.nD,
          r.2.mem ((c.tc : Thread Cert.SmallDwIdeal.nD Cert.SmallDwIdeal.τ).loc Cert.SmallDwIdeal.main_v0) = v0 c
          ∧ r.2.mem ((c.tc : Thread Cert.SmallDwIdeal.nD Cert.SmallDwIdeal.τ).loc Cert.SmallDwIdeal.main_arg0) = m ((c.tc : Thread Cert.SmallDwIdeal.nD Cert.SmallDwIdeal.τ).loc Cert.SmallDwIdeal.main_arg0)
          ∧ r.2.mem ((c.tc : Thread Cert.SmallDwIdeal.nD Cert.SmallDwIdeal.τ).loc Cert.SmallDwIdeal.main_arg1) = m ((c.tc : Thread Cert.SmallDwIdeal.nD Cert.SmallDwIdeal.τ).loc Cert.SmallDwIdeal.main_arg1))
      ∧ θ_run (Cert.SmallDwRefIdeal.defs (F := Ideal)) (onTc (τ := Cert.SmallDwRefIdeal.τ) (Cert.SmallDwRefIdeal.main (F := Ideal))) ⟨m', fun _ => 0, g'⟩ (fun r => ∀ c : Dev Cert.SmallDwRefIdeal.nD,
          r.2.mem ((c.tc : Thread Cert.SmallDwRefIdeal.nD Cert.SmallDwRefIdeal.τ).loc Cert.SmallDwRefIdeal.main_v6) = v0 c
          ∧ r.2.mem ((c.tc : Thread Cert.SmallDwRefIdeal.nD Cert.SmallDwRefIdeal.τ).loc Cert.SmallDwRefIdeal.main_arg0) = m' ((c.tc : Thread Cert.SmallDwRefIdeal.nD Cert.SmallDwRefIdeal.τ).loc Cert.SmallDwRefIdeal.main_arg0)
          ∧ r.2.mem ((c.tc : Thread Cert.SmallDwRefIdeal.nD Cert.SmallDwRefIdeal.τ).loc Cert.SmallDwRefIdeal.main_arg1) = m' ((c.tc : Thread Cert.SmallDwRefIdeal.nD Cert.SmallDwRefIdeal.τ).loc Cert.SmallDwRefIdeal.main_arg1))

def preserves_SmallDx_SmallDxIdeal : Prop :=
  True

def algebraic_SmallDxIdeal_SmallDxRefIdeal [hSmallDxIdeal : Cert.SmallDxIdeal.Facts] [hSmallDxRefIdeal : Cert.SmallDxRefIdeal.Facts] : Prop :=
  ∀ (m : (ℓ : Loc Cert.SmallDxIdeal.nD Cert.SmallDxIdeal.τ Cert.SmallDxIdeal.sig) → Buf (Elt Ideal) ℓ) (g : Dev Cert.SmallDxIdeal.nD → PrngReg)
    (m' : (ℓ : Loc Cert.SmallDxRefIdeal.nD Cert.SmallDxRefIdeal.τ Cert.SmallDxRefIdeal.sig) → Buf (Elt Ideal) ℓ) (g' : Dev Cert.SmallDxRefIdeal.nD → PrngReg), Pre_SmallDxIdeal m →
    (∀ c : Dev Cert.SmallDxIdeal.nD,
      m' ((c.tc : Thread Cert.SmallDxRefIdeal.nD Cert.SmallDxRefIdeal.τ).loc Cert.SmallDxRefIdeal.main_arg0) = m ((c.tc : Thread Cert.SmallDxIdeal.nD Cert.SmallDxIdeal.τ).loc Cert.SmallDxIdeal.main_arg0)
      ∧ m' ((c.tc : Thread Cert.SmallDxRefIdeal.nD Cert.SmallDxRefIdeal.τ).loc Cert.SmallDxRefIdeal.main_arg1) = m ((c.tc : Thread Cert.SmallDxIdeal.nD Cert.SmallDxIdeal.τ).loc Cert.SmallDxIdeal.main_arg1)) →
    ∃ (v0 : (c : Dev Cert.SmallDxIdeal.nD) → Buf (Elt Ideal) ((c.tc : Thread Cert.SmallDxIdeal.nD Cert.SmallDxIdeal.τ).loc Cert.SmallDxIdeal.main_v0)),
      θ_run (Cert.SmallDxIdeal.defs (F := Ideal)) (onTc (τ := Cert.SmallDxIdeal.τ) (Cert.SmallDxIdeal.main (F := Ideal))) ⟨m, fun _ => 0, g⟩ (fun r => ∀ c : Dev Cert.SmallDxIdeal.nD,
          r.2.mem ((c.tc : Thread Cert.SmallDxIdeal.nD Cert.SmallDxIdeal.τ).loc Cert.SmallDxIdeal.main_v0) = v0 c
          ∧ r.2.mem ((c.tc : Thread Cert.SmallDxIdeal.nD Cert.SmallDxIdeal.τ).loc Cert.SmallDxIdeal.main_arg0) = m ((c.tc : Thread Cert.SmallDxIdeal.nD Cert.SmallDxIdeal.τ).loc Cert.SmallDxIdeal.main_arg0)
          ∧ r.2.mem ((c.tc : Thread Cert.SmallDxIdeal.nD Cert.SmallDxIdeal.τ).loc Cert.SmallDxIdeal.main_arg1) = m ((c.tc : Thread Cert.SmallDxIdeal.nD Cert.SmallDxIdeal.τ).loc Cert.SmallDxIdeal.main_arg1))
      ∧ θ_run (Cert.SmallDxRefIdeal.defs (F := Ideal)) (onTc (τ := Cert.SmallDxRefIdeal.τ) (Cert.SmallDxRefIdeal.main (F := Ideal))) ⟨m', fun _ => 0, g'⟩ (fun r => ∀ c : Dev Cert.SmallDxRefIdeal.nD,
          r.2.mem ((c.tc : Thread Cert.SmallDxRefIdeal.nD Cert.SmallDxRefIdeal.τ).loc Cert.SmallDxRefIdeal.main_v4) = v0 c
          ∧ r.2.mem ((c.tc : Thread Cert.SmallDxRefIdeal.nD Cert.SmallDxRefIdeal.τ).loc Cert.SmallDxRefIdeal.main_arg0) = m' ((c.tc : Thread Cert.SmallDxRefIdeal.nD Cert.SmallDxRefIdeal.τ).loc Cert.SmallDxRefIdeal.main_arg0)
          ∧ r.2.mem ((c.tc : Thread Cert.SmallDxRefIdeal.nD Cert.SmallDxRefIdeal.τ).loc Cert.SmallDxRefIdeal.main_arg1) = m' ((c.tc : Thread Cert.SmallDxRefIdeal.nD Cert.SmallDxRefIdeal.τ).loc Cert.SmallDxRefIdeal.main_arg1))

def preserves_AdamUp_AdamUpIdeal : Prop :=
  True

def algebraic_AdamUpIdeal_AdamUpRefIdeal [hAdamUpIdeal : Cert.AdamUpIdeal.Facts] [hAdamUpRefIdeal : Cert.AdamUpRefIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpRefIdeal.nD Cert.AdamUpRefIdeal.τ Cert.AdamUpRefIdeal.sig) → Buf (Elt Ideal) ℓ) (g' : Dev Cert.AdamUpRefIdeal.nD → PrngReg), Pre_AdamUpIdeal m →
    (∀ c : Dev Cert.AdamUpIdeal.nD,
      m' ((c.tc : Thread Cert.AdamUpRefIdeal.nD Cert.AdamUpRefIdeal.τ).loc Cert.AdamUpRefIdeal.main_arg0) = m ((c.tc : Thread Cert.AdamUpIdeal.nD Cert.AdamUpIdeal.τ).loc Cert.AdamUpIdeal.main_arg0)
      ∧ m' ((c.tc : Thread Cert.AdamUpRefIdeal.nD Cert.AdamUpRefIdeal.τ).loc Cert.AdamUpRefIdeal.main_arg1) = m ((c.tc : Thread Cert.AdamUpIdeal.nD Cert.AdamUpIdeal.τ).loc Cert.AdamUpIdeal.main_arg1)
      ∧ m' ((c.tc : Thread Cert.AdamUpRefIdeal.nD Cert.AdamUpRefIdeal.τ).loc Cert.AdamUpRefIdeal.main_arg2) = m ((c.tc : Thread Cert.AdamUpIdeal.nD Cert.AdamUpIdeal.τ).loc Cert.AdamUpIdeal.main_arg2)
      ∧ m' ((c.tc : Thread Cert.AdamUpRefIdeal.nD Cert.AdamUpRefIdeal.τ).loc Cert.AdamUpRefIdeal.main_arg3) = m ((c.tc : Thread Cert.AdamUpIdeal.nD Cert.AdamUpIdeal.τ).loc Cert.AdamUpIdeal.main_arg3)) →
    ∃ (v0 : (c : Dev Cert.AdamUpIdeal.nD) → Buf (Elt Ideal) ((c.tc : Thread Cert.AdamUpIdeal.nD Cert.AdamUpIdeal.τ).loc Cert.AdamUpIdeal.main_v0_0)) (v1 : (c : Dev Cert.AdamUpIdeal.nD) → Buf (Elt Ideal) ((c.tc : Thread Cert.AdamUpIdeal.nD Cert.AdamUpIdeal.τ).loc Cert.AdamUpIdeal.main_v0_1)) (v2 : (c : Dev Cert.AdamUpIdeal.nD) → Buf (Elt Ideal) ((c.tc : Thread Cert.AdamUpIdeal.nD Cert.AdamUpIdeal.τ).loc Cert.AdamUpIdeal.main_v0_2)) (v3 : (c : Dev Cert.AdamUpIdeal.nD) → Buf (Elt Ideal) ((c.tc : Thread Cert.AdamUpIdeal.nD Cert.AdamUpIdeal.τ).loc Cert.AdamUpIdeal.main_v0_3)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v0_0) = v0 c
          ∧ r.2.mem ((c.tc : Thread Cert.AdamUpIdeal.nD Cert.AdamUpIdeal.τ).loc Cert.AdamUpIdeal.main_v0_1) = v1 c
          ∧ r.2.mem ((c.tc : Thread Cert.AdamUpIdeal.nD Cert.AdamUpIdeal.τ).loc Cert.AdamUpIdeal.main_v0_2) = v2 c
          ∧ r.2.mem ((c.tc : Thread Cert.AdamUpIdeal.nD Cert.AdamUpIdeal.τ).loc Cert.AdamUpIdeal.main_v0_3) = v3 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ θ_run (Cert.AdamUpRefIdeal.defs (F := Ideal)) (onTc (τ := Cert.AdamUpRefIdeal.τ) (Cert.AdamUpRefIdeal.main (F := Ideal))) ⟨m', fun _ => 0, g'⟩ (fun r => ∀ c : Dev Cert.AdamUpRefIdeal.nD,
          r.2.mem ((c.tc : Thread Cert.AdamUpRefIdeal.nD Cert.AdamUpRefIdeal.τ).loc Cert.AdamUpRefIdeal.main_v1) = v0 c
          ∧ r.2.mem ((c.tc : Thread Cert.AdamUpRefIdeal.nD Cert.AdamUpRefIdeal.τ).loc Cert.AdamUpRefIdeal.main_v25) = v1 c
          ∧ r.2.mem ((c.tc : Thread Cert.AdamUpRefIdeal.nD Cert.AdamUpRefIdeal.τ).loc Cert.AdamUpRefIdeal.main_v6) = v2 c
          ∧ r.2.mem ((c.tc : Thread Cert.AdamUpRefIdeal.nD Cert.AdamUpRefIdeal.τ).loc Cert.AdamUpRefIdeal.main_v12) = v3 c
          ∧ r.2.mem ((c.tc : Thread Cert.AdamUpRefIdeal.nD Cert.AdamUpRefIdeal.τ).loc Cert.AdamUpRefIdeal.main_arg0) = m' ((c.tc : Thread Cert.AdamUpRefIdeal.nD Cert.AdamUpRefIdeal.τ).loc Cert.AdamUpRefIdeal.main_arg0)
          ∧ r.2.mem ((c.tc : Thread Cert.AdamUpRefIdeal.nD Cert.AdamUpRefIdeal.τ).loc Cert.AdamUpRefIdeal.main_arg1) = m' ((c.tc : Thread Cert.AdamUpRefIdeal.nD Cert.AdamUpRefIdeal.τ).loc Cert.AdamUpRefIdeal.main_arg1)
          ∧ r.2.mem ((c.tc : Thread Cert.AdamUpRefIdeal.nD Cert.AdamUpRefIdeal.τ).loc Cert.AdamUpRefIdeal.main_arg2) = m' ((c.tc : Thread Cert.AdamUpRefIdeal.nD Cert.AdamUpRefIdeal.τ).loc Cert.AdamUpRefIdeal.main_arg2)
          ∧ r.2.mem ((c.tc : Thread Cert.AdamUpRefIdeal.nD Cert.AdamUpRefIdeal.τ).loc Cert.AdamUpRefIdeal.main_arg3) = m' ((c.tc : Thread Cert.AdamUpRefIdeal.nD Cert.AdamUpRefIdeal.τ).loc Cert.AdamUpRefIdeal.main_arg3))

def preserves_AdamRep_AdamRepIdeal : Prop :=
  True

def algebraic_AdamRepIdeal_AdamRepRefIdeal [hAdamRepIdeal : Cert.AdamRepIdeal.Facts] [hAdamRepRefIdeal : Cert.AdamRepRefIdeal.Facts] : Prop :=
  ∀ (m : (ℓ : Loc Cert.AdamRepIdeal.nD Cert.AdamRepIdeal.τ Cert.AdamRepIdeal.sig) → Buf (Elt Ideal) ℓ) (g : Dev Cert.AdamRepIdeal.nD → PrngReg)
    (m' : (ℓ : Loc Cert.AdamRepRefIdeal.nD Cert.AdamRepRefIdeal.τ Cert.AdamRepRefIdeal.sig) → Buf (Elt Ideal) ℓ) (g' : Dev Cert.AdamRepRefIdeal.nD → PrngReg), Pre_AdamRepIdeal m →
    (∀ c : Dev Cert.AdamRepIdeal.nD,
      m' ((c.tc : Thread Cert.AdamRepRefIdeal.nD Cert.AdamRepRefIdeal.τ).loc Cert.AdamRepRefIdeal.main_arg0) = m ((c.tc : Thread Cert.AdamRepIdeal.nD Cert.AdamRepIdeal.τ).loc Cert.AdamRepIdeal.main_arg0)
      ∧ m' ((c.tc : Thread Cert.AdamRepRefIdeal.nD Cert.AdamRepRefIdeal.τ).loc Cert.AdamRepRefIdeal.main_arg1) = m ((c.tc : Thread Cert.AdamRepIdeal.nD Cert.AdamRepIdeal.τ).loc Cert.AdamRepIdeal.main_arg1)
      ∧ m' ((c.tc : Thread Cert.AdamRepRefIdeal.nD Cert.AdamRepRefIdeal.τ).loc Cert.AdamRepRefIdeal.main_arg2) = m ((c.tc : Thread Cert.AdamRepIdeal.nD Cert.AdamRepIdeal.τ).loc Cert.AdamRepIdeal.main_arg2)
      ∧ m' ((c.tc : Thread Cert.AdamRepRefIdeal.nD Cert.AdamRepRefIdeal.τ).loc Cert.AdamRepRefIdeal.main_arg3) = m ((c.tc : Thread Cert.AdamRepIdeal.nD Cert.AdamRepIdeal.τ).loc Cert.AdamRepIdeal.main_arg3)) →
    ∃ (v0 : (c : Dev Cert.AdamRepIdeal.nD) → Buf (Elt Ideal) ((c.tc : Thread Cert.AdamRepIdeal.nD Cert.AdamRepIdeal.τ).loc Cert.AdamRepIdeal.main_v0_0)) (v1 : (c : Dev Cert.AdamRepIdeal.nD) → Buf (Elt Ideal) ((c.tc : Thread Cert.AdamRepIdeal.nD Cert.AdamRepIdeal.τ).loc Cert.AdamRepIdeal.main_v0_1)) (v2 : (c : Dev Cert.AdamRepIdeal.nD) → Buf (Elt Ideal) ((c.tc : Thread Cert.AdamRepIdeal.nD Cert.AdamRepIdeal.τ).loc Cert.AdamRepIdeal.main_v0_2)) (v3 : (c : Dev Cert.AdamRepIdeal.nD) → Buf (Elt Ideal) ((c.tc : Thread Cert.AdamRepIdeal.nD Cert.AdamRepIdeal.τ).loc Cert.AdamRepIdeal.main_v0_3)),
      θ_run (Cert.AdamRepIdeal.defs (F := Ideal)) (onTc (τ := Cert.AdamRepIdeal.τ) (Cert.AdamRepIdeal.main (F := Ideal))) ⟨m, fun _ => 0, g⟩ (fun r => ∀ c : Dev Cert.AdamRepIdeal.nD,
          r.2.mem ((c.tc : Thread Cert.AdamRepIdeal.nD Cert.AdamRepIdeal.τ).loc Cert.AdamRepIdeal.main_v0_0) = v0 c
          ∧ r.2.mem ((c.tc : Thread Cert.AdamRepIdeal.nD Cert.AdamRepIdeal.τ).loc Cert.AdamRepIdeal.main_v0_1) = v1 c
          ∧ r.2.mem ((c.tc : Thread Cert.AdamRepIdeal.nD Cert.AdamRepIdeal.τ).loc Cert.AdamRepIdeal.main_v0_2) = v2 c
          ∧ r.2.mem ((c.tc : Thread Cert.AdamRepIdeal.nD Cert.AdamRepIdeal.τ).loc Cert.AdamRepIdeal.main_v0_3) = v3 c
          ∧ r.2.mem ((c.tc : Thread Cert.AdamRepIdeal.nD Cert.AdamRepIdeal.τ).loc Cert.AdamRepIdeal.main_arg0) = m ((c.tc : Thread Cert.AdamRepIdeal.nD Cert.AdamRepIdeal.τ).loc Cert.AdamRepIdeal.main_arg0)
          ∧ r.2.mem ((c.tc : Thread Cert.AdamRepIdeal.nD Cert.AdamRepIdeal.τ).loc Cert.AdamRepIdeal.main_arg1) = m ((c.tc : Thread Cert.AdamRepIdeal.nD Cert.AdamRepIdeal.τ).loc Cert.AdamRepIdeal.main_arg1)
          ∧ r.2.mem ((c.tc : Thread Cert.AdamRepIdeal.nD Cert.AdamRepIdeal.τ).loc Cert.AdamRepIdeal.main_arg2) = m ((c.tc : Thread Cert.AdamRepIdeal.nD Cert.AdamRepIdeal.τ).loc Cert.AdamRepIdeal.main_arg2)
          ∧ r.2.mem ((c.tc : Thread Cert.AdamRepIdeal.nD Cert.AdamRepIdeal.τ).loc Cert.AdamRepIdeal.main_arg3) = m ((c.tc : Thread Cert.AdamRepIdeal.nD Cert.AdamRepIdeal.τ).loc Cert.AdamRepIdeal.main_arg3))
      ∧ θ_run (Cert.AdamRepRefIdeal.defs (F := Ideal)) (onTc (τ := Cert.AdamRepRefIdeal.τ) (Cert.AdamRepRefIdeal.main (F := Ideal))) ⟨m', fun _ => 0, g'⟩ (fun r => ∀ c : Dev Cert.AdamRepRefIdeal.nD,
          r.2.mem ((c.tc : Thread Cert.AdamRepRefIdeal.nD Cert.AdamRepRefIdeal.τ).loc Cert.AdamRepRefIdeal.main_v0) = v0 c
          ∧ r.2.mem ((c.tc : Thread Cert.AdamRepRefIdeal.nD Cert.AdamRepRefIdeal.τ).loc Cert.AdamRepRefIdeal.main_v24) = v1 c
          ∧ r.2.mem ((c.tc : Thread Cert.AdamRepRefIdeal.nD Cert.AdamRepRefIdeal.τ).loc Cert.AdamRepRefIdeal.main_v5) = v2 c
          ∧ r.2.mem ((c.tc : Thread Cert.AdamRepRefIdeal.nD Cert.AdamRepRefIdeal.τ).loc Cert.AdamRepRefIdeal.main_v11) = v3 c
          ∧ r.2.mem ((c.tc : Thread Cert.AdamRepRefIdeal.nD Cert.AdamRepRefIdeal.τ).loc Cert.AdamRepRefIdeal.main_arg0) = m' ((c.tc : Thread Cert.AdamRepRefIdeal.nD Cert.AdamRepRefIdeal.τ).loc Cert.AdamRepRefIdeal.main_arg0)
          ∧ r.2.mem ((c.tc : Thread Cert.AdamRepRefIdeal.nD Cert.AdamRepRefIdeal.τ).loc Cert.AdamRepRefIdeal.main_arg1) = m' ((c.tc : Thread Cert.AdamRepRefIdeal.nD Cert.AdamRepRefIdeal.τ).loc Cert.AdamRepRefIdeal.main_arg1)
          ∧ r.2.mem ((c.tc : Thread Cert.AdamRepRefIdeal.nD Cert.AdamRepRefIdeal.τ).loc Cert.AdamRepRefIdeal.main_arg2) = m' ((c.tc : Thread Cert.AdamRepRefIdeal.nD Cert.AdamRepRefIdeal.τ).loc Cert.AdamRepRefIdeal.main_arg2)
          ∧ r.2.mem ((c.tc : Thread Cert.AdamRepRefIdeal.nD Cert.AdamRepRefIdeal.τ).loc Cert.AdamRepRefIdeal.main_arg3) = m' ((c.tc : Thread Cert.AdamRepRefIdeal.nD Cert.AdamRepRefIdeal.τ).loc Cert.AdamRepRefIdeal.main_arg3))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v1) = v0 c
          ∧ r.2.mem ((c.tc : Thread Cert.AdamOutRefIdeal.nD Cert.AdamOutRefIdeal.τ).loc Cert.AdamOutRefIdeal.main_v25) = v1 c
          ∧ r.2.mem ((c.tc : Thread Cert.AdamOutRefIdeal.nD Cert.AdamOutRefIdeal.τ).loc Cert.AdamOutRefIdeal.main_v6) = v2 c
          ∧ r.2.mem ((c.tc : Thread Cert.AdamOutRefIdeal.nD Cert.AdamOutRefIdeal.τ).loc Cert.AdamOutRefIdeal.main_v12) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_AdamMlpUp_AdamMlpUpIdeal : Prop :=
  True

def algebraic_AdamMlpUpIdeal_AdamMlpUpRefIdeal [hAdamMlpUpIdeal : Cert.AdamMlpUpIdeal.Facts] [hAdamMlpUpRefIdeal : Cert.AdamMlpUpRefIdeal.Facts] : Prop :=
  ∀ (m : (ℓ : Loc Cert.AdamMlpUpIdeal.nD Cert.AdamMlpUpIdeal.τ Cert.AdamMlpUpIdeal.sig) → Buf (Elt Ideal) ℓ) (g : Dev Cert.AdamMlpUpIdeal.nD → PrngReg)
    (m' : (ℓ : Loc Cert.AdamMlpUpRefIdeal.nD Cert.AdamMlpUpRefIdeal.τ Cert.AdamMlpUpRefIdeal.sig) → Buf (Elt Ideal) ℓ) (g' : Dev Cert.AdamMlpUpRefIdeal.nD → PrngReg), Pre_AdamMlpUpIdeal m →
    (∀ c : Dev Cert.AdamMlpUpIdeal.nD,
      m' ((c.tc : Thread Cert.AdamMlpUpRefIdeal.nD Cert.AdamMlpUpRefIdeal.τ).loc Cert.AdamMlpUpRefIdeal.main_arg0) = m ((c.tc : Thread Cert.AdamMlpUpIdeal.nD Cert.AdamMlpUpIdeal.τ).loc Cert.AdamMlpUpIdeal.main_arg0)
      ∧ m' ((c.tc : Thread Cert.AdamMlpUpRefIdeal.nD Cert.AdamMlpUpRefIdeal.τ).loc Cert.AdamMlpUpRefIdeal.main_arg1) = m ((c.tc : Thread Cert.AdamMlpUpIdeal.nD Cert.AdamMlpUpIdeal.τ).loc Cert.AdamMlpUpIdeal.main_arg1)
      ∧ m' ((c.tc : Thread Cert.AdamMlpUpRefIdeal.nD Cert.AdamMlpUpRefIdeal.τ).loc Cert.AdamMlpUpRefIdeal.main_arg2) = m ((c.tc : Thread Cert.AdamMlpUpIdeal.nD Cert.AdamMlpUpIdeal.τ).loc Cert.AdamMlpUpIdeal.main_arg2)
      ∧ m' ((c.tc : Thread Cert.AdamMlpUpRefIdeal.nD Cert.AdamMlpUpRefIdeal.τ).loc Cert.AdamMlpUpRefIdeal.main_arg3) = m ((c.tc : Thread Cert.AdamMlpUpIdeal.nD Cert.AdamMlpUpIdeal.τ).loc Cert.AdamMlpUpIdeal.main_arg3)) →
    ∃ (v0 : (c : Dev Cert.AdamMlpUpIdeal.nD) → Buf (Elt Ideal) ((c.tc : Thread Cert.AdamMlpUpIdeal.nD Cert.AdamMlpUpIdeal.τ).loc Cert.AdamMlpUpIdeal.main_v0_0)) (v1 : (c : Dev Cert.AdamMlpUpIdeal.nD) → Buf (Elt Ideal) ((c.tc : Thread Cert.AdamMlpUpIdeal.nD Cert.AdamMlpUpIdeal.τ).loc Cert.AdamMlpUpIdeal.main_v0_1)) (v2 : (c : Dev Cert.AdamMlpUpIdeal.nD) → Buf (Elt Ideal) ((c.tc : Thread Cert.AdamMlpUpIdeal.nD Cert.AdamMlpUpIdeal.τ).loc Cert.AdamMlpUpIdeal.main_v0_2)) (v3 : (c : Dev Cert.AdamMlpUpIdeal.nD) → Buf (Elt Ideal) ((c.tc : Thread Cert.AdamMlpUpIdeal.nD Cert.AdamMlpUpIdeal.τ).loc Cert.AdamMlpUpIdeal.main_v0_3)),
      θ_run (Cert.AdamMlpUpIdeal.defs (F := Ideal)) (onTc (τ := Cert.AdamMlpUpIdeal.τ) (Cert.AdamMlpUpIdeal.main (F := Ideal))) ⟨m, fun _ => 0, g⟩ (fun r => ∀ c : Dev Cert.AdamMlpUpIdeal.nD,
          r.2.mem ((c.tc : Thread Cert.AdamMlpUpIdeal.nD Cert.AdamMlpUpIdeal.τ).loc Cert.AdamMlpUpIdeal.main_v0_0) = v0 c
          ∧ r.2.mem ((c.tc : Thread Cert.AdamMlpUpIdeal.nD Cert.AdamMlpUpIdeal.τ).loc Cert.AdamMlpUpIdeal.main_v0_1) = v1 c
          ∧ r.2.mem ((c.tc : Thread Cert.AdamMlpUpIdeal.nD Cert.AdamMlpUpIdeal.τ).loc Cert.AdamMlpUpIdeal.main_v0_2) = v2 c
          ∧ r.2.mem ((c.tc : Thread Cert.AdamMlpUpIdeal.nD Cert.AdamMlpUpIdeal.τ).loc Cert.AdamMlpUpIdeal.main_v0_3) = v3 c
          ∧ r.2.mem ((c.tc : Thread Cert.AdamMlpUpIdeal.nD Cert.AdamMlpUpIdeal.τ).loc Cert.AdamMlpUpIdeal.main_arg0) = m ((c.tc : Thread Cert.AdamMlpUpIdeal.nD Cert.AdamMlpUpIdeal.τ).loc Cert.AdamMlpUpIdeal.main_arg0)
          ∧ r.2.mem ((c.tc : Thread Cert.AdamMlpUpIdeal.nD Cert.AdamMlpUpIdeal.τ).loc Cert.AdamMlpUpIdeal.main_arg1) = m ((c.tc : Thread Cert.AdamMlpUpIdeal.nD Cert.AdamMlpUpIdeal.τ).loc Cert.AdamMlpUpIdeal.main_arg1)
          ∧ r.2.mem ((c.tc : Thread Cert.AdamMlpUpIdeal.nD Cert.AdamMlpUpIdeal.τ).loc Cert.AdamMlpUpIdeal.main_arg2) = m ((c.tc : Thread Cert.AdamMlpUpIdeal.nD Cert.AdamMlpUpIdeal.τ).loc Cert.AdamMlpUpIdeal.main_arg2)
          ∧ r.2.mem ((c.tc : Thread Cert.AdamMlpUpIdeal.nD Cert.AdamMlpUpIdeal.τ).loc Cert.AdamMlpUpIdeal.main_arg3) = m ((c.tc : Thread Cert.AdamMlpUpIdeal.nD Cert.AdamMlpUpIdeal.τ).loc Cert.AdamMlpUpIdeal.main_arg3))
      ∧ θ_run (Cert.AdamMlpUpRefIdeal.defs (F := Ideal)) (onTc (τ := Cert.AdamMlpUpRefIdeal.τ) (Cert.AdamMlpUpRefIdeal.main (F := Ideal))) ⟨m', fun _ => 0, g'⟩ (fun r => ∀ c : Dev Cert.AdamMlpUpRefIdeal.nD,
          r.2.mem ((c.tc : Thread Cert.AdamMlpUpRefIdeal.nD Cert.AdamMlpUpRefIdeal.τ).loc Cert.AdamMlpUpRefIdeal.main_v1) = v0 c
          ∧ r.2.mem ((c.tc : Thread Cert.AdamMlpUpRefIdeal.nD Cert.AdamMlpUpRefIdeal.τ).loc Cert.AdamMlpUpRefIdeal.main_v25) = v1 c
          ∧ r.2.mem ((c.tc : Thread Cert.AdamMlpUpRefIdeal.nD Cert.AdamMlpUpRefIdeal.τ).loc Cert.AdamMlpUpRefIdeal.main_v6) = v2 c
          ∧ r.2.mem ((c.tc : Thread Cert.AdamMlpUpRefIdeal.nD Cert.AdamMlpUpRefIdeal.τ).loc Cert.AdamMlpUpRefIdeal.main_v12) = v3 c
          ∧ r.2.mem ((c.tc : Thread Cert.AdamMlpUpRefIdeal.nD Cert.AdamMlpUpRefIdeal.τ).loc Cert.AdamMlpUpRefIdeal.main_arg0) = m' ((c.tc : Thread Cert.AdamMlpUpRefIdeal.nD Cert.AdamMlpUpRefIdeal.τ).loc Cert.AdamMlpUpRefIdeal.main_arg0)
          ∧ r.2.mem ((c.tc : Thread Cert.AdamMlpUpRefIdeal.nD Cert.AdamMlpUpRefIdeal.τ).loc Cert.AdamMlpUpRefIdeal.main_arg1) = m' ((c.tc : Thread Cert.AdamMlpUpRefIdeal.nD Cert.AdamMlpUpRefIdeal.τ).loc Cert.AdamMlpUpRefIdeal.main_arg1)
          ∧ r.2.mem ((c.tc : Thread Cert.AdamMlpUpRefIdeal.nD Cert.AdamMlpUpRefIdeal.τ).loc Cert.AdamMlpUpRefIdeal.main_arg2) = m' ((c.tc : Thread Cert.AdamMlpUpRefIdeal.nD Cert.AdamMlpUpRefIdeal.τ).loc Cert.AdamMlpUpRefIdeal.main_arg2)
          ∧ r.2.mem ((c.tc : Thread Cert.AdamMlpUpRefIdeal.nD Cert.AdamMlpUpRefIdeal.τ).loc Cert.AdamMlpUpRefIdeal.main_arg3) = m' ((c.tc : Thread Cert.AdamMlpUpRefIdeal.nD Cert.AdamMlpUpRefIdeal.τ).loc Cert.AdamMlpUpRefIdeal.main_arg3))

def preserves_AdamMlpDown_AdamMlpDownIdeal : Prop :=
  True

def algebraic_AdamMlpDownIdeal_AdamMlpDownRefIdeal [hAdamMlpDownIdeal : Cert.AdamMlpDownIdeal.Facts] [hAdamMlpDownRefIdeal : Cert.AdamMlpDownRefIdeal.Facts] : Prop :=
  ∀ (m : (ℓ : Loc Cert.AdamMlpDownIdeal.nD Cert.AdamMlpDownIdeal.τ Cert.AdamMlpDownIdeal.sig) → Buf (Elt Ideal) ℓ) (g : Dev Cert.AdamMlpDownIdeal.nD → PrngReg)
    (m' : (ℓ : Loc Cert.AdamMlpDownRefIdeal.nD Cert.AdamMlpDownRefIdeal.τ Cert.AdamMlpDownRefIdeal.sig) → Buf (Elt Ideal) ℓ) (g' : Dev Cert.AdamMlpDownRefIdeal.nD → PrngReg), Pre_AdamMlpDownIdeal m →
    (∀ c : Dev Cert.AdamMlpDownIdeal.nD,
      m' ((c.tc : Thread Cert.AdamMlpDownRefIdeal.nD Cert.AdamMlpDownRefIdeal.τ).loc Cert.AdamMlpDownRefIdeal.main_arg0) = m ((c.tc : Thread Cert.AdamMlpDownIdeal.nD Cert.AdamMlpDownIdeal.τ).loc Cert.AdamMlpDownIdeal.main_arg0)
      ∧ m' ((c.tc : Thread Cert.AdamMlpDownRefIdeal.nD Cert.AdamMlpDownRefIdeal.τ).loc Cert.AdamMlpDownRefIdeal.main_arg1) = m ((c.tc : Thread Cert.AdamMlpDownIdeal.nD Cert.AdamMlpDownIdeal.τ).loc Cert.AdamMlpDownIdeal.main_arg1)
      ∧ m' ((c.tc : Thread Cert.AdamMlpDownRefIdeal.nD Cert.AdamMlpDownRefIdeal.τ).loc Cert.AdamMlpDownRefIdeal.main_arg2) = m ((c.tc : Thread Cert.AdamMlpDownIdeal.nD Cert.AdamMlpDownIdeal.τ).loc Cert.AdamMlpDownIdeal.main_arg2)
      ∧ m' ((c.tc : Thread Cert.AdamMlpDownRefIdeal.nD Cert.AdamMlpDownRefIdeal.τ).loc Cert.AdamMlpDownRefIdeal.main_arg3) = m ((c.tc : Thread Cert.AdamMlpDownIdeal.nD Cert.AdamMlpDownIdeal.τ).loc Cert.AdamMlpDownIdeal.main_arg3)) →
    ∃ (v0 : (c : Dev Cert.AdamMlpDownIdeal.nD) → Buf (Elt Ideal) ((c.tc : Thread Cert.AdamMlpDownIdeal.nD Cert.AdamMlpDownIdeal.τ).loc Cert.AdamMlpDownIdeal.main_v0_0)) (v1 : (c : Dev Cert.AdamMlpDownIdeal.nD) → Buf (Elt Ideal) ((c.tc : Thread Cert.AdamMlpDownIdeal.nD Cert.AdamMlpDownIdeal.τ).loc Cert.AdamMlpDownIdeal.main_v0_1)) (v2 : (c : Dev Cert.AdamMlpDownIdeal.nD) → Buf (Elt Ideal) ((c.tc : Thread Cert.AdamMlpDownIdeal.nD Cert.AdamMlpDownIdeal.τ).loc Cert.AdamMlpDownIdeal.main_v0_2)) (v3 : (c : Dev Cert.AdamMlpDownIdeal.nD) → Buf (Elt Ideal) ((c.tc : Thread Cert.AdamMlpDownIdeal.nD Cert.AdamMlpDownIdeal.τ).loc Cert.AdamMlpDownIdeal.main_v0_3)),
      θ_run (Cert.AdamMlpDownIdeal.defs (F := Ideal)) (onTc (τ := Cert.AdamMlpDownIdeal.τ) (Cert.AdamMlpDownIdeal.main (F := Ideal))) ⟨m, fun _ => 0, g⟩ (fun r => ∀ c : Dev Cert.AdamMlpDownIdeal.nD,
          r.2.mem ((c.tc : Thread Cert.AdamMlpDownIdeal.nD Cert.AdamMlpDownIdeal.τ).loc Cert.AdamMlpDownIdeal.main_v0_0) = v0 c
          ∧ r.2.mem ((c.tc : Thread Cert.AdamMlpDownIdeal.nD Cert.AdamMlpDownIdeal.τ).loc Cert.AdamMlpDownIdeal.main_v0_1) = v1 c
          ∧ r.2.mem ((c.tc : Thread Cert.AdamMlpDownIdeal.nD Cert.AdamMlpDownIdeal.τ).loc Cert.AdamMlpDownIdeal.main_v0_2) = v2 c
          ∧ r.2.mem ((c.tc : Thread Cert.AdamMlpDownIdeal.nD Cert.AdamMlpDownIdeal.τ).loc Cert.AdamMlpDownIdeal.main_v0_3) = v3 c
          ∧ r.2.mem ((c.tc : Thread Cert.AdamMlpDownIdeal.nD Cert.AdamMlpDownIdeal.τ).loc Cert.AdamMlpDownIdeal.main_arg0) = m ((c.tc : Thread Cert.AdamMlpDownIdeal.nD Cert.AdamMlpDownIdeal.τ).loc Cert.AdamMlpDownIdeal.main_arg0)
          ∧ r.2.mem ((c.tc : Thread Cert.AdamMlpDownIdeal.nD Cert.AdamMlpDownIdeal.τ).loc Cert.AdamMlpDownIdeal.main_arg1) = m ((c.tc : Thread Cert.AdamMlpDownIdeal.nD Cert.AdamMlpDownIdeal.τ).loc Cert.AdamMlpDownIdeal.main_arg1)
          ∧ r.2.mem ((c.tc : Thread Cert.AdamMlpDownIdeal.nD Cert.AdamMlpDownIdeal.τ).loc Cert.AdamMlpDownIdeal.main_arg2) = m ((c.tc : Thread Cert.AdamMlpDownIdeal.nD Cert.AdamMlpDownIdeal.τ).loc Cert.AdamMlpDownIdeal.main_arg2)
          ∧ r.2.mem ((c.tc : Thread Cert.AdamMlpDownIdeal.nD Cert.AdamMlpDownIdeal.τ).loc Cert.AdamMlpDownIdeal.main_arg3) = m ((c.tc : Thread Cert.AdamMlpDownIdeal.nD Cert.AdamMlpDownIdeal.τ).loc Cert.AdamMlpDownIdeal.main_arg3))
      ∧ θ_run (Cert.AdamMlpDownRefIdeal.defs (F := Ideal)) (onTc (τ := Cert.AdamMlpDownRefIdeal.τ) (Cert.AdamMlpDownRefIdeal.main (F := Ideal))) ⟨m', fun _ => 0, g'⟩ (fun r => ∀ c : Dev Cert.AdamMlpDownRefIdeal.nD,
          r.2.mem ((c.tc : Thread Cert.AdamMlpDownRefIdeal.nD Cert.AdamMlpDownRefIdeal.τ).loc Cert.AdamMlpDownRefIdeal.main_v1) = v0 c
          ∧ r.2.mem ((c.tc : Thread Cert.AdamMlpDownRefIdeal.nD Cert.AdamMlpDownRefIdeal.τ).loc Cert.AdamMlpDownRefIdeal.main_v25) = v1 c
          ∧ r.2.mem ((c.tc : Thread Cert.AdamMlpDownRefIdeal.nD Cert.AdamMlpDownRefIdeal.τ).loc Cert.AdamMlpDownRefIdeal.main_v6) = v2 c
          ∧ r.2.mem ((c.tc : Thread Cert.AdamMlpDownRefIdeal.nD Cert.AdamMlpDownRefIdeal.τ).loc Cert.AdamMlpDownRefIdeal.main_v12) = v3 c
          ∧ r.2.mem ((c.tc : Thread Cert.AdamMlpDownRefIdeal.nD Cert.AdamMlpDownRefIdeal.τ).loc Cert.AdamMlpDownRefIdeal.main_arg0) = m' ((c.tc : Thread Cert.AdamMlpDownRefIdeal.nD Cert.AdamMlpDownRefIdeal.τ).loc Cert.AdamMlpDownRefIdeal.main_arg0)
          ∧ r.2.mem ((c.tc : Thread Cert.AdamMlpDownRefIdeal.nD Cert.AdamMlpDownRefIdeal.τ).loc Cert.AdamMlpDownRefIdeal.main_arg1) = m' ((c.tc : Thread Cert.AdamMlpDownRefIdeal.nD Cert.AdamMlpDownRefIdeal.τ).loc Cert.AdamMlpDownRefIdeal.main_arg1)
          ∧ r.2.mem ((c.tc : Thread Cert.AdamMlpDownRefIdeal.nD Cert.AdamMlpDownRefIdeal.τ).loc Cert.AdamMlpDownRefIdeal.main_arg2) = m' ((c.tc : Thread Cert.AdamMlpDownRefIdeal.nD Cert.AdamMlpDownRefIdeal.τ).loc Cert.AdamMlpDownRefIdeal.main_arg2)
          ∧ r.2.mem ((c.tc : Thread Cert.AdamMlpDownRefIdeal.nD Cert.AdamMlpDownRefIdeal.τ).loc Cert.AdamMlpDownRefIdeal.main_arg3) = m' ((c.tc : Thread Cert.AdamMlpDownRefIdeal.nD Cert.AdamMlpDownRefIdeal.τ).loc Cert.AdamMlpDownRefIdeal.main_arg3))

def preserves_AdamAda_AdamAdaIdeal : Prop :=
  True

def algebraic_AdamAdaIdeal_AdamAdaRefIdeal [hAdamAdaIdeal : Cert.AdamAdaIdeal.Facts] [hAdamAdaRefIdeal : Cert.AdamAdaRefIdeal.Facts] : Prop :=
  ∀ (m : (ℓ : Loc Cert.AdamAdaIdeal.nD Cert.AdamAdaIdeal.τ Cert.AdamAdaIdeal.sig) → Buf (Elt Ideal) ℓ) (g : Dev Cert.AdamAdaIdeal.nD → PrngReg)
    (m' : (ℓ : Loc Cert.AdamAdaRefIdeal.nD Cert.AdamAdaRefIdeal.τ Cert.AdamAdaRefIdeal.sig) → Buf (Elt Ideal) ℓ) (g' : Dev Cert.AdamAdaRefIdeal.nD → PrngReg), Pre_AdamAdaIdeal m →
    (∀ c : Dev Cert.AdamAdaIdeal.nD,
      m' ((c.tc : Thread Cert.AdamAdaRefIdeal.nD Cert.AdamAdaRefIdeal.τ).loc Cert.AdamAdaRefIdeal.main_arg0) = m ((c.tc : Thread Cert.AdamAdaIdeal.nD Cert.AdamAdaIdeal.τ).loc Cert.AdamAdaIdeal.main_arg0)
      ∧ m' ((c.tc : Thread Cert.AdamAdaRefIdeal.nD Cert.AdamAdaRefIdeal.τ).loc Cert.AdamAdaRefIdeal.main_arg1) = m ((c.tc : Thread Cert.AdamAdaIdeal.nD Cert.AdamAdaIdeal.τ).loc Cert.AdamAdaIdeal.main_arg1)
      ∧ m' ((c.tc : Thread Cert.AdamAdaRefIdeal.nD Cert.AdamAdaRefIdeal.τ).loc Cert.AdamAdaRefIdeal.main_arg2) = m ((c.tc : Thread Cert.AdamAdaIdeal.nD Cert.AdamAdaIdeal.τ).loc Cert.AdamAdaIdeal.main_arg2)
      ∧ m' ((c.tc : Thread Cert.AdamAdaRefIdeal.nD Cert.AdamAdaRefIdeal.τ).loc Cert.AdamAdaRefIdeal.main_arg3) = m ((c.tc : Thread Cert.AdamAdaIdeal.nD Cert.AdamAdaIdeal.τ).loc Cert.AdamAdaIdeal.main_arg3)) →
    ∃ (v0 : (c : Dev Cert.AdamAdaIdeal.nD) → Buf (Elt Ideal) ((c.tc : Thread Cert.AdamAdaIdeal.nD Cert.AdamAdaIdeal.τ).loc Cert.AdamAdaIdeal.main_v0_0)) (v1 : (c : Dev Cert.AdamAdaIdeal.nD) → Buf (Elt Ideal) ((c.tc : Thread Cert.AdamAdaIdeal.nD Cert.AdamAdaIdeal.τ).loc Cert.AdamAdaIdeal.main_v0_1)) (v2 : (c : Dev Cert.AdamAdaIdeal.nD) → Buf (Elt Ideal) ((c.tc : Thread Cert.AdamAdaIdeal.nD Cert.AdamAdaIdeal.τ).loc Cert.AdamAdaIdeal.main_v0_2)) (v3 : (c : Dev Cert.AdamAdaIdeal.nD) → Buf (Elt Ideal) ((c.tc : Thread Cert.AdamAdaIdeal.nD Cert.AdamAdaIdeal.τ).loc Cert.AdamAdaIdeal.main_v0_3)),
      θ_run (Cert.AdamAdaIdeal.defs (F := Ideal)) (onTc (τ := Cert.AdamAdaIdeal.τ) (Cert.AdamAdaIdeal.main (F := Ideal))) ⟨m, fun _ => 0, g⟩ (fun r => ∀ c : Dev Cert.AdamAdaIdeal.nD,
          r.2.mem ((c.tc : Thread Cert.AdamAdaIdeal.nD Cert.AdamAdaIdeal.τ).loc Cert.AdamAdaIdeal.main_v0_0) = v0 c
          ∧ r.2.mem ((c.tc : Thread Cert.AdamAdaIdeal.nD Cert.AdamAdaIdeal.τ).loc Cert.AdamAdaIdeal.main_v0_1) = v1 c
          ∧ r.2.mem ((c.tc : Thread Cert.AdamAdaIdeal.nD Cert.AdamAdaIdeal.τ).loc Cert.AdamAdaIdeal.main_v0_2) = v2 c
          ∧ r.2.mem ((c.tc : Thread Cert.AdamAdaIdeal.nD Cert.AdamAdaIdeal.τ).loc Cert.AdamAdaIdeal.main_v0_3) = v3 c
          ∧ r.2.mem ((c.tc : Thread Cert.AdamAdaIdeal.nD Cert.AdamAdaIdeal.τ).loc Cert.AdamAdaIdeal.main_arg0) = m ((c.tc : Thread Cert.AdamAdaIdeal.nD Cert.AdamAdaIdeal.τ).loc Cert.AdamAdaIdeal.main_arg0)
          ∧ r.2.mem ((c.tc : Thread Cert.AdamAdaIdeal.nD Cert.AdamAdaIdeal.τ).loc Cert.AdamAdaIdeal.main_arg1) = m ((c.tc : Thread Cert.AdamAdaIdeal.nD Cert.AdamAdaIdeal.τ).loc Cert.AdamAdaIdeal.main_arg1)
          ∧ r.2.mem ((c.tc : Thread Cert.AdamAdaIdeal.nD Cert.AdamAdaIdeal.τ).loc Cert.AdamAdaIdeal.main_arg2) = m ((c.tc : Thread Cert.AdamAdaIdeal.nD Cert.AdamAdaIdeal.τ).loc Cert.AdamAdaIdeal.main_arg2)
          ∧ r.2.mem ((c.tc : Thread Cert.AdamAdaIdeal.nD Cert.AdamAdaIdeal.τ).loc Cert.AdamAdaIdeal.main_arg3) = m ((c.tc : Thread Cert.AdamAdaIdeal.nD Cert.AdamAdaIdeal.τ).loc Cert.AdamAdaIdeal.main_arg3))
      ∧ θ_run (Cert.AdamAdaRefIdeal.defs (F := Ideal)) (onTc (τ := Cert.AdamAdaRefIdeal.τ) (Cert.AdamAdaRefIdeal.main (F := Ideal))) ⟨m', fun _ => 0, g'⟩ (fun r => ∀ c : Dev Cert.AdamAdaRefIdeal.nD,
          r.2.mem ((c.tc : Thread Cert.AdamAdaRefIdeal.nD Cert.AdamAdaRefIdeal.τ).loc Cert.AdamAdaRefIdeal.main_v0) = v0 c
          ∧ r.2.mem ((c.tc : Thread Cert.AdamAdaRefIdeal.nD Cert.AdamAdaRefIdeal.τ).loc Cert.AdamAdaRefIdeal.main_v24) = v1 c
          ∧ r.2.mem ((c.tc : Thread Cert.AdamAdaRefIdeal.nD Cert.AdamAdaRefIdeal.τ).loc Cert.AdamAdaRefIdeal.main_v5) = v2 c
          ∧ r.2.mem ((c.tc : Thread Cert.AdamAdaRefIdeal.nD Cert.AdamAdaRefIdeal.τ).loc Cert.AdamAdaRefIdeal.main_v11) = v3 c
          ∧ r.2.mem ((c.tc : Thread Cert.AdamAdaRefIdeal.nD Cert.AdamAdaRefIdeal.τ).loc Cert.AdamAdaRefIdeal.main_arg0) = m' ((c.tc : Thread Cert.AdamAdaRefIdeal.nD Cert.AdamAdaRefIdeal.τ).loc Cert.AdamAdaRefIdeal.main_arg0)
          ∧ r.2.mem ((c.tc : Thread Cert.AdamAdaRefIdeal.nD Cert.AdamAdaRefIdeal.τ).loc Cert.AdamAdaRefIdeal.main_arg1) = m' ((c.tc : Thread Cert.AdamAdaRefIdeal.nD Cert.AdamAdaRefIdeal.τ).loc Cert.AdamAdaRefIdeal.main_arg1)
          ∧ r.2.mem ((c.tc : Thread Cert.AdamAdaRefIdeal.nD Cert.AdamAdaRefIdeal.τ).loc Cert.AdamAdaRefIdeal.main_arg2) = m' ((c.tc : Thread Cert.AdamAdaRefIdeal.nD Cert.AdamAdaRefIdeal.τ).loc Cert.AdamAdaRefIdeal.main_arg2)
          ∧ r.2.mem ((c.tc : Thread Cert.AdamAdaRefIdeal.nD Cert.AdamAdaRefIdeal.τ).loc Cert.AdamAdaRefIdeal.main_arg3) = m' ((c.tc : Thread Cert.AdamAdaRefIdeal.nD Cert.AdamAdaRefIdeal.τ).loc Cert.AdamAdaRefIdeal.main_arg3))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v1) = v0 c
          ∧ r.2.mem ((c.tc : Thread Cert.AdamInRefIdeal.nD Cert.AdamInRefIdeal.τ).loc Cert.AdamInRefIdeal.main_v25) = v1 c
          ∧ r.2.mem ((c.tc : Thread Cert.AdamInRefIdeal.nD Cert.AdamInRefIdeal.τ).loc Cert.AdamInRefIdeal.main_v6) = v2 c
          ∧ r.2.mem ((c.tc : Thread Cert.AdamInRefIdeal.nD Cert.AdamInRefIdeal.τ).loc Cert.AdamInRefIdeal.main_v12) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamConv_AdamConvIdeal : Prop :=
  True

def algebraic_AdamConvIdeal_AdamConvRefIdeal [hAdamConvIdeal : Cert.AdamConvIdeal.Facts] [hAdamConvRefIdeal : Cert.AdamConvRefIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg)
    (m' : (ℓ : Loc Cert.AdamConvRefIdeal.nD Cert.AdamConvRefIdeal.τ Cert.AdamConvRefIdeal.sig) → Buf (Elt Ideal) ℓ) (g' : Dev Cert.AdamConvRefIdeal.nD → PrngReg), Pre_AdamConvIdeal m →
    (∀ c : Dev Cert.AdamConvIdeal.nD,
      m' ((c.tc : Thread Cert.AdamConvRefIdeal.nD Cert.AdamConvRefIdeal.τ).loc Cert.AdamConvRefIdeal.main_arg0) = m ((c.tc : Thread Cert.AdamConvIdeal.nD Cert.AdamConvIdeal.τ).loc Cert.AdamConvIdeal.main_arg0)
      ∧ m' ((c.tc : Thread Cert.AdamConvRefIdeal.nD Cert.AdamConvRefIdeal.τ).loc Cert.AdamConvRefIdeal.main_arg1) = m ((c.tc : Thread Cert.AdamConvIdeal.nD Cert.AdamConvIdeal.τ).loc Cert.AdamConvIdeal.main_arg1)
      ∧ m' ((c.tc : Thread Cert.AdamConvRefIdeal.nD Cert.AdamConvRefIdeal.τ).loc Cert.AdamConvRefIdeal.main_arg2) = m ((c.tc : Thread Cert.AdamConvIdeal.nD Cert.AdamConvIdeal.τ).loc Cert.AdamConvIdeal.main_arg2)
      ∧ m' ((c.tc : Thread Cert.AdamConvRefIdeal.nD Cert.AdamConvRefIdeal.τ).loc Cert.AdamConvRefIdeal.main_arg3) = m ((c.tc : Thread Cert.AdamConvIdeal.nD Cert.AdamConvIdeal.τ).loc Cert.AdamConvIdeal.main_arg3)) →
    ∃ (v0 : (c : Dev Cert.AdamConvIdeal.nD) → Buf (Elt Ideal) ((c.tc : Thread Cert.AdamConvIdeal.nD Cert.AdamConvIdeal.τ).loc Cert.AdamConvIdeal.main_v0_0)) (v1 : (c : Dev Cert.AdamConvIdeal.nD) → Buf (Elt Ideal) ((c.tc : Thread Cert.AdamConvIdeal.nD Cert.AdamConvIdeal.τ).loc Cert.AdamConvIdeal.main_v0_1)) (v2 : (c : Dev Cert.AdamConvIdeal.nD) → Buf (Elt Ideal) ((c.tc : Thread Cert.AdamConvIdeal.nD Cert.AdamConvIdeal.τ).loc Cert.AdamConvIdeal.main_v0_2)) (v3 : (c : Dev Cert.AdamConvIdeal.nD) → Buf (Elt Ideal) ((c.tc : Thread Cert.AdamConvIdeal.nD Cert.AdamConvIdeal.τ).loc Cert.AdamConvIdeal.main_v0_3)),
      θ_run (Cert.AdamConvIdeal.defs (F := Ideal)) (onTc (τ := Cert.AdamConvIdeal.τ) (Cert.AdamConvIdeal.main (F := Ideal))) ⟨m, fun _ => 0, g⟩ (fun r => ∀ c : Dev Cert.AdamConvIdeal.nD,
          r.2.mem ((c.tc : Thread Cert.AdamConvIdeal.nD Cert.AdamConvIdeal.τ).loc Cert.AdamConvIdeal.main_v0_0) = v0 c
          ∧ r.2.mem ((c.tc : Thread Cert.AdamConvIdeal.nD Cert.AdamConvIdeal.τ).loc Cert.AdamConvIdeal.main_v0_1) = v1 c
          ∧ r.2.mem ((c.tc : Thread Cert.AdamConvIdeal.nD Cert.AdamConvIdeal.τ).loc Cert.AdamConvIdeal.main_v0_2) = v2 c
          ∧ r.2.mem ((c.tc : Thread Cert.AdamConvIdeal.nD Cert.AdamConvIdeal.τ).loc Cert.AdamConvIdeal.main_v0_3) = v3 c
          ∧ r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
          ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
          ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
          ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3))
      ∧ θ_run (Cert.AdamConvRefIdeal.defs (F := Ideal)) (onTc (τ := Cert.AdamConvRefIdeal.τ) (Cert.AdamConvRefIdeal.main (F := Ideal))) ⟨m', fun _ => 0, g'⟩ (fun r => ∀ c : Dev Cert.AdamConvRefIdeal.nD,
          r.2.mem ((c.tc : Thread Cert.AdamConvRefIdeal.nD Cert.AdamConvRefIdeal.τ).loc Cert.AdamConvRefIdeal.main_v0) = v0 c
          ∧ r.2.mem ((c.tc : Thread Cert.AdamConvRefIdeal.nD Cert.AdamConvRefIdeal.τ).loc Cert.AdamConvRefIdeal.main_v24) = v1 c
          ∧ r.2.mem ((c.tc : Thread Cert.AdamConvRefIdeal.nD Cert.AdamConvRefIdeal.τ).loc Cert.AdamConvRefIdeal.main_v5) = v2 c
          ∧ r.2.mem ((c.tc : Thread Cert.AdamConvRefIdeal.nD Cert.AdamConvRefIdeal.τ).loc Cert.AdamConvRefIdeal.main_v11) = v3 c
          ∧ r.2.mem ((c.tc : Thread Cert.AdamConvRefIdeal.nD Cert.AdamConvRefIdeal.τ).loc Cert.AdamConvRefIdeal.main_arg0) = m' ((c.tc : Thread Cert.AdamConvRefIdeal.nD Cert.AdamConvRefIdeal.τ).loc Cert.AdamConvRefIdeal.main_arg0)
          ∧ r.2.mem ((c.tc : Thread Cert.AdamConvRefIdeal.nD Cert.AdamConvRefIdeal.τ).loc Cert.AdamConvRefIdeal.main_arg1) = m' ((c.tc : Thread Cert.AdamConvRefIdeal.nD Cert.AdamConvRefIdeal.τ).loc Cert.AdamConvRefIdeal.main_arg1)
          ∧ r.2.mem ((c.tc : Thread Cert.AdamConvRefIdeal.nD Cert.AdamConvRefIdeal.τ).loc Cert.AdamConvRefIdeal.main_arg2) = m' ((c.tc : Thread Cert.AdamConvRefIdeal.nD Cert.AdamConvRefIdeal.τ).loc Cert.AdamConvRefIdeal.main_arg2)
          ∧ r.2.mem ((c.tc : Thread Cert.AdamConvRefIdeal.nD Cert.AdamConvRefIdeal.τ).loc Cert.AdamConvRefIdeal.main_arg3) = m' ((c.tc : Thread Cert.AdamConvRefIdeal.nD Cert.AdamConvRefIdeal.τ).loc Cert.AdamConvRefIdeal.main_arg3))

def Claim : Prop :=
  ∃ (hKernel : Cert.Kernel.Facts) (hKernelIdeal : Cert.KernelIdeal.Facts) (hReferenceIdeal : Cert.ReferenceIdeal.Facts) (hProjDw : Cert.ProjDw.Facts) (hProjDwIdeal : Cert.ProjDwIdeal.Facts) (hProjDwRefIdeal : Cert.ProjDwRefIdeal.Facts) (hProjDx : Cert.ProjDx.Facts) (hProjDxIdeal : Cert.ProjDxIdeal.Facts) (hProjDxRefIdeal : Cert.ProjDxRefIdeal.Facts) (hDownDx : Cert.DownDx.Facts) (hDownDxIdeal : Cert.DownDxIdeal.Facts) (hDownDxRefIdeal : Cert.DownDxRefIdeal.Facts) (hDownDw : Cert.DownDw.Facts) (hDownDwIdeal : Cert.DownDwIdeal.Facts) (hDownDwRefIdeal : Cert.DownDwRefIdeal.Facts) (hUpDx : Cert.UpDx.Facts) (hUpDxIdeal : Cert.UpDxIdeal.Facts) (hUpDxRefIdeal : Cert.UpDxRefIdeal.Facts) (hUpDw : Cert.UpDw.Facts) (hUpDwIdeal : Cert.UpDwIdeal.Facts) (hUpDwRefIdeal : Cert.UpDwRefIdeal.Facts) (hOutDw : Cert.OutDw.Facts) (hOutDwIdeal : Cert.OutDwIdeal.Facts) (hOutDwRefIdeal : Cert.OutDwRefIdeal.Facts) (hSsmDx : Cert.SsmDx.Facts) (hSsmDxIdeal : Cert.SsmDxIdeal.Facts) (hSsmDxRefIdeal : Cert.SsmDxRefIdeal.Facts) (hSsmDw : Cert.SsmDw.Facts) (hSsmDwIdeal : Cert.SsmDwIdeal.Facts) (hSsmDwRefIdeal : Cert.SsmDwRefIdeal.Facts) (hGdnDx : Cert.GdnDx.Facts) (hGdnDxIdeal : Cert.GdnDxIdeal.Facts) (hGdnDxRefIdeal : Cert.GdnDxRefIdeal.Facts) (hGdnDw : Cert.GdnDw.Facts) (hGdnDwIdeal : Cert.GdnDwIdeal.Facts) (hGdnDwRefIdeal : Cert.GdnDwRefIdeal.Facts) (hProj : Cert.Proj.Facts) (hProjIdeal : Cert.ProjIdeal.Facts) (hProjRefIdeal : Cert.ProjRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hSsm : Cert.Ssm.Facts) (hSsmIdeal : Cert.SsmIdeal.Facts) (hSsmRefIdeal : Cert.SsmRefIdeal.Facts) (hSmall : Cert.Small.Facts) (hSmallIdeal : Cert.SmallIdeal.Facts) (hSmallRefIdeal : Cert.SmallRefIdeal.Facts) (hSmallDw : Cert.SmallDw.Facts) (hSmallDwIdeal : Cert.SmallDwIdeal.Facts) (hSmallDwRefIdeal : Cert.SmallDwRefIdeal.Facts) (hSmallDx : Cert.SmallDx.Facts) (hSmallDxIdeal : Cert.SmallDxIdeal.Facts) (hSmallDxRefIdeal : Cert.SmallDxRefIdeal.Facts) (hAdamUp : Cert.AdamUp.Facts) (hAdamUpIdeal : Cert.AdamUpIdeal.Facts) (hAdamUpRefIdeal : Cert.AdamUpRefIdeal.Facts) (hAdamRep : Cert.AdamRep.Facts) (hAdamRepIdeal : Cert.AdamRepIdeal.Facts) (hAdamRepRefIdeal : Cert.AdamRepRefIdeal.Facts) (hAdamOut : Cert.AdamOut.Facts) (hAdamOutIdeal : Cert.AdamOutIdeal.Facts) (hAdamOutRefIdeal : Cert.AdamOutRefIdeal.Facts) (hAdamMlpUp : Cert.AdamMlpUp.Facts) (hAdamMlpUpIdeal : Cert.AdamMlpUpIdeal.Facts) (hAdamMlpUpRefIdeal : Cert.AdamMlpUpRefIdeal.Facts) (hAdamMlpDown : Cert.AdamMlpDown.Facts) (hAdamMlpDownIdeal : Cert.AdamMlpDownIdeal.Facts) (hAdamMlpDownRefIdeal : Cert.AdamMlpDownRefIdeal.Facts) (hAdamAda : Cert.AdamAda.Facts) (hAdamAdaIdeal : Cert.AdamAdaIdeal.Facts) (hAdamAdaRefIdeal : Cert.AdamAdaRefIdeal.Facts) (hAdamIn : Cert.AdamIn.Facts) (hAdamInIdeal : Cert.AdamInIdeal.Facts) (hAdamInRefIdeal : Cert.AdamInRefIdeal.Facts) (hAdamConv : Cert.AdamConv.Facts) (hAdamConvIdeal : Cert.AdamConvIdeal.Facts) (hAdamConvRefIdeal : Cert.AdamConvRefIdeal.Facts) (hPre_finite : Cert.Pre_finite.Facts) (hPre_nonneg : Cert.Pre_nonneg.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_ProjDw (hProjDw := hProjDw)
    ∧ quiescent_ProjDwIdeal (hProjDwIdeal := hProjDwIdeal)
    ∧ quiescent_ProjDwRefIdeal (hProjDwRefIdeal := hProjDwRefIdeal)
    ∧ quiescent_ProjDx (hProjDx := hProjDx)
    ∧ quiescent_ProjDxIdeal (hProjDxIdeal := hProjDxIdeal)
    ∧ quiescent_ProjDxRefIdeal (hProjDxRefIdeal := hProjDxRefIdeal)
    ∧ quiescent_DownDx (hDownDx := hDownDx)
    ∧ quiescent_DownDxIdeal (hDownDxIdeal := hDownDxIdeal)
    ∧ quiescent_DownDxIdeal_pre_nonneg (hDownDxIdeal := hDownDxIdeal) (hPre_nonneg := hPre_nonneg)
    ∧ quiescent_DownDxRefIdeal (hDownDxRefIdeal := hDownDxRefIdeal)
    ∧ quiescent_DownDxRefIdeal_pre_nonneg (hDownDxRefIdeal := hDownDxRefIdeal) (hPre_nonneg := hPre_nonneg)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_UpDx (hUpDx := hUpDx)
    ∧ quiescent_UpDxIdeal (hUpDxIdeal := hUpDxIdeal)
    ∧ quiescent_UpDxRefIdeal (hUpDxRefIdeal := hUpDxRefIdeal)
    ∧ quiescent_UpDw (hUpDw := hUpDw)
    ∧ quiescent_UpDwIdeal (hUpDwIdeal := hUpDwIdeal)
    ∧ quiescent_UpDwRefIdeal (hUpDwRefIdeal := hUpDwRefIdeal)
    ∧ quiescent_OutDw (hOutDw := hOutDw)
    ∧ quiescent_OutDwIdeal (hOutDwIdeal := hOutDwIdeal)
    ∧ quiescent_OutDwRefIdeal (hOutDwRefIdeal := hOutDwRefIdeal)
    ∧ quiescent_SsmDx (hSsmDx := hSsmDx)
    ∧ quiescent_SsmDxIdeal (hSsmDxIdeal := hSsmDxIdeal)
    ∧ quiescent_SsmDxRefIdeal (hSsmDxRefIdeal := hSsmDxRefIdeal)
    ∧ quiescent_SsmDw (hSsmDw := hSsmDw)
    ∧ quiescent_SsmDwIdeal (hSsmDwIdeal := hSsmDwIdeal)
    ∧ quiescent_SsmDwRefIdeal (hSsmDwRefIdeal := hSsmDwRefIdeal)
    ∧ quiescent_GdnDx (hGdnDx := hGdnDx)
    ∧ quiescent_GdnDxIdeal (hGdnDxIdeal := hGdnDxIdeal)
    ∧ quiescent_GdnDxRefIdeal (hGdnDxRefIdeal := hGdnDxRefIdeal)
    ∧ quiescent_GdnDw (hGdnDw := hGdnDw)
    ∧ quiescent_GdnDwIdeal (hGdnDwIdeal := hGdnDwIdeal)
    ∧ quiescent_GdnDwRefIdeal (hGdnDwRefIdeal := hGdnDwRefIdeal)
    ∧ quiescent_Proj (hProj := hProj)
    ∧ quiescent_ProjIdeal (hProjIdeal := hProjIdeal)
    ∧ quiescent_ProjRefIdeal (hProjRefIdeal := hProjRefIdeal)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_Ssm (hSsm := hSsm)
    ∧ quiescent_SsmIdeal (hSsmIdeal := hSsmIdeal)
    ∧ quiescent_SsmRefIdeal (hSsmRefIdeal := hSsmRefIdeal)
    ∧ quiescent_Small (hSmall := hSmall)
    ∧ quiescent_SmallIdeal (hSmallIdeal := hSmallIdeal)
    ∧ quiescent_SmallRefIdeal (hSmallRefIdeal := hSmallRefIdeal)
    ∧ quiescent_SmallDw (hSmallDw := hSmallDw)
    ∧ quiescent_SmallDwIdeal (hSmallDwIdeal := hSmallDwIdeal)
    ∧ quiescent_SmallDwRefIdeal (hSmallDwRefIdeal := hSmallDwRefIdeal)
    ∧ quiescent_SmallDx (hSmallDx := hSmallDx)
    ∧ quiescent_SmallDxIdeal (hSmallDxIdeal := hSmallDxIdeal)
    ∧ quiescent_SmallDxRefIdeal (hSmallDxRefIdeal := hSmallDxRefIdeal)
    ∧ quiescent_AdamUp (hAdamUp := hAdamUp)
    ∧ quiescent_AdamUpIdeal (hAdamUpIdeal := hAdamUpIdeal)
    ∧ quiescent_AdamUpRefIdeal (hAdamUpRefIdeal := hAdamUpRefIdeal)
    ∧ quiescent_AdamRep (hAdamRep := hAdamRep)
    ∧ quiescent_AdamRepIdeal (hAdamRepIdeal := hAdamRepIdeal)
    ∧ quiescent_AdamRepRefIdeal (hAdamRepRefIdeal := hAdamRepRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamMlpUp (hAdamMlpUp := hAdamMlpUp)
    ∧ quiescent_AdamMlpUpIdeal (hAdamMlpUpIdeal := hAdamMlpUpIdeal)
    ∧ quiescent_AdamMlpUpRefIdeal (hAdamMlpUpRefIdeal := hAdamMlpUpRefIdeal)
    ∧ quiescent_AdamMlpDown (hAdamMlpDown := hAdamMlpDown)
    ∧ quiescent_AdamMlpDownIdeal (hAdamMlpDownIdeal := hAdamMlpDownIdeal)
    ∧ quiescent_AdamMlpDownRefIdeal (hAdamMlpDownRefIdeal := hAdamMlpDownRefIdeal)
    ∧ quiescent_AdamAda (hAdamAda := hAdamAda)
    ∧ quiescent_AdamAdaIdeal (hAdamAdaIdeal := hAdamAdaIdeal)
    ∧ quiescent_AdamAdaRefIdeal (hAdamAdaRefIdeal := hAdamAdaRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamConv (hAdamConv := hAdamConv)
    ∧ quiescent_AdamConvIdeal (hAdamConvIdeal := hAdamConvIdeal)
    ∧ quiescent_AdamConvRefIdeal (hAdamConvRefIdeal := hAdamConvRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_ProjDw_ProjDwIdeal
    ∧ algebraic_ProjDwIdeal_ProjDwRefIdeal (hProjDwIdeal := hProjDwIdeal) (hProjDwRefIdeal := hProjDwRefIdeal)
    ∧ preserves_ProjDx_ProjDxIdeal
    ∧ algebraic_ProjDxIdeal_ProjDxRefIdeal (hProjDxIdeal := hProjDxIdeal) (hProjDxRefIdeal := hProjDxRefIdeal)
    ∧ preserves_DownDx_DownDxIdeal
    ∧ algebraic_DownDxIdeal_DownDxRefIdeal_pre_nonneg (hDownDxIdeal := hDownDxIdeal) (hDownDxRefIdeal := hDownDxRefIdeal) (hPre_nonneg := hPre_nonneg)
    ∧ preserves_DownDw_DownDwIdeal
    ∧ algebraic_DownDwIdeal_DownDwRefIdeal (hDownDwIdeal := hDownDwIdeal) (hDownDwRefIdeal := hDownDwRefIdeal)
    ∧ preserves_UpDx_UpDxIdeal
    ∧ algebraic_UpDxIdeal_UpDxRefIdeal (hUpDxIdeal := hUpDxIdeal) (hUpDxRefIdeal := hUpDxRefIdeal)
    ∧ preserves_UpDw_UpDwIdeal
    ∧ algebraic_UpDwIdeal_UpDwRefIdeal (hUpDwIdeal := hUpDwIdeal) (hUpDwRefIdeal := hUpDwRefIdeal)
    ∧ preserves_OutDw_OutDwIdeal
    ∧ algebraic_OutDwIdeal_OutDwRefIdeal (hOutDwIdeal := hOutDwIdeal) (hOutDwRefIdeal := hOutDwRefIdeal)
    ∧ preserves_SsmDx_SsmDxIdeal
    ∧ algebraic_SsmDxIdeal_SsmDxRefIdeal (hSsmDxIdeal := hSsmDxIdeal) (hSsmDxRefIdeal := hSsmDxRefIdeal)
    ∧ preserves_SsmDw_SsmDwIdeal
    ∧ algebraic_SsmDwIdeal_SsmDwRefIdeal (hSsmDwIdeal := hSsmDwIdeal) (hSsmDwRefIdeal := hSsmDwRefIdeal)
    ∧ preserves_GdnDx_GdnDxIdeal
    ∧ algebraic_GdnDxIdeal_GdnDxRefIdeal (hGdnDxIdeal := hGdnDxIdeal) (hGdnDxRefIdeal := hGdnDxRefIdeal)
    ∧ preserves_GdnDw_GdnDwIdeal
    ∧ algebraic_GdnDwIdeal_GdnDwRefIdeal (hGdnDwIdeal := hGdnDwIdeal) (hGdnDwRefIdeal := hGdnDwRefIdeal)
    ∧ preserves_Proj_ProjIdeal
    ∧ algebraic_ProjIdeal_ProjRefIdeal (hProjIdeal := hProjIdeal) (hProjRefIdeal := hProjRefIdeal)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_Ssm_SsmIdeal
    ∧ algebraic_SsmIdeal_SsmRefIdeal (hSsmIdeal := hSsmIdeal) (hSsmRefIdeal := hSsmRefIdeal)
    ∧ preserves_Small_SmallIdeal
    ∧ algebraic_SmallIdeal_SmallRefIdeal (hSmallIdeal := hSmallIdeal) (hSmallRefIdeal := hSmallRefIdeal)
    ∧ preserves_SmallDw_SmallDwIdeal
    ∧ algebraic_SmallDwIdeal_SmallDwRefIdeal (hSmallDwIdeal := hSmallDwIdeal) (hSmallDwRefIdeal := hSmallDwRefIdeal)
    ∧ preserves_SmallDx_SmallDxIdeal
    ∧ algebraic_SmallDxIdeal_SmallDxRefIdeal (hSmallDxIdeal := hSmallDxIdeal) (hSmallDxRefIdeal := hSmallDxRefIdeal)
    ∧ preserves_AdamUp_AdamUpIdeal
    ∧ algebraic_AdamUpIdeal_AdamUpRefIdeal (hAdamUpIdeal := hAdamUpIdeal) (hAdamUpRefIdeal := hAdamUpRefIdeal)
    ∧ preserves_AdamRep_AdamRepIdeal
    ∧ algebraic_AdamRepIdeal_AdamRepRefIdeal (hAdamRepIdeal := hAdamRepIdeal) (hAdamRepRefIdeal := hAdamRepRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamMlpUp_AdamMlpUpIdeal
    ∧ algebraic_AdamMlpUpIdeal_AdamMlpUpRefIdeal (hAdamMlpUpIdeal := hAdamMlpUpIdeal) (hAdamMlpUpRefIdeal := hAdamMlpUpRefIdeal)
    ∧ preserves_AdamMlpDown_AdamMlpDownIdeal
    ∧ algebraic_AdamMlpDownIdeal_AdamMlpDownRefIdeal (hAdamMlpDownIdeal := hAdamMlpDownIdeal) (hAdamMlpDownRefIdeal := hAdamMlpDownRefIdeal)
    ∧ preserves_AdamAda_AdamAdaIdeal
    ∧ algebraic_AdamAdaIdeal_AdamAdaRefIdeal (hAdamAdaIdeal := hAdamAdaIdeal) (hAdamAdaRefIdeal := hAdamAdaRefIdeal)
    ∧ preserves_AdamIn_AdamInIdeal
    ∧ algebraic_AdamInIdeal_AdamInRefIdeal (hAdamInIdeal := hAdamInIdeal) (hAdamInRefIdeal := hAdamInRefIdeal)
    ∧ preserves_AdamConv_AdamConvIdeal
    ∧ algebraic_AdamConvIdeal_AdamConvRefIdeal (hAdamConvIdeal := hAdamConvIdeal) (hAdamConvRefIdeal := hAdamConvRefIdeal)
-- ==== Pre_finite.lean ====
abbrev S4096x2048 : Shape := ⟨2, ![4096, 2048]⟩
abbrev S4096x8192 : Shape := ⟨2, ![4096, 8192]⟩
abbrev S4096x14336 : Shape := ⟨2, ![4096, 14336]⟩
abbrev S4096x32 : Shape := ⟨2, ![4096, 32]⟩
abbrev S1x32 : Shape := ⟨2, ![1, 32]⟩
abbrev S1x2048 : Shape := ⟨2, ![1, 2048]⟩
abbrev S8x32x256x128 : Shape := ⟨4, ![8, 32, 256, 128]⟩
abbrev S4096x4096 : Shape := ⟨2, ![4096, 4096]⟩
abbrev S_ : Shape := ⟨0, ![]⟩

class Facts : Prop where
  slices_S4096x8192_S4096x4096_0_0 : S4096x8192.Slices ![0, 0] S4096x4096
  bitsLt_bf16_f32 : FTy.bits .bf16 < FTy.bits .f32
  slices_S4096x14336_S4096x2048_0_0 : S4096x14336.Slices ![0, 0] S4096x2048
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096x32 : S_.BroadcastsInDim S4096x32 (![] : Fin 0 → Fin S4096x32.rank)
  reducesTo_S4096x32_S_d0_1 : S4096x32.ReducesTo [0, 1] S_
  bcast_S_S1x32 : S_.BroadcastsInDim S1x32 (![] : Fin 0 → Fin S1x32.rank)
  reducesTo_S1x32_S_d0_1 : S1x32.ReducesTo [0, 1] S_
  bcast_S_S1x2048 : S_.BroadcastsInDim S1x2048 (![] : Fin 0 → Fin S1x2048.rank)
  reducesTo_S1x2048_S_d0_1 : S1x2048.ReducesTo [0, 1] S_
  bcast_S_S8x32x256x128 : S_.BroadcastsInDim S8x32x256x128 (![] : Fin 0 → Fin S8x32x256x128.rank)
  reducesTo_S8x32x256x128_S_d0_1_2_3 : S8x32x256x128.ReducesTo [0, 1, 2, 3] S_

variable [Facts]

def fn_part3 {F : FTy → Type} [FloatOps F] (main_v47 : IVec S_ 1) (main_v51 : IVec S_ 1) : IVec S_ 1 :=
  let main_v52 : IVec S_ 1 := andi main_v47 main_v51
  main_v52

def fn_part2 {F : FTy → Type} [FloatOps F] (main_arg7 : FVec F S1x2048 .f32) (main_arg8 : FVec F S4096x2048 .f32) (main_arg9 : FVec F S8x32x256x128 .f32) (main_v32 : IVec S_ 1) (main_v33 : FVec F S1x32 .f32) (main_v34 : FVec F S1x32 .f32) : IVec S_ 1 :=
  let main_v35 : IVec S1x32 1 := cmpf .olt main_v33 main_v34
  let main_c_11 : IVec S_ 1 := constantI S_ 1 1#1
  let main_v36 : IVec S_ 1 := (fun x v => Host.reduce IntOp.andi x v reducesTo_S1x32_S_d0_1 h_S_) main_v35 main_c_11
  let main_v37 : IVec S_ 1 := andi main_v32 main_v36
  let main_v38 : FVec F S1x2048 .f32 := Host.absf main_arg7
  let main_cst_12 : FVec F S_ .f32 := constant S_ .f32 0x7F800000#32
  let main_v39 : FVec F S1x2048 .f32 := broadcastInDim S1x2048 ![] bcast_S_S1x2048 main_cst_12
  let main_v40 : IVec S1x2048 1 := cmpf .olt main_v38 main_v39
  let main_c_13 : IVec S_ 1 := constantI S_ 1 1#1
  let main_v41 : IVec S_ 1 := (fun x v => Host.reduce IntOp.andi x v reducesTo_S1x2048_S_d0_1 h_S_) main_v40 main_c_13
  let main_v42 : IVec S_ 1 := andi main_v37 main_v41
  let main_v43 : FVec F S4096x2048 .f32 := Host.absf main_arg8
  let main_cst_14 : FVec F S_ .f32 := constant S_ .f32 0x7F800000#32
  let main_v44 : FVec F S4096x2048 .f32 := broadcastInDim S4096x2048 ![] bcast_S_S4096x2048 main_cst_14
  let main_v45 : IVec S4096x2048 1 := cmpf .olt main_v43 main_v44
  let main_c_15 : IVec S_ 1 := constantI S_ 1 1#1
  let main_v46 : IVec S_ 1 := (fun x v => Host.reduce IntOp.andi x v reducesTo_S4096x2048_S_d0_1 h_S_) main_v45 main_c_15
  let main_v47 : IVec S_ 1 := andi main_v42 main_v46
  let main_v48 : FVec F S8x32x256x128 .f32 := Host.absf main_arg9
  let main_cst_16 : FVec F S_ .f32 := constant S_ .f32 0x7F800000#32
  let main_v49 : FVec F S8x32x256x128 .f32 := broadcastInDim S8x32x256x128 ![] bcast_S_S8x32x256x128 main_cst_16
  let main_v50 : IVec S8x32x256x128 1 := cmpf .olt main_v48 main_v49
  let main_c_17 : IVec S_ 1 := constantI S_ 1 1#1
  let main_v51 : IVec S_ 1 := (fun x v => Host.reduce IntOp.andi x v reducesTo_S8x32x256x128_S_d0_1_2_3 h_S_) main_v50 main_c_17
  fn_part3 (F := F) main_v47 main_v51

def fn_part1 {F : FTy → Type} [FloatOps F] (main_arg3 : FVec F S4096x32 .f32) (main_arg4 : FVec F S1x32 .f32) (main_arg5 : FVec F S1x32 .f32) (main_arg6 : FVec F S1x32 .f32) (main_arg7 : FVec F S1x2048 .f32) (main_arg8 : FVec F S4096x2048 .f32) (main_arg9 : FVec F S8x32x256x128 .f32) (main_v17 : IVec S_ 1) : IVec S_ 1 :=
  let main_v18 : FVec F S4096x32 .f32 := Host.absf main_arg3
  let main_cst_4 : FVec F S_ .f32 := constant S_ .f32 0x7F800000#32
  let main_v19 : FVec F S4096x32 .f32 := broadcastInDim S4096x32 ![] bcast_S_S4096x32 main_cst_4
  let main_v20 : IVec S4096x32 1 := cmpf .olt main_v18 main_v19
  let main_c_5 : IVec S_ 1 := constantI S_ 1 1#1
  let main_v21 : IVec S_ 1 := (fun x v => Host.reduce IntOp.andi x v reducesTo_S4096x32_S_d0_1 h_S_) main_v20 main_c_5
  let main_v22 : IVec S_ 1 := andi main_v17 main_v21
  let main_v23 : FVec F S1x32 .f32 := Host.absf main_arg4
  let main_cst_6 : FVec F S_ .f32 := constant S_ .f32 0x7F800000#32
  let main_v24 : FVec F S1x32 .f32 := broadcastInDim S1x32 ![] bcast_S_S1x32 main_cst_6
  let main_v25 : IVec S1x32 1 := cmpf .olt main_v23 main_v24
  let main_c_7 : IVec S_ 1 := constantI S_ 1 1#1
  let main_v26 : IVec S_ 1 := (fun x v => Host.reduce IntOp.andi x v reducesTo_S1x32_S_d0_1 h_S_) main_v25 main_c_7
  let main_v27 : IVec S_ 1 := andi main_v22 main_v26
  let main_v28 : FVec F S1x32 .f32 := Host.absf main_arg5
  let main_cst_8 : FVec F S_ .f32 := constant S_ .f32 0x7F800000#32
  let main_v29 : FVec F S1x32 .f32 := broadcastInDim S1x32 ![] bcast_S_S1x32 main_cst_8
  let main_v30 : IVec S1x32 1 := cmpf .olt main_v28 main_v29
  let main_c_9 : IVec S_ 1 := constantI S_ 1 1#1
  let main_v31 : IVec S_ 1 := (fun x v => Host.reduce IntOp.andi x v reducesTo_S1x32_S_d0_1 h_S_) main_v30 main_c_9
  let main_v32 : IVec S_ 1 := andi main_v27 main_v31
  let main_v33 : FVec F S1x32 .f32 := Host.absf main_arg6
  let main_cst_10 : FVec F S_ .f32 := constant S_ .f32 0x7F800000#32
  let main_v34 : FVec F S1x32 .f32 := broadcastInDim S1x32 ![] bcast_S_S1x32 main_cst_10
  fn_part2 (F := F) main_arg7 main_arg8 main_arg9 main_v32 main_v33 main_v34

def fn {F : FTy → Type} [FloatOps F] (main_arg0 : FVec F S4096x2048 .f32) (main_arg1 : FVec F S4096x8192 .bf16) (main_arg2 : FVec F S4096x14336 .bf16) (main_arg3 : FVec F S4096x32 .f32) (main_arg4 : FVec F S1x32 .f32) (main_arg5 : FVec F S1x32 .f32) (main_arg6 : FVec F S1x32 .f32) (main_arg7 : FVec F S1x2048 .f32) (main_arg8 : FVec F S4096x2048 .f32) (main_arg9 : FVec F S8x32x256x128 .f32) (main_arg10 : FVec F S4096x14336 .bf16) (main_arg11 : FVec F S4096x8192 .bf16) : IVec S_ 1 :=
  let main_v0 : FVec F S4096x4096 .bf16 := (extractStridedSlice S4096x4096 ![0, 0] · slices_S4096x8192_S4096x4096_0_0) main_arg1
  let main_v1 : FVec F S4096x4096 .f32 := (extf .f32 · bitsLt_bf16_f32) main_v0
  let main_v2 : FVec F S4096x2048 .bf16 := (extractStridedSlice S4096x2048 ![0, 0] · slices_S4096x14336_S4096x2048_0_0) main_arg2
  let main_v3 : FVec F S4096x2048 .f32 := (extf .f32 · bitsLt_bf16_f32) main_v2
  let main_v4 : FVec F S4096x2048 .f32 := Host.absf main_arg0
  let main_cst : FVec F S_ .f32 := constant S_ .f32 0x7F800000#32
  let main_v5 : FVec F S4096x2048 .f32 := broadcastInDim S4096x2048 ![] bcast_S_S4096x2048 main_cst
  let main_v6 : IVec S4096x2048 1 := cmpf .olt main_v4 main_v5
  let main_c : IVec S_ 1 := constantI S_ 1 1#1
  let main_v7 : IVec S_ 1 := (fun x v => Host.reduce IntOp.andi x v reducesTo_S4096x2048_S_d0_1 h_S_) main_v6 main_c
  let main_v8 : FVec F S4096x4096 .f32 := Host.absf main_v1
  let main_cst_0 : FVec F S_ .f32 := constant S_ .f32 0x7F800000#32
  let main_v9 : FVec F S4096x4096 .f32 := broadcastInDim S4096x4096 ![] bcast_S_S4096x4096 main_cst_0
  let main_v10 : IVec S4096x4096 1 := cmpf .olt main_v8 main_v9
  let main_c_1 : IVec S_ 1 := constantI S_ 1 1#1
  let main_v11 : IVec S_ 1 := (fun x v => Host.reduce IntOp.andi x v reducesTo_S4096x4096_S_d0_1 h_S_) main_v10 main_c_1
  let main_v12 : IVec S_ 1 := andi main_v7 main_v11
  let main_v13 : FVec F S4096x2048 .f32 := Host.absf main_v3
  let main_cst_2 : FVec F S_ .f32 := constant S_ .f32 0x7F800000#32
  let main_v14 : FVec F S4096x2048 .f32 := broadcastInDim S4096x2048 ![] bcast_S_S4096x2048 main_cst_2
  let main_v15 : IVec S4096x2048 1 := cmpf .olt main_v13 main_v14
  let main_c_3 : IVec S_ 1 := constantI S_ 1 1#1
  let main_v16 : IVec S_ 1 := (fun x v => Host.reduce IntOp.andi x v reducesTo_S4096x2048_S_d0_1 h_S_) main_v15 main_c_3
  let main_v17 : IVec S_ 1 := andi main_v12 main_v16
  fn_part1 (F := F) main_arg3 main_arg4 main_arg5 main_arg6 main_arg7 main_arg8 main_arg9 main_v17
-- ==== Pre_nonneg.lean ====
abbrev S4096x1024 : Shape := ⟨2, ![4096, 1024]⟩
abbrev S4096x4096 : Shape := ⟨2, ![4096, 4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel

variable [Facts]

def fn {F : FTy → Type} [FloatOps F] (main_arg0 : FVec F S4096x1024 .bf16) (main_arg1 : FVec F S4096x1024 .bf16) (main_arg2 : FVec F S4096x4096 .bf16) : IVec S_ 1 :=
  let main_cst : FVec F S_ .bf16 := constant S_ .bf16 0x0000#16
  let main_v0 : FVec F S4096x4096 .bf16 := broadcastInDim S4096x4096 ![] bcast_S_S4096x4096 main_cst
  let main_v1 : IVec S4096x4096 1 := cmpf .oge main_arg2 main_v0
  let main_c : IVec S_ 1 := constantI S_ 1 1#1
  let main_v2 : IVec S_ 1 := (fun x v => Host.reduce IntOp.andi x v reducesTo_S4096x4096_S_d0_1 h_S_) main_v1 main_c
  main_v2
-- ==== Kernel.lean ====
abbrev S4096x2048 : Shape := ⟨2, ![4096, 2048]⟩
abbrev S4096x8192 : Shape := ⟨2, ![4096, 8192]⟩
abbrev S4096x14336 : Shape := ⟨2, ![4096, 14336]⟩
abbrev S4096x32 : Shape := ⟨2, ![4096, 32]⟩
abbrev S1x32 : Shape := ⟨2, ![1, 32]⟩
abbrev S1x2048 : Shape := ⟨2, ![1, 2048]⟩
abbrev S8x32x256x128 : Shape := ⟨4, ![8, 32, 256, 128]⟩
abbrev S4096x8x4 : Shape := ⟨3, ![4096, 8, 4]⟩
abbrev S8x4096x4 : Shape := ⟨3, ![8, 4096, 4]⟩
abbrev S8x4 : Shape := ⟨2, ![8, 4]⟩
abbrev S8x1x4 : Shape := ⟨3, ![8, 1, 4]⟩
abbrev S8x3x4 : Shape := ⟨3, ![8, 3, 4]⟩
abbrev S8x1x256 : Shape := ⟨3, ![8, 1, 256]⟩
abbrev S128x2048 : Shape := ⟨2, ![128, 2048]⟩
abbrev S128x1024 : Shape := ⟨2, ![128, 1024]⟩
abbrev S8x128x4 : Shape := ⟨3, ![8, 128, 4]⟩
abbrev S8x1x256x128 : Shape := ⟨4, ![8, 1, 256, 128]⟩
abbrev S128x4096 : Shape := ⟨2, ![128, 4096]⟩
abbrev S2048x128 : Shape := ⟨2, ![2048, 128]⟩
abbrev S128x128 : Shape := ⟨2, ![128, 128]⟩
abbrev S1x128 : Shape := ⟨2, ![1, 128]⟩
abbrev S256x256 : Shape := ⟨2, ![256, 256]⟩
abbrev S128x256 : Shape := ⟨2, ![128, 256]⟩
abbrev S128x1 : Shape := ⟨2, ![128, 1]⟩
abbrev S1x1x256x128 : Shape := ⟨4, ![1, 1, 256, 128]⟩
abbrev S256x128 : Shape := ⟨2, ![256, 128]⟩
abbrev S1x128x4 : Shape := ⟨3, ![1, 128, 4]⟩
abbrev S128x4 : Shape := ⟨2, ![128, 4]⟩
abbrev S1x3x4 : Shape := ⟨3, ![1, 3, 4]⟩
abbrev S3x4 : Shape := ⟨2, ![3, 4]⟩
abbrev S1x4 : Shape := ⟨2, ![1, 4]⟩
abbrev S1x1 : Shape := ⟨2, ![1, 1]⟩
abbrev S1x256 : Shape := ⟨2, ![1, 256]⟩
abbrev S128 : Shape := ⟨1, ![128]⟩
abbrev S1x1x256 : Shape := ⟨3, ![1, 1, 256]⟩
abbrev S256 : Shape := ⟨1, ![256]⟩
abbrev S64x128 : Shape := ⟨2, ![64, 128]⟩
abbrev S1 : Shape := ⟨1, ![1]⟩
abbrev S8x256 : Shape := ⟨2, ![8, 256]⟩
abbrev S3x256 : Shape := ⟨2, ![3, 256]⟩
abbrev S3x1 : Shape := ⟨2, ![3, 1]⟩

abbrev nBuf : Space → Nat
  | .hbm => 27
  | .vmem => 27
  | .smem => 0
  | _ => 0

abbrev bufTy : (tb : Table) → Fin (tcTables nBuf tb) → BufTy
  | .hbm, ⟨0, _⟩ => ⟨S4096x2048, .f32⟩
  | .hbm, ⟨1, _⟩ => ⟨S4096x8192, .bf16⟩
  | .hbm, ⟨2, _⟩ => ⟨S4096x14336, .bf16⟩
  | .hbm, ⟨3, _⟩ => ⟨S4096x32, .f32⟩
  | .hbm, ⟨4, _⟩ => ⟨S1x32, .f32⟩
  | .hbm, ⟨5, _⟩ => ⟨S1x32, .f32⟩
  | .hbm, ⟨6, _⟩ => ⟨S1x32, .f32⟩
  | .hbm, ⟨7, _⟩ => ⟨S1x2048, .f32⟩
  | .hbm, ⟨8, _⟩ => ⟨S4096x2048, .f32⟩
  | .hbm, ⟨9, _⟩ => ⟨S8x32x256x128, .f32⟩
  | .hbm, ⟨10, _⟩ => ⟨S4096x14336, .bf16⟩
  | .hbm, ⟨11, _⟩ => ⟨S4096x8192, .bf16⟩
  | .hbm, ⟨12, _⟩ => ⟨S4096x8x4, .f32⟩
  | .hbm, ⟨13, _⟩ => ⟨S8x4096x4, .f32⟩
  | .hbm, ⟨14, _⟩ => ⟨S8x4, .f32⟩
  | .hbm, ⟨15, _⟩ => ⟨S8x4, .f32⟩
  | .hbm, ⟨16, _⟩ => ⟨S8x4, .f32⟩
  | .hbm, ⟨17, _⟩ => ⟨S8x1x4, .f32⟩
  | .hbm, ⟨18, _⟩ => ⟨S8x1x4, .f32⟩
  | .hbm, ⟨19, _⟩ => ⟨S8x1x4, .f32⟩
  | .hbm, ⟨20, _⟩ => ⟨S8x3x4, .f32⟩
  | .hbm, ⟨21, _⟩ => ⟨S8x1x256, .f32⟩
  | .hbm, ⟨22, _⟩ => ⟨S4096x8192, .bf16⟩
  | .hbm, ⟨23, _⟩ => ⟨S4096x14336, .bf16⟩
  | .hbm, ⟨24, _⟩ => ⟨S8x4096x4, .f32⟩
  | .hbm, ⟨25, _⟩ => ⟨S8x3x4, .f32⟩
  | .hbm, ⟨26, _⟩ => ⟨S8x1x256, .f32⟩
  | .local _ .vmem, ⟨0, _⟩ => ⟨S128x2048, .f32⟩
  | .local _ .vmem, ⟨1, _⟩ => ⟨S128x2048, .f32⟩
  | .local _ .vmem, ⟨2, _⟩ => ⟨S128x2048, .bf16⟩
  | .local _ .vmem, ⟨3, _⟩ => ⟨S128x2048, .bf16⟩
  | .local _ .vmem, ⟨4, _⟩ => ⟨S128x1024, .bf16⟩
  | .local _ .vmem, ⟨5, _⟩ => ⟨S128x1024, .bf16⟩
  | .local _ .vmem, ⟨6, _⟩ => ⟨S128x1024, .bf16⟩
  | .local _ .vmem, ⟨7, _⟩ => ⟨S128x1024, .bf16⟩
  | .local _ .vmem, ⟨8, _⟩ => ⟨S128x2048, .bf16⟩
  | .local _ .vmem, ⟨9, _⟩ => ⟨S128x2048, .bf16⟩
  | .local _ .vmem, ⟨10, _⟩ => ⟨S8x128x4, .f32⟩
  | .local _ .vmem, ⟨11, _⟩ => ⟨S8x128x4, .f32⟩
  | .local _ .vmem, ⟨12, _⟩ => ⟨S8x3x4, .f32⟩
  | .local _ .vmem, ⟨13, _⟩ => ⟨S8x1x256, .f32⟩
  | .local _ .vmem, ⟨14, _⟩ => ⟨S128x2048, .f32⟩
  | .local _ .vmem, ⟨15, _⟩ => ⟨S128x2048, .f32⟩
  | .local _ .vmem, ⟨16, _⟩ => ⟨S8x1x256x128, .f32⟩
  | .local _ .vmem, ⟨17, _⟩ => ⟨S8x1x256x128, .f32⟩
  | .local _ .vmem, ⟨18, _⟩ => ⟨S128x4096, .bf16⟩
  | .local _ .vmem, ⟨19, _⟩ => ⟨S128x4096, .bf16⟩
  | .local _ .vmem, ⟨20, _⟩ => ⟨S128x2048, .bf16⟩
  | .local _ .vmem, ⟨21, _⟩ => ⟨S128x2048, .bf16⟩
  | .local _ .vmem, ⟨22, _⟩ => ⟨S8x128x4, .f32⟩
  | .local _ .vmem, ⟨23, _⟩ => ⟨S8x128x4, .f32⟩
  | .local _ .vmem, ⟨24, _⟩ => ⟨S8x3x4, .f32⟩
  | .local _ .vmem, ⟨25, _⟩ => ⟨S8x1x256, .f32⟩
  | .local _ .vmem, ⟨26, _⟩ => ⟨S2048x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10_0 : Ref sig .tc := ⟨.hbm, 22, rfl⟩
abbrev main_v10_1 : Ref sig .tc := ⟨.hbm, 23, rfl⟩
abbrev main_v10_2 : Ref sig .tc := ⟨.hbm, 24, rfl⟩
abbrev main_v10_3 : Ref sig .tc := ⟨.hbm, 25, rfl⟩
abbrev main_v10_4 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg14_0 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem14_0 : DmaSem sig := 25

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc0_transform_2 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c2_i32 : BitVec 32 := 2#32
  let v1 : BitVec 32 := Scalar.addi c2_i32 arg0
  let c0_i32 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c3_i32 : BitVec 32 := 3#32
  let v1 : BitVec 32 := Scalar.addi c3_i32 arg0
  let c0_i32 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let v1 : BitVec 32 := Scalar.addi c0_i32 arg0
  let c0_i32_0 : BitVec 32 := 0#32
  ![v0.toNat, v1.toNat]

def cc0_transform_5 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![arg0.toNat, v0.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc0_transform_9 (i : grid0.Coords) : Fin 4 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let v1 : BitVec 32 := Scalar.addi c0_i32 arg0
  let c0_i32_0 : BitVec 32 := 0#32
  ![v0.toNat, v1.toNat]

def cc0_transform_14 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![arg0.toNat, v0.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x128x4 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S8x3x4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 1 → Memref sig .tc .vmem S8x1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]

abbrev stage0_8 : Fin 2 → Memref sig .tc .vmem S128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S8x1x256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S128x4096 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S128x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S8x128x4 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 1 → Memref sig .tc .vmem S8x3x4 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true, false]

abbrev stage0_14 : Fin 1 → Memref sig .tc .vmem S8x1x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true, false]
-- ==== ReferenceIdeal.lean ====
abbrev S4096x2048 : Shape := ⟨2, ![4096, 2048]⟩
abbrev S4096x8192 : Shape := ⟨2, ![4096, 8192]⟩
abbrev S4096x14336 : Shape := ⟨2, ![4096, 14336]⟩
abbrev S4096x32 : Shape := ⟨2, ![4096, 32]⟩
abbrev S1x32 : Shape := ⟨2, ![1, 32]⟩
abbrev S1x2048 : Shape := ⟨2, ![1, 2048]⟩
abbrev S8x32x256x128 : Shape := ⟨4, ![8, 32, 256, 128]⟩
abbrev S4096x4096 : Shape := ⟨2, ![4096, 4096]⟩
abbrev S32x128x8x4x64 : Shape := ⟨5, ![32, 128, 8, 4, 64]⟩
abbrev S4096x1024 : Shape := ⟨2, ![4096, 1024]⟩
abbrev S32x128x8x128 : Shape := ⟨4, ![32, 128, 8, 128]⟩
abbrev S32x128x8x256 : Shape := ⟨4, ![32, 128, 8, 256]⟩
abbrev S8x32x4x64x128 : Shape := ⟨5, ![8, 32, 4, 64, 128]⟩
abbrev S32x8x4x64x128 : Shape := ⟨5, ![32, 8, 4, 64, 128]⟩
abbrev S8x4 : Shape := ⟨2, ![8, 4]⟩
abbrev S8x256 : Shape := ⟨2, ![8, 256]⟩
abbrev S_ : Shape := ⟨0, ![]⟩
abbrev S8x4x64x128 : Shape := ⟨4, ![8, 4, 64, 128]⟩
abbrev S32x128x8x4 : Shape := ⟨4, ![32, 128, 8, 4]⟩
abbrev S1x8x4x64x128 : Shape := ⟨5, ![1, 8, 4, 64, 128]⟩
abbrev S1x128x8x4x64 : Shape := ⟨5, ![1, 128, 8, 4, 64]⟩
abbrev S128x8x4x64 : Shape := ⟨4, ![128, 8, 4, 64]⟩
abbrev S1x128x8x4 : Shape := ⟨4, ![1, 128, 8, 4]⟩
abbrev S128x8x4 : Shape := ⟨3, ![128, 8, 4]⟩
abbrev S1x128x8x128 : Shape := ⟨4, ![1, 128, 8, 128]⟩
abbrev S128x8x128 : Shape := ⟨3, ![128, 8, 128]⟩
abbrev S1x128x8x256 : Shape := ⟨4, ![1, 128, 8, 256]⟩
abbrev S128x8x256 : Shape := ⟨3, ![128, 8, 256]⟩
abbrev S8x4x1 : Shape := ⟨3, ![8, 4, 1]⟩
abbrev S1x8x4x1 : Shape := ⟨4, ![1, 8, 4, 1]⟩
abbrev S128x8 : Shape := ⟨2, ![128, 8]⟩
abbrev S128x8x1 : Shape := ⟨3, ![128, 8, 1]⟩
abbrev S1x8x256 : Shape := ⟨3, ![1, 8, 256]⟩
abbrev S1x8x4 : Shape := ⟨3, ![1, 8, 4]⟩
abbrev S128x8x4x1 : Shape := ⟨4, ![128, 8, 4, 1]⟩
abbrev S128x128 : Shape := ⟨2, ![128, 128]⟩
abbrev S128x128x1x1 : Shape := ⟨4, ![128, 128, 1, 1]⟩
abbrev S128x1x8x4 : Shape := ⟨4, ![128, 1, 8, 4]⟩
abbrev S128x128x8x4 : Shape := ⟨4, ![128, 128, 8, 4]⟩
abbrev S8x128x128 : Shape := ⟨3, ![8, 128, 128]⟩
abbrev S128x128x8 : Shape := ⟨3, ![128, 128, 8]⟩
abbrev S128x128x8x1 : Shape := ⟨4, ![128, 128, 8, 1]⟩
abbrev S8x4x1x1 : Shape := ⟨4, ![8, 4, 1, 1]⟩
abbrev S8x4x128x128 : Shape := ⟨4, ![8, 4, 128, 128]⟩
abbrev S4096x12288 : Shape := ⟨2, ![4096, 12288]⟩
abbrev S4096x8x4 : Shape := ⟨3, ![4096, 8, 4]⟩
abbrev S8x4096x4 : Shape := ⟨3, ![8, 4096, 4]⟩
abbrev S8x1x4 : Shape := ⟨3, ![8, 1, 4]⟩
abbrev S8x3x4 : Shape := ⟨3, ![8, 3, 4]⟩
abbrev S8x1x256 : Shape := ⟨3, ![8, 1, 256]⟩

abbrev nBuf : Space → Nat
  | .hbm => 487
  | .vmem => 0
  | .smem => 0
  | _ => 0

abbrev hbmTy0_0 (i : Nat) : BufTy := match i % 128 with
  | 0 => ⟨S4096x2048, .f32⟩
  | 1 => ⟨S4096x8192, .bf16⟩
  | 2 => ⟨S4096x14336, .bf16⟩
  | 3 => ⟨S4096x32, .f32⟩
  | 4 => ⟨S1x32, .f32⟩
  | 5 => ⟨S1x32, .f32⟩
  | 6 => ⟨S1x32, .f32⟩
  | 7 => ⟨S1x2048, .f32⟩
  | 8 => ⟨S4096x2048, .f32⟩
  | 9 => ⟨S8x32x256x128, .f32⟩
  | 10 => ⟨S4096x14336, .bf16⟩
  | 11 => ⟨S4096x8192, .bf16⟩
  | 12 => ⟨S4096x4096, .bf16⟩
  | 13 => ⟨S4096x4096, .f32⟩
  | 14 => ⟨S4096x2048, .f32⟩
  | 15 => ⟨S32x128x8x4x64, .f32⟩
  | 16 => ⟨S4096x1024, .f32⟩
  | 17 => ⟨S32x128x8x128, .f32⟩
  | 18 => ⟨S4096x1024, .f32⟩
  | 19 => ⟨S32x128x8x128, .f32⟩
  | 20 => ⟨S4096x2048, .bf16⟩
  | 21 => ⟨S4096x2048, .f32⟩
  | 22 => ⟨S32x128x8x256, .f32⟩
  | 23 => ⟨S8x32x4x64x128, .f32⟩
  | 24 => ⟨S32x8x4x64x128, .f32⟩
  | 25 => ⟨S8x4, .f32⟩
  | 26 => ⟨S8x4, .f32⟩
  | 27 => ⟨S8x4, .f32⟩
  | 28 => ⟨S8x256, .f32⟩
  | 29 => ⟨S_, .f32⟩
  | 30 => ⟨S8x4x64x128, .f32⟩
  | 31 => ⟨S_, .f32⟩
  | 32 => ⟨S8x4, .f32⟩
  | 33 => ⟨S_, .f32⟩
  | 34 => ⟨S8x4, .f32⟩
  | 35 => ⟨S_, .f32⟩
  | 36 => ⟨S8x4, .f32⟩
  | 37 => ⟨S_, .f32⟩
  | 38 => ⟨S8x256, .f32⟩
  | 39 => ⟨S32x128x8x4, .f32⟩
  | 40 => ⟨S32x128x8x4x64, .f32⟩
  | 41 => ⟨S32x128x8x256, .f32⟩
  | 42 => ⟨S_, .f32⟩
  | 43 => ⟨S32x128x8x4x64, .f32⟩
  | 44 => ⟨S_, .f32⟩
  | 45 => ⟨S32x128x8x128, .f32⟩
  | 46 => ⟨S_, .f32⟩
  | 47 => ⟨S32x128x8x128, .f32⟩
  | 48 => ⟨S_, .f32⟩
  | 49 => ⟨S32x128x8x256, .f32⟩
  | 50 => ⟨S_, .f32⟩
  | 51 => ⟨S32x128x8x4, .f32⟩
  | 52 => ⟨S_, .i32⟩
  | 53 => ⟨S32x8x4x64x128, .f32⟩
  | 54 => ⟨S32x128x8x4x64, .f32⟩
  | 55 => ⟨S32x128x8x4, .f32⟩
  | 56 => ⟨S32x128x8x128, .f32⟩
  | 57 => ⟨S32x128x8x128, .f32⟩
  | 58 => ⟨S32x128x8x256, .f32⟩
  | 59 => ⟨S32x128x8x4x64, .f32⟩
  | 60 => ⟨S32x128x8x256, .f32⟩
  | 61 => ⟨S8x4, .f32⟩
  | 62 => ⟨S8x256, .f32⟩
  | 63 => ⟨S8x4, .f32⟩
  | 64 => ⟨S8x4, .f32⟩
  | 65 => ⟨S_, .i32⟩
  | 66 => ⟨S8x4x64x128, .f32⟩
  | 67 => ⟨S8x4, .f32⟩
  | 68 => ⟨S8x4, .f32⟩
  | 69 => ⟨S8x4, .f32⟩
  | 70 => ⟨S8x256, .f32⟩
  | 71 => ⟨S32x128x8x4x64, .f32⟩
  | 72 => ⟨S32x128x8x128, .f32⟩
  | 73 => ⟨S32x128x8x128, .f32⟩
  | 74 => ⟨S32x128x8x256, .f32⟩
  | 75 => ⟨S32x128x8x4, .f32⟩
  | 76 => ⟨S_, .i32⟩
  | 77 => ⟨S_, .i1⟩
  | 78 => ⟨S_, .i32⟩
  | 79 => ⟨S_, .i32⟩
  | 80 => ⟨S_, .i32⟩
  | 81 => ⟨S_, .i32⟩
  | 82 => ⟨S_, .i32⟩
  | 83 => ⟨S_, .i32⟩
  | 84 => ⟨S_, .i32⟩
  | 85 => ⟨S_, .i32⟩
  | 86 => ⟨S1x8x4x64x128, .f32⟩
  | 87 => ⟨S8x4x64x128, .f32⟩
  | 88 => ⟨S_, .i32⟩
  | 89 => ⟨S_, .i32⟩
  | 90 => ⟨S_, .i32⟩
  | 91 => ⟨S_, .i32⟩
  | 92 => ⟨S1x128x8x4x64, .f32⟩
  | 93 => ⟨S128x8x4x64, .f32⟩
  | 94 => ⟨S_, .i32⟩
  | 95 => ⟨S_, .i32⟩
  | 96 => ⟨S_, .i32⟩
  | 97 => ⟨S1x128x8x4, .f32⟩
  | 98 => ⟨S128x8x4, .f32⟩
  | 99 => ⟨S_, .i32⟩
  | 100 => ⟨S_, .i32⟩
  | 101 => ⟨S_, .i32⟩
  | 102 => ⟨S1x128x8x128, .f32⟩
  | 103 => ⟨S128x8x128, .f32⟩
  | 104 => ⟨S_, .i32⟩
  | 105 => ⟨S_, .i32⟩
  | 106 => ⟨S_, .i32⟩
  | 107 => ⟨S1x128x8x128, .f32⟩
  | 108 => ⟨S128x8x128, .f32⟩
  | 109 => ⟨S_, .i32⟩
  | 110 => ⟨S_, .i32⟩
  | 111 => ⟨S_, .i32⟩
  | 112 => ⟨S1x128x8x256, .f32⟩
  | 113 => ⟨S128x8x256, .f32⟩
  | 114 => ⟨S_, .i32⟩
  | 115 => ⟨S_, .i32⟩
  | 116 => ⟨S_, .i32⟩
  | 117 => ⟨S_, .i32⟩
  | 118 => ⟨S1x128x8x4x64, .f32⟩
  | 119 => ⟨S128x8x4x64, .f32⟩
  | 120 => ⟨S_, .i32⟩
  | 121 => ⟨S_, .i32⟩
  | 122 => ⟨S_, .i32⟩
  | 123 => ⟨S1x128x8x256, .f32⟩
  | 124 => ⟨S128x8x256, .f32⟩
  | 125 => ⟨S8x4x1, .f32⟩
  | 126 => ⟨S1x8x4x1, .f32⟩
  | 127 => ⟨S128x8x4x64, .f32⟩
  | _ => ⟨S4096x2048, .f32⟩

abbrev hbmTy0_1 (i : Nat) : BufTy := match i % 128 with
  | 0 => ⟨S128x8x4x64, .f32⟩
  | 1 => ⟨S128x8x4x64, .f32⟩
  | 2 => ⟨S128x8x256, .f32⟩
  | 3 => ⟨S128x8x256, .f32⟩
  | 4 => ⟨S128x8x256, .f32⟩
  | 5 => ⟨S_, .f32⟩
  | 6 => ⟨S128x8x256, .f32⟩
  | 7 => ⟨S128x8x256, .f32⟩
  | 8 => ⟨S_, .f32⟩
  | 9 => ⟨S128x8x256, .f32⟩
  | 10 => ⟨S128x8x256, .f32⟩
  | 11 => ⟨S_, .f32⟩
  | 12 => ⟨S128x8x256, .f32⟩
  | 13 => ⟨S128x8x256, .f32⟩
  | 14 => ⟨S128x8x256, .f32⟩
  | 15 => ⟨S128x8x256, .f32⟩
  | 16 => ⟨S128x8x256, .f32⟩
  | 17 => ⟨S128x8x256, .f32⟩
  | 18 => ⟨S_, .f32⟩
  | 19 => ⟨S128x8, .f32⟩
  | 20 => ⟨S128x8x1, .f32⟩
  | 21 => ⟨S_, .f32⟩
  | 22 => ⟨S128x8x1, .f32⟩
  | 23 => ⟨S128x8x1, .f32⟩
  | 24 => ⟨S_, .f32⟩
  | 25 => ⟨S128x8x1, .f32⟩
  | 26 => ⟨S128x8x1, .f32⟩
  | 27 => ⟨S128x8x1, .f32⟩
  | 28 => ⟨S128x8x1, .f32⟩
  | 29 => ⟨S_, .f32⟩
  | 30 => ⟨S128x8x1, .f32⟩
  | 31 => ⟨S128x8x1, .f32⟩
  | 32 => ⟨S128x8x256, .f32⟩
  | 33 => ⟨S128x8x256, .f32⟩
  | 34 => ⟨S1x8x256, .f32⟩
  | 35 => ⟨S128x8x256, .f32⟩
  | 36 => ⟨S128x8x256, .f32⟩
  | 37 => ⟨S128x8x256, .f32⟩
  | 38 => ⟨S_, .f32⟩
  | 39 => ⟨S8x256, .f32⟩
  | 40 => ⟨S1x8x256, .f32⟩
  | 41 => ⟨S128x8x256, .f32⟩
  | 42 => ⟨S128x8x256, .f32⟩
  | 43 => ⟨S_, .f32⟩
  | 44 => ⟨S8x256, .f32⟩
  | 45 => ⟨S128x8x256, .f32⟩
  | 46 => ⟨S_, .f32⟩
  | 47 => ⟨S128x8, .f32⟩
  | 48 => ⟨S128x8x1, .f32⟩
  | 49 => ⟨S128x8x256, .f32⟩
  | 50 => ⟨S128x8x256, .f32⟩
  | 51 => ⟨S128x8x1, .f32⟩
  | 52 => ⟨S_, .f32⟩
  | 53 => ⟨S128x8x1, .f32⟩
  | 54 => ⟨S128x8x1, .f32⟩
  | 55 => ⟨S_, .f32⟩
  | 56 => ⟨S128x8, .f32⟩
  | 57 => ⟨S128x8x256, .f32⟩
  | 58 => ⟨S128x8x256, .f32⟩
  | 59 => ⟨S128x8x256, .f32⟩
  | 60 => ⟨S128x8x256, .f32⟩
  | 61 => ⟨S128x8x256, .f32⟩
  | 62 => ⟨S128x8x256, .f32⟩
  | 63 => ⟨S128x8x256, .f32⟩
  | 64 => ⟨S128x8x256, .f32⟩
  | 65 => ⟨S128x8x256, .f32⟩
  | 66 => ⟨S128x8x256, .f32⟩
  | 67 => ⟨S128x8x256, .f32⟩
  | 68 => ⟨S128x8x4x64, .f32⟩
  | 69 => ⟨S128x8x4x64, .f32⟩
  | 70 => ⟨S128x8x4x64, .f32⟩
  | 71 => ⟨S128x8x4x64, .f32⟩
  | 72 => ⟨S_, .f32⟩
  | 73 => ⟨S8x4, .f32⟩
  | 74 => ⟨S1x8x4x1, .f32⟩
  | 75 => ⟨S_, .f32⟩
  | 76 => ⟨S8x4, .f32⟩
  | 77 => ⟨S8x4x1, .f32⟩
  | 78 => ⟨S_, .f32⟩
  | 79 => ⟨S8x4, .f32⟩
  | 80 => ⟨S1x8x4, .f32⟩
  | 81 => ⟨S128x8x4, .f32⟩
  | 82 => ⟨S128x8x4, .f32⟩
  | 83 => ⟨S_, .f32⟩
  | 84 => ⟨S128x8x4, .f32⟩
  | 85 => ⟨S128x8x4, .f32⟩
  | 86 => ⟨S128x8x4, .f32⟩
  | 87 => ⟨S128x8x4, .f32⟩
  | 88 => ⟨S128x8x4, .i1⟩
  | 89 => ⟨S128x8x4, .f32⟩
  | 90 => ⟨S128x8x4, .f32⟩
  | 91 => ⟨S128x8x4, .f32⟩
  | 92 => ⟨S128x8x4, .f32⟩
  | 93 => ⟨S128x8x4, .f32⟩
  | 94 => ⟨S128x8x4, .f32⟩
  | 95 => ⟨S128x8x4, .f32⟩
  | 96 => ⟨S128x8x4, .f32⟩
  | 97 => ⟨S_, .f32⟩
  | 98 => ⟨S128x8x4, .f32⟩
  | 99 => ⟨S128x8x4, .i1⟩
  | 100 => ⟨S_, .f32⟩
  | 101 => ⟨S128x8x4, .f32⟩
  | 102 => ⟨S128x8x4, .f32⟩
  | 103 => ⟨S_, .f32⟩
  | 104 => ⟨S128x8x4, .f32⟩
  | 105 => ⟨S128x8x4, .i1⟩
  | 106 => ⟨S_, .f32⟩
  | 107 => ⟨S128x8x4, .f32⟩
  | 108 => ⟨S128x8x4, .f32⟩
  | 109 => ⟨S128x8x4, .f32⟩
  | 110 => ⟨S128x8x4, .f32⟩
  | 111 => ⟨S_, .f32⟩
  | 112 => ⟨S_, .f32⟩
  | 113 => ⟨S_, .i1⟩
  | 114 => ⟨S_, .f32⟩
  | 115 => ⟨S_, .f32⟩
  | 116 => ⟨S_, .f32⟩
  | 117 => ⟨S_, .f32⟩
  | 118 => ⟨S128x8x4, .f32⟩
  | 119 => ⟨S128x8x4, .i1⟩
  | 120 => ⟨S_, .f32⟩
  | 121 => ⟨S128x8x4, .f32⟩
  | 122 => ⟨S128x8x4, .f32⟩
  | 123 => ⟨S128x8x4, .f32⟩
  | 124 => ⟨S128x8x4, .f32⟩
  | 125 => ⟨S128x8x4, .f32⟩
  | 126 => ⟨S_, .f32⟩
  | 127 => ⟨S128x8x4, .f32⟩
  | _ => ⟨S4096x2048, .f32⟩

abbrev hbmTy0_2 (i : Nat) : BufTy := match i % 128 with
  | 0 => ⟨S128x8x4, .f32⟩
  | 1 => ⟨S8x4, .f32⟩
  | 2 => ⟨S8x4, .f32⟩
  | 3 => ⟨S128x8x4x1, .f32⟩
  | 4 => ⟨S128x8x4x64, .f32⟩
  | 5 => ⟨S128x8x4x64, .f32⟩
  | 6 => ⟨S_, .i1⟩
  | 7 => ⟨S128x128, .i1⟩
  | 8 => ⟨S128x128, .i32⟩
  | 9 => ⟨S_, .i32⟩
  | 10 => ⟨S128x128, .i32⟩
  | 11 => ⟨S128x128, .i32⟩
  | 12 => ⟨S128x128, .i32⟩
  | 13 => ⟨S128x128, .i1⟩
  | 14 => ⟨S_, .i1⟩
  | 15 => ⟨S128x128, .i1⟩
  | 16 => ⟨S128x128, .i1⟩
  | 17 => ⟨S128x128x1x1, .i1⟩
  | 18 => ⟨S1x8x4, .f32⟩
  | 19 => ⟨S128x8x4, .f32⟩
  | 20 => ⟨S128x8x4, .f32⟩
  | 21 => ⟨S_, .f32⟩
  | 22 => ⟨S_, .f32⟩
  | 23 => ⟨S128x8x4, .f32⟩
  | 24 => ⟨S128x1x8x4, .f32⟩
  | 25 => ⟨S1x128x8x4, .f32⟩
  | 26 => ⟨S128x128x8x4, .f32⟩
  | 27 => ⟨S128x128x8x4, .f32⟩
  | 28 => ⟨S128x128x8x4, .f32⟩
  | 29 => ⟨S_, .f32⟩
  | 30 => ⟨S_, .f32⟩
  | 31 => ⟨S128x128x8x4, .i1⟩
  | 32 => ⟨S128x128x8x4, .f32⟩
  | 33 => ⟨S128x128x8x4, .f32⟩
  | 34 => ⟨S_, .f32⟩
  | 35 => ⟨S128x128x8x4, .f32⟩
  | 36 => ⟨S128x128x8x4, .f32⟩
  | 37 => ⟨S8x128x128, .f32⟩
  | 38 => ⟨S128x128x8, .f32⟩
  | 39 => ⟨S128x128x8x1, .f32⟩
  | 40 => ⟨S128x128x8x4, .f32⟩
  | 41 => ⟨S128x128x8x4, .f32⟩
  | 42 => ⟨S8x4x64x128, .f32⟩
  | 43 => ⟨S128x8x4x64, .f32⟩
  | 44 => ⟨S8x4x64x128, .f32⟩
  | 45 => ⟨S128x8x4x64, .f32⟩
  | 46 => ⟨S128x8x4, .f32⟩
  | 47 => ⟨S128x8x4x1, .f32⟩
  | 48 => ⟨S128x8x4x64, .f32⟩
  | 49 => ⟨S128x8x4x64, .f32⟩
  | 50 => ⟨S1x8x4, .f32⟩
  | 51 => ⟨S8x4, .f32⟩
  | 52 => ⟨S1x8x4, .f32⟩
  | 53 => ⟨S128x8x4, .f32⟩
  | 54 => ⟨S128x8x4, .f32⟩
  | 55 => ⟨S128x8x4, .f32⟩
  | 56 => ⟨S8x4, .f32⟩
  | 57 => ⟨S8x4x1x1, .f32⟩
  | 58 => ⟨S8x4x64x128, .f32⟩
  | 59 => ⟨S8x4x64x128, .f32⟩
  | 60 => ⟨S128x8x4x1, .f32⟩
  | 61 => ⟨S128x8x4x64, .f32⟩
  | 62 => ⟨S128x8x4x64, .f32⟩
  | 63 => ⟨S8x4x64x128, .f32⟩
  | 64 => ⟨S8x4x64x128, .f32⟩
  | 65 => ⟨S128x8x4x64, .f32⟩
  | 66 => ⟨S8x128x128, .f32⟩
  | 67 => ⟨S128x8x128, .f32⟩
  | 68 => ⟨S8x4x64x128, .f32⟩
  | 69 => ⟨S128x8x4x64, .f32⟩
  | 70 => ⟨S128x8x4x64, .f32⟩
  | 71 => ⟨S128x8x4x64, .f32⟩
  | 72 => ⟨S128x8x4x64, .f32⟩
  | 73 => ⟨S_, .f32⟩
  | 74 => ⟨S128x8x4, .f32⟩
  | 75 => ⟨S128x8x4x1, .f32⟩
  | 76 => ⟨S_, .f32⟩
  | 77 => ⟨S128x8x4, .f32⟩
  | 78 => ⟨S8x4x64x128, .f32⟩
  | 79 => ⟨S_, .f32⟩
  | 80 => ⟨S8x4, .f32⟩
  | 81 => ⟨S8x4x1x1, .f32⟩
  | 82 => ⟨S8x4x64x128, .f32⟩
  | 83 => ⟨S8x4x64x128, .f32⟩
  | 84 => ⟨S_, .f32⟩
  | 85 => ⟨S8x4, .f32⟩
  | 86 => ⟨S8x4, .f32⟩
  | 87 => ⟨S128x8x4, .f32⟩
  | 88 => ⟨S_, .f32⟩
  | 89 => ⟨S8x4, .f32⟩
  | 90 => ⟨S1x8x4, .f32⟩
  | 91 => ⟨S128x8x4, .f32⟩
  | 92 => ⟨S_, .f32⟩
  | 93 => ⟨S8x4, .f32⟩
  | 94 => ⟨S8x4, .f32⟩
  | 95 => ⟨S1x8x4, .f32⟩
  | 96 => ⟨S_, .f32⟩
  | 97 => ⟨S128x8x4, .f32⟩
  | 98 => ⟨S128x8x4, .f32⟩
  | 99 => ⟨S128x8x4x64, .f32⟩
  | 100 => ⟨S_, .f32⟩
  | 101 => ⟨S128x8x4, .f32⟩
  | 102 => ⟨S128x8x4x1, .f32⟩
  | 103 => ⟨S128x8x4x64, .f32⟩
  | 104 => ⟨S128x8x4x64, .f32⟩
  | 105 => ⟨S_, .f32⟩
  | 106 => ⟨S128x8x4, .f32⟩
  | 107 => ⟨S128x8x4, .f32⟩
  | 108 => ⟨S128x8x4, .f32⟩
  | 109 => ⟨S8x4x64x128, .f32⟩
  | 110 => ⟨S8x128x128, .f32⟩
  | 111 => ⟨S128x8x128, .f32⟩
  | 112 => ⟨S8x4x64x128, .f32⟩
  | 113 => ⟨S8x4x64x128, .f32⟩
  | 114 => ⟨S8x4x64x128, .f32⟩
  | 115 => ⟨S8x4x128x128, .f32⟩
  | 116 => ⟨S128x128x8x4, .f32⟩
  | 117 => ⟨S8x4x64x128, .f32⟩
  | 118 => ⟨S128x8x4x64, .f32⟩
  | 119 => ⟨S128x8x4x64, .f32⟩
  | 120 => ⟨S128x128x8x4, .f32⟩
  | 121 => ⟨S128x128x8x4, .f32⟩
  | 122 => ⟨S128x128x8x4, .f32⟩
  | 123 => ⟨S_, .f32⟩
  | 124 => ⟨S128x128x8, .f32⟩
  | 125 => ⟨S128x128x8x1, .f32⟩
  | 126 => ⟨S_, .f32⟩
  | 127 => ⟨S128x128x8, .f32⟩
  | _ => ⟨S4096x2048, .f32⟩

abbrev hbmTy0_3 (i : Nat) : BufTy := match i % 128 with
  | 0 => ⟨S8x128x128, .f32⟩
  | 1 => ⟨S8x128x128, .f32⟩
  | 2 => ⟨S128x8x128, .f32⟩
  | 3 => ⟨S128x8x128, .f32⟩
  | 4 => ⟨S8x128x128, .f32⟩
  | 5 => ⟨S128x8x128, .f32⟩
  | 6 => ⟨S128x8x128, .f32⟩
  | 7 => ⟨S128x128x8x4, .f32⟩
  | 8 => ⟨S_, .f32⟩
  | 9 => ⟨S128x128x8x4, .f32⟩
  | 10 => ⟨S128x128x8x4, .f32⟩
  | 11 => ⟨S_, .f32⟩
  | 12 => ⟨S128x8x4, .f32⟩
  | 13 => ⟨S128x1x8x4, .f32⟩
  | 14 => ⟨S128x128x8x4, .f32⟩
  | 15 => ⟨S_, .f32⟩
  | 16 => ⟨S128x8x4, .f32⟩
  | 17 => ⟨S1x128x8x4, .f32⟩
  | 18 => ⟨S_, .f32⟩
  | 19 => ⟨S128x8x4, .f32⟩
  | 20 => ⟨S128x8x4, .f32⟩
  | 21 => ⟨S_, .f32⟩
  | 22 => ⟨S128x8x4, .f32⟩
  | 23 => ⟨S128x8x4, .f32⟩
  | 24 => ⟨S_, .f32⟩
  | 25 => ⟨S_, .f32⟩
  | 26 => ⟨S128x8x4, .f32⟩
  | 27 => ⟨S128x8x4, .f32⟩
  | 28 => ⟨S_, .f32⟩
  | 29 => ⟨S8x4, .f32⟩
  | 30 => ⟨S1x8x4, .f32⟩
  | 31 => ⟨S128x8x4, .f32⟩
  | 32 => ⟨S128x8x4, .f32⟩
  | 33 => ⟨S_, .f32⟩
  | 34 => ⟨S8x4, .f32⟩
  | 35 => ⟨S128x8x4x64, .f32⟩
  | 36 => ⟨S_, .f32⟩
  | 37 => ⟨S128x8x4, .f32⟩
  | 38 => ⟨S128x8x4x1, .f32⟩
  | 39 => ⟨S128x8x4x64, .f32⟩
  | 40 => ⟨S128x8x4x64, .f32⟩
  | 41 => ⟨S_, .f32⟩
  | 42 => ⟨S128x8x4, .f32⟩
  | 43 => ⟨S128x8x4, .f32⟩
  | 44 => ⟨S8x4, .f32⟩
  | 45 => ⟨S8x4, .f32⟩
  | 46 => ⟨S128x8x4, .f32⟩
  | 47 => ⟨S_, .f32⟩
  | 48 => ⟨S8x4, .f32⟩
  | 49 => ⟨S1x8x4, .f32⟩
  | 50 => ⟨S_, .f32⟩
  | 51 => ⟨S8x4, .f32⟩
  | 52 => ⟨S8x4, .f32⟩
  | 53 => ⟨S8x4, .f32⟩
  | 54 => ⟨S8x4, .f32⟩
  | 55 => ⟨S8x256, .f32⟩
  | 56 => ⟨S128x8x4x64, .f32⟩
  | 57 => ⟨S1x128x8x4x64, .f32⟩
  | 58 => ⟨S_, .i32⟩
  | 59 => ⟨S_, .i32⟩
  | 60 => ⟨S_, .i32⟩
  | 61 => ⟨S_, .i32⟩
  | 62 => ⟨S32x128x8x4x64, .f32⟩
  | 63 => ⟨S1x128x8x128, .f32⟩
  | 64 => ⟨S_, .i32⟩
  | 65 => ⟨S_, .i32⟩
  | 66 => ⟨S_, .i32⟩
  | 67 => ⟨S32x128x8x128, .f32⟩
  | 68 => ⟨S1x128x8x128, .f32⟩
  | 69 => ⟨S_, .i32⟩
  | 70 => ⟨S_, .i32⟩
  | 71 => ⟨S_, .i32⟩
  | 72 => ⟨S32x128x8x128, .f32⟩
  | 73 => ⟨S1x128x8x256, .f32⟩
  | 74 => ⟨S_, .i32⟩
  | 75 => ⟨S_, .i32⟩
  | 76 => ⟨S_, .i32⟩
  | 77 => ⟨S32x128x8x256, .f32⟩
  | 78 => ⟨S1x128x8x4, .f32⟩
  | 79 => ⟨S_, .i32⟩
  | 80 => ⟨S_, .i32⟩
  | 81 => ⟨S_, .i32⟩
  | 82 => ⟨S32x128x8x4, .f32⟩
  | 83 => ⟨S_, .i32⟩
  | 84 => ⟨S_, .i32⟩
  | 85 => ⟨S4096x2048, .f32⟩
  | 86 => ⟨S4096x1024, .f32⟩
  | 87 => ⟨S4096x1024, .f32⟩
  | 88 => ⟨S4096x4096, .f32⟩
  | 89 => ⟨S4096x4096, .bf16⟩
  | 90 => ⟨S4096x4096, .bf16⟩
  | 91 => ⟨S4096x8192, .bf16⟩
  | 92 => ⟨S4096x2048, .f32⟩
  | 93 => ⟨S4096x2048, .bf16⟩
  | 94 => ⟨S4096x12288, .bf16⟩
  | 95 => ⟨S4096x14336, .bf16⟩
  | 96 => ⟨S4096x8x4, .f32⟩
  | 97 => ⟨S8x4096x4, .f32⟩
  | 98 => ⟨S8x1x4, .f32⟩
  | 99 => ⟨S8x1x4, .f32⟩
  | 100 => ⟨S8x1x4, .f32⟩
  | 101 => ⟨S8x3x4, .f32⟩
  | 102 => ⟨S8x1x256, .f32⟩
  | _ => ⟨S4096x2048, .f32⟩

abbrev hbmTy (i : Nat) : BufTy := match i / 128 with
  | 0 => hbmTy0_0 i
  | 1 => hbmTy0_1 i
  | 2 => hbmTy0_2 i
  | 3 => hbmTy0_3 i
  | _ => ⟨S4096x2048, .f32⟩

abbrev bufTy : (tb : Table) → Fin (tcTables nBuf tb) → BufTy
  | .hbm, ⟨i, _⟩ => hbmTy i
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst : Ref sig .tc := ⟨.hbm, 29, rfl⟩
abbrev main_v17 : Ref sig .tc := ⟨.hbm, 30, rfl⟩
abbrev main_cst_0 : Ref sig .tc := ⟨.hbm, 31, rfl⟩
abbrev main_v18 : Ref sig .tc := ⟨.hbm, 32, rfl⟩
abbrev main_cst_1 : Ref sig .tc := ⟨.hbm, 33, rfl⟩
abbrev main_v19 : Ref sig .tc := ⟨.hbm, 34, rfl⟩
abbrev main_cst_2 : Ref sig .tc := ⟨.hbm, 35, rfl⟩
abbrev main_v20 : Ref sig .tc := ⟨.hbm, 36, rfl⟩
abbrev main_cst_3 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_4 : Ref sig .tc := ⟨.hbm, 42, rfl⟩
abbrev main_v25 : Ref sig .tc := ⟨.hbm, 43, rfl⟩
abbrev main_cst_5 : Ref sig .tc := ⟨.hbm, 44, rfl⟩
abbrev main_v26 : Ref sig .tc := ⟨.hbm, 45, rfl⟩
abbrev main_cst_6 : Ref sig .tc := ⟨.hbm, 46, rfl⟩
abbrev main_v27 : Ref sig .tc := ⟨.hbm, 47, rfl⟩
abbrev main_cst_7 : Ref sig .tc := ⟨.hbm, 48, rfl⟩
abbrev main_v28 : Ref sig .tc := ⟨.hbm, 49, rfl⟩
abbrev main_cst_8 : Ref sig .tc := ⟨.hbm, 50, rfl⟩
abbrev main_v29 : Ref sig .tc := ⟨.hbm, 51, rfl⟩
abbrev main_c : Ref sig .tc := ⟨.hbm, 52, rfl⟩
abbrev main_v30_0 : Ref sig .tc := ⟨.hbm, 53, rfl⟩
abbrev main_v30_1 : Ref sig .tc := ⟨.hbm, 54, rfl⟩
abbrev main_v30_2 : Ref sig .tc := ⟨.hbm, 55, rfl⟩
abbrev main_v30_3 : Ref sig .tc := ⟨.hbm, 56, rfl⟩
abbrev main_v30_4 : Ref sig .tc := ⟨.hbm, 57, rfl⟩
abbrev main_v30_5 : Ref sig .tc := ⟨.hbm, 58, rfl⟩
abbrev main_v30_6 : Ref sig .tc := ⟨.hbm, 59, rfl⟩
abbrev main_v30_7 : Ref sig .tc := ⟨.hbm, 60, rfl⟩
abbrev main_v30_8 : Ref sig .tc := ⟨.hbm, 61, rfl⟩
abbrev main_v30_9 : Ref sig .tc := ⟨.hbm, 62, rfl⟩
abbrev main_v30_10 : Ref sig .tc := ⟨.hbm, 63, rfl⟩
abbrev main_v30_11 : Ref sig .tc := ⟨.hbm, 64, rfl⟩
abbrev main_v30_12 : Ref sig .tc := ⟨.hbm, 65, rfl⟩
abbrev main_v30_13 : Ref sig .tc := ⟨.hbm, 66, rfl⟩
abbrev main_v30_14 : Ref sig .tc := ⟨.hbm, 67, rfl⟩
abbrev main_v30_15 : Ref sig .tc := ⟨.hbm, 68, rfl⟩
abbrev main_v30_16 : Ref sig .tc := ⟨.hbm, 69, rfl⟩
abbrev main_v30_17 : Ref sig .tc := ⟨.hbm, 70, rfl⟩
abbrev main_v30_18 : Ref sig .tc := ⟨.hbm, 71, rfl⟩
abbrev main_v30_19 : Ref sig .tc := ⟨.hbm, 72, rfl⟩
abbrev main_v30_20 : Ref sig .tc := ⟨.hbm, 73, rfl⟩
abbrev main_v30_21 : Ref sig .tc := ⟨.hbm, 74, rfl⟩
abbrev main_v30_22 : Ref sig .tc := ⟨.hbm, 75, rfl⟩
abbrev main_while0c_c_31 : Ref sig .tc := ⟨.hbm, 76, rfl⟩
abbrev main_while0c_v49 : Ref sig .tc := ⟨.hbm, 77, rfl⟩
abbrev main_while0b_c_31 : Ref sig .tc := ⟨.hbm, 78, rfl⟩
abbrev main_while0b_v49 : Ref sig .tc := ⟨.hbm, 79, rfl⟩
abbrev main_while0b_c_32 : Ref sig .tc := ⟨.hbm, 80, rfl⟩
abbrev main_while0b_v50 : Ref sig .tc := ⟨.hbm, 81, rfl⟩
abbrev main_while0b_call0_c : Ref sig .tc := ⟨.hbm, 82, rfl⟩
abbrev main_while0b_call0_c_0 : Ref sig .tc := ⟨.hbm, 83, rfl⟩
abbrev main_while0b_call0_c_1 : Ref sig .tc := ⟨.hbm, 84, rfl⟩
abbrev main_while0b_call0_c_2 : Ref sig .tc := ⟨.hbm, 85, rfl⟩
abbrev main_while0b_call0_v0 : Ref sig .tc := ⟨.hbm, 86, rfl⟩
abbrev main_while0b_v51 : Ref sig .tc := ⟨.hbm, 87, rfl⟩
abbrev main_while0b_call1_c : Ref sig .tc := ⟨.hbm, 88, rfl⟩
abbrev main_while0b_call1_c_0 : Ref sig .tc := ⟨.hbm, 89, rfl⟩
abbrev main_while0b_call1_c_1 : Ref sig .tc := ⟨.hbm, 90, rfl⟩
abbrev main_while0b_call1_c_2 : Ref sig .tc := ⟨.hbm, 91, rfl⟩
abbrev main_while0b_call1_v0 : Ref sig .tc := ⟨.hbm, 92, rfl⟩
abbrev main_while0b_v52 : Ref sig .tc := ⟨.hbm, 93, rfl⟩
abbrev main_while0b_call2_c : Ref sig .tc := ⟨.hbm, 94, rfl⟩
abbrev main_while0b_call2_c_0 : Ref sig .tc := ⟨.hbm, 95, rfl⟩
abbrev main_while0b_call2_c_1 : Ref sig .tc := ⟨.hbm, 96, rfl⟩
abbrev main_while0b_call2_v0 : Ref sig .tc := ⟨.hbm, 97, rfl⟩
abbrev main_while0b_v53 : Ref sig .tc := ⟨.hbm, 98, rfl⟩
abbrev main_while0b_call3_c : Ref sig .tc := ⟨.hbm, 99, rfl⟩
abbrev main_while0b_call3_c_0 : Ref sig .tc := ⟨.hbm, 100, rfl⟩
abbrev main_while0b_call3_c_1 : Ref sig .tc := ⟨.hbm, 101, rfl⟩
abbrev main_while0b_call3_v0 : Ref sig .tc := ⟨.hbm, 102, rfl⟩
abbrev main_while0b_v54 : Ref sig .tc := ⟨.hbm, 103, rfl⟩
abbrev main_while0b_call4_c : Ref sig .tc := ⟨.hbm, 104, rfl⟩
abbrev main_while0b_call4_c_0 : Ref sig .tc := ⟨.hbm, 105, rfl⟩
abbrev main_while0b_call4_c_1 : Ref sig .tc := ⟨.hbm, 106, rfl⟩
abbrev main_while0b_call4_v0 : Ref sig .tc := ⟨.hbm, 107, rfl⟩
abbrev main_while0b_v55 : Ref sig .tc := ⟨.hbm, 108, rfl⟩
abbrev main_while0b_call5_c : Ref sig .tc := ⟨.hbm, 109, rfl⟩
abbrev main_while0b_call5_c_0 : Ref sig .tc := ⟨.hbm, 110, rfl⟩
abbrev main_while0b_call5_c_1 : Ref sig .tc := ⟨.hbm, 111, rfl⟩
abbrev main_while0b_call5_v0 : Ref sig .tc := ⟨.hbm, 112, rfl⟩
abbrev main_while0b_v56 : Ref sig .tc := ⟨.hbm, 113, rfl⟩
abbrev main_while0b_call6_c : Ref sig .tc := ⟨.hbm, 114, rfl⟩
abbrev main_while0b_call6_c_0 : Ref sig .tc := ⟨.hbm, 115, rfl⟩
abbrev main_while0b_call6_c_1 : Ref sig .tc := ⟨.hbm, 116, rfl⟩
abbrev main_while0b_call6_c_2 : Ref sig .tc := ⟨.hbm, 117, rfl⟩
abbrev main_while0b_call6_v0 : Ref sig .tc := ⟨.hbm, 118, rfl⟩
abbrev main_while0b_v57 : Ref sig .tc := ⟨.hbm, 119, rfl⟩
abbrev main_while0b_call7_c : Ref sig .tc := ⟨.hbm, 120, rfl⟩
abbrev main_while0b_call7_c_0 : Ref sig .tc := ⟨.hbm, 121, rfl⟩
abbrev main_while0b_call7_c_1 : Ref sig .tc := ⟨.hbm, 122, rfl⟩
abbrev main_while0b_call7_v0 : Ref sig .tc := ⟨.hbm, 123, rfl⟩
abbrev main_while0b_v58 : Ref sig .tc := ⟨.hbm, 124, rfl⟩
abbrev main_while0b_v59 : Ref sig .tc := ⟨.hbm, 125, rfl⟩
abbrev main_while0b_v60 : Ref sig .tc := ⟨.hbm, 126, rfl⟩
abbrev main_while0b_v61 : Ref sig .tc := ⟨.hbm, 127, rfl⟩
abbrev main_while0b_v62 : Ref sig .tc := ⟨.hbm, 128, rfl⟩
abbrev main_while0b_v63 : Ref sig .tc := ⟨.hbm, 129, rfl⟩
abbrev main_while0b_v64 : Ref sig .tc := ⟨.hbm, 130, rfl⟩
abbrev main_while0b_call8_v0 : Ref sig .tc := ⟨.hbm, 131, rfl⟩
abbrev main_while0b_call8_v1 : Ref sig .tc := ⟨.hbm, 132, rfl⟩
abbrev main_while0b_call8_cst : Ref sig .tc := ⟨.hbm, 133, rfl⟩
abbrev main_while0b_call8_v2 : Ref sig .tc := ⟨.hbm, 134, rfl⟩
abbrev main_while0b_call8_v3 : Ref sig .tc := ⟨.hbm, 135, rfl⟩
abbrev main_while0b_call8_cst_0 : Ref sig .tc := ⟨.hbm, 136, rfl⟩
abbrev main_while0b_call8_v4 : Ref sig .tc := ⟨.hbm, 137, rfl⟩
abbrev main_while0b_v65_2 : Ref sig .tc := ⟨.hbm, 138, rfl⟩
abbrev main_while0b_call8_cst_1 : Ref sig .tc := ⟨.hbm, 139, rfl⟩
abbrev main_while0b_call8_v6 : Ref sig .tc := ⟨.hbm, 140, rfl⟩
abbrev main_while0b_call8_v7 : Ref sig .tc := ⟨.hbm, 141, rfl⟩
abbrev main_while0b_v65_1 : Ref sig .tc := ⟨.hbm, 142, rfl⟩
abbrev main_while0b_v65_0 : Ref sig .tc := ⟨.hbm, 143, rfl⟩
abbrev main_while0b_v66 : Ref sig .tc := ⟨.hbm, 144, rfl⟩
abbrev main_while0b_v67 : Ref sig .tc := ⟨.hbm, 145, rfl⟩
abbrev main_while0b_cst_33 : Ref sig .tc := ⟨.hbm, 146, rfl⟩
abbrev main_while0b_v68 : Ref sig .tc := ⟨.hbm, 147, rfl⟩
abbrev main_while0b_v69 : Ref sig .tc := ⟨.hbm, 148, rfl⟩
abbrev main_while0b_cst_34 : Ref sig .tc := ⟨.hbm, 149, rfl⟩
abbrev main_while0b_v70 : Ref sig .tc := ⟨.hbm, 150, rfl⟩
abbrev main_while0b_v71 : Ref sig .tc := ⟨.hbm, 151, rfl⟩
abbrev main_while0b_cst_35 : Ref sig .tc := ⟨.hbm, 152, rfl⟩
abbrev main_while0b_v72 : Ref sig .tc := ⟨.hbm, 153, rfl⟩
abbrev main_while0b_v73 : Ref sig .tc := ⟨.hbm, 154, rfl⟩
abbrev main_while0b_v74 : Ref sig .tc := ⟨.hbm, 155, rfl⟩
abbrev main_while0b_v75 : Ref sig .tc := ⟨.hbm, 156, rfl⟩
abbrev main_while0b_cst_36 : Ref sig .tc := ⟨.hbm, 157, rfl⟩
abbrev main_while0b_v76 : Ref sig .tc := ⟨.hbm, 158, rfl⟩
abbrev main_while0b_v77 : Ref sig .tc := ⟨.hbm, 159, rfl⟩
abbrev main_while0b_v78 : Ref sig .tc := ⟨.hbm, 160, rfl⟩
abbrev main_while0b_v79 : Ref sig .tc := ⟨.hbm, 161, rfl⟩
abbrev main_while0b_v80 : Ref sig .tc := ⟨.hbm, 162, rfl⟩
abbrev main_while0b_v81 : Ref sig .tc := ⟨.hbm, 163, rfl⟩
abbrev main_while0b_v82 : Ref sig .tc := ⟨.hbm, 164, rfl⟩
abbrev main_while0b_v83 : Ref sig .tc := ⟨.hbm, 165, rfl⟩
abbrev main_while0b_cst_37 : Ref sig .tc := ⟨.hbm, 166, rfl⟩
abbrev main_while0b_v84 : Ref sig .tc := ⟨.hbm, 167, rfl⟩
abbrev main_while0b_v85 : Ref sig .tc := ⟨.hbm, 168, rfl⟩
abbrev main_while0b_v86 : Ref sig .tc := ⟨.hbm, 169, rfl⟩
abbrev main_while0b_v87 : Ref sig .tc := ⟨.hbm, 170, rfl⟩
abbrev main_while0b_cst_38 : Ref sig .tc := ⟨.hbm, 171, rfl⟩
abbrev main_while0b_v88 : Ref sig .tc := ⟨.hbm, 172, rfl⟩
abbrev main_while0b_v89 : Ref sig .tc := ⟨.hbm, 173, rfl⟩
abbrev main_while0b_cst_39 : Ref sig .tc := ⟨.hbm, 174, rfl⟩
abbrev main_while0b_v90 : Ref sig .tc := ⟨.hbm, 175, rfl⟩
abbrev main_while0b_v91 : Ref sig .tc := ⟨.hbm, 176, rfl⟩
abbrev main_while0b_v92 : Ref sig .tc := ⟨.hbm, 177, rfl⟩
abbrev main_while0b_v93 : Ref sig .tc := ⟨.hbm, 178, rfl⟩
abbrev main_while0b_v94 : Ref sig .tc := ⟨.hbm, 179, rfl⟩
abbrev main_while0b_cst_40 : Ref sig .tc := ⟨.hbm, 180, rfl⟩
abbrev main_while0b_v95 : Ref sig .tc := ⟨.hbm, 181, rfl⟩
abbrev main_while0b_v96 : Ref sig .tc := ⟨.hbm, 182, rfl⟩
abbrev main_while0b_cst_41 : Ref sig .tc := ⟨.hbm, 183, rfl⟩
abbrev main_while0b_v97 : Ref sig .tc := ⟨.hbm, 184, rfl⟩
abbrev main_while0b_v98 : Ref sig .tc := ⟨.hbm, 185, rfl⟩
abbrev main_while0b_v99 : Ref sig .tc := ⟨.hbm, 186, rfl⟩
abbrev main_while0b_v100 : Ref sig .tc := ⟨.hbm, 187, rfl⟩
abbrev main_while0b_v101 : Ref sig .tc := ⟨.hbm, 188, rfl⟩
abbrev main_while0b_v102 : Ref sig .tc := ⟨.hbm, 189, rfl⟩
abbrev main_while0b_v103 : Ref sig .tc := ⟨.hbm, 190, rfl⟩
abbrev main_while0b_v104 : Ref sig .tc := ⟨.hbm, 191, rfl⟩
abbrev main_while0b_call9_v0 : Ref sig .tc := ⟨.hbm, 192, rfl⟩
abbrev main_while0b_call9_v1 : Ref sig .tc := ⟨.hbm, 193, rfl⟩
abbrev main_while0b_call9_v2 : Ref sig .tc := ⟨.hbm, 194, rfl⟩
abbrev main_while0b_v105 : Ref sig .tc := ⟨.hbm, 195, rfl⟩
abbrev main_while0b_v106 : Ref sig .tc := ⟨.hbm, 196, rfl⟩
abbrev main_while0b_v107 : Ref sig .tc := ⟨.hbm, 197, rfl⟩
abbrev main_while0b_v108 : Ref sig .tc := ⟨.hbm, 198, rfl⟩
abbrev main_while0b_v109 : Ref sig .tc := ⟨.hbm, 199, rfl⟩
abbrev main_while0b_cst_42 : Ref sig .tc := ⟨.hbm, 200, rfl⟩
abbrev main_while0b_v110 : Ref sig .tc := ⟨.hbm, 201, rfl⟩
abbrev main_while0b_v111 : Ref sig .tc := ⟨.hbm, 202, rfl⟩
abbrev main_while0b_cst_43 : Ref sig .tc := ⟨.hbm, 203, rfl⟩
abbrev main_while0b_v112 : Ref sig .tc := ⟨.hbm, 204, rfl⟩
abbrev main_while0b_v113 : Ref sig .tc := ⟨.hbm, 205, rfl⟩
abbrev main_while0b_cst_44 : Ref sig .tc := ⟨.hbm, 206, rfl⟩
abbrev main_while0b_v114 : Ref sig .tc := ⟨.hbm, 207, rfl⟩
abbrev main_while0b_v115 : Ref sig .tc := ⟨.hbm, 208, rfl⟩
abbrev main_while0b_v116 : Ref sig .tc := ⟨.hbm, 209, rfl⟩
abbrev main_while0b_v117 : Ref sig .tc := ⟨.hbm, 210, rfl⟩
abbrev main_while0b_call10_cst : Ref sig .tc := ⟨.hbm, 211, rfl⟩
abbrev main_while0b_call10_v0 : Ref sig .tc := ⟨.hbm, 212, rfl⟩
abbrev main_while0b_call10_v1 : Ref sig .tc := ⟨.hbm, 213, rfl⟩
abbrev main_while0b_call10_v2 : Ref sig .tc := ⟨.hbm, 214, rfl⟩
abbrev main_while0b_call10_v3 : Ref sig .tc := ⟨.hbm, 215, rfl⟩
abbrev main_while0b_call10_v4 : Ref sig .tc := ⟨.hbm, 216, rfl⟩
abbrev main_while0b_call10_v5 : Ref sig .tc := ⟨.hbm, 217, rfl⟩
abbrev main_while0b_call10_v6 : Ref sig .tc := ⟨.hbm, 218, rfl⟩
abbrev main_while0b_call10_v7 : Ref sig .tc := ⟨.hbm, 219, rfl⟩
abbrev main_while0b_call10_v8 : Ref sig .tc := ⟨.hbm, 220, rfl⟩
abbrev main_while0b_call10_v9 : Ref sig .tc := ⟨.hbm, 221, rfl⟩
abbrev main_while0b_call10_v10 : Ref sig .tc := ⟨.hbm, 222, rfl⟩
abbrev main_while0b_call10_v11 : Ref sig .tc := ⟨.hbm, 223, rfl⟩
abbrev main_while0b_v118_0 : Ref sig .tc := ⟨.hbm, 224, rfl⟩
abbrev main_while0b_call10_cst_0 : Ref sig .tc := ⟨.hbm, 225, rfl⟩
abbrev main_while0b_call10_v13 : Ref sig .tc := ⟨.hbm, 226, rfl⟩
abbrev main_while0b_call10_v14 : Ref sig .tc := ⟨.hbm, 227, rfl⟩
abbrev main_while0b_call10_cst_1 : Ref sig .tc := ⟨.hbm, 228, rfl⟩
abbrev main_while0b_call10_v15 : Ref sig .tc := ⟨.hbm, 229, rfl⟩
abbrev main_while0b_call10_v16 : Ref sig .tc := ⟨.hbm, 230, rfl⟩
abbrev main_while0b_call10_cst_2 : Ref sig .tc := ⟨.hbm, 231, rfl⟩
abbrev main_while0b_call10_v17 : Ref sig .tc := ⟨.hbm, 232, rfl⟩
abbrev main_while0b_call10_v18 : Ref sig .tc := ⟨.hbm, 233, rfl⟩
abbrev main_while0b_call10_cst_3 : Ref sig .tc := ⟨.hbm, 234, rfl⟩
abbrev main_while0b_call10_v19 : Ref sig .tc := ⟨.hbm, 235, rfl⟩
abbrev main_while0b_call10_v20 : Ref sig .tc := ⟨.hbm, 236, rfl⟩
abbrev main_while0b_call10_v21 : Ref sig .tc := ⟨.hbm, 237, rfl⟩
abbrev main_while0b_v118_1 : Ref sig .tc := ⟨.hbm, 238, rfl⟩
abbrev main_while0b_call10_cst_4 : Ref sig .tc := ⟨.hbm, 239, rfl⟩
abbrev main_while0b_call10_cst_5 : Ref sig .tc := ⟨.hbm, 240, rfl⟩
abbrev main_while0b_call10_v23 : Ref sig .tc := ⟨.hbm, 241, rfl⟩
abbrev main_while0b_call10_cst_6 : Ref sig .tc := ⟨.hbm, 242, rfl⟩
abbrev main_while0b_call10_cst_7 : Ref sig .tc := ⟨.hbm, 243, rfl⟩
abbrev main_while0b_call10_v24 : Ref sig .tc := ⟨.hbm, 244, rfl⟩
abbrev main_while0b_call10_cst_8 : Ref sig .tc := ⟨.hbm, 245, rfl⟩
abbrev main_while0b_call10_v25 : Ref sig .tc := ⟨.hbm, 246, rfl⟩
abbrev main_while0b_call10_v26 : Ref sig .tc := ⟨.hbm, 247, rfl⟩
abbrev main_while0b_call10_cst_9 : Ref sig .tc := ⟨.hbm, 248, rfl⟩
abbrev main_while0b_call10_v27 : Ref sig .tc := ⟨.hbm, 249, rfl⟩
abbrev main_while0b_call10_v28 : Ref sig .tc := ⟨.hbm, 250, rfl⟩
abbrev main_while0b_call10_v29 : Ref sig .tc := ⟨.hbm, 251, rfl⟩
abbrev main_while0b_call10_v30 : Ref sig .tc := ⟨.hbm, 252, rfl⟩
abbrev main_while0b_call10_v31 : Ref sig .tc := ⟨.hbm, 253, rfl⟩
abbrev main_while0b_call10_cst_10 : Ref sig .tc := ⟨.hbm, 254, rfl⟩
abbrev main_while0b_call10_v32 : Ref sig .tc := ⟨.hbm, 255, rfl⟩
abbrev main_while0b_v118_2 : Ref sig .tc := ⟨.hbm, 256, rfl⟩
abbrev main_while0b_v119 : Ref sig .tc := ⟨.hbm, 257, rfl⟩
abbrev main_while0b_v120 : Ref sig .tc := ⟨.hbm, 258, rfl⟩
abbrev main_while0b_v121 : Ref sig .tc := ⟨.hbm, 259, rfl⟩
abbrev main_while0b_v122 : Ref sig .tc := ⟨.hbm, 260, rfl⟩
abbrev main_while0b_v123 : Ref sig .tc := ⟨.hbm, 261, rfl⟩
abbrev main_while0b_c_45 : Ref sig .tc := ⟨.hbm, 262, rfl⟩
abbrev main_while0b_v124 : Ref sig .tc := ⟨.hbm, 263, rfl⟩
abbrev main_while0b_call11_v0 : Ref sig .tc := ⟨.hbm, 264, rfl⟩
abbrev main_while0b_call11_c : Ref sig .tc := ⟨.hbm, 265, rfl⟩
abbrev main_while0b_call11_v1 : Ref sig .tc := ⟨.hbm, 266, rfl⟩
abbrev main_while0b_call11_v2 : Ref sig .tc := ⟨.hbm, 267, rfl⟩
abbrev main_while0b_call11_v3 : Ref sig .tc := ⟨.hbm, 268, rfl⟩
abbrev main_while0b_call11_v4 : Ref sig .tc := ⟨.hbm, 269, rfl⟩
abbrev main_while0b_call11_c_0 : Ref sig .tc := ⟨.hbm, 270, rfl⟩
abbrev main_while0b_call11_v5 : Ref sig .tc := ⟨.hbm, 271, rfl⟩
abbrev main_while0b_v125 : Ref sig .tc := ⟨.hbm, 272, rfl⟩
abbrev main_while0b_v126 : Ref sig .tc := ⟨.hbm, 273, rfl⟩
abbrev main_while0b_v127 : Ref sig .tc := ⟨.hbm, 274, rfl⟩
abbrev main_while0b_v128 : Ref sig .tc := ⟨.hbm, 275, rfl⟩
abbrev main_while0b_v129 : Ref sig .tc := ⟨.hbm, 276, rfl⟩
abbrev main_while0b_call12_call0_cst : Ref sig .tc := ⟨.hbm, 277, rfl⟩
abbrev main_while0b_call12_call0_v0 : Ref sig .tc := ⟨.hbm, 278, rfl⟩
abbrev main_while0b_v130 : Ref sig .tc := ⟨.hbm, 279, rfl⟩
abbrev main_while0b_v131 : Ref sig .tc := ⟨.hbm, 280, rfl⟩
abbrev main_while0b_v132 : Ref sig .tc := ⟨.hbm, 281, rfl⟩
abbrev main_while0b_v133 : Ref sig .tc := ⟨.hbm, 282, rfl⟩
abbrev main_while0b_v134 : Ref sig .tc := ⟨.hbm, 283, rfl⟩
abbrev main_while0b_v135 : Ref sig .tc := ⟨.hbm, 284, rfl⟩
abbrev main_while0b_cst_46 : Ref sig .tc := ⟨.hbm, 285, rfl⟩
abbrev main_while0b_call13_v0 : Ref sig .tc := ⟨.hbm, 286, rfl⟩
abbrev main_while0b_v136_1 : Ref sig .tc := ⟨.hbm, 287, rfl⟩
abbrev main_while0b_call13_v2 : Ref sig .tc := ⟨.hbm, 288, rfl⟩
abbrev main_while0b_v136_0 : Ref sig .tc := ⟨.hbm, 289, rfl⟩
abbrev main_while0b_call13_cst : Ref sig .tc := ⟨.hbm, 290, rfl⟩
abbrev main_while0b_v136_2 : Ref sig .tc := ⟨.hbm, 291, rfl⟩
abbrev main_while0b_v137 : Ref sig .tc := ⟨.hbm, 292, rfl⟩
abbrev main_while0b_v138 : Ref sig .tc := ⟨.hbm, 293, rfl⟩
abbrev main_while0b_v139 : Ref sig .tc := ⟨.hbm, 294, rfl⟩
abbrev main_while0b_v140 : Ref sig .tc := ⟨.hbm, 295, rfl⟩
abbrev main_while0b_v141 : Ref sig .tc := ⟨.hbm, 296, rfl⟩
abbrev main_while0b_v142 : Ref sig .tc := ⟨.hbm, 297, rfl⟩
abbrev main_while0b_v143 : Ref sig .tc := ⟨.hbm, 298, rfl⟩
abbrev main_while0b_v144 : Ref sig .tc := ⟨.hbm, 299, rfl⟩
abbrev main_while0b_v145 : Ref sig .tc := ⟨.hbm, 300, rfl⟩
abbrev main_while0b_v146 : Ref sig .tc := ⟨.hbm, 301, rfl⟩
abbrev main_while0b_v147 : Ref sig .tc := ⟨.hbm, 302, rfl⟩
abbrev main_while0b_v148 : Ref sig .tc := ⟨.hbm, 303, rfl⟩
abbrev main_while0b_v149 : Ref sig .tc := ⟨.hbm, 304, rfl⟩
abbrev main_while0b_v150 : Ref sig .tc := ⟨.hbm, 305, rfl⟩
abbrev main_while0b_v151 : Ref sig .tc := ⟨.hbm, 306, rfl⟩
abbrev main_while0b_v152 : Ref sig .tc := ⟨.hbm, 307, rfl⟩
abbrev main_while0b_v153 : Ref sig .tc := ⟨.hbm, 308, rfl⟩
abbrev main_while0b_v154 : Ref sig .tc := ⟨.hbm, 309, rfl⟩
abbrev main_while0b_v155 : Ref sig .tc := ⟨.hbm, 310, rfl⟩
abbrev main_while0b_v156 : Ref sig .tc := ⟨.hbm, 311, rfl⟩
abbrev main_while0b_v157 : Ref sig .tc := ⟨.hbm, 312, rfl⟩
abbrev main_while0b_v158 : Ref sig .tc := ⟨.hbm, 313, rfl⟩
abbrev main_while0b_v159 : Ref sig .tc := ⟨.hbm, 314, rfl⟩
abbrev main_while0b_v160 : Ref sig .tc := ⟨.hbm, 315, rfl⟩
abbrev main_while0b_v161 : Ref sig .tc := ⟨.hbm, 316, rfl⟩
abbrev main_while0b_v162 : Ref sig .tc := ⟨.hbm, 317, rfl⟩
abbrev main_while0b_v163 : Ref sig .tc := ⟨.hbm, 318, rfl⟩
abbrev main_while0b_v164 : Ref sig .tc := ⟨.hbm, 319, rfl⟩
abbrev main_while0b_v165 : Ref sig .tc := ⟨.hbm, 320, rfl⟩
abbrev main_while0b_v166 : Ref sig .tc := ⟨.hbm, 321, rfl⟩
abbrev main_while0b_v167 : Ref sig .tc := ⟨.hbm, 322, rfl⟩
abbrev main_while0b_v168 : Ref sig .tc := ⟨.hbm, 323, rfl⟩
abbrev main_while0b_v169 : Ref sig .tc := ⟨.hbm, 324, rfl⟩
abbrev main_while0b_v170 : Ref sig .tc := ⟨.hbm, 325, rfl⟩
abbrev main_while0b_v171 : Ref sig .tc := ⟨.hbm, 326, rfl⟩
abbrev main_while0b_v172 : Ref sig .tc := ⟨.hbm, 327, rfl⟩
abbrev main_while0b_v173 : Ref sig .tc := ⟨.hbm, 328, rfl⟩
abbrev main_while0b_cst_47 : Ref sig .tc := ⟨.hbm, 329, rfl⟩
abbrev main_while0b_v174 : Ref sig .tc := ⟨.hbm, 330, rfl⟩
abbrev main_while0b_v175 : Ref sig .tc := ⟨.hbm, 331, rfl⟩
abbrev main_while0b_cst_48 : Ref sig .tc := ⟨.hbm, 332, rfl⟩
abbrev main_while0b_v176 : Ref sig .tc := ⟨.hbm, 333, rfl⟩
abbrev main_while0b_v177 : Ref sig .tc := ⟨.hbm, 334, rfl⟩
abbrev main_while0b_cst_49 : Ref sig .tc := ⟨.hbm, 335, rfl⟩
abbrev main_while0b_v178 : Ref sig .tc := ⟨.hbm, 336, rfl⟩
abbrev main_while0b_v179 : Ref sig .tc := ⟨.hbm, 337, rfl⟩
abbrev main_while0b_v180 : Ref sig .tc := ⟨.hbm, 338, rfl⟩
abbrev main_while0b_v181 : Ref sig .tc := ⟨.hbm, 339, rfl⟩
abbrev main_while0b_cst_50 : Ref sig .tc := ⟨.hbm, 340, rfl⟩
abbrev main_while0b_v182 : Ref sig .tc := ⟨.hbm, 341, rfl⟩
abbrev main_while0b_v183 : Ref sig .tc := ⟨.hbm, 342, rfl⟩
abbrev main_while0b_v184 : Ref sig .tc := ⟨.hbm, 343, rfl⟩
abbrev main_while0b_cst_51 : Ref sig .tc := ⟨.hbm, 344, rfl⟩
abbrev main_while0b_v185 : Ref sig .tc := ⟨.hbm, 345, rfl⟩
abbrev main_while0b_v186 : Ref sig .tc := ⟨.hbm, 346, rfl⟩
abbrev main_while0b_v187 : Ref sig .tc := ⟨.hbm, 347, rfl⟩
abbrev main_while0b_cst_52 : Ref sig .tc := ⟨.hbm, 348, rfl⟩
abbrev main_while0b_v188 : Ref sig .tc := ⟨.hbm, 349, rfl⟩
abbrev main_while0b_v189 : Ref sig .tc := ⟨.hbm, 350, rfl⟩
abbrev main_while0b_v190 : Ref sig .tc := ⟨.hbm, 351, rfl⟩
abbrev main_while0b_cst_53 : Ref sig .tc := ⟨.hbm, 352, rfl⟩
abbrev main_while0b_v191 : Ref sig .tc := ⟨.hbm, 353, rfl⟩
abbrev main_while0b_v192 : Ref sig .tc := ⟨.hbm, 354, rfl⟩
abbrev main_while0b_v193 : Ref sig .tc := ⟨.hbm, 355, rfl⟩
abbrev main_while0b_cst_54 : Ref sig .tc := ⟨.hbm, 356, rfl⟩
abbrev main_while0b_v194 : Ref sig .tc := ⟨.hbm, 357, rfl⟩
abbrev main_while0b_v195 : Ref sig .tc := ⟨.hbm, 358, rfl⟩
abbrev main_while0b_v196 : Ref sig .tc := ⟨.hbm, 359, rfl⟩
abbrev main_while0b_v197 : Ref sig .tc := ⟨.hbm, 360, rfl⟩
abbrev main_while0b_cst_55 : Ref sig .tc := ⟨.hbm, 361, rfl⟩
abbrev main_while0b_v198 : Ref sig .tc := ⟨.hbm, 362, rfl⟩
abbrev main_while0b_v199 : Ref sig .tc := ⟨.hbm, 363, rfl⟩
abbrev main_while0b_v200 : Ref sig .tc := ⟨.hbm, 364, rfl⟩
abbrev main_while0b_v201 : Ref sig .tc := ⟨.hbm, 365, rfl⟩
abbrev main_while0b_v202 : Ref sig .tc := ⟨.hbm, 366, rfl⟩
abbrev main_while0b_v203 : Ref sig .tc := ⟨.hbm, 367, rfl⟩
abbrev main_while0b_v204 : Ref sig .tc := ⟨.hbm, 368, rfl⟩
abbrev main_while0b_v205 : Ref sig .tc := ⟨.hbm, 369, rfl⟩
abbrev main_while0b_v206 : Ref sig .tc := ⟨.hbm, 370, rfl⟩
abbrev main_while0b_v207 : Ref sig .tc := ⟨.hbm, 371, rfl⟩
abbrev main_while0b_v208 : Ref sig .tc := ⟨.hbm, 372, rfl⟩
abbrev main_while0b_v209 : Ref sig .tc := ⟨.hbm, 373, rfl⟩
abbrev main_while0b_v210 : Ref sig .tc := ⟨.hbm, 374, rfl⟩
abbrev main_while0b_v211 : Ref sig .tc := ⟨.hbm, 375, rfl⟩
abbrev main_while0b_v212 : Ref sig .tc := ⟨.hbm, 376, rfl⟩
abbrev main_while0b_v213 : Ref sig .tc := ⟨.hbm, 377, rfl⟩
abbrev main_while0b_v214 : Ref sig .tc := ⟨.hbm, 378, rfl⟩
abbrev main_while0b_cst_56 : Ref sig .tc := ⟨.hbm, 379, rfl⟩
abbrev main_while0b_v215 : Ref sig .tc := ⟨.hbm, 380, rfl⟩
abbrev main_while0b_v216 : Ref sig .tc := ⟨.hbm, 381, rfl⟩
abbrev main_while0b_cst_57 : Ref sig .tc := ⟨.hbm, 382, rfl⟩
abbrev main_while0b_v217 : Ref sig .tc := ⟨.hbm, 383, rfl⟩
abbrev main_while0b_v218 : Ref sig .tc := ⟨.hbm, 384, rfl⟩
abbrev main_while0b_v219 : Ref sig .tc := ⟨.hbm, 385, rfl⟩
abbrev main_while0b_v220 : Ref sig .tc := ⟨.hbm, 386, rfl⟩
abbrev main_while0b_v221 : Ref sig .tc := ⟨.hbm, 387, rfl⟩
abbrev main_while0b_v222 : Ref sig .tc := ⟨.hbm, 388, rfl⟩
abbrev main_while0b_v223 : Ref sig .tc := ⟨.hbm, 389, rfl⟩
abbrev main_while0b_v224 : Ref sig .tc := ⟨.hbm, 390, rfl⟩
abbrev main_while0b_v225 : Ref sig .tc := ⟨.hbm, 391, rfl⟩
abbrev main_while0b_call14_cst : Ref sig .tc := ⟨.hbm, 392, rfl⟩
abbrev main_while0b_call14_v0 : Ref sig .tc := ⟨.hbm, 393, rfl⟩
abbrev main_while0b_v226 : Ref sig .tc := ⟨.hbm, 394, rfl⟩
abbrev main_while0b_cst_58 : Ref sig .tc := ⟨.hbm, 395, rfl⟩
abbrev main_while0b_v227 : Ref sig .tc := ⟨.hbm, 396, rfl⟩
abbrev main_while0b_v228 : Ref sig .tc := ⟨.hbm, 397, rfl⟩
abbrev main_while0b_v229 : Ref sig .tc := ⟨.hbm, 398, rfl⟩
abbrev main_while0b_cst_59 : Ref sig .tc := ⟨.hbm, 399, rfl⟩
abbrev main_while0b_v230 : Ref sig .tc := ⟨.hbm, 400, rfl⟩
abbrev main_while0b_v231 : Ref sig .tc := ⟨.hbm, 401, rfl⟩
abbrev main_while0b_cst_60 : Ref sig .tc := ⟨.hbm, 402, rfl⟩
abbrev main_while0b_v232 : Ref sig .tc := ⟨.hbm, 403, rfl⟩
abbrev main_while0b_v233 : Ref sig .tc := ⟨.hbm, 404, rfl⟩
abbrev main_while0b_cst_61 : Ref sig .tc := ⟨.hbm, 405, rfl⟩
abbrev main_while0b_v234 : Ref sig .tc := ⟨.hbm, 406, rfl⟩
abbrev main_while0b_v235 : Ref sig .tc := ⟨.hbm, 407, rfl⟩
abbrev main_while0b_call15_call0_cst : Ref sig .tc := ⟨.hbm, 408, rfl⟩
abbrev main_while0b_call15_call0_v0 : Ref sig .tc := ⟨.hbm, 409, rfl⟩
abbrev main_while0b_v236 : Ref sig .tc := ⟨.hbm, 410, rfl⟩
abbrev main_while0b_v237 : Ref sig .tc := ⟨.hbm, 411, rfl⟩
abbrev main_while0b_cst_62 : Ref sig .tc := ⟨.hbm, 412, rfl⟩
abbrev main_while0b_v238 : Ref sig .tc := ⟨.hbm, 413, rfl⟩
abbrev main_while0b_v239 : Ref sig .tc := ⟨.hbm, 414, rfl⟩
abbrev main_while0b_v240 : Ref sig .tc := ⟨.hbm, 415, rfl⟩
abbrev main_while0b_v241 : Ref sig .tc := ⟨.hbm, 416, rfl⟩
abbrev main_while0b_cst_63 : Ref sig .tc := ⟨.hbm, 417, rfl⟩
abbrev main_while0b_v242 : Ref sig .tc := ⟨.hbm, 418, rfl⟩
abbrev main_while0b_v243 : Ref sig .tc := ⟨.hbm, 419, rfl⟩
abbrev main_while0b_cst_64 : Ref sig .tc := ⟨.hbm, 420, rfl⟩
abbrev main_while0b_v244 : Ref sig .tc := ⟨.hbm, 421, rfl⟩
abbrev main_while0b_v245 : Ref sig .tc := ⟨.hbm, 422, rfl⟩
abbrev main_while0b_v246 : Ref sig .tc := ⟨.hbm, 423, rfl⟩
abbrev main_while0b_v247 : Ref sig .tc := ⟨.hbm, 424, rfl⟩
abbrev main_while0b_cst_65 : Ref sig .tc := ⟨.hbm, 425, rfl⟩
abbrev main_while0b_v248 : Ref sig .tc := ⟨.hbm, 426, rfl⟩
abbrev main_while0b_v249 : Ref sig .tc := ⟨.hbm, 427, rfl⟩
abbrev main_while0b_v250 : Ref sig .tc := ⟨.hbm, 428, rfl⟩
abbrev main_while0b_v251 : Ref sig .tc := ⟨.hbm, 429, rfl⟩
abbrev main_while0b_v252 : Ref sig .tc := ⟨.hbm, 430, rfl⟩
abbrev main_while0b_cst_66 : Ref sig .tc := ⟨.hbm, 431, rfl⟩
abbrev main_while0b_v253 : Ref sig .tc := ⟨.hbm, 432, rfl⟩
abbrev main_while0b_v254 : Ref sig .tc := ⟨.hbm, 433, rfl⟩
abbrev main_while0b_cst_67 : Ref sig .tc := ⟨.hbm, 434, rfl⟩
abbrev main_while0b_v255 : Ref sig .tc := ⟨.hbm, 435, rfl⟩
abbrev main_while0b_v256 : Ref sig .tc := ⟨.hbm, 436, rfl⟩
abbrev main_while0b_v257 : Ref sig .tc := ⟨.hbm, 437, rfl⟩
abbrev main_while0b_v258 : Ref sig .tc := ⟨.hbm, 438, rfl⟩
abbrev main_while0b_v259 : Ref sig .tc := ⟨.hbm, 439, rfl⟩
abbrev main_while0b_v260 : Ref sig .tc := ⟨.hbm, 440, rfl⟩
abbrev main_while0b_call17_v0 : Ref sig .tc := ⟨.hbm, 441, rfl⟩
abbrev main_while0b_call17_c : Ref sig .tc := ⟨.hbm, 442, rfl⟩
abbrev main_while0b_call17_c_0 : Ref sig .tc := ⟨.hbm, 443, rfl⟩
abbrev main_while0b_call17_c_1 : Ref sig .tc := ⟨.hbm, 444, rfl⟩
abbrev main_while0b_call17_c_2 : Ref sig .tc := ⟨.hbm, 445, rfl⟩
abbrev main_while0b_v261 : Ref sig .tc := ⟨.hbm, 446, rfl⟩
abbrev main_while0b_call18_v0 : Ref sig .tc := ⟨.hbm, 447, rfl⟩
abbrev main_while0b_call18_c : Ref sig .tc := ⟨.hbm, 448, rfl⟩
abbrev main_while0b_call18_c_0 : Ref sig .tc := ⟨.hbm, 449, rfl⟩
abbrev main_while0b_call18_c_1 : Ref sig .tc := ⟨.hbm, 450, rfl⟩
abbrev main_while0b_v262 : Ref sig .tc := ⟨.hbm, 451, rfl⟩
abbrev main_while0b_call19_v0 : Ref sig .tc := ⟨.hbm, 452, rfl⟩
abbrev main_while0b_call19_c : Ref sig .tc := ⟨.hbm, 453, rfl⟩
abbrev main_while0b_call19_c_0 : Ref sig .tc := ⟨.hbm, 454, rfl⟩
abbrev main_while0b_call19_c_1 : Ref sig .tc := ⟨.hbm, 455, rfl⟩
abbrev main_while0b_v263 : Ref sig .tc := ⟨.hbm, 456, rfl⟩
abbrev main_while0b_call20_v0 : Ref sig .tc := ⟨.hbm, 457, rfl⟩
abbrev main_while0b_call20_c : Ref sig .tc := ⟨.hbm, 458, rfl⟩
abbrev main_while0b_call20_c_0 : Ref sig .tc := ⟨.hbm, 459, rfl⟩
abbrev main_while0b_call20_c_1 : Ref sig .tc := ⟨.hbm, 460, rfl⟩
abbrev main_while0b_v264 : Ref sig .tc := ⟨.hbm, 461, rfl⟩
abbrev main_while0b_call21_v0 : Ref sig .tc := ⟨.hbm, 462, rfl⟩
abbrev main_while0b_call21_c : Ref sig .tc := ⟨.hbm, 463, rfl⟩
abbrev main_while0b_call21_c_0 : Ref sig .tc := ⟨.hbm, 464, rfl⟩
abbrev main_while0b_call21_c_1 : Ref sig .tc := ⟨.hbm, 465, rfl⟩
abbrev main_while0b_v265 : Ref sig .tc := ⟨.hbm, 466, rfl⟩
abbrev main_while0b_c_68 : Ref sig .tc := ⟨.hbm, 467, rfl⟩
abbrev main_while0b_v266 : Ref sig .tc := ⟨.hbm, 468, rfl⟩
abbrev main_v31 : Ref sig .tc := ⟨.hbm, 469, rfl⟩
abbrev main_v32 : Ref sig .tc := ⟨.hbm, 470, rfl⟩
abbrev main_v33 : Ref sig .tc := ⟨.hbm, 471, rfl⟩
abbrev main_v34 : Ref sig .tc := ⟨.hbm, 472, rfl⟩
abbrev main_v35 : Ref sig .tc := ⟨.hbm, 473, rfl⟩
abbrev main_v36 : Ref sig .tc := ⟨.hbm, 474, rfl⟩
abbrev main_v37 : Ref sig .tc := ⟨.hbm, 475, rfl⟩
abbrev main_v38 : Ref sig .tc := ⟨.hbm, 476, rfl⟩
abbrev main_v39 : Ref sig .tc := ⟨.hbm, 477, rfl⟩
abbrev main_v40 : Ref sig .tc := ⟨.hbm, 478, rfl⟩
abbrev main_v41 : Ref sig .tc := ⟨.hbm, 479, rfl⟩
abbrev main_v42 : Ref sig .tc := ⟨.hbm, 480, rfl⟩
abbrev main_v43 : Ref sig .tc := ⟨.hbm, 481, rfl⟩
abbrev main_v44 : Ref sig .tc := ⟨.hbm, 482, rfl⟩
abbrev main_v45 : Ref sig .tc := ⟨.hbm, 483, rfl⟩
abbrev main_v46 : Ref sig .tc := ⟨.hbm, 484, rfl⟩
abbrev main_v47 : Ref sig .tc := ⟨.hbm, 485, rfl⟩
abbrev main_v48 : Ref sig .tc := ⟨.hbm, 486, rfl⟩

abbrev nD : Nat := 1
abbrev τ : Topo := Topo.v7x

variable {F : FTy → Type} [FloatOps F]

abbrev main_while0_count : Scf.Loop 32 := ⟨0#32, 32#32, 1#32⟩
-- ==== ProjDw.lean ====
abbrev S4096x1024 : Shape := ⟨2, ![4096, 1024]⟩
abbrev S4096x14336 : Shape := ⟨2, ![4096, 14336]⟩
abbrev S1024x14336 : Shape := ⟨2, ![1024, 14336]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x14336, .bf16⟩
  | .hbm, ⟨2, _⟩ => ⟨S1024x14336, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S1024x1024, .bf16⟩
  | .local _ .vmem, ⟨4, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 14, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjDwRefIdeal.lean ====
abbrev S4096x1024 : Shape := ⟨2, ![4096, 1024]⟩
abbrev S4096x14336 : Shape := ⟨2, ![4096, 14336]⟩
abbrev S_ : Shape := ⟨0, ![]⟩
abbrev S1024x14336 : Shape := ⟨2, ![1024, 14336]⟩
abbrev S14336x1024 : Shape := ⟨2, ![14336, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x14336, .bf16⟩
  | .hbm, ⟨2, _⟩ => ⟨S_, .f32⟩
  | .hbm, ⟨3, _⟩ => ⟨S1024x14336, .f32⟩
  | .hbm, ⟨4, _⟩ => ⟨S4096x1024, .f32⟩
  | .hbm, ⟨5, _⟩ => ⟨S4096x14336, .f32⟩
  | .hbm, ⟨6, _⟩ => ⟨S4096x14336, .f32⟩
  | .hbm, ⟨7, _⟩ => ⟨S14336x1024, .f32⟩
  | .hbm, ⟨8, _⟩ => ⟨S1024x14336, .f32⟩
  | .hbm, ⟨9, _⟩ => ⟨S1024x14336, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== ProjDx.lean ====
abbrev S4096x14336 : Shape := ⟨2, ![4096, 14336]⟩
abbrev S1024x14336 : Shape := ⟨2, ![1024, 14336]⟩
abbrev S4096x1024 : Shape := ⟨2, ![4096, 1024]⟩
abbrev S1024x2048 : Shape := ⟨2, ![1024, 2048]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x14336, .bf16⟩
  | .hbm, ⟨1, _⟩ => ⟨S1024x14336, .bf16⟩
  | .hbm, ⟨2, _⟩ => ⟨S4096x1024, .f32⟩
  | .hbm, ⟨3, _⟩ => ⟨S4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 7], ![false, false, false]⟩

def k0_cond2 (i : grid0.Coords) : BitVec 1 :=
  let arg2 : BitVec 32 := BitVec.ofNat 32 (i 2).val
  let c6_i32 : BitVec 32 := 6#32
  let v11 : BitVec 1 := Scalar.cmpi .eq arg2 c6_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ProjDxRefIdeal.lean ====
abbrev S4096x14336 : Shape := ⟨2, ![4096, 14336]⟩
abbrev S1024x14336 : Shape := ⟨2, ![1024, 14336]⟩
abbrev S4096x1024 : Shape := ⟨2, ![4096, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x14336, .bf16⟩
  | .hbm, ⟨1, _⟩ => ⟨S1024x14336, .bf16⟩
  | .hbm, ⟨2, _⟩ => ⟨S4096x1024, .f32⟩
  | .hbm, ⟨3, _⟩ => ⟨S_, .f32⟩
  | .hbm, ⟨4, _⟩ => ⟨S4096x1024, .f32⟩
  | .hbm, ⟨5, _⟩ => ⟨S1024x14336, .f32⟩
  | .hbm, ⟨6, _⟩ => ⟨S4096x14336, .f32⟩
  | .hbm, ⟨7, _⟩ => ⟨S4096x14336, .f32⟩
  | .hbm, ⟨8, _⟩ => ⟨S4096x1024, .f32⟩
  | .hbm, ⟨9, _⟩ => ⟨S4096x1024, .f32⟩
  | _, _ => ⟨S4096x14336, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== DownDx.lean ====
abbrev S4096x1024 : Shape := ⟨2, ![4096, 1024]⟩
abbrev S4096x4096 : Shape := ⟨2, ![4096, 4096]⟩
abbrev S1024x1024 : Shape := ⟨2, ![1024, 1024]⟩
abbrev S2048x1024 : Shape := ⟨2, ![2048, 1024]⟩
abbrev S1024x2048 : Shape := ⟨2, ![1024, 2048]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x4096, .bf16⟩
  | .hbm, ⟨3, _⟩ => ⟨S4096x4096, .bf16⟩
  | .local _ .vmem, ⟨0, _⟩ => ⟨S1024x1024, .bf16⟩
  | .local _ .vmem, ⟨1, _⟩ => ⟨S1024x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .bf16⟩
  | .local _ .vmem, ⟨7, _⟩ => ⟨S1024x2048, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownDxRefIdeal.lean ====
abbrev S4096x1024 : Shape := ⟨2, ![4096, 1024]⟩
abbrev S4096x4096 : Shape := ⟨2, ![4096, 4096]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x4096, .bf16⟩
  | .hbm, ⟨3, _⟩ => ⟨S4096x4096, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S_, .f32⟩
  | .hbm, ⟨8, _⟩ => ⟨S4096x4096, .f32⟩
  | .hbm, ⟨9, _⟩ => ⟨S4096x4096, .i1⟩
  | .hbm, ⟨10, _⟩ => ⟨S_, .f32⟩
  | .hbm, ⟨11, _⟩ => ⟨S4096x4096, .f32⟩
  | .hbm, ⟨12, _⟩ => ⟨S4096x4096, .f32⟩
  | .hbm, ⟨13, _⟩ => ⟨S_, .f32⟩
  | .hbm, ⟨14, _⟩ => ⟨S4096x4096, .f32⟩
  | .hbm, ⟨15, _⟩ => ⟨S4096x4096, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x4096, .f32⟩
  | .hbm, ⟨20, _⟩ => ⟨S4096x4096, .f32⟩
  | .hbm, ⟨21, _⟩ => ⟨S_, .f32⟩
  | .hbm, ⟨22, _⟩ => ⟨S4096x4096, .f32⟩
  | .hbm, ⟨23, _⟩ => ⟨S4096x4096, .f32⟩
  | .hbm, ⟨24, _⟩ => ⟨S4096x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]
-- ==== DownDw.lean ====
abbrev S4096x4096 : Shape := ⟨2, ![4096, 4096]⟩
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S1024x1024, .bf16⟩
  | .local _ .vmem, ⟨4, _⟩ => ⟨S1024x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwRefIdeal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S_, .f32⟩
  | .hbm, ⟨3, _⟩ => ⟨S4096x1024, .f32⟩
  | .hbm, ⟨4, _⟩ => ⟨S4096x4096, .f32⟩
  | .hbm, ⟨5, _⟩ => ⟨S4096x1024, .f32⟩
  | .hbm, ⟨6, _⟩ => ⟨S4096x1024, .f32⟩
  | .hbm, ⟨7, _⟩ => ⟨S1024x4096, .f32⟩
  | .hbm, ⟨8, _⟩ => ⟨S4096x1024, .f32⟩
  | .hbm, ⟨9, _⟩ => ⟨S4096x1024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== UpDx.lean ====
abbrev S4096x4096 : Shape := ⟨2, ![4096, 4096]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x4096, .bf16⟩
  | .hbm, ⟨1, _⟩ => ⟨S1024x4096, .bf16⟩
  | .hbm, ⟨2, _⟩ => ⟨S4096x1024, .f32⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x1024, .f32⟩
  | .local _ .vmem, ⟨4, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDxRefIdeal.lean ====
abbrev S4096x4096 : Shape := ⟨2, ![4096, 4096]⟩
abbrev S1024x4096 : Shape := ⟨2, ![1024, 4096]⟩
abbrev S_ : Shape := ⟨0, ![]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S1024x4096, .bf16⟩
  | .hbm, ⟨2, _⟩ => ⟨S_, .f32⟩
  | .hbm, ⟨3, _⟩ => ⟨S4096x1024, .f32⟩
  | .hbm, ⟨4, _⟩ => ⟨S1024x4096, .f32⟩
  | .hbm, ⟨5, _⟩ => ⟨S4096x4096, .f32⟩
  | .hbm, ⟨6, _⟩ => ⟨S4096x4096, .f32⟩
  | .hbm, ⟨7, _⟩ => ⟨S4096x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== UpDw.lean ====
abbrev S4096x1024 : Shape := ⟨2, ![4096, 1024]⟩
abbrev S4096x4096 : Shape := ⟨2, ![4096, 4096]⟩
abbrev S1024x4096 : Shape := ⟨2, ![1024, 4096]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S1024x4096, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S1024x1024, .bf16⟩
  | .local _ .vmem, ⟨4, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDwRefIdeal.lean ====
abbrev S4096x1024 : Shape := ⟨2, ![4096, 1024]⟩
abbrev S4096x4096 : Shape := ⟨2, ![4096, 4096]⟩
abbrev S_ : Shape := ⟨0, ![]⟩
abbrev S1024x4096 : Shape := ⟨2, ![1024, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S_, .f32⟩
  | .hbm, ⟨3, _⟩ => ⟨S1024x4096, .f32⟩
  | .hbm, ⟨4, _⟩ => ⟨S4096x1024, .f32⟩
  | .hbm, ⟨5, _⟩ => ⟨S4096x4096, .f32⟩
  | .hbm, ⟨6, _⟩ => ⟨S4096x4096, .f32⟩
  | .hbm, ⟨7, _⟩ => ⟨S4096x1024, .f32⟩
  | .hbm, ⟨8, _⟩ => ⟨S1024x4096, .f32⟩
  | .hbm, ⟨9, _⟩ => ⟨S1024x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== OutDw.lean ====
abbrev S4096x1024 : Shape := ⟨2, ![4096, 1024]⟩
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S4096x1024, .bf16⟩
  | .local _ .vmem, ⟨1, _⟩ => ⟨S4096x1024, .bf16⟩
  | .local _ .vmem, ⟨2, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutDwRefIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== SsmDx.lean ====
abbrev S4096x1024 : Shape := ⟨2, ![4096, 1024]⟩
abbrev S2048x1024 : Shape := ⟨2, ![2048, 1024]⟩
abbrev S4096x2048 : Shape := ⟨2, ![4096, 2048]⟩
abbrev S1024x1024 : Shape := ⟨2, ![1024, 1024]⟩
abbrev S1024x2048 : Shape := ⟨2, ![1024, 2048]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S2048x1024, .bf16⟩
  | .hbm, ⟨2, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S2048x1024, .bf16⟩
  | .local _ .vmem, ⟨3, _⟩ => ⟨S1024x2048, .f32⟩
  | .local _ .vmem, ⟨4, _⟩ => ⟨S1024x2048, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsmDxRefIdeal.lean ====
abbrev S4096x1024 : Shape := ⟨2, ![4096, 1024]⟩
abbrev S2048x1024 : Shape := ⟨2, ![2048, 1024]⟩
abbrev S_ : Shape := ⟨0, ![]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2048x1024, .bf16⟩
  | .hbm, ⟨2, _⟩ => ⟨S_, .f32⟩
  | .hbm, ⟨3, _⟩ => ⟨S4096x2048, .f32⟩
  | .hbm, ⟨4, _⟩ => ⟨S2048x1024, .f32⟩
  | .hbm, ⟨5, _⟩ => ⟨S4096x1024, .f32⟩
  | .hbm, ⟨6, _⟩ => ⟨S4096x1024, .f32⟩
  | .hbm, ⟨7, _⟩ => ⟨S4096x2048, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== SsmDw.lean ====
abbrev S4096x2048 : Shape := ⟨2, ![4096, 2048]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S2048x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S1024x1024, .bf16⟩
  | .local _ .vmem, ⟨4, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsmDwRefIdeal.lean ====
abbrev S4096x2048 : Shape := ⟨2, ![4096, 2048]⟩
abbrev S4096x1024 : Shape := ⟨2, ![4096, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S_, .f32⟩
  | .hbm, ⟨3, _⟩ => ⟨S2048x1024, .f32⟩
  | .hbm, ⟨4, _⟩ => ⟨S4096x2048, .f32⟩
  | .hbm, ⟨5, _⟩ => ⟨S4096x1024, .f32⟩
  | .hbm, ⟨6, _⟩ => ⟨S4096x1024, .f32⟩
  | .hbm, ⟨7, _⟩ => ⟨S1024x2048, .f32⟩
  | .hbm, ⟨8, _⟩ => ⟨S2048x1024, .f32⟩
  | .hbm, ⟨9, _⟩ => ⟨S2048x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GdnDx.lean ====
abbrev S4096x1024 : Shape := ⟨2, ![4096, 1024]⟩
abbrev S2048x1024 : Shape := ⟨2, ![2048, 1024]⟩
abbrev S4096x2048 : Shape := ⟨2, ![4096, 2048]⟩
abbrev S1024x1024 : Shape := ⟨2, ![1024, 1024]⟩
abbrev S1024x2048 : Shape := ⟨2, ![1024, 2048]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S2048x1024, .bf16⟩
  | .hbm, ⟨2, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S2048x1024, .bf16⟩
  | .local _ .vmem, ⟨3, _⟩ => ⟨S1024x2048, .f32⟩
  | .local _ .vmem, ⟨4, _⟩ => ⟨S1024x2048, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GdnDxRefIdeal.lean ====
abbrev S4096x1024 : Shape := ⟨2, ![4096, 1024]⟩
abbrev S2048x1024 : Shape := ⟨2, ![2048, 1024]⟩
abbrev S_ : Shape := ⟨0, ![]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2048x1024, .bf16⟩
  | .hbm, ⟨2, _⟩ => ⟨S_, .f32⟩
  | .hbm, ⟨3, _⟩ => ⟨S4096x2048, .f32⟩
  | .hbm, ⟨4, _⟩ => ⟨S2048x1024, .f32⟩
  | .hbm, ⟨5, _⟩ => ⟨S4096x1024, .f32⟩
  | .hbm, ⟨6, _⟩ => ⟨S4096x1024, .f32⟩
  | .hbm, ⟨7, _⟩ => ⟨S4096x2048, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== GdnDw.lean ====
abbrev S4096x2048 : Shape := ⟨2, ![4096, 2048]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S2048x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S1024x1024, .bf16⟩
  | .local _ .vmem, ⟨4, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GdnDwRefIdeal.lean ====
abbrev S4096x2048 : Shape := ⟨2, ![4096, 2048]⟩
abbrev S4096x1024 : Shape := ⟨2, ![4096, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S_, .f32⟩
  | .hbm, ⟨3, _⟩ => ⟨S2048x1024, .f32⟩
  | .hbm, ⟨4, _⟩ => ⟨S4096x2048, .f32⟩
  | .hbm, ⟨5, _⟩ => ⟨S4096x1024, .f32⟩
  | .hbm, ⟨6, _⟩ => ⟨S4096x1024, .f32⟩
  | .hbm, ⟨7, _⟩ => ⟨S1024x2048, .f32⟩
  | .hbm, ⟨8, _⟩ => ⟨S2048x1024, .f32⟩
  | .hbm, ⟨9, _⟩ => ⟨S2048x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Proj.lean ====
abbrev S4096x1024 : Shape := ⟨2, ![4096, 1024]⟩
abbrev S1024x14336 : Shape := ⟨2, ![1024, 14336]⟩
abbrev S4096x14336 : Shape := ⟨2, ![4096, 14336]⟩
abbrev S1024x1024 : Shape := ⟨2, ![1024, 1024]⟩
abbrev S1024x2048 : Shape := ⟨2, ![1024, 2048]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x14336, .bf16⟩
  | .hbm, ⟨2, _⟩ => ⟨S4096x14336, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 7, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjRefIdeal.lean ====
abbrev S4096x1024 : Shape := ⟨2, ![4096, 1024]⟩
abbrev S1024x14336 : Shape := ⟨2, ![1024, 14336]⟩
abbrev S4096x14336 : Shape := ⟨2, ![4096, 14336]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x14336, .bf16⟩
  | .hbm, ⟨2, _⟩ => ⟨S4096x1024, .f32⟩
  | .hbm, ⟨3, _⟩ => ⟨S1024x14336, .f32⟩
  | .hbm, ⟨4, _⟩ => ⟨S4096x14336, .f32⟩
  | .hbm, ⟨5, _⟩ => ⟨S4096x14336, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Up.lean ====
abbrev S4096x1024 : Shape := ⟨2, ![4096, 1024]⟩
abbrev S1024x4096 : Shape := ⟨2, ![1024, 4096]⟩
abbrev S4096x4096 : Shape := ⟨2, ![4096, 4096]⟩
abbrev S1024x1024 : Shape := ⟨2, ![1024, 1024]⟩
abbrev S1024x2048 : Shape := ⟨2, ![1024, 2048]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .bf16⟩
  | .hbm, ⟨2, _⟩ => ⟨S4096x4096, .bf16⟩
  | .hbm, ⟨3, _⟩ => ⟨S4096x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .bf16⟩
  | .local _ .vmem, ⟨7, _⟩ => ⟨S1024x2048, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== UpRefIdeal.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .bf16⟩
  | .hbm, ⟨2, _⟩ => ⟨S4096x1024, .f32⟩
  | .hbm, ⟨3, _⟩ => ⟨S1024x4096, .f32⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S4096x4096, .bf16⟩
  | .hbm, ⟨9, _⟩ => ⟨S4096x4096, .f32⟩
  | .hbm, ⟨10, _⟩ => ⟨S4096x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_cst : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Down.lean ====
abbrev S4096x4096 : Shape := ⟨2, ![4096, 4096]⟩
abbrev S4096x1024 : Shape := ⟨2, ![4096, 1024]⟩
abbrev S1024x4096 : Shape := ⟨2, ![1024, 4096]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S1024x1024, .f32⟩
  | .local _ .vmem, ⟨4, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownRefIdeal.lean ====
abbrev S4096x4096 : Shape := ⟨2, ![4096, 4096]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x4096, .f32⟩
  | .hbm, ⟨3, _⟩ => ⟨S4096x1024, .f32⟩
  | .hbm, ⟨4, _⟩ => ⟨S4096x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Ssm.lean ====
abbrev S4096x2048 : Shape := ⟨2, ![4096, 2048]⟩
abbrev S2048x1024 : Shape := ⟨2, ![2048, 1024]⟩
abbrev S4096x1024 : Shape := ⟨2, ![4096, 1024]⟩
abbrev S1024x2048 : Shape := ⟨2, ![1024, 2048]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .f32⟩
  | .local _ .vmem, ⟨4, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsmRefIdeal.lean ====
abbrev S4096x2048 : Shape := ⟨2, ![4096, 2048]⟩
abbrev S2048x1024 : Shape := ⟨2, ![2048, 1024]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x2048, .f32⟩
  | .hbm, ⟨3, _⟩ => ⟨S2048x1024, .f32⟩
  | .hbm, ⟨4, _⟩ => ⟨S4096x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Small.lean ====
abbrev S4096x1024 : Shape := ⟨2, ![4096, 1024]⟩
abbrev S1024x128 : Shape := ⟨2, ![1024, 128]⟩
abbrev S4096x128 : Shape := ⟨2, ![4096, 128]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x128, .bf16⟩
  | .hbm, ⟨2, _⟩ => ⟨S4096x128, .f32⟩
  | .local _ .vmem, ⟨0, _⟩ => ⟨S1024x1024, .bf16⟩
  | .local _ .vmem, ⟨1, _⟩ => ⟨S1024x1024, .bf16⟩
  | .local _ .vmem, ⟨2, _⟩ => ⟨S1024x128, .bf16⟩
  | .local _ .vmem, ⟨3, _⟩ => ⟨S1024x128, .f32⟩
  | .local _ .vmem, ⟨4, _⟩ => ⟨S1024x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SmallRefIdeal.lean ====
abbrev S4096x1024 : Shape := ⟨2, ![4096, 1024]⟩
abbrev S1024x128 : Shape := ⟨2, ![1024, 128]⟩
abbrev S4096x128 : Shape := ⟨2, ![4096, 128]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x128, .bf16⟩
  | .hbm, ⟨2, _⟩ => ⟨S4096x1024, .f32⟩
  | .hbm, ⟨3, _⟩ => ⟨S1024x128, .f32⟩
  | .hbm, ⟨4, _⟩ => ⟨S4096x128, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== SmallDw.lean ====
abbrev S4096x1024 : Shape := ⟨2, ![4096, 1024]⟩
abbrev S4096x128 : Shape := ⟨2, ![4096, 128]⟩
abbrev S1024x128 : Shape := ⟨2, ![1024, 128]⟩

abbrev nBuf : Space → Nat
  | .hbm => 3
  | .vmem => 3
  | .smem => 0
  | _ => 0

abbrev bufTy : (tb : Table) → Fin (tcTables nBuf tb) → BufTy
  | .hbm, ⟨0, _⟩ => ⟨S4096x1024, .bf16⟩
  | .hbm, ⟨1, _⟩ => ⟨S4096x128, .bf16⟩
  | .hbm, ⟨2, _⟩ => ⟨S1024x128, .bf16⟩
  | .local _ .vmem, ⟨0, _⟩ => ⟨S4096x1024, .bf16⟩
  | .local _ .vmem, ⟨1, _⟩ => ⟨S4096x128, .bf16⟩
  | .local _ .vmem, ⟨2, _⟩ => ⟨S1024x128, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S4096x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== SmallDwRefIdeal.lean ====
abbrev S4096x1024 : Shape := ⟨2, ![4096, 1024]⟩
abbrev S4096x128 : Shape := ⟨2, ![4096, 128]⟩
abbrev S_ : Shape := ⟨0, ![]⟩
abbrev S1024x128 : Shape := ⟨2, ![1024, 128]⟩
abbrev S128x1024 : Shape := ⟨2, ![128, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x128, .bf16⟩
  | .hbm, ⟨2, _⟩ => ⟨S_, .f32⟩
  | .hbm, ⟨3, _⟩ => ⟨S1024x128, .f32⟩
  | .hbm, ⟨4, _⟩ => ⟨S4096x1024, .f32⟩
  | .hbm, ⟨5, _⟩ => ⟨S4096x128, .f32⟩
  | .hbm, ⟨6, _⟩ => ⟨S4096x128, .f32⟩
  | .hbm, ⟨7, _⟩ => ⟨S128x1024, .f32⟩
  | .hbm, ⟨8, _⟩ => ⟨S1024x128, .f32⟩
  | .hbm, ⟨9, _⟩ => ⟨S1024x128, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== SmallDx.lean ====
abbrev S4096x128 : Shape := ⟨2, ![4096, 128]⟩
abbrev S1024x128 : Shape := ⟨2, ![1024, 128]⟩
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x128, .bf16⟩
  | .hbm, ⟨1, _⟩ => ⟨S1024x128, .bf16⟩
  | .hbm, ⟨2, _⟩ => ⟨S4096x1024, .f32⟩
  | .local _ .vmem, ⟨0, _⟩ => ⟨S1024x128, .bf16⟩
  | .local _ .vmem, ⟨1, _⟩ => ⟨S1024x128, .bf16⟩
  | .local _ .vmem, ⟨2, _⟩ => ⟨S1024x128, .bf16⟩
  | .local _ .vmem, ⟨3, _⟩ => ⟨S1024x1024, .f32⟩
  | .local _ .vmem, ⟨4, _⟩ => ⟨S1024x1024, .f32⟩
  | _, _ => ⟨S4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SmallDxRefIdeal.lean ====
abbrev S4096x128 : Shape := ⟨2, ![4096, 128]⟩
abbrev S1024x128 : Shape := ⟨2, ![1024, 128]⟩
abbrev S_ : Shape := ⟨0, ![]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x128, .bf16⟩
  | .hbm, ⟨1, _⟩ => ⟨S1024x128, .bf16⟩
  | .hbm, ⟨2, _⟩ => ⟨S_, .f32⟩
  | .hbm, ⟨3, _⟩ => ⟨S4096x1024, .f32⟩
  | .hbm, ⟨4, _⟩ => ⟨S1024x128, .f32⟩
  | .hbm, ⟨5, _⟩ => ⟨S4096x128, .f32⟩
  | .hbm, ⟨6, _⟩ => ⟨S4096x128, .f32⟩
  | .hbm, ⟨7, _⟩ => ⟨S4096x1024, .f32⟩
  | _, _ => ⟨S4096x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== AdamUp.lean ====
abbrev S8x256x1024 : Shape := ⟨3, ![8, 256, 1024]⟩
abbrev S256x1024 : Shape := ⟨2, ![256, 1024]⟩
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x256x1024, .bf16⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .local _ .vmem, ⟨0, _⟩ => ⟨S8x128x1024, .bf16⟩
  | .local _ .vmem, ⟨1, _⟩ => ⟨S8x128x1024, .bf16⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | _, _ => ⟨S8x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamUpIdeal.lean ====
abbrev S8x256x1024 : Shape := ⟨3, ![8, 256, 1024]⟩
abbrev S256x1024 : Shape := ⟨2, ![256, 1024]⟩
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x256x1024, .bf16⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .local _ .vmem, ⟨0, _⟩ => ⟨S8x128x1024, .bf16⟩
  | .local _ .vmem, ⟨1, _⟩ => ⟨S8x128x1024, .bf16⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | _, _ => ⟨S8x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamUpRefIdeal.lean ====
abbrev S8x256x1024 : Shape := ⟨3, ![8, 256, 1024]⟩
abbrev S256x1024 : Shape := ⟨2, ![256, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x256x1024, .bf16⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S8x256x1024, .f32⟩
  | .hbm, ⟨5, _⟩ => ⟨S_, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S_, .f32⟩
  | .hbm, ⟨11, _⟩ => ⟨S256x1024, .f32⟩
  | .hbm, ⟨12, _⟩ => ⟨S256x1024, .f32⟩
  | .hbm, ⟨13, _⟩ => ⟨S256x1024, .f32⟩
  | .hbm, ⟨14, _⟩ => ⟨S_, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S_, .f32⟩
  | .hbm, ⟨19, _⟩ => ⟨S256x1024, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S_, .f32⟩
  | .hbm, ⟨26, _⟩ => ⟨S256x1024, .f32⟩
  | .hbm, ⟨27, _⟩ => ⟨S256x1024, .f32⟩
  | .hbm, ⟨28, _⟩ => ⟨S256x1024, .f32⟩
  | .hbm, ⟨29, _⟩ => ⟨S_, .f32⟩
  | .hbm, ⟨30, _⟩ => ⟨S256x1024, .f32⟩
  | .hbm, ⟨31, _⟩ => ⟨S256x1024, .f32⟩
  | .hbm, ⟨32, _⟩ => ⟨S256x1024, .f32⟩
  | .hbm, ⟨33, _⟩ => ⟨S_, .f32⟩
  | .hbm, ⟨34, _⟩ => ⟨S256x1024, .f32⟩
  | .hbm, ⟨35, _⟩ => ⟨S256x1024, .f32⟩
  | .hbm, ⟨36, _⟩ => ⟨S256x1024, .f32⟩
  | .hbm, ⟨37, _⟩ => ⟨S_, .f32⟩
  | .hbm, ⟨38, _⟩ => ⟨S256x1024, .f32⟩
  | .hbm, ⟨39, _⟩ => ⟨S256x1024, .f32⟩
  | _, _ => ⟨S8x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamRep.lean ====
abbrev S8x130x128 : Shape := ⟨3, ![8, 130, 128]⟩
abbrev S130x128 : Shape := ⟨2, ![130, 128]⟩
abbrev S1x130x128 : Shape := ⟨3, ![1, 130, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x130x128, .f32⟩
  | .hbm, ⟨1, _⟩ => ⟨S130x128, .f32⟩
  | .hbm, ⟨2, _⟩ => ⟨S130x128, .f32⟩
  | .hbm, ⟨3, _⟩ => ⟨S130x128, .f32⟩
  | .hbm, ⟨4, _⟩ => ⟨S130x128, .f32⟩
  | .hbm, ⟨5, _⟩ => ⟨S130x128, .f32⟩
  | .hbm, ⟨6, _⟩ => ⟨S130x128, .f32⟩
  | .hbm, ⟨7, _⟩ => ⟨S130x128, .f32⟩
  | .local _ .vmem, ⟨0, _⟩ => ⟨S8x130x128, .f32⟩
  | .local _ .vmem, ⟨1, _⟩ => ⟨S130x128, .f32⟩
  | .local _ .vmem, ⟨2, _⟩ => ⟨S130x128, .f32⟩
  | .local _ .vmem, ⟨3, _⟩ => ⟨S130x128, .f32⟩
  | .local _ .vmem, ⟨4, _⟩ => ⟨S130x128, .f32⟩
  | .local _ .vmem, ⟨5, _⟩ => ⟨S130x128, .f32⟩
  | .local _ .vmem, ⟨6, _⟩ => ⟨S130x128, .f32⟩
  | .local _ .vmem, ⟨7, _⟩ => ⟨S130x128, .f32⟩
  | _, _ => ⟨S8x130x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x130x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S130x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S130x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S130x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S130x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S130x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S130x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S130x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamRepIdeal.lean ====
abbrev S8x130x128 : Shape := ⟨3, ![8, 130, 128]⟩
abbrev S130x128 : Shape := ⟨2, ![130, 128]⟩
abbrev S1x130x128 : Shape := ⟨3, ![1, 130, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x130x128, .f32⟩
  | .hbm, ⟨1, _⟩ => ⟨S130x128, .f32⟩
  | .hbm, ⟨2, _⟩ => ⟨S130x128, .f32⟩
  | .hbm, ⟨3, _⟩ => ⟨S130x128, .f32⟩
  | .hbm, ⟨4, _⟩ => ⟨S130x128, .f32⟩
  | .hbm, ⟨5, _⟩ => ⟨S130x128, .f32⟩
  | .hbm, ⟨6, _⟩ => ⟨S130x128, .f32⟩
  | .hbm, ⟨7, _⟩ => ⟨S130x128, .f32⟩
  | .local _ .vmem, ⟨0, _⟩ => ⟨S8x130x128, .f32⟩
  | .local _ .vmem, ⟨1, _⟩ => ⟨S130x128, .f32⟩
  | .local _ .vmem, ⟨2, _⟩ => ⟨S130x128, .f32⟩
  | .local _ .vmem, ⟨3, _⟩ => ⟨S130x128, .f32⟩
  | .local _ .vmem, ⟨4, _⟩ => ⟨S130x128, .f32⟩
  | .local _ .vmem, ⟨5, _⟩ => ⟨S130x128, .f32⟩
  | .local _ .vmem, ⟨6, _⟩ => ⟨S130x128, .f32⟩
  | .local _ .vmem, ⟨7, _⟩ => ⟨S130x128, .f32⟩
  | _, _ => ⟨S8x130x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x130x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S130x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S130x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S130x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S130x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S130x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S130x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S130x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamRepRefIdeal.lean ====
abbrev S8x130x128 : Shape := ⟨3, ![8, 130, 128]⟩
abbrev S130x128 : Shape := ⟨2, ![130, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x130x128, .f32⟩
  | .hbm, ⟨1, _⟩ => ⟨S130x128, .f32⟩
  | .hbm, ⟨2, _⟩ => ⟨S130x128, .f32⟩
  | .hbm, ⟨3, _⟩ => ⟨S130x128, .f32⟩
  | .hbm, ⟨4, _⟩ => ⟨S_, .f32⟩
  | .hbm, ⟨5, _⟩ => ⟨S130x128, .f32⟩
  | .hbm, ⟨6, _⟩ => ⟨S_, .f32⟩
  | .hbm, ⟨7, _⟩ => ⟨S130x128, .f32⟩
  | .hbm, ⟨8, _⟩ => ⟨S130x128, .f32⟩
  | .hbm, ⟨9, _⟩ => ⟨S_, .f32⟩
  | .hbm, ⟨10, _⟩ => ⟨S130x128, .f32⟩
  | .hbm, ⟨11, _⟩ => ⟨S130x128, .f32⟩
  | .hbm, ⟨12, _⟩ => ⟨S130x128, .f32⟩
  | .hbm, ⟨13, _⟩ => ⟨S_, .f32⟩
  | .hbm, ⟨14, _⟩ => ⟨S130x128, .f32⟩
  | .hbm, ⟨15, _⟩ => ⟨S130x128, .f32⟩
  | .hbm, ⟨16, _⟩ => ⟨S130x128, .f32⟩
  | .hbm, ⟨17, _⟩ => ⟨S_, .f32⟩
  | .hbm, ⟨18, _⟩ => ⟨S130x128, .f32⟩
  | .hbm, ⟨19, _⟩ => ⟨S130x128, .f32⟩
  | .hbm, ⟨20, _⟩ => ⟨S130x128, .f32⟩
  | .hbm, ⟨21, _⟩ => ⟨S_, .f32⟩
  | .hbm, ⟨22, _⟩ => ⟨S130x128, .f32⟩
  | .hbm, ⟨23, _⟩ => ⟨S130x128, .f32⟩
  | .hbm, ⟨24, _⟩ => ⟨S_, .f32⟩
  | .hbm, ⟨25, _⟩ => ⟨S130x128, .f32⟩
  | .hbm, ⟨26, _⟩ => ⟨S130x128, .f32⟩
  | .hbm, ⟨27, _⟩ => ⟨S130x128, .f32⟩
  | .hbm, ⟨28, _⟩ => ⟨S_, .f32⟩
  | .hbm, ⟨29, _⟩ => ⟨S130x128, .f32⟩
  | .hbm, ⟨30, _⟩ => ⟨S130x128, .f32⟩
  | .hbm, ⟨31, _⟩ => ⟨S130x128, .f32⟩
  | .hbm, ⟨32, _⟩ => ⟨S_, .f32⟩
  | .hbm, ⟨33, _⟩ => ⟨S130x128, .f32⟩
  | .hbm, ⟨34, _⟩ => ⟨S130x128, .f32⟩
  | .hbm, ⟨35, _⟩ => ⟨S130x128, .f32⟩
  | .hbm, ⟨36, _⟩ => ⟨S_, .f32⟩
  | .hbm, ⟨37, _⟩ => ⟨S130x128, .f32⟩
  | .hbm, ⟨38, _⟩ => ⟨S130x128, .f32⟩
  | _, _ => ⟨S8x130x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamOut.lean ====
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S8x128x1024, .bf16⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamOutIdeal.lean ====
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S8x128x1024, .bf16⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamOutRefIdeal.lean ====
abbrev S8x128x1024 : Shape := ⟨3, ![8, 128, 1024]⟩
abbrev S128x1024 : Shape := ⟨2, ![128, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S8x128x1024, .f32⟩
  | .hbm, ⟨5, _⟩ => ⟨S_, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S_, .f32⟩
  | .hbm, ⟨11, _⟩ => ⟨S128x1024, .f32⟩
  | .hbm, ⟨12, _⟩ => ⟨S128x1024, .f32⟩
  | .hbm, ⟨13, _⟩ => ⟨S128x1024, .f32⟩
  | .hbm, ⟨14, _⟩ => ⟨S_, .f32⟩
  | .hbm, ⟨15, _⟩ => ⟨S128x1024, .f32⟩
  | .hbm, ⟨16, _⟩ => ⟨S128x1024, .f32⟩
  | .hbm, ⟨17, _⟩ => ⟨S128x1024, .f32⟩
  | .hbm, ⟨18, _⟩ => ⟨S_, .f32⟩
  | .hbm, ⟨19, _⟩ => ⟨S128x1024, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S_, .f32⟩
  | .hbm, ⟨26, _⟩ => ⟨S128x1024, .f32⟩
  | .hbm, ⟨27, _⟩ => ⟨S128x1024, .f32⟩
  | .hbm, ⟨28, _⟩ => ⟨S128x1024, .f32⟩
  | .hbm, ⟨29, _⟩ => ⟨S_, .f32⟩
  | .hbm, ⟨30, _⟩ => ⟨S128x1024, .f32⟩
  | .hbm, ⟨31, _⟩ => ⟨S128x1024, .f32⟩
  | .hbm, ⟨32, _⟩ => ⟨S128x1024, .f32⟩
  | .hbm, ⟨33, _⟩ => ⟨S_, .f32⟩
  | .hbm, ⟨34, _⟩ => ⟨S128x1024, .f32⟩
  | .hbm, ⟨35, _⟩ => ⟨S128x1024, .f32⟩
  | .hbm, ⟨36, _⟩ => ⟨S128x1024, .f32⟩
  | .hbm, ⟨37, _⟩ => ⟨S_, .f32⟩
  | .hbm, ⟨38, _⟩ => ⟨S128x1024, .f32⟩
  | .hbm, ⟨39, _⟩ => ⟨S128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamMlpUp.lean ====
abbrev S8x1024x512 : Shape := ⟨3, ![8, 1024, 512]⟩
abbrev S1024x512 : Shape := ⟨2, ![1024, 512]⟩
abbrev S8x256x512 : Shape := ⟨3, ![8, 256, 512]⟩
abbrev S256x512 : Shape := ⟨2, ![256, 512]⟩
abbrev S1x256x512 : Shape := ⟨3, ![1, 256, 512]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x512, .bf16⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .local _ .vmem, ⟨0, _⟩ => ⟨S8x256x512, .bf16⟩
  | .local _ .vmem, ⟨1, _⟩ => ⟨S8x256x512, .bf16⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | _, _ => ⟨S8x1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamMlpUpIdeal.lean ====
abbrev S8x1024x512 : Shape := ⟨3, ![8, 1024, 512]⟩
abbrev S1024x512 : Shape := ⟨2, ![1024, 512]⟩
abbrev S8x256x512 : Shape := ⟨3, ![8, 256, 512]⟩
abbrev S256x512 : Shape := ⟨2, ![256, 512]⟩
abbrev S1x256x512 : Shape := ⟨3, ![1, 256, 512]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x512, .bf16⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .local _ .vmem, ⟨0, _⟩ => ⟨S8x256x512, .bf16⟩
  | .local _ .vmem, ⟨1, _⟩ => ⟨S8x256x512, .bf16⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | _, _ => ⟨S8x1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamMlpUpRefIdeal.lean ====
abbrev S8x1024x512 : Shape := ⟨3, ![8, 1024, 512]⟩
abbrev S1024x512 : Shape := ⟨2, ![1024, 512]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x1024x512, .bf16⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S8x1024x512, .f32⟩
  | .hbm, ⟨5, _⟩ => ⟨S_, .f32⟩
  | .hbm, ⟨6, _⟩ => ⟨S1024x512, .f32⟩
  | .hbm, ⟨7, _⟩ => ⟨S_, .f32⟩
  | .hbm, ⟨8, _⟩ => ⟨S1024x512, .f32⟩
  | .hbm, ⟨9, _⟩ => ⟨S1024x512, .f32⟩
  | .hbm, ⟨10, _⟩ => ⟨S_, .f32⟩
  | .hbm, ⟨11, _⟩ => ⟨S1024x512, .f32⟩
  | .hbm, ⟨12, _⟩ => ⟨S1024x512, .f32⟩
  | .hbm, ⟨13, _⟩ => ⟨S1024x512, .f32⟩
  | .hbm, ⟨14, _⟩ => ⟨S_, .f32⟩
  | .hbm, ⟨15, _⟩ => ⟨S1024x512, .f32⟩
  | .hbm, ⟨16, _⟩ => ⟨S1024x512, .f32⟩
  | .hbm, ⟨17, _⟩ => ⟨S1024x512, .f32⟩
  | .hbm, ⟨18, _⟩ => ⟨S_, .f32⟩
  | .hbm, ⟨19, _⟩ => ⟨S1024x512, .f32⟩
  | .hbm, ⟨20, _⟩ => ⟨S1024x512, .f32⟩
  | .hbm, ⟨21, _⟩ => ⟨S1024x512, .f32⟩
  | .hbm, ⟨22, _⟩ => ⟨S_, .f32⟩
  | .hbm, ⟨23, _⟩ => ⟨S1024x512, .f32⟩
  | .hbm, ⟨24, _⟩ => ⟨S1024x512, .f32⟩
  | .hbm, ⟨25, _⟩ => ⟨S_, .f32⟩
  | .hbm, ⟨26, _⟩ => ⟨S1024x512, .f32⟩
  | .hbm, ⟨27, _⟩ => ⟨S1024x512, .f32⟩
  | .hbm, ⟨28, _⟩ => ⟨S1024x512, .f32⟩
  | .hbm, ⟨29, _⟩ => ⟨S_, .f32⟩
  | .hbm, ⟨30, _⟩ => ⟨S1024x512, .f32⟩
  | .hbm, ⟨31, _⟩ => ⟨S1024x512, .f32⟩
  | .hbm, ⟨32, _⟩ => ⟨S1024x512, .f32⟩
  | .hbm, ⟨33, _⟩ => ⟨S_, .f32⟩
  | .hbm, ⟨34, _⟩ => ⟨S1024x512, .f32⟩
  | .hbm, ⟨35, _⟩ => ⟨S1024x512, .f32⟩
  | .hbm, ⟨36, _⟩ => ⟨S1024x512, .f32⟩
  | .hbm, ⟨37, _⟩ => ⟨S_, .f32⟩
  | .hbm, ⟨38, _⟩ => ⟨S1024x512, .f32⟩
  | .hbm, ⟨39, _⟩ => ⟨S1024x512, .f32⟩
  | _, _ => ⟨S8x1024x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamMlpDown.lean ====
abbrev S8x512x1024 : Shape := ⟨3, ![8, 512, 1024]⟩
abbrev S512x1024 : Shape := ⟨2, ![512, 1024]⟩
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x512x1024, .bf16⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .local _ .vmem, ⟨0, _⟩ => ⟨S8x128x1024, .bf16⟩
  | .local _ .vmem, ⟨1, _⟩ => ⟨S8x128x1024, .bf16⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | _, _ => ⟨S8x512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamMlpDownIdeal.lean ====
abbrev S8x512x1024 : Shape := ⟨3, ![8, 512, 1024]⟩
abbrev S512x1024 : Shape := ⟨2, ![512, 1024]⟩
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x512x1024, .bf16⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .local _ .vmem, ⟨0, _⟩ => ⟨S8x128x1024, .bf16⟩
  | .local _ .vmem, ⟨1, _⟩ => ⟨S8x128x1024, .bf16⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | _, _ => ⟨S8x512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamMlpDownRefIdeal.lean ====
abbrev S8x512x1024 : Shape := ⟨3, ![8, 512, 1024]⟩
abbrev S512x1024 : Shape := ⟨2, ![512, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x512x1024, .bf16⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S8x512x1024, .f32⟩
  | .hbm, ⟨5, _⟩ => ⟨S_, .f32⟩
  | .hbm, ⟨6, _⟩ => ⟨S512x1024, .f32⟩
  | .hbm, ⟨7, _⟩ => ⟨S_, .f32⟩
  | .hbm, ⟨8, _⟩ => ⟨S512x1024, .f32⟩
  | .hbm, ⟨9, _⟩ => ⟨S512x1024, .f32⟩
  | .hbm, ⟨10, _⟩ => ⟨S_, .f32⟩
  | .hbm, ⟨11, _⟩ => ⟨S512x1024, .f32⟩
  | .hbm, ⟨12, _⟩ => ⟨S512x1024, .f32⟩
  | .hbm, ⟨13, _⟩ => ⟨S512x1024, .f32⟩
  | .hbm, ⟨14, _⟩ => ⟨S_, .f32⟩
  | .hbm, ⟨15, _⟩ => ⟨S512x1024, .f32⟩
  | .hbm, ⟨16, _⟩ => ⟨S512x1024, .f32⟩
  | .hbm, ⟨17, _⟩ => ⟨S512x1024, .f32⟩
  | .hbm, ⟨18, _⟩ => ⟨S_, .f32⟩
  | .hbm, ⟨19, _⟩ => ⟨S512x1024, .f32⟩
  | .hbm, ⟨20, _⟩ => ⟨S512x1024, .f32⟩
  | .hbm, ⟨21, _⟩ => ⟨S512x1024, .f32⟩
  | .hbm, ⟨22, _⟩ => ⟨S_, .f32⟩
  | .hbm, ⟨23, _⟩ => ⟨S512x1024, .f32⟩
  | .hbm, ⟨24, _⟩ => ⟨S512x1024, .f32⟩
  | .hbm, ⟨25, _⟩ => ⟨S_, .f32⟩
  | .hbm, ⟨26, _⟩ => ⟨S512x1024, .f32⟩
  | .hbm, ⟨27, _⟩ => ⟨S512x1024, .f32⟩
  | .hbm, ⟨28, _⟩ => ⟨S512x1024, .f32⟩
  | .hbm, ⟨29, _⟩ => ⟨S_, .f32⟩
  | .hbm, ⟨30, _⟩ => ⟨S512x1024, .f32⟩
  | .hbm, ⟨31, _⟩ => ⟨S512x1024, .f32⟩
  | .hbm, ⟨32, _⟩ => ⟨S512x1024, .f32⟩
  | .hbm, ⟨33, _⟩ => ⟨S_, .f32⟩
  | .hbm, ⟨34, _⟩ => ⟨S512x1024, .f32⟩
  | .hbm, ⟨35, _⟩ => ⟨S512x1024, .f32⟩
  | .hbm, ⟨36, _⟩ => ⟨S512x1024, .f32⟩
  | .hbm, ⟨37, _⟩ => ⟨S_, .f32⟩
  | .hbm, ⟨38, _⟩ => ⟨S512x1024, .f32⟩
  | .hbm, ⟨39, _⟩ => ⟨S512x1024, .f32⟩
  | _, _ => ⟨S8x512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamAda.lean ====
abbrev S1x1024x768 : Shape := ⟨3, ![1, 1024, 768]⟩
abbrev S1024x768 : Shape := ⟨2, ![1024, 768]⟩
abbrev S1x512x768 : Shape := ⟨3, ![1, 512, 768]⟩
abbrev S512x768 : Shape := ⟨2, ![512, 768]⟩

abbrev nBuf : Space → Nat
  | .hbm => 8
  | .vmem => 16
  | .smem => 0
  | _ => 0

abbrev bufTy : (tb : Table) → Fin (tcTables nBuf tb) → BufTy
  | .hbm, ⟨0, _⟩ => ⟨S1x1024x768, .f32⟩
  | .hbm, ⟨1, _⟩ => ⟨S1024x768, .f32⟩
  | .hbm, ⟨2, _⟩ => ⟨S1024x768, .f32⟩
  | .hbm, ⟨3, _⟩ => ⟨S1024x768, .f32⟩
  | .hbm, ⟨4, _⟩ => ⟨S1024x768, .f32⟩
  | .hbm, ⟨5, _⟩ => ⟨S1024x768, .f32⟩
  | .hbm, ⟨6, _⟩ => ⟨S1024x768, .f32⟩
  | .hbm, ⟨7, _⟩ => ⟨S1024x768, .f32⟩
  | .local _ .vmem, ⟨0, _⟩ => ⟨S1x512x768, .f32⟩
  | .local _ .vmem, ⟨1, _⟩ => ⟨S1x512x768, .f32⟩
  | .local _ .vmem, ⟨2, _⟩ => ⟨S512x768, .f32⟩
  | .local _ .vmem, ⟨3, _⟩ => ⟨S512x768, .f32⟩
  | .local _ .vmem, ⟨4, _⟩ => ⟨S512x768, .f32⟩
  | .local _ .vmem, ⟨5, _⟩ => ⟨S512x768, .f32⟩
  | .local _ .vmem, ⟨6, _⟩ => ⟨S512x768, .f32⟩
  | .local _ .vmem, ⟨7, _⟩ => ⟨S512x768, .f32⟩
  | .local _ .vmem, ⟨8, _⟩ => ⟨S512x768, .f32⟩
  | .local _ .vmem, ⟨9, _⟩ => ⟨S512x768, .f32⟩
  | .local _ .vmem, ⟨10, _⟩ => ⟨S512x768, .f32⟩
  | .local _ .vmem, ⟨11, _⟩ => ⟨S512x768, .f32⟩
  | .local _ .vmem, ⟨12, _⟩ => ⟨S512x768, .f32⟩
  | .local _ .vmem, ⟨13, _⟩ => ⟨S512x768, .f32⟩
  | .local _ .vmem, ⟨14, _⟩ => ⟨S512x768, .f32⟩
  | .local _ .vmem, ⟨15, _⟩ => ⟨S512x768, .f32⟩
  | _, _ => ⟨S1x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamAdaIdeal.lean ====
abbrev S1x1024x768 : Shape := ⟨3, ![1, 1024, 768]⟩
abbrev S1024x768 : Shape := ⟨2, ![1024, 768]⟩
abbrev S1x512x768 : Shape := ⟨3, ![1, 512, 768]⟩
abbrev S512x768 : Shape := ⟨2, ![512, 768]⟩

abbrev nBuf : Space → Nat
  | .hbm => 8
  | .vmem => 16
  | .smem => 0
  | _ => 0

abbrev bufTy : (tb : Table) → Fin (tcTables nBuf tb) → BufTy
  | .hbm, ⟨0, _⟩ => ⟨S1x1024x768, .f32⟩
  | .hbm, ⟨1, _⟩ => ⟨S1024x768, .f32⟩
  | .hbm, ⟨2, _⟩ => ⟨S1024x768, .f32⟩
  | .hbm, ⟨3, _⟩ => ⟨S1024x768, .f32⟩
  | .hbm, ⟨4, _⟩ => ⟨S1024x768, .f32⟩
  | .hbm, ⟨5, _⟩ => ⟨S1024x768, .f32⟩
  | .hbm, ⟨6, _⟩ => ⟨S1024x768, .f32⟩
  | .hbm, ⟨7, _⟩ => ⟨S1024x768, .f32⟩
  | .local _ .vmem, ⟨0, _⟩ => ⟨S1x512x768, .f32⟩
  | .local _ .vmem, ⟨1, _⟩ => ⟨S1x512x768, .f32⟩
  | .local _ .vmem, ⟨2, _⟩ => ⟨S512x768, .f32⟩
  | .local _ .vmem, ⟨3, _⟩ => ⟨S512x768, .f32⟩
  | .local _ .vmem, ⟨4, _⟩ => ⟨S512x768, .f32⟩
  | .local _ .vmem, ⟨5, _⟩ => ⟨S512x768, .f32⟩
  | .local _ .vmem, ⟨6, _⟩ => ⟨S512x768, .f32⟩
  | .local _ .vmem, ⟨7, _⟩ => ⟨S512x768, .f32⟩
  | .local _ .vmem, ⟨8, _⟩ => ⟨S512x768, .f32⟩
  | .local _ .vmem, ⟨9, _⟩ => ⟨S512x768, .f32⟩
  | .local _ .vmem, ⟨10, _⟩ => ⟨S512x768, .f32⟩
  | .local _ .vmem, ⟨11, _⟩ => ⟨S512x768, .f32⟩
  | .local _ .vmem, ⟨12, _⟩ => ⟨S512x768, .f32⟩
  | .local _ .vmem, ⟨13, _⟩ => ⟨S512x768, .f32⟩
  | .local _ .vmem, ⟨14, _⟩ => ⟨S512x768, .f32⟩
  | .local _ .vmem, ⟨15, _⟩ => ⟨S512x768, .f32⟩
  | _, _ => ⟨S1x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamAdaRefIdeal.lean ====
abbrev S1x1024x768 : Shape := ⟨3, ![1, 1024, 768]⟩
abbrev S1024x768 : Shape := ⟨2, ![1024, 768]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x1024x768, .f32⟩
  | .hbm, ⟨1, _⟩ => ⟨S1024x768, .f32⟩
  | .hbm, ⟨2, _⟩ => ⟨S1024x768, .f32⟩
  | .hbm, ⟨3, _⟩ => ⟨S1024x768, .f32⟩
  | .hbm, ⟨4, _⟩ => ⟨S_, .f32⟩
  | .hbm, ⟨5, _⟩ => ⟨S1024x768, .f32⟩
  | .hbm, ⟨6, _⟩ => ⟨S_, .f32⟩
  | .hbm, ⟨7, _⟩ => ⟨S1024x768, .f32⟩
  | .hbm, ⟨8, _⟩ => ⟨S1024x768, .f32⟩
  | .hbm, ⟨9, _⟩ => ⟨S_, .f32⟩
  | .hbm, ⟨10, _⟩ => ⟨S1024x768, .f32⟩
  | .hbm, ⟨11, _⟩ => ⟨S1024x768, .f32⟩
  | .hbm, ⟨12, _⟩ => ⟨S1024x768, .f32⟩
  | .hbm, ⟨13, _⟩ => ⟨S_, .f32⟩
  | .hbm, ⟨14, _⟩ => ⟨S1024x768, .f32⟩
  | .hbm, ⟨15, _⟩ => ⟨S1024x768, .f32⟩
  | .hbm, ⟨16, _⟩ => ⟨S1024x768, .f32⟩
  | .hbm, ⟨17, _⟩ => ⟨S_, .f32⟩
  | .hbm, ⟨18, _⟩ => ⟨S1024x768, .f32⟩
  | .hbm, ⟨19, _⟩ => ⟨S1024x768, .f32⟩
  | .hbm, ⟨20, _⟩ => ⟨S1024x768, .f32⟩
  | .hbm, ⟨21, _⟩ => ⟨S_, .f32⟩
  | .hbm, ⟨22, _⟩ => ⟨S1024x768, .f32⟩
  | .hbm, ⟨23, _⟩ => ⟨S1024x768, .f32⟩
  | .hbm, ⟨24, _⟩ => ⟨S_, .f32⟩
  | .hbm, ⟨25, _⟩ => ⟨S1024x768, .f32⟩
  | .hbm, ⟨26, _⟩ => ⟨S1024x768, .f32⟩
  | .hbm, ⟨27, _⟩ => ⟨S1024x768, .f32⟩
  | .hbm, ⟨28, _⟩ => ⟨S_, .f32⟩
  | .hbm, ⟨29, _⟩ => ⟨S1024x768, .f32⟩
  | .hbm, ⟨30, _⟩ => ⟨S1024x768, .f32⟩
  | .hbm, ⟨31, _⟩ => ⟨S1024x768, .f32⟩
  | .hbm, ⟨32, _⟩ => ⟨S_, .f32⟩
  | .hbm, ⟨33, _⟩ => ⟨S1024x768, .f32⟩
  | .hbm, ⟨34, _⟩ => ⟨S1024x768, .f32⟩
  | .hbm, ⟨35, _⟩ => ⟨S1024x768, .f32⟩
  | .hbm, ⟨36, _⟩ => ⟨S_, .f32⟩
  | .hbm, ⟨37, _⟩ => ⟨S1024x768, .f32⟩
  | .hbm, ⟨38, _⟩ => ⟨S1024x768, .f32⟩
  | _, _ => ⟨S1x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamIn.lean ====
abbrev S4x1024x1800 : Shape := ⟨3, ![4, 1024, 1800]⟩
abbrev S1024x1800 : Shape := ⟨2, ![1024, 1800]⟩
abbrev S4x128x1800 : Shape := ⟨3, ![4, 128, 1800]⟩
abbrev S128x1800 : Shape := ⟨2, ![128, 1800]⟩
abbrev S1x128x1800 : Shape := ⟨3, ![1, 128, 1800]⟩

abbrev nBuf : Space → Nat
  | .hbm => 8
  | .vmem => 16
  | .smem => 0
  | _ => 0

abbrev bufTy : (tb : Table) → Fin (tcTables nBuf tb) → BufTy
  | .hbm, ⟨0, _⟩ => ⟨S4x1024x1800, .bf16⟩
  | .hbm, ⟨1, _⟩ => ⟨S1024x1800, .f32⟩
  | .hbm, ⟨2, _⟩ => ⟨S1024x1800, .f32⟩
  | .hbm, ⟨3, _⟩ => ⟨S1024x1800, .f32⟩
  | .hbm, ⟨4, _⟩ => ⟨S1024x1800, .f32⟩
  | .hbm, ⟨5, _⟩ => ⟨S1024x1800, .f32⟩
  | .hbm, ⟨6, _⟩ => ⟨S1024x1800, .f32⟩
  | .hbm, ⟨7, _⟩ => ⟨S1024x1800, .f32⟩
  | .local _ .vmem, ⟨0, _⟩ => ⟨S4x128x1800, .bf16⟩
  | .local _ .vmem, ⟨1, _⟩ => ⟨S4x128x1800, .bf16⟩
  | .local _ .vmem, ⟨2, _⟩ => ⟨S128x1800, .f32⟩
  | .local _ .vmem, ⟨3, _⟩ => ⟨S128x1800, .f32⟩
  | .local _ .vmem, ⟨4, _⟩ => ⟨S128x1800, .f32⟩
  | .local _ .vmem, ⟨5, _⟩ => ⟨S128x1800, .f32⟩
  | .local _ .vmem, ⟨6, _⟩ => ⟨S128x1800, .f32⟩
  | .local _ .vmem, ⟨7, _⟩ => ⟨S128x1800, .f32⟩
  | .local _ .vmem, ⟨8, _⟩ => ⟨S128x1800, .f32⟩
  | .local _ .vmem, ⟨9, _⟩ => ⟨S128x1800, .f32⟩
  | .local _ .vmem, ⟨10, _⟩ => ⟨S128x1800, .f32⟩
  | .local _ .vmem, ⟨11, _⟩ => ⟨S128x1800, .f32⟩
  | .local _ .vmem, ⟨12, _⟩ => ⟨S128x1800, .f32⟩
  | .local _ .vmem, ⟨13, _⟩ => ⟨S128x1800, .f32⟩
  | .local _ .vmem, ⟨14, _⟩ => ⟨S128x1800, .f32⟩
  | .local _ .vmem, ⟨15, _⟩ => ⟨S128x1800, .f32⟩
  | _, _ => ⟨S4x1024x1800, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x128x1800 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1800 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1800 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1800 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1800 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1800 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1800 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1800 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInIdeal.lean ====
abbrev S4x1024x1800 : Shape := ⟨3, ![4, 1024, 1800]⟩
abbrev S1024x1800 : Shape := ⟨2, ![1024, 1800]⟩
abbrev S4x128x1800 : Shape := ⟨3, ![4, 128, 1800]⟩
abbrev S128x1800 : Shape := ⟨2, ![128, 1800]⟩
abbrev S1x128x1800 : Shape := ⟨3, ![1, 128, 1800]⟩

abbrev nBuf : Space → Nat
  | .hbm => 8
  | .vmem => 16
  | .smem => 0
  | _ => 0

abbrev bufTy : (tb : Table) → Fin (tcTables nBuf tb) → BufTy
  | .hbm, ⟨0, _⟩ => ⟨S4x1024x1800, .bf16⟩
  | .hbm, ⟨1, _⟩ => ⟨S1024x1800, .f32⟩
  | .hbm, ⟨2, _⟩ => ⟨S1024x1800, .f32⟩
  | .hbm, ⟨3, _⟩ => ⟨S1024x1800, .f32⟩
  | .hbm, ⟨4, _⟩ => ⟨S1024x1800, .f32⟩
  | .hbm, ⟨5, _⟩ => ⟨S1024x1800, .f32⟩
  | .hbm, ⟨6, _⟩ => ⟨S1024x1800, .f32⟩
  | .hbm, ⟨7, _⟩ => ⟨S1024x1800, .f32⟩
  | .local _ .vmem, ⟨0, _⟩ => ⟨S4x128x1800, .bf16⟩
  | .local _ .vmem, ⟨1, _⟩ => ⟨S4x128x1800, .bf16⟩
  | .local _ .vmem, ⟨2, _⟩ => ⟨S128x1800, .f32⟩
  | .local _ .vmem, ⟨3, _⟩ => ⟨S128x1800, .f32⟩
  | .local _ .vmem, ⟨4, _⟩ => ⟨S128x1800, .f32⟩
  | .local _ .vmem, ⟨5, _⟩ => ⟨S128x1800, .f32⟩
  | .local _ .vmem, ⟨6, _⟩ => ⟨S128x1800, .f32⟩
  | .local _ .vmem, ⟨7, _⟩ => ⟨S128x1800, .f32⟩
  | .local _ .vmem, ⟨8, _⟩ => ⟨S128x1800, .f32⟩
  | .local _ .vmem, ⟨9, _⟩ => ⟨S128x1800, .f32⟩
  | .local _ .vmem, ⟨10, _⟩ => ⟨S128x1800, .f32⟩
  | .local _ .vmem, ⟨11, _⟩ => ⟨S128x1800, .f32⟩
  | .local _ .vmem, ⟨12, _⟩ => ⟨S128x1800, .f32⟩
  | .local _ .vmem, ⟨13, _⟩ => ⟨S128x1800, .f32⟩
  | .local _ .vmem, ⟨14, _⟩ => ⟨S128x1800, .f32⟩
  | .local _ .vmem, ⟨15, _⟩ => ⟨S128x1800, .f32⟩
  | _, _ => ⟨S4x1024x1800, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x128x1800 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1800 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1800 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1800 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1800 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1800 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1800 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1800 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInRefIdeal.lean ====
abbrev S4x1024x1800 : Shape := ⟨3, ![4, 1024, 1800]⟩
abbrev S1024x1800 : Shape := ⟨2, ![1024, 1800]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x1800, .bf16⟩
  | .hbm, ⟨1, _⟩ => ⟨S1024x1800, .f32⟩
  | .hbm, ⟨2, _⟩ => ⟨S1024x1800, .f32⟩
  | .hbm, ⟨3, _⟩ => ⟨S1024x1800, .f32⟩
  | .hbm, ⟨4, _⟩ => ⟨S4x1024x1800, .f32⟩
  | .hbm, ⟨5, _⟩ => ⟨S_, .f32⟩
  | .hbm, ⟨6, _⟩ => ⟨S1024x1800, .f32⟩
  | .hbm, ⟨7, _⟩ => ⟨S_, .f32⟩
  | .hbm, ⟨8, _⟩ => ⟨S1024x1800, .f32⟩
  | .hbm, ⟨9, _⟩ => ⟨S1024x1800, .f32⟩
  | .hbm, ⟨10, _⟩ => ⟨S_, .f32⟩
  | .hbm, ⟨11, _⟩ => ⟨S1024x1800, .f32⟩
  | .hbm, ⟨12, _⟩ => ⟨S1024x1800, .f32⟩
  | .hbm, ⟨13, _⟩ => ⟨S1024x1800, .f32⟩
  | .hbm, ⟨14, _⟩ => ⟨S_, .f32⟩
  | .hbm, ⟨15, _⟩ => ⟨S1024x1800, .f32⟩
  | .hbm, ⟨16, _⟩ => ⟨S1024x1800, .f32⟩
  | .hbm, ⟨17, _⟩ => ⟨S1024x1800, .f32⟩
  | .hbm, ⟨18, _⟩ => ⟨S_, .f32⟩
  | .hbm, ⟨19, _⟩ => ⟨S1024x1800, .f32⟩
  | .hbm, ⟨20, _⟩ => ⟨S1024x1800, .f32⟩
  | .hbm, ⟨21, _⟩ => ⟨S1024x1800, .f32⟩
  | .hbm, ⟨22, _⟩ => ⟨S_, .f32⟩
  | .hbm, ⟨23, _⟩ => ⟨S1024x1800, .f32⟩
  | .hbm, ⟨24, _⟩ => ⟨S1024x1800, .f32⟩
  | .hbm, ⟨25, _⟩ => ⟨S_, .f32⟩
  | .hbm, ⟨26, _⟩ => ⟨S1024x1800, .f32⟩
  | .hbm, ⟨27, _⟩ => ⟨S1024x1800, .f32⟩
  | .hbm, ⟨28, _⟩ => ⟨S1024x1800, .f32⟩
  | .hbm, ⟨29, _⟩ => ⟨S_, .f32⟩
  | .hbm, ⟨30, _⟩ => ⟨S1024x1800, .f32⟩
  | .hbm, ⟨31, _⟩ => ⟨S1024x1800, .f32⟩
  | .hbm, ⟨32, _⟩ => ⟨S1024x1800, .f32⟩
  | .hbm, ⟨33, _⟩ => ⟨S_, .f32⟩
  | .hbm, ⟨34, _⟩ => ⟨S1024x1800, .f32⟩
  | .hbm, ⟨35, _⟩ => ⟨S1024x1800, .f32⟩
  | .hbm, ⟨36, _⟩ => ⟨S1024x1800, .f32⟩
  | .hbm, ⟨37, _⟩ => ⟨S_, .f32⟩
  | .hbm, ⟨38, _⟩ => ⟨S1024x1800, .f32⟩
  | .hbm, ⟨39, _⟩ => ⟨S1024x1800, .f32⟩
  | _, _ => ⟨S4x1024x1800, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamConv.lean ====
abbrev S8x8x512 : Shape := ⟨3, ![8, 8, 512]⟩
abbrev S8x512 : Shape := ⟨2, ![8, 512]⟩
abbrev S1x8x512 : Shape := ⟨3, ![1, 8, 512]⟩

abbrev nBuf : Space → Nat
  | .hbm => 8
  | .vmem => 8
  | .smem => 0
  | _ => 0

abbrev bufTy : (tb : Table) → Fin (tcTables nBuf tb) → BufTy
  | .hbm, ⟨0, _⟩ => ⟨S8x8x512, .f32⟩
  | .hbm, ⟨1, _⟩ => ⟨S8x512, .f32⟩
  | .hbm, ⟨2, _⟩ => ⟨S8x512, .f32⟩
  | .hbm, ⟨3, _⟩ => ⟨S8x512, .f32⟩
  | .hbm, ⟨4, _⟩ => ⟨S8x512, .f32⟩
  | .hbm, ⟨5, _⟩ => ⟨S8x512, .f32⟩
  | .hbm, ⟨6, _⟩ => ⟨S8x512, .f32⟩
  | .hbm, ⟨7, _⟩ => ⟨S8x512, .f32⟩
  | .local _ .vmem, ⟨0, _⟩ => ⟨S8x8x512, .f32⟩
  | .local _ .vmem, ⟨1, _⟩ => ⟨S8x512, .f32⟩
  | .local _ .vmem, ⟨2, _⟩ => ⟨S8x512, .f32⟩
  | .local _ .vmem, ⟨3, _⟩ => ⟨S8x512, .f32⟩
  | .local _ .vmem, ⟨4, _⟩ => ⟨S8x512, .f32⟩
  | .local _ .vmem, ⟨5, _⟩ => ⟨S8x512, .f32⟩
  | .local _ .vmem, ⟨6, _⟩ => ⟨S8x512, .f32⟩
  | .local _ .vmem, ⟨7, _⟩ => ⟨S8x512, .f32⟩
  | _, _ => ⟨S8x8x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x8x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S8x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamConvRefIdeal.lean ====
abbrev S8x8x512 : Shape := ⟨3, ![8, 8, 512]⟩
abbrev S8x512 : Shape := ⟨2, ![8, 512]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x8x512, .f32⟩
  | .hbm, ⟨1, _⟩ => ⟨S8x512, .f32⟩
  | .hbm, ⟨2, _⟩ => ⟨S8x512, .f32⟩
  | .hbm, ⟨3, _⟩ => ⟨S8x512, .f32⟩
  | .hbm, ⟨4, _⟩ => ⟨S_, .f32⟩
  | .hbm, ⟨5, _⟩ => ⟨S8x512, .f32⟩
  | .hbm, ⟨6, _⟩ => ⟨S_, .f32⟩
  | .hbm, ⟨7, _⟩ => ⟨S8x512, .f32⟩
  | .hbm, ⟨8, _⟩ => ⟨S8x512, .f32⟩
  | .hbm, ⟨9, _⟩ => ⟨S_, .f32⟩
  | .hbm, ⟨10, _⟩ => ⟨S8x512, .f32⟩
  | .hbm, ⟨11, _⟩ => ⟨S8x512, .f32⟩
  | .hbm, ⟨12, _⟩ => ⟨S8x512, .f32⟩
  | .hbm, ⟨13, _⟩ => ⟨S_, .f32⟩
  | .hbm, ⟨14, _⟩ => ⟨S8x512, .f32⟩
  | .hbm, ⟨15, _⟩ => ⟨S8x512, .f32⟩
  | .hbm, ⟨16, _⟩ => ⟨S8x512, .f32⟩
  | .hbm, ⟨17, _⟩ => ⟨S_, .f32⟩
  | .hbm, ⟨18, _⟩ => ⟨S8x512, .f32⟩
  | .hbm, ⟨19, _⟩ => ⟨S8x512, .f32⟩
  | .hbm, ⟨20, _⟩ => ⟨S8x512, .f32⟩
  | .hbm, ⟨21, _⟩ => ⟨S_, .f32⟩
  | .hbm, ⟨22, _⟩ => ⟨S8x512, .f32⟩
  | .hbm, ⟨23, _⟩ => ⟨S8x512, .f32⟩
  | .hbm, ⟨24, _⟩ => ⟨S_, .f32⟩
  | .hbm, ⟨25, _⟩ => ⟨S8x512, .f32⟩
  | .hbm, ⟨26, _⟩ => ⟨S8x512, .f32⟩
  | .hbm, ⟨27, _⟩ => ⟨S8x512, .f32⟩
  | .hbm, ⟨28, _⟩ => ⟨S_, .f32⟩
  | .hbm, ⟨29, _⟩ => ⟨S8x512, .f32⟩
  | .hbm, ⟨30, _⟩ => ⟨S8x512, .f32⟩
  | .hbm, ⟨31, _⟩ => ⟨S8x512, .f32⟩
  | .hbm, ⟨32, _⟩ => ⟨S_, .f32⟩
  | .hbm, ⟨33, _⟩ => ⟨S8x512, .f32⟩
  | .hbm, ⟨34, _⟩ => ⟨S8x512, .f32⟩
  | .hbm, ⟨35, _⟩ => ⟨S8x512, .f32⟩
  | .hbm, ⟨36, _⟩ => ⟨S_, .f32⟩
  | .hbm, ⟨37, _⟩ => ⟨S8x512, .f32⟩
  | .hbm, ⟨38, _⟩ => ⟨S8x512, .f32⟩
  | _, _ => ⟨S8x8x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Proof.Tower.lean ====
module

public import proofs.«01_k».proof.Proof.Gen.KernelIdeal.Skeleton

@[expose] public section

set_option maxRecDepth 16384
set_option synthInstance.maxSize 4096

noncomputable section

namespace Cert.KernelIdeal.Group

open Idealize.ShloMosaic Idealize.SL.Sem Cert.KernelIdeal Cert.KernelIdeal.Gen

variable {F : FTy → Type} [FloatOps F]

/-- What one group of a chunk reads: its columns of the tokens, its rows of the small arrays, the
    state's gradient so far (`l177`) and the sums so far (`l0`, `l544`). -/
structure Loads (F : FTy → Type) where
  l0 : Vec F S1x1x256 .f32
  l2 : Vec F S128x256 .f32
  l3 : Vec F S128x256 .f32
  l8 : Vec F S1x3x4 .f32
  l28 : Vec F S128x256 .bf16
  l32 : Vec F S128x256 .bf16
  l59 : Vec F S1x1x256 .f32
  l98 : Vec F S1x128x4 .f32
  l177 : Vec F S256x128 .f32
  l184 : Vec F S128x128 .bf16
  l214 : Vec F S128x128 .bf16
  l282 : Vec F S1x1x256x128 .f32
  l544 : Vec F S1x3x4 .f32

def t7 : IVec S1x128 1 :=
  cmpi .slt (iota .tc S1x128 32 [1] iota_S1x128_d1_w32 : IVec S1x128 32) (broadcast S1x128 (64#32 : BitVec 32) : IVec S1x128 32)

def t9 (L : Loads F) : FVec F S3x4 .f32 :=
  shapeCast S3x4 L.l8 shapeCasts_S1x3x4_S3x4

def t26 (L : Loads F) : FVec F S1x256 .f32 :=
  concatenate S1x256 1 [⟨S1x128, (select t7 (broadcastTo S1x128 (shapeCast S1x1 (extractStridedSlice S1x1 ![0, 0] (extractStridedSlice S1x4 ![2, 0] (t9 L) slices_S3x4_o2_0_S1x4 : FVec F S1x4 .f32) slices_S1x4_o0_0_S1x1 : FVec F S1x1 .f32) shapeCasts_S1x1_S1x1 : FVec F S1x1 .f32) broadcasts_S1x1_S1x128 : FVec F S1x128 .f32) (broadcastTo S1x128 (shapeCast S1x1 (extractStridedSlice S1x1 ![0, 1] (extractStridedSlice S1x4 ![2, 0] (t9 L) slices_S3x4_o2_0_S1x4 : FVec F S1x4 .f32) slices_S1x4_o0_1_S1x1 : FVec F S1x1 .f32) shapeCasts_S1x1_S1x1 : FVec F S1x1 .f32) broadcasts_S1x1_S1x128 : FVec F S1x128 .f32) : FVec F S1x128 .f32)⟩, ⟨S1x128, (select t7 (broadcastTo S1x128 (shapeCast S1x1 (extractStridedSlice S1x1 ![0, 2] (extractStridedSlice S1x4 ![2, 0] (t9 L) slices_S3x4_o2_0_S1x4 : FVec F S1x4 .f32) slices_S1x4_o0_2_S1x1 : FVec F S1x1 .f32) shapeCasts_S1x1_S1x1 : FVec F S1x1 .f32) broadcasts_S1x1_S1x128 : FVec F S1x128 .f32) (broadcastTo S1x128 (shapeCast S1x1 (extractStridedSlice S1x1 ![0, 3] (extractStridedSlice S1x4 ![2, 0] (t9 L) slices_S3x4_o2_0_S1x4 : FVec F S1x4 .f32) slices_S1x4_o0_3_S1x1 : FVec F S1x1 .f32) shapeCasts_S1x1_S1x1 : FVec F S1x1 .f32) broadcasts_S1x1_S1x128 : FVec F S1x128 .f32) : FVec F S1x128 .f32)⟩] concatenates_S1x128_S1x128_S1x256_d1

def t27 (L : Loads F) : FVec F S128x256 .f32 :=
  broadcastTo S128x256 (t26 L) broadcasts_S1x256_S128x256

def t29 (L : Loads F) : FVec F S128x256 .f32 :=
  extf .f32 L.l28 bitsLt_bf16_f32

def t30 (L : Loads F) : FVec F S128x256 .f32 :=
  mulf (t27 L) (t29 L)

def t31 (L : Loads F) : FVec F S128x256 .f32 :=
  addf L.l3 (t30 L)

def t33 (L : Loads F) : FVec F S128x256 .f32 :=
  extf .f32 L.l32 bitsLt_bf16_f32

def t34 : F .f32 :=
  Scalar.ofBits .f32 0x3F000000#32

def t35 : FVec F S128x256 .f32 :=
  broadcast S128x256 t34

def t36 (L : Loads F) : FVec F S128x256 .f32 :=
  mulf t35 (t33 L)

def t37 (L : Loads F) : FVec F S128x256 .f32 :=
  tanh (t36 L)

def t39 (L : Loads F) : FVec F S128x256 .f32 :=
  addf (mulf t35 (t37 L) : FVec F S128x256 .f32) t35

def t40 (L : Loads F) : FVec F S128x256 .f32 :=
  mulf (t33 L) (t39 L)

def t41 (L : Loads F) : FVec F S128x256 .f32 :=
  mulf (t31 L) (t40 L)

def t46 : FVec F S128x1 .f32 :=
  broadcast S128x1 (Scalar.ofBits .f32 0x43800000#32 : F .f32)

def t47 (L : Loads F) : FVec F S128x1 .f32 :=
  divf (shapeCast S128x1 (multiReduction .add [1] S128 (mulf (t41 L) (t41 L) : FVec F S128x256 .f32) 0x00000000#32 reduces_S128x256_S128 (.inl rfl) rfl : FVec F S128 .f32) shapeCasts_S128_S128x1 : FVec F S128x1 .f32) t46

def t51 (L : Loads F) : FVec F S128x1 .f32 :=
  rsqrt (addf (t47 L) (broadcast S128x1 (Scalar.ofBits .f32 0x358637BD#32 : F .f32) : FVec F S128x1 .f32) : FVec F S128x1 .f32)

def t52 (L : Loads F) : FVec F S128x256 .f32 :=
  broadcastTo S128x256 (t51 L) broadcasts_S128x1_S128x256

def t53 (L : Loads F) : FVec F S128x256 .f32 :=
  mulf (t41 L) (t52 L)

def t58 (L : Loads F) : FVec F S1x1x256 .f32 :=
  shapeCast S1x1x256 (addf (shapeCast S1x256 L.l0 shapeCasts_S1x1x256_S1x256 : FVec F S1x256 .f32) (shapeCast S1x256 (multiReduction .add [0] S256 (mulf L.l2 (t53 L) : FVec F S128x256 .f32) 0x00000000#32 reduces_S128x256_S256 (.inl rfl) rfl : FVec F S256 .f32) shapeCasts_S256_S1x256 : FVec F S1x256 .f32) : FVec F S1x256 .f32) shapeCasts_S1x256_S1x1x256

def t62 (L : Loads F) : FVec F S128x256 .f32 :=
  mulf L.l2 (broadcastTo S128x256 (shapeCast S1x256 L.l59 shapeCasts_S1x1x256_S1x256 : FVec F S1x256 .f32) broadcasts_S1x256_S128x256 : FVec F S128x256 .f32)

def t65 (L : Loads F) : FVec F S128x1 .f32 :=
  shapeCast S128x1 (multiReduction .add [1] S128 (mulf (t62 L) (t53 L) : FVec F S128x256 .f32) 0x00000000#32 reduces_S128x256_S128 (.inl rfl) rfl : FVec F S128 .f32) shapeCasts_S128_S128x1

def t66 (L : Loads F) : FVec F S128x1 .f32 :=
  divf (t65 L) t46

def t67 (L : Loads F) : FVec F S128x256 .f32 :=
  broadcastTo S128x256 (t66 L) broadcasts_S128x1_S128x256

def t68 (L : Loads F) : FVec F S128x256 .f32 :=
  mulf (t53 L) (t67 L)

def t69 (L : Loads F) : FVec F S128x256 .f32 :=
  subf (t62 L) (t68 L)

def t70 (L : Loads F) : FVec F S128x256 .f32 :=
  mulf (t52 L) (t69 L)

def t71 (L : Loads F) : FVec F S128x256 .f32 :=
  mulf (t70 L) (t31 L)

def t79 (L : Loads F) : FVec F S128x256 .bf16 :=
  truncf .bf16 (mulf (t71 L) (mulf (t39 L) (addf (broadcast S128x256 (Scalar.ofBits .f32 0x3F800000#32 : F .f32) : FVec F S128x256 .f32) (mulf (t33 L) (subf (broadcast S128x256 (Scalar.ofBits .f32 0x3F800000#32 : F .f32) : FVec F S128x256 .f32) (t39 L) : FVec F S128x256 .f32) : FVec F S128x256 .f32) : FVec F S128x256 .f32) : FVec F S128x256 .f32) : FVec F S128x256 .f32) bitsLt_bf16_f32

def t80 : F .f32 :=
  Scalar.ofBits .f32 0x00000000#32

def t81 : FVec F S128x128 .f32 :=
  broadcast S128x128 t80

def t87 : FVec F S128x256 .f32 :=
  broadcast S128x256 t80

def t89 : FVec F S128x256 .bf16 :=
  truncf .bf16 (select (cmpi .eq (iota .tc S128x256 32 [1] iota_S128x256_d1_w32 : IVec S128x256 32) (muli (iota .tc S128x256 32 [0] iota_S128x256_d0_w32 : IVec S128x256 32) (broadcast S128x256 (64#32 : BitVec 32) : IVec S128x256 32) : IVec S128x256 32) : IVec S128x256 1) (broadcast S128x256 (Scalar.ofBits .f32 0x3F800000#32 : F .f32) : FVec F S128x256 .f32) t87 : FVec F S128x256 .f32) bitsLt_bf16_f32

def t90 : IVec S128x128 32 :=
  iota .tc S128x128 32 [0] iota_S128x128_d0_w32

def t91 : IVec S128x128 32 :=
  iota .tc S128x128 32 [1] iota_S128x128_d1_w32

def t92 : IVec S128x128 1 :=
  cmpi .sge t90 t91

def t95 : FVec F S128x128 .bf16 :=
  truncf .bf16 (select t92 (broadcast S128x128 (Scalar.ofBits .f32 0x3F800000#32 : F .f32) : FVec F S128x128 .f32) t81 : FVec F S128x128 .f32) bitsLt_bf16_f32

def t97 : IVec S128x128 1 :=
  cmpi .slt t91 (broadcast S128x128 (64#32 : BitVec 32) : IVec S128x128 32)

def t99 (L : Loads F) : FVec F S128x4 .f32 :=
  shapeCast S128x4 L.l98 shapeCasts_S1x128x4_S128x4

def t100 (L : Loads F) : FVec F S1x4 .f32 :=
  extractStridedSlice S1x4 ![0, 0] (t9 L) slices_S3x4_o0_0_S1x4

def t102 (L : Loads F) : FVec F S128x4 .f32 :=
  addf (t99 L) (broadcastTo S128x4 (t100 L) broadcasts_S1x4_S128x4 : FVec F S128x4 .f32)

def t109 (L : Loads F) : FVec F S128x128 .f32 :=
  select t97 (broadcastTo S128x128 (shapeCast S128x1 (extractStridedSlice S128x1 ![0, 0] (t102 L) slices_S128x4_o0_0_S128x1 : FVec F S128x1 .f32) shapeCasts_S128x1_S128x1 : FVec F S128x1 .f32) broadcasts_S128x1_S128x128 : FVec F S128x128 .f32) (broadcastTo S128x128 (shapeCast S128x1 (extractStridedSlice S128x1 ![0, 1] (t102 L) slices_S128x4_o0_1_S128x1 : FVec F S128x1 .f32) shapeCasts_S128x1_S128x1 : FVec F S128x1 .f32) broadcasts_S128x1_S128x128 : FVec F S128x128 .f32)

def t112 (L : Loads F) : FVec F S128x128 .f32 :=
  broadcastTo S128x128 (shapeCast S128x1 (extractStridedSlice S128x1 ![0, 2] (t102 L) slices_S128x4_o0_2_S128x1 : FVec F S128x1 .f32) shapeCasts_S128x1_S128x1 : FVec F S128x1 .f32) broadcasts_S128x1_S128x128

def t115 (L : Loads F) : FVec F S128x128 .f32 :=
  broadcastTo S128x128 (shapeCast S128x1 (extractStridedSlice S128x1 ![0, 3] (t102 L) slices_S128x4_o0_3_S128x1 : FVec F S128x1 .f32) shapeCasts_S128x1_S128x1 : FVec F S128x1 .f32) broadcasts_S128x1_S128x128

def t116 (L : Loads F) : FVec F S128x128 .f32 :=
  select t97 (t112 L) (t115 L)

def t118 (L : Loads F) : FVec F S128x256 .f32 :=
  concatenate S128x256 1 [⟨S128x128, (t109 L)⟩, ⟨S128x128, (t116 L)⟩] concatenates_S128x128_S128x128_S128x256_d1

def t119 (L : Loads F) : FVec F S128x256 .f32 :=
  maximumf (t118 L) t87

def t121 (L : Loads F) : FVec F S128x256 .f32 :=
  subf t87 (absf (t118 L) : FVec F S128x256 .f32)

def t124 (L : Loads F) : FVec F S128x256 .f32 :=
  addf (t119 L) (log1p (exp (t121 L) : FVec F S128x256 .f32) : FVec F S128x256 .f32)

def t128 (L : Loads F) : FVec F S1x4 .f32 :=
  subf (broadcast S1x4 t80 : FVec F S1x4 .f32) (exp (extractStridedSlice S1x4 ![1, 0] (t9 L) slices_S3x4_o1_0_S1x4 : FVec F S1x4 .f32) : FVec F S1x4 .f32)

def t129 (L : Loads F) : FVec F S1x1 .f32 :=
  extractStridedSlice S1x1 ![0, 0] (t128 L) slices_S1x4_o0_0_S1x1

def t135 (L : Loads F) : FVec F S1x128 .f32 :=
  select t7 (broadcastTo S1x128 (shapeCast S1x1 (t129 L) shapeCasts_S1x1_S1x1 : FVec F S1x1 .f32) broadcasts_S1x1_S1x128 : FVec F S1x128 .f32) (broadcastTo S1x128 (shapeCast S1x1 (extractStridedSlice S1x1 ![0, 1] (t128 L) slices_S1x4_o0_1_S1x1 : FVec F S1x1 .f32) shapeCasts_S1x1_S1x1 : FVec F S1x1 .f32) broadcasts_S1x1_S1x128 : FVec F S1x128 .f32)

def t138 (L : Loads F) : FVec F S1x128 .f32 :=
  broadcastTo S1x128 (shapeCast S1x1 (extractStridedSlice S1x1 ![0, 2] (t128 L) slices_S1x4_o0_2_S1x1 : FVec F S1x1 .f32) shapeCasts_S1x1_S1x1 : FVec F S1x1 .f32) broadcasts_S1x1_S1x128

def t142 (L : Loads F) : FVec F S1x128 .f32 :=
  select t7 (t138 L) (broadcastTo S1x128 (shapeCast S1x1 (extractStridedSlice S1x1 ![0, 3] (t128 L) slices_S1x4_o0_3_S1x1 : FVec F S1x1 .f32) shapeCasts_S1x1_S1x1 : FVec F S1x1 .f32) broadcasts_S1x1_S1x128 : FVec F S1x128 .f32)

def t143 (L : Loads F) : FVec F S1x256 .f32 :=
  concatenate S1x256 1 [⟨S1x128, (t135 L)⟩, ⟨S1x128, (t142 L)⟩] concatenates_S1x128_S1x128_S1x256_d1

def t144 (L : Loads F) : FVec F S128x256 .f32 :=
  broadcastTo S128x256 (t143 L) broadcasts_S1x256_S128x256

def t145 (L : Loads F) : FVec F S128x256 .f32 :=
  mulf (t124 L) (t144 L)

def t146 (L : Loads F) : FVec F S128x256 .bf16 :=
  truncf .bf16 (t145 L) bitsLt_bf16_f32

def t148 (L : Loads F) : FVec F S128x256 .f32 :=
  matmul dot_S128x128_S128x256_S128x256_1_0_0_1_n_n none t95 (t146 L) (constant S128x256 .f32 0x00000000#32 : FVec F S128x256 .f32)

def t150 (L : Loads F) : FVec F S128x256 .f32 :=
  extf .f32 (t146 L) bitsLt_bf16_f32

def t151 (L : Loads F) : FVec F S128x256 .f32 :=
  subf (t145 L) (t150 L)

def t152 (L : Loads F) : FVec F S128x256 .bf16 :=
  truncf .bf16 (t151 L) bitsLt_bf16_f32

def t157 (L : Loads F) : FVec F S128x256 .bf16 :=
  truncf .bf16 (subf (t151 L) (extf .f32 (t152 L) bitsLt_bf16_f32 : FVec F S128x256 .f32) : FVec F S128x256 .f32) bitsLt_bf16_f32

def t159 (L : Loads F) : FVec F S128x256 .f32 :=
  addf (addf (addf t87 (t148 L) : FVec F S128x256 .f32) (matmul dot_S128x128_S128x256_S128x256_1_0_0_1_n_n none t95 (t152 L) (constant S128x256 .f32 0x00000000#32 : FVec F S128x256 .f32) : FVec F S128x256 .f32) : FVec F S128x256 .f32) (matmul dot_S128x128_S128x256_S128x256_1_0_0_1_n_n none t95 (t157 L) (constant S128x256 .f32 0x00000000#32 : FVec F S128x256 .f32) : FVec F S128x256 .f32)

def t160 (L : Loads F) : FVec F S128x256 .bf16 :=
  truncf .bf16 (t159 L) bitsLt_bf16_f32

def t161 : FVec F S128x128 .f32 :=
  constant S128x128 .f32 0x00000000#32

def t162 (L : Loads F) : FVec F S128x128 .f32 :=
  matmul dot_S128x256_S128x256_S128x128_1_1_0_0_n_n none t89 (t160 L) t161

def t165 (L : Loads F) : FVec F S128x256 .f32 :=
  subf (t159 L) (extf .f32 (t160 L) bitsLt_bf16_f32 : FVec F S128x256 .f32)

def t166 (L : Loads F) : FVec F S128x256 .bf16 :=
  truncf .bf16 (t165 L) bitsLt_bf16_f32

def t168 (L : Loads F) : FVec F S128x128 .f32 :=
  addf (addf t81 (t162 L) : FVec F S128x128 .f32) (matmul dot_S128x256_S128x256_S128x128_1_1_0_0_n_n none t89 (t166 L) t161 : FVec F S128x128 .f32)

def t169 (L : Loads F) : FVec F S128x256 .f32 :=
  extf .f32 (t166 L) bitsLt_bf16_f32

def t171 (L : Loads F) : FVec F S128x256 .bf16 :=
  truncf .bf16 (subf (t165 L) (t169 L) : FVec F S128x256 .f32) bitsLt_bf16_f32

def t172 (L : Loads F) : FVec F S128x128 .f32 :=
  matmul dot_S128x256_S128x256_S128x128_1_1_0_0_n_n none t89 (t171 L) t161

def t173 (L : Loads F) : FVec F S128x128 .f32 :=
  addf (t168 L) (t172 L)

def t175 (L : Loads F) : FVec F S1x1 .f32 :=
  exp (extractStridedSlice S1x1 ![0, 127] (t173 L) slices_S128x128_o0_127_S1x1 : FVec F S1x1 .f32)

def t176 (L : Loads F) : FVec F S64x128 .f32 :=
  broadcastTo S64x128 (t175 L) broadcasts_S1x1_S64x128

def t178 (L : Loads F) : FVec F S64x128 .f32 :=
  extractStridedSlice S64x128 ![0, 0] L.l177 slices_S256x128_o0_0_S64x128

def t180 (L : Loads F) : FVec F S128x256 .f32 :=
  mulf (t70 L) (t40 L)

def t181 (L : Loads F) : FVec F S128x256 .f32 :=
  exp (t159 L)

def t182 (L : Loads F) : FVec F S128x256 .f32 :=
  mulf (t180 L) (t181 L)

def t183 (L : Loads F) : FVec F S128x256 .bf16 :=
  truncf .bf16 (t182 L) bitsLt_bf16_f32

def t186 (L : Loads F) : FVec F S256x128 .f32 :=
  matmul dot_S128x256_S128x128_S256x128_0_0_1_1_n_n none (t183 L) L.l184 (constant S256x128 .f32 0x00000000#32 : FVec F S256x128 .f32)

def t188 (L : Loads F) : FVec F S64x128 .f32 :=
  addf (mulf (t176 L) (t178 L) : FVec F S64x128 .f32) (extractStridedSlice S64x128 ![0, 0] (t186 L) slices_S256x128_o0_0_S64x128 : FVec F S64x128 .f32)

def t189 (L : Loads F) : FVec F S64x128 .f32 :=
  shapeCast S64x128 (t188 L) shapeCasts_S64x128_S64x128

def t191 (L : Loads F) : FVec F S1x1 .f32 :=
  exp (extractStridedSlice S1x1 ![1, 127] (t173 L) slices_S128x128_o1_127_S1x1 : FVec F S1x1 .f32)

def t192 (L : Loads F) : FVec F S64x128 .f32 :=
  broadcastTo S64x128 (t191 L) broadcasts_S1x1_S64x128

def t193 (L : Loads F) : FVec F S64x128 .f32 :=
  extractStridedSlice S64x128 ![64, 0] L.l177 slices_S256x128_o64_0_S64x128

def t196 (L : Loads F) : FVec F S64x128 .f32 :=
  addf (mulf (t192 L) (t193 L) : FVec F S64x128 .f32) (extractStridedSlice S64x128 ![64, 0] (t186 L) slices_S256x128_o64_0_S64x128 : FVec F S64x128 .f32)

def t197 (L : Loads F) : FVec F S64x128 .f32 :=
  shapeCast S64x128 (t196 L) shapeCasts_S64x128_S64x128

def t199 (L : Loads F) : FVec F S1x1 .f32 :=
  exp (extractStridedSlice S1x1 ![2, 127] (t173 L) slices_S128x128_o2_127_S1x1 : FVec F S1x1 .f32)

def t201 (L : Loads F) : FVec F S64x128 .f32 :=
  extractStridedSlice S64x128 ![128, 0] L.l177 slices_S256x128_o128_0_S64x128

def t204 (L : Loads F) : FVec F S64x128 .f32 :=
  addf (mulf (broadcastTo S64x128 (t199 L) broadcasts_S1x1_S64x128 : FVec F S64x128 .f32) (t201 L) : FVec F S64x128 .f32) (extractStridedSlice S64x128 ![128, 0] (t186 L) slices_S256x128_o128_0_S64x128 : FVec F S64x128 .f32)

def t205 (L : Loads F) : FVec F S64x128 .f32 :=
  shapeCast S64x128 (t204 L) shapeCasts_S64x128_S64x128

def t207 (L : Loads F) : FVec F S1x1 .f32 :=
  exp (extractStridedSlice S1x1 ![3, 127] (t173 L) slices_S128x128_o3_127_S1x1 : FVec F S1x1 .f32)

def t212 (L : Loads F) : FVec F S64x128 .f32 :=
  addf (mulf (broadcastTo S64x128 (t207 L) broadcasts_S1x1_S64x128 : FVec F S64x128 .f32) (extractStridedSlice S64x128 ![192, 0] L.l177 slices_S256x128_o192_0_S64x128 : FVec F S64x128 .f32) : FVec F S64x128 .f32) (extractStridedSlice S64x128 ![192, 0] (t186 L) slices_S256x128_o192_0_S64x128 : FVec F S64x128 .f32)

def t213 (L : Loads F) : FVec F S64x128 .f32 :=
  shapeCast S64x128 (t212 L) shapeCasts_S64x128_S64x128

def t215 (L : Loads F) : FVec F S128x128 .f32 :=
  matmul dot_S128x128_S128x128_S128x128_1_1_0_0_n_n none L.l214 L.l184 t161

def t216 : IVec S128x128 1 :=
  cmpi .sge t91 t90

def t217 (L : Loads F) : FVec F S128x128 .f32 :=
  extractStridedSlice S128x128 ![0, 0] (t159 L) slices_S128x256_o0_0_S128x128

def t218 (L : Loads F) : FVec F S128x128 .f32 :=
  dynamicRotate 1 (64#32 : BitVec 32) none (t217 L) rotates_S128x128_d1

def t219 (L : Loads F) : FVec F S128x128 .f32 :=
  select t97 (t217 L) (t218 L)

def t222 (L : Loads F) : FVec F S128x128 .f32 :=
  subf (t219 L) (broadcastTo S128x128 (extractStridedSlice S1x128 ![0, 0] (t173 L) slices_S128x128_o0_0_S1x128 : FVec F S1x128 .f32) broadcasts_S1x128_S128x128 : FVec F S128x128 .f32)

def t224 : F .f32 :=
  Scalar.ofBits .f32 0xFF800000#32

def t225 : FVec F S128x128 .f32 :=
  broadcast S128x128 t224

def t227 (L : Loads F) : FVec F S128x128 .f32 :=
  exp (select t216 (subf t81 (t222 L) : FVec F S128x128 .f32) t225 : FVec F S128x128 .f32)

def t230 (L : Loads F) : FVec F S128x128 .f32 :=
  extractStridedSlice S128x128 ![0, 0] (t180 L) slices_S128x256_o0_0_S128x128

def t232 (L : Loads F) : FVec F S128x128 .f32 :=
  matmul dot_S128x128_S128x128_S128x128_1_0_0_1_n_n none (truncf .bf16 (mulf (t215 L) (t227 L) : FVec F S128x128 .f32) bitsLt_bf16_f32 : FVec F S128x128 .bf16) (truncf .bf16 (t230 L) bitsLt_bf16_f32 : FVec F S128x128 .bf16) t161

def t236 (L : Loads F) : FVec F S128x128 .f32 :=
  subf (select t97 (t218 L) (t217 L) : FVec F S128x128 .f32) (broadcastTo S128x128 (extractStridedSlice S1x128 ![1, 0] (t173 L) slices_S128x128_o1_0_S1x128 : FVec F S1x128 .f32) broadcasts_S1x128_S128x128 : FVec F S128x128 .f32)

def t239 (L : Loads F) : FVec F S128x128 .f32 :=
  exp (select t216 (subf t81 (t236 L) : FVec F S128x128 .f32) t225 : FVec F S128x128 .f32)

def t242 (L : Loads F) : FVec F S128x128 .f32 :=
  matmul dot_S128x128_S128x128_S128x128_1_0_0_1_n_n none (truncf .bf16 (mulf (t215 L) (t239 L) : FVec F S128x128 .f32) bitsLt_bf16_f32 : FVec F S128x128 .bf16) (truncf .bf16 (t230 L) bitsLt_bf16_f32 : FVec F S128x128 .bf16) t161

def t243 (L : Loads F) : FVec F S128x128 .f32 :=
  select t97 (t232 L) (t242 L)

def t244 (L : Loads F) : FVec F S128x128 .f32 :=
  extractStridedSlice S128x128 ![0, 128] (t159 L) slices_S128x256_o0_128_S128x128

def t245 (L : Loads F) : FVec F S128x128 .f32 :=
  dynamicRotate 1 (64#32 : BitVec 32) none (t244 L) rotates_S128x128_d1

def t246 (L : Loads F) : FVec F S128x128 .f32 :=
  select t97 (t244 L) (t245 L)

def t249 (L : Loads F) : FVec F S128x128 .f32 :=
  subf (t246 L) (broadcastTo S128x128 (extractStridedSlice S1x128 ![2, 0] (t173 L) slices_S128x128_o2_0_S1x128 : FVec F S1x128 .f32) broadcasts_S1x128_S128x128 : FVec F S128x128 .f32)

def t252 (L : Loads F) : FVec F S128x128 .f32 :=
  exp (select t216 (subf t81 (t249 L) : FVec F S128x128 .f32) t225 : FVec F S128x128 .f32)

def t255 (L : Loads F) : FVec F S128x128 .f32 :=
  extractStridedSlice S128x128 ![0, 128] (t180 L) slices_S128x256_o0_128_S128x128

def t257 (L : Loads F) : FVec F S128x128 .f32 :=
  matmul dot_S128x128_S128x128_S128x128_1_0_0_1_n_n none (truncf .bf16 (mulf (t215 L) (t252 L) : FVec F S128x128 .f32) bitsLt_bf16_f32 : FVec F S128x128 .bf16) (truncf .bf16 (t255 L) bitsLt_bf16_f32 : FVec F S128x128 .bf16) t161

def t258 (L : Loads F) : FVec F S128x128 .f32 :=
  select t97 (t245 L) (t244 L)

def t261 (L : Loads F) : FVec F S128x128 .f32 :=
  subf (t258 L) (broadcastTo S128x128 (extractStridedSlice S1x128 ![3, 0] (t173 L) slices_S128x128_o3_0_S1x128 : FVec F S1x128 .f32) broadcasts_S1x128_S128x128 : FVec F S128x128 .f32)

def t264 (L : Loads F) : FVec F S128x128 .f32 :=
  exp (select t216 (subf t81 (t261 L) : FVec F S128x128 .f32) t225 : FVec F S128x128 .f32)

def t267 (L : Loads F) : FVec F S128x128 .f32 :=
  matmul dot_S128x128_S128x128_S128x128_1_0_0_1_n_n none (truncf .bf16 (mulf (t215 L) (t264 L) : FVec F S128x128 .f32) bitsLt_bf16_f32 : FVec F S128x128 .bf16) (truncf .bf16 (t255 L) bitsLt_bf16_f32 : FVec F S128x128 .bf16) t161

def t268 (L : Loads F) : FVec F S128x128 .f32 :=
  select t97 (t257 L) (t267 L)

def t269 (L : Loads F) : FVec F S128x256 .f32 :=
  concatenate S128x256 1 [⟨S128x128, (t243 L)⟩, ⟨S128x128, (t268 L)⟩] concatenates_S128x128_S128x128_S128x256_d1

def t270 (L : Loads F) : FVec F S256x128 .bf16 :=
  truncf .bf16 L.l177 bitsLt_bf16_f32

def t271 (L : Loads F) : FVec F S128x256 .f32 :=
  matmul dot_S128x128_S256x128_S128x256_1_1_0_0_n_n none L.l214 (t270 L) (constant S128x256 .f32 0x00000000#32 : FVec F S128x256 .f32)

def t272 (L : Loads F) : FVec F S1x256 .f32 :=
  extractStridedSlice S1x256 ![127, 0] (t159 L) slices_S128x256_o127_0_S1x256

def t275 (L : Loads F) : FVec F S128x256 .f32 :=
  exp (subf (broadcastTo S128x256 (t272 L) broadcasts_S1x256_S128x256 : FVec F S128x256 .f32) (t159 L) : FVec F S128x256 .f32)

def t276 (L : Loads F) : FVec F S128x256 .f32 :=
  mulf (t271 L) (t275 L)

def t277 (L : Loads F) : FVec F S128x256 .f32 :=
  addf (t269 L) (t276 L)

def t278 (L : Loads F) : FVec F S128x256 .f32 :=
  mulf (t277 L) (t124 L)

def t279 (L : Loads F) : FVec F S128x256 .f32 :=
  mulf (t27 L) (t180 L)

def t281 (L : Loads F) : FVec F S128x256 .bf16 :=
  truncf .bf16 (addf (t278 L) (t279 L) : FVec F S128x256 .f32) bitsLt_bf16_f32

def t283 (L : Loads F) : FVec F S256x128 .f32 :=
  shapeCast S256x128 L.l282 shapeCasts_S1x1x256x128_S256x128

def t284 (L : Loads F) : FVec F S256x128 .bf16 :=
  truncf .bf16 (t283 L) bitsLt_bf16_f32

def t285 (L : Loads F) : FVec F S128x128 .f32 :=
  matmul dot_S128x256_S256x128_S128x128_1_0_0_1_n_n none (t183 L) (t284 L) t161

def t286 (L : Loads F) : FVec F S128x128 .f32 :=
  select t97 (t230 L) t81

def t287 (L : Loads F) : FVec F S128x128 .bf16 :=
  truncf .bf16 (t286 L) bitsLt_bf16_f32

def t288 (L : Loads F) : FVec F S128x256 .f32 :=
  mulf (t29 L) (t124 L)

def t289 (L : Loads F) : FVec F S128x128 .f32 :=
  extractStridedSlice S128x128 ![0, 0] (t288 L) slices_S128x256_o0_0_S128x128

def t290 (L : Loads F) : FVec F S128x128 .bf16 :=
  truncf .bf16 (t289 L) bitsLt_bf16_f32

def t291 (L : Loads F) : FVec F S128x128 .f32 :=
  matmul dot_S128x128_S128x128_S128x128_1_1_0_0_n_n none (t287 L) (t290 L) t161

def t293 (L : Loads F) : FVec F S128x128 .f32 :=
  exp (select t92 (t222 L) t225 : FVec F S128x128 .f32)

def t294 (L : Loads F) : FVec F S128x128 .f32 :=
  mulf (t291 L) (t293 L)

def t295 (L : Loads F) : FVec F S128x128 .f32 :=
  addf t81 (t294 L)

def t296 : IVec S128x128 1 :=
  constantI S128x128 1 1#1

def t297 : IVec S128x128 1 :=
  xori t97 t296

def t299 (L : Loads F) : FVec F S128x128 .bf16 :=
  truncf .bf16 (select t297 (t230 L) t81 : FVec F S128x128 .f32) bitsLt_bf16_f32

def t300 (L : Loads F) : FVec F S128x128 .f32 :=
  matmul dot_S128x128_S128x128_S128x128_1_1_0_0_n_n none (t299 L) (t290 L) t161

def t302 (L : Loads F) : FVec F S128x128 .f32 :=
  exp (select t92 (t236 L) t225 : FVec F S128x128 .f32)

def t303 (L : Loads F) : FVec F S128x128 .f32 :=
  mulf (t300 L) (t302 L)

def t304 (L : Loads F) : FVec F S128x128 .f32 :=
  addf (t295 L) (t303 L)

def t306 (L : Loads F) : FVec F S128x128 .bf16 :=
  truncf .bf16 (select t97 (t255 L) t81 : FVec F S128x128 .f32) bitsLt_bf16_f32

def t307 (L : Loads F) : FVec F S128x128 .f32 :=
  extractStridedSlice S128x128 ![0, 128] (t288 L) slices_S128x256_o0_128_S128x128

def t308 (L : Loads F) : FVec F S128x128 .bf16 :=
  truncf .bf16 (t307 L) bitsLt_bf16_f32

def t309 (L : Loads F) : FVec F S128x128 .f32 :=
  matmul dot_S128x128_S128x128_S128x128_1_1_0_0_n_n none (t306 L) (t308 L) t161

def t310 (L : Loads F) : FVec F S128x128 .f32 :=
  select t92 (t249 L) t225

def t311 (L : Loads F) : FVec F S128x128 .f32 :=
  exp (t310 L)

def t312 (L : Loads F) : FVec F S128x128 .f32 :=
  mulf (t309 L) (t311 L)

def t313 (L : Loads F) : FVec F S128x128 .f32 :=
  addf (t304 L) (t312 L)

def t314 (L : Loads F) : FVec F S128x128 .f32 :=
  select t297 (t255 L) t81

def t315 (L : Loads F) : FVec F S128x128 .bf16 :=
  truncf .bf16 (t314 L) bitsLt_bf16_f32

def t316 (L : Loads F) : FVec F S128x128 .f32 :=
  matmul dot_S128x128_S128x128_S128x128_1_1_0_0_n_n none (t315 L) (t308 L) t161

def t318 (L : Loads F) : FVec F S128x128 .f32 :=
  exp (select t92 (t261 L) t225 : FVec F S128x128 .f32)

def t319 (L : Loads F) : FVec F S128x128 .f32 :=
  mulf (t316 L) (t318 L)

def t320 (L : Loads F) : FVec F S128x128 .f32 :=
  addf (t313 L) (t319 L)

def t321 (L : Loads F) : FVec F S128x128 .bf16 :=
  truncf .bf16 (t320 L) bitsLt_bf16_f32

def t322 (L : Loads F) : FVec F S128x128 .f32 :=
  matmul dot_S128x128_S128x128_S128x128_1_0_0_1_n_n none (t321 L) L.l214 t161

def t324 (L : Loads F) : FVec F S128x128 .bf16 :=
  truncf .bf16 (addf (t285 L) (t322 L) : FVec F S128x128 .f32) bitsLt_bf16_f32

def t326 (L : Loads F) : FVec F S128x256 .bf16 :=
  truncf .bf16 (mulf (t288 L) (t275 L) : FVec F S128x256 .f32) bitsLt_bf16_f32

def t327 (L : Loads F) : FVec F S128x128 .f32 :=
  matmul dot_S128x256_S256x128_S128x128_1_0_0_1_n_n none (t326 L) (t270 L) t161

def t329 (L : Loads F) : FVec F S128x128 .bf16 :=
  truncf .bf16 (select t97 (t289 L) t81 : FVec F S128x128 .f32) bitsLt_bf16_f32

def t330 (L : Loads F) : FVec F S128x128 .f32 :=
  matmul dot_S128x128_S128x128_S128x128_1_1_0_0_n_n none (t329 L) (truncf .bf16 (t230 L) bitsLt_bf16_f32 : FVec F S128x128 .bf16) t161

def t331 (L : Loads F) : FVec F S128x128 .f32 :=
  mulf (t330 L) (t227 L)

def t332 (L : Loads F) : FVec F S128x128 .f32 :=
  addf t81 (t331 L)

def t334 (L : Loads F) : FVec F S128x128 .bf16 :=
  truncf .bf16 (select t297 (t289 L) t81 : FVec F S128x128 .f32) bitsLt_bf16_f32

def t335 (L : Loads F) : FVec F S128x128 .f32 :=
  matmul dot_S128x128_S128x128_S128x128_1_1_0_0_n_n none (t334 L) (truncf .bf16 (t230 L) bitsLt_bf16_f32 : FVec F S128x128 .bf16) t161

def t336 (L : Loads F) : FVec F S128x128 .f32 :=
  mulf (t335 L) (t239 L)

def t337 (L : Loads F) : FVec F S128x128 .f32 :=
  addf (t332 L) (t336 L)

def t339 (L : Loads F) : FVec F S128x128 .bf16 :=
  truncf .bf16 (select t97 (t307 L) t81 : FVec F S128x128 .f32) bitsLt_bf16_f32

def t340 (L : Loads F) : FVec F S128x128 .f32 :=
  matmul dot_S128x128_S128x128_S128x128_1_1_0_0_n_n none (t339 L) (truncf .bf16 (t255 L) bitsLt_bf16_f32 : FVec F S128x128 .bf16) t161

def t341 (L : Loads F) : FVec F S128x128 .f32 :=
  mulf (t340 L) (t252 L)

def t342 (L : Loads F) : FVec F S128x128 .f32 :=
  addf (t337 L) (t341 L)

def t344 (L : Loads F) : FVec F S128x128 .bf16 :=
  truncf .bf16 (select t297 (t307 L) t81 : FVec F S128x128 .f32) bitsLt_bf16_f32

def t345 (L : Loads F) : FVec F S128x128 .f32 :=
  matmul dot_S128x128_S128x128_S128x128_1_1_0_0_n_n none (t344 L) (truncf .bf16 (t255 L) bitsLt_bf16_f32 : FVec F S128x128 .bf16) t161

def t346 (L : Loads F) : FVec F S128x128 .f32 :=
  mulf (t345 L) (t264 L)

def t347 (L : Loads F) : FVec F S128x128 .f32 :=
  addf (t342 L) (t346 L)

def t348 (L : Loads F) : FVec F S128x128 .bf16 :=
  truncf .bf16 (t347 L) bitsLt_bf16_f32

def t349 (L : Loads F) : FVec F S128x128 .f32 :=
  matmul dot_S128x128_S128x128_S128x128_1_0_0_1_n_n none (t348 L) L.l184 t161

def t351 (L : Loads F) : FVec F S128x128 .bf16 :=
  truncf .bf16 (addf (t327 L) (t349 L) : FVec F S128x128 .f32) bitsLt_bf16_f32

def t354 : FVec F S128x128 .bf16 :=
  truncf .bf16 (select (cmpi .sle t90 t91 : IVec S128x128 1) (broadcast S128x128 (Scalar.ofBits .f32 0x3F800000#32 : F .f32) : FVec F S128x128 .f32) t81 : FVec F S128x128 .f32) bitsLt_bf16_f32

def t355 (L : Loads F) : FVec F S128x128 .f32 :=
  matmul dot_S128x128_S128x128_S128x128_1_1_0_0_n_n none L.l184 L.l214 t161

def t356 (L : Loads F) : FVec F S128x128 .f32 :=
  mulf (t355 L) (t294 L)

def t361 : FVec F S128x128 .bf16 :=
  broadcast S128x128 (Scalar.ofBits .bf16 0x3F80#16 : F .bf16)

def t362 (L : Loads F) : FVec F S128x128 .f32 :=
  matmul dot_S128x128_S128x128_S128x128_1_0_0_1_n_n none (truncf .bf16 (subf (t356 L) (mulf (t215 L) (t331 L) : FVec F S128x128 .f32) : FVec F S128x128 .f32) bitsLt_bf16_f32 : FVec F S128x128 .bf16) t361 t161

def t367 (L : Loads F) : FVec F S128x128 .f32 :=
  matmul dot_S128x128_S128x128_S128x128_1_0_0_1_n_n none (truncf .bf16 (subf (mulf (t355 L) (t303 L) : FVec F S128x128 .f32) (mulf (t215 L) (t336 L) : FVec F S128x128 .f32) : FVec F S128x128 .f32) bitsLt_bf16_f32 : FVec F S128x128 .bf16) t361 t161

def t373 (L : Loads F) : FVec F S128x128 .f32 :=
  matmul dot_S128x128_S128x128_S128x128_1_0_0_1_n_n none (truncf .bf16 (subf (mulf (t355 L) (t312 L) : FVec F S128x128 .f32) (mulf (t215 L) (t341 L) : FVec F S128x128 .f32) : FVec F S128x128 .f32) bitsLt_bf16_f32 : FVec F S128x128 .bf16) t361 t161

def t378 (L : Loads F) : FVec F S128x128 .f32 :=
  matmul dot_S128x128_S128x128_S128x128_1_0_0_1_n_n none (truncf .bf16 (subf (mulf (t355 L) (t319 L) : FVec F S128x128 .f32) (mulf (t215 L) (t346 L) : FVec F S128x128 .f32) : FVec F S128x128 .f32) bitsLt_bf16_f32 : FVec F S128x128 .bf16) t361 t161

def t380 (L : Loads F) : FVec F S128x256 .f32 :=
  concatenate S128x256 1 [⟨S128x128, (select t97 (t362 L) (t367 L) : FVec F S128x128 .f32)⟩, ⟨S128x128, (select t97 (t373 L) (t378 L) : FVec F S128x128 .f32)⟩] concatenates_S128x128_S128x128_S128x256_d1

def t381 (L : Loads F) : FVec F S128x256 .f32 :=
  matmul dot_S128x128_S256x128_S128x256_1_1_0_0_n_n none L.l184 (t284 L) (constant S128x256 .f32 0x00000000#32 : FVec F S128x256 .f32)

def t384 (L : Loads F) : FVec F S128x256 .f32 :=
  mulf (t288 L) (t276 L)

def t385 (L : Loads F) : FVec F S128x256 .f32 :=
  subf (mulf (t180 L) (mulf (t381 L) (t181 L) : FVec F S128x256 .f32) : FVec F S128x256 .f32) (t384 L)

def t386 (L : Loads F) : FVec F S128x256 .bf16 :=
  truncf .bf16 (t385 L) bitsLt_bf16_f32

def t401 : IVec S256x256 1 :=
  cmpi .ne (subi (extui 32 (cmpi .sgt (iota .tc S256x256 32 [0] iota_S256x256_d0_w32 : IVec S256x256 32) (broadcast S256x256 (0#32 : BitVec 32) : IVec S256x256 32) : IVec S256x256 1) natLt_1_32 : IVec S256x256 32) (extui 32 (cmpi .slt (iota .tc S256x256 32 [0] iota_S256x256_d0_w32 : IVec S256x256 32) (broadcast S256x256 (0#32 : BitVec 32) : IVec S256x256 32) : IVec S256x256 1) natLt_1_32 : IVec S256x256 32) : IVec S256x256 32) (broadcast S256x256 (Scalar.subi (Scalar.extui (Scalar.cmpi .sgt (64#32 : BitVec 32) (0#32 : BitVec 32) : BitVec 1) : BitVec 32) (Scalar.extui (Scalar.cmpi .slt (64#32 : BitVec 32) (0#32 : BitVec 32) : BitVec 1) : BitVec 32) : BitVec 32) : IVec S256x256 32)

def t404 : IVec S256x256 1 :=
  cmpi .ne (remsi (iota .tc S256x256 32 [0] iota_S256x256_d0_w32 : IVec S256x256 32) (broadcast S256x256 (64#32 : BitVec 32) : IVec S256x256 32) : IVec S256x256 32) (broadcast S256x256 (0#32 : BitVec 32) : IVec S256x256 32)

def t406 : IVec S256x256 32 :=
  divsi (iota .tc S256x256 32 [0] iota_S256x256_d0_w32 : IVec S256x256 32) (broadcast S256x256 (64#32 : BitVec 32) : IVec S256x256 32)

def t410 : IVec S256x256 32 :=
  select (andi t401 t404 : IVec S256x256 1) (subi t406 (broadcast S256x256 (1#32 : BitVec 32) : IVec S256x256 32) : IVec S256x256 32) t406

def t411 : IVec S256x256 32 :=
  iota .tc S256x256 32 [1] iota_S256x256_d1_w32

def t423 : IVec S256x256 32 :=
  select (andi (cmpi .ne (subi (extui 32 (cmpi .sgt t411 (broadcast S256x256 (0#32 : BitVec 32) : IVec S256x256 32) : IVec S256x256 1) natLt_1_32 : IVec S256x256 32) (extui 32 (cmpi .slt t411 (broadcast S256x256 (0#32 : BitVec 32) : IVec S256x256 32) : IVec S256x256 1) natLt_1_32 : IVec S256x256 32) : IVec S256x256 32) (broadcast S256x256 (Scalar.subi (Scalar.extui (Scalar.cmpi .sgt (64#32 : BitVec 32) (0#32 : BitVec 32) : BitVec 1) : BitVec 32) (Scalar.extui (Scalar.cmpi .slt (64#32 : BitVec 32) (0#32 : BitVec 32) : BitVec 1) : BitVec 32) : BitVec 32) : IVec S256x256 32) : IVec S256x256 1) (cmpi .ne (remsi t411 (broadcast S256x256 (64#32 : BitVec 32) : IVec S256x256 32) : IVec S256x256 32) (broadcast S256x256 (0#32 : BitVec 32) : IVec S256x256 32) : IVec S256x256 1) : IVec S256x256 1) (subi (divsi t411 (broadcast S256x256 (64#32 : BitVec 32) : IVec S256x256 32) : IVec S256x256 32) (broadcast S256x256 (1#32 : BitVec 32) : IVec S256x256 32) : IVec S256x256 32) (divsi t411 (broadcast S256x256 (64#32 : BitVec 32) : IVec S256x256 32) : IVec S256x256 32)

def t428 : FVec F S256x256 .bf16 :=
  truncf .bf16 (select (cmpi .eq t410 t423 : IVec S256x256 1) (broadcast S256x256 (Scalar.ofBits .f32 0x3F800000#32 : F .f32) : FVec F S256x256 .f32) (broadcast S256x256 t80 : FVec F S256x256 .f32) : FVec F S256x256 .f32) bitsLt_bf16_f32

def t429 (L : Loads F) : FVec F S128x256 .f32 :=
  matmul dot_S128x256_S256x256_S128x256_1_0_0_1_n_n none (t386 L) t428 (constant S128x256 .f32 0x00000000#32 : FVec F S128x256 .f32)

def t432 (L : Loads F) : FVec F S128x256 .f32 :=
  subf (t385 L) (extf .f32 (t386 L) bitsLt_bf16_f32 : FVec F S128x256 .f32)

def t433 (L : Loads F) : FVec F S128x256 .bf16 :=
  truncf .bf16 (t432 L) bitsLt_bf16_f32

def t435 (L : Loads F) : FVec F S128x256 .f32 :=
  addf (addf t87 (t429 L) : FVec F S128x256 .f32) (matmul dot_S128x256_S256x256_S128x256_1_0_0_1_n_n none (t433 L) t428 (constant S128x256 .f32 0x00000000#32 : FVec F S128x256 .f32) : FVec F S128x256 .f32)

def t436 (L : Loads F) : FVec F S128x256 .f32 :=
  addf (t380 L) (t435 L)

def t437 : IVec S128x1 32 :=
  iota .tc S128x1 32 [0] iota_S128x1_d0_w32

def t439 : IVec S128x1 32 :=
  broadcast S128x1 (127#32 : BitVec 32)

def t440 : IVec S128x1 1 :=
  cmpi .eq t437 t439

def t442 : IVec S128x256 1 :=
  broadcastTo S128x256 (shapeCast S128x1 t440 shapeCasts_S128x1_S128x1 : IVec S128x1 1) broadcasts_S128x1_S128x256

def t445 (L : Loads F) : FVec F S1x256 .f32 :=
  shapeCast S1x256 (multiReduction .add [0] S256 (t384 L) 0x00000000#32 reduces_S128x256_S256 (.inl rfl) rfl : FVec F S256 .f32) shapeCasts_S256_S1x256

def t447 (L : Loads F) : FVec F S8x256 .f32 :=
  broadcastTo S8x256 (shapeCast S1x256 (t445 L) shapeCasts_S1x256_S1x256 : FVec F S1x256 .f32) broadcasts_S1x256_S8x256

def t448 (L : Loads F) : FVec F S8x256 .bf16 :=
  truncf .bf16 (t447 L) bitsLt_bf16_f32

def t451 (L : Loads F) : FVec F S8x256 .f32 :=
  addf (broadcast S8x256 t80 : FVec F S8x256 .f32) (matmul dot_S8x256_S256x256_S8x256_1_0_0_1_n_n none (t448 L) t428 (constant S8x256 .f32 0x00000000#32 : FVec F S8x256 .f32) : FVec F S8x256 .f32)

def t453 (L : Loads F) : FVec F S8x256 .f32 :=
  subf (t447 L) (extf .f32 (t448 L) bitsLt_bf16_f32 : FVec F S8x256 .f32)

def t454 (L : Loads F) : FVec F S8x256 .bf16 :=
  truncf .bf16 (t453 L) bitsLt_bf16_f32

def t456 (L : Loads F) : FVec F S8x256 .f32 :=
  addf (t451 L) (matmul dot_S8x256_S256x256_S8x256_1_0_0_1_n_n none (t454 L) t428 (constant S8x256 .f32 0x00000000#32 : FVec F S8x256 .f32) : FVec F S8x256 .f32)

def t457 (L : Loads F) : FVec F S1x256 .f32 :=
  extractStridedSlice S1x256 ![0, 0] (t456 L) slices_S8x256_o0_0_S1x256

def t459 (L : Loads F) : FVec F S64x128 .f32 :=
  mulf (t178 L) (extractStridedSlice S64x128 ![0, 0] (t283 L) slices_S256x128_o0_0_S64x128 : FVec F S64x128 .f32)

def t464 (L : Loads F) : FVec F S1x1 .f32 :=
  mulf (shapeCast S1x1 (multiReduction .add [1] S1 (shapeCast S1x128 (multiReduction .add [0] S128 (t459 L) 0x00000000#32 reduces_S64x128_S128 (.inl rfl) rfl : FVec F S128 .f32) shapeCasts_S128_S1x128 : FVec F S1x128 .f32) 0x00000000#32 reduces_S1x128_S1 (.inl rfl) rfl : FVec F S1 .f32) shapeCasts_S1_S1x1 : FVec F S1x1 .f32) (t175 L)

def t467 (L : Loads F) : FVec F S128 .f32 :=
  multiReduction .add [0] S128 (mulf (t193 L) (extractStridedSlice S64x128 ![64, 0] (t283 L) slices_S256x128_o64_0_S64x128 : FVec F S64x128 .f32) : FVec F S64x128 .f32) 0x00000000#32 reduces_S64x128_S128 (.inl rfl) rfl

def t471 (L : Loads F) : FVec F S1x1 .f32 :=
  mulf (shapeCast S1x1 (multiReduction .add [1] S1 (shapeCast S1x128 (t467 L) shapeCasts_S128_S1x128 : FVec F S1x128 .f32) 0x00000000#32 reduces_S1x128_S1 (.inl rfl) rfl : FVec F S1 .f32) shapeCasts_S1_S1x1 : FVec F S1x1 .f32) (t191 L)

def t475 (L : Loads F) : FVec F S1x128 .f32 :=
  shapeCast S1x128 (multiReduction .add [0] S128 (mulf (t201 L) (extractStridedSlice S64x128 ![128, 0] (t283 L) slices_S256x128_o128_0_S64x128 : FVec F S64x128 .f32) : FVec F S64x128 .f32) 0x00000000#32 reduces_S64x128_S128 (.inl rfl) rfl : FVec F S128 .f32) shapeCasts_S128_S1x128

def t478 (L : Loads F) : FVec F S1x1 .f32 :=
  mulf (shapeCast S1x1 (multiReduction .add [1] S1 (t475 L) 0x00000000#32 reduces_S1x128_S1 (.inl rfl) rfl : FVec F S1 .f32) shapeCasts_S1_S1x1 : FVec F S1x1 .f32) (t199 L)

def t482 (L : Loads F) : FVec F S1x128 .f32 :=
  shapeCast S1x128 (multiReduction .add [0] S128 (mulf (extractStridedSlice S64x128 ![192, 0] L.l177 slices_S256x128_o192_0_S64x128 : FVec F S64x128 .f32) (extractStridedSlice S64x128 ![192, 0] (t283 L) slices_S256x128_o192_0_S64x128 : FVec F S64x128 .f32) : FVec F S64x128 .f32) 0x00000000#32 reduces_S64x128_S128 (.inl rfl) rfl : FVec F S128 .f32) shapeCasts_S128_S1x128

def t485 (L : Loads F) : FVec F S1x1 .f32 :=
  mulf (shapeCast S1x1 (multiReduction .add [1] S1 (t482 L) 0x00000000#32 reduces_S1x128_S1 (.inl rfl) rfl : FVec F S1 .f32) shapeCasts_S1_S1x1 : FVec F S1x1 .f32) (t207 L)

def t487 (L : Loads F) : FVec F S1x4 .f32 :=
  concatenate S1x4 1 [⟨S1x1, (t464 L)⟩, ⟨S1x1, (t471 L)⟩, ⟨S1x1, (t478 L)⟩, ⟨S1x1, (t485 L)⟩] concatenates_S1x1_S1x1_S1x1_S1x1_S1x4_d1

def t494 (L : Loads F) : FVec F S1x128 .f32 :=
  select t7 (broadcastTo S1x128 (shapeCast S1x1 (extractStridedSlice S1x1 ![0, 0] (t487 L) slices_S1x4_o0_0_S1x1 : FVec F S1x1 .f32) shapeCasts_S1x1_S1x1 : FVec F S1x1 .f32) broadcasts_S1x1_S1x128 : FVec F S1x128 .f32) (broadcastTo S1x128 (shapeCast S1x1 (extractStridedSlice S1x1 ![0, 1] (t487 L) slices_S1x4_o0_1_S1x1 : FVec F S1x1 .f32) shapeCasts_S1x1_S1x1 : FVec F S1x1 .f32) broadcasts_S1x1_S1x128 : FVec F S1x128 .f32)

def t501 (L : Loads F) : FVec F S1x128 .f32 :=
  select t7 (broadcastTo S1x128 (shapeCast S1x1 (extractStridedSlice S1x1 ![0, 2] (t487 L) slices_S1x4_o0_2_S1x1 : FVec F S1x1 .f32) shapeCasts_S1x1_S1x1 : FVec F S1x1 .f32) broadcasts_S1x1_S1x128 : FVec F S1x128 .f32) (broadcastTo S1x128 (shapeCast S1x1 (extractStridedSlice S1x1 ![0, 3] (t487 L) slices_S1x4_o0_3_S1x1 : FVec F S1x1 .f32) shapeCasts_S1x1_S1x1 : FVec F S1x1 .f32) broadcasts_S1x1_S1x128 : FVec F S1x128 .f32)

def t502 (L : Loads F) : FVec F S1x256 .f32 :=
  concatenate S1x256 1 [⟨S1x128, (t494 L)⟩, ⟨S1x128, (t501 L)⟩] concatenates_S1x128_S1x128_S1x256_d1

def t503 (L : Loads F) : FVec F S1x256 .f32 :=
  addf (t457 L) (t502 L)

def t505 (L : Loads F) : FVec F S128x256 .f32 :=
  broadcastTo S128x256 (shapeCast S1x256 (t503 L) shapeCasts_S1x256_S1x256 : FVec F S1x256 .f32) broadcasts_S1x256_S128x256

def t506 (L : Loads F) : FVec F S128x256 .f32 :=
  select t442 (t505 L) t87

def t507 (L : Loads F) : FVec F S128x256 .f32 :=
  addf (t436 L) (t506 L)

def t508 (L : Loads F) : FVec F S128x256 .bf16 :=
  truncf .bf16 (t507 L) bitsLt_bf16_f32

def t509 (L : Loads F) : FVec F S128x256 .f32 :=
  matmul dot_S128x128_S128x256_S128x256_1_0_0_1_n_n none t354 (t508 L) (constant S128x256 .f32 0x00000000#32 : FVec F S128x256 .f32)

def t512 (L : Loads F) : FVec F S128x256 .f32 :=
  subf (t507 L) (extf .f32 (t508 L) bitsLt_bf16_f32 : FVec F S128x256 .f32)

def t513 (L : Loads F) : FVec F S128x256 .bf16 :=
  truncf .bf16 (t512 L) bitsLt_bf16_f32

def t515 (L : Loads F) : FVec F S128x256 .f32 :=
  addf (addf t87 (t509 L) : FVec F S128x256 .f32) (matmul dot_S128x128_S128x256_S128x256_1_0_0_1_n_n none t354 (t513 L) (constant S128x256 .f32 0x00000000#32 : FVec F S128x256 .f32) : FVec F S128x256 .f32)

def t516 (L : Loads F) : FVec F S128x256 .f32 :=
  extf .f32 (t513 L) bitsLt_bf16_f32

def t518 (L : Loads F) : FVec F S128x256 .bf16 :=
  truncf .bf16 (subf (t512 L) (t516 L) : FVec F S128x256 .f32) bitsLt_bf16_f32

def t519 (L : Loads F) : FVec F S128x256 .f32 :=
  matmul dot_S128x128_S128x256_S128x256_1_0_0_1_n_n none t354 (t518 L) (constant S128x256 .f32 0x00000000#32 : FVec F S128x256 .f32)

def t520 (L : Loads F) : FVec F S128x256 .f32 :=
  addf (t515 L) (t519 L)

def t522 (L : Loads F) : FVec F S128x256 .f32 :=
  mulf (t277 L) (t29 L)

def t523 (L : Loads F) : FVec F S128x256 .bf16 :=
  truncf .bf16 (t522 L) bitsLt_bf16_f32

def t524 (L : Loads F) : FVec F S128x256 .f32 :=
  matmul dot_S128x256_S256x256_S128x256_1_0_0_1_n_n none (t523 L) t428 (constant S128x256 .f32 0x00000000#32 : FVec F S128x256 .f32)

def t528 (L : Loads F) : FVec F S128x256 .bf16 :=
  truncf .bf16 (subf (t522 L) (extf .f32 (t523 L) bitsLt_bf16_f32 : FVec F S128x256 .f32) : FVec F S128x256 .f32) bitsLt_bf16_f32

def t530 (L : Loads F) : FVec F S128x256 .f32 :=
  addf (addf t87 (t524 L) : FVec F S128x256 .f32) (matmul dot_S128x256_S256x256_S128x256_1_0_0_1_n_n none (t528 L) t428 (constant S128x256 .f32 0x00000000#32 : FVec F S128x256 .f32) : FVec F S128x256 .f32)

def t531 (L : Loads F) : FVec F S128x256 .f32 :=
  addf (mulf (t520 L) (t144 L) : FVec F S128x256 .f32) (t530 L)

def t535 (L : Loads F) : FVec F S128x256 .f32 :=
  addf (mulf t35 (tanh (mulf t35 (t118 L) : FVec F S128x256 .f32) : FVec F S128x256 .f32) : FVec F S128x256 .f32) t35

def t536 (L : Loads F) : FVec F S128x256 .f32 :=
  mulf (t531 L) (t535 L)

def t542 (L : Loads F) : FVec F S128x4 .f32 :=
  concatenate S128x4 1 [⟨S128x1, (extractStridedSlice S128x1 ![0, 0] (t536 L) slices_S128x256_o0_0_S128x1 : FVec F S128x1 .f32)⟩, ⟨S128x1, (extractStridedSlice S128x1 ![0, 64] (t536 L) slices_S128x256_o0_64_S128x1 : FVec F S128x1 .f32)⟩, ⟨S128x1, (extractStridedSlice S128x1 ![0, 128] (t536 L) slices_S128x256_o0_128_S128x1 : FVec F S128x1 .f32)⟩, ⟨S128x1, (extractStridedSlice S128x1 ![0, 192] (t536 L) slices_S128x256_o0_192_S128x1 : FVec F S128x1 .f32)⟩] concatenates_S128x1_S128x1_S128x1_S128x1_S128x4_d1

def t543 (L : Loads F) : FVec F S1x128x4 .f32 :=
  shapeCast S1x128x4 (t542 L) shapeCasts_S128x4_S1x128x4

def t545 (L : Loads F) : FVec F S3x4 .f32 :=
  shapeCast S3x4 L.l544 shapeCasts_S1x3x4_S3x4

def t547 (L : Loads F) : FVec F S1x256 .f32 :=
  shapeCast S1x256 (multiReduction .add [0] S256 (t536 L) 0x00000000#32 reduces_S128x256_S256 (.inl rfl) rfl : FVec F S256 .f32) shapeCasts_S256_S1x256

def t550 (L : Loads F) : FVec F S1x256 .f32 :=
  shapeCast S1x256 (multiReduction .add [0] S256 (mulf (t520 L) (t124 L) : FVec F S128x256 .f32) 0x00000000#32 reduces_S128x256_S256 (.inl rfl) rfl : FVec F S256 .f32) shapeCasts_S256_S1x256

def t552 (L : Loads F) : FVec F S128x256 .f32 :=
  mulf (t180 L) (t29 L)

def t553 (L : Loads F) : FVec F S128x256 .bf16 :=
  truncf .bf16 (t552 L) bitsLt_bf16_f32

def t554 (L : Loads F) : FVec F S128x256 .f32 :=
  matmul dot_S128x256_S256x256_S128x256_1_0_0_1_n_n none (t553 L) t428 (constant S128x256 .f32 0x00000000#32 : FVec F S128x256 .f32)

def t555 (L : Loads F) : FVec F S128x256 .f32 :=
  addf t87 (t554 L)

def t558 (L : Loads F) : FVec F S128x256 .bf16 :=
  truncf .bf16 (subf (t552 L) (extf .f32 (t553 L) bitsLt_bf16_f32 : FVec F S128x256 .f32) : FVec F S128x256 .f32) bitsLt_bf16_f32

def t559 (L : Loads F) : FVec F S128x256 .f32 :=
  matmul dot_S128x256_S256x256_S128x256_1_0_0_1_n_n none (t558 L) t428 (constant S128x256 .f32 0x00000000#32 : FVec F S128x256 .f32)

def t560 (L : Loads F) : FVec F S128x256 .f32 :=
  addf (t555 L) (t559 L)

def t562 (L : Loads F) : FVec F S1x256 .f32 :=
  shapeCast S1x256 (multiReduction .add [0] S256 (t560 L) 0x00000000#32 reduces_S128x256_S256 (.inl rfl) rfl : FVec F S256 .f32) shapeCasts_S256_S1x256

def t564 (L : Loads F) : FVec F S3x256 .f32 :=
  concatenate S3x256 0 [⟨S1x256, (t547 L)⟩, ⟨S1x256, (mulf (t550 L) (t143 L) : FVec F S1x256 .f32)⟩, ⟨S1x256, (t562 L)⟩] concatenates_S1x256_S1x256_S1x256_S3x256_d0

def t565 (L : Loads F) : FVec F S3x1 .f32 :=
  extractStridedSlice S3x1 ![0, 0] (t564 L) slices_S3x256_o0_0_S3x1

def t566 (L : Loads F) : FVec F S3x1 .f32 :=
  extractStridedSlice S3x1 ![0, 64] (t564 L) slices_S3x256_o0_64_S3x1

def t570 (L : Loads F) : FVec F S3x4 .f32 :=
  concatenate S3x4 1 [⟨S3x1, (t565 L)⟩, ⟨S3x1, (t566 L)⟩, ⟨S3x1, (extractStridedSlice S3x1 ![0, 128] (t564 L) slices_S3x256_o0_128_S3x1 : FVec F S3x1 .f32)⟩, ⟨S3x1, (extractStridedSlice S3x1 ![0, 192] (t564 L) slices_S3x256_o0_192_S3x1 : FVec F S3x1 .f32)⟩] concatenates_S3x1_S3x1_S3x1_S3x1_S3x4_d1

def t572 (L : Loads F) : FVec F S1x3x4 .f32 :=
  shapeCast S1x3x4 (addf (t545 L) (t570 L) : FVec F S3x4 .f32) shapeCasts_S3x4_S1x3x4

end Cert.KernelIdeal.Group
-- ==== Proof.Spec.lean ====
/- The gradient of one chunk of one group, over the real numbers. A chunk has 128 tokens `l`, `s`; a group has four
   heads `h` of 64 lanes `p`, so 256 lanes `w`, and a state of 128 entries `n` per lane. -/
module

public import Idealize.ShloMosaic.Lib.Pointwise

@[expose] public section

noncomputable section

namespace Cert.Ssd

open scoped BigOperators

/-- What the gradient of one chunk of one group is computed from. -/
structure In where
  dyn : Fin 128 → Fin 256 → ℝ
  y : Fin 128 → Fin 256 → ℝ
  x : Fin 128 → Fin 256 → ℝ
  z : Fin 128 → Fin 256 → ℝ
  B : Fin 128 → Fin 128 → ℝ
  C : Fin 128 → Fin 128 → ℝ
  dt : Fin 128 → Fin 4 → ℝ
  bias : Fin 4 → ℝ
  alog : Fin 4 → ℝ
  skip : Fin 4 → ℝ
  nw : Fin 256 → ℝ
  S0 : Fin 256 → Fin 128 → ℝ
  dS : Fin 256 → Fin 128 → ℝ

/-- The head of a lane. -/
def hd (w : Fin 256) : Fin 4 := ⟨w.val / 64, by omega⟩
/-- The lane `p` of head `h`. -/
def hp (h : Fin 4) (p : Fin 64) : Fin 256 := ⟨h.val * 64 + p.val, by omega⟩

@[simp] theorem hd_hp (h : Fin 4) (p : Fin 64) : hd (hp h p) = h := by
  apply Fin.ext; simp only [hd, hp]; omega

theorem hp_hd (w : Fin 256) (q : Fin 4) (r : Fin 64) (hq : q.val = w.val / 64) (hr : r.val = w.val % 64) :
    hp q r = w := by
  apply Fin.ext; simp only [hp]; omega

/-- A sum over the lanes is the sum over the heads of the sums over their lanes. -/
theorem sum_lanes {M : Type*} [AddCommMonoid M] (f : Fin 256 → M) : ∑ w, f w = ∑ h, ∑ p, f (hp h p) := by
  rw [← Finset.sum_product', ← (finProdFinEquiv (m := 4) (n := 64)).sum_comp]
  refine Finset.sum_congr rfl fun q _ => congrArg f (Fin.ext ?_)
  simp only [finProdFinEquiv_apply_val, hp]; omega

/-- The logistic function. -/
def sg (t : ℝ) : ℝ := (1 + Real.exp (-t))⁻¹
/-- The constant that keeps the norm away from zero: the rational its single word is. -/
def eps : ℝ := 8796093 / 8796093022208

namespace In
variable (I : In)

def dtr (l : Fin 128) (h : Fin 4) : ℝ := I.dt l h + I.bias h
def sp (l : Fin 128) (h : Fin 4) : ℝ := Real.log (1 + Real.exp (I.dtr l h))
def A (h : Fin 4) : ℝ := -Real.exp (I.alog h)
def acum (l : Fin 128) (h : Fin 4) : ℝ := ∑ s : Fin 128, if s ≤ l then I.sp s h * I.A h else 0
def dec (l s : Fin 128) (h : Fin 4) : ℝ := if s ≤ l then Real.exp (I.acum l h - I.acum s h) else 0
def eac (l : Fin 128) (h : Fin 4) : ℝ := Real.exp (I.acum l h)
def wdec (l : Fin 128) (h : Fin 4) : ℝ := Real.exp (I.acum 127 h - I.acum l h)
def ea (h : Fin 4) : ℝ := Real.exp (I.acum 127 h)
def y1 (l : Fin 128) (w : Fin 256) : ℝ := I.y l w + I.skip (hd w) * I.x l w
def sz (l : Fin 128) (w : Fin 256) : ℝ := I.z l w * sg (I.z l w)
def y2 (l : Fin 128) (w : Fin 256) : ℝ := I.y1 l w * I.sz l w
def ms (l : Fin 128) : ℝ := (∑ w, I.y2 l w * I.y2 l w) / 256 + eps
def r (l : Fin 128) : ℝ := (Real.sqrt (I.ms l))⁻¹
def y2h (l : Fin 128) (w : Fin 256) : ℝ := I.y2 l w * I.r l
def dnw (w : Fin 256) : ℝ := ∑ l, I.dyn l w * I.y2h l w
def dyh (l : Fin 128) (w : Fin 256) : ℝ := I.dyn l w * I.nw w
def mm (l : Fin 128) : ℝ := (∑ w, I.dyh l w * I.y2h l w) / 256
def dy2 (l : Fin 128) (w : Fin 256) : ℝ := I.r l * (I.dyh l w - I.y2h l w * I.mm l)
def dsz (l : Fin 128) (w : Fin 256) : ℝ := sg (I.z l w) * (1 + I.z l w * (1 - sg (I.z l w)))
def dz (l : Fin 128) (w : Fin 256) : ℝ := I.dy2 l w * I.y1 l w * I.dsz l w
def dY (l : Fin 128) (w : Fin 256) : ℝ := I.dy2 l w * I.sz l w
def X (l : Fin 128) (w : Fin 256) : ℝ := I.x l w * I.sp l (hd w)
def dYe (l : Fin 128) (w : Fin 256) : ℝ := I.dY l w * I.eac l (hd w)
def CB (l s : Fin 128) : ℝ := ∑ n, I.C l n * I.B s n
def CS (l : Fin 128) (w : Fin 256) : ℝ := ∑ n, I.C l n * I.S0 w n
def BdS (s : Fin 128) (w : Fin 256) : ℝ := ∑ n, I.B s n * I.dS w n
def G (l s : Fin 128) (h : Fin 4) : ℝ := ∑ p, I.dY l (hp h p) * I.X s (hp h p)
def gd (l s : Fin 128) (h : Fin 4) : ℝ := I.G l s h * I.dec l s h
def dCB (l s : Fin 128) : ℝ := ∑ h, I.gd l s h
def dC (l n : Fin 128) : ℝ := (∑ w, I.dYe l w * I.S0 w n) + ∑ s, I.dCB l s * I.B s n
def dB (s n : Fin 128) : ℝ := (∑ w, I.X s w * I.wdec s (hd w) * I.dS w n) + ∑ l, I.dCB l s * I.C l n
def dXs (s : Fin 128) (w : Fin 256) : ℝ := I.BdS s w * I.wdec s (hd w)
def dX (s : Fin 128) (w : Fin 256) : ℝ := (∑ l, I.CB l s * I.dec l s (hd w) * I.dY l w) + I.dXs s w
def dSn (w : Fin 256) (n : Fin 128) : ℝ := I.ea (hd w) * I.dS w n + ∑ l, I.dYe l w * I.C l n
def q (l : Fin 128) (h : Fin 4) : ℝ := ∑ s, (I.CB l s * I.gd l s h - I.CB s l * I.gd s l h)
def tot (h : Fin 4) : ℝ :=
  (∑ l, ∑ p, I.X l (hp h p) * I.dXs l (hp h p)) + (∑ p, ∑ n, I.dS (hp h p) n * I.S0 (hp h p) n) * I.ea h
def dacum (l : Fin 128) (h : Fin 4) : ℝ :=
  I.q l h + (∑ p, (I.dY l (hp h p) * (I.CS l (hp h p) * I.eac l h) - I.X l (hp h p) * I.dXs l (hp h p)))
    + if l = 127 then I.tot h else 0
def da (l : Fin 128) (h : Fin 4) : ℝ := ∑ s : Fin 128, if l ≤ s then I.dacum s h else 0
def dxdt (l : Fin 128) (h : Fin 4) : ℝ := ∑ p, I.dX l (hp h p) * I.x l (hp h p)
def ddt (l : Fin 128) (h : Fin 4) : ℝ := (I.da l h * I.A h + I.dxdt l h) * sg (I.dtr l h)
def dx (l : Fin 128) (w : Fin 256) : ℝ := I.dX l w * I.sp l (hd w) + I.skip (hd w) * I.dY l w
def dbias (h : Fin 4) : ℝ := ∑ l, I.ddt l h
def dalog (h : Fin 4) : ℝ := (∑ l, I.da l h * I.sp l h) * I.A h
def dskip (h : Fin 4) : ℝ := ∑ l, ∑ p, I.dY l (hp h p) * I.x l (hp h p)

theorem ms_pos (l : Fin 128) : 0 < I.ms l := by
  have h : 0 ≤ (∑ w, I.y2 l w * I.y2 l w) / 256 :=
    div_nonneg (Finset.sum_nonneg fun w _ => mul_self_nonneg _) (by norm_num)
  have e : (0 : ℝ) < eps := by unfold eps; norm_num
  unfold ms; linarith

theorem r_sq (l : Fin 128) : I.r l * I.r l = (I.ms l)⁻¹ := by
  unfold r; rw [← mul_inv, Real.mul_self_sqrt (I.ms_pos l).le]

end In

/-! ## From real sums to sums of extended reals -/

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem one_add_exp_pos (t : ℝ) : 0 < 1 + Real.exp t := by positivity

theorem sg_pos (t : ℝ) : 0 < sg t := inv_pos.2 (one_add_exp_pos _)

theorem softplus_real (t : ℝ) : max t 0 + Real.log (1 + Real.exp (-|t|)) = Real.log (1 + Real.exp t) := by
  rcases le_total 0 t with h | h
  · rw [max_eq_left h, abs_of_nonneg h]
    have e : 1 + Real.exp t = Real.exp t * (1 + Real.exp (-t)) := by
      rw [mul_add, ← Real.exp_add]; simp [add_comm]
    rw [e, Real.log_mul (Real.exp_pos _).ne' (one_add_exp_pos _).ne', Real.log_exp]
  · rw [max_eq_right h, abs_of_nonpos h, neg_neg, zero_add]

theorem exp_sub_softplus (t : ℝ) : Real.exp (t - Real.log (1 + Real.exp t)) = sg t := by
  rw [Real.exp_sub, Real.exp_log (one_add_exp_pos _), sg]
  have e : 1 + Real.exp (-t) = (1 + Real.exp t) / Real.exp t := by
    rw [Real.exp_neg]; field_simp; ring
  rw [e, inv_div]

theorem tanh_half (t : ℝ) : 1 / 2 * (Real.tanh (1 / 2 * t) + 1) = sg t := by
  rw [sg, Real.tanh_eq_sinh_div_cosh, Real.sinh_eq, Real.cosh_eq]
  have h1 : Real.exp (-t) = Real.exp (-(1 / 2 * t)) * Real.exp (-(1 / 2 * t)) := by
    rw [← Real.exp_add]; congr 1; ring
  have h2 : Real.exp (1 / 2 * t) * Real.exp (-(1 / 2 * t)) = 1 := by
    rw [← Real.exp_add]; simp
  have p1 := Real.exp_pos (1 / 2 * t)
  have p2 := Real.exp_pos (-(1 / 2 * t))
  rw [h1]
  set a := Real.exp (1 / 2 * t)
  set b := Real.exp (-(1 / 2 * t))
  have : (0 : ℝ) < 1 + b * b := by positivity
  have : (0 : ℝ) < a + b := by positivity
  field_simp
  nlinarith [h2]

end Cert.Ssd
-- ==== Proof.Scalars.lean ====
/- The constants of the two programs and their scalar functions at real arguments. -/
module

public import proofs.«01_k».proof.Proof.Spec

@[expose] public section

noncomputable section

namespace Cert.Ssd

open Idealize.ShloMosaic

theorem cadd (x y : ℝ) : ((x + y : ℝ) : EReal) = x + y := EReal.coe_add x y
theorem csub (x y : ℝ) : ((x - y : ℝ) : EReal) = x - y := EReal.coe_sub x y
theorem cmul (x y : ℝ) : ((x * y : ℝ) : EReal) = x * y := EReal.coe_mul x y
theorem cneg (x : ℝ) : ((-x : ℝ) : EReal) = -x := EReal.coe_neg x

theorem word_256 : Ideal.ofBits .f32 0x43800000#32 = ((256 : ℝ) : EReal) := by
  simp [Ideal.ofBits, Ideal.ieee, -EReal.coe_mul]; norm_num
theorem word_half : Ideal.ofBits .f32 0x3F000000#32 = ((1 / 2 : ℝ) : EReal) := by
  simp [Ideal.ofBits, Ideal.ieee, -EReal.coe_mul]; norm_num
theorem word_neg_half : Ideal.ofBits .f32 0xBF000000#32 = ((-(1 / 2) : ℝ) : EReal) := by
  simp [Ideal.ofBits, Ideal.ieee, -EReal.coe_mul, -EReal.coe_neg]; norm_num
theorem word_eps : Ideal.ofBits .f32 0x358637BD#32 = ((eps : ℝ) : EReal) := by
  unfold eps; simp [Ideal.ofBits, Ideal.ieee, -EReal.coe_mul]; norm_num
theorem word_bot : Ideal.ofBits .f32 0xFF800000#32 = ⊥ := by
  simp [Ideal.ofBits, Ideal.ieee]
theorem word_top : Ideal.ofBits .f32 0x7F800000#32 = ⊤ := by
  simp [Ideal.ofBits, Ideal.ieee]

theorem div_256 (t : ℝ) : Ideal.div (t : EReal) ((256 : ℝ) : EReal) = ((t / 256 : ℝ) : EReal) := by
  rw [Ideal.div_coe (by norm_num), ← EReal.coe_mul]; congr 1; ring

theorem div_real (t : ℝ) {u : ℝ} (h : u ≠ 0) : Ideal.div (t : EReal) (u : EReal) = ((t / u : ℝ) : EReal) := by
  rw [Ideal.div_coe h, ← EReal.coe_mul]; congr 1; ring

theorem logistic_real (t : ℝ) : Ideal.div 1 (1 + Ideal.exp (-(t : EReal))) = ((sg t : ℝ) : EReal) :=
  Ideal.logistic_coe t

theorem rsqrt_real {t : ℝ} (h : 0 < t) : Ideal.rsqrt (t : EReal) = (((Real.sqrt t)⁻¹ : ℝ) : EReal) := by
  rw [Ideal.rsqrt_coe, if_neg (not_lt.2 h.le), if_neg h.ne']

theorem abs_real (t : ℝ) : max (t : EReal) (-(t : EReal)) = ((|t| : ℝ) : EReal) := by
  rw [← EReal.coe_neg, abs_eq_max_neg]; exact (EReal.coe_strictMono.monotone.map_max).symm

theorem max_real (t u : ℝ) : max (t : EReal) (u : EReal) = ((max t u : ℝ) : EReal) :=
  (EReal.coe_strictMono.monotone.map_max).symm

theorem log1p_exp_real (t : ℝ) : Ideal.log1p ((Real.exp t : ℝ) : EReal) = ((Real.log (1 + Real.exp t) : ℝ) : EReal) := by
  have h := one_add_exp_pos t
  rw [Ideal.log1p, ← EReal.coe_one, ← EReal.coe_add, Ideal.log_coe, if_neg (not_le.2 h)]

theorem softplus_ereal (t : ℝ) :
    max (t : EReal) 0 + Ideal.log1p (Ideal.exp (-(max (t : EReal) (-(t : EReal)))))
      = ((Real.log (1 + Real.exp t) : ℝ) : EReal) := by
  rw [abs_real, ← EReal.coe_neg, Ideal.exp_coe, log1p_exp_real, ← EReal.coe_zero, max_real, ← EReal.coe_add,
    softplus_real]

end Cert.Ssd
-- ==== Proof.Sums.lean ====
/- Two sums of the reference at an index: a reduction of the first and the last of four axes, and a running sum along
   the first of three axes, from either end. -/
module

public import Idealize.ShloMosaic.Lib.Pointwise

@[expose] public section

set_option maxRecDepth 16384

namespace Cert.Ssd

open Idealize.ShloMosaic
open scoped BigOperators

theorem fiber_outer {n0 n1 n2 n3 : Nat} (h : (⟨4, ![n0, n1, n2, n3]⟩ : Shape).ReducesTo [0, 3] ⟨2, ![n1, n2]⟩)
    (a : Fin n1) (b : Fin n2) (i : (⟨4, ![n0, n1, n2, n3]⟩ : Shape).Idx) :
    h.drop i = ix2 a b ↔ ∃ k : Fin n0 × Fin n3, ix4 k.1 a b k.2 = i := by
  constructor
  · intro e
    refine ⟨(i 0, i 3), ?_⟩
    funext c; apply Fin.ext
    match c with
    | ⟨0, _⟩ => rfl
    | ⟨1, _⟩ => exact (congrArg Fin.val (congrFun e 0)).symm
    | ⟨2, _⟩ => exact (congrArg Fin.val (congrFun e 1)).symm
    | ⟨3, _⟩ => rfl
  · rintro ⟨k, rfl⟩
    funext b
    apply Fin.ext
    match b with
    | ⟨0, _⟩ => rfl
    | ⟨1, _⟩ => rfl

/-- The sum over the first and the last axis. -/
theorem sum_outer {n0 n1 n2 n3 : Nat} (h : (⟨4, ![n0, n1, n2, n3]⟩ : Shape).ReducesTo [0, 3] ⟨2, ![n1, n2]⟩)
    (v : (⟨4, ![n0, n1, n2, n3]⟩ : Shape).Idx → EReal) (init : EReal) (a : Fin n1) (b : Fin n2) :
    Ideal.hostReduceAdd h v init (ix2 a b) = init + ∑ k0 : Fin n0, ∑ k1 : Fin n3, v (ix4 k0 a b k1) := by
  refine congrArg (init + ·) ((Finset.sum_filter_eq_sum_of_fiber _ (fun k : Fin n0 × Fin n3 => ix4 k.1 a b k.2)
    (fun _ _ e => Prod.ext (congrFun e 0) (congrFun e 3)) (fiber_outer h a b) v).trans ?_)
  simp only [Fintype.sum_prod_type]

theorem foldl_add {ι : Type*} (l : List ι) (g : ι → EReal) (a : EReal) :
    l.foldl (fun r n => r + g n) a = a + (l.map g).sum := by
  induction l generalizing a with
  | nil => simp
  | cons x l ih => rw [List.foldl_cons, ih, List.map_cons, List.sum_cons, add_assoc]

theorem shift_low (f : Fin 128 → EReal) (j : Fin 128) :
    (∑ n : Fin 128, if h : 127 ≤ j.val + n.val then f ⟨j.val + n.val - 127, by omega⟩ else 0)
      = ∑ s : Fin 128, if s ≤ j then f s else 0 := by
  have e1 : ∀ n : Fin 128, (if h : 127 ≤ j.val + n.val then f ⟨j.val + n.val - 127, by omega⟩ else 0)
      = if 127 ≤ j.val + n.val then f ⟨(j.val + n.val - 127) % 128, by omega⟩ else 0 := by
    intro n; split
    · congr 1; apply Fin.ext; simp only; omega
    · rfl
  simp only [e1]
  rw [← Finset.sum_filter, ← Finset.sum_filter]
  refine Finset.sum_bij' (fun n _ => ⟨(j.val + n.val - 127) % 128, by omega⟩)
    (fun s _ => ⟨(s.val + 127 - j.val) % 128, by omega⟩) ?_ ?_ ?_ ?_ ?_
  · intro n hn; simp only [Finset.mem_filter, Finset.mem_univ, true_and, Fin.le_def] at hn ⊢; omega
  · intro n hn; simp only [Finset.mem_filter, Finset.mem_univ, true_and, Fin.le_def] at hn ⊢; omega
  · intro n hn; simp only [Finset.mem_filter, Finset.mem_univ, true_and, Fin.le_def] at hn ⊢; apply Fin.ext; simp only; omega
  · intro n hn; simp only [Finset.mem_filter, Finset.mem_univ, true_and, Fin.le_def] at hn ⊢; apply Fin.ext; simp only; omega
  · intro n hn; rfl

theorem shift_high (f : Fin 128 → EReal) (j : Fin 128) :
    (∑ n : Fin 128, if h : j.val + n.val < 128 then f ⟨j.val + n.val, h⟩ else 0)
      = ∑ s : Fin 128, if j ≤ s then f s else 0 := by
  have e1 : ∀ n : Fin 128, (if h : j.val + n.val < 128 then f ⟨j.val + n.val, h⟩ else 0)
      = if j.val + n.val < 128 then f ⟨(j.val + n.val) % 128, by omega⟩ else 0 := by
    intro n; split
    · congr 1; apply Fin.ext; simp only; omega
    · rfl
  simp only [e1]
  rw [← Finset.sum_filter, ← Finset.sum_filter]
  refine Finset.sum_bij' (fun n _ => ⟨(j.val + n.val) % 128, by omega⟩)
    (fun s _ => ⟨(s.val + 128 - j.val) % 128, by omega⟩) ?_ ?_ ?_ ?_ ?_
  · intro n hn; simp only [Finset.mem_filter, Finset.mem_univ, true_and, Fin.le_def] at hn ⊢; omega
  · intro n hn; simp only [Finset.mem_filter, Finset.mem_univ, true_and, Fin.le_def] at hn ⊢; omega
  · intro n hn; simp only [Finset.mem_filter, Finset.mem_univ, true_and, Fin.le_def] at hn ⊢; apply Fin.ext; simp only; omega
  · intro n hn; simp only [Finset.mem_filter, Finset.mem_univ, true_and, Fin.le_def] at hn ⊢; apply Fin.ext; simp only; omega
  · intro n hn; rfl

/-- The positions of a window along the first axis, in their order. -/
theorem position (n : Fin (⟨3, ![128, 1, 1]⟩ : Shape).numel) :
    ((⟨3, ![128, 1, 1]⟩ : Shape).rowMajor.symm n 0).val = n.val
      ∧ ((⟨3, ![128, 1, 1]⟩ : Shape).rowMajor.symm n 1).val = 0 ∧ ((⟨3, ![128, 1, 1]⟩ : Shape).rowMajor.symm n 2).val = 0 := by
  have h1 : ((⟨3, ![128, 1, 1]⟩ : Shape).rowMajor.symm n 1).val = 0 :=
    Nat.lt_one_iff.1 ((⟨3, ![128, 1, 1]⟩ : Shape).rowMajor.symm n 1).isLt
  have h2 : ((⟨3, ![128, 1, 1]⟩ : Shape).rowMajor.symm n 2).val = 0 :=
    Nat.lt_one_iff.1 ((⟨3, ![128, 1, 1]⟩ : Shape).rowMajor.symm n 2).isLt
  refine ⟨?_, h1, h2⟩
  have e := congrArg Fin.val ((⟨3, ![128, 1, 1]⟩ : Shape).rowMajor.apply_symm_apply n)
  rw [rowMajor_val3 _ 1 1 rfl rfl] at e
  omega

theorem sum_positions (g : Fin 128 → EReal) (f : Fin (⟨3, ![128, 1, 1]⟩ : Shape).numel → EReal)
    (h : ∀ n, f n = g ⟨n.val, n.isLt⟩) : ((List.finRange (⟨3, ![128, 1, 1]⟩ : Shape).numel).map f).sum = ∑ n, g n := by
  have e : f = fun n => g ⟨n.val, n.isLt⟩ := funext h
  rw [e]
  exact (Fin.sum_univ_def (n := 128) g).symm

/-- The running sum from the first token. -/
theorem running_low {a b : Nat} (x : (⟨3, ![128, a, b]⟩ : Shape).Idx → EReal) (init : EReal) (h0 : init = 0)
    (h : (⟨3, ![128, a, b]⟩ : Shape).ReduceWindows ![128, 1, 1] ![1, 1, 1] ![127, 0, 0] ![0, 0, 0] ⟨3, ![128, a, b]⟩)
    (j : Fin 128) (p : Fin a) (q : Fin b) :
    Ideal.hostReduceWindowAdd ![128, 1, 1] ![1, 1, 1] ![127, 0, 0] ![0, 0, 0] h x init (ix3 j p q)
      = ∑ s : Fin 128, if s ≤ j then x (ix3 s p q) else 0 := by
  subst h0
  unfold Ideal.hostReduceWindowAdd Host.reduceWindow
  dsimp only
  rw [foldl_add, zero_add, ← shift_low]
  refine sum_positions _ _ fun n => ?_
  obtain ⟨w0, w1, w2⟩ := position n
  have hj := j.isLt
  have hn : n.val < 128 := n.isLt
  split
  · next hin =>
    have h0 := hin 0
    change 127 ≤ j.val * 1 + ((⟨3, ![128, 1, 1]⟩ : Shape).rowMajor.symm n 0).val
      ∧ j.val * 1 + ((⟨3, ![128, 1, 1]⟩ : Shape).rowMajor.symm n 0).val - 127 < 128 at h0
    rw [w0] at h0
    rw [dif_pos (by simp only; omega)]
    refine congrArg x (funext fun c => Fin.ext ?_)
    match c with
    | ⟨0, _⟩ =>
      show j.val * 1 + ((⟨3, ![128, 1, 1]⟩ : Shape).rowMajor.symm n 0).val - 127 = j.val + n.val - 127
      rw [w0, Nat.mul_one]
    | ⟨1, _⟩ =>
      show p.val * 1 + ((⟨3, ![128, 1, 1]⟩ : Shape).rowMajor.symm n 1).val - 0 = p.val
      rw [w1]; omega
    | ⟨2, _⟩ =>
      show q.val * 1 + ((⟨3, ![128, 1, 1]⟩ : Shape).rowMajor.symm n 2).val - 0 = q.val
      rw [w2]; omega
  · next hin =>
    rw [dif_neg fun hle => hin fun c => by
      match c with
      | ⟨0, _⟩ =>
        show 127 ≤ j.val * 1 + ((⟨3, ![128, 1, 1]⟩ : Shape).rowMajor.symm n 0).val
          ∧ j.val * 1 + ((⟨3, ![128, 1, 1]⟩ : Shape).rowMajor.symm n 0).val - 127 < 128
        rw [w0]; simp only at hle; omega
      | ⟨1, _⟩ =>
        show 0 ≤ p.val * 1 + ((⟨3, ![128, 1, 1]⟩ : Shape).rowMajor.symm n 1).val
          ∧ p.val * 1 + ((⟨3, ![128, 1, 1]⟩ : Shape).rowMajor.symm n 1).val - 0 < a
        rw [w1]; have := p.isLt; omega
      | ⟨2, _⟩ =>
        show 0 ≤ q.val * 1 + ((⟨3, ![128, 1, 1]⟩ : Shape).rowMajor.symm n 2).val
          ∧ q.val * 1 + ((⟨3, ![128, 1, 1]⟩ : Shape).rowMajor.symm n 2).val - 0 < b
        rw [w2]; have := q.isLt; omega]

/-- The running sum from the last token. -/
theorem running_high {a b : Nat} (x : (⟨3, ![128, a, b]⟩ : Shape).Idx → EReal) (init : EReal) (h0 : init = 0)
    (h : (⟨3, ![128, a, b]⟩ : Shape).ReduceWindows ![128, 1, 1] ![1, 1, 1] ![0, 0, 0] ![127, 0, 0] ⟨3, ![128, a, b]⟩)
    (j : Fin 128) (p : Fin a) (q : Fin b) :
    Ideal.hostReduceWindowAdd ![128, 1, 1] ![1, 1, 1] ![0, 0, 0] ![127, 0, 0] h x init (ix3 j p q)
      = ∑ s : Fin 128, if j ≤ s then x (ix3 s p q) else 0 := by
  subst h0
  unfold Ideal.hostReduceWindowAdd Host.reduceWindow
  dsimp only
  rw [foldl_add, zero_add, ← shift_high]
  refine sum_positions _ _ fun n => ?_
  obtain ⟨w0, w1, w2⟩ := position n
  have hj := j.isLt
  have hn : n.val < 128 := n.isLt
  split
  · next hin =>
    have h0 := hin 0
    change 0 ≤ j.val * 1 + ((⟨3, ![128, 1, 1]⟩ : Shape).rowMajor.symm n 0).val
      ∧ j.val * 1 + ((⟨3, ![128, 1, 1]⟩ : Shape).rowMajor.symm n 0).val - 0 < 128 at h0
    rw [w0] at h0
    rw [dif_pos (by simp only; omega)]
    refine congrArg x (funext fun c => Fin.ext ?_)
    match c with
    | ⟨0, _⟩ =>
      show j.val * 1 + ((⟨3, ![128, 1, 1]⟩ : Shape).rowMajor.symm n 0).val - 0 = j.val + n.val
      rw [w0]; omega
    | ⟨1, _⟩ =>
      show p.val * 1 + ((⟨3, ![128, 1, 1]⟩ : Shape).rowMajor.symm n 1).val - 0 = p.val
      rw [w1]; omega
    | ⟨2, _⟩ =>
      show q.val * 1 + ((⟨3, ![128, 1, 1]⟩ : Shape).rowMajor.symm n 2).val - 0 = q.val
      rw [w2]; omega
  · next hin =>
    rw [dif_neg fun hle => hin fun c => by
      match c with
      | ⟨0, _⟩ =>
        show 0 ≤ j.val * 1 + ((⟨3, ![128, 1, 1]⟩ : Shape).rowMajor.symm n 0).val
          ∧ j.val * 1 + ((⟨3, ![128, 1, 1]⟩ : Shape).rowMajor.symm n 0).val - 0 < 128
        rw [w0]; simp only at hle; omega
      | ⟨1, _⟩ =>
        show 0 ≤ p.val * 1 + ((⟨3, ![128, 1, 1]⟩ : Shape).rowMajor.symm n 1).val
          ∧ p.val * 1 + ((⟨3, ![128, 1, 1]⟩ : Shape).rowMajor.symm n 1).val - 0 < a
        rw [w1]; have := p.isLt; omega
      | ⟨2, _⟩ =>
        show 0 ≤ q.val * 1 + ((⟨3, ![128, 1, 1]⟩ : Shape).rowMajor.symm n 2).val
          ∧ q.val * 1 + ((⟨3, ![128, 1, 1]⟩ : Shape).rowMajor.symm n 2).val - 0 < b
        rw [w2]; have := q.isLt; omega]

end Cert.Ssd
-- ==== Proof.Lift1.lean ====
/- One group of a chunk over the real numbers: what the kernel computes, from what it loads. -/
module

public import proofs.«01_k».proof.Proof.Tower
public import proofs.«01_k».proof.Proof.Scalars
public import proofs.«01_k».proof.Proof.Sums

@[expose] public section

set_option maxRecDepth 16384

noncomputable section

namespace Cert.KernelIdeal.Group

open Cert.Ssd Cert.KernelIdeal Cert.KernelIdeal.Gen
open Idealize.ShloMosaic Idealize.SL.Sem
open Finset (univ_unique sum_singleton)
open Fin (default_eq_zero)

theorem slt64 (k : ℕ) (hk : k < 256) : IntOp.cmpi .slt (BitVec.ofNat 32 k) 64#32 = BitVec.ofBool (decide (k < 64)) := by
  have hn : (BitVec.ofNat 32 k).toNat = k := by rw [BitVec.toNat_ofNat]; omega
  have e : (BitVec.ofNat 32 k).toInt = k := by rw [BitVec.toInt_eq_toNat_of_lt (by omega), hn]
  simp only [IntOp.cmpi, BitVec.slt_eq_decide, e]
  congr 2
  rw [show (64#32 : BitVec 32).toInt = 64 from by decide]
  simp

theorem below (k : ℕ) (hk : k < 256) (a b : EReal) :
    Scalar.select (IntOp.cmpi .slt (BitVec.ofNat 32 k) 64#32) a b = if k < 64 then a else b := by
  rw [slt64 k hk]; by_cases h : k < 64 <;> simp [Scalar.select, h]

/-- Four numbers, each spread over the 64 lanes of its head. -/
theorem spread (a : Fin 4 → ℝ) (w : Fin 256) :
    (if h : w.val < 128 then Scalar.select (IntOp.cmpi .slt (BitVec.ofNat 32 w.val) 64#32) ((a 0 : ℝ) : EReal) (a 1)
      else Scalar.select (IntOp.cmpi .slt (BitVec.ofNat 32 (w.val - 128)) 64#32) ((a 2 : ℝ) : EReal) (a 3))
      = ((a (hd w) : ℝ) : EReal) := by
  have hw := w.isLt
  have e (q : Fin 4) (hq : q.val = w.val / 64) : hd w = q := Fin.ext hq.symm
  rw [below _ hw, below _ (by omega)]
  split_ifs with h1 h2 h2
  · rw [e 0 (by show 0 = _; omega)]
  · rw [e 1 (by show 1 = _; omega)]
  · rw [e 2 (by show 2 = _; omega)]
  · rw [e 3 (by show 3 = _; omega)]

theorem absf_ereal (t : ℝ) : (FloatOps.absf (F := Ideal) (φ := .f32) ((t : ℝ) : EReal) : EReal) = ((|t| : ℝ) : EReal) := abs_real t

/-- The loads `L` hold the chunk `I`, and the sums so far `an` and `ap`. -/
structure Reads (L : Loads Ideal) (I : In) (an : Fin 256 → ℝ) (ap : Fin 3 → Fin 4 → ℝ) : Prop where
  dnw : ∀ w, (L.l0 : FVec Ideal S1x1x256 .f32) (ix3 0 0 w) = (an w : EReal)
  dyn : ∀ l w, (L.l2 : FVec Ideal S128x256 .f32) (ix2 l w) = (I.dyn l w : EReal)
  y : ∀ l w, (L.l3 : FVec Ideal S128x256 .f32) (ix2 l w) = (I.y l w : EReal)
  bias : ∀ h, (L.l8 : FVec Ideal S1x3x4 .f32) (ix3 0 0 h) = (I.bias h : EReal)
  alog : ∀ h, (L.l8 : FVec Ideal S1x3x4 .f32) (ix3 0 1 h) = (I.alog h : EReal)
  skip : ∀ h, (L.l8 : FVec Ideal S1x3x4 .f32) (ix3 0 2 h) = (I.skip h : EReal)
  x : ∀ l w, (L.l28 : FVec Ideal S128x256 .bf16) (ix2 l w) = (I.x l w : EReal)
  z : ∀ l w, (L.l32 : FVec Ideal S128x256 .bf16) (ix2 l w) = (I.z l w : EReal)
  nw : ∀ w, (L.l59 : FVec Ideal S1x1x256 .f32) (ix3 0 0 w) = (I.nw w : EReal)
  dt : ∀ l h, (L.l98 : FVec Ideal S1x128x4 .f32) (ix3 0 l h) = (I.dt l h : EReal)
  dS : ∀ w n, (L.l177 : FVec Ideal S256x128 .f32) (ix2 w n) = (I.dS w n : EReal)
  C : ∀ l n, (L.l184 : FVec Ideal S128x128 .bf16) (ix2 l n) = (I.C l n : EReal)
  B : ∀ l n, (L.l214 : FVec Ideal S128x128 .bf16) (ix2 l n) = (I.B l n : EReal)
  S0 : ∀ w n, (L.l282 : FVec Ideal S1x1x256x128 .f32) (ix4 0 0 w n) = (I.S0 w n : EReal)
  dp : ∀ r h, (L.l544 : FVec Ideal S1x3x4 .f32) (ix3 0 r h) = (ap r h : EReal)

variable {L : Loads Ideal} {I : In} {an : Fin 256 → ℝ} {ap : Fin 3 → Fin 4 → ℝ} (H : Reads L I an ap)
include H

theorem r26 (w : Fin 256) :
    (t26 L : FVec Ideal S1x256 .f32) (ix2 0 w) = ((I.skip (hd w) : ℝ) : EReal) := by
  pointwise [t26, t7, t9]
  simp only [H.skip, ← cmul, ← cadd, ← csub, ← cneg, ← coe_sum, Ideal.exp_coe, zero_add, univ_unique, sum_singleton, Fin.isValue, default_eq_zero, zero_sub]
  exact spread I.skip w

theorem r31 (l : Fin 128) (w : Fin 256) :
    (t31 L : FVec Ideal S128x256 .f32) (ix2 l w) = ((I.y1 l w : ℝ) : EReal) := by
  pointwise [t31, t30, t27, t29]
  simp only [H.y, H.x, r26 H, ← cmul, ← cadd, ← csub, ← cneg, ← coe_sum, Ideal.exp_coe, zero_add, univ_unique, sum_singleton, Fin.isValue, default_eq_zero, zero_sub]
  all_goals rfl

theorem r39 (l : Fin 128) (w : Fin 256) :
    (t39 L : FVec Ideal S128x256 .f32) (ix2 l w) = ((sg (I.z l w) : ℝ) : EReal) := by
  pointwise [t39, t35, t34, t37, t36, t33]
  simp only [H.z, word_half, Ideal.tanh_coe, ← cmul, ← cadd, ← csub, ← cneg, ← coe_sum, Ideal.exp_coe, zero_add, univ_unique, sum_singleton, Fin.isValue, default_eq_zero, zero_sub]
  rw [← tanh_half]; congr 1; ring

theorem r40 (l : Fin 128) (w : Fin 256) :
    (t40 L : FVec Ideal S128x256 .f32) (ix2 l w) = ((I.sz l w : ℝ) : EReal) := by
  pointwise [t40, t33]
  simp only [H.z, r39 H, ← cmul, ← cadd, ← csub, ← cneg, ← coe_sum, Ideal.exp_coe, zero_add, univ_unique, sum_singleton, Fin.isValue, default_eq_zero, zero_sub]
  all_goals rfl

theorem r41 (l : Fin 128) (w : Fin 256) :
    (t41 L : FVec Ideal S128x256 .f32) (ix2 l w) = ((I.y2 l w : ℝ) : EReal) := by
  pointwise [t41]
  simp only [r31 H, r40 H, ← cmul, ← cadd, ← csub, ← cneg, ← coe_sum, Ideal.exp_coe, zero_add, univ_unique, sum_singleton, Fin.isValue, default_eq_zero, zero_sub]
  all_goals rfl

theorem r47 (l : Fin 128) :
    (t47 L : FVec Ideal S128x1 .f32) (ix2 l 0) = (((∑ w, I.y2 l w * I.y2 l w) / 256 : ℝ) : EReal) := by
  pointwise [t47, t46]
  simp only [word_256, div_256, r41 H, ← cmul, ← cadd, ← csub, ← cneg, ← coe_sum, Ideal.exp_coe, zero_add, univ_unique, sum_singleton, Fin.isValue, default_eq_zero, zero_sub]
  all_goals rfl

theorem r51 (l : Fin 128) :
    (t51 L : FVec Ideal S128x1 .f32) (ix2 l 0) = ((I.r l : ℝ) : EReal) := by
  pointwise [t51]
  simp only [word_eps, r47 H, ← cmul, ← cadd, ← csub, ← cneg, ← coe_sum, Ideal.exp_coe, zero_add, univ_unique, sum_singleton, Fin.isValue, default_eq_zero, zero_sub]
  rw [show (∑ w, I.y2 l w * I.y2 l w) / 256 + eps = I.ms l from rfl, rsqrt_real (I.ms_pos l)]
  rfl

theorem r53 (l : Fin 128) (w : Fin 256) :
    (t53 L : FVec Ideal S128x256 .f32) (ix2 l w) = ((I.y2h l w : ℝ) : EReal) := by
  pointwise [t53, t52]
  simp only [r41 H, r51 H, ← cmul, ← cadd, ← csub, ← cneg, ← coe_sum, Ideal.exp_coe, zero_add, univ_unique, sum_singleton, Fin.isValue, default_eq_zero, zero_sub]
  all_goals rfl

theorem r58 (w : Fin 256) :
    (t58 L : FVec Ideal S1x1x256 .f32) (ix3 0 0 w) = ((an w + I.dnw w : ℝ) : EReal) := by
  pointwise [t58]
  simp only [H.dnw, H.dyn, r53 H, ← cmul, ← cadd, ← csub, ← cneg, ← coe_sum, Ideal.exp_coe, zero_add, univ_unique, sum_singleton, Fin.isValue, default_eq_zero, zero_sub]
  all_goals rfl

theorem r62 (l : Fin 128) (w : Fin 256) :
    (t62 L : FVec Ideal S128x256 .f32) (ix2 l w) = ((I.dyh l w : ℝ) : EReal) := by
  pointwise [t62]
  simp only [H.dyn, H.nw, ← cmul, ← cadd, ← csub, ← cneg, ← coe_sum, Ideal.exp_coe, zero_add, univ_unique, sum_singleton, Fin.isValue, default_eq_zero, zero_sub]
  all_goals rfl

theorem r66 (l : Fin 128) :
    (t66 L : FVec Ideal S128x1 .f32) (ix2 l 0) = ((I.mm l : ℝ) : EReal) := by
  pointwise [t66, t65, t46]
  simp only [word_256, div_256, r62 H, r53 H, ← cmul, ← cadd, ← csub, ← cneg, ← coe_sum, Ideal.exp_coe, zero_add, univ_unique, sum_singleton, Fin.isValue, default_eq_zero, zero_sub]
  all_goals rfl

theorem r70 (l : Fin 128) (w : Fin 256) :
    (t70 L : FVec Ideal S128x256 .f32) (ix2 l w) = ((I.dy2 l w : ℝ) : EReal) := by
  pointwise [t70, t52, t69, t68, t67]
  simp only [r51 H, r62 H, r53 H, r66 H, ← cmul, ← cadd, ← csub, ← cneg, ← coe_sum, Ideal.exp_coe, zero_add, univ_unique, sum_singleton, Fin.isValue, default_eq_zero, zero_sub]
  all_goals rfl

theorem r79 (l : Fin 128) (w : Fin 256) :
    (t79 L : FVec Ideal S128x256 .bf16) (ix2 l w) = ((I.dz l w : ℝ) : EReal) := by
  pointwise [t79, t71, t33]
  simp only [H.z, r70 H, r31 H, r39 H, ← cmul, ← cadd, ← csub, ← cneg, ← coe_sum, Ideal.exp_coe, zero_add, univ_unique, sum_singleton, Fin.isValue, default_eq_zero, zero_sub]
  all_goals rfl

theorem r118 (l : Fin 128) (w : Fin 256) :
    (t118 L : FVec Ideal S128x256 .f32) (ix2 l w) = ((I.dtr l (hd w) : ℝ) : EReal) := by
  pointwise [t118, t109, t97, t91, t102, t99, t100, t9, t116, t112, t115]
  simp only [H.dt, H.bias, ← cmul, ← cadd, ← csub, ← cneg, ← coe_sum, Ideal.exp_coe, zero_add, univ_unique, sum_singleton, Fin.isValue, default_eq_zero, zero_sub]
  exact spread (I.dtr l) w

theorem r124 (l : Fin 128) (w : Fin 256) :
    (t124 L : FVec Ideal S128x256 .f32) (ix2 l w) = ((I.sp l (hd w) : ℝ) : EReal) := by
  pointwise [t124, t119, t87, t80, t121]
  simp only [r118 H, absf_ereal, ← EReal.coe_zero, log1p_exp_real, max_real, ← cmul, ← cadd, ← csub, ← cneg, ← coe_sum, Ideal.exp_coe, zero_add, univ_unique, sum_singleton, Fin.isValue, default_eq_zero, zero_sub]
  rw [softplus_real]
  rfl

theorem r143 (w : Fin 256) :
    (t143 L : FVec Ideal S1x256 .f32) (ix2 0 w) = ((I.A (hd w) : ℝ) : EReal) := by
  pointwise [t143, t135, t7, t129, t128, t80, t9, t142, t138]
  simp only [H.alog, ← cmul, ← cadd, ← csub, ← cneg, ← coe_sum, Ideal.exp_coe, zero_add, univ_unique, sum_singleton, Fin.isValue, default_eq_zero, zero_sub]
  exact spread I.A w

omit H in
theorem nat128 (k : Fin 128) : (BitVec.ofNat 32 (k : ℕ)).toInt = (k : ℕ) := by
  have hk := k.isLt
  have hn : (BitVec.ofNat 32 (k : ℕ)).toNat = k := by rw [BitVec.toNat_ofNat]; omega
  rw [BitVec.toInt_eq_toNat_of_lt (by omega), hn]

omit H in
theorem from_row (l s : Fin 128) (a b : EReal) :
    Scalar.select (IntOp.cmpi .sge (BitVec.ofNat 32 (l : ℕ)) (BitVec.ofNat 32 (s : ℕ))) a b = if s ≤ l then a else b := by
  have h : IntOp.cmpi .sge (BitVec.ofNat 32 (l : ℕ)) (BitVec.ofNat 32 (s : ℕ)) = BitVec.ofBool (decide (s ≤ l)) := by
    simp only [IntOp.cmpi, BitVec.sle_eq_decide, nat128]
    congr 2; simp
  rw [h]
  by_cases hc : s ≤ l <;> simp [hc, Scalar.select]

omit H in
theorem to_row (l s : Fin 128) (a b : EReal) :
    Scalar.select (IntOp.cmpi .sle (BitVec.ofNat 32 (l : ℕ)) (BitVec.ofNat 32 (s : ℕ))) a b = if l ≤ s then a else b := by
  have h : IntOp.cmpi .sle (BitVec.ofNat 32 (l : ℕ)) (BitVec.ofNat 32 (s : ℕ)) = BitVec.ofBool (decide (l ≤ s)) := by
    simp only [IntOp.cmpi, BitVec.sle_eq_decide, nat128]
    congr 2; simp
  rw [h]
  by_cases hc : l ≤ s <;> simp [hc, Scalar.select]

omit H in
theorem ite_coe (p : Prop) [Decidable p] (a b : ℝ) : (if p then (a : EReal) else (b : EReal)) = ((if p then a else b : ℝ) : EReal) := by
  split_ifs <;> rfl

theorem r144 (l : Fin 128) (w : Fin 256) :
    (t144 L : FVec Ideal S128x256 .f32) (ix2 l w) = ((I.A (hd w) : ℝ) : EReal) := by
  pointwise [t144]
  simp only [r143 H, ← cmul, ← cadd, ← csub, ← cneg, ← coe_sum, Ideal.exp_coe, zero_add, univ_unique, sum_singleton, Fin.isValue, default_eq_zero, zero_sub]
  all_goals rfl

omit H in
theorem r95 (l s : Fin 128) :
    (t95 (F := Ideal) : FVec Ideal S128x128 .bf16) (ix2 l s) = ((if s ≤ l then 1 else 0 : ℝ) : EReal) := by
  pointwise [t95, t92, t90, t91, t81, t80]
  simp only [from_row, ← cmul, ← cadd, ← csub, ← cneg, ← coe_sum, Ideal.exp_coe, zero_add, univ_unique, sum_singleton, Fin.isValue, default_eq_zero, zero_sub]
  split_ifs <;> simp

omit H in
theorem r354 (l s : Fin 128) :
    (t354 (F := Ideal) : FVec Ideal S128x128 .bf16) (ix2 l s) = ((if l ≤ s then 1 else 0 : ℝ) : EReal) := by
  pointwise [t354, t90, t91, t81, t80]
  simp only [to_row, ← cmul, ← cadd, ← csub, ← cneg, ← coe_sum, Ideal.exp_coe, zero_add, univ_unique, sum_singleton, Fin.isValue, default_eq_zero, zero_sub]
  split_ifs <;> simp

theorem r146 (l : Fin 128) (w : Fin 256) :
    (t146 L : FVec Ideal S128x256 .bf16) (ix2 l w) = ((I.sp l (hd w) * I.A (hd w) : ℝ) : EReal) := by
  pointwise [t146, t145]
  simp only [r124 H, r144 H, ← cmul, ← cadd, ← csub, ← cneg, ← coe_sum, Ideal.exp_coe, zero_add, univ_unique, sum_singleton, Fin.isValue, default_eq_zero, zero_sub]
  all_goals rfl

theorem r152 (l : Fin 128) (w : Fin 256) :
    (t152 L : FVec Ideal S128x256 .bf16) (ix2 l w) = ((0 : ℝ) : EReal) := by
  pointwise [t152, t151, t145, t150]
  simp only [r124 H, r144 H, r146 H, sub_self, ← cmul, ← cadd, ← csub, ← cneg, ← coe_sum, Ideal.exp_coe, zero_add, univ_unique, sum_singleton, Fin.isValue, default_eq_zero, zero_sub]
  all_goals first | rfl | simp

theorem r157 (l : Fin 128) (w : Fin 256) :
    (t157 L : FVec Ideal S128x256 .bf16) (ix2 l w) = ((0 : ℝ) : EReal) := by
  pointwise [t157, t151, t145, t150]
  simp only [r124 H, r144 H, r146 H, r152 H, sub_self, ← cmul, ← cadd, ← csub, ← cneg, ← coe_sum, Ideal.exp_coe, zero_add, univ_unique, sum_singleton, Fin.isValue, default_eq_zero, zero_sub]
  all_goals first | rfl | simp

theorem r159 (l : Fin 128) (w : Fin 256) :
    (t159 L : FVec Ideal S128x256 .f32) (ix2 l w) = ((I.acum l (hd w) : ℝ) : EReal) := by
  pointwise [t159, t87, t80, t148]
  simp only [r95, r146 H, r152 H, r157 H, ite_mul, one_mul, zero_mul, mul_zero, Finset.sum_const_zero, add_zero, ← cmul, ← cadd, ← csub, ← cneg, ← coe_sum, Ideal.exp_coe, zero_add, univ_unique, sum_singleton, Fin.isValue, default_eq_zero, zero_sub]
  all_goals rfl

omit H in
theorem same_word (a b : ℕ) (ha : a < 2 ^ 32) (hb : b < 2 ^ 32) (x y : EReal) :
    Scalar.select (IntOp.cmpi .eq (BitVec.ofNat 32 a) (BitVec.ofNat 32 b)) x y = if a = b then x else y := by
  have e : IntOp.cmpi .eq (BitVec.ofNat 32 a) (BitVec.ofNat 32 b) = BitVec.ofBool (decide (a = b)) := by
    simp only [IntOp.cmpi, ← BitVec.toNat_inj, BitVec.toNat_ofNat, Nat.mod_eq_of_lt ha, Nat.mod_eq_of_lt hb]
    congr 1
    by_cases h : a = b
    · subst h; simp
    · simp only [h, decide_false]; congr 1; rw [beq_eq_false_iff_ne]; intro hh; apply h
      have := congrArg BitVec.toNat hh
      rwa [BitVec.toNat_ofNat, BitVec.toNat_ofNat, Nat.mod_eq_of_lt ha, Nat.mod_eq_of_lt hb] at this
  rw [e]; by_cases h : a = b <;> simp [h, Scalar.select]

omit H in
theorem r89 (s : Fin 128) (w : Fin 256) :
    (t89 (F := Ideal) : FVec Ideal S128x256 .bf16) (ix2 s w) = ((if w.val = s.val * 64 then 1 else 0 : ℝ) : EReal) := by
  pointwise [t89, t87, t80]
  have hs := s.isLt
  have hw := w.isLt
  rw [show IntOp.muli (BitVec.ofNat 32 (s : ℕ)) 64#32 = BitVec.ofNat 32 (s.val * 64) from (BitVec.ofNat_mul s.val 64).symm,
    same_word _ _ (by omega) (by omega)]
  split_ifs <;> simp

omit H in
theorem r410 (k v : Fin 256) :
    (t410 : IVec S256x256 32) (ix2 k v) = BitVec.ofNat 32 (k.val / 64) := by
  pointwise [t410, t401, t404, t406]
  clear v; revert k; decide +kernel

omit H in
theorem r423 (k v : Fin 256) :
    (t423 : IVec S256x256 32) (ix2 k v) = BitVec.ofNat 32 (v.val / 64) := by
  pointwise [t423, t411]
  clear k; revert v; decide +kernel

omit H in
theorem r428 (k v : Fin 256) :
    (t428 (F := Ideal) : FVec Ideal S256x256 .bf16) (ix2 k v) = ((if hd k = hd v then 1 else 0 : ℝ) : EReal) := by
  pointwise [t428, t80]
  have hk := k.isLt
  have hv := v.isLt
  rw [r410, r423, same_word _ _ (by omega) (by omega)]
  simp only [hd, Fin.mk.injEq]
  split_ifs <;> simp

end Cert.KernelIdeal.Group
-- ==== Proof.Lift2.lean ====
/- One group of a chunk over the real numbers, continued: the decays and the new gradient of the state. -/
module

public import proofs.«01_k».proof.Proof.Lift1

@[expose] public section

set_option maxRecDepth 16384

noncomputable section

namespace Cert.KernelIdeal.Group

open Cert.Ssd Cert.KernelIdeal Cert.KernelIdeal.Gen
open Idealize.ShloMosaic Idealize.SL.Sem
open Finset (univ_unique sum_singleton)
open Fin (default_eq_zero)

variable {L : Loads Ideal} {I : In} {an : Fin 256 → ℝ} {ap : Fin 3 → Fin 4 → ℝ} (H : Reads L I an ap)
include H

omit H in
theorem below128 (k : Fin 128) (a b : EReal) :
    Scalar.select (IntOp.cmpi .slt (BitVec.ofNat 32 (k : ℕ)) 64#32) a b = if k.val < 64 then a else b :=
  below _ (by omega) a b

omit H in
theorem above128 (k : Fin 128) (a b : EReal) :
    Scalar.select (IntOp.xori (IntOp.cmpi .slt (BitVec.ofNat 32 (k : ℕ)) 64#32) 1#1) a b = if k.val < 64 then b else a := by
  rw [slt64 _ (by omega)]; by_cases h : k.val < 64 <;> simp [Scalar.select, h, IntOp.xori]

omit H in
/-- A row of the picking matrix takes the first lane of its head. -/
theorem pick (f : Fin 256 → ℝ) (h : Fin 4) : ∑ w : Fin 256, (if w.val = h.val * 64 then 1 else 0) * f w = f (hp h 0) := by
  rw [Finset.sum_eq_single (hp h 0)]
  · rw [if_pos (by simp [hp]), one_mul]
  · intro w _ hw
    rw [if_neg, zero_mul]
    intro e; apply hw; apply Fin.ext; rw [e]; simp [hp]
  · intro h; exact absurd (Finset.mem_univ _) h

omit H in
theorem exp_masked (c : Prop) [Decidable c] (a : ℝ) : Ideal.exp (if c then (a : EReal) else ⊥) = ((if c then Real.exp a else 0 : ℝ) : EReal) := by
  split_ifs
  · exact Ideal.exp_coe a
  · exact Ideal.exp_bot

/-- The lane `c` of the first half, and of the second. -/
@[reducible] def lo (c : Fin 128) : Fin 256 := ⟨c.val, by omega⟩
@[reducible] def up (c : Fin 128) : Fin 256 := ⟨128 + c.val, by omega⟩

omit H in
theorem split_half (g : Fin 128 → ℝ) : ∑ c, g c = (∑ p : Fin 64, g ⟨p.val, by omega⟩) + ∑ p : Fin 64, g ⟨64 + p.val, by omega⟩ :=
  Fin.sum_univ_add (a := 64) (b := 64) g

omit H in
theorem half_low (f : Fin 128 → ℝ) : ∑ c : Fin 128, (if c.val < 64 then f c else 0) = ∑ p : Fin 64, f ⟨p.val, by omega⟩ := by
  simp [split_half]

omit H in
theorem half_high (f : Fin 128 → ℝ) : ∑ c : Fin 128, (if c.val < 64 then 0 else f c) = ∑ p : Fin 64, f ⟨64 + p.val, by omega⟩ := by
  simp [split_half]

theorem r160 (l : Fin 128) (w : Fin 256) :
    (t160 L : FVec Ideal S128x256 .bf16) (ix2 l w) = ((I.acum l (hd w) : ℝ) : EReal) := by
  pointwise [t160]
  simp only [r159 H, ← cmul, ← cadd, ← csub, ← cneg, ← coe_sum, Ideal.exp_coe, zero_add, univ_unique, sum_singleton, Fin.isValue, default_eq_zero, zero_sub]
  all_goals rfl

theorem r165 (l : Fin 128) (w : Fin 256) :
    (t165 L : FVec Ideal S128x256 .f32) (ix2 l w) = ((0 : ℝ) : EReal) := by
  pointwise [t165]
  simp only [r159 H, r160 H, sub_self, ← cmul, ← cadd, ← csub, ← cneg, ← coe_sum, Ideal.exp_coe, zero_add, univ_unique, sum_singleton, Fin.isValue, default_eq_zero, zero_sub]
  all_goals rfl

theorem r166 (l : Fin 128) (w : Fin 256) :
    (t166 L : FVec Ideal S128x256 .bf16) (ix2 l w) = ((0 : ℝ) : EReal) := by
  pointwise [t166]
  simp only [r165 H, sub_self, ← cmul, ← cadd, ← csub, ← cneg, ← coe_sum, Ideal.exp_coe, zero_add, univ_unique, sum_singleton, Fin.isValue, default_eq_zero, zero_sub]
  all_goals rfl

theorem r171 (l : Fin 128) (w : Fin 256) :
    (t171 L : FVec Ideal S128x256 .bf16) (ix2 l w) = ((0 : ℝ) : EReal) := by
  pointwise [t171, t169]
  simp only [r165 H, r166 H, sub_self, ← cmul, ← cadd, ← csub, ← cneg, ← coe_sum, Ideal.exp_coe, zero_add, univ_unique, sum_singleton, Fin.isValue, default_eq_zero, zero_sub]
  all_goals rfl

theorem r173_0 (l : Fin 128) :
    (t173 L : FVec Ideal S128x128 .f32) (ix2 (0 : Fin 128) l) = ((I.acum l 0 : ℝ) : EReal) := by
  pointwise [t173, t168, t81, t80, t162, t161, t172]
  simp only [r89, r160 H, r166 H, r171 H, r89, mul_zero, zero_mul, Finset.sum_const_zero, add_zero, ← cmul, ← cadd, ← csub, ← cneg, ← coe_sum, Ideal.exp_coe, zero_add, univ_unique, sum_singleton, Fin.isValue, default_eq_zero, zero_sub]
  exact congrArg _ ((pick (fun w => I.acum l (hd w)) 0).trans (by rw [hd_hp]))

theorem r173_1 (l : Fin 128) :
    (t173 L : FVec Ideal S128x128 .f32) (ix2 (1 : Fin 128) l) = ((I.acum l 1 : ℝ) : EReal) := by
  pointwise [t173, t168, t81, t80, t162, t161, t172]
  simp only [r89, r160 H, r166 H, r171 H, r89, mul_zero, zero_mul, Finset.sum_const_zero, add_zero, ← cmul, ← cadd, ← csub, ← cneg, ← coe_sum, Ideal.exp_coe, zero_add, univ_unique, sum_singleton, Fin.isValue, default_eq_zero, zero_sub]
  exact congrArg _ ((pick (fun w => I.acum l (hd w)) 1).trans (by rw [hd_hp]))

theorem r173_2 (l : Fin 128) :
    (t173 L : FVec Ideal S128x128 .f32) (ix2 (2 : Fin 128) l) = ((I.acum l 2 : ℝ) : EReal) := by
  pointwise [t173, t168, t81, t80, t162, t161, t172]
  simp only [r89, r160 H, r166 H, r171 H, r89, mul_zero, zero_mul, Finset.sum_const_zero, add_zero, ← cmul, ← cadd, ← csub, ← cneg, ← coe_sum, Ideal.exp_coe, zero_add, univ_unique, sum_singleton, Fin.isValue, default_eq_zero, zero_sub]
  exact congrArg _ ((pick (fun w => I.acum l (hd w)) 2).trans (by rw [hd_hp]))

theorem r173_3 (l : Fin 128) :
    (t173 L : FVec Ideal S128x128 .f32) (ix2 (3 : Fin 128) l) = ((I.acum l 3 : ℝ) : EReal) := by
  pointwise [t173, t168, t81, t80, t162, t161, t172]
  simp only [r89, r160 H, r166 H, r171 H, r89, mul_zero, zero_mul, Finset.sum_const_zero, add_zero, ← cmul, ← cadd, ← csub, ← cneg, ← coe_sum, Ideal.exp_coe, zero_add, univ_unique, sum_singleton, Fin.isValue, default_eq_zero, zero_sub]
  exact congrArg _ ((pick (fun w => I.acum l (hd w)) 3).trans (by rw [hd_hp]))

theorem r175 :
    (t175 L : FVec Ideal S1x1 .f32) (ix2 0 0) = ((I.ea 0 : ℝ) : EReal) := by
  pointwise [t175]
  simp only [r173_0 H, r173_1 H, r173_2 H, r173_3 H, ← cmul, ← cadd, ← csub, ← cneg, ← coe_sum, Ideal.exp_coe, zero_add, univ_unique, sum_singleton, Fin.isValue, default_eq_zero, zero_sub]
  all_goals rfl

theorem r191 :
    (t191 L : FVec Ideal S1x1 .f32) (ix2 0 0) = ((I.ea 1 : ℝ) : EReal) := by
  pointwise [t191]
  simp only [r173_0 H, r173_1 H, r173_2 H, r173_3 H, ← cmul, ← cadd, ← csub, ← cneg, ← coe_sum, Ideal.exp_coe, zero_add, univ_unique, sum_singleton, Fin.isValue, default_eq_zero, zero_sub]
  all_goals rfl

theorem r199 :
    (t199 L : FVec Ideal S1x1 .f32) (ix2 0 0) = ((I.ea 2 : ℝ) : EReal) := by
  pointwise [t199]
  simp only [r173_0 H, r173_1 H, r173_2 H, r173_3 H, ← cmul, ← cadd, ← csub, ← cneg, ← coe_sum, Ideal.exp_coe, zero_add, univ_unique, sum_singleton, Fin.isValue, default_eq_zero, zero_sub]
  all_goals rfl

theorem r207 :
    (t207 L : FVec Ideal S1x1 .f32) (ix2 0 0) = ((I.ea 3 : ℝ) : EReal) := by
  pointwise [t207]
  simp only [r173_0 H, r173_1 H, r173_2 H, r173_3 H, ← cmul, ← cadd, ← csub, ← cneg, ← coe_sum, Ideal.exp_coe, zero_add, univ_unique, sum_singleton, Fin.isValue, default_eq_zero, zero_sub]
  all_goals rfl

theorem r180 (l : Fin 128) (w : Fin 256) :
    (t180 L : FVec Ideal S128x256 .f32) (ix2 l w) = ((I.dY l w : ℝ) : EReal) := by
  pointwise [t180]
  simp only [r70 H, r40 H, ← cmul, ← cadd, ← csub, ← cneg, ← coe_sum, Ideal.exp_coe, zero_add, univ_unique, sum_singleton, Fin.isValue, default_eq_zero, zero_sub]
  all_goals rfl

theorem r181 (l : Fin 128) (w : Fin 256) :
    (t181 L : FVec Ideal S128x256 .f32) (ix2 l w) = ((I.eac l (hd w) : ℝ) : EReal) := by
  pointwise [t181]
  simp only [r159 H, ← cmul, ← cadd, ← csub, ← cneg, ← coe_sum, Ideal.exp_coe, zero_add, univ_unique, sum_singleton, Fin.isValue, default_eq_zero, zero_sub]
  all_goals rfl

theorem r183 (l : Fin 128) (w : Fin 256) :
    (t183 L : FVec Ideal S128x256 .bf16) (ix2 l w) = ((I.dYe l w : ℝ) : EReal) := by
  pointwise [t183, t182]
  simp only [r180 H, r181 H, ← cmul, ← cadd, ← csub, ← cneg, ← coe_sum, Ideal.exp_coe, zero_add, univ_unique, sum_singleton, Fin.isValue, default_eq_zero, zero_sub]
  all_goals rfl

theorem r186 (w : Fin 256) (n : Fin 128) :
    (t186 L : FVec Ideal S256x128 .f32) (ix2 w n) = ((∑ l, I.dYe l w * I.C l n : ℝ) : EReal) := by
  pointwise [t186]
  simp only [H.C, r183 H, ← cmul, ← cadd, ← csub, ← cneg, ← coe_sum, Ideal.exp_coe, zero_add, univ_unique, sum_singleton, Fin.isValue, default_eq_zero, zero_sub]
  all_goals rfl

theorem r189 (p : Fin 64) (n : Fin 128) :
    (t189 L : FVec Ideal S64x128 .f32) (ix2 p n) = ((I.dSn (hp 0 p) n : ℝ) : EReal) := by
  pointwise [t189, t188, t176, t178]
  simp only [H.dS, r175 H, r186 H, ← cmul, ← cadd, ← csub, ← cneg, ← coe_sum, Ideal.exp_coe, zero_add, univ_unique, sum_singleton, Fin.isValue, default_eq_zero, zero_sub]
  have e : hp 0 p = ⟨p.val, by omega⟩ := Fin.ext (by simp [hp])
  rw [Cert.Ssd.In.dSn, hd_hp, e]

theorem r197 (p : Fin 64) (n : Fin 128) :
    (t197 L : FVec Ideal S64x128 .f32) (ix2 p n) = ((I.dSn (hp 1 p) n : ℝ) : EReal) := by
  pointwise [t197, t196, t192, t193]
  simp only [H.dS, r191 H, r186 H, ← cmul, ← cadd, ← csub, ← cneg, ← coe_sum, Ideal.exp_coe, zero_add, univ_unique, sum_singleton, Fin.isValue, default_eq_zero, zero_sub]
  have e : hp 1 p = ⟨64 + p.val, by omega⟩ := Fin.ext (by simp [hp])
  rw [Cert.Ssd.In.dSn, hd_hp, e]

theorem r205 (p : Fin 64) (n : Fin 128) :
    (t205 L : FVec Ideal S64x128 .f32) (ix2 p n) = ((I.dSn (hp 2 p) n : ℝ) : EReal) := by
  pointwise [t205, t204, t201]
  simp only [H.dS, r199 H, r186 H, ← cmul, ← cadd, ← csub, ← cneg, ← coe_sum, Ideal.exp_coe, zero_add, univ_unique, sum_singleton, Fin.isValue, default_eq_zero, zero_sub]
  have e : hp 2 p = ⟨128 + p.val, by omega⟩ := Fin.ext (by simp [hp])
  rw [Cert.Ssd.In.dSn, hd_hp, e]

theorem r213 (p : Fin 64) (n : Fin 128) :
    (t213 L : FVec Ideal S64x128 .f32) (ix2 p n) = ((I.dSn (hp 3 p) n : ℝ) : EReal) := by
  pointwise [t213, t212]
  simp only [H.dS, r207 H, r186 H, ← cmul, ← cadd, ← csub, ← cneg, ← coe_sum, Ideal.exp_coe, zero_add, univ_unique, sum_singleton, Fin.isValue, default_eq_zero, zero_sub]
  have e : hp 3 p = ⟨192 + p.val, by omega⟩ := Fin.ext (by simp [hp])
  rw [Cert.Ssd.In.dSn, hd_hp, e]

theorem r215 (s l : Fin 128) :
    (t215 L : FVec Ideal S128x128 .f32) (ix2 s l) = ((I.CB l s : ℝ) : EReal) := by
  pointwise [t215, t161]
  simp only [H.B, H.C, ← cmul, ← cadd, ← csub, ← cneg, ← coe_sum, Ideal.exp_coe, zero_add, univ_unique, sum_singleton, Fin.isValue, default_eq_zero, zero_sub]
  exact congrArg _ (Finset.sum_congr rfl fun n _ => mul_comm _ _)

theorem r355 (l s : Fin 128) :
    (t355 L : FVec Ideal S128x128 .f32) (ix2 l s) = ((I.CB l s : ℝ) : EReal) := by
  pointwise [t355, t161]
  simp only [H.B, H.C, ← cmul, ← cadd, ← csub, ← cneg, ← coe_sum, Ideal.exp_coe, zero_add, univ_unique, sum_singleton, Fin.isValue, default_eq_zero, zero_sub]
  all_goals rfl

theorem r222 (l c : Fin 128) :
    (t222 L : FVec Ideal S128x128 .f32) (ix2 l c) = (((I.acum l 0 - I.acum c 0) : ℝ) : EReal) := by
  pointwise [t222, t219, t97, t91, t217, t218]
  simp only [r159 H, r173_0 H, r173_1 H, r173_2 H, r173_3 H, below128, ← cmul, ← cadd, ← csub, ← cneg, ← coe_sum, Ideal.exp_coe, zero_add, univ_unique, sum_singleton, Fin.isValue, default_eq_zero, zero_sub]
  have hc := c.isLt
  split_ifs with h <;> (rw [← csub]; refine congrArg (fun e => ((I.acum l e - I.acum c 0 : ℝ) : EReal)) (Fin.ext ?_); show _ / 64 = 0; simp only []; omega)

theorem r236 (l c : Fin 128) :
    (t236 L : FVec Ideal S128x128 .f32) (ix2 l c) = (((I.acum l 1 - I.acum c 1) : ℝ) : EReal) := by
  pointwise [t236, t97, t91, t218, t217]
  simp only [r159 H, r173_0 H, r173_1 H, r173_2 H, r173_3 H, below128, ← cmul, ← cadd, ← csub, ← cneg, ← coe_sum, Ideal.exp_coe, zero_add, univ_unique, sum_singleton, Fin.isValue, default_eq_zero, zero_sub]
  have hc := c.isLt
  split_ifs with h <;> (rw [← csub]; refine congrArg (fun e => ((I.acum l e - I.acum c 1 : ℝ) : EReal)) (Fin.ext ?_); show _ / 64 = 1; simp only []; omega)

theorem r249 (l c : Fin 128) :
    (t249 L : FVec Ideal S128x128 .f32) (ix2 l c) = (((I.acum l 2 - I.acum c 2) : ℝ) : EReal) := by
  pointwise [t249, t246, t97, t91, t244, t245]
  simp only [r159 H, r173_0 H, r173_1 H, r173_2 H, r173_3 H, below128, ← cmul, ← cadd, ← csub, ← cneg, ← coe_sum, Ideal.exp_coe, zero_add, univ_unique, sum_singleton, Fin.isValue, default_eq_zero, zero_sub]
  have hc := c.isLt
  split_ifs with h <;> (rw [← csub]; refine congrArg (fun e => ((I.acum l e - I.acum c 2 : ℝ) : EReal)) (Fin.ext ?_); show _ / 64 = 2; simp only []; omega)

theorem r261 (l c : Fin 128) :
    (t261 L : FVec Ideal S128x128 .f32) (ix2 l c) = (((I.acum l 3 - I.acum c 3) : ℝ) : EReal) := by
  pointwise [t261, t258, t97, t91, t245, t244]
  simp only [r159 H, r173_0 H, r173_1 H, r173_2 H, r173_3 H, below128, ← cmul, ← cadd, ← csub, ← cneg, ← coe_sum, Ideal.exp_coe, zero_add, univ_unique, sum_singleton, Fin.isValue, default_eq_zero, zero_sub]
  have hc := c.isLt
  split_ifs with h <;> (rw [← csub]; refine congrArg (fun e => ((I.acum l e - I.acum c 3 : ℝ) : EReal)) (Fin.ext ?_); show _ / 64 = 3; simp only []; omega)

theorem r227 (s l : Fin 128) :
    (t227 L : FVec Ideal S128x128 .f32) (ix2 s l) = ((I.dec l s 0 : ℝ) : EReal) := by
  pointwise [t227, t216, t91, t90, t81, t80, t225, t224]
  simp only [r222 H, from_row, neg_sub, word_bot, exp_masked, ← cmul, ← cadd, ← csub, ← cneg, ← coe_sum, Ideal.exp_coe, zero_add, univ_unique, sum_singleton, Fin.isValue, default_eq_zero, zero_sub]
  all_goals rfl

theorem r239 (s l : Fin 128) :
    (t239 L : FVec Ideal S128x128 .f32) (ix2 s l) = ((I.dec l s 1 : ℝ) : EReal) := by
  pointwise [t239, t216, t91, t90, t81, t80, t225, t224]
  simp only [r236 H, from_row, neg_sub, word_bot, exp_masked, ← cmul, ← cadd, ← csub, ← cneg, ← coe_sum, Ideal.exp_coe, zero_add, univ_unique, sum_singleton, Fin.isValue, default_eq_zero, zero_sub]
  all_goals rfl

theorem r252 (s l : Fin 128) :
    (t252 L : FVec Ideal S128x128 .f32) (ix2 s l) = ((I.dec l s 2 : ℝ) : EReal) := by
  pointwise [t252, t216, t91, t90, t81, t80, t225, t224]
  simp only [r249 H, from_row, neg_sub, word_bot, exp_masked, ← cmul, ← cadd, ← csub, ← cneg, ← coe_sum, Ideal.exp_coe, zero_add, univ_unique, sum_singleton, Fin.isValue, default_eq_zero, zero_sub]
  all_goals rfl

theorem r264 (s l : Fin 128) :
    (t264 L : FVec Ideal S128x128 .f32) (ix2 s l) = ((I.dec l s 3 : ℝ) : EReal) := by
  pointwise [t264, t216, t91, t90, t81, t80, t225, t224]
  simp only [r261 H, from_row, neg_sub, word_bot, exp_masked, ← cmul, ← cadd, ← csub, ← cneg, ← coe_sum, Ideal.exp_coe, zero_add, univ_unique, sum_singleton, Fin.isValue, default_eq_zero, zero_sub]
  all_goals rfl

theorem r293 (l s : Fin 128) :
    (t293 L : FVec Ideal S128x128 .f32) (ix2 l s) = ((I.dec l s 0 : ℝ) : EReal) := by
  pointwise [t293, t92, t90, t91, t225, t224]
  simp only [r222 H, from_row, word_bot, exp_masked, ← cmul, ← cadd, ← csub, ← cneg, ← coe_sum, Ideal.exp_coe, zero_add, univ_unique, sum_singleton, Fin.isValue, default_eq_zero, zero_sub]
  all_goals rfl

theorem r302 (l s : Fin 128) :
    (t302 L : FVec Ideal S128x128 .f32) (ix2 l s) = ((I.dec l s 1 : ℝ) : EReal) := by
  pointwise [t302, t92, t90, t91, t225, t224]
  simp only [r236 H, from_row, word_bot, exp_masked, ← cmul, ← cadd, ← csub, ← cneg, ← coe_sum, Ideal.exp_coe, zero_add, univ_unique, sum_singleton, Fin.isValue, default_eq_zero, zero_sub]
  all_goals rfl

theorem r311 (l s : Fin 128) :
    (t311 L : FVec Ideal S128x128 .f32) (ix2 l s) = ((I.dec l s 2 : ℝ) : EReal) := by
  pointwise [t311, t310, t92, t90, t91, t225, t224]
  simp only [r249 H, from_row, word_bot, exp_masked, ← cmul, ← cadd, ← csub, ← cneg, ← coe_sum, Ideal.exp_coe, zero_add, univ_unique, sum_singleton, Fin.isValue, default_eq_zero, zero_sub]
  all_goals rfl

theorem r318 (l s : Fin 128) :
    (t318 L : FVec Ideal S128x128 .f32) (ix2 l s) = ((I.dec l s 3 : ℝ) : EReal) := by
  pointwise [t318, t92, t90, t91, t225, t224]
  simp only [r261 H, from_row, word_bot, exp_masked, ← cmul, ← cadd, ← csub, ← cneg, ← coe_sum, Ideal.exp_coe, zero_add, univ_unique, sum_singleton, Fin.isValue, default_eq_zero, zero_sub]
  all_goals rfl

theorem r230 (l c : Fin 128) :
    (t230 L : FVec Ideal S128x128 .f32) (ix2 l c) = ((I.dY l (lo c) : ℝ) : EReal) := by
  pointwise [t230]
  simp only [r180 H, ← cmul, ← cadd, ← csub, ← cneg, ← coe_sum, Ideal.exp_coe, zero_add, univ_unique, sum_singleton, Fin.isValue, default_eq_zero, zero_sub]
  all_goals rfl

theorem r255 (l c : Fin 128) :
    (t255 L : FVec Ideal S128x128 .f32) (ix2 l c) = ((I.dY l (up c) : ℝ) : EReal) := by
  pointwise [t255]
  simp only [r180 H, ← cmul, ← cadd, ← csub, ← cneg, ← coe_sum, Ideal.exp_coe, zero_add, univ_unique, sum_singleton, Fin.isValue, default_eq_zero, zero_sub]
  all_goals rfl

theorem r243 (s c : Fin 128) :
    (t243 L : FVec Ideal S128x128 .f32) (ix2 s c) = ((∑ l, I.CB l s * I.dec l s (hd (lo c)) * I.dY l (lo c) : ℝ) : EReal) := by
  pointwise [t243, t97, t91, t232, t161, t242]
  simp only [r215 H, r227 H, r230 H, r239 H, below128, ite_coe, ← cmul, ← cadd, ← csub, ← cneg, ← coe_sum, Ideal.exp_coe, zero_add, univ_unique, sum_singleton, Fin.isValue, default_eq_zero, zero_sub]
  have hc := c.isLt
  refine congrArg _ ?_
  split_ifs with h
  · rw [show hd (lo c) = 0 from Fin.ext (by show _ / 64 = 0; simp only []; omega)]
  · rw [show hd (lo c) = 1 from Fin.ext (by show _ / 64 = 1; simp only []; omega)]

theorem r268 (s c : Fin 128) :
    (t268 L : FVec Ideal S128x128 .f32) (ix2 s c) = ((∑ l, I.CB l s * I.dec l s (hd (up c)) * I.dY l (up c) : ℝ) : EReal) := by
  pointwise [t268, t97, t91, t257, t161, t267]
  simp only [r215 H, r252 H, r255 H, r264 H, below128, ite_coe, ← cmul, ← cadd, ← csub, ← cneg, ← coe_sum, Ideal.exp_coe, zero_add, univ_unique, sum_singleton, Fin.isValue, default_eq_zero, zero_sub]
  have hc := c.isLt
  refine congrArg _ ?_
  split_ifs with h
  · rw [show hd (up c) = 2 from Fin.ext (by show _ / 64 = 2; simp only []; omega)]
  · rw [show hd (up c) = 3 from Fin.ext (by show _ / 64 = 3; simp only []; omega)]

theorem r271 (s : Fin 128) (w : Fin 256) :
    (t271 L : FVec Ideal S128x256 .f32) (ix2 s w) = ((I.BdS s w : ℝ) : EReal) := by
  pointwise [t271, t270]
  simp only [H.B, H.dS, ← cmul, ← cadd, ← csub, ← cneg, ← coe_sum, Ideal.exp_coe, zero_add, univ_unique, sum_singleton, Fin.isValue, default_eq_zero, zero_sub]
  all_goals rfl

theorem r275 (l : Fin 128) (w : Fin 256) :
    (t275 L : FVec Ideal S128x256 .f32) (ix2 l w) = ((I.wdec l (hd w) : ℝ) : EReal) := by
  pointwise [t275, t272]
  simp only [r159 H, ← cmul, ← cadd, ← csub, ← cneg, ← coe_sum, Ideal.exp_coe, zero_add, univ_unique, sum_singleton, Fin.isValue, default_eq_zero, zero_sub]
  all_goals rfl

theorem r276 (l : Fin 128) (w : Fin 256) :
    (t276 L : FVec Ideal S128x256 .f32) (ix2 l w) = ((I.dXs l w : ℝ) : EReal) := by
  pointwise [t276]
  simp only [r271 H, r275 H, ← cmul, ← cadd, ← csub, ← cneg, ← coe_sum, Ideal.exp_coe, zero_add, univ_unique, sum_singleton, Fin.isValue, default_eq_zero, zero_sub]
  all_goals rfl

theorem r277 (l : Fin 128) (w : Fin 256) :
    (t277 L : FVec Ideal S128x256 .f32) (ix2 l w) = ((I.dX l w : ℝ) : EReal) := by
  pointwise [t277, t269]
  simp only [r243 H, r268 H, r276 H, ite_coe, ← cmul, ← cadd, ← csub, ← cneg, ← coe_sum, Ideal.exp_coe, zero_add, univ_unique, sum_singleton, Fin.isValue, default_eq_zero, zero_sub]
  split_ifs with h
  · rfl
  all_goals
    have e : up ⟨w.val - 128, by omega⟩ = w := Fin.ext (by simp only []; omega)
    rw [e, ← cadd]; rfl

end Cert.KernelIdeal.Group
-- ==== Proof.Lift3.lean ====
/- One group of a chunk over the real numbers, continued: the other gradients. -/
module

public import proofs.«01_k».proof.Proof.Lift2

@[expose] public section

set_option maxRecDepth 16384

noncomputable section

namespace Cert.KernelIdeal.Group

open Cert.Ssd Cert.KernelIdeal Cert.KernelIdeal.Gen
open Idealize.ShloMosaic Idealize.SL.Sem
open Finset (univ_unique sum_singleton)
open Fin (default_eq_zero)

variable {L : Loads Ideal} {I : In} {an : Fin 256 → ℝ} {ap : Fin 3 → Fin 4 → ℝ} (H : Reads L I an ap)
include H

omit H in
theorem ite_zero' (p : Prop) [Decidable p] (a : ℝ) : (if p then (a : EReal) else 0) = ((if p then a else 0 : ℝ) : EReal) := by
  split_ifs <;> rfl

omit H in
theorem zero_ite' (p : Prop) [Decidable p] (a : ℝ) : (if p then (0 : EReal) else (a : EReal)) = ((if p then 0 else a : ℝ) : EReal) := by
  split_ifs <;> rfl

omit H in
theorem last_row (l : Fin 128) (a b : EReal) :
    Scalar.select (IntOp.cmpi .eq (BitVec.ofNat 32 (l : ℕ)) 127#32) a b = if l = 127 then a else b := by
  rw [show (127#32 : BitVec 32) = BitVec.ofNat 32 127 from rfl, same_word _ _ (by omega) (by omega)]
  refine if_congr ⟨fun e => Fin.ext e, fun e => by rw [e]; rfl⟩ rfl rfl

omit H in
/-- The sum of a row over the lanes of one head. -/
theorem head_sum (f : Fin 256 → ℝ) (h : Fin 4) : ∑ k, f k * (if hd k = h then 1 else 0) = ∑ p, f (hp h p) := by
  rw [sum_lanes]
  simp only [hd_hp, mul_ite, mul_one, mul_zero]
  rw [Finset.sum_eq_single h]
  · simp
  · intro b _ hb; simp [hb]
  · intro hh; exact absurd (Finset.mem_univ _) hh

omit H in
theorem pair0 (a b : Fin 256 → ℝ) : ∑ c : Fin 128, (if c.val < 64 then a (lo c) * b (lo c) else 0) = ∑ p, a (hp 0 p) * b (hp 0 p) := by
  rw [half_low (fun c => a (lo c) * b (lo c))]
  refine Finset.sum_congr rfl fun p _ => ?_
  have e : lo ⟨p.val, by omega⟩ = hp 0 p := Fin.ext (by simp [hp])
  rw [e]

omit H in
theorem pair1 (a b : Fin 256 → ℝ) : ∑ c : Fin 128, (if c.val < 64 then 0 else a (lo c) * b (lo c)) = ∑ p, a (hp 1 p) * b (hp 1 p) := by
  rw [half_high (fun c => a (lo c) * b (lo c))]
  refine Finset.sum_congr rfl fun p _ => ?_
  have e : lo ⟨64 + p.val, by omega⟩ = hp 1 p := Fin.ext (by simp [hp])
  rw [e]

omit H in
theorem pair2 (a b : Fin 256 → ℝ) : ∑ c : Fin 128, (if c.val < 64 then a (up c) * b (up c) else 0) = ∑ p, a (hp 2 p) * b (hp 2 p) := by
  rw [half_low (fun c => a (up c) * b (up c))]
  refine Finset.sum_congr rfl fun p _ => ?_
  have e : up ⟨p.val, by omega⟩ = hp 2 p := Fin.ext (by simp [hp])
  rw [e]

omit H in
theorem pair3 (a b : Fin 256 → ℝ) : ∑ c : Fin 128, (if c.val < 64 then 0 else a (up c) * b (up c)) = ∑ p, a (hp 3 p) * b (hp 3 p) := by
  rw [half_high (fun c => a (up c) * b (up c))]
  refine Finset.sum_congr rfl fun p _ => ?_
  have e : up ⟨64 + p.val, by omega⟩ = hp 3 p := Fin.ext (by simp [hp]; omega)
  rw [e]

theorem r288 (l : Fin 128) (w : Fin 256) :
    (t288 L : FVec Ideal S128x256 .f32) (ix2 l w) = ((I.X l w : ℝ) : EReal) := by
  pointwise [t288, t29]
  simp only [H.x, r124 H, ← cmul, ← cadd, ← csub, ← cneg, ← coe_sum, Ideal.exp_coe, zero_add, univ_unique, sum_singleton, Fin.isValue, default_eq_zero, zero_sub]
  all_goals rfl

theorem r281 (l : Fin 128) (w : Fin 256) :
    (t281 L : FVec Ideal S128x256 .bf16) (ix2 l w) = ((I.dx l w : ℝ) : EReal) := by
  pointwise [t281, t278, t279, t27]
  simp only [r277 H, r124 H, r26 H, r180 H, ← cmul, ← cadd, ← csub, ← cneg, ← coe_sum, Ideal.exp_coe, zero_add, univ_unique, sum_singleton, Fin.isValue, default_eq_zero, zero_sub]
  all_goals rfl

theorem r291 (l s : Fin 128) :
    (t291 L : FVec Ideal S128x128 .f32) (ix2 l s) = ((I.G l s 0 : ℝ) : EReal) := by
  pointwise [t291, t287, t286, t97, t91, t81, t80, t290, t289, t161]
  simp only [r230 H, r288 H, below128, above128, ite_zero', zero_ite', ← cmul, ← cadd, ← csub, ← cneg, ← coe_sum, Ideal.exp_coe, zero_add, univ_unique, sum_singleton, Fin.isValue, default_eq_zero, zero_sub]
  exact congrArg _ (pair0 (I.dY l) (I.X s))

theorem r300 (l s : Fin 128) :
    (t300 L : FVec Ideal S128x128 .f32) (ix2 l s) = ((I.G l s 1 : ℝ) : EReal) := by
  pointwise [t300, t299, t297, t97, t91, t296, t81, t80, t290, t289, t161]
  simp only [r230 H, r288 H, below128, above128, ite_zero', zero_ite', ← cmul, ← cadd, ← csub, ← cneg, ← coe_sum, Ideal.exp_coe, zero_add, univ_unique, sum_singleton, Fin.isValue, default_eq_zero, zero_sub]
  exact congrArg _ (pair1 (I.dY l) (I.X s))

theorem r309 (l s : Fin 128) :
    (t309 L : FVec Ideal S128x128 .f32) (ix2 l s) = ((I.G l s 2 : ℝ) : EReal) := by
  pointwise [t309, t306, t97, t91, t81, t80, t308, t307, t161]
  simp only [r255 H, r288 H, below128, above128, ite_zero', zero_ite', ← cmul, ← cadd, ← csub, ← cneg, ← coe_sum, Ideal.exp_coe, zero_add, univ_unique, sum_singleton, Fin.isValue, default_eq_zero, zero_sub]
  exact congrArg _ (pair2 (I.dY l) (I.X s))

theorem r316 (l s : Fin 128) :
    (t316 L : FVec Ideal S128x128 .f32) (ix2 l s) = ((I.G l s 3 : ℝ) : EReal) := by
  pointwise [t316, t315, t314, t297, t97, t91, t296, t81, t80, t308, t307, t161]
  simp only [r255 H, r288 H, below128, above128, ite_zero', zero_ite', ← cmul, ← cadd, ← csub, ← cneg, ← coe_sum, Ideal.exp_coe, zero_add, univ_unique, sum_singleton, Fin.isValue, default_eq_zero, zero_sub]
  exact congrArg _ (pair3 (I.dY l) (I.X s))

theorem r294 (l s : Fin 128) :
    (t294 L : FVec Ideal S128x128 .f32) (ix2 l s) = ((I.gd l s 0 : ℝ) : EReal) := by
  pointwise [t294]
  simp only [r291 H, r293 H, ← cmul, ← cadd, ← csub, ← cneg, ← coe_sum, Ideal.exp_coe, zero_add, univ_unique, sum_singleton, Fin.isValue, default_eq_zero, zero_sub]
  all_goals rfl

theorem r303 (l s : Fin 128) :
    (t303 L : FVec Ideal S128x128 .f32) (ix2 l s) = ((I.gd l s 1 : ℝ) : EReal) := by
  pointwise [t303]
  simp only [r300 H, r302 H, ← cmul, ← cadd, ← csub, ← cneg, ← coe_sum, Ideal.exp_coe, zero_add, univ_unique, sum_singleton, Fin.isValue, default_eq_zero, zero_sub]
  all_goals rfl

theorem r312 (l s : Fin 128) :
    (t312 L : FVec Ideal S128x128 .f32) (ix2 l s) = ((I.gd l s 2 : ℝ) : EReal) := by
  pointwise [t312]
  simp only [r309 H, r311 H, ← cmul, ← cadd, ← csub, ← cneg, ← coe_sum, Ideal.exp_coe, zero_add, univ_unique, sum_singleton, Fin.isValue, default_eq_zero, zero_sub]
  all_goals rfl

theorem r319 (l s : Fin 128) :
    (t319 L : FVec Ideal S128x128 .f32) (ix2 l s) = ((I.gd l s 3 : ℝ) : EReal) := by
  pointwise [t319]
  simp only [r316 H, r318 H, ← cmul, ← cadd, ← csub, ← cneg, ← coe_sum, Ideal.exp_coe, zero_add, univ_unique, sum_singleton, Fin.isValue, default_eq_zero, zero_sub]
  all_goals rfl

theorem r320 (l s : Fin 128) :
    (t320 L : FVec Ideal S128x128 .f32) (ix2 l s) = ((I.dCB l s : ℝ) : EReal) := by
  pointwise [t320, t313, t304, t295, t81, t80]
  simp only [r294 H, r303 H, r312 H, r319 H, ← cmul, ← cadd, ← csub, ← cneg, ← coe_sum, Ideal.exp_coe, zero_add, univ_unique, sum_singleton, Fin.isValue, default_eq_zero, zero_sub]
  rw [Cert.Ssd.In.dCB, Fin.sum_univ_four]

theorem r324 (l n : Fin 128) :
    (t324 L : FVec Ideal S128x128 .bf16) (ix2 l n) = ((I.dC l n : ℝ) : EReal) := by
  pointwise [t324, t285, t284, t283, t161, t322, t321]
  simp only [H.S0, H.B, r183 H, r320 H, ← cmul, ← cadd, ← csub, ← cneg, ← coe_sum, Ideal.exp_coe, zero_add, univ_unique, sum_singleton, Fin.isValue, default_eq_zero, zero_sub]
  all_goals rfl

theorem r330 (s l : Fin 128) :
    (t330 L : FVec Ideal S128x128 .f32) (ix2 s l) = ((I.G l s 0 : ℝ) : EReal) := by
  pointwise [t330, t329, t97, t91, t289, t81, t80, t161]
  simp only [r288 H, r230 H, below128, above128, ite_zero', zero_ite', ← cmul, ← cadd, ← csub, ← cneg, ← coe_sum, Ideal.exp_coe, zero_add, univ_unique, sum_singleton, Fin.isValue, default_eq_zero, zero_sub]
  exact congrArg _ ((pair0 (I.X s) (I.dY l)).trans (Finset.sum_congr rfl fun p _ => mul_comm _ _))

theorem r335 (s l : Fin 128) :
    (t335 L : FVec Ideal S128x128 .f32) (ix2 s l) = ((I.G l s 1 : ℝ) : EReal) := by
  pointwise [t335, t334, t297, t97, t91, t296, t289, t81, t80, t161]
  simp only [r288 H, r230 H, below128, above128, ite_zero', zero_ite', ← cmul, ← cadd, ← csub, ← cneg, ← coe_sum, Ideal.exp_coe, zero_add, univ_unique, sum_singleton, Fin.isValue, default_eq_zero, zero_sub]
  exact congrArg _ ((pair1 (I.X s) (I.dY l)).trans (Finset.sum_congr rfl fun p _ => mul_comm _ _))

theorem r340 (s l : Fin 128) :
    (t340 L : FVec Ideal S128x128 .f32) (ix2 s l) = ((I.G l s 2 : ℝ) : EReal) := by
  pointwise [t340, t339, t97, t91, t307, t81, t80, t161]
  simp only [r288 H, r255 H, below128, above128, ite_zero', zero_ite', ← cmul, ← cadd, ← csub, ← cneg, ← coe_sum, Ideal.exp_coe, zero_add, univ_unique, sum_singleton, Fin.isValue, default_eq_zero, zero_sub]
  exact congrArg _ ((pair2 (I.X s) (I.dY l)).trans (Finset.sum_congr rfl fun p _ => mul_comm _ _))

theorem r345 (s l : Fin 128) :
    (t345 L : FVec Ideal S128x128 .f32) (ix2 s l) = ((I.G l s 3 : ℝ) : EReal) := by
  pointwise [t345, t344, t297, t97, t91, t296, t307, t81, t80, t161]
  simp only [r288 H, r255 H, below128, above128, ite_zero', zero_ite', ← cmul, ← cadd, ← csub, ← cneg, ← coe_sum, Ideal.exp_coe, zero_add, univ_unique, sum_singleton, Fin.isValue, default_eq_zero, zero_sub]
  exact congrArg _ ((pair3 (I.X s) (I.dY l)).trans (Finset.sum_congr rfl fun p _ => mul_comm _ _))

theorem r331 (s l : Fin 128) :
    (t331 L : FVec Ideal S128x128 .f32) (ix2 s l) = ((I.gd l s 0 : ℝ) : EReal) := by
  pointwise [t331]
  simp only [r330 H, r227 H, ← cmul, ← cadd, ← csub, ← cneg, ← coe_sum, Ideal.exp_coe, zero_add, univ_unique, sum_singleton, Fin.isValue, default_eq_zero, zero_sub]
  all_goals rfl

theorem r336 (s l : Fin 128) :
    (t336 L : FVec Ideal S128x128 .f32) (ix2 s l) = ((I.gd l s 1 : ℝ) : EReal) := by
  pointwise [t336]
  simp only [r335 H, r239 H, ← cmul, ← cadd, ← csub, ← cneg, ← coe_sum, Ideal.exp_coe, zero_add, univ_unique, sum_singleton, Fin.isValue, default_eq_zero, zero_sub]
  all_goals rfl

theorem r341 (s l : Fin 128) :
    (t341 L : FVec Ideal S128x128 .f32) (ix2 s l) = ((I.gd l s 2 : ℝ) : EReal) := by
  pointwise [t341]
  simp only [r340 H, r252 H, ← cmul, ← cadd, ← csub, ← cneg, ← coe_sum, Ideal.exp_coe, zero_add, univ_unique, sum_singleton, Fin.isValue, default_eq_zero, zero_sub]
  all_goals rfl

theorem r346 (s l : Fin 128) :
    (t346 L : FVec Ideal S128x128 .f32) (ix2 s l) = ((I.gd l s 3 : ℝ) : EReal) := by
  pointwise [t346]
  simp only [r345 H, r264 H, ← cmul, ← cadd, ← csub, ← cneg, ← coe_sum, Ideal.exp_coe, zero_add, univ_unique, sum_singleton, Fin.isValue, default_eq_zero, zero_sub]
  all_goals rfl

theorem r347 (s l : Fin 128) :
    (t347 L : FVec Ideal S128x128 .f32) (ix2 s l) = ((I.dCB l s : ℝ) : EReal) := by
  pointwise [t347, t342, t337, t332, t81, t80]
  simp only [r331 H, r336 H, r341 H, r346 H, ← cmul, ← cadd, ← csub, ← cneg, ← coe_sum, Ideal.exp_coe, zero_add, univ_unique, sum_singleton, Fin.isValue, default_eq_zero, zero_sub]
  rw [Cert.Ssd.In.dCB, Fin.sum_univ_four]

theorem r351 (s n : Fin 128) :
    (t351 L : FVec Ideal S128x128 .bf16) (ix2 s n) = ((I.dB s n : ℝ) : EReal) := by
  pointwise [t351, t327, t326, t270, t161, t349, t348]
  simp only [H.C, H.dS, r288 H, r275 H, r347 H, ← cmul, ← cadd, ← csub, ← cneg, ← coe_sum, Ideal.exp_coe, zero_add, univ_unique, sum_singleton, Fin.isValue, default_eq_zero, zero_sub]
  all_goals rfl

theorem r362 (l c : Fin 128) :
    (t362 L : FVec Ideal S128x128 .f32) (ix2 l c) = ((I.q l 0 : ℝ) : EReal) := by
  pointwise [t362, t356, t361, t161]
  simp only [r355 H, r294 H, r215 H, r331 H, mul_one, ← cmul, ← cadd, ← csub, ← cneg, ← coe_sum, Ideal.exp_coe, zero_add, univ_unique, sum_singleton, Fin.isValue, default_eq_zero, zero_sub]
  all_goals rfl

theorem r367 (l c : Fin 128) :
    (t367 L : FVec Ideal S128x128 .f32) (ix2 l c) = ((I.q l 1 : ℝ) : EReal) := by
  pointwise [t367, t361, t161]
  simp only [r355 H, r303 H, r215 H, r336 H, mul_one, ← cmul, ← cadd, ← csub, ← cneg, ← coe_sum, Ideal.exp_coe, zero_add, univ_unique, sum_singleton, Fin.isValue, default_eq_zero, zero_sub]
  all_goals rfl

theorem r373 (l c : Fin 128) :
    (t373 L : FVec Ideal S128x128 .f32) (ix2 l c) = ((I.q l 2 : ℝ) : EReal) := by
  pointwise [t373, t361, t161]
  simp only [r355 H, r312 H, r215 H, r341 H, mul_one, ← cmul, ← cadd, ← csub, ← cneg, ← coe_sum, Ideal.exp_coe, zero_add, univ_unique, sum_singleton, Fin.isValue, default_eq_zero, zero_sub]
  all_goals rfl

theorem r378 (l c : Fin 128) :
    (t378 L : FVec Ideal S128x128 .f32) (ix2 l c) = ((I.q l 3 : ℝ) : EReal) := by
  pointwise [t378, t361, t161]
  simp only [r355 H, r319 H, r215 H, r346 H, mul_one, ← cmul, ← cadd, ← csub, ← cneg, ← coe_sum, Ideal.exp_coe, zero_add, univ_unique, sum_singleton, Fin.isValue, default_eq_zero, zero_sub]
  all_goals rfl

theorem r380 (l : Fin 128) (w : Fin 256) :
    (t380 L : FVec Ideal S128x256 .f32) (ix2 l w) = ((I.q l (hd w) : ℝ) : EReal) := by
  pointwise [t380, t97, t91]
  simp only [r362 H, r367 H, r373 H, r378 H, below128, ite_coe, ← cmul, ← cadd, ← csub, ← cneg, ← coe_sum, Ideal.exp_coe, zero_add, univ_unique, sum_singleton, Fin.isValue, default_eq_zero, zero_sub]
  have hw := w.isLt
  split_ifs with h
  · rw [below _ (by omega)]
    split_ifs with h2
    · rw [show hd w = 0 from Fin.ext (by show _ / 64 = 0; omega)]
    · rw [show hd w = 1 from Fin.ext (by show _ / 64 = 1; omega)]
  · rw [below _ (by omega)]
    split_ifs with h2
    · rw [show hd w = 2 from Fin.ext (by show _ / 64 = 2; omega)]
    · rw [show hd w = 3 from Fin.ext (by show _ / 64 = 3; omega)]

theorem r381 (l : Fin 128) (w : Fin 256) :
    (t381 L : FVec Ideal S128x256 .f32) (ix2 l w) = ((I.CS l w : ℝ) : EReal) := by
  pointwise [t381, t284, t283]
  simp only [H.C, H.S0, ← cmul, ← cadd, ← csub, ← cneg, ← coe_sum, Ideal.exp_coe, zero_add, univ_unique, sum_singleton, Fin.isValue, default_eq_zero, zero_sub]
  all_goals rfl

theorem r384 (l : Fin 128) (w : Fin 256) :
    (t384 L : FVec Ideal S128x256 .f32) (ix2 l w) = (((I.X l w * I.dXs l w) : ℝ) : EReal) := by
  pointwise [t384]
  simp only [r288 H, r276 H, ← cmul, ← cadd, ← csub, ← cneg, ← coe_sum, Ideal.exp_coe, zero_add, univ_unique, sum_singleton, Fin.isValue, default_eq_zero, zero_sub]
  all_goals rfl

theorem r385 (l : Fin 128) (w : Fin 256) :
    (t385 L : FVec Ideal S128x256 .f32) (ix2 l w) = (((I.dY l w * (I.CS l w * I.eac l (hd w)) - I.X l w * I.dXs l w) : ℝ) : EReal) := by
  pointwise [t385]
  simp only [r180 H, r381 H, r181 H, r384 H, ← cmul, ← cadd, ← csub, ← cneg, ← coe_sum, Ideal.exp_coe, zero_add, univ_unique, sum_singleton, Fin.isValue, default_eq_zero, zero_sub]
  all_goals rfl

theorem r386 (l : Fin 128) (w : Fin 256) :
    (t386 L : FVec Ideal S128x256 .bf16) (ix2 l w) = (((I.dY l w * (I.CS l w * I.eac l (hd w)) - I.X l w * I.dXs l w) : ℝ) : EReal) := by
  pointwise [t386]
  simp only [r385 H, ← cmul, ← cadd, ← csub, ← cneg, ← coe_sum, Ideal.exp_coe, zero_add, univ_unique, sum_singleton, Fin.isValue, default_eq_zero, zero_sub]
  all_goals rfl

theorem r432 (l : Fin 128) (w : Fin 256) :
    (t432 L : FVec Ideal S128x256 .f32) (ix2 l w) = ((0 : ℝ) : EReal) := by
  pointwise [t432]
  simp only [r385 H, r386 H, sub_self, ← cmul, ← cadd, ← csub, ← cneg, ← coe_sum, Ideal.exp_coe, zero_add, univ_unique, sum_singleton, Fin.isValue, default_eq_zero, zero_sub]
  all_goals rfl

theorem r433 (l : Fin 128) (w : Fin 256) :
    (t433 L : FVec Ideal S128x256 .bf16) (ix2 l w) = ((0 : ℝ) : EReal) := by
  pointwise [t433]
  simp only [r432 H, ← cmul, ← cadd, ← csub, ← cneg, ← coe_sum, Ideal.exp_coe, zero_add, univ_unique, sum_singleton, Fin.isValue, default_eq_zero, zero_sub]
  all_goals rfl

theorem r435 (l : Fin 128) (w : Fin 256) :
    (t435 L : FVec Ideal S128x256 .f32) (ix2 l w) = ((∑ p, (I.dY l (hp (hd w) p) * (I.CS l (hp (hd w) p) * I.eac l (hd w)) - I.X l (hp (hd w) p) * I.dXs l (hp (hd w) p)) : ℝ) : EReal) := by
  pointwise [t435, t87, t80, t429]
  simp only [r386 H, r428, r433 H, zero_mul, Finset.sum_const_zero, add_zero, ← cmul, ← cadd, ← csub, ← cneg, ← coe_sum, Ideal.exp_coe, zero_add, univ_unique, sum_singleton, Fin.isValue, default_eq_zero, zero_sub]
  rw [head_sum]
  simp only [hd_hp]

theorem r445 (w : Fin 256) :
    (t445 L : FVec Ideal S1x256 .f32) (ix2 0 w) = ((∑ l, I.X l w * I.dXs l w : ℝ) : EReal) := by
  pointwise [t445]
  simp only [r384 H, ← cmul, ← cadd, ← csub, ← cneg, ← coe_sum, Ideal.exp_coe, zero_add, univ_unique, sum_singleton, Fin.isValue, default_eq_zero, zero_sub]
  all_goals rfl

theorem r448 (k : Fin 8) (w : Fin 256) :
    (t448 L : FVec Ideal S8x256 .bf16) (ix2 k w) = ((∑ l, I.X l w * I.dXs l w : ℝ) : EReal) := by
  pointwise [t448, t447]
  simp only [r445 H, ← cmul, ← cadd, ← csub, ← cneg, ← coe_sum, Ideal.exp_coe, zero_add, univ_unique, sum_singleton, Fin.isValue, default_eq_zero, zero_sub]
  all_goals rfl

theorem r453 (k : Fin 8) (w : Fin 256) :
    (t453 L : FVec Ideal S8x256 .f32) (ix2 k w) = ((0 : ℝ) : EReal) := by
  pointwise [t453, t447]
  simp only [r445 H, r448 H, sub_self, ← cmul, ← cadd, ← csub, ← cneg, ← coe_sum, Ideal.exp_coe, zero_add, univ_unique, sum_singleton, Fin.isValue, default_eq_zero, zero_sub]
  all_goals rfl

theorem r454 (k : Fin 8) (w : Fin 256) :
    (t454 L : FVec Ideal S8x256 .bf16) (ix2 k w) = ((0 : ℝ) : EReal) := by
  pointwise [t454]
  simp only [r453 H, ← cmul, ← cadd, ← csub, ← cneg, ← coe_sum, Ideal.exp_coe, zero_add, univ_unique, sum_singleton, Fin.isValue, default_eq_zero, zero_sub]
  all_goals rfl

theorem r456 (k : Fin 8) (w : Fin 256) :
    (t456 L : FVec Ideal S8x256 .f32) (ix2 k w) = ((∑ p, ∑ l, I.X l (hp (hd w) p) * I.dXs l (hp (hd w) p) : ℝ) : EReal) := by
  pointwise [t456, t451, t80]
  simp only [r448 H, r428, r454 H, zero_mul, Finset.sum_const_zero, add_zero, ← cmul, ← cadd, ← csub, ← cneg, ← coe_sum, Ideal.exp_coe, zero_add, univ_unique, sum_singleton, Fin.isValue, default_eq_zero, zero_sub]
  rw [head_sum (fun k => ∑ l, I.X l k * I.dXs l k)]

theorem r464 :
    (t464 L : FVec Ideal S1x1 .f32) (ix2 0 0) = ((((∑ n, ∑ p, I.dS (hp 0 p) n * I.S0 (hp 0 p) n) * I.ea 0) : ℝ) : EReal) := by
  pointwise [t464, t459, t178, t283]
  simp only [H.dS, H.S0, r175 H, ← cmul, ← cadd, ← csub, ← cneg, ← coe_sum, Ideal.exp_coe, zero_add, univ_unique, sum_singleton, Fin.isValue, default_eq_zero, zero_sub]
  have e : ∀ p : Fin 64, hp 0 p = ⟨p.val, by omega⟩ := fun p => Fin.ext (by simp [hp])
  simp only [e]

theorem r471 :
    (t471 L : FVec Ideal S1x1 .f32) (ix2 0 0) = ((((∑ n, ∑ p, I.dS (hp 1 p) n * I.S0 (hp 1 p) n) * I.ea 1) : ℝ) : EReal) := by
  pointwise [t471, t467, t193, t283]
  simp only [H.dS, H.S0, r191 H, ← cmul, ← cadd, ← csub, ← cneg, ← coe_sum, Ideal.exp_coe, zero_add, univ_unique, sum_singleton, Fin.isValue, default_eq_zero, zero_sub]
  have e : ∀ p : Fin 64, hp 1 p = ⟨64 + p.val, by omega⟩ := fun p => Fin.ext (by simp [hp])
  simp only [e]

theorem r478 :
    (t478 L : FVec Ideal S1x1 .f32) (ix2 0 0) = ((((∑ n, ∑ p, I.dS (hp 2 p) n * I.S0 (hp 2 p) n) * I.ea 2) : ℝ) : EReal) := by
  pointwise [t478, t475, t201, t283]
  simp only [H.dS, H.S0, r199 H, ← cmul, ← cadd, ← csub, ← cneg, ← coe_sum, Ideal.exp_coe, zero_add, univ_unique, sum_singleton, Fin.isValue, default_eq_zero, zero_sub]
  have e : ∀ p : Fin 64, hp 2 p = ⟨128 + p.val, by omega⟩ := fun p => Fin.ext (by simp [hp])
  simp only [e]

theorem r485 :
    (t485 L : FVec Ideal S1x1 .f32) (ix2 0 0) = ((((∑ n, ∑ p, I.dS (hp 3 p) n * I.S0 (hp 3 p) n) * I.ea 3) : ℝ) : EReal) := by
  pointwise [t485, t482, t283]
  simp only [H.dS, H.S0, r207 H, ← cmul, ← cadd, ← csub, ← cneg, ← coe_sum, Ideal.exp_coe, zero_add, univ_unique, sum_singleton, Fin.isValue, default_eq_zero, zero_sub]
  have e : ∀ p : Fin 64, hp 3 p = ⟨192 + p.val, by omega⟩ := fun p => Fin.ext (by simp [hp])
  simp only [e]

theorem r487_0 :
    (t487 L : FVec Ideal S1x4 .f32) (ix2 0 0) = ((((∑ n, ∑ p, I.dS (hp 0 p) n * I.S0 (hp 0 p) n) * I.ea 0) : ℝ) : EReal) := by
  pointwise [t487]
  simp only [r464 H, r471 H, r478 H, r485 H, ← cmul, ← cadd, ← csub, ← cneg, ← coe_sum, Ideal.exp_coe, zero_add, univ_unique, sum_singleton, Fin.isValue, default_eq_zero, zero_sub]
  all_goals rfl

theorem r487_1 :
    (t487 L : FVec Ideal S1x4 .f32) (ix2 0 1) = ((((∑ n, ∑ p, I.dS (hp 1 p) n * I.S0 (hp 1 p) n) * I.ea 1) : ℝ) : EReal) := by
  pointwise [t487]
  simp only [r464 H, r471 H, r478 H, r485 H, ← cmul, ← cadd, ← csub, ← cneg, ← coe_sum, Ideal.exp_coe, zero_add, univ_unique, sum_singleton, Fin.isValue, default_eq_zero, zero_sub]
  all_goals rfl

theorem r487_2 :
    (t487 L : FVec Ideal S1x4 .f32) (ix2 0 2) = ((((∑ n, ∑ p, I.dS (hp 2 p) n * I.S0 (hp 2 p) n) * I.ea 2) : ℝ) : EReal) := by
  pointwise [t487]
  simp only [r464 H, r471 H, r478 H, r485 H, ← cmul, ← cadd, ← csub, ← cneg, ← coe_sum, Ideal.exp_coe, zero_add, univ_unique, sum_singleton, Fin.isValue, default_eq_zero, zero_sub]
  all_goals rfl

theorem r487_3 :
    (t487 L : FVec Ideal S1x4 .f32) (ix2 0 3) = ((((∑ n, ∑ p, I.dS (hp 3 p) n * I.S0 (hp 3 p) n) * I.ea 3) : ℝ) : EReal) := by
  pointwise [t487]
  simp only [r464 H, r471 H, r478 H, r485 H, ← cmul, ← cadd, ← csub, ← cneg, ← coe_sum, Ideal.exp_coe, zero_add, univ_unique, sum_singleton, Fin.isValue, default_eq_zero, zero_sub]
  all_goals rfl

theorem r502 (w : Fin 256) :
    (t502 L : FVec Ideal S1x256 .f32) (ix2 0 w) = ((((∑ n, ∑ p, I.dS (hp (hd w) p) n * I.S0 (hp (hd w) p) n) * I.ea (hd w)) : ℝ) : EReal) := by
  pointwise [t502, t494, t7, t501]
  simp only [r487_0 H, r487_1 H, r487_2 H, r487_3 H, below128, ite_coe, ← cmul, ← cadd, ← csub, ← cneg, ← coe_sum, Ideal.exp_coe, zero_add, univ_unique, sum_singleton, Fin.isValue, default_eq_zero, zero_sub]
  have hw := w.isLt
  split_ifs with h
  · rw [below _ (by omega)]
    split_ifs with h2
    · rw [show hd w = 0 from Fin.ext (by show _ / 64 = 0; omega)]
    · rw [show hd w = 1 from Fin.ext (by show _ / 64 = 1; omega)]
  · rw [below _ (by omega)]
    split_ifs with h2
    · rw [show hd w = 2 from Fin.ext (by show _ / 64 = 2; omega)]
    · rw [show hd w = 3 from Fin.ext (by show _ / 64 = 3; omega)]

theorem r503 (w : Fin 256) :
    (t503 L : FVec Ideal S1x256 .f32) (ix2 0 w) = ((I.tot (hd w) : ℝ) : EReal) := by
  pointwise [t503, t457]
  simp only [r456 H, r502 H, ← cmul, ← cadd, ← csub, ← cneg, ← coe_sum, Ideal.exp_coe, zero_add, univ_unique, sum_singleton, Fin.isValue, default_eq_zero, zero_sub]
  rw [Cert.Ssd.In.tot]
  refine congrArg _ (congrArg₂ (· + ·) Finset.sum_comm ?_)
  exact congrArg (· * I.ea (hd w)) Finset.sum_comm

theorem r507 (l : Fin 128) (w : Fin 256) :
    (t507 L : FVec Ideal S128x256 .f32) (ix2 l w) = ((I.dacum l (hd w) : ℝ) : EReal) := by
  pointwise [t507, t436, t506, t442, t440, t437, t439, t505, t87, t80]
  simp only [r380 H, r435 H, r503 H, last_row, ite_zero', ← cmul, ← cadd, ← csub, ← cneg, ← coe_sum, Ideal.exp_coe, zero_add, univ_unique, sum_singleton, Fin.isValue, default_eq_zero, zero_sub]
  all_goals rfl

theorem r512 (l : Fin 128) (w : Fin 256) :
    (t512 L : FVec Ideal S128x256 .f32) (ix2 l w) = ((0 : ℝ) : EReal) := by
  pointwise [t512, t508]
  simp only [r507 H, sub_self, ← cmul, ← cadd, ← csub, ← cneg, ← coe_sum, Ideal.exp_coe, zero_add, univ_unique, sum_singleton, Fin.isValue, default_eq_zero, zero_sub]
  all_goals rfl

theorem r513 (l : Fin 128) (w : Fin 256) :
    (t513 L : FVec Ideal S128x256 .bf16) (ix2 l w) = ((0 : ℝ) : EReal) := by
  pointwise [t513]
  simp only [r512 H, ← cmul, ← cadd, ← csub, ← cneg, ← coe_sum, Ideal.exp_coe, zero_add, univ_unique, sum_singleton, Fin.isValue, default_eq_zero, zero_sub]
  all_goals rfl

theorem r518 (l : Fin 128) (w : Fin 256) :
    (t518 L : FVec Ideal S128x256 .bf16) (ix2 l w) = ((0 : ℝ) : EReal) := by
  pointwise [t518, t516]
  simp only [r512 H, r513 H, sub_self, ← cmul, ← cadd, ← csub, ← cneg, ← coe_sum, Ideal.exp_coe, zero_add, univ_unique, sum_singleton, Fin.isValue, default_eq_zero, zero_sub]
  all_goals rfl

theorem r520 (l : Fin 128) (w : Fin 256) :
    (t520 L : FVec Ideal S128x256 .f32) (ix2 l w) = ((I.da l (hd w) : ℝ) : EReal) := by
  pointwise [t520, t515, t87, t80, t509, t508, t519]
  simp only [r354, r507 H, r513 H, r518 H, ite_mul, one_mul, zero_mul, mul_zero, Finset.sum_const_zero, add_zero, ← cmul, ← cadd, ← csub, ← cneg, ← coe_sum, Ideal.exp_coe, zero_add, univ_unique, sum_singleton, Fin.isValue, default_eq_zero, zero_sub]
  all_goals rfl

theorem r522 (l : Fin 128) (w : Fin 256) :
    (t522 L : FVec Ideal S128x256 .f32) (ix2 l w) = (((I.dX l w * I.x l w) : ℝ) : EReal) := by
  pointwise [t522, t29]
  simp only [H.x, r277 H, ← cmul, ← cadd, ← csub, ← cneg, ← coe_sum, Ideal.exp_coe, zero_add, univ_unique, sum_singleton, Fin.isValue, default_eq_zero, zero_sub]
  all_goals rfl

theorem r523 (l : Fin 128) (w : Fin 256) :
    (t523 L : FVec Ideal S128x256 .bf16) (ix2 l w) = (((I.dX l w * I.x l w) : ℝ) : EReal) := by
  pointwise [t523]
  simp only [r522 H, ← cmul, ← cadd, ← csub, ← cneg, ← coe_sum, Ideal.exp_coe, zero_add, univ_unique, sum_singleton, Fin.isValue, default_eq_zero, zero_sub]
  all_goals rfl

theorem r528 (l : Fin 128) (w : Fin 256) :
    (t528 L : FVec Ideal S128x256 .bf16) (ix2 l w) = ((0 : ℝ) : EReal) := by
  pointwise [t528]
  simp only [r522 H, r523 H, sub_self, ← cmul, ← cadd, ← csub, ← cneg, ← coe_sum, Ideal.exp_coe, zero_add, univ_unique, sum_singleton, Fin.isValue, default_eq_zero, zero_sub]
  all_goals rfl

theorem r530 (l : Fin 128) (w : Fin 256) :
    (t530 L : FVec Ideal S128x256 .f32) (ix2 l w) = ((I.dxdt l (hd w) : ℝ) : EReal) := by
  pointwise [t530, t87, t80, t524]
  simp only [r523 H, r428, r528 H, zero_mul, Finset.sum_const_zero, add_zero, ← cmul, ← cadd, ← csub, ← cneg, ← coe_sum, Ideal.exp_coe, zero_add, univ_unique, sum_singleton, Fin.isValue, default_eq_zero, zero_sub]
  rw [head_sum (fun k => I.dX l k * I.x l k)]
  rfl

theorem r536 (l : Fin 128) (w : Fin 256) :
    (t536 L : FVec Ideal S128x256 .f32) (ix2 l w) = ((I.ddt l (hd w) : ℝ) : EReal) := by
  pointwise [t536, t531, t535, t35, t34]
  simp only [r520 H, r144 H, r530 H, r118 H, Ideal.tanh_coe, word_half, ← cmul, ← cadd, ← csub, ← cneg, ← coe_sum, Ideal.exp_coe, zero_add, univ_unique, sum_singleton, Fin.isValue, default_eq_zero, zero_sub]
  rw [Cert.Ssd.In.ddt, ← tanh_half]
  refine congrArg _ ?_
  ring

theorem r543_0 (l : Fin 128) :
    (t543 L : FVec Ideal S1x128x4 .f32) (ix3 0 l 0) = ((I.ddt l 0 : ℝ) : EReal) := by
  pointwise [t543, t542]
  simp only [r536 H, ← cmul, ← cadd, ← csub, ← cneg, ← coe_sum, Ideal.exp_coe, zero_add, univ_unique, sum_singleton, Fin.isValue, default_eq_zero, zero_sub]
  all_goals rfl

theorem r543_1 (l : Fin 128) :
    (t543 L : FVec Ideal S1x128x4 .f32) (ix3 0 l 1) = ((I.ddt l 1 : ℝ) : EReal) := by
  pointwise [t543, t542]
  simp only [r536 H, ← cmul, ← cadd, ← csub, ← cneg, ← coe_sum, Ideal.exp_coe, zero_add, univ_unique, sum_singleton, Fin.isValue, default_eq_zero, zero_sub]
  all_goals rfl

theorem r543_2 (l : Fin 128) :
    (t543 L : FVec Ideal S1x128x4 .f32) (ix3 0 l 2) = ((I.ddt l 2 : ℝ) : EReal) := by
  pointwise [t543, t542]
  simp only [r536 H, ← cmul, ← cadd, ← csub, ← cneg, ← coe_sum, Ideal.exp_coe, zero_add, univ_unique, sum_singleton, Fin.isValue, default_eq_zero, zero_sub]
  all_goals rfl

theorem r543_3 (l : Fin 128) :
    (t543 L : FVec Ideal S1x128x4 .f32) (ix3 0 l 3) = ((I.ddt l 3 : ℝ) : EReal) := by
  pointwise [t543, t542]
  simp only [r536 H, ← cmul, ← cadd, ← csub, ← cneg, ← coe_sum, Ideal.exp_coe, zero_add, univ_unique, sum_singleton, Fin.isValue, default_eq_zero, zero_sub]
  all_goals rfl

theorem r547 (w : Fin 256) :
    (t547 L : FVec Ideal S1x256 .f32) (ix2 0 w) = ((I.dbias (hd w) : ℝ) : EReal) := by
  pointwise [t547]
  simp only [r536 H, ← cmul, ← cadd, ← csub, ← cneg, ← coe_sum, Ideal.exp_coe, zero_add, univ_unique, sum_singleton, Fin.isValue, default_eq_zero, zero_sub]
  all_goals rfl

theorem r550 (w : Fin 256) :
    (t550 L : FVec Ideal S1x256 .f32) (ix2 0 w) = ((∑ l, I.da l (hd w) * I.sp l (hd w) : ℝ) : EReal) := by
  pointwise [t550]
  simp only [r520 H, r124 H, ← cmul, ← cadd, ← csub, ← cneg, ← coe_sum, Ideal.exp_coe, zero_add, univ_unique, sum_singleton, Fin.isValue, default_eq_zero, zero_sub]
  all_goals rfl

theorem r552 (l : Fin 128) (w : Fin 256) :
    (t552 L : FVec Ideal S128x256 .f32) (ix2 l w) = (((I.dY l w * I.x l w) : ℝ) : EReal) := by
  pointwise [t552, t29]
  simp only [H.x, r180 H, ← cmul, ← cadd, ← csub, ← cneg, ← coe_sum, Ideal.exp_coe, zero_add, univ_unique, sum_singleton, Fin.isValue, default_eq_zero, zero_sub]
  all_goals rfl

theorem r553 (l : Fin 128) (w : Fin 256) :
    (t553 L : FVec Ideal S128x256 .bf16) (ix2 l w) = (((I.dY l w * I.x l w) : ℝ) : EReal) := by
  pointwise [t553]
  simp only [r552 H, ← cmul, ← cadd, ← csub, ← cneg, ← coe_sum, Ideal.exp_coe, zero_add, univ_unique, sum_singleton, Fin.isValue, default_eq_zero, zero_sub]
  all_goals rfl

theorem r558 (l : Fin 128) (w : Fin 256) :
    (t558 L : FVec Ideal S128x256 .bf16) (ix2 l w) = ((0 : ℝ) : EReal) := by
  pointwise [t558]
  simp only [r552 H, r553 H, sub_self, ← cmul, ← cadd, ← csub, ← cneg, ← coe_sum, Ideal.exp_coe, zero_add, univ_unique, sum_singleton, Fin.isValue, default_eq_zero, zero_sub]
  all_goals rfl

theorem r562 (w : Fin 256) :
    (t562 L : FVec Ideal S1x256 .f32) (ix2 0 w) = ((I.dskip (hd w) : ℝ) : EReal) := by
  pointwise [t562, t560, t555, t87, t80, t554, t559]
  simp only [r553 H, r428, r558 H, zero_mul, Finset.sum_const_zero, add_zero, ← cmul, ← cadd, ← csub, ← cneg, ← coe_sum, Ideal.exp_coe, zero_add, univ_unique, sum_singleton, Fin.isValue, default_eq_zero, zero_sub]
  simp only [head_sum (fun k => I.dY _ k * I.x _ k)]
  rfl

theorem r564_0 (w : Fin 256) :
    (t564 L : FVec Ideal S3x256 .f32) (ix2 0 w) = ((I.dbias (hd w) : ℝ) : EReal) := by
  pointwise [t564]
  simp only [r547 H, r550 H, r143 H, r562 H, ← cmul, ← cadd, ← csub, ← cneg, ← coe_sum, Ideal.exp_coe, zero_add, univ_unique, sum_singleton, Fin.isValue, default_eq_zero, zero_sub]
  all_goals rfl

theorem r564_1 (w : Fin 256) :
    (t564 L : FVec Ideal S3x256 .f32) (ix2 1 w) = ((I.dalog (hd w) : ℝ) : EReal) := by
  pointwise [t564]
  simp only [r547 H, r550 H, r143 H, r562 H, ← cmul, ← cadd, ← csub, ← cneg, ← coe_sum, Ideal.exp_coe, zero_add, univ_unique, sum_singleton, Fin.isValue, default_eq_zero, zero_sub]
  all_goals rfl

theorem r564_2 (w : Fin 256) :
    (t564 L : FVec Ideal S3x256 .f32) (ix2 2 w) = ((I.dskip (hd w) : ℝ) : EReal) := by
  pointwise [t564]
  simp only [r547 H, r550 H, r143 H, r562 H, ← cmul, ← cadd, ← csub, ← cneg, ← coe_sum, Ideal.exp_coe, zero_add, univ_unique, sum_singleton, Fin.isValue, default_eq_zero, zero_sub]
  all_goals rfl

theorem r572_0_0 :
    (t572 L : FVec Ideal S1x3x4 .f32) (ix3 0 0 0) = (((ap 0 0 + I.dbias 0) : ℝ) : EReal) := by
  pointwise [t572, t545, t570, t565, t566]
  simp only [H.dp, r564_0 H, r564_1 H, r564_2 H, ← cmul, ← cadd, ← csub, ← cneg, ← coe_sum, Ideal.exp_coe, zero_add, univ_unique, sum_singleton, Fin.isValue, default_eq_zero, zero_sub]
  all_goals rfl

theorem r572_0_1 :
    (t572 L : FVec Ideal S1x3x4 .f32) (ix3 0 0 1) = (((ap 0 1 + I.dbias 1) : ℝ) : EReal) := by
  pointwise [t572, t545, t570, t565, t566]
  simp only [H.dp, r564_0 H, r564_1 H, r564_2 H, ← cmul, ← cadd, ← csub, ← cneg, ← coe_sum, Ideal.exp_coe, zero_add, univ_unique, sum_singleton, Fin.isValue, default_eq_zero, zero_sub]
  all_goals rfl

theorem r572_0_2 :
    (t572 L : FVec Ideal S1x3x4 .f32) (ix3 0 0 2) = (((ap 0 2 + I.dbias 2) : ℝ) : EReal) := by
  pointwise [t572, t545, t570, t565, t566]
  simp only [H.dp, r564_0 H, r564_1 H, r564_2 H, ← cmul, ← cadd, ← csub, ← cneg, ← coe_sum, Ideal.exp_coe, zero_add, univ_unique, sum_singleton, Fin.isValue, default_eq_zero, zero_sub]
  all_goals rfl

theorem r572_0_3 :
    (t572 L : FVec Ideal S1x3x4 .f32) (ix3 0 0 3) = (((ap 0 3 + I.dbias 3) : ℝ) : EReal) := by
  pointwise [t572, t545, t570, t565, t566]
  simp only [H.dp, r564_0 H, r564_1 H, r564_2 H, ← cmul, ← cadd, ← csub, ← cneg, ← coe_sum, Ideal.exp_coe, zero_add, univ_unique, sum_singleton, Fin.isValue, default_eq_zero, zero_sub]
  all_goals rfl

theorem r572_1_0 :
    (t572 L : FVec Ideal S1x3x4 .f32) (ix3 0 1 0) = (((ap 1 0 + I.dalog 0) : ℝ) : EReal) := by
  pointwise [t572, t545, t570, t565, t566]
  simp only [H.dp, r564_0 H, r564_1 H, r564_2 H, ← cmul, ← cadd, ← csub, ← cneg, ← coe_sum, Ideal.exp_coe, zero_add, univ_unique, sum_singleton, Fin.isValue, default_eq_zero, zero_sub]
  all_goals rfl

theorem r572_1_1 :
    (t572 L : FVec Ideal S1x3x4 .f32) (ix3 0 1 1) = (((ap 1 1 + I.dalog 1) : ℝ) : EReal) := by
  pointwise [t572, t545, t570, t565, t566]
  simp only [H.dp, r564_0 H, r564_1 H, r564_2 H, ← cmul, ← cadd, ← csub, ← cneg, ← coe_sum, Ideal.exp_coe, zero_add, univ_unique, sum_singleton, Fin.isValue, default_eq_zero, zero_sub]
  all_goals rfl

theorem r572_1_2 :
    (t572 L : FVec Ideal S1x3x4 .f32) (ix3 0 1 2) = (((ap 1 2 + I.dalog 2) : ℝ) : EReal) := by
  pointwise [t572, t545, t570, t565, t566]
  simp only [H.dp, r564_0 H, r564_1 H, r564_2 H, ← cmul, ← cadd, ← csub, ← cneg, ← coe_sum, Ideal.exp_coe, zero_add, univ_unique, sum_singleton, Fin.isValue, default_eq_zero, zero_sub]
  all_goals rfl

theorem r572_1_3 :
    (t572 L : FVec Ideal S1x3x4 .f32) (ix3 0 1 3) = (((ap 1 3 + I.dalog 3) : ℝ) : EReal) := by
  pointwise [t572, t545, t570, t565, t566]
  simp only [H.dp, r564_0 H, r564_1 H, r564_2 H, ← cmul, ← cadd, ← csub, ← cneg, ← coe_sum, Ideal.exp_coe, zero_add, univ_unique, sum_singleton, Fin.isValue, default_eq_zero, zero_sub]
  all_goals rfl

theorem r572_2_0 :
    (t572 L : FVec Ideal S1x3x4 .f32) (ix3 0 2 0) = (((ap 2 0 + I.dskip 0) : ℝ) : EReal) := by
  pointwise [t572, t545, t570, t565, t566]
  simp only [H.dp, r564_0 H, r564_1 H, r564_2 H, ← cmul, ← cadd, ← csub, ← cneg, ← coe_sum, Ideal.exp_coe, zero_add, univ_unique, sum_singleton, Fin.isValue, default_eq_zero, zero_sub]
  all_goals rfl

theorem r572_2_1 :
    (t572 L : FVec Ideal S1x3x4 .f32) (ix3 0 2 1) = (((ap 2 1 + I.dskip 1) : ℝ) : EReal) := by
  pointwise [t572, t545, t570, t565, t566]
  simp only [H.dp, r564_0 H, r564_1 H, r564_2 H, ← cmul, ← cadd, ← csub, ← cneg, ← coe_sum, Ideal.exp_coe, zero_add, univ_unique, sum_singleton, Fin.isValue, default_eq_zero, zero_sub]
  all_goals rfl

theorem r572_2_2 :
    (t572 L : FVec Ideal S1x3x4 .f32) (ix3 0 2 2) = (((ap 2 2 + I.dskip 2) : ℝ) : EReal) := by
  pointwise [t572, t545, t570, t565, t566]
  simp only [H.dp, r564_0 H, r564_1 H, r564_2 H, ← cmul, ← cadd, ← csub, ← cneg, ← coe_sum, Ideal.exp_coe, zero_add, univ_unique, sum_singleton, Fin.isValue, default_eq_zero, zero_sub]
  all_goals rfl

theorem r572_2_3 :
    (t572 L : FVec Ideal S1x3x4 .f32) (ix3 0 2 3) = (((ap 2 3 + I.dskip 3) : ℝ) : EReal) := by
  pointwise [t572, t545, t570, t565, t566]
  simp only [H.dp, r564_0 H, r564_1 H, r564_2 H, ← cmul, ← cadd, ← csub, ← cneg, ← coe_sum, Ideal.exp_coe, zero_add, univ_unique, sum_singleton, Fin.isValue, default_eq_zero, zero_sub]
  all_goals rfl

/-- The three gradients that are summed over all steps, by row. -/
def dpar (I : In) (r : Fin 3) (h : Fin 4) : ℝ := (![I.dbias h, I.dalog h, I.dskip h] : Fin 3 → ℝ) r

theorem r543 (l : Fin 128) (h : Fin 4) : (t543 L : FVec Ideal S1x128x4 .f32) (ix3 0 l h) = (I.ddt l h : EReal) := by
  fin_cases h
  exacts [r543_0 H l, r543_1 H l, r543_2 H l, r543_3 H l]

theorem r572 (r : Fin 3) (h : Fin 4) : (t572 L : FVec Ideal S1x3x4 .f32) (ix3 0 r h) = ((ap r h + dpar I r h : ℝ) : EReal) := by
  fin_cases r <;> fin_cases h
  exacts [r572_0_0 H, r572_0_1 H, r572_0_2 H, r572_0_3 H, r572_1_0 H, r572_1_1 H, r572_1_2 H, r572_1_3 H,
    r572_2_0 H, r572_2_1 H, r572_2_2 H, r572_2_3 H]

end Cert.KernelIdeal.Group
-- ==== Proof.Groups.lean ====
module

public import proofs.«01_k».proof.Proof.Tower

public import proofs.«01_k».proof.Proof.Gen.KernelIdeal.Value

@[expose] public section

set_option maxRecDepth 16384
set_option synthInstance.maxSize 4096

noncomputable section

namespace Cert.KernelIdeal.Group

open Idealize.ShloMosaic Idealize.SL.Sem Cert.KernelIdeal Cert.KernelIdeal.Gen

variable {F : FTy → Type} [FloatOps F]

/-- The blocks of one chunk: what the pipeline brought, and the three arrays that are carried from chunk to chunk. -/
structure Blocks (F : FTy → Type) where
  dyn : Vec F S128x2048 .f32
  x : Vec F S128x2048 .bf16
  B : Vec F S128x1024 .bf16
  C : Vec F S128x1024 .bf16
  z : Vec F S128x2048 .bf16
  dt : Vec F S8x128x4 .f32
  par : Vec F S8x3x4 .f32
  nw : Vec F S8x1x256 .f32
  y : Vec F S128x2048 .f32
  S : Vec F S8x1x256x128 .f32
  dp : Vec F S8x3x4 .f32
  dnw : Vec F S8x1x256 .f32
  dS : Vec F S2048x128 .f32

variable (b : Blocks F)

/-- What group 0 reads of a chunk's blocks. -/
def G0 : Loads F where
  l0 := View.ld b.dnw (Rect.unit (s := S8x1x256) ![0, 0, 0] S1x1x256.size inb_S8x1x256_S1x1x256_0_0_0)
  l2 := View.ld b.dyn (Rect.unit (s := S128x2048) ![0, 0] S128x256.size inb_S128x2048_S128x256_0_0)
  l3 := View.ld b.y (Rect.unit (s := S128x2048) ![0, 0] S128x256.size inb_S128x2048_S128x256_0_0)
  l8 := View.ld b.par (Rect.unit (s := S8x3x4) ![0, 0, 0] S1x3x4.size inb_S8x3x4_S1x3x4_0_0_0)
  l28 := View.ld b.x (Rect.unit (s := S128x2048) ![0, 0] S128x256.size inb_S128x2048_S128x256_0_0)
  l32 := View.ld b.z (Rect.unit (s := S128x2048) ![0, 0] S128x256.size inb_S128x2048_S128x256_0_0)
  l59 := View.ld b.nw (Rect.unit (s := S8x1x256) ![0, 0, 0] S1x1x256.size inb_S8x1x256_S1x1x256_0_0_0)
  l98 := View.ld b.dt (Rect.unit (s := S8x128x4) ![0, 0, 0] S1x128x4.size inb_S8x128x4_S1x128x4_0_0_0)
  l177 := View.ld b.dS (Rect.unit (s := S2048x128) ![0, 0] S256x128.size inb_S2048x128_S256x128_0_0)
  l184 := View.ld b.C (Rect.unit (s := S128x1024) ![0, 0] S128x128.size inb_S128x1024_S128x128_0_0)
  l214 := View.ld b.B (Rect.unit (s := S128x1024) ![0, 0] S128x128.size inb_S128x1024_S128x128_0_0)
  l282 := View.ld b.S (Rect.unit (s := S8x1x256x128) ![0, 0, 0, 0] S1x1x256x128.size inb_S8x1x256x128_S1x1x256x128_0_0_0_0)
  l544 := View.ld b.dp (Rect.unit (s := S8x3x4) ![0, 0, 0] S1x3x4.size inb_S8x3x4_S1x3x4_0_0_0)

theorem a0_0 : View.ld b.dnw (Rect.unit (s := S8x1x256) ![0, 0, 0] S1x1x256.size inb_S8x1x256_S1x1x256_0_0_0) = (G0 b).l0 := rfl
theorem b0_0 : View.ld b.dnw (Rect.unit (s := S8x1x256) ![0, 0, 0] ![1, 1, 256] inb_S8x1x256_S1x1x256_0_0_0) = (G0 b).l0 := rfl
theorem a0_2 : View.ld b.dyn (Rect.unit (s := S128x2048) ![0, 0] S128x256.size inb_S128x2048_S128x256_0_0) = (G0 b).l2 := rfl
theorem b0_2 : View.ld b.dyn (Rect.unit (s := S128x2048) ![0, 0] ![128, 256] inb_S128x2048_S128x256_0_0) = (G0 b).l2 := rfl
theorem a0_3 : View.ld b.y (Rect.unit (s := S128x2048) ![0, 0] S128x256.size inb_S128x2048_S128x256_0_0) = (G0 b).l3 := rfl
theorem b0_3 : View.ld b.y (Rect.unit (s := S128x2048) ![0, 0] ![128, 256] inb_S128x2048_S128x256_0_0) = (G0 b).l3 := rfl
theorem a0_8 : View.ld b.par (Rect.unit (s := S8x3x4) ![0, 0, 0] S1x3x4.size inb_S8x3x4_S1x3x4_0_0_0) = (G0 b).l8 := rfl
theorem b0_8 : View.ld b.par (Rect.unit (s := S8x3x4) ![0, 0, 0] ![1, 3, 4] inb_S8x3x4_S1x3x4_0_0_0) = (G0 b).l8 := rfl
theorem a0_28 : View.ld b.x (Rect.unit (s := S128x2048) ![0, 0] S128x256.size inb_S128x2048_S128x256_0_0) = (G0 b).l28 := rfl
theorem b0_28 : View.ld b.x (Rect.unit (s := S128x2048) ![0, 0] ![128, 256] inb_S128x2048_S128x256_0_0) = (G0 b).l28 := rfl
theorem a0_32 : View.ld b.z (Rect.unit (s := S128x2048) ![0, 0] S128x256.size inb_S128x2048_S128x256_0_0) = (G0 b).l32 := rfl
theorem b0_32 : View.ld b.z (Rect.unit (s := S128x2048) ![0, 0] ![128, 256] inb_S128x2048_S128x256_0_0) = (G0 b).l32 := rfl
theorem a0_59 : View.ld b.nw (Rect.unit (s := S8x1x256) ![0, 0, 0] S1x1x256.size inb_S8x1x256_S1x1x256_0_0_0) = (G0 b).l59 := rfl
theorem b0_59 : View.ld b.nw (Rect.unit (s := S8x1x256) ![0, 0, 0] ![1, 1, 256] inb_S8x1x256_S1x1x256_0_0_0) = (G0 b).l59 := rfl
theorem a0_98 : View.ld b.dt (Rect.unit (s := S8x128x4) ![0, 0, 0] S1x128x4.size inb_S8x128x4_S1x128x4_0_0_0) = (G0 b).l98 := rfl
theorem b0_98 : View.ld b.dt (Rect.unit (s := S8x128x4) ![0, 0, 0] ![1, 128, 4] inb_S8x128x4_S1x128x4_0_0_0) = (G0 b).l98 := rfl
theorem a0_177 : View.ld b.dS (Rect.unit (s := S2048x128) ![0, 0] S256x128.size inb_S2048x128_S256x128_0_0) = (G0 b).l177 := rfl
theorem b0_177 : View.ld b.dS (Rect.unit (s := S2048x128) ![0, 0] ![256, 128] inb_S2048x128_S256x128_0_0) = (G0 b).l177 := rfl
theorem a0_184 : View.ld b.C (Rect.unit (s := S128x1024) ![0, 0] S128x128.size inb_S128x1024_S128x128_0_0) = (G0 b).l184 := rfl
theorem b0_184 : View.ld b.C (Rect.unit (s := S128x1024) ![0, 0] ![128, 128] inb_S128x1024_S128x128_0_0) = (G0 b).l184 := rfl
theorem a0_214 : View.ld b.B (Rect.unit (s := S128x1024) ![0, 0] S128x128.size inb_S128x1024_S128x128_0_0) = (G0 b).l214 := rfl
theorem b0_214 : View.ld b.B (Rect.unit (s := S128x1024) ![0, 0] ![128, 128] inb_S128x1024_S128x128_0_0) = (G0 b).l214 := rfl
theorem a0_282 : View.ld b.S (Rect.unit (s := S8x1x256x128) ![0, 0, 0, 0] S1x1x256x128.size inb_S8x1x256x128_S1x1x256x128_0_0_0_0) = (G0 b).l282 := rfl
theorem b0_282 : View.ld b.S (Rect.unit (s := S8x1x256x128) ![0, 0, 0, 0] ![1, 1, 256, 128] inb_S8x1x256x128_S1x1x256x128_0_0_0_0) = (G0 b).l282 := rfl
theorem a0_544 : View.ld b.dp (Rect.unit (s := S8x3x4) ![0, 0, 0] S1x3x4.size inb_S8x3x4_S1x3x4_0_0_0) = (G0 b).l544 := rfl
theorem b0_544 : View.ld b.dp (Rect.unit (s := S8x3x4) ![0, 0, 0] ![1, 3, 4] inb_S8x3x4_S1x3x4_0_0_0) = (G0 b).l544 := rfl

/-- What group 1 reads of a chunk's blocks. -/
def G1 : Loads F where
  l0 := View.ld b.dnw (Rect.unit (s := S8x1x256) ![1, 0, 0] S1x1x256.size inb_S8x1x256_S1x1x256_1_0_0)
  l2 := View.ld b.dyn (Rect.unit (s := S128x2048) ![0, 256] S128x256.size inb_S128x2048_S128x256_0_256)
  l3 := View.ld b.y (Rect.unit (s := S128x2048) ![0, 256] S128x256.size inb_S128x2048_S128x256_0_256)
  l8 := View.ld b.par (Rect.unit (s := S8x3x4) ![1, 0, 0] S1x3x4.size inb_S8x3x4_S1x3x4_1_0_0)
  l28 := View.ld b.x (Rect.unit (s := S128x2048) ![0, 256] S128x256.size inb_S128x2048_S128x256_0_256)
  l32 := View.ld b.z (Rect.unit (s := S128x2048) ![0, 256] S128x256.size inb_S128x2048_S128x256_0_256)
  l59 := View.ld b.nw (Rect.unit (s := S8x1x256) ![1, 0, 0] S1x1x256.size inb_S8x1x256_S1x1x256_1_0_0)
  l98 := View.ld b.dt (Rect.unit (s := S8x128x4) ![1, 0, 0] S1x128x4.size inb_S8x128x4_S1x128x4_1_0_0)
  l177 := View.ld b.dS (Rect.unit (s := S2048x128) ![256, 0] S256x128.size inb_S2048x128_S256x128_256_0)
  l184 := View.ld b.C (Rect.unit (s := S128x1024) ![0, 128] S128x128.size inb_S128x1024_S128x128_0_128)
  l214 := View.ld b.B (Rect.unit (s := S128x1024) ![0, 128] S128x128.size inb_S128x1024_S128x128_0_128)
  l282 := View.ld b.S (Rect.unit (s := S8x1x256x128) ![1, 0, 0, 0] S1x1x256x128.size inb_S8x1x256x128_S1x1x256x128_1_0_0_0)
  l544 := View.ld b.dp (Rect.unit (s := S8x3x4) ![1, 0, 0] S1x3x4.size inb_S8x3x4_S1x3x4_1_0_0)

theorem a1_0 : View.ld b.dnw (Rect.unit (s := S8x1x256) ![1, 0, 0] S1x1x256.size inb_S8x1x256_S1x1x256_1_0_0) = (G1 b).l0 := rfl
theorem b1_0 : View.ld b.dnw (Rect.unit (s := S8x1x256) ![1, 0, 0] ![1, 1, 256] inb_S8x1x256_S1x1x256_1_0_0) = (G1 b).l0 := rfl
theorem a1_2 : View.ld b.dyn (Rect.unit (s := S128x2048) ![0, 256] S128x256.size inb_S128x2048_S128x256_0_256) = (G1 b).l2 := rfl
theorem b1_2 : View.ld b.dyn (Rect.unit (s := S128x2048) ![0, 256] ![128, 256] inb_S128x2048_S128x256_0_256) = (G1 b).l2 := rfl
theorem a1_3 : View.ld b.y (Rect.unit (s := S128x2048) ![0, 256] S128x256.size inb_S128x2048_S128x256_0_256) = (G1 b).l3 := rfl
theorem b1_3 : View.ld b.y (Rect.unit (s := S128x2048) ![0, 256] ![128, 256] inb_S128x2048_S128x256_0_256) = (G1 b).l3 := rfl
theorem a1_8 : View.ld b.par (Rect.unit (s := S8x3x4) ![1, 0, 0] S1x3x4.size inb_S8x3x4_S1x3x4_1_0_0) = (G1 b).l8 := rfl
theorem b1_8 : View.ld b.par (Rect.unit (s := S8x3x4) ![1, 0, 0] ![1, 3, 4] inb_S8x3x4_S1x3x4_1_0_0) = (G1 b).l8 := rfl
theorem a1_28 : View.ld b.x (Rect.unit (s := S128x2048) ![0, 256] S128x256.size inb_S128x2048_S128x256_0_256) = (G1 b).l28 := rfl
theorem b1_28 : View.ld b.x (Rect.unit (s := S128x2048) ![0, 256] ![128, 256] inb_S128x2048_S128x256_0_256) = (G1 b).l28 := rfl
theorem a1_32 : View.ld b.z (Rect.unit (s := S128x2048) ![0, 256] S128x256.size inb_S128x2048_S128x256_0_256) = (G1 b).l32 := rfl
theorem b1_32 : View.ld b.z (Rect.unit (s := S128x2048) ![0, 256] ![128, 256] inb_S128x2048_S128x256_0_256) = (G1 b).l32 := rfl
theorem a1_59 : View.ld b.nw (Rect.unit (s := S8x1x256) ![1, 0, 0] S1x1x256.size inb_S8x1x256_S1x1x256_1_0_0) = (G1 b).l59 := rfl
theorem b1_59 : View.ld b.nw (Rect.unit (s := S8x1x256) ![1, 0, 0] ![1, 1, 256] inb_S8x1x256_S1x1x256_1_0_0) = (G1 b).l59 := rfl
theorem a1_98 : View.ld b.dt (Rect.unit (s := S8x128x4) ![1, 0, 0] S1x128x4.size inb_S8x128x4_S1x128x4_1_0_0) = (G1 b).l98 := rfl
theorem b1_98 : View.ld b.dt (Rect.unit (s := S8x128x4) ![1, 0, 0] ![1, 128, 4] inb_S8x128x4_S1x128x4_1_0_0) = (G1 b).l98 := rfl
theorem a1_177 : View.ld b.dS (Rect.unit (s := S2048x128) ![256, 0] S256x128.size inb_S2048x128_S256x128_256_0) = (G1 b).l177 := rfl
theorem b1_177 : View.ld b.dS (Rect.unit (s := S2048x128) ![256, 0] ![256, 128] inb_S2048x128_S256x128_256_0) = (G1 b).l177 := rfl
theorem a1_184 : View.ld b.C (Rect.unit (s := S128x1024) ![0, 128] S128x128.size inb_S128x1024_S128x128_0_128) = (G1 b).l184 := rfl
theorem b1_184 : View.ld b.C (Rect.unit (s := S128x1024) ![0, 128] ![128, 128] inb_S128x1024_S128x128_0_128) = (G1 b).l184 := rfl
theorem a1_214 : View.ld b.B (Rect.unit (s := S128x1024) ![0, 128] S128x128.size inb_S128x1024_S128x128_0_128) = (G1 b).l214 := rfl
theorem b1_214 : View.ld b.B (Rect.unit (s := S128x1024) ![0, 128] ![128, 128] inb_S128x1024_S128x128_0_128) = (G1 b).l214 := rfl
theorem a1_282 : View.ld b.S (Rect.unit (s := S8x1x256x128) ![1, 0, 0, 0] S1x1x256x128.size inb_S8x1x256x128_S1x1x256x128_1_0_0_0) = (G1 b).l282 := rfl
theorem b1_282 : View.ld b.S (Rect.unit (s := S8x1x256x128) ![1, 0, 0, 0] ![1, 1, 256, 128] inb_S8x1x256x128_S1x1x256x128_1_0_0_0) = (G1 b).l282 := rfl
theorem a1_544 : View.ld b.dp (Rect.unit (s := S8x3x4) ![1, 0, 0] S1x3x4.size inb_S8x3x4_S1x3x4_1_0_0) = (G1 b).l544 := rfl
theorem b1_544 : View.ld b.dp (Rect.unit (s := S8x3x4) ![1, 0, 0] ![1, 3, 4] inb_S8x3x4_S1x3x4_1_0_0) = (G1 b).l544 := rfl

/-- What group 2 reads of a chunk's blocks. -/
def G2 : Loads F where
  l0 := View.ld b.dnw (Rect.unit (s := S8x1x256) ![2, 0, 0] S1x1x256.size inb_S8x1x256_S1x1x256_2_0_0)
  l2 := View.ld b.dyn (Rect.unit (s := S128x2048) ![0, 512] S128x256.size inb_S128x2048_S128x256_0_512)
  l3 := View.ld b.y (Rect.unit (s := S128x2048) ![0, 512] S128x256.size inb_S128x2048_S128x256_0_512)
  l8 := View.ld b.par (Rect.unit (s := S8x3x4) ![2, 0, 0] S1x3x4.size inb_S8x3x4_S1x3x4_2_0_0)
  l28 := View.ld b.x (Rect.unit (s := S128x2048) ![0, 512] S128x256.size inb_S128x2048_S128x256_0_512)
  l32 := View.ld b.z (Rect.unit (s := S128x2048) ![0, 512] S128x256.size inb_S128x2048_S128x256_0_512)
  l59 := View.ld b.nw (Rect.unit (s := S8x1x256) ![2, 0, 0] S1x1x256.size inb_S8x1x256_S1x1x256_2_0_0)
  l98 := View.ld b.dt (Rect.unit (s := S8x128x4) ![2, 0, 0] S1x128x4.size inb_S8x128x4_S1x128x4_2_0_0)
  l177 := View.ld b.dS (Rect.unit (s := S2048x128) ![512, 0] S256x128.size inb_S2048x128_S256x128_512_0)
  l184 := View.ld b.C (Rect.unit (s := S128x1024) ![0, 256] S128x128.size inb_S128x1024_S128x128_0_256)
  l214 := View.ld b.B (Rect.unit (s := S128x1024) ![0, 256] S128x128.size inb_S128x1024_S128x128_0_256)
  l282 := View.ld b.S (Rect.unit (s := S8x1x256x128) ![2, 0, 0, 0] S1x1x256x128.size inb_S8x1x256x128_S1x1x256x128_2_0_0_0)
  l544 := View.ld b.dp (Rect.unit (s := S8x3x4) ![2, 0, 0] S1x3x4.size inb_S8x3x4_S1x3x4_2_0_0)

theorem a2_0 : View.ld b.dnw (Rect.unit (s := S8x1x256) ![2, 0, 0] S1x1x256.size inb_S8x1x256_S1x1x256_2_0_0) = (G2 b).l0 := rfl
theorem b2_0 : View.ld b.dnw (Rect.unit (s := S8x1x256) ![2, 0, 0] ![1, 1, 256] inb_S8x1x256_S1x1x256_2_0_0) = (G2 b).l0 := rfl
theorem a2_2 : View.ld b.dyn (Rect.unit (s := S128x2048) ![0, 512] S128x256.size inb_S128x2048_S128x256_0_512) = (G2 b).l2 := rfl
theorem b2_2 : View.ld b.dyn (Rect.unit (s := S128x2048) ![0, 512] ![128, 256] inb_S128x2048_S128x256_0_512) = (G2 b).l2 := rfl
theorem a2_3 : View.ld b.y (Rect.unit (s := S128x2048) ![0, 512] S128x256.size inb_S128x2048_S128x256_0_512) = (G2 b).l3 := rfl
theorem b2_3 : View.ld b.y (Rect.unit (s := S128x2048) ![0, 512] ![128, 256] inb_S128x2048_S128x256_0_512) = (G2 b).l3 := rfl
theorem a2_8 : View.ld b.par (Rect.unit (s := S8x3x4) ![2, 0, 0] S1x3x4.size inb_S8x3x4_S1x3x4_2_0_0) = (G2 b).l8 := rfl
theorem b2_8 : View.ld b.par (Rect.unit (s := S8x3x4) ![2, 0, 0] ![1, 3, 4] inb_S8x3x4_S1x3x4_2_0_0) = (G2 b).l8 := rfl
theorem a2_28 : View.ld b.x (Rect.unit (s := S128x2048) ![0, 512] S128x256.size inb_S128x2048_S128x256_0_512) = (G2 b).l28 := rfl
theorem b2_28 : View.ld b.x (Rect.unit (s := S128x2048) ![0, 512] ![128, 256] inb_S128x2048_S128x256_0_512) = (G2 b).l28 := rfl
theorem a2_32 : View.ld b.z (Rect.unit (s := S128x2048) ![0, 512] S128x256.size inb_S128x2048_S128x256_0_512) = (G2 b).l32 := rfl
theorem b2_32 : View.ld b.z (Rect.unit (s := S128x2048) ![0, 512] ![128, 256] inb_S128x2048_S128x256_0_512) = (G2 b).l32 := rfl
theorem a2_59 : View.ld b.nw (Rect.unit (s := S8x1x256) ![2, 0, 0] S1x1x256.size inb_S8x1x256_S1x1x256_2_0_0) = (G2 b).l59 := rfl
theorem b2_59 : View.ld b.nw (Rect.unit (s := S8x1x256) ![2, 0, 0] ![1, 1, 256] inb_S8x1x256_S1x1x256_2_0_0) = (G2 b).l59 := rfl
theorem a2_98 : View.ld b.dt (Rect.unit (s := S8x128x4) ![2, 0, 0] S1x128x4.size inb_S8x128x4_S1x128x4_2_0_0) = (G2 b).l98 := rfl
theorem b2_98 : View.ld b.dt (Rect.unit (s := S8x128x4) ![2, 0, 0] ![1, 128, 4] inb_S8x128x4_S1x128x4_2_0_0) = (G2 b).l98 := rfl
theorem a2_177 : View.ld b.dS (Rect.unit (s := S2048x128) ![512, 0] S256x128.size inb_S2048x128_S256x128_512_0) = (G2 b).l177 := rfl
theorem b2_177 : View.ld b.dS (Rect.unit (s := S2048x128) ![512, 0] ![256, 128] inb_S2048x128_S256x128_512_0) = (G2 b).l177 := rfl
theorem a2_184 : View.ld b.C (Rect.unit (s := S128x1024) ![0, 256] S128x128.size inb_S128x1024_S128x128_0_256) = (G2 b).l184 := rfl
theorem b2_184 : View.ld b.C (Rect.unit (s := S128x1024) ![0, 256] ![128, 128] inb_S128x1024_S128x128_0_256) = (G2 b).l184 := rfl
theorem a2_214 : View.ld b.B (Rect.unit (s := S128x1024) ![0, 256] S128x128.size inb_S128x1024_S128x128_0_256) = (G2 b).l214 := rfl
theorem b2_214 : View.ld b.B (Rect.unit (s := S128x1024) ![0, 256] ![128, 128] inb_S128x1024_S128x128_0_256) = (G2 b).l214 := rfl
theorem a2_282 : View.ld b.S (Rect.unit (s := S8x1x256x128) ![2, 0, 0, 0] S1x1x256x128.size inb_S8x1x256x128_S1x1x256x128_2_0_0_0) = (G2 b).l282 := rfl
theorem b2_282 : View.ld b.S (Rect.unit (s := S8x1x256x128) ![2, 0, 0, 0] ![1, 1, 256, 128] inb_S8x1x256x128_S1x1x256x128_2_0_0_0) = (G2 b).l282 := rfl
theorem a2_544 : View.ld b.dp (Rect.unit (s := S8x3x4) ![2, 0, 0] S1x3x4.size inb_S8x3x4_S1x3x4_2_0_0) = (G2 b).l544 := rfl
theorem b2_544 : View.ld b.dp (Rect.unit (s := S8x3x4) ![2, 0, 0] ![1, 3, 4] inb_S8x3x4_S1x3x4_2_0_0) = (G2 b).l544 := rfl

/-- What group 3 reads of a chunk's blocks. -/
def G3 : Loads F where
  l0 := View.ld b.dnw (Rect.unit (s := S8x1x256) ![3, 0, 0] S1x1x256.size inb_S8x1x256_S1x1x256_3_0_0)
  l2 := View.ld b.dyn (Rect.unit (s := S128x2048) ![0, 768] S128x256.size inb_S128x2048_S128x256_0_768)
  l3 := View.ld b.y (Rect.unit (s := S128x2048) ![0, 768] S128x256.size inb_S128x2048_S128x256_0_768)
  l8 := View.ld b.par (Rect.unit (s := S8x3x4) ![3, 0, 0] S1x3x4.size inb_S8x3x4_S1x3x4_3_0_0)
  l28 := View.ld b.x (Rect.unit (s := S128x2048) ![0, 768] S128x256.size inb_S128x2048_S128x256_0_768)
  l32 := View.ld b.z (Rect.unit (s := S128x2048) ![0, 768] S128x256.size inb_S128x2048_S128x256_0_768)
  l59 := View.ld b.nw (Rect.unit (s := S8x1x256) ![3, 0, 0] S1x1x256.size inb_S8x1x256_S1x1x256_3_0_0)
  l98 := View.ld b.dt (Rect.unit (s := S8x128x4) ![3, 0, 0] S1x128x4.size inb_S8x128x4_S1x128x4_3_0_0)
  l177 := View.ld b.dS (Rect.unit (s := S2048x128) ![768, 0] S256x128.size inb_S2048x128_S256x128_768_0)
  l184 := View.ld b.C (Rect.unit (s := S128x1024) ![0, 384] S128x128.size inb_S128x1024_S128x128_0_384)
  l214 := View.ld b.B (Rect.unit (s := S128x1024) ![0, 384] S128x128.size inb_S128x1024_S128x128_0_384)
  l282 := View.ld b.S (Rect.unit (s := S8x1x256x128) ![3, 0, 0, 0] S1x1x256x128.size inb_S8x1x256x128_S1x1x256x128_3_0_0_0)
  l544 := View.ld b.dp (Rect.unit (s := S8x3x4) ![3, 0, 0] S1x3x4.size inb_S8x3x4_S1x3x4_3_0_0)

theorem a3_0 : View.ld b.dnw (Rect.unit (s := S8x1x256) ![3, 0, 0] S1x1x256.size inb_S8x1x256_S1x1x256_3_0_0) = (G3 b).l0 := rfl
theorem b3_0 : View.ld b.dnw (Rect.unit (s := S8x1x256) ![3, 0, 0] ![1, 1, 256] inb_S8x1x256_S1x1x256_3_0_0) = (G3 b).l0 := rfl
theorem a3_2 : View.ld b.dyn (Rect.unit (s := S128x2048) ![0, 768] S128x256.size inb_S128x2048_S128x256_0_768) = (G3 b).l2 := rfl
theorem b3_2 : View.ld b.dyn (Rect.unit (s := S128x2048) ![0, 768] ![128, 256] inb_S128x2048_S128x256_0_768) = (G3 b).l2 := rfl
theorem a3_3 : View.ld b.y (Rect.unit (s := S128x2048) ![0, 768] S128x256.size inb_S128x2048_S128x256_0_768) = (G3 b).l3 := rfl
theorem b3_3 : View.ld b.y (Rect.unit (s := S128x2048) ![0, 768] ![128, 256] inb_S128x2048_S128x256_0_768) = (G3 b).l3 := rfl
theorem a3_8 : View.ld b.par (Rect.unit (s := S8x3x4) ![3, 0, 0] S1x3x4.size inb_S8x3x4_S1x3x4_3_0_0) = (G3 b).l8 := rfl
theorem b3_8 : View.ld b.par (Rect.unit (s := S8x3x4) ![3, 0, 0] ![1, 3, 4] inb_S8x3x4_S1x3x4_3_0_0) = (G3 b).l8 := rfl
theorem a3_28 : View.ld b.x (Rect.unit (s := S128x2048) ![0, 768] S128x256.size inb_S128x2048_S128x256_0_768) = (G3 b).l28 := rfl
theorem b3_28 : View.ld b.x (Rect.unit (s := S128x2048) ![0, 768] ![128, 256] inb_S128x2048_S128x256_0_768) = (G3 b).l28 := rfl
theorem a3_32 : View.ld b.z (Rect.unit (s := S128x2048) ![0, 768] S128x256.size inb_S128x2048_S128x256_0_768) = (G3 b).l32 := rfl
theorem b3_32 : View.ld b.z (Rect.unit (s := S128x2048) ![0, 768] ![128, 256] inb_S128x2048_S128x256_0_768) = (G3 b).l32 := rfl
theorem a3_59 : View.ld b.nw (Rect.unit (s := S8x1x256) ![3, 0, 0] S1x1x256.size inb_S8x1x256_S1x1x256_3_0_0) = (G3 b).l59 := rfl
theorem b3_59 : View.ld b.nw (Rect.unit (s := S8x1x256) ![3, 0, 0] ![1, 1, 256] inb_S8x1x256_S1x1x256_3_0_0) = (G3 b).l59 := rfl
theorem a3_98 : View.ld b.dt (Rect.unit (s := S8x128x4) ![3, 0, 0] S1x128x4.size inb_S8x128x4_S1x128x4_3_0_0) = (G3 b).l98 := rfl
theorem b3_98 : View.ld b.dt (Rect.unit (s := S8x128x4) ![3, 0, 0] ![1, 128, 4] inb_S8x128x4_S1x128x4_3_0_0) = (G3 b).l98 := rfl
theorem a3_177 : View.ld b.dS (Rect.unit (s := S2048x128) ![768, 0] S256x128.size inb_S2048x128_S256x128_768_0) = (G3 b).l177 := rfl
theorem b3_177 : View.ld b.dS (Rect.unit (s := S2048x128) ![768, 0] ![256, 128] inb_S2048x128_S256x128_768_0) = (G3 b).l177 := rfl
theorem a3_184 : View.ld b.C (Rect.unit (s := S128x1024) ![0, 384] S128x128.size inb_S128x1024_S128x128_0_384) = (G3 b).l184 := rfl
theorem b3_184 : View.ld b.C (Rect.unit (s := S128x1024) ![0, 384] ![128, 128] inb_S128x1024_S128x128_0_384) = (G3 b).l184 := rfl
theorem a3_214 : View.ld b.B (Rect.unit (s := S128x1024) ![0, 384] S128x128.size inb_S128x1024_S128x128_0_384) = (G3 b).l214 := rfl
theorem b3_214 : View.ld b.B (Rect.unit (s := S128x1024) ![0, 384] ![128, 128] inb_S128x1024_S128x128_0_384) = (G3 b).l214 := rfl
theorem a3_282 : View.ld b.S (Rect.unit (s := S8x1x256x128) ![3, 0, 0, 0] S1x1x256x128.size inb_S8x1x256x128_S1x1x256x128_3_0_0_0) = (G3 b).l282 := rfl
theorem b3_282 : View.ld b.S (Rect.unit (s := S8x1x256x128) ![3, 0, 0, 0] ![1, 1, 256, 128] inb_S8x1x256x128_S1x1x256x128_3_0_0_0) = (G3 b).l282 := rfl
theorem a3_544 : View.ld b.dp (Rect.unit (s := S8x3x4) ![3, 0, 0] S1x3x4.size inb_S8x3x4_S1x3x4_3_0_0) = (G3 b).l544 := rfl
theorem b3_544 : View.ld b.dp (Rect.unit (s := S8x3x4) ![3, 0, 0] ![1, 3, 4] inb_S8x3x4_S1x3x4_3_0_0) = (G3 b).l544 := rfl

/-- What group 4 reads of a chunk's blocks. -/
def G4 : Loads F where
  l0 := View.ld b.dnw (Rect.unit (s := S8x1x256) ![4, 0, 0] S1x1x256.size inb_S8x1x256_S1x1x256_4_0_0)
  l2 := View.ld b.dyn (Rect.unit (s := S128x2048) ![0, 1024] S128x256.size inb_S128x2048_S128x256_0_1024)
  l3 := View.ld b.y (Rect.unit (s := S128x2048) ![0, 1024] S128x256.size inb_S128x2048_S128x256_0_1024)
  l8 := View.ld b.par (Rect.unit (s := S8x3x4) ![4, 0, 0] S1x3x4.size inb_S8x3x4_S1x3x4_4_0_0)
  l28 := View.ld b.x (Rect.unit (s := S128x2048) ![0, 1024] S128x256.size inb_S128x2048_S128x256_0_1024)
  l32 := View.ld b.z (Rect.unit (s := S128x2048) ![0, 1024] S128x256.size inb_S128x2048_S128x256_0_1024)
  l59 := View.ld b.nw (Rect.unit (s := S8x1x256) ![4, 0, 0] S1x1x256.size inb_S8x1x256_S1x1x256_4_0_0)
  l98 := View.ld b.dt (Rect.unit (s := S8x128x4) ![4, 0, 0] S1x128x4.size inb_S8x128x4_S1x128x4_4_0_0)
  l177 := View.ld b.dS (Rect.unit (s := S2048x128) ![1024, 0] S256x128.size inb_S2048x128_S256x128_1024_0)
  l184 := View.ld b.C (Rect.unit (s := S128x1024) ![0, 512] S128x128.size inb_S128x1024_S128x128_0_512)
  l214 := View.ld b.B (Rect.unit (s := S128x1024) ![0, 512] S128x128.size inb_S128x1024_S128x128_0_512)
  l282 := View.ld b.S (Rect.unit (s := S8x1x256x128) ![4, 0, 0, 0] S1x1x256x128.size inb_S8x1x256x128_S1x1x256x128_4_0_0_0)
  l544 := View.ld b.dp (Rect.unit (s := S8x3x4) ![4, 0, 0] S1x3x4.size inb_S8x3x4_S1x3x4_4_0_0)

theorem a4_0 : View.ld b.dnw (Rect.unit (s := S8x1x256) ![4, 0, 0] S1x1x256.size inb_S8x1x256_S1x1x256_4_0_0) = (G4 b).l0 := rfl
theorem b4_0 : View.ld b.dnw (Rect.unit (s := S8x1x256) ![4, 0, 0] ![1, 1, 256] inb_S8x1x256_S1x1x256_4_0_0) = (G4 b).l0 := rfl
theorem a4_2 : View.ld b.dyn (Rect.unit (s := S128x2048) ![0, 1024] S128x256.size inb_S128x2048_S128x256_0_1024) = (G4 b).l2 := rfl
theorem b4_2 : View.ld b.dyn (Rect.unit (s := S128x2048) ![0, 1024] ![128, 256] inb_S128x2048_S128x256_0_1024) = (G4 b).l2 := rfl
theorem a4_3 : View.ld b.y (Rect.unit (s := S128x2048) ![0, 1024] S128x256.size inb_S128x2048_S128x256_0_1024) = (G4 b).l3 := rfl
theorem b4_3 : View.ld b.y (Rect.unit (s := S128x2048) ![0, 1024] ![128, 256] inb_S128x2048_S128x256_0_1024) = (G4 b).l3 := rfl
theorem a4_8 : View.ld b.par (Rect.unit (s := S8x3x4) ![4, 0, 0] S1x3x4.size inb_S8x3x4_S1x3x4_4_0_0) = (G4 b).l8 := rfl
theorem b4_8 : View.ld b.par (Rect.unit (s := S8x3x4) ![4, 0, 0] ![1, 3, 4] inb_S8x3x4_S1x3x4_4_0_0) = (G4 b).l8 := rfl
theorem a4_28 : View.ld b.x (Rect.unit (s := S128x2048) ![0, 1024] S128x256.size inb_S128x2048_S128x256_0_1024) = (G4 b).l28 := rfl
theorem b4_28 : View.ld b.x (Rect.unit (s := S128x2048) ![0, 1024] ![128, 256] inb_S128x2048_S128x256_0_1024) = (G4 b).l28 := rfl
theorem a4_32 : View.ld b.z (Rect.unit (s := S128x2048) ![0, 1024] S128x256.size inb_S128x2048_S128x256_0_1024) = (G4 b).l32 := rfl
theorem b4_32 : View.ld b.z (Rect.unit (s := S128x2048) ![0, 1024] ![128, 256] inb_S128x2048_S128x256_0_1024) = (G4 b).l32 := rfl
theorem a4_59 : View.ld b.nw (Rect.unit (s := S8x1x256) ![4, 0, 0] S1x1x256.size inb_S8x1x256_S1x1x256_4_0_0) = (G4 b).l59 := rfl
theorem b4_59 : View.ld b.nw (Rect.unit (s := S8x1x256) ![4, 0, 0] ![1, 1, 256] inb_S8x1x256_S1x1x256_4_0_0) = (G4 b).l59 := rfl
theorem a4_98 : View.ld b.dt (Rect.unit (s := S8x128x4) ![4, 0, 0] S1x128x4.size inb_S8x128x4_S1x128x4_4_0_0) = (G4 b).l98 := rfl
theorem b4_98 : View.ld b.dt (Rect.unit (s := S8x128x4) ![4, 0, 0] ![1, 128, 4] inb_S8x128x4_S1x128x4_4_0_0) = (G4 b).l98 := rfl
theorem a4_177 : View.ld b.dS (Rect.unit (s := S2048x128) ![1024, 0] S256x128.size inb_S2048x128_S256x128_1024_0) = (G4 b).l177 := rfl
theorem b4_177 : View.ld b.dS (Rect.unit (s := S2048x128) ![1024, 0] ![256, 128] inb_S2048x128_S256x128_1024_0) = (G4 b).l177 := rfl
theorem a4_184 : View.ld b.C (Rect.unit (s := S128x1024) ![0, 512] S128x128.size inb_S128x1024_S128x128_0_512) = (G4 b).l184 := rfl
theorem b4_184 : View.ld b.C (Rect.unit (s := S128x1024) ![0, 512] ![128, 128] inb_S128x1024_S128x128_0_512) = (G4 b).l184 := rfl
theorem a4_214 : View.ld b.B (Rect.unit (s := S128x1024) ![0, 512] S128x128.size inb_S128x1024_S128x128_0_512) = (G4 b).l214 := rfl
theorem b4_214 : View.ld b.B (Rect.unit (s := S128x1024) ![0, 512] ![128, 128] inb_S128x1024_S128x128_0_512) = (G4 b).l214 := rfl
theorem a4_282 : View.ld b.S (Rect.unit (s := S8x1x256x128) ![4, 0, 0, 0] S1x1x256x128.size inb_S8x1x256x128_S1x1x256x128_4_0_0_0) = (G4 b).l282 := rfl
theorem b4_282 : View.ld b.S (Rect.unit (s := S8x1x256x128) ![4, 0, 0, 0] ![1, 1, 256, 128] inb_S8x1x256x128_S1x1x256x128_4_0_0_0) = (G4 b).l282 := rfl
theorem a4_544 : View.ld b.dp (Rect.unit (s := S8x3x4) ![4, 0, 0] S1x3x4.size inb_S8x3x4_S1x3x4_4_0_0) = (G4 b).l544 := rfl
theorem b4_544 : View.ld b.dp (Rect.unit (s := S8x3x4) ![4, 0, 0] ![1, 3, 4] inb_S8x3x4_S1x3x4_4_0_0) = (G4 b).l544 := rfl

/-- What group 5 reads of a chunk's blocks. -/
def G5 : Loads F where
  l0 := View.ld b.dnw (Rect.unit (s := S8x1x256) ![5, 0, 0] S1x1x256.size inb_S8x1x256_S1x1x256_5_0_0)
  l2 := View.ld b.dyn (Rect.unit (s := S128x2048) ![0, 1280] S128x256.size inb_S128x2048_S128x256_0_1280)
  l3 := View.ld b.y (Rect.unit (s := S128x2048) ![0, 1280] S128x256.size inb_S128x2048_S128x256_0_1280)
  l8 := View.ld b.par (Rect.unit (s := S8x3x4) ![5, 0, 0] S1x3x4.size inb_S8x3x4_S1x3x4_5_0_0)
  l28 := View.ld b.x (Rect.unit (s := S128x2048) ![0, 1280] S128x256.size inb_S128x2048_S128x256_0_1280)
  l32 := View.ld b.z (Rect.unit (s := S128x2048) ![0, 1280] S128x256.size inb_S128x2048_S128x256_0_1280)
  l59 := View.ld b.nw (Rect.unit (s := S8x1x256) ![5, 0, 0] S1x1x256.size inb_S8x1x256_S1x1x256_5_0_0)
  l98 := View.ld b.dt (Rect.unit (s := S8x128x4) ![5, 0, 0] S1x128x4.size inb_S8x128x4_S1x128x4_5_0_0)
  l177 := View.ld b.dS (Rect.unit (s := S2048x128) ![1280, 0] S256x128.size inb_S2048x128_S256x128_1280_0)
  l184 := View.ld b.C (Rect.unit (s := S128x1024) ![0, 640] S128x128.size inb_S128x1024_S128x128_0_640)
  l214 := View.ld b.B (Rect.unit (s := S128x1024) ![0, 640] S128x128.size inb_S128x1024_S128x128_0_640)
  l282 := View.ld b.S (Rect.unit (s := S8x1x256x128) ![5, 0, 0, 0] S1x1x256x128.size inb_S8x1x256x128_S1x1x256x128_5_0_0_0)
  l544 := View.ld b.dp (Rect.unit (s := S8x3x4) ![5, 0, 0] S1x3x4.size inb_S8x3x4_S1x3x4_5_0_0)

theorem a5_0 : View.ld b.dnw (Rect.unit (s := S8x1x256) ![5, 0, 0] S1x1x256.size inb_S8x1x256_S1x1x256_5_0_0) = (G5 b).l0 := rfl
theorem b5_0 : View.ld b.dnw (Rect.unit (s := S8x1x256) ![5, 0, 0] ![1, 1, 256] inb_S8x1x256_S1x1x256_5_0_0) = (G5 b).l0 := rfl
theorem a5_2 : View.ld b.dyn (Rect.unit (s := S128x2048) ![0, 1280] S128x256.size inb_S128x2048_S128x256_0_1280) = (G5 b).l2 := rfl
theorem b5_2 : View.ld b.dyn (Rect.unit (s := S128x2048) ![0, 1280] ![128, 256] inb_S128x2048_S128x256_0_1280) = (G5 b).l2 := rfl
theorem a5_3 : View.ld b.y (Rect.unit (s := S128x2048) ![0, 1280] S128x256.size inb_S128x2048_S128x256_0_1280) = (G5 b).l3 := rfl
theorem b5_3 : View.ld b.y (Rect.unit (s := S128x2048) ![0, 1280] ![128, 256] inb_S128x2048_S128x256_0_1280) = (G5 b).l3 := rfl
theorem a5_8 : View.ld b.par (Rect.unit (s := S8x3x4) ![5, 0, 0] S1x3x4.size inb_S8x3x4_S1x3x4_5_0_0) = (G5 b).l8 := rfl
theorem b5_8 : View.ld b.par (Rect.unit (s := S8x3x4) ![5, 0, 0] ![1, 3, 4] inb_S8x3x4_S1x3x4_5_0_0) = (G5 b).l8 := rfl
theorem a5_28 : View.ld b.x (Rect.unit (s := S128x2048) ![0, 1280] S128x256.size inb_S128x2048_S128x256_0_1280) = (G5 b).l28 := rfl
theorem b5_28 : View.ld b.x (Rect.unit (s := S128x2048) ![0, 1280] ![128, 256] inb_S128x2048_S128x256_0_1280) = (G5 b).l28 := rfl
theorem a5_32 : View.ld b.z (Rect.unit (s := S128x2048) ![0, 1280] S128x256.size inb_S128x2048_S128x256_0_1280) = (G5 b).l32 := rfl
theorem b5_32 : View.ld b.z (Rect.unit (s := S128x2048) ![0, 1280] ![128, 256] inb_S128x2048_S128x256_0_1280) = (G5 b).l32 := rfl
theorem a5_59 : View.ld b.nw (Rect.unit (s := S8x1x256) ![5, 0, 0] S1x1x256.size inb_S8x1x256_S1x1x256_5_0_0) = (G5 b).l59 := rfl
theorem b5_59 : View.ld b.nw (Rect.unit (s := S8x1x256) ![5, 0, 0] ![1, 1, 256] inb_S8x1x256_S1x1x256_5_0_0) = (G5 b).l59 := rfl
theorem a5_98 : View.ld b.dt (Rect.unit (s := S8x128x4) ![5, 0, 0] S1x128x4.size inb_S8x128x4_S1x128x4_5_0_0) = (G5 b).l98 := rfl
theorem b5_98 : View.ld b.dt (Rect.unit (s := S8x128x4) ![5, 0, 0] ![1, 128, 4] inb_S8x128x4_S1x128x4_5_0_0) = (G5 b).l98 := rfl
theorem a5_177 : View.ld b.dS (Rect.unit (s := S2048x128) ![1280, 0] S256x128.size inb_S2048x128_S256x128_1280_0) = (G5 b).l177 := rfl
theorem b5_177 : View.ld b.dS (Rect.unit (s := S2048x128) ![1280, 0] ![256, 128] inb_S2048x128_S256x128_1280_0) = (G5 b).l177 := rfl
theorem a5_184 : View.ld b.C (Rect.unit (s := S128x1024) ![0, 640] S128x128.size inb_S128x1024_S128x128_0_640) = (G5 b).l184 := rfl
theorem b5_184 : View.ld b.C (Rect.unit (s := S128x1024) ![0, 640] ![128, 128] inb_S128x1024_S128x128_0_640) = (G5 b).l184 := rfl
theorem a5_214 : View.ld b.B (Rect.unit (s := S128x1024) ![0, 640] S128x128.size inb_S128x1024_S128x128_0_640) = (G5 b).l214 := rfl
theorem b5_214 : View.ld b.B (Rect.unit (s := S128x1024) ![0, 640] ![128, 128] inb_S128x1024_S128x128_0_640) = (G5 b).l214 := rfl
theorem a5_282 : View.ld b.S (Rect.unit (s := S8x1x256x128) ![5, 0, 0, 0] S1x1x256x128.size inb_S8x1x256x128_S1x1x256x128_5_0_0_0) = (G5 b).l282 := rfl
theorem b5_282 : View.ld b.S (Rect.unit (s := S8x1x256x128) ![5, 0, 0, 0] ![1, 1, 256, 128] inb_S8x1x256x128_S1x1x256x128_5_0_0_0) = (G5 b).l282 := rfl
theorem a5_544 : View.ld b.dp (Rect.unit (s := S8x3x4) ![5, 0, 0] S1x3x4.size inb_S8x3x4_S1x3x4_5_0_0) = (G5 b).l544 := rfl
theorem b5_544 : View.ld b.dp (Rect.unit (s := S8x3x4) ![5, 0, 0] ![1, 3, 4] inb_S8x3x4_S1x3x4_5_0_0) = (G5 b).l544 := rfl

/-- What group 6 reads of a chunk's blocks. -/
def G6 : Loads F where
  l0 := View.ld b.dnw (Rect.unit (s := S8x1x256) ![6, 0, 0] S1x1x256.size inb_S8x1x256_S1x1x256_6_0_0)
  l2 := View.ld b.dyn (Rect.unit (s := S128x2048) ![0, 1536] S128x256.size inb_S128x2048_S128x256_0_1536)
  l3 := View.ld b.y (Rect.unit (s := S128x2048) ![0, 1536] S128x256.size inb_S128x2048_S128x256_0_1536)
  l8 := View.ld b.par (Rect.unit (s := S8x3x4) ![6, 0, 0] S1x3x4.size inb_S8x3x4_S1x3x4_6_0_0)
  l28 := View.ld b.x (Rect.unit (s := S128x2048) ![0, 1536] S128x256.size inb_S128x2048_S128x256_0_1536)
  l32 := View.ld b.z (Rect.unit (s := S128x2048) ![0, 1536] S128x256.size inb_S128x2048_S128x256_0_1536)
  l59 := View.ld b.nw (Rect.unit (s := S8x1x256) ![6, 0, 0] S1x1x256.size inb_S8x1x256_S1x1x256_6_0_0)
  l98 := View.ld b.dt (Rect.unit (s := S8x128x4) ![6, 0, 0] S1x128x4.size inb_S8x128x4_S1x128x4_6_0_0)
  l177 := View.ld b.dS (Rect.unit (s := S2048x128) ![1536, 0] S256x128.size inb_S2048x128_S256x128_1536_0)
  l184 := View.ld b.C (Rect.unit (s := S128x1024) ![0, 768] S128x128.size inb_S128x1024_S128x128_0_768)
  l214 := View.ld b.B (Rect.unit (s := S128x1024) ![0, 768] S128x128.size inb_S128x1024_S128x128_0_768)
  l282 := View.ld b.S (Rect.unit (s := S8x1x256x128) ![6, 0, 0, 0] S1x1x256x128.size inb_S8x1x256x128_S1x1x256x128_6_0_0_0)
  l544 := View.ld b.dp (Rect.unit (s := S8x3x4) ![6, 0, 0] S1x3x4.size inb_S8x3x4_S1x3x4_6_0_0)

theorem a6_0 : View.ld b.dnw (Rect.unit (s := S8x1x256) ![6, 0, 0] S1x1x256.size inb_S8x1x256_S1x1x256_6_0_0) = (G6 b).l0 := rfl
theorem b6_0 : View.ld b.dnw (Rect.unit (s := S8x1x256) ![6, 0, 0] ![1, 1, 256] inb_S8x1x256_S1x1x256_6_0_0) = (G6 b).l0 := rfl
theorem a6_2 : View.ld b.dyn (Rect.unit (s := S128x2048) ![0, 1536] S128x256.size inb_S128x2048_S128x256_0_1536) = (G6 b).l2 := rfl
theorem b6_2 : View.ld b.dyn (Rect.unit (s := S128x2048) ![0, 1536] ![128, 256] inb_S128x2048_S128x256_0_1536) = (G6 b).l2 := rfl
theorem a6_3 : View.ld b.y (Rect.unit (s := S128x2048) ![0, 1536] S128x256.size inb_S128x2048_S128x256_0_1536) = (G6 b).l3 := rfl
theorem b6_3 : View.ld b.y (Rect.unit (s := S128x2048) ![0, 1536] ![128, 256] inb_S128x2048_S128x256_0_1536) = (G6 b).l3 := rfl
theorem a6_8 : View.ld b.par (Rect.unit (s := S8x3x4) ![6, 0, 0] S1x3x4.size inb_S8x3x4_S1x3x4_6_0_0) = (G6 b).l8 := rfl
theorem b6_8 : View.ld b.par (Rect.unit (s := S8x3x4) ![6, 0, 0] ![1, 3, 4] inb_S8x3x4_S1x3x4_6_0_0) = (G6 b).l8 := rfl
theorem a6_28 : View.ld b.x (Rect.unit (s := S128x2048) ![0, 1536] S128x256.size inb_S128x2048_S128x256_0_1536) = (G6 b).l28 := rfl
theorem b6_28 : View.ld b.x (Rect.unit (s := S128x2048) ![0, 1536] ![128, 256] inb_S128x2048_S128x256_0_1536) = (G6 b).l28 := rfl
theorem a6_32 : View.ld b.z (Rect.unit (s := S128x2048) ![0, 1536] S128x256.size inb_S128x2048_S128x256_0_1536) = (G6 b).l32 := rfl
theorem b6_32 : View.ld b.z (Rect.unit (s := S128x2048) ![0, 1536] ![128, 256] inb_S128x2048_S128x256_0_1536) = (G6 b).l32 := rfl
theorem a6_59 : View.ld b.nw (Rect.unit (s := S8x1x256) ![6, 0, 0] S1x1x256.size inb_S8x1x256_S1x1x256_6_0_0) = (G6 b).l59 := rfl
theorem b6_59 : View.ld b.nw (Rect.unit (s := S8x1x256) ![6, 0, 0] ![1, 1, 256] inb_S8x1x256_S1x1x256_6_0_0) = (G6 b).l59 := rfl
theorem a6_98 : View.ld b.dt (Rect.unit (s := S8x128x4) ![6, 0, 0] S1x128x4.size inb_S8x128x4_S1x128x4_6_0_0) = (G6 b).l98 := rfl
theorem b6_98 : View.ld b.dt (Rect.unit (s := S8x128x4) ![6, 0, 0] ![1, 128, 4] inb_S8x128x4_S1x128x4_6_0_0) = (G6 b).l98 := rfl
theorem a6_177 : View.ld b.dS (Rect.unit (s := S2048x128) ![1536, 0] S256x128.size inb_S2048x128_S256x128_1536_0) = (G6 b).l177 := rfl
theorem b6_177 : View.ld b.dS (Rect.unit (s := S2048x128) ![1536, 0] ![256, 128] inb_S2048x128_S256x128_1536_0) = (G6 b).l177 := rfl
theorem a6_184 : View.ld b.C (Rect.unit (s := S128x1024) ![0, 768] S128x128.size inb_S128x1024_S128x128_0_768) = (G6 b).l184 := rfl
theorem b6_184 : View.ld b.C (Rect.unit (s := S128x1024) ![0, 768] ![128, 128] inb_S128x1024_S128x128_0_768) = (G6 b).l184 := rfl
theorem a6_214 : View.ld b.B (Rect.unit (s := S128x1024) ![0, 768] S128x128.size inb_S128x1024_S128x128_0_768) = (G6 b).l214 := rfl
theorem b6_214 : View.ld b.B (Rect.unit (s := S128x1024) ![0, 768] ![128, 128] inb_S128x1024_S128x128_0_768) = (G6 b).l214 := rfl
theorem a6_282 : View.ld b.S (Rect.unit (s := S8x1x256x128) ![6, 0, 0, 0] S1x1x256x128.size inb_S8x1x256x128_S1x1x256x128_6_0_0_0) = (G6 b).l282 := rfl
theorem b6_282 : View.ld b.S (Rect.unit (s := S8x1x256x128) ![6, 0, 0, 0] ![1, 1, 256, 128] inb_S8x1x256x128_S1x1x256x128_6_0_0_0) = (G6 b).l282 := rfl
theorem a6_544 : View.ld b.dp (Rect.unit (s := S8x3x4) ![6, 0, 0] S1x3x4.size inb_S8x3x4_S1x3x4_6_0_0) = (G6 b).l544 := rfl
theorem b6_544 : View.ld b.dp (Rect.unit (s := S8x3x4) ![6, 0, 0] ![1, 3, 4] inb_S8x3x4_S1x3x4_6_0_0) = (G6 b).l544 := rfl

/-- What group 7 reads of a chunk's blocks. -/
def G7 : Loads F where
  l0 := View.ld b.dnw (Rect.unit (s := S8x1x256) ![7, 0, 0] S1x1x256.size inb_S8x1x256_S1x1x256_7_0_0)
  l2 := View.ld b.dyn (Rect.unit (s := S128x2048) ![0, 1792] S128x256.size inb_S128x2048_S128x256_0_1792)
  l3 := View.ld b.y (Rect.unit (s := S128x2048) ![0, 1792] S128x256.size inb_S128x2048_S128x256_0_1792)
  l8 := View.ld b.par (Rect.unit (s := S8x3x4) ![7, 0, 0] S1x3x4.size inb_S8x3x4_S1x3x4_7_0_0)
  l28 := View.ld b.x (Rect.unit (s := S128x2048) ![0, 1792] S128x256.size inb_S128x2048_S128x256_0_1792)
  l32 := View.ld b.z (Rect.unit (s := S128x2048) ![0, 1792] S128x256.size inb_S128x2048_S128x256_0_1792)
  l59 := View.ld b.nw (Rect.unit (s := S8x1x256) ![7, 0, 0] S1x1x256.size inb_S8x1x256_S1x1x256_7_0_0)
  l98 := View.ld b.dt (Rect.unit (s := S8x128x4) ![7, 0, 0] S1x128x4.size inb_S8x128x4_S1x128x4_7_0_0)
  l177 := View.ld b.dS (Rect.unit (s := S2048x128) ![1792, 0] S256x128.size inb_S2048x128_S256x128_1792_0)
  l184 := View.ld b.C (Rect.unit (s := S128x1024) ![0, 896] S128x128.size inb_S128x1024_S128x128_0_896)
  l214 := View.ld b.B (Rect.unit (s := S128x1024) ![0, 896] S128x128.size inb_S128x1024_S128x128_0_896)
  l282 := View.ld b.S (Rect.unit (s := S8x1x256x128) ![7, 0, 0, 0] S1x1x256x128.size inb_S8x1x256x128_S1x1x256x128_7_0_0_0)
  l544 := View.ld b.dp (Rect.unit (s := S8x3x4) ![7, 0, 0] S1x3x4.size inb_S8x3x4_S1x3x4_7_0_0)

theorem a7_0 : View.ld b.dnw (Rect.unit (s := S8x1x256) ![7, 0, 0] S1x1x256.size inb_S8x1x256_S1x1x256_7_0_0) = (G7 b).l0 := rfl
theorem b7_0 : View.ld b.dnw (Rect.unit (s := S8x1x256) ![7, 0, 0] ![1, 1, 256] inb_S8x1x256_S1x1x256_7_0_0) = (G7 b).l0 := rfl
theorem a7_2 : View.ld b.dyn (Rect.unit (s := S128x2048) ![0, 1792] S128x256.size inb_S128x2048_S128x256_0_1792) = (G7 b).l2 := rfl
theorem b7_2 : View.ld b.dyn (Rect.unit (s := S128x2048) ![0, 1792] ![128, 256] inb_S128x2048_S128x256_0_1792) = (G7 b).l2 := rfl
theorem a7_3 : View.ld b.y (Rect.unit (s := S128x2048) ![0, 1792] S128x256.size inb_S128x2048_S128x256_0_1792) = (G7 b).l3 := rfl
theorem b7_3 : View.ld b.y (Rect.unit (s := S128x2048) ![0, 1792] ![128, 256] inb_S128x2048_S128x256_0_1792) = (G7 b).l3 := rfl
theorem a7_8 : View.ld b.par (Rect.unit (s := S8x3x4) ![7, 0, 0] S1x3x4.size inb_S8x3x4_S1x3x4_7_0_0) = (G7 b).l8 := rfl
theorem b7_8 : View.ld b.par (Rect.unit (s := S8x3x4) ![7, 0, 0] ![1, 3, 4] inb_S8x3x4_S1x3x4_7_0_0) = (G7 b).l8 := rfl
theorem a7_28 : View.ld b.x (Rect.unit (s := S128x2048) ![0, 1792] S128x256.size inb_S128x2048_S128x256_0_1792) = (G7 b).l28 := rfl
theorem b7_28 : View.ld b.x (Rect.unit (s := S128x2048) ![0, 1792] ![128, 256] inb_S128x2048_S128x256_0_1792) = (G7 b).l28 := rfl
theorem a7_32 : View.ld b.z (Rect.unit (s := S128x2048) ![0, 1792] S128x256.size inb_S128x2048_S128x256_0_1792) = (G7 b).l32 := rfl
theorem b7_32 : View.ld b.z (Rect.unit (s := S128x2048) ![0, 1792] ![128, 256] inb_S128x2048_S128x256_0_1792) = (G7 b).l32 := rfl
theorem a7_59 : View.ld b.nw (Rect.unit (s := S8x1x256) ![7, 0, 0] S1x1x256.size inb_S8x1x256_S1x1x256_7_0_0) = (G7 b).l59 := rfl
theorem b7_59 : View.ld b.nw (Rect.unit (s := S8x1x256) ![7, 0, 0] ![1, 1, 256] inb_S8x1x256_S1x1x256_7_0_0) = (G7 b).l59 := rfl
theorem a7_98 : View.ld b.dt (Rect.unit (s := S8x128x4) ![7, 0, 0] S1x128x4.size inb_S8x128x4_S1x128x4_7_0_0) = (G7 b).l98 := rfl
theorem b7_98 : View.ld b.dt (Rect.unit (s := S8x128x4) ![7, 0, 0] ![1, 128, 4] inb_S8x128x4_S1x128x4_7_0_0) = (G7 b).l98 := rfl
theorem a7_177 : View.ld b.dS (Rect.unit (s := S2048x128) ![1792, 0] S256x128.size inb_S2048x128_S256x128_1792_0) = (G7 b).l177 := rfl
theorem b7_177 : View.ld b.dS (Rect.unit (s := S2048x128) ![1792, 0] ![256, 128] inb_S2048x128_S256x128_1792_0) = (G7 b).l177 := rfl
theorem a7_184 : View.ld b.C (Rect.unit (s := S128x1024) ![0, 896] S128x128.size inb_S128x1024_S128x128_0_896) = (G7 b).l184 := rfl
theorem b7_184 : View.ld b.C (Rect.unit (s := S128x1024) ![0, 896] ![128, 128] inb_S128x1024_S128x128_0_896) = (G7 b).l184 := rfl
theorem a7_214 : View.ld b.B (Rect.unit (s := S128x1024) ![0, 896] S128x128.size inb_S128x1024_S128x128_0_896) = (G7 b).l214 := rfl
theorem b7_214 : View.ld b.B (Rect.unit (s := S128x1024) ![0, 896] ![128, 128] inb_S128x1024_S128x128_0_896) = (G7 b).l214 := rfl
theorem a7_282 : View.ld b.S (Rect.unit (s := S8x1x256x128) ![7, 0, 0, 0] S1x1x256x128.size inb_S8x1x256x128_S1x1x256x128_7_0_0_0) = (G7 b).l282 := rfl
theorem b7_282 : View.ld b.S (Rect.unit (s := S8x1x256x128) ![7, 0, 0, 0] ![1, 1, 256, 128] inb_S8x1x256x128_S1x1x256x128_7_0_0_0) = (G7 b).l282 := rfl
theorem a7_544 : View.ld b.dp (Rect.unit (s := S8x3x4) ![7, 0, 0] S1x3x4.size inb_S8x3x4_S1x3x4_7_0_0) = (G7 b).l544 := rfl
theorem b7_544 : View.ld b.dp (Rect.unit (s := S8x3x4) ![7, 0, 0] ![1, 3, 4] inb_S8x3x4_S1x3x4_7_0_0) = (G7 b).l544 := rfl

end Cert.KernelIdeal.Group
-- ==== Proof.Canon.lean ====
/- What a chunk leaves in each output block, from the pieces that the body stores. -/
module

public import proofs.«01_k».proof.Proof.Lift3
public import proofs.«01_k».proof.Proof.Groups
public import Idealize.ShloMosaic.Lib.Pipeline.ValueKit.Tiles

@[expose] public section

set_option maxRecDepth 16384

noncomputable section

namespace Cert.KernelIdeal.Group

open Cert.Ssd Cert.KernelIdeal Cert.KernelIdeal.Gen
open Idealize.ShloMosaic Idealize.SL.Sem

/-- Pieces behind those that hold an index do not matter there. -/
theorem canon_append {S : Shape} {e : EltTy} : ∀ (L M : List (View.Piece (Elt Ideal) S e)) (y : S.Idx) (v : Elt Ideal e),
    (∃ p ∈ L, y ∈ p.1.set) → View.AllAt L y v → View.canon (L ++ M) y = v
  | [], _, _, _, hc, _ => by obtain ⟨p, hp, _⟩ := hc; exact absurd hp List.not_mem_nil
  | p :: L, M, y, v, hc, h => by
    by_cases hm : y ∈ p.1.set
    · obtain ⟨x, rfl⟩ := p.1.exists_idx_of_mem hm
      rw [List.cons_append, show p.1.idx x = p.1.emb x from rfl, View.canon_cons_emb]
      exact h p List.mem_cons_self x rfl
    · rw [List.cons_append, View.canon_cons_of_not_mem _ _ hm]
      refine canon_append L M y v ?_ fun q hq => h q (List.mem_cons_of_mem _ hq)
      obtain ⟨q, hq, hyq⟩ := hc
      rcases List.mem_cons.mp hq with rfl | hq'
      · exact absurd hyq hm
      · exact ⟨q, hq', hyq⟩

theorem tile2 {S0 S1 a b : ℕ} {e : EltTy} (o0 o1 : ℕ) (w : (⟨2, ![a, b]⟩ : Shape).Idx → Elt Ideal e) (y0 : Fin S0) (y1 : Fin S1) (v : Elt Ideal e)
    (h : ∀ (i : Fin a) (j : Fin b), y0.val = o0 + i.val → y1.val = o1 + j.val → w (ix2 i j) = v) :
    View.TileAt (S := ⟨2, ![S0, S1]⟩) (Val := Elt Ideal) (ix2 y0 y1) ![o0, o1] ![a, b] w v := by
  intro x hx
  obtain ⟨i, j, rfl⟩ : ∃ (i : Fin a) (j : Fin b), x = ix2 i j := ⟨x 0, x 1, eq_ix2 x⟩
  exact h i j (hx 0) (hx 1)

theorem tile3 {S0 S1 S2 a b c : ℕ} {e : EltTy} (o0 o1 o2 : ℕ) (w : (⟨3, ![a, b, c]⟩ : Shape).Idx → Elt Ideal e) (y0 : Fin S0) (y1 : Fin S1) (y2 : Fin S2)
    (v : Elt Ideal e)
    (h : ∀ (i : Fin a) (j : Fin b) (k : Fin c), y0.val = o0 + i.val → y1.val = o1 + j.val → y2.val = o2 + k.val → w (ix3 i j k) = v) :
    View.TileAt (S := ⟨3, ![S0, S1, S2]⟩) (Val := Elt Ideal) (ix3 y0 y1 y2) ![o0, o1, o2] ![a, b, c] w v := by
  intro x hx
  obtain ⟨i, j, k, rfl⟩ : ∃ (i : Fin a) (j : Fin b) (k : Fin c), x = ix3 i j k := ⟨x 0, x 1, x 2, eq_ix3 x⟩
  exact h i j k (hx 0) (hx 1) (hx 2)

/-- The blocks `b` hold the chunk `I g` for every group `g`. -/
structure ReadsAll (b : Blocks Ideal) (I : Fin 8 → In) (an : Fin 8 → Fin 256 → ℝ) (ap : Fin 8 → Fin 3 → Fin 4 → ℝ) : Prop where
  r0 : Reads (G0 b) (I 0) (an 0) (ap 0)
  r1 : Reads (G1 b) (I 1) (an 1) (ap 1)
  r2 : Reads (G2 b) (I 2) (an 2) (ap 2)
  r3 : Reads (G3 b) (I 3) (an 3) (ap 3)
  r4 : Reads (G4 b) (I 4) (an 4) (ap 4)
  r5 : Reads (G5 b) (I 5) (an 5) (ap 5)
  r6 : Reads (G6 b) (I 6) (an 6) (ap 6)
  r7 : Reads (G7 b) (I 7) (an 7) (ap 7)

variable {b : Blocks Ideal} {I : Fin 8 → In} {an : Fin 8 → Fin 256 → ℝ} {ap : Fin 8 → Fin 3 → Fin 4 → ℝ}

/-- The pieces of one chunk. -/
def lDconv (b : Blocks Ideal) : List (View.Piece (Elt Ideal) S128x4096 .bf16) := [⟨(Rect.unit (s := S128x4096) ![0, 2944] S128x128.size inb_S128x4096_S128x128_0_2944), t351 (G7 b)⟩,
 ⟨(Rect.unit (s := S128x4096) ![0, 3968] S128x128.size inb_S128x4096_S128x128_0_3968), t324 (G7 b)⟩,
 ⟨(Rect.unit (s := S128x4096) ![0, 1792] S128x256.size inb_S128x4096_S128x256_0_1792), t281 (G7 b)⟩,
 ⟨(Rect.unit (s := S128x4096) ![0, 2816] S128x128.size inb_S128x4096_S128x128_0_2816), t351 (G6 b)⟩,
 ⟨(Rect.unit (s := S128x4096) ![0, 3840] S128x128.size inb_S128x4096_S128x128_0_3840), t324 (G6 b)⟩,
 ⟨(Rect.unit (s := S128x4096) ![0, 1536] S128x256.size inb_S128x4096_S128x256_0_1536), t281 (G6 b)⟩,
 ⟨(Rect.unit (s := S128x4096) ![0, 2688] S128x128.size inb_S128x4096_S128x128_0_2688), t351 (G5 b)⟩,
 ⟨(Rect.unit (s := S128x4096) ![0, 3712] S128x128.size inb_S128x4096_S128x128_0_3712), t324 (G5 b)⟩,
 ⟨(Rect.unit (s := S128x4096) ![0, 1280] S128x256.size inb_S128x4096_S128x256_0_1280), t281 (G5 b)⟩,
 ⟨(Rect.unit (s := S128x4096) ![0, 2560] S128x128.size inb_S128x4096_S128x128_0_2560), t351 (G4 b)⟩,
 ⟨(Rect.unit (s := S128x4096) ![0, 3584] S128x128.size inb_S128x4096_S128x128_0_3584), t324 (G4 b)⟩,
 ⟨(Rect.unit (s := S128x4096) ![0, 1024] S128x256.size inb_S128x4096_S128x256_0_1024), t281 (G4 b)⟩,
 ⟨(Rect.unit (s := S128x4096) ![0, 2432] S128x128.size inb_S128x4096_S128x128_0_2432), t351 (G3 b)⟩,
 ⟨(Rect.unit (s := S128x4096) ![0, 3456] S128x128.size inb_S128x4096_S128x128_0_3456), t324 (G3 b)⟩,
 ⟨(Rect.unit (s := S128x4096) ![0, 768] S128x256.size inb_S128x4096_S128x256_0_768), t281 (G3 b)⟩,
 ⟨(Rect.unit (s := S128x4096) ![0, 2304] S128x128.size inb_S128x4096_S128x128_0_2304), t351 (G2 b)⟩,
 ⟨(Rect.unit (s := S128x4096) ![0, 3328] S128x128.size inb_S128x4096_S128x128_0_3328), t324 (G2 b)⟩,
 ⟨(Rect.unit (s := S128x4096) ![0, 512] S128x256.size inb_S128x4096_S128x256_0_512), t281 (G2 b)⟩,
 ⟨(Rect.unit (s := S128x4096) ![0, 2176] S128x128.size inb_S128x4096_S128x128_0_2176), t351 (G1 b)⟩,
 ⟨(Rect.unit (s := S128x4096) ![0, 3200] S128x128.size inb_S128x4096_S128x128_0_3200), t324 (G1 b)⟩,
 ⟨(Rect.unit (s := S128x4096) ![0, 256] S128x256.size inb_S128x4096_S128x256_0_256), t281 (G1 b)⟩,
 ⟨(Rect.unit (s := S128x4096) ![0, 2048] S128x128.size inb_S128x4096_S128x128_0_2048), t351 (G0 b)⟩,
 ⟨(Rect.unit (s := S128x4096) ![0, 3072] S128x128.size inb_S128x4096_S128x128_0_3072), t324 (G0 b)⟩,
 ⟨(Rect.unit (s := S128x4096) ![0, 0] S128x256.size inb_S128x4096_S128x256_0_0), t281 (G0 b)⟩]

theorem at_dx (R : ReadsAll b I an ap) (g : Fin 8) (l : Fin 128) (w : Fin 256) :
    View.AllAt (lDconv b) (ix2 l (⟨g.val * 256 + w.val, by omega⟩ : Fin 4096) : S128x4096.Idx) (((I g).dx l w : ℝ) : EReal) := by
  unfold lDconv
  refine View.allAt_cons_unit _ _ _ _ _ (tile2 0 2944 _ _ _ _ fun i j h0 h1 => ?_) ?_
  · have e1 : g.val * 256 + w.val = 2944 + j.val := h1
    omega
  refine View.allAt_cons_unit _ _ _ _ _ (tile2 0 3968 _ _ _ _ fun i j h0 h1 => ?_) ?_
  · have e1 : g.val * 256 + w.val = 3968 + j.val := h1
    omega
  refine View.allAt_cons_unit _ _ _ _ _ (tile2 0 1792 _ _ _ _ fun i j h0 h1 => ?_) ?_
  · have e0 : l.val = 0 + i.val := h0
    have e1 : g.val * 256 + w.val = 1792 + j.val := h1
    obtain rfl : l = i := Fin.ext (by omega)
    obtain rfl : w = j := Fin.ext (by omega)
    obtain rfl : g = 7 := Fin.ext (by show g.val = 7; omega)
    exact r281 R.r7 _ _
  refine View.allAt_cons_unit _ _ _ _ _ (tile2 0 2816 _ _ _ _ fun i j h0 h1 => ?_) ?_
  · have e1 : g.val * 256 + w.val = 2816 + j.val := h1
    omega
  refine View.allAt_cons_unit _ _ _ _ _ (tile2 0 3840 _ _ _ _ fun i j h0 h1 => ?_) ?_
  · have e1 : g.val * 256 + w.val = 3840 + j.val := h1
    omega
  refine View.allAt_cons_unit _ _ _ _ _ (tile2 0 1536 _ _ _ _ fun i j h0 h1 => ?_) ?_
  · have e0 : l.val = 0 + i.val := h0
    have e1 : g.val * 256 + w.val = 1536 + j.val := h1
    obtain rfl : l = i := Fin.ext (by omega)
    obtain rfl : w = j := Fin.ext (by omega)
    obtain rfl : g = 6 := Fin.ext (by show g.val = 6; omega)
    exact r281 R.r6 _ _
  refine View.allAt_cons_unit _ _ _ _ _ (tile2 0 2688 _ _ _ _ fun i j h0 h1 => ?_) ?_
  · have e1 : g.val * 256 + w.val = 2688 + j.val := h1
    omega
  refine View.allAt_cons_unit _ _ _ _ _ (tile2 0 3712 _ _ _ _ fun i j h0 h1 => ?_) ?_
  · have e1 : g.val * 256 + w.val = 3712 + j.val := h1
    omega
  refine View.allAt_cons_unit _ _ _ _ _ (tile2 0 1280 _ _ _ _ fun i j h0 h1 => ?_) ?_
  · have e0 : l.val = 0 + i.val := h0
    have e1 : g.val * 256 + w.val = 1280 + j.val := h1
    obtain rfl : l = i := Fin.ext (by omega)
    obtain rfl : w = j := Fin.ext (by omega)
    obtain rfl : g = 5 := Fin.ext (by show g.val = 5; omega)
    exact r281 R.r5 _ _
  refine View.allAt_cons_unit _ _ _ _ _ (tile2 0 2560 _ _ _ _ fun i j h0 h1 => ?_) ?_
  · have e1 : g.val * 256 + w.val = 2560 + j.val := h1
    omega
  refine View.allAt_cons_unit _ _ _ _ _ (tile2 0 3584 _ _ _ _ fun i j h0 h1 => ?_) ?_
  · have e1 : g.val * 256 + w.val = 3584 + j.val := h1
    omega
  refine View.allAt_cons_unit _ _ _ _ _ (tile2 0 1024 _ _ _ _ fun i j h0 h1 => ?_) ?_
  · have e0 : l.val = 0 + i.val := h0
    have e1 : g.val * 256 + w.val = 1024 + j.val := h1
    obtain rfl : l = i := Fin.ext (by omega)
    obtain rfl : w = j := Fin.ext (by omega)
    obtain rfl : g = 4 := Fin.ext (by show g.val = 4; omega)
    exact r281 R.r4 _ _
  refine View.allAt_cons_unit _ _ _ _ _ (tile2 0 2432 _ _ _ _ fun i j h0 h1 => ?_) ?_
  · have e1 : g.val * 256 + w.val = 2432 + j.val := h1
    omega
  refine View.allAt_cons_unit _ _ _ _ _ (tile2 0 3456 _ _ _ _ fun i j h0 h1 => ?_) ?_
  · have e1 : g.val * 256 + w.val = 3456 + j.val := h1
    omega
  refine View.allAt_cons_unit _ _ _ _ _ (tile2 0 768 _ _ _ _ fun i j h0 h1 => ?_) ?_
  · have e0 : l.val = 0 + i.val := h0
    have e1 : g.val * 256 + w.val = 768 + j.val := h1
    obtain rfl : l = i := Fin.ext (by omega)
    obtain rfl : w = j := Fin.ext (by omega)
    obtain rfl : g = 3 := Fin.ext (by show g.val = 3; omega)
    exact r281 R.r3 _ _
  refine View.allAt_cons_unit _ _ _ _ _ (tile2 0 2304 _ _ _ _ fun i j h0 h1 => ?_) ?_
  · have e1 : g.val * 256 + w.val = 2304 + j.val := h1
    omega
  refine View.allAt_cons_unit _ _ _ _ _ (tile2 0 3328 _ _ _ _ fun i j h0 h1 => ?_) ?_
  · have e1 : g.val * 256 + w.val = 3328 + j.val := h1
    omega
  refine View.allAt_cons_unit _ _ _ _ _ (tile2 0 512 _ _ _ _ fun i j h0 h1 => ?_) ?_
  · have e0 : l.val = 0 + i.val := h0
    have e1 : g.val * 256 + w.val = 512 + j.val := h1
    obtain rfl : l = i := Fin.ext (by omega)
    obtain rfl : w = j := Fin.ext (by omega)
    obtain rfl : g = 2 := Fin.ext (by show g.val = 2; omega)
    exact r281 R.r2 _ _
  refine View.allAt_cons_unit _ _ _ _ _ (tile2 0 2176 _ _ _ _ fun i j h0 h1 => ?_) ?_
  · have e1 : g.val * 256 + w.val = 2176 + j.val := h1
    omega
  refine View.allAt_cons_unit _ _ _ _ _ (tile2 0 3200 _ _ _ _ fun i j h0 h1 => ?_) ?_
  · have e1 : g.val * 256 + w.val = 3200 + j.val := h1
    omega
  refine View.allAt_cons_unit _ _ _ _ _ (tile2 0 256 _ _ _ _ fun i j h0 h1 => ?_) ?_
  · have e0 : l.val = 0 + i.val := h0
    have e1 : g.val * 256 + w.val = 256 + j.val := h1
    obtain rfl : l = i := Fin.ext (by omega)
    obtain rfl : w = j := Fin.ext (by omega)
    obtain rfl : g = 1 := Fin.ext (by show g.val = 1; omega)
    exact r281 R.r1 _ _
  refine View.allAt_cons_unit _ _ _ _ _ (tile2 0 2048 _ _ _ _ fun i j h0 h1 => ?_) ?_
  · have e1 : g.val * 256 + w.val = 2048 + j.val := h1
    omega
  refine View.allAt_cons_unit _ _ _ _ _ (tile2 0 3072 _ _ _ _ fun i j h0 h1 => ?_) ?_
  · have e1 : g.val * 256 + w.val = 3072 + j.val := h1
    omega
  refine View.allAt_cons_unit _ _ _ _ _ (tile2 0 0 _ _ _ _ fun i j h0 h1 => ?_) ?_
  · have e0 : l.val = 0 + i.val := h0
    have e1 : g.val * 256 + w.val = 0 + j.val := h1
    obtain rfl : l = i := Fin.ext (by omega)
    obtain rfl : w = j := Fin.ext (by omega)
    obtain rfl : g = 0 := Fin.ext (by show g.val = 0; omega)
    exact r281 R.r0 _ _
  exact View.allAt_nil _ _

theorem at_dB (R : ReadsAll b I an ap) (g : Fin 8) (l w : Fin 128) :
    View.AllAt (lDconv b) (ix2 l (⟨2048 + g.val * 128 + w.val, by omega⟩ : Fin 4096) : S128x4096.Idx) (((I g).dB l w : ℝ) : EReal) := by
  unfold lDconv
  refine View.allAt_cons_unit _ _ _ _ _ (tile2 0 2944 _ _ _ _ fun i j h0 h1 => ?_) ?_
  · have e0 : l.val = 0 + i.val := h0
    have e1 : 2048 + g.val * 128 + w.val = 2944 + j.val := h1
    obtain rfl : l = i := Fin.ext (by omega)
    obtain rfl : w = j := Fin.ext (by omega)
    obtain rfl : g = 7 := Fin.ext (by show g.val = 7; omega)
    exact r351 R.r7 _ _
  refine View.allAt_cons_unit _ _ _ _ _ (tile2 0 3968 _ _ _ _ fun i j h0 h1 => ?_) ?_
  · have e1 : 2048 + g.val * 128 + w.val = 3968 + j.val := h1
    omega
  refine View.allAt_cons_unit _ _ _ _ _ (tile2 0 1792 _ _ _ _ fun i j h0 h1 => ?_) ?_
  · have e1 : 2048 + g.val * 128 + w.val = 1792 + j.val := h1
    omega
  refine View.allAt_cons_unit _ _ _ _ _ (tile2 0 2816 _ _ _ _ fun i j h0 h1 => ?_) ?_
  · have e0 : l.val = 0 + i.val := h0
    have e1 : 2048 + g.val * 128 + w.val = 2816 + j.val := h1
    obtain rfl : l = i := Fin.ext (by omega)
    obtain rfl : w = j := Fin.ext (by omega)
    obtain rfl : g = 6 := Fin.ext (by show g.val = 6; omega)
    exact r351 R.r6 _ _
  refine View.allAt_cons_unit _ _ _ _ _ (tile2 0 3840 _ _ _ _ fun i j h0 h1 => ?_) ?_
  · have e1 : 2048 + g.val * 128 + w.val = 3840 + j.val := h1
    omega
  refine View.allAt_cons_unit _ _ _ _ _ (tile2 0 1536 _ _ _ _ fun i j h0 h1 => ?_) ?_
  · have e1 : 2048 + g.val * 128 + w.val = 1536 + j.val := h1
    omega
  refine View.allAt_cons_unit _ _ _ _ _ (tile2 0 2688 _ _ _ _ fun i j h0 h1 => ?_) ?_
  · have e0 : l.val = 0 + i.val := h0
    have e1 : 2048 + g.val * 128 + w.val = 2688 + j.val := h1
    obtain rfl : l = i := Fin.ext (by omega)
    obtain rfl : w = j := Fin.ext (by omega)
    obtain rfl : g = 5 := Fin.ext (by show g.val = 5; omega)
    exact r351 R.r5 _ _
  refine View.allAt_cons_unit _ _ _ _ _ (tile2 0 3712 _ _ _ _ fun i j h0 h1 => ?_) ?_
  · have e1 : 2048 + g.val * 128 + w.val = 3712 + j.val := h1
    omega
  refine View.allAt_cons_unit _ _ _ _ _ (tile2 0 1280 _ _ _ _ fun i j h0 h1 => ?_) ?_
  · have e1 : 2048 + g.val * 128 + w.val = 1280 + j.val := h1
    omega
  refine View.allAt_cons_unit _ _ _ _ _ (tile2 0 2560 _ _ _ _ fun i j h0 h1 => ?_) ?_
  · have e0 : l.val = 0 + i.val := h0
    have e1 : 2048 + g.val * 128 + w.val = 2560 + j.val := h1
    obtain rfl : l = i := Fin.ext (by omega)
    obtain rfl : w = j := Fin.ext (by omega)
    obtain rfl : g = 4 := Fin.ext (by show g.val = 4; omega)
    exact r351 R.r4 _ _
  refine View.allAt_cons_unit _ _ _ _ _ (tile2 0 3584 _ _ _ _ fun i j h0 h1 => ?_) ?_
  · have e1 : 2048 + g.val * 128 + w.val = 3584 + j.val := h1
    omega
  refine View.allAt_cons_unit _ _ _ _ _ (tile2 0 1024 _ _ _ _ fun i j h0 h1 => ?_) ?_
  · have e1 : 2048 + g.val * 128 + w.val = 1024 + j.val := h1
    omega
  refine View.allAt_cons_unit _ _ _ _ _ (tile2 0 2432 _ _ _ _ fun i j h0 h1 => ?_) ?_
  · have e0 : l.val = 0 + i.val := h0
    have e1 : 2048 + g.val * 128 + w.val = 2432 + j.val := h1
    obtain rfl : l = i := Fin.ext (by omega)
    obtain rfl : w = j := Fin.ext (by omega)
    obtain rfl : g = 3 := Fin.ext (by show g.val = 3; omega)
    exact r351 R.r3 _ _
  refine View.allAt_cons_unit _ _ _ _ _ (tile2 0 3456 _ _ _ _ fun i j h0 h1 => ?_) ?_
  · have e1 : 2048 + g.val * 128 + w.val = 3456 + j.val := h1
    omega
  refine View.allAt_cons_unit _ _ _ _ _ (tile2 0 768 _ _ _ _ fun i j h0 h1 => ?_) ?_
  · have e1 : 2048 + g.val * 128 + w.val = 768 + j.val := h1
    omega
  refine View.allAt_cons_unit _ _ _ _ _ (tile2 0 2304 _ _ _ _ fun i j h0 h1 => ?_) ?_
  · have e0 : l.val = 0 + i.val := h0
    have e1 : 2048 + g.val * 128 + w.val = 2304 + j.val := h1
    obtain rfl : l = i := Fin.ext (by omega)
    obtain rfl : w = j := Fin.ext (by omega)
    obtain rfl : g = 2 := Fin.ext (by show g.val = 2; omega)
    exact r351 R.r2 _ _
  refine View.allAt_cons_unit _ _ _ _ _ (tile2 0 3328 _ _ _ _ fun i j h0 h1 => ?_) ?_
  · have e1 : 2048 + g.val * 128 + w.val = 3328 + j.val := h1
    omega
  refine View.allAt_cons_unit _ _ _ _ _ (tile2 0 512 _ _ _ _ fun i j h0 h1 => ?_) ?_
  · have e1 : 2048 + g.val * 128 + w.val = 512 + j.val := h1
    omega
  refine View.allAt_cons_unit _ _ _ _ _ (tile2 0 2176 _ _ _ _ fun i j h0 h1 => ?_) ?_
  · have e0 : l.val = 0 + i.val := h0
    have e1 : 2048 + g.val * 128 + w.val = 2176 + j.val := h1
    obtain rfl : l = i := Fin.ext (by omega)
    obtain rfl : w = j := Fin.ext (by omega)
    obtain rfl : g = 1 := Fin.ext (by show g.val = 1; omega)
    exact r351 R.r1 _ _
  refine View.allAt_cons_unit _ _ _ _ _ (tile2 0 3200 _ _ _ _ fun i j h0 h1 => ?_) ?_
  · have e1 : 2048 + g.val * 128 + w.val = 3200 + j.val := h1
    omega
  refine View.allAt_cons_unit _ _ _ _ _ (tile2 0 256 _ _ _ _ fun i j h0 h1 => ?_) ?_
  · have e1 : 2048 + g.val * 128 + w.val = 256 + j.val := h1
    omega
  refine View.allAt_cons_unit _ _ _ _ _ (tile2 0 2048 _ _ _ _ fun i j h0 h1 => ?_) ?_
  · have e0 : l.val = 0 + i.val := h0
    have e1 : 2048 + g.val * 128 + w.val = 2048 + j.val := h1
    obtain rfl : l = i := Fin.ext (by omega)
    obtain rfl : w = j := Fin.ext (by omega)
    obtain rfl : g = 0 := Fin.ext (by show g.val = 0; omega)
    exact r351 R.r0 _ _
  refine View.allAt_cons_unit _ _ _ _ _ (tile2 0 3072 _ _ _ _ fun i j h0 h1 => ?_) ?_
  · have e1 : 2048 + g.val * 128 + w.val = 3072 + j.val := h1
    omega
  refine View.allAt_cons_unit _ _ _ _ _ (tile2 0 0 _ _ _ _ fun i j h0 h1 => ?_) ?_
  · have e1 : 2048 + g.val * 128 + w.val = 0 + j.val := h1
    omega
  exact View.allAt_nil _ _

theorem at_dC (R : ReadsAll b I an ap) (g : Fin 8) (l w : Fin 128) :
    View.AllAt (lDconv b) (ix2 l (⟨3072 + g.val * 128 + w.val, by omega⟩ : Fin 4096) : S128x4096.Idx) (((I g).dC l w : ℝ) : EReal) := by
  unfold lDconv
  refine View.allAt_cons_unit _ _ _ _ _ (tile2 0 2944 _ _ _ _ fun i j h0 h1 => ?_) ?_
  · have e1 : 3072 + g.val * 128 + w.val = 2944 + j.val := h1
    omega
  refine View.allAt_cons_unit _ _ _ _ _ (tile2 0 3968 _ _ _ _ fun i j h0 h1 => ?_) ?_
  · have e0 : l.val = 0 + i.val := h0
    have e1 : 3072 + g.val * 128 + w.val = 3968 + j.val := h1
    obtain rfl : l = i := Fin.ext (by omega)
    obtain rfl : w = j := Fin.ext (by omega)
    obtain rfl : g = 7 := Fin.ext (by show g.val = 7; omega)
    exact r324 R.r7 _ _
  refine View.allAt_cons_unit _ _ _ _ _ (tile2 0 1792 _ _ _ _ fun i j h0 h1 => ?_) ?_
  · have e1 : 3072 + g.val * 128 + w.val = 1792 + j.val := h1
    omega
  refine View.allAt_cons_unit _ _ _ _ _ (tile2 0 2816 _ _ _ _ fun i j h0 h1 => ?_) ?_
  · have e1 : 3072 + g.val * 128 + w.val = 2816 + j.val := h1
    omega
  refine View.allAt_cons_unit _ _ _ _ _ (tile2 0 3840 _ _ _ _ fun i j h0 h1 => ?_) ?_
  · have e0 : l.val = 0 + i.val := h0
    have e1 : 3072 + g.val * 128 + w.val = 3840 + j.val := h1
    obtain rfl : l = i := Fin.ext (by omega)
    obtain rfl : w = j := Fin.ext (by omega)
    obtain rfl : g = 6 := Fin.ext (by show g.val = 6; omega)
    exact r324 R.r6 _ _
  refine View.allAt_cons_unit _ _ _ _ _ (tile2 0 1536 _ _ _ _ fun i j h0 h1 => ?_) ?_
  · have e1 : 3072 + g.val * 128 + w.val = 1536 + j.val := h1
    omega
  refine View.allAt_cons_unit _ _ _ _ _ (tile2 0 2688 _ _ _ _ fun i j h0 h1 => ?_) ?_
  · have e1 : 3072 + g.val * 128 + w.val = 2688 + j.val := h1
    omega
  refine View.allAt_cons_unit _ _ _ _ _ (tile2 0 3712 _ _ _ _ fun i j h0 h1 => ?_) ?_
  · have e0 : l.val = 0 + i.val := h0
    have e1 : 3072 + g.val * 128 + w.val = 3712 + j.val := h1
    obtain rfl : l = i := Fin.ext (by omega)
    obtain rfl : w = j := Fin.ext (by omega)
    obtain rfl : g = 5 := Fin.ext (by show g.val = 5; omega)
    exact r324 R.r5 _ _
  refine View.allAt_cons_unit _ _ _ _ _ (tile2 0 1280 _ _ _ _ fun i j h0 h1 => ?_) ?_
  · have e1 : 3072 + g.val * 128 + w.val = 1280 + j.val := h1
    omega
  refine View.allAt_cons_unit _ _ _ _ _ (tile2 0 2560 _ _ _ _ fun i j h0 h1 => ?_) ?_
  · have e1 : 3072 + g.val * 128 + w.val = 2560 + j.val := h1
    omega
  refine View.allAt_cons_unit _ _ _ _ _ (tile2 0 3584 _ _ _ _ fun i j h0 h1 => ?_) ?_
  · have e0 : l.val = 0 + i.val := h0
    have e1 : 3072 + g.val * 128 + w.val = 3584 + j.val := h1
    obtain rfl : l = i := Fin.ext (by omega)
    obtain rfl : w = j := Fin.ext (by omega)
    obtain rfl : g = 4 := Fin.ext (by show g.val = 4; omega)
    exact r324 R.r4 _ _
  refine View.allAt_cons_unit _ _ _ _ _ (tile2 0 1024 _ _ _ _ fun i j h0 h1 => ?_) ?_
  · have e1 : 3072 + g.val * 128 + w.val = 1024 + j.val := h1
    omega
  refine View.allAt_cons_unit _ _ _ _ _ (tile2 0 2432 _ _ _ _ fun i j h0 h1 => ?_) ?_
  · have e1 : 3072 + g.val * 128 + w.val = 2432 + j.val := h1
    omega
  refine View.allAt_cons_unit _ _ _ _ _ (tile2 0 3456 _ _ _ _ fun i j h0 h1 => ?_) ?_
  · have e0 : l.val = 0 + i.val := h0
    have e1 : 3072 + g.val * 128 + w.val = 3456 + j.val := h1
    obtain rfl : l = i := Fin.ext (by omega)
    obtain rfl : w = j := Fin.ext (by omega)
    obtain rfl : g = 3 := Fin.ext (by show g.val = 3; omega)
    exact r324 R.r3 _ _
  refine View.allAt_cons_unit _ _ _ _ _ (tile2 0 768 _ _ _ _ fun i j h0 h1 => ?_) ?_
  · have e1 : 3072 + g.val * 128 + w.val = 768 + j.val := h1
    omega
  refine View.allAt_cons_unit _ _ _ _ _ (tile2 0 2304 _ _ _ _ fun i j h0 h1 => ?_) ?_
  · have e1 : 3072 + g.val * 128 + w.val = 2304 + j.val := h1
    omega
  refine View.allAt_cons_unit _ _ _ _ _ (tile2 0 3328 _ _ _ _ fun i j h0 h1 => ?_) ?_
  · have e0 : l.val = 0 + i.val := h0
    have e1 : 3072 + g.val * 128 + w.val = 3328 + j.val := h1
    obtain rfl : l = i := Fin.ext (by omega)
    obtain rfl : w = j := Fin.ext (by omega)
    obtain rfl : g = 2 := Fin.ext (by show g.val = 2; omega)
    exact r324 R.r2 _ _
  refine View.allAt_cons_unit _ _ _ _ _ (tile2 0 512 _ _ _ _ fun i j h0 h1 => ?_) ?_
  · have e1 : 3072 + g.val * 128 + w.val = 512 + j.val := h1
    omega
  refine View.allAt_cons_unit _ _ _ _ _ (tile2 0 2176 _ _ _ _ fun i j h0 h1 => ?_) ?_
  · have e1 : 3072 + g.val * 128 + w.val = 2176 + j.val := h1
    omega
  refine View.allAt_cons_unit _ _ _ _ _ (tile2 0 3200 _ _ _ _ fun i j h0 h1 => ?_) ?_
  · have e0 : l.val = 0 + i.val := h0
    have e1 : 3072 + g.val * 128 + w.val = 3200 + j.val := h1
    obtain rfl : l = i := Fin.ext (by omega)
    obtain rfl : w = j := Fin.ext (by omega)
    obtain rfl : g = 1 := Fin.ext (by show g.val = 1; omega)
    exact r324 R.r1 _ _
  refine View.allAt_cons_unit _ _ _ _ _ (tile2 0 256 _ _ _ _ fun i j h0 h1 => ?_) ?_
  · have e1 : 3072 + g.val * 128 + w.val = 256 + j.val := h1
    omega
  refine View.allAt_cons_unit _ _ _ _ _ (tile2 0 2048 _ _ _ _ fun i j h0 h1 => ?_) ?_
  · have e1 : 3072 + g.val * 128 + w.val = 2048 + j.val := h1
    omega
  refine View.allAt_cons_unit _ _ _ _ _ (tile2 0 3072 _ _ _ _ fun i j h0 h1 => ?_) ?_
  · have e0 : l.val = 0 + i.val := h0
    have e1 : 3072 + g.val * 128 + w.val = 3072 + j.val := h1
    obtain rfl : l = i := Fin.ext (by omega)
    obtain rfl : w = j := Fin.ext (by omega)
    obtain rfl : g = 0 := Fin.ext (by show g.val = 0; omega)
    exact r324 R.r0 _ _
  refine View.allAt_cons_unit _ _ _ _ _ (tile2 0 0 _ _ _ _ fun i j h0 h1 => ?_) ?_
  · have e1 : 3072 + g.val * 128 + w.val = 0 + j.val := h1
    omega
  exact View.allAt_nil _ _

/-- The pieces of one chunk. -/
def lDproj (b : Blocks Ideal) : List (View.Piece (Elt Ideal) S128x2048 .bf16) := [⟨(Rect.unit (s := S128x2048) ![0, 1792] S128x256.size inb_S128x2048_S128x256_0_1792), t79 (G7 b)⟩,
 ⟨(Rect.unit (s := S128x2048) ![0, 1536] S128x256.size inb_S128x2048_S128x256_0_1536), t79 (G6 b)⟩,
 ⟨(Rect.unit (s := S128x2048) ![0, 1280] S128x256.size inb_S128x2048_S128x256_0_1280), t79 (G5 b)⟩,
 ⟨(Rect.unit (s := S128x2048) ![0, 1024] S128x256.size inb_S128x2048_S128x256_0_1024), t79 (G4 b)⟩,
 ⟨(Rect.unit (s := S128x2048) ![0, 768] S128x256.size inb_S128x2048_S128x256_0_768), t79 (G3 b)⟩,
 ⟨(Rect.unit (s := S128x2048) ![0, 512] S128x256.size inb_S128x2048_S128x256_0_512), t79 (G2 b)⟩,
 ⟨(Rect.unit (s := S128x2048) ![0, 256] S128x256.size inb_S128x2048_S128x256_0_256), t79 (G1 b)⟩,
 ⟨(Rect.unit (s := S128x2048) ![0, 0] S128x256.size inb_S128x2048_S128x256_0_0), t79 (G0 b)⟩]

theorem at_dz (R : ReadsAll b I an ap) (g : Fin 8) (l : Fin 128) (w : Fin 256) :
    View.AllAt (lDproj b) (ix2 l (⟨g.val * 256 + w.val, by omega⟩ : Fin 2048) : S128x2048.Idx) (((I g).dz l w : ℝ) : EReal) := by
  unfold lDproj
  refine View.allAt_cons_unit _ _ _ _ _ (tile2 0 1792 _ _ _ _ fun i j h0 h1 => ?_) ?_
  · have e0 : l.val = 0 + i.val := h0
    have e1 : g.val * 256 + w.val = 1792 + j.val := h1
    obtain rfl : l = i := Fin.ext (by omega)
    obtain rfl : w = j := Fin.ext (by omega)
    obtain rfl : g = 7 := Fin.ext (by show g.val = 7; omega)
    exact r79 R.r7 _ _
  refine View.allAt_cons_unit _ _ _ _ _ (tile2 0 1536 _ _ _ _ fun i j h0 h1 => ?_) ?_
  · have e0 : l.val = 0 + i.val := h0
    have e1 : g.val * 256 + w.val = 1536 + j.val := h1
    obtain rfl : l = i := Fin.ext (by omega)
    obtain rfl : w = j := Fin.ext (by omega)
    obtain rfl : g = 6 := Fin.ext (by show g.val = 6; omega)
    exact r79 R.r6 _ _
  refine View.allAt_cons_unit _ _ _ _ _ (tile2 0 1280 _ _ _ _ fun i j h0 h1 => ?_) ?_
  · have e0 : l.val = 0 + i.val := h0
    have e1 : g.val * 256 + w.val = 1280 + j.val := h1
    obtain rfl : l = i := Fin.ext (by omega)
    obtain rfl : w = j := Fin.ext (by omega)
    obtain rfl : g = 5 := Fin.ext (by show g.val = 5; omega)
    exact r79 R.r5 _ _
  refine View.allAt_cons_unit _ _ _ _ _ (tile2 0 1024 _ _ _ _ fun i j h0 h1 => ?_) ?_
  · have e0 : l.val = 0 + i.val := h0
    have e1 : g.val * 256 + w.val = 1024 + j.val := h1
    obtain rfl : l = i := Fin.ext (by omega)
    obtain rfl : w = j := Fin.ext (by omega)
    obtain rfl : g = 4 := Fin.ext (by show g.val = 4; omega)
    exact r79 R.r4 _ _
  refine View.allAt_cons_unit _ _ _ _ _ (tile2 0 768 _ _ _ _ fun i j h0 h1 => ?_) ?_
  · have e0 : l.val = 0 + i.val := h0
    have e1 : g.val * 256 + w.val = 768 + j.val := h1
    obtain rfl : l = i := Fin.ext (by omega)
    obtain rfl : w = j := Fin.ext (by omega)
    obtain rfl : g = 3 := Fin.ext (by show g.val = 3; omega)
    exact r79 R.r3 _ _
  refine View.allAt_cons_unit _ _ _ _ _ (tile2 0 512 _ _ _ _ fun i j h0 h1 => ?_) ?_
  · have e0 : l.val = 0 + i.val := h0
    have e1 : g.val * 256 + w.val = 512 + j.val := h1
    obtain rfl : l = i := Fin.ext (by omega)
    obtain rfl : w = j := Fin.ext (by omega)
    obtain rfl : g = 2 := Fin.ext (by show g.val = 2; omega)
    exact r79 R.r2 _ _
  refine View.allAt_cons_unit _ _ _ _ _ (tile2 0 256 _ _ _ _ fun i j h0 h1 => ?_) ?_
  · have e0 : l.val = 0 + i.val := h0
    have e1 : g.val * 256 + w.val = 256 + j.val := h1
    obtain rfl : l = i := Fin.ext (by omega)
    obtain rfl : w = j := Fin.ext (by omega)
    obtain rfl : g = 1 := Fin.ext (by show g.val = 1; omega)
    exact r79 R.r1 _ _
  refine View.allAt_cons_unit _ _ _ _ _ (tile2 0 0 _ _ _ _ fun i j h0 h1 => ?_) ?_
  · have e0 : l.val = 0 + i.val := h0
    have e1 : g.val * 256 + w.val = 0 + j.val := h1
    obtain rfl : l = i := Fin.ext (by omega)
    obtain rfl : w = j := Fin.ext (by omega)
    obtain rfl : g = 0 := Fin.ext (by show g.val = 0; omega)
    exact r79 R.r0 _ _
  exact View.allAt_nil _ _

/-- The pieces of one chunk. -/
def lDdt (b : Blocks Ideal) : List (View.Piece (Elt Ideal) S8x128x4 .f32) := [⟨(Rect.unit (s := S8x128x4) ![7, 0, 0] S1x128x4.size inb_S8x128x4_S1x128x4_7_0_0), t543 (G7 b)⟩,
 ⟨(Rect.unit (s := S8x128x4) ![6, 0, 0] S1x128x4.size inb_S8x128x4_S1x128x4_6_0_0), t543 (G6 b)⟩,
 ⟨(Rect.unit (s := S8x128x4) ![5, 0, 0] S1x128x4.size inb_S8x128x4_S1x128x4_5_0_0), t543 (G5 b)⟩,
 ⟨(Rect.unit (s := S8x128x4) ![4, 0, 0] S1x128x4.size inb_S8x128x4_S1x128x4_4_0_0), t543 (G4 b)⟩,
 ⟨(Rect.unit (s := S8x128x4) ![3, 0, 0] S1x128x4.size inb_S8x128x4_S1x128x4_3_0_0), t543 (G3 b)⟩,
 ⟨(Rect.unit (s := S8x128x4) ![2, 0, 0] S1x128x4.size inb_S8x128x4_S1x128x4_2_0_0), t543 (G2 b)⟩,
 ⟨(Rect.unit (s := S8x128x4) ![1, 0, 0] S1x128x4.size inb_S8x128x4_S1x128x4_1_0_0), t543 (G1 b)⟩,
 ⟨(Rect.unit (s := S8x128x4) ![0, 0, 0] S1x128x4.size inb_S8x128x4_S1x128x4_0_0_0), t543 (G0 b)⟩]

theorem at_ddt (R : ReadsAll b I an ap) (g : Fin 8) (l : Fin 128) (h : Fin 4) :
    View.AllAt (lDdt b) (ix3 g l h : S8x128x4.Idx) (((I g).ddt l h : ℝ) : EReal) := by
  unfold lDdt
  refine View.allAt_cons_unit _ _ _ _ _ (tile3 7 0 0 _ _ _ _ _ fun i j k h0 h1 h2 => ?_) ?_
  · have e0 : g.val = 7 + i.val := h0
    have e1 : l.val = 0 + j.val := h1
    have e2 : h.val = 0 + k.val := h2
    obtain rfl : g = 7 := Fin.ext (by show g.val = 7; omega)
    obtain rfl : i = 0 := Subsingleton.elim _ _
    obtain rfl : l = j := Fin.ext (by omega)
    obtain rfl : h = k := Fin.ext (by omega)
    exact r543 R.r7 _ _
  refine View.allAt_cons_unit _ _ _ _ _ (tile3 6 0 0 _ _ _ _ _ fun i j k h0 h1 h2 => ?_) ?_
  · have e0 : g.val = 6 + i.val := h0
    have e1 : l.val = 0 + j.val := h1
    have e2 : h.val = 0 + k.val := h2
    obtain rfl : g = 6 := Fin.ext (by show g.val = 6; omega)
    obtain rfl : i = 0 := Subsingleton.elim _ _
    obtain rfl : l = j := Fin.ext (by omega)
    obtain rfl : h = k := Fin.ext (by omega)
    exact r543 R.r6 _ _
  refine View.allAt_cons_unit _ _ _ _ _ (tile3 5 0 0 _ _ _ _ _ fun i j k h0 h1 h2 => ?_) ?_
  · have e0 : g.val = 5 + i.val := h0
    have e1 : l.val = 0 + j.val := h1
    have e2 : h.val = 0 + k.val := h2
    obtain rfl : g = 5 := Fin.ext (by show g.val = 5; omega)
    obtain rfl : i = 0 := Subsingleton.elim _ _
    obtain rfl : l = j := Fin.ext (by omega)
    obtain rfl : h = k := Fin.ext (by omega)
    exact r543 R.r5 _ _
  refine View.allAt_cons_unit _ _ _ _ _ (tile3 4 0 0 _ _ _ _ _ fun i j k h0 h1 h2 => ?_) ?_
  · have e0 : g.val = 4 + i.val := h0
    have e1 : l.val = 0 + j.val := h1
    have e2 : h.val = 0 + k.val := h2
    obtain rfl : g = 4 := Fin.ext (by show g.val = 4; omega)
    obtain rfl : i = 0 := Subsingleton.elim _ _
    obtain rfl : l = j := Fin.ext (by omega)
    obtain rfl : h = k := Fin.ext (by omega)
    exact r543 R.r4 _ _
  refine View.allAt_cons_unit _ _ _ _ _ (tile3 3 0 0 _ _ _ _ _ fun i j k h0 h1 h2 => ?_) ?_
  · have e0 : g.val = 3 + i.val := h0
    have e1 : l.val = 0 + j.val := h1
    have e2 : h.val = 0 + k.val := h2
    obtain rfl : g = 3 := Fin.ext (by show g.val = 3; omega)
    obtain rfl : i = 0 := Subsingleton.elim _ _
    obtain rfl : l = j := Fin.ext (by omega)
    obtain rfl : h = k := Fin.ext (by omega)
    exact r543 R.r3 _ _
  refine View.allAt_cons_unit _ _ _ _ _ (tile3 2 0 0 _ _ _ _ _ fun i j k h0 h1 h2 => ?_) ?_
  · have e0 : g.val = 2 + i.val := h0
    have e1 : l.val = 0 + j.val := h1
    have e2 : h.val = 0 + k.val := h2
    obtain rfl : g = 2 := Fin.ext (by show g.val = 2; omega)
    obtain rfl : i = 0 := Subsingleton.elim _ _
    obtain rfl : l = j := Fin.ext (by omega)
    obtain rfl : h = k := Fin.ext (by omega)
    exact r543 R.r2 _ _
  refine View.allAt_cons_unit _ _ _ _ _ (tile3 1 0 0 _ _ _ _ _ fun i j k h0 h1 h2 => ?_) ?_
  · have e0 : g.val = 1 + i.val := h0
    have e1 : l.val = 0 + j.val := h1
    have e2 : h.val = 0 + k.val := h2
    obtain rfl : g = 1 := Fin.ext (by show g.val = 1; omega)
    obtain rfl : i = 0 := Subsingleton.elim _ _
    obtain rfl : l = j := Fin.ext (by omega)
    obtain rfl : h = k := Fin.ext (by omega)
    exact r543 R.r1 _ _
  refine View.allAt_cons_unit _ _ _ _ _ (tile3 0 0 0 _ _ _ _ _ fun i j k h0 h1 h2 => ?_) ?_
  · have e0 : g.val = 0 + i.val := h0
    have e1 : l.val = 0 + j.val := h1
    have e2 : h.val = 0 + k.val := h2
    obtain rfl : g = 0 := Fin.ext (by show g.val = 0; omega)
    obtain rfl : i = 0 := Subsingleton.elim _ _
    obtain rfl : l = j := Fin.ext (by omega)
    obtain rfl : h = k := Fin.ext (by omega)
    exact r543 R.r0 _ _
  exact View.allAt_nil _ _

/-- The pieces of one chunk. -/
def lDp (b : Blocks Ideal) : List (View.Piece (Elt Ideal) S8x3x4 .f32) := [⟨(Rect.unit (s := S8x3x4) ![7, 0, 0] S1x3x4.size inb_S8x3x4_S1x3x4_7_0_0), t572 (G7 b)⟩,
 ⟨(Rect.unit (s := S8x3x4) ![6, 0, 0] S1x3x4.size inb_S8x3x4_S1x3x4_6_0_0), t572 (G6 b)⟩,
 ⟨(Rect.unit (s := S8x3x4) ![5, 0, 0] S1x3x4.size inb_S8x3x4_S1x3x4_5_0_0), t572 (G5 b)⟩,
 ⟨(Rect.unit (s := S8x3x4) ![4, 0, 0] S1x3x4.size inb_S8x3x4_S1x3x4_4_0_0), t572 (G4 b)⟩,
 ⟨(Rect.unit (s := S8x3x4) ![3, 0, 0] S1x3x4.size inb_S8x3x4_S1x3x4_3_0_0), t572 (G3 b)⟩,
 ⟨(Rect.unit (s := S8x3x4) ![2, 0, 0] S1x3x4.size inb_S8x3x4_S1x3x4_2_0_0), t572 (G2 b)⟩,
 ⟨(Rect.unit (s := S8x3x4) ![1, 0, 0] S1x3x4.size inb_S8x3x4_S1x3x4_1_0_0), t572 (G1 b)⟩,
 ⟨(Rect.unit (s := S8x3x4) ![0, 0, 0] S1x3x4.size inb_S8x3x4_S1x3x4_0_0_0), t572 (G0 b)⟩]

theorem at_dp (R : ReadsAll b I an ap) (g : Fin 8) (r : Fin 3) (h : Fin 4) :
    View.AllAt (lDp b) (ix3 g r h : S8x3x4.Idx) ((ap g r h + dpar (I g) r h : ℝ) : EReal) := by
  unfold lDp
  refine View.allAt_cons_unit _ _ _ _ _ (tile3 7 0 0 _ _ _ _ _ fun i j k h0 h1 h2 => ?_) ?_
  · have e0 : g.val = 7 + i.val := h0
    have e1 : r.val = 0 + j.val := h1
    have e2 : h.val = 0 + k.val := h2
    obtain rfl : g = 7 := Fin.ext (by show g.val = 7; omega)
    obtain rfl : i = 0 := Subsingleton.elim _ _
    obtain rfl : r = j := Fin.ext (by omega)
    obtain rfl : h = k := Fin.ext (by omega)
    exact r572 R.r7 _ _
  refine View.allAt_cons_unit _ _ _ _ _ (tile3 6 0 0 _ _ _ _ _ fun i j k h0 h1 h2 => ?_) ?_
  · have e0 : g.val = 6 + i.val := h0
    have e1 : r.val = 0 + j.val := h1
    have e2 : h.val = 0 + k.val := h2
    obtain rfl : g = 6 := Fin.ext (by show g.val = 6; omega)
    obtain rfl : i = 0 := Subsingleton.elim _ _
    obtain rfl : r = j := Fin.ext (by omega)
    obtain rfl : h = k := Fin.ext (by omega)
    exact r572 R.r6 _ _
  refine View.allAt_cons_unit _ _ _ _ _ (tile3 5 0 0 _ _ _ _ _ fun i j k h0 h1 h2 => ?_) ?_
  · have e0 : g.val = 5 + i.val := h0
    have e1 : r.val = 0 + j.val := h1
    have e2 : h.val = 0 + k.val := h2
    obtain rfl : g = 5 := Fin.ext (by show g.val = 5; omega)
    obtain rfl : i = 0 := Subsingleton.elim _ _
    obtain rfl : r = j := Fin.ext (by omega)
    obtain rfl : h = k := Fin.ext (by omega)
    exact r572 R.r5 _ _
  refine View.allAt_cons_unit _ _ _ _ _ (tile3 4 0 0 _ _ _ _ _ fun i j k h0 h1 h2 => ?_) ?_
  · have e0 : g.val = 4 + i.val := h0
    have e1 : r.val = 0 + j.val := h1
    have e2 : h.val = 0 + k.val := h2
    obtain rfl : g = 4 := Fin.ext (by show g.val = 4; omega)
    obtain rfl : i = 0 := Subsingleton.elim _ _
    obtain rfl : r = j := Fin.ext (by omega)
    obtain rfl : h = k := Fin.ext (by omega)
    exact r572 R.r4 _ _
  refine View.allAt_cons_unit _ _ _ _ _ (tile3 3 0 0 _ _ _ _ _ fun i j k h0 h1 h2 => ?_) ?_
  · have e0 : g.val = 3 + i.val := h0
    have e1 : r.val = 0 + j.val := h1
    have e2 : h.val = 0 + k.val := h2
    obtain rfl : g = 3 := Fin.ext (by show g.val = 3; omega)
    obtain rfl : i = 0 := Subsingleton.elim _ _
    obtain rfl : r = j := Fin.ext (by omega)
    obtain rfl : h = k := Fin.ext (by omega)
    exact r572 R.r3 _ _
  refine View.allAt_cons_unit _ _ _ _ _ (tile3 2 0 0 _ _ _ _ _ fun i j k h0 h1 h2 => ?_) ?_
  · have e0 : g.val = 2 + i.val := h0
    have e1 : r.val = 0 + j.val := h1
    have e2 : h.val = 0 + k.val := h2
    obtain rfl : g = 2 := Fin.ext (by show g.val = 2; omega)
    obtain rfl : i = 0 := Subsingleton.elim _ _
    obtain rfl : r = j := Fin.ext (by omega)
    obtain rfl : h = k := Fin.ext (by omega)
    exact r572 R.r2 _ _
  refine View.allAt_cons_unit _ _ _ _ _ (tile3 1 0 0 _ _ _ _ _ fun i j k h0 h1 h2 => ?_) ?_
  · have e0 : g.val = 1 + i.val := h0
    have e1 : r.val = 0 + j.val := h1
    have e2 : h.val = 0 + k.val := h2
    obtain rfl : g = 1 := Fin.ext (by show g.val = 1; omega)
    obtain rfl : i = 0 := Subsingleton.elim _ _
    obtain rfl : r = j := Fin.ext (by omega)
    obtain rfl : h = k := Fin.ext (by omega)
    exact r572 R.r1 _ _
  refine View.allAt_cons_unit _ _ _ _ _ (tile3 0 0 0 _ _ _ _ _ fun i j k h0 h1 h2 => ?_) ?_
  · have e0 : g.val = 0 + i.val := h0
    have e1 : r.val = 0 + j.val := h1
    have e2 : h.val = 0 + k.val := h2
    obtain rfl : g = 0 := Fin.ext (by show g.val = 0; omega)
    obtain rfl : i = 0 := Subsingleton.elim _ _
    obtain rfl : r = j := Fin.ext (by omega)
    obtain rfl : h = k := Fin.ext (by omega)
    exact r572 R.r0 _ _
  exact View.allAt_nil _ _

/-- The pieces of one chunk. -/
def lDnw (b : Blocks Ideal) : List (View.Piece (Elt Ideal) S8x1x256 .f32) := [⟨(Rect.unit (s := S8x1x256) ![7, 0, 0] S1x1x256.size inb_S8x1x256_S1x1x256_7_0_0), t58 (G7 b)⟩,
 ⟨(Rect.unit (s := S8x1x256) ![6, 0, 0] S1x1x256.size inb_S8x1x256_S1x1x256_6_0_0), t58 (G6 b)⟩,
 ⟨(Rect.unit (s := S8x1x256) ![5, 0, 0] S1x1x256.size inb_S8x1x256_S1x1x256_5_0_0), t58 (G5 b)⟩,
 ⟨(Rect.unit (s := S8x1x256) ![4, 0, 0] S1x1x256.size inb_S8x1x256_S1x1x256_4_0_0), t58 (G4 b)⟩,
 ⟨(Rect.unit (s := S8x1x256) ![3, 0, 0] S1x1x256.size inb_S8x1x256_S1x1x256_3_0_0), t58 (G3 b)⟩,
 ⟨(Rect.unit (s := S8x1x256) ![2, 0, 0] S1x1x256.size inb_S8x1x256_S1x1x256_2_0_0), t58 (G2 b)⟩,
 ⟨(Rect.unit (s := S8x1x256) ![1, 0, 0] S1x1x256.size inb_S8x1x256_S1x1x256_1_0_0), t58 (G1 b)⟩,
 ⟨(Rect.unit (s := S8x1x256) ![0, 0, 0] S1x1x256.size inb_S8x1x256_S1x1x256_0_0_0), t58 (G0 b)⟩]

theorem at_dnw (R : ReadsAll b I an ap) (g : Fin 8) (w : Fin 256) :
    View.AllAt (lDnw b) (ix3 g 0 w : S8x1x256.Idx) ((an g w + (I g).dnw w : ℝ) : EReal) := by
  unfold lDnw
  refine View.allAt_cons_unit _ _ _ _ _ (tile3 7 0 0 _ _ _ _ _ fun i j k h0 h1 h2 => ?_) ?_
  · have e0 : g.val = 7 + i.val := h0
    have e1 : 0 = 0 + j.val := h1
    have e2 : w.val = 0 + k.val := h2
    obtain rfl : g = 7 := Fin.ext (by show g.val = 7; omega)
    obtain rfl : i = 0 := Subsingleton.elim _ _
    obtain rfl : j = 0 := Subsingleton.elim _ _
    obtain rfl : w = k := Fin.ext (by omega)
    exact r58 R.r7 _
  refine View.allAt_cons_unit _ _ _ _ _ (tile3 6 0 0 _ _ _ _ _ fun i j k h0 h1 h2 => ?_) ?_
  · have e0 : g.val = 6 + i.val := h0
    have e1 : 0 = 0 + j.val := h1
    have e2 : w.val = 0 + k.val := h2
    obtain rfl : g = 6 := Fin.ext (by show g.val = 6; omega)
    obtain rfl : i = 0 := Subsingleton.elim _ _
    obtain rfl : j = 0 := Subsingleton.elim _ _
    obtain rfl : w = k := Fin.ext (by omega)
    exact r58 R.r6 _
  refine View.allAt_cons_unit _ _ _ _ _ (tile3 5 0 0 _ _ _ _ _ fun i j k h0 h1 h2 => ?_) ?_
  · have e0 : g.val = 5 + i.val := h0
    have e1 : 0 = 0 + j.val := h1
    have e2 : w.val = 0 + k.val := h2
    obtain rfl : g = 5 := Fin.ext (by show g.val = 5; omega)
    obtain rfl : i = 0 := Subsingleton.elim _ _
    obtain rfl : j = 0 := Subsingleton.elim _ _
    obtain rfl : w = k := Fin.ext (by omega)
    exact r58 R.r5 _
  refine View.allAt_cons_unit _ _ _ _ _ (tile3 4 0 0 _ _ _ _ _ fun i j k h0 h1 h2 => ?_) ?_
  · have e0 : g.val = 4 + i.val := h0
    have e1 : 0 = 0 + j.val := h1
    have e2 : w.val = 0 + k.val := h2
    obtain rfl : g = 4 := Fin.ext (by show g.val = 4; omega)
    obtain rfl : i = 0 := Subsingleton.elim _ _
    obtain rfl : j = 0 := Subsingleton.elim _ _
    obtain rfl : w = k := Fin.ext (by omega)
    exact r58 R.r4 _
  refine View.allAt_cons_unit _ _ _ _ _ (tile3 3 0 0 _ _ _ _ _ fun i j k h0 h1 h2 => ?_) ?_
  · have e0 : g.val = 3 + i.val := h0
    have e1 : 0 = 0 + j.val := h1
    have e2 : w.val = 0 + k.val := h2
    obtain rfl : g = 3 := Fin.ext (by show g.val = 3; omega)
    obtain rfl : i = 0 := Subsingleton.elim _ _
    obtain rfl : j = 0 := Subsingleton.elim _ _
    obtain rfl : w = k := Fin.ext (by omega)
    exact r58 R.r3 _
  refine View.allAt_cons_unit _ _ _ _ _ (tile3 2 0 0 _ _ _ _ _ fun i j k h0 h1 h2 => ?_) ?_
  · have e0 : g.val = 2 + i.val := h0
    have e1 : 0 = 0 + j.val := h1
    have e2 : w.val = 0 + k.val := h2
    obtain rfl : g = 2 := Fin.ext (by show g.val = 2; omega)
    obtain rfl : i = 0 := Subsingleton.elim _ _
    obtain rfl : j = 0 := Subsingleton.elim _ _
    obtain rfl : w = k := Fin.ext (by omega)
    exact r58 R.r2 _
  refine View.allAt_cons_unit _ _ _ _ _ (tile3 1 0 0 _ _ _ _ _ fun i j k h0 h1 h2 => ?_) ?_
  · have e0 : g.val = 1 + i.val := h0
    have e1 : 0 = 0 + j.val := h1
    have e2 : w.val = 0 + k.val := h2
    obtain rfl : g = 1 := Fin.ext (by show g.val = 1; omega)
    obtain rfl : i = 0 := Subsingleton.elim _ _
    obtain rfl : j = 0 := Subsingleton.elim _ _
    obtain rfl : w = k := Fin.ext (by omega)
    exact r58 R.r1 _
  refine View.allAt_cons_unit _ _ _ _ _ (tile3 0 0 0 _ _ _ _ _ fun i j k h0 h1 h2 => ?_) ?_
  · have e0 : g.val = 0 + i.val := h0
    have e1 : 0 = 0 + j.val := h1
    have e2 : w.val = 0 + k.val := h2
    obtain rfl : g = 0 := Fin.ext (by show g.val = 0; omega)
    obtain rfl : i = 0 := Subsingleton.elim _ _
    obtain rfl : j = 0 := Subsingleton.elim _ _
    obtain rfl : w = k := Fin.ext (by omega)
    exact r58 R.r0 _
  exact View.allAt_nil _ _

/-- The pieces of one chunk. -/
def lDS (b : Blocks Ideal) : List (View.Piece (Elt Ideal) S2048x128 .f32) := [⟨(Rect.unit (s := S2048x128) ![1984, 0] S64x128.size inb_S2048x128_S64x128_1984_0), t213 (G7 b)⟩,
 ⟨(Rect.unit (s := S2048x128) ![1920, 0] S64x128.size inb_S2048x128_S64x128_1920_0), t205 (G7 b)⟩,
 ⟨(Rect.unit (s := S2048x128) ![1856, 0] S64x128.size inb_S2048x128_S64x128_1856_0), t197 (G7 b)⟩,
 ⟨(Rect.unit (s := S2048x128) ![1792, 0] S64x128.size inb_S2048x128_S64x128_1792_0), t189 (G7 b)⟩,
 ⟨(Rect.unit (s := S2048x128) ![1728, 0] S64x128.size inb_S2048x128_S64x128_1728_0), t213 (G6 b)⟩,
 ⟨(Rect.unit (s := S2048x128) ![1664, 0] S64x128.size inb_S2048x128_S64x128_1664_0), t205 (G6 b)⟩,
 ⟨(Rect.unit (s := S2048x128) ![1600, 0] S64x128.size inb_S2048x128_S64x128_1600_0), t197 (G6 b)⟩,
 ⟨(Rect.unit (s := S2048x128) ![1536, 0] S64x128.size inb_S2048x128_S64x128_1536_0), t189 (G6 b)⟩,
 ⟨(Rect.unit (s := S2048x128) ![1472, 0] S64x128.size inb_S2048x128_S64x128_1472_0), t213 (G5 b)⟩,
 ⟨(Rect.unit (s := S2048x128) ![1408, 0] S64x128.size inb_S2048x128_S64x128_1408_0), t205 (G5 b)⟩,
 ⟨(Rect.unit (s := S2048x128) ![1344, 0] S64x128.size inb_S2048x128_S64x128_1344_0), t197 (G5 b)⟩,
 ⟨(Rect.unit (s := S2048x128) ![1280, 0] S64x128.size inb_S2048x128_S64x128_1280_0), t189 (G5 b)⟩,
 ⟨(Rect.unit (s := S2048x128) ![1216, 0] S64x128.size inb_S2048x128_S64x128_1216_0), t213 (G4 b)⟩,
 ⟨(Rect.unit (s := S2048x128) ![1152, 0] S64x128.size inb_S2048x128_S64x128_1152_0), t205 (G4 b)⟩,
 ⟨(Rect.unit (s := S2048x128) ![1088, 0] S64x128.size inb_S2048x128_S64x128_1088_0), t197 (G4 b)⟩,
 ⟨(Rect.unit (s := S2048x128) ![1024, 0] S64x128.size inb_S2048x128_S64x128_1024_0), t189 (G4 b)⟩,
 ⟨(Rect.unit (s := S2048x128) ![960, 0] S64x128.size inb_S2048x128_S64x128_960_0), t213 (G3 b)⟩,
 ⟨(Rect.unit (s := S2048x128) ![896, 0] S64x128.size inb_S2048x128_S64x128_896_0), t205 (G3 b)⟩,
 ⟨(Rect.unit (s := S2048x128) ![832, 0] S64x128.size inb_S2048x128_S64x128_832_0), t197 (G3 b)⟩,
 ⟨(Rect.unit (s := S2048x128) ![768, 0] S64x128.size inb_S2048x128_S64x128_768_0), t189 (G3 b)⟩,
 ⟨(Rect.unit (s := S2048x128) ![704, 0] S64x128.size inb_S2048x128_S64x128_704_0), t213 (G2 b)⟩,
 ⟨(Rect.unit (s := S2048x128) ![640, 0] S64x128.size inb_S2048x128_S64x128_640_0), t205 (G2 b)⟩,
 ⟨(Rect.unit (s := S2048x128) ![576, 0] S64x128.size inb_S2048x128_S64x128_576_0), t197 (G2 b)⟩,
 ⟨(Rect.unit (s := S2048x128) ![512, 0] S64x128.size inb_S2048x128_S64x128_512_0), t189 (G2 b)⟩,
 ⟨(Rect.unit (s := S2048x128) ![448, 0] S64x128.size inb_S2048x128_S64x128_448_0), t213 (G1 b)⟩,
 ⟨(Rect.unit (s := S2048x128) ![384, 0] S64x128.size inb_S2048x128_S64x128_384_0), t205 (G1 b)⟩,
 ⟨(Rect.unit (s := S2048x128) ![320, 0] S64x128.size inb_S2048x128_S64x128_320_0), t197 (G1 b)⟩,
 ⟨(Rect.unit (s := S2048x128) ![256, 0] S64x128.size inb_S2048x128_S64x128_256_0), t189 (G1 b)⟩,
 ⟨(Rect.unit (s := S2048x128) ![192, 0] S64x128.size inb_S2048x128_S64x128_192_0), t213 (G0 b)⟩,
 ⟨(Rect.unit (s := S2048x128) ![128, 0] S64x128.size inb_S2048x128_S64x128_128_0), t205 (G0 b)⟩,
 ⟨(Rect.unit (s := S2048x128) ![64, 0] S64x128.size inb_S2048x128_S64x128_64_0), t197 (G0 b)⟩,
 ⟨(Rect.unit (s := S2048x128) ![0, 0] S64x128.size inb_S2048x128_S64x128_0_0), t189 (G0 b)⟩]

theorem at_dS (R : ReadsAll b I an ap) (g : Fin 8) (w : Fin 256) (n : Fin 128) :
    View.AllAt (lDS b) (ix2 (⟨g.val * 256 + w.val, by omega⟩ : Fin 2048) n : S2048x128.Idx) (((I g).dSn w n : ℝ) : EReal) := by
  unfold lDS
  refine View.allAt_cons_unit _ _ _ _ _ (tile2 1984 0 _ _ _ _ fun i j h0 h1 => ?_) ?_
  · have e0 : g.val * 256 + w.val = 1984 + i.val := h0
    have e1 : n.val = 0 + j.val := h1
    obtain rfl : w = hp 3 i := Fin.ext (by show w.val = 3 * 64 + i.val; omega)
    obtain rfl : g = 7 := Fin.ext (by show g.val = 7; omega)
    obtain rfl : n = j := Fin.ext (by omega)
    exact r213 R.r7 _ _
  refine View.allAt_cons_unit _ _ _ _ _ (tile2 1920 0 _ _ _ _ fun i j h0 h1 => ?_) ?_
  · have e0 : g.val * 256 + w.val = 1920 + i.val := h0
    have e1 : n.val = 0 + j.val := h1
    obtain rfl : w = hp 2 i := Fin.ext (by show w.val = 2 * 64 + i.val; omega)
    obtain rfl : g = 7 := Fin.ext (by show g.val = 7; omega)
    obtain rfl : n = j := Fin.ext (by omega)
    exact r205 R.r7 _ _
  refine View.allAt_cons_unit _ _ _ _ _ (tile2 1856 0 _ _ _ _ fun i j h0 h1 => ?_) ?_
  · have e0 : g.val * 256 + w.val = 1856 + i.val := h0
    have e1 : n.val = 0 + j.val := h1
    obtain rfl : w = hp 1 i := Fin.ext (by show w.val = 1 * 64 + i.val; omega)
    obtain rfl : g = 7 := Fin.ext (by show g.val = 7; omega)
    obtain rfl : n = j := Fin.ext (by omega)
    exact r197 R.r7 _ _
  refine View.allAt_cons_unit _ _ _ _ _ (tile2 1792 0 _ _ _ _ fun i j h0 h1 => ?_) ?_
  · have e0 : g.val * 256 + w.val = 1792 + i.val := h0
    have e1 : n.val = 0 + j.val := h1
    obtain rfl : w = hp 0 i := Fin.ext (by show w.val = 0 * 64 + i.val; omega)
    obtain rfl : g = 7 := Fin.ext (by show g.val = 7; omega)
    obtain rfl : n = j := Fin.ext (by omega)
    exact r189 R.r7 _ _
  refine View.allAt_cons_unit _ _ _ _ _ (tile2 1728 0 _ _ _ _ fun i j h0 h1 => ?_) ?_
  · have e0 : g.val * 256 + w.val = 1728 + i.val := h0
    have e1 : n.val = 0 + j.val := h1
    obtain rfl : w = hp 3 i := Fin.ext (by show w.val = 3 * 64 + i.val; omega)
    obtain rfl : g = 6 := Fin.ext (by show g.val = 6; omega)
    obtain rfl : n = j := Fin.ext (by omega)
    exact r213 R.r6 _ _
  refine View.allAt_cons_unit _ _ _ _ _ (tile2 1664 0 _ _ _ _ fun i j h0 h1 => ?_) ?_
  · have e0 : g.val * 256 + w.val = 1664 + i.val := h0
    have e1 : n.val = 0 + j.val := h1
    obtain rfl : w = hp 2 i := Fin.ext (by show w.val = 2 * 64 + i.val; omega)
    obtain rfl : g = 6 := Fin.ext (by show g.val = 6; omega)
    obtain rfl : n = j := Fin.ext (by omega)
    exact r205 R.r6 _ _
  refine View.allAt_cons_unit _ _ _ _ _ (tile2 1600 0 _ _ _ _ fun i j h0 h1 => ?_) ?_
  · have e0 : g.val * 256 + w.val = 1600 + i.val := h0
    have e1 : n.val = 0 + j.val := h1
    obtain rfl : w = hp 1 i := Fin.ext (by show w.val = 1 * 64 + i.val; omega)
    obtain rfl : g = 6 := Fin.ext (by show g.val = 6; omega)
    obtain rfl : n = j := Fin.ext (by omega)
    exact r197 R.r6 _ _
  refine View.allAt_cons_unit _ _ _ _ _ (tile2 1536 0 _ _ _ _ fun i j h0 h1 => ?_) ?_
  · have e0 : g.val * 256 + w.val = 1536 + i.val := h0
    have e1 : n.val = 0 + j.val := h1
    obtain rfl : w = hp 0 i := Fin.ext (by show w.val = 0 * 64 + i.val; omega)
    obtain rfl : g = 6 := Fin.ext (by show g.val = 6; omega)
    obtain rfl : n = j := Fin.ext (by omega)
    exact r189 R.r6 _ _
  refine View.allAt_cons_unit _ _ _ _ _ (tile2 1472 0 _ _ _ _ fun i j h0 h1 => ?_) ?_
  · have e0 : g.val * 256 + w.val = 1472 + i.val := h0
    have e1 : n.val = 0 + j.val := h1
    obtain rfl : w = hp 3 i := Fin.ext (by show w.val = 3 * 64 + i.val; omega)
    obtain rfl : g = 5 := Fin.ext (by show g.val = 5; omega)
    obtain rfl : n = j := Fin.ext (by omega)
    exact r213 R.r5 _ _
  refine View.allAt_cons_unit _ _ _ _ _ (tile2 1408 0 _ _ _ _ fun i j h0 h1 => ?_) ?_
  · have e0 : g.val * 256 + w.val = 1408 + i.val := h0
    have e1 : n.val = 0 + j.val := h1
    obtain rfl : w = hp 2 i := Fin.ext (by show w.val = 2 * 64 + i.val; omega)
    obtain rfl : g = 5 := Fin.ext (by show g.val = 5; omega)
    obtain rfl : n = j := Fin.ext (by omega)
    exact r205 R.r5 _ _
  refine View.allAt_cons_unit _ _ _ _ _ (tile2 1344 0 _ _ _ _ fun i j h0 h1 => ?_) ?_
  · have e0 : g.val * 256 + w.val = 1344 + i.val := h0
    have e1 : n.val = 0 + j.val := h1
    obtain rfl : w = hp 1 i := Fin.ext (by show w.val = 1 * 64 + i.val; omega)
    obtain rfl : g = 5 := Fin.ext (by show g.val = 5; omega)
    obtain rfl : n = j := Fin.ext (by omega)
    exact r197 R.r5 _ _
  refine View.allAt_cons_unit _ _ _ _ _ (tile2 1280 0 _ _ _ _ fun i j h0 h1 => ?_) ?_
  · have e0 : g.val * 256 + w.val = 1280 + i.val := h0
    have e1 : n.val = 0 + j.val := h1
    obtain rfl : w = hp 0 i := Fin.ext (by show w.val = 0 * 64 + i.val; omega)
    obtain rfl : g = 5 := Fin.ext (by show g.val = 5; omega)
    obtain rfl : n = j := Fin.ext (by omega)
    exact r189 R.r5 _ _
  refine View.allAt_cons_unit _ _ _ _ _ (tile2 1216 0 _ _ _ _ fun i j h0 h1 => ?_) ?_
  · have e0 : g.val * 256 + w.val = 1216 + i.val := h0
    have e1 : n.val = 0 + j.val := h1
    obtain rfl : w = hp 3 i := Fin.ext (by show w.val = 3 * 64 + i.val; omega)
    obtain rfl : g = 4 := Fin.ext (by show g.val = 4; omega)
    obtain rfl : n = j := Fin.ext (by omega)
    exact r213 R.r4 _ _
  refine View.allAt_cons_unit _ _ _ _ _ (tile2 1152 0 _ _ _ _ fun i j h0 h1 => ?_) ?_
  · have e0 : g.val * 256 + w.val = 1152 + i.val := h0
    have e1 : n.val = 0 + j.val := h1
    obtain rfl : w = hp 2 i := Fin.ext (by show w.val = 2 * 64 + i.val; omega)
    obtain rfl : g = 4 := Fin.ext (by show g.val = 4; omega)
    obtain rfl : n = j := Fin.ext (by omega)
    exact r205 R.r4 _ _
  refine View.allAt_cons_unit _ _ _ _ _ (tile2 1088 0 _ _ _ _ fun i j h0 h1 => ?_) ?_
  · have e0 : g.val * 256 + w.val = 1088 + i.val := h0
    have e1 : n.val = 0 + j.val := h1
    obtain rfl : w = hp 1 i := Fin.ext (by show w.val = 1 * 64 + i.val; omega)
    obtain rfl : g = 4 := Fin.ext (by show g.val = 4; omega)
    obtain rfl : n = j := Fin.ext (by omega)
    exact r197 R.r4 _ _
  refine View.allAt_cons_unit _ _ _ _ _ (tile2 1024 0 _ _ _ _ fun i j h0 h1 => ?_) ?_
  · have e0 : g.val * 256 + w.val = 1024 + i.val := h0
    have e1 : n.val = 0 + j.val := h1
    obtain rfl : w = hp 0 i := Fin.ext (by show w.val = 0 * 64 + i.val; omega)
    obtain rfl : g = 4 := Fin.ext (by show g.val = 4; omega)
    obtain rfl : n = j := Fin.ext (by omega)
    exact r189 R.r4 _ _
  refine View.allAt_cons_unit _ _ _ _ _ (tile2 960 0 _ _ _ _ fun i j h0 h1 => ?_) ?_
  · have e0 : g.val * 256 + w.val = 960 + i.val := h0
    have e1 : n.val = 0 + j.val := h1
    obtain rfl : w = hp 3 i := Fin.ext (by show w.val = 3 * 64 + i.val; omega)
    obtain rfl : g = 3 := Fin.ext (by show g.val = 3; omega)
    obtain rfl : n = j := Fin.ext (by omega)
    exact r213 R.r3 _ _
  refine View.allAt_cons_unit _ _ _ _ _ (tile2 896 0 _ _ _ _ fun i j h0 h1 => ?_) ?_
  · have e0 : g.val * 256 + w.val = 896 + i.val := h0
    have e1 : n.val = 0 + j.val := h1
    obtain rfl : w = hp 2 i := Fin.ext (by show w.val = 2 * 64 + i.val; omega)
    obtain rfl : g = 3 := Fin.ext (by show g.val = 3; omega)
    obtain rfl : n = j := Fin.ext (by omega)
    exact r205 R.r3 _ _
  refine View.allAt_cons_unit _ _ _ _ _ (tile2 832 0 _ _ _ _ fun i j h0 h1 => ?_) ?_
  · have e0 : g.val * 256 + w.val = 832 + i.val := h0
    have e1 : n.val = 0 + j.val := h1
    obtain rfl : w = hp 1 i := Fin.ext (by show w.val = 1 * 64 + i.val; omega)
    obtain rfl : g = 3 := Fin.ext (by show g.val = 3; omega)
    obtain rfl : n = j := Fin.ext (by omega)
    exact r197 R.r3 _ _
  refine View.allAt_cons_unit _ _ _ _ _ (tile2 768 0 _ _ _ _ fun i j h0 h1 => ?_) ?_
  · have e0 : g.val * 256 + w.val = 768 + i.val := h0
    have e1 : n.val = 0 + j.val := h1
    obtain rfl : w = hp 0 i := Fin.ext (by show w.val = 0 * 64 + i.val; omega)
    obtain rfl : g = 3 := Fin.ext (by show g.val = 3; omega)
    obtain rfl : n = j := Fin.ext (by omega)
    exact r189 R.r3 _ _
  refine View.allAt_cons_unit _ _ _ _ _ (tile2 704 0 _ _ _ _ fun i j h0 h1 => ?_) ?_
  · have e0 : g.val * 256 + w.val = 704 + i.val := h0
    have e1 : n.val = 0 + j.val := h1
    obtain rfl : w = hp 3 i := Fin.ext (by show w.val = 3 * 64 + i.val; omega)
    obtain rfl : g = 2 := Fin.ext (by show g.val = 2; omega)
    obtain rfl : n = j := Fin.ext (by omega)
    exact r213 R.r2 _ _
  refine View.allAt_cons_unit _ _ _ _ _ (tile2 640 0 _ _ _ _ fun i j h0 h1 => ?_) ?_
  · have e0 : g.val * 256 + w.val = 640 + i.val := h0
    have e1 : n.val = 0 + j.val := h1
    obtain rfl : w = hp 2 i := Fin.ext (by show w.val = 2 * 64 + i.val; omega)
    obtain rfl : g = 2 := Fin.ext (by show g.val = 2; omega)
    obtain rfl : n = j := Fin.ext (by omega)
    exact r205 R.r2 _ _
  refine View.allAt_cons_unit _ _ _ _ _ (tile2 576 0 _ _ _ _ fun i j h0 h1 => ?_) ?_
  · have e0 : g.val * 256 + w.val = 576 + i.val := h0
    have e1 : n.val = 0 + j.val := h1
    obtain rfl : w = hp 1 i := Fin.ext (by show w.val = 1 * 64 + i.val; omega)
    obtain rfl : g = 2 := Fin.ext (by show g.val = 2; omega)
    obtain rfl : n = j := Fin.ext (by omega)
    exact r197 R.r2 _ _
  refine View.allAt_cons_unit _ _ _ _ _ (tile2 512 0 _ _ _ _ fun i j h0 h1 => ?_) ?_
  · have e0 : g.val * 256 + w.val = 512 + i.val := h0
    have e1 : n.val = 0 + j.val := h1
    obtain rfl : w = hp 0 i := Fin.ext (by show w.val = 0 * 64 + i.val; omega)
    obtain rfl : g = 2 := Fin.ext (by show g.val = 2; omega)
    obtain rfl : n = j := Fin.ext (by omega)
    exact r189 R.r2 _ _
  refine View.allAt_cons_unit _ _ _ _ _ (tile2 448 0 _ _ _ _ fun i j h0 h1 => ?_) ?_
  · have e0 : g.val * 256 + w.val = 448 + i.val := h0
    have e1 : n.val = 0 + j.val := h1
    obtain rfl : w = hp 3 i := Fin.ext (by show w.val = 3 * 64 + i.val; omega)
    obtain rfl : g = 1 := Fin.ext (by show g.val = 1; omega)
    obtain rfl : n = j := Fin.ext (by omega)
    exact r213 R.r1 _ _
  refine View.allAt_cons_unit _ _ _ _ _ (tile2 384 0 _ _ _ _ fun i j h0 h1 => ?_) ?_
  · have e0 : g.val * 256 + w.val = 384 + i.val := h0
    have e1 : n.val = 0 + j.val := h1
    obtain rfl : w = hp 2 i := Fin.ext (by show w.val = 2 * 64 + i.val; omega)
    obtain rfl : g = 1 := Fin.ext (by show g.val = 1; omega)
    obtain rfl : n = j := Fin.ext (by omega)
    exact r205 R.r1 _ _
  refine View.allAt_cons_unit _ _ _ _ _ (tile2 320 0 _ _ _ _ fun i j h0 h1 => ?_) ?_
  · have e0 : g.val * 256 + w.val = 320 + i.val := h0
    have e1 : n.val = 0 + j.val := h1
    obtain rfl : w = hp 1 i := Fin.ext (by show w.val = 1 * 64 + i.val; omega)
    obtain rfl : g = 1 := Fin.ext (by show g.val = 1; omega)
    obtain rfl : n = j := Fin.ext (by omega)
    exact r197 R.r1 _ _
  refine View.allAt_cons_unit _ _ _ _ _ (tile2 256 0 _ _ _ _ fun i j h0 h1 => ?_) ?_
  · have e0 : g.val * 256 + w.val = 256 + i.val := h0
    have e1 : n.val = 0 + j.val := h1
    obtain rfl : w = hp 0 i := Fin.ext (by show w.val = 0 * 64 + i.val; omega)
    obtain rfl : g = 1 := Fin.ext (by show g.val = 1; omega)
    obtain rfl : n = j := Fin.ext (by omega)
    exact r189 R.r1 _ _
  refine View.allAt_cons_unit _ _ _ _ _ (tile2 192 0 _ _ _ _ fun i j h0 h1 => ?_) ?_
  · have e0 : g.val * 256 + w.val = 192 + i.val := h0
    have e1 : n.val = 0 + j.val := h1
    obtain rfl : w = hp 3 i := Fin.ext (by show w.val = 3 * 64 + i.val; omega)
    obtain rfl : g = 0 := Fin.ext (by show g.val = 0; omega)
    obtain rfl : n = j := Fin.ext (by omega)
    exact r213 R.r0 _ _
  refine View.allAt_cons_unit _ _ _ _ _ (tile2 128 0 _ _ _ _ fun i j h0 h1 => ?_) ?_
  · have e0 : g.val * 256 + w.val = 128 + i.val := h0
    have e1 : n.val = 0 + j.val := h1
    obtain rfl : w = hp 2 i := Fin.ext (by show w.val = 2 * 64 + i.val; omega)
    obtain rfl : g = 0 := Fin.ext (by show g.val = 0; omega)
    obtain rfl : n = j := Fin.ext (by omega)
    exact r205 R.r0 _ _
  refine View.allAt_cons_unit _ _ _ _ _ (tile2 64 0 _ _ _ _ fun i j h0 h1 => ?_) ?_
  · have e0 : g.val * 256 + w.val = 64 + i.val := h0
    have e1 : n.val = 0 + j.val := h1
    obtain rfl : w = hp 1 i := Fin.ext (by show w.val = 1 * 64 + i.val; omega)
    obtain rfl : g = 0 := Fin.ext (by show g.val = 0; omega)
    obtain rfl : n = j := Fin.ext (by omega)
    exact r197 R.r0 _ _
  refine View.allAt_cons_unit _ _ _ _ _ (tile2 0 0 _ _ _ _ fun i j h0 h1 => ?_) ?_
  · have e0 : g.val * 256 + w.val = 0 + i.val := h0
    have e1 : n.val = 0 + j.val := h1
    obtain rfl : w = hp 0 i := Fin.ext (by show w.val = 0 * 64 + i.val; omega)
    obtain rfl : g = 0 := Fin.ext (by show g.val = 0; omega)
    obtain rfl : n = j := Fin.ext (by omega)
    exact r189 R.r0 _ _
  exact View.allAt_nil _ _

theorem cover_dp (y : S8x3x4.Idx) : ∃ p ∈ lDp b, y ∈ p.1.set :=
  View.cover_of_tiled_head _ _ _ (by rfl) y

theorem cover_dnw (y : S8x1x256.Idx) : ∃ p ∈ lDnw b, y ∈ p.1.set :=
  View.cover_of_tiled_head _ _ _ (by rfl) y

theorem cover_dS (y : S2048x128.Idx) : ∃ p ∈ lDS b, y ∈ p.1.set :=
  View.cover_of_tiled_head _ _ _ (by rfl) y

end Cert.KernelIdeal.Group
-- ==== Proof.BlockReads.lean ====
/- What a group reads of a chunk's blocks, over the real numbers. -/
module

public import proofs.«01_k».proof.Proof.Canon

@[expose] public section

set_option maxRecDepth 16384

noncomputable section

namespace Cert.KernelIdeal.Group

open Cert.Ssd Cert.KernelIdeal Cert.KernelIdeal.Gen
open Idealize.ShloMosaic Idealize.SL.Sem

theorem ld2 {S0 S1 a b : ℕ} {e : EltTy} (X : (⟨2, ![S0, S1]⟩ : Shape).Idx → Elt Ideal e) (o0 o1 : ℕ) (inb) (i : Fin a) (j : Fin b) (y0 : Fin S0) (y1 : Fin S1)
    (h0 : y0.val = o0 + i.val) (h1 : y1.val = o1 + j.val) :
    View.ld (S := ⟨2, ![S0, S1]⟩) (Val := Elt Ideal) X (Rect.unit ![o0, o1] ![a, b] inb) (ix2 i j) = X (ix2 y0 y1) :=
  View.ld_unit_apply_of X _ _ _ _ _ fun k => by
    match k with
    | ⟨0, _⟩ => exact h0
    | ⟨1, _⟩ => exact h1

theorem ld3 {S0 S1 S2 a b c : ℕ} {e : EltTy} (X : (⟨3, ![S0, S1, S2]⟩ : Shape).Idx → Elt Ideal e) (o0 o1 o2 : ℕ) (inb) (i : Fin a) (j : Fin b) (k : Fin c)
    (y0 : Fin S0) (y1 : Fin S1) (y2 : Fin S2) (h0 : y0.val = o0 + i.val) (h1 : y1.val = o1 + j.val) (h2 : y2.val = o2 + k.val) :
    View.ld (S := ⟨3, ![S0, S1, S2]⟩) (Val := Elt Ideal) X (Rect.unit ![o0, o1, o2] ![a, b, c] inb) (ix3 i j k) = X (ix3 y0 y1 y2) :=
  View.ld_unit_apply_of X _ _ _ _ _ fun k => by
    match k with
    | ⟨0, _⟩ => exact h0
    | ⟨1, _⟩ => exact h1
    | ⟨2, _⟩ => exact h2

theorem ld4 {S0 S1 S2 S3 a b c d : ℕ} {e : EltTy} (X : (⟨4, ![S0, S1, S2, S3]⟩ : Shape).Idx → Elt Ideal e) (o0 o1 o2 o3 : ℕ) (inb) (i : Fin a) (j : Fin b) (k : Fin c)
    (l : Fin d) (y0 : Fin S0) (y1 : Fin S1) (y2 : Fin S2) (y3 : Fin S3) (h0 : y0.val = o0 + i.val) (h1 : y1.val = o1 + j.val) (h2 : y2.val = o2 + k.val)
    (h3 : y3.val = o3 + l.val) :
    View.ld (S := ⟨4, ![S0, S1, S2, S3]⟩) (Val := Elt Ideal) X (Rect.unit ![o0, o1, o2, o3] ![a, b, c, d] inb) (ix4 i j k l) = X (ix4 y0 y1 y2 y3) :=
  View.ld_unit_apply_of X _ _ _ _ _ fun k => by
    match k with
    | ⟨0, _⟩ => exact h0
    | ⟨1, _⟩ => exact h1
    | ⟨2, _⟩ => exact h2
    | ⟨3, _⟩ => exact h3

/-- The blocks `b` hold, group by group, the chunk `I` and the sums so far. -/
structure Holds (b : Blocks Ideal) (I : Fin 8 → In) (an : Fin 8 → Fin 256 → ℝ) (ap : Fin 8 → Fin 3 → Fin 4 → ℝ) : Prop where
  dyn : ∀ (g : Fin 8) l (w : Fin 256), (b.dyn : FVec Ideal S128x2048 .f32) (ix2 l (⟨g.val * 256 + w.val, by omega⟩ : Fin 2048)) = ((I g).dyn l w : EReal)
  y : ∀ (g : Fin 8) l (w : Fin 256), (b.y : FVec Ideal S128x2048 .f32) (ix2 l (⟨g.val * 256 + w.val, by omega⟩ : Fin 2048)) = ((I g).y l w : EReal)
  x : ∀ (g : Fin 8) l (w : Fin 256), (b.x : FVec Ideal S128x2048 .bf16) (ix2 l (⟨g.val * 256 + w.val, by omega⟩ : Fin 2048)) = ((I g).x l w : EReal)
  z : ∀ (g : Fin 8) l (w : Fin 256), (b.z : FVec Ideal S128x2048 .bf16) (ix2 l (⟨g.val * 256 + w.val, by omega⟩ : Fin 2048)) = ((I g).z l w : EReal)
  B : ∀ (g : Fin 8) l (n : Fin 128), (b.B : FVec Ideal S128x1024 .bf16) (ix2 l (⟨g.val * 128 + n.val, by omega⟩ : Fin 1024)) = ((I g).B l n : EReal)
  C : ∀ (g : Fin 8) l (n : Fin 128), (b.C : FVec Ideal S128x1024 .bf16) (ix2 l (⟨g.val * 128 + n.val, by omega⟩ : Fin 1024)) = ((I g).C l n : EReal)
  dt : ∀ (g : Fin 8) l h, (b.dt : FVec Ideal S8x128x4 .f32) (ix3 g l h) = ((I g).dt l h : EReal)
  bias : ∀ (g : Fin 8) h, (b.par : FVec Ideal S8x3x4 .f32) (ix3 g 0 h) = ((I g).bias h : EReal)
  alog : ∀ (g : Fin 8) h, (b.par : FVec Ideal S8x3x4 .f32) (ix3 g 1 h) = ((I g).alog h : EReal)
  skip : ∀ (g : Fin 8) h, (b.par : FVec Ideal S8x3x4 .f32) (ix3 g 2 h) = ((I g).skip h : EReal)
  nw : ∀ (g : Fin 8) w, (b.nw : FVec Ideal S8x1x256 .f32) (ix3 g 0 w) = ((I g).nw w : EReal)
  S0 : ∀ (g : Fin 8) w n, (b.S : FVec Ideal S8x1x256x128 .f32) (ix4 g 0 w n) = ((I g).S0 w n : EReal)
  dp : ∀ (g : Fin 8) r h, (b.dp : FVec Ideal S8x3x4 .f32) (ix3 g r h) = (ap g r h : EReal)
  dnw : ∀ (g : Fin 8) w, (b.dnw : FVec Ideal S8x1x256 .f32) (ix3 g 0 w) = (an g w : EReal)
  dS : ∀ (g : Fin 8) (w : Fin 256) n, (b.dS : FVec Ideal S2048x128 .f32) (ix2 (⟨g.val * 256 + w.val, by omega⟩ : Fin 2048) n) = ((I g).dS w n : EReal)

variable {b : Blocks Ideal} {I : Fin 8 → In} {an : Fin 8 → Fin 256 → ℝ} {ap : Fin 8 → Fin 3 → Fin 4 → ℝ}

theorem reads0 (H : Holds b I an ap) : Reads (G0 b) (I 0) (an 0) (ap 0) where
  dnw w := (ld3 b.dnw _ _ _ _ _ _ _ _ _ _ (by show 0 = 0 + 0; omega) rfl (Nat.zero_add _).symm).trans (H.dnw 0 w)
  dyn l w := (ld2 b.dyn _ _ _ _ _ _ _ (Nat.zero_add _).symm (by show 0 * 256 + w.val = 0 + w.val; omega)).trans (H.dyn 0 l w)
  y l w := (ld2 b.y _ _ _ _ _ _ _ (Nat.zero_add _).symm (by show 0 * 256 + w.val = 0 + w.val; omega)).trans (H.y 0 l w)
  x l w := (ld2 b.x _ _ _ _ _ _ _ (Nat.zero_add _).symm (by show 0 * 256 + w.val = 0 + w.val; omega)).trans (H.x 0 l w)
  z l w := (ld2 b.z _ _ _ _ _ _ _ (Nat.zero_add _).symm (by show 0 * 256 + w.val = 0 + w.val; omega)).trans (H.z 0 l w)
  B l n := (ld2 b.B _ _ _ _ _ _ _ (Nat.zero_add _).symm (by show 0 * 128 + n.val = 0 + n.val; omega)).trans (H.B 0 l n)
  C l n := (ld2 b.C _ _ _ _ _ _ _ (Nat.zero_add _).symm (by show 0 * 128 + n.val = 0 + n.val; omega)).trans (H.C 0 l n)
  bias h := (ld3 b.par _ _ _ _ _ _ _ _ _ _ (by show 0 = 0 + 0; omega) rfl (Nat.zero_add _).symm).trans (H.bias 0 h)
  alog h := (ld3 b.par _ _ _ _ _ _ _ _ _ _ (by show 0 = 0 + 0; omega) rfl (Nat.zero_add _).symm).trans (H.alog 0 h)
  skip h := (ld3 b.par _ _ _ _ _ _ _ _ _ _ (by show 0 = 0 + 0; omega) rfl (Nat.zero_add _).symm).trans (H.skip 0 h)
  nw w := (ld3 b.nw _ _ _ _ _ _ _ _ _ _ (by show 0 = 0 + 0; omega) rfl (Nat.zero_add _).symm).trans (H.nw 0 w)
  dt l h := (ld3 b.dt _ _ _ _ _ _ _ _ _ _ (by show 0 = 0 + 0; omega) (Nat.zero_add _).symm (Nat.zero_add _).symm).trans (H.dt 0 l h)
  dS w n := (ld2 b.dS _ _ _ _ _ _ _ (by show 0 * 256 + w.val = 0 + w.val; omega) (Nat.zero_add _).symm).trans (H.dS 0 w n)
  S0 w n := (ld4 b.S _ _ _ _ _ _ _ _ _ _ _ _ _ (by show 0 = 0 + 0; omega) rfl (Nat.zero_add _).symm (Nat.zero_add _).symm).trans (H.S0 0 w n)
  dp r h := (ld3 b.dp _ _ _ _ _ _ _ _ _ _ (by show 0 = 0 + 0; omega) (Nat.zero_add _).symm (Nat.zero_add _).symm).trans (H.dp 0 r h)

theorem reads1 (H : Holds b I an ap) : Reads (G1 b) (I 1) (an 1) (ap 1) where
  dnw w := (ld3 b.dnw _ _ _ _ _ _ _ _ _ _ (by show 1 = 1 + 0; omega) rfl (Nat.zero_add _).symm).trans (H.dnw 1 w)
  dyn l w := (ld2 b.dyn _ _ _ _ _ _ _ (Nat.zero_add _).symm (by show 1 * 256 + w.val = 256 + w.val; omega)).trans (H.dyn 1 l w)
  y l w := (ld2 b.y _ _ _ _ _ _ _ (Nat.zero_add _).symm (by show 1 * 256 + w.val = 256 + w.val; omega)).trans (H.y 1 l w)
  x l w := (ld2 b.x _ _ _ _ _ _ _ (Nat.zero_add _).symm (by show 1 * 256 + w.val = 256 + w.val; omega)).trans (H.x 1 l w)
  z l w := (ld2 b.z _ _ _ _ _ _ _ (Nat.zero_add _).symm (by show 1 * 256 + w.val = 256 + w.val; omega)).trans (H.z 1 l w)
  B l n := (ld2 b.B _ _ _ _ _ _ _ (Nat.zero_add _).symm (by show 1 * 128 + n.val = 128 + n.val; omega)).trans (H.B 1 l n)
  C l n := (ld2 b.C _ _ _ _ _ _ _ (Nat.zero_add _).symm (by show 1 * 128 + n.val = 128 + n.val; omega)).trans (H.C 1 l n)
  bias h := (ld3 b.par _ _ _ _ _ _ _ _ _ _ (by show 1 = 1 + 0; omega) rfl (Nat.zero_add _).symm).trans (H.bias 1 h)
  alog h := (ld3 b.par _ _ _ _ _ _ _ _ _ _ (by show 1 = 1 + 0; omega) rfl (Nat.zero_add _).symm).trans (H.alog 1 h)
  skip h := (ld3 b.par _ _ _ _ _ _ _ _ _ _ (by show 1 = 1 + 0; omega) rfl (Nat.zero_add _).symm).trans (H.skip 1 h)
  nw w := (ld3 b.nw _ _ _ _ _ _ _ _ _ _ (by show 1 = 1 + 0; omega) rfl (Nat.zero_add _).symm).trans (H.nw 1 w)
  dt l h := (ld3 b.dt _ _ _ _ _ _ _ _ _ _ (by show 1 = 1 + 0; omega) (Nat.zero_add _).symm (Nat.zero_add _).symm).trans (H.dt 1 l h)
  dS w n := (ld2 b.dS _ _ _ _ _ _ _ (by show 1 * 256 + w.val = 256 + w.val; omega) (Nat.zero_add _).symm).trans (H.dS 1 w n)
  S0 w n := (ld4 b.S _ _ _ _ _ _ _ _ _ _ _ _ _ (by show 1 = 1 + 0; omega) rfl (Nat.zero_add _).symm (Nat.zero_add _).symm).trans (H.S0 1 w n)
  dp r h := (ld3 b.dp _ _ _ _ _ _ _ _ _ _ (by show 1 = 1 + 0; omega) (Nat.zero_add _).symm (Nat.zero_add _).symm).trans (H.dp 1 r h)

theorem reads2 (H : Holds b I an ap) : Reads (G2 b) (I 2) (an 2) (ap 2) where
  dnw w := (ld3 b.dnw _ _ _ _ _ _ _ _ _ _ (by show 2 = 2 + 0; omega) rfl (Nat.zero_add _).symm).trans (H.dnw 2 w)
  dyn l w := (ld2 b.dyn _ _ _ _ _ _ _ (Nat.zero_add _).symm (by show 2 * 256 + w.val = 512 + w.val; omega)).trans (H.dyn 2 l w)
  y l w := (ld2 b.y _ _ _ _ _ _ _ (Nat.zero_add _).symm (by show 2 * 256 + w.val = 512 + w.val; omega)).trans (H.y 2 l w)
  x l w := (ld2 b.x _ _ _ _ _ _ _ (Nat.zero_add _).symm (by show 2 * 256 + w.val = 512 + w.val; omega)).trans (H.x 2 l w)
  z l w := (ld2 b.z _ _ _ _ _ _ _ (Nat.zero_add _).symm (by show 2 * 256 + w.val = 512 + w.val; omega)).trans (H.z 2 l w)
  B l n := (ld2 b.B _ _ _ _ _ _ _ (Nat.zero_add _).symm (by show 2 * 128 + n.val = 256 + n.val; omega)).trans (H.B 2 l n)
  C l n := (ld2 b.C _ _ _ _ _ _ _ (Nat.zero_add _).symm (by show 2 * 128 + n.val = 256 + n.val; omega)).trans (H.C 2 l n)
  bias h := (ld3 b.par _ _ _ _ _ _ _ _ _ _ (by show 2 = 2 + 0; omega) rfl (Nat.zero_add _).symm).trans (H.bias 2 h)
  alog h := (ld3 b.par _ _ _ _ _ _ _ _ _ _ (by show 2 = 2 + 0; omega) rfl (Nat.zero_add _).symm).trans (H.alog 2 h)
  skip h := (ld3 b.par _ _ _ _ _ _ _ _ _ _ (by show 2 = 2 + 0; omega) rfl (Nat.zero_add _).symm).trans (H.skip 2 h)
  nw w := (ld3 b.nw _ _ _ _ _ _ _ _ _ _ (by show 2 = 2 + 0; omega) rfl (Nat.zero_add _).symm).trans (H.nw 2 w)
  dt l h := (ld3 b.dt _ _ _ _ _ _ _ _ _ _ (by show 2 = 2 + 0; omega) (Nat.zero_add _).symm (Nat.zero_add _).symm).trans (H.dt 2 l h)
  dS w n := (ld2 b.dS _ _ _ _ _ _ _ (by show 2 * 256 + w.val = 512 + w.val; omega) (Nat.zero_add _).symm).trans (H.dS 2 w n)
  S0 w n := (ld4 b.S _ _ _ _ _ _ _ _ _ _ _ _ _ (by show 2 = 2 + 0; omega) rfl (Nat.zero_add _).symm (Nat.zero_add _).symm).trans (H.S0 2 w n)
  dp r h := (ld3 b.dp _ _ _ _ _ _ _ _ _ _ (by show 2 = 2 + 0; omega) (Nat.zero_add _).symm (Nat.zero_add _).symm).trans (H.dp 2 r h)

theorem reads3 (H : Holds b I an ap) : Reads (G3 b) (I 3) (an 3) (ap 3) where
  dnw w := (ld3 b.dnw _ _ _ _ _ _ _ _ _ _ (by show 3 = 3 + 0; omega) rfl (Nat.zero_add _).symm).trans (H.dnw 3 w)
  dyn l w := (ld2 b.dyn _ _ _ _ _ _ _ (Nat.zero_add _).symm (by show 3 * 256 + w.val = 768 + w.val; omega)).trans (H.dyn 3 l w)
  y l w := (ld2 b.y _ _ _ _ _ _ _ (Nat.zero_add _).symm (by show 3 * 256 + w.val = 768 + w.val; omega)).trans (H.y 3 l w)
  x l w := (ld2 b.x _ _ _ _ _ _ _ (Nat.zero_add _).symm (by show 3 * 256 + w.val = 768 + w.val; omega)).trans (H.x 3 l w)
  z l w := (ld2 b.z _ _ _ _ _ _ _ (Nat.zero_add _).symm (by show 3 * 256 + w.val = 768 + w.val; omega)).trans (H.z 3 l w)
  B l n := (ld2 b.B _ _ _ _ _ _ _ (Nat.zero_add _).symm (by show 3 * 128 + n.val = 384 + n.val; omega)).trans (H.B 3 l n)
  C l n := (ld2 b.C _ _ _ _ _ _ _ (Nat.zero_add _).symm (by show 3 * 128 + n.val = 384 + n.val; omega)).trans (H.C 3 l n)
  bias h := (ld3 b.par _ _ _ _ _ _ _ _ _ _ (by show 3 = 3 + 0; omega) rfl (Nat.zero_add _).symm).trans (H.bias 3 h)
  alog h := (ld3 b.par _ _ _ _ _ _ _ _ _ _ (by show 3 = 3 + 0; omega) rfl (Nat.zero_add _).symm).trans (H.alog 3 h)
  skip h := (ld3 b.par _ _ _ _ _ _ _ _ _ _ (by show 3 = 3 + 0; omega) rfl (Nat.zero_add _).symm).trans (H.skip 3 h)
  nw w := (ld3 b.nw _ _ _ _ _ _ _ _ _ _ (by show 3 = 3 + 0; omega) rfl (Nat.zero_add _).symm).trans (H.nw 3 w)
  dt l h := (ld3 b.dt _ _ _ _ _ _ _ _ _ _ (by show 3 = 3 + 0; omega) (Nat.zero_add _).symm (Nat.zero_add _).symm).trans (H.dt 3 l h)
  dS w n := (ld2 b.dS _ _ _ _ _ _ _ (by show 3 * 256 + w.val = 768 + w.val; omega) (Nat.zero_add _).symm).trans (H.dS 3 w n)
  S0 w n := (ld4 b.S _ _ _ _ _ _ _ _ _ _ _ _ _ (by show 3 = 3 + 0; omega) rfl (Nat.zero_add _).symm (Nat.zero_add _).symm).trans (H.S0 3 w n)
  dp r h := (ld3 b.dp _ _ _ _ _ _ _ _ _ _ (by show 3 = 3 + 0; omega) (Nat.zero_add _).symm (Nat.zero_add _).symm).trans (H.dp 3 r h)

theorem reads4 (H : Holds b I an ap) : Reads (G4 b) (I 4) (an 4) (ap 4) where
  dnw w := (ld3 b.dnw _ _ _ _ _ _ _ _ _ _ (by show 4 = 4 + 0; omega) rfl (Nat.zero_add _).symm).trans (H.dnw 4 w)
  dyn l w := (ld2 b.dyn _ _ _ _ _ _ _ (Nat.zero_add _).symm (by show 4 * 256 + w.val = 1024 + w.val; omega)).trans (H.dyn 4 l w)
  y l w := (ld2 b.y _ _ _ _ _ _ _ (Nat.zero_add _).symm (by show 4 * 256 + w.val = 1024 + w.val; omega)).trans (H.y 4 l w)
  x l w := (ld2 b.x _ _ _ _ _ _ _ (Nat.zero_add _).symm (by show 4 * 256 + w.val = 1024 + w.val; omega)).trans (H.x 4 l w)
  z l w := (ld2 b.z _ _ _ _ _ _ _ (Nat.zero_add _).symm (by show 4 * 256 + w.val = 1024 + w.val; omega)).trans (H.z 4 l w)
  B l n := (ld2 b.B _ _ _ _ _ _ _ (Nat.zero_add _).symm (by show 4 * 128 + n.val = 512 + n.val; omega)).trans (H.B 4 l n)
  C l n := (ld2 b.C _ _ _ _ _ _ _ (Nat.zero_add _).symm (by show 4 * 128 + n.val = 512 + n.val; omega)).trans (H.C 4 l n)
  bias h := (ld3 b.par _ _ _ _ _ _ _ _ _ _ (by show 4 = 4 + 0; omega) rfl (Nat.zero_add _).symm).trans (H.bias 4 h)
  alog h := (ld3 b.par _ _ _ _ _ _ _ _ _ _ (by show 4 = 4 + 0; omega) rfl (Nat.zero_add _).symm).trans (H.alog 4 h)
  skip h := (ld3 b.par _ _ _ _ _ _ _ _ _ _ (by show 4 = 4 + 0; omega) rfl (Nat.zero_add _).symm).trans (H.skip 4 h)
  nw w := (ld3 b.nw _ _ _ _ _ _ _ _ _ _ (by show 4 = 4 + 0; omega) rfl (Nat.zero_add _).symm).trans (H.nw 4 w)
  dt l h := (ld3 b.dt _ _ _ _ _ _ _ _ _ _ (by show 4 = 4 + 0; omega) (Nat.zero_add _).symm (Nat.zero_add _).symm).trans (H.dt 4 l h)
  dS w n := (ld2 b.dS _ _ _ _ _ _ _ (by show 4 * 256 + w.val = 1024 + w.val; omega) (Nat.zero_add _).symm).trans (H.dS 4 w n)
  S0 w n := (ld4 b.S _ _ _ _ _ _ _ _ _ _ _ _ _ (by show 4 = 4 + 0; omega) rfl (Nat.zero_add _).symm (Nat.zero_add _).symm).trans (H.S0 4 w n)
  dp r h := (ld3 b.dp _ _ _ _ _ _ _ _ _ _ (by show 4 = 4 + 0; omega) (Nat.zero_add _).symm (Nat.zero_add _).symm).trans (H.dp 4 r h)

theorem reads5 (H : Holds b I an ap) : Reads (G5 b) (I 5) (an 5) (ap 5) where
  dnw w := (ld3 b.dnw _ _ _ _ _ _ _ _ _ _ (by show 5 = 5 + 0; omega) rfl (Nat.zero_add _).symm).trans (H.dnw 5 w)
  dyn l w := (ld2 b.dyn _ _ _ _ _ _ _ (Nat.zero_add _).symm (by show 5 * 256 + w.val = 1280 + w.val; omega)).trans (H.dyn 5 l w)
  y l w := (ld2 b.y _ _ _ _ _ _ _ (Nat.zero_add _).symm (by show 5 * 256 + w.val = 1280 + w.val; omega)).trans (H.y 5 l w)
  x l w := (ld2 b.x _ _ _ _ _ _ _ (Nat.zero_add _).symm (by show 5 * 256 + w.val = 1280 + w.val; omega)).trans (H.x 5 l w)
  z l w := (ld2 b.z _ _ _ _ _ _ _ (Nat.zero_add _).symm (by show 5 * 256 + w.val = 1280 + w.val; omega)).trans (H.z 5 l w)
  B l n := (ld2 b.B _ _ _ _ _ _ _ (Nat.zero_add _).symm (by show 5 * 128 + n.val = 640 + n.val; omega)).trans (H.B 5 l n)
  C l n := (ld2 b.C _ _ _ _ _ _ _ (Nat.zero_add _).symm (by show 5 * 128 + n.val = 640 + n.val; omega)).trans (H.C 5 l n)
  bias h := (ld3 b.par _ _ _ _ _ _ _ _ _ _ (by show 5 = 5 + 0; omega) rfl (Nat.zero_add _).symm).trans (H.bias 5 h)
  alog h := (ld3 b.par _ _ _ _ _ _ _ _ _ _ (by show 5 = 5 + 0; omega) rfl (Nat.zero_add _).symm).trans (H.alog 5 h)
  skip h := (ld3 b.par _ _ _ _ _ _ _ _ _ _ (by show 5 = 5 + 0; omega) rfl (Nat.zero_add _).symm).trans (H.skip 5 h)
  nw w := (ld3 b.nw _ _ _ _ _ _ _ _ _ _ (by show 5 = 5 + 0; omega) rfl (Nat.zero_add _).symm).trans (H.nw 5 w)
  dt l h := (ld3 b.dt _ _ _ _ _ _ _ _ _ _ (by show 5 = 5 + 0; omega) (Nat.zero_add _).symm (Nat.zero_add _).symm).trans (H.dt 5 l h)
  dS w n := (ld2 b.dS _ _ _ _ _ _ _ (by show 5 * 256 + w.val = 1280 + w.val; omega) (Nat.zero_add _).symm).trans (H.dS 5 w n)
  S0 w n := (ld4 b.S _ _ _ _ _ _ _ _ _ _ _ _ _ (by show 5 = 5 + 0; omega) rfl (Nat.zero_add _).symm (Nat.zero_add _).symm).trans (H.S0 5 w n)
  dp r h := (ld3 b.dp _ _ _ _ _ _ _ _ _ _ (by show 5 = 5 + 0; omega) (Nat.zero_add _).symm (Nat.zero_add _).symm).trans (H.dp 5 r h)

theorem reads6 (H : Holds b I an ap) : Reads (G6 b) (I 6) (an 6) (ap 6) where
  dnw w := (ld3 b.dnw _ _ _ _ _ _ _ _ _ _ (by show 6 = 6 + 0; omega) rfl (Nat.zero_add _).symm).trans (H.dnw 6 w)
  dyn l w := (ld2 b.dyn _ _ _ _ _ _ _ (Nat.zero_add _).symm (by show 6 * 256 + w.val = 1536 + w.val; omega)).trans (H.dyn 6 l w)
  y l w := (ld2 b.y _ _ _ _ _ _ _ (Nat.zero_add _).symm (by show 6 * 256 + w.val = 1536 + w.val; omega)).trans (H.y 6 l w)
  x l w := (ld2 b.x _ _ _ _ _ _ _ (Nat.zero_add _).symm (by show 6 * 256 + w.val = 1536 + w.val; omega)).trans (H.x 6 l w)
  z l w := (ld2 b.z _ _ _ _ _ _ _ (Nat.zero_add _).symm (by show 6 * 256 + w.val = 1536 + w.val; omega)).trans (H.z 6 l w)
  B l n := (ld2 b.B _ _ _ _ _ _ _ (Nat.zero_add _).symm (by show 6 * 128 + n.val = 768 + n.val; omega)).trans (H.B 6 l n)
  C l n := (ld2 b.C _ _ _ _ _ _ _ (Nat.zero_add _).symm (by show 6 * 128 + n.val = 768 + n.val; omega)).trans (H.C 6 l n)
  bias h := (ld3 b.par _ _ _ _ _ _ _ _ _ _ (by show 6 = 6 + 0; omega) rfl (Nat.zero_add _).symm).trans (H.bias 6 h)
  alog h := (ld3 b.par _ _ _ _ _ _ _ _ _ _ (by show 6 = 6 + 0; omega) rfl (Nat.zero_add _).symm).trans (H.alog 6 h)
  skip h := (ld3 b.par _ _ _ _ _ _ _ _ _ _ (by show 6 = 6 + 0; omega) rfl (Nat.zero_add _).symm).trans (H.skip 6 h)
  nw w := (ld3 b.nw _ _ _ _ _ _ _ _ _ _ (by show 6 = 6 + 0; omega) rfl (Nat.zero_add _).symm).trans (H.nw 6 w)
  dt l h := (ld3 b.dt _ _ _ _ _ _ _ _ _ _ (by show 6 = 6 + 0; omega) (Nat.zero_add _).symm (Nat.zero_add _).symm).trans (H.dt 6 l h)
  dS w n := (ld2 b.dS _ _ _ _ _ _ _ (by show 6 * 256 + w.val = 1536 + w.val; omega) (Nat.zero_add _).symm).trans (H.dS 6 w n)
  S0 w n := (ld4 b.S _ _ _ _ _ _ _ _ _ _ _ _ _ (by show 6 = 6 + 0; omega) rfl (Nat.zero_add _).symm (Nat.zero_add _).symm).trans (H.S0 6 w n)
  dp r h := (ld3 b.dp _ _ _ _ _ _ _ _ _ _ (by show 6 = 6 + 0; omega) (Nat.zero_add _).symm (Nat.zero_add _).symm).trans (H.dp 6 r h)

theorem reads7 (H : Holds b I an ap) : Reads (G7 b) (I 7) (an 7) (ap 7) where
  dnw w := (ld3 b.dnw _ _ _ _ _ _ _ _ _ _ (by show 7 = 7 + 0; omega) rfl (Nat.zero_add _).symm).trans (H.dnw 7 w)
  dyn l w := (ld2 b.dyn _ _ _ _ _ _ _ (Nat.zero_add _).symm (by show 7 * 256 + w.val = 1792 + w.val; omega)).trans (H.dyn 7 l w)
  y l w := (ld2 b.y _ _ _ _ _ _ _ (Nat.zero_add _).symm (by show 7 * 256 + w.val = 1792 + w.val; omega)).trans (H.y 7 l w)
  x l w := (ld2 b.x _ _ _ _ _ _ _ (Nat.zero_add _).symm (by show 7 * 256 + w.val = 1792 + w.val; omega)).trans (H.x 7 l w)
  z l w := (ld2 b.z _ _ _ _ _ _ _ (Nat.zero_add _).symm (by show 7 * 256 + w.val = 1792 + w.val; omega)).trans (H.z 7 l w)
  B l n := (ld2 b.B _ _ _ _ _ _ _ (Nat.zero_add _).symm (by show 7 * 128 + n.val = 896 + n.val; omega)).trans (H.B 7 l n)
  C l n := (ld2 b.C _ _ _ _ _ _ _ (Nat.zero_add _).symm (by show 7 * 128 + n.val = 896 + n.val; omega)).trans (H.C 7 l n)
  bias h := (ld3 b.par _ _ _ _ _ _ _ _ _ _ (by show 7 = 7 + 0; omega) rfl (Nat.zero_add _).symm).trans (H.bias 7 h)
  alog h := (ld3 b.par _ _ _ _ _ _ _ _ _ _ (by show 7 = 7 + 0; omega) rfl (Nat.zero_add _).symm).trans (H.alog 7 h)
  skip h := (ld3 b.par _ _ _ _ _ _ _ _ _ _ (by show 7 = 7 + 0; omega) rfl (Nat.zero_add _).symm).trans (H.skip 7 h)
  nw w := (ld3 b.nw _ _ _ _ _ _ _ _ _ _ (by show 7 = 7 + 0; omega) rfl (Nat.zero_add _).symm).trans (H.nw 7 w)
  dt l h := (ld3 b.dt _ _ _ _ _ _ _ _ _ _ (by show 7 = 7 + 0; omega) (Nat.zero_add _).symm (Nat.zero_add _).symm).trans (H.dt 7 l h)
  dS w n := (ld2 b.dS _ _ _ _ _ _ _ (by show 7 * 256 + w.val = 1792 + w.val; omega) (Nat.zero_add _).symm).trans (H.dS 7 w n)
  S0 w n := (ld4 b.S _ _ _ _ _ _ _ _ _ _ _ _ _ (by show 7 = 7 + 0; omega) rfl (Nat.zero_add _).symm (Nat.zero_add _).symm).trans (H.S0 7 w n)
  dp r h := (ld3 b.dp _ _ _ _ _ _ _ _ _ _ (by show 7 = 7 + 0; omega) (Nat.zero_add _).symm (Nat.zero_add _).symm).trans (H.dp 7 r h)

theorem Holds.all (H : Holds b I an ap) : ReadsAll b I an ap :=
  ⟨reads0 H, reads1 H, reads2 H, reads3 H, reads4 H, reads5 H, reads6 H, reads7 H⟩

end Cert.KernelIdeal.Group
-- ==== Proof.Whole.lean ====
/- The whole gradient over the real numbers: 32 chunks of 128 tokens, taken from the last to the first, and eight
   groups. -/
module

public import proofs.«01_k».proof.Proof.Spec

@[expose] public section

noncomputable section

namespace Cert.Ssd

open scoped BigOperators

/-- The arguments as real numbers. -/
structure Data where
  dyn : Fin 4096 → Fin 2048 → ℝ
  conv : Fin 4096 → Fin 8192 → ℝ
  proj : Fin 4096 → Fin 14336 → ℝ
  dt : Fin 4096 → Fin 32 → ℝ
  bias : Fin 32 → ℝ
  alog : Fin 32 → ℝ
  skip : Fin 32 → ℝ
  nw : Fin 2048 → ℝ
  y : Fin 4096 → Fin 2048 → ℝ
  S : Fin 8 → Fin 32 → Fin 256 → Fin 128 → ℝ

/-- Token `l` of chunk `c`. -/
def tok (c : Fin 32) (l : Fin 128) : Fin 4096 := ⟨c.val * 128 + l.val, by omega⟩
/-- Lane `w` of group `g` among all lanes. -/
def gw (g : Fin 8) (w : Fin 256) : Fin 2048 := ⟨g.val * 256 + w.val, by omega⟩
/-- Head `h` of group `g` among all heads. -/
def gh (g : Fin 8) (h : Fin 4) : Fin 32 := ⟨g.val * 4 + h.val, by omega⟩
/-- The chunk of trip `k`. -/
def rev (k : ℕ) : Fin 32 := ⟨31 - k, by omega⟩

namespace Data
variable (D : Data)

/-- Chunk `c` of group `g`, with `dS` coming in from the chunk after it. -/
def inp (g : Fin 8) (c : Fin 32) (dS : Fin 256 → Fin 128 → ℝ) : In where
  dyn l w := D.dyn (tok c l) (gw g w)
  y l w := D.y (tok c l) (gw g w)
  x l w := D.conv (tok c l) ⟨g.val * 256 + w.val, by omega⟩
  z l w := D.proj (tok c l) ⟨g.val * 256 + w.val, by omega⟩
  B l n := D.conv (tok c l) ⟨2048 + g.val * 128 + n.val, by omega⟩
  C l n := D.conv (tok c l) ⟨3072 + g.val * 128 + n.val, by omega⟩
  dt l h := D.dt (tok c l) (gh g h)
  bias h := D.bias (gh g h)
  alog h := D.alog (gh g h)
  skip h := D.skip (gh g h)
  nw w := D.nw (gw g w)
  S0 := D.S g c
  dS := dS

/-- The gradient of the state when trip `k` begins. -/
def dSat (g : Fin 8) : ℕ → Fin 256 → Fin 128 → ℝ
  | 0 => fun _ _ => 0
  | k + 1 => (D.inp g (rev k) (dSat g k)).dSn

/-- What trip `k` reads for group `g`. -/
def chunk (k : ℕ) (g : Fin 8) : In := D.inp g (rev k) (D.dSat g k)

theorem dSat_succ (g : Fin 8) (k : ℕ) : D.dSat g (k + 1) = (D.chunk k g).dSn := rfl

end Data

end Cert.Ssd
-- ==== Proof.Fetch.lean ====
/- What the kernel's blocks hold at a grid point, over the real numbers. -/
module

public import proofs.«01_k».proof.Proof.BlockReads
public import proofs.«01_k».proof.Proof.Whole
public import proofs.«01_k».proof.Proof.Gen.KernelIdeal.Value
public import Idealize.ShloMosaic.Lib.Pipeline.ValueKit
public import Idealize.ShloMosaic.Lib.StableHlo.ReadAt

@[expose] public section

set_option maxRecDepth 16384

noncomputable section

namespace Cert.KernelIdeal.Group

open Cert.Ssd Cert.KernelIdeal Cert.KernelIdeal.Gen Idealize.ShloMosaic.StableHlo
open Idealize.ShloMosaic Idealize.ShloMosaic.TcCoe Idealize.SL.Sem

/-- The arguments in memory are the numbers of `D`. -/
structure Args (D : Data) (m : (ℓ : Loc nD τ sig) → Buf (Elt Ideal) ℓ) (c : Dev nD) : Prop where
  dyn : ∀ r w, (m ((c.tc : Thread nD τ).loc main_arg0) : FVec Ideal S4096x2048 .f32) (ix2 r w) = (D.dyn r w : EReal)
  conv : ∀ r w, w.val < 4096 → (m ((c.tc : Thread nD τ).loc main_arg1) : FVec Ideal S4096x8192 .bf16) (ix2 r w) = (D.conv r w : EReal)
  proj : ∀ r w, w.val < 2048 → (m ((c.tc : Thread nD τ).loc main_arg2) : FVec Ideal S4096x14336 .bf16) (ix2 r w) = (D.proj r w : EReal)
  dt : ∀ r h, (m ((c.tc : Thread nD τ).loc main_arg3) : FVec Ideal S4096x32 .f32) (ix2 r h) = (D.dt r h : EReal)
  bias : ∀ h, (m ((c.tc : Thread nD τ).loc main_arg4) : FVec Ideal S1x32 .f32) (ix2 0 h) = (D.bias h : EReal)
  alog : ∀ h, (m ((c.tc : Thread nD τ).loc main_arg5) : FVec Ideal S1x32 .f32) (ix2 0 h) = (D.alog h : EReal)
  skip : ∀ h, (m ((c.tc : Thread nD τ).loc main_arg6) : FVec Ideal S1x32 .f32) (ix2 0 h) = (D.skip h : EReal)
  nw : ∀ w, (m ((c.tc : Thread nD τ).loc main_arg7) : FVec Ideal S1x2048 .f32) (ix2 0 w) = (D.nw w : EReal)
  y : ∀ r w, (m ((c.tc : Thread nD τ).loc main_arg8) : FVec Ideal S4096x2048 .f32) (ix2 r w) = (D.y r w : EReal)
  S : ∀ g c' w n, (m ((c.tc : Thread nD τ).loc main_arg9) : FVec Ideal S8x32x256x128 .f32) (ix4 g c' w n) = (D.S g c' w n : EReal)

variable {D : Data} {m : (ℓ : Loc nD τ sig) → Buf (Elt Ideal) ℓ} {c : Dev nD}

theorem idx0 : ∀ t : Fin grid0.N, win0_0.index t = ![31 - t.val, 0] := by decide +kernel
theorem idx1 : ∀ t : Fin grid0.N, win0_1.index t = ![31 - t.val, 0] := by decide +kernel
theorem idx2 : ∀ t : Fin grid0.N, win0_2.index t = ![31 - t.val, 2] := by decide +kernel
theorem idx3 : ∀ t : Fin grid0.N, win0_3.index t = ![31 - t.val, 3] := by decide +kernel
theorem idx4 : ∀ t : Fin grid0.N, win0_4.index t = ![31 - t.val, 0] := by decide +kernel
theorem idx5 : ∀ t : Fin grid0.N, win0_5.index t = ![0, 31 - t.val, 0] := by decide +kernel
theorem idx6 : ∀ t : Fin grid0.N, win0_6.index t = ![0, 0, 0] := by decide +kernel
theorem idx7 : ∀ t : Fin grid0.N, win0_7.index t = ![0, 0, 0] := by decide +kernel
theorem idx8 : ∀ t : Fin grid0.N, win0_8.index t = ![31 - t.val, 0] := by decide +kernel
theorem idx9 : ∀ t : Fin grid0.N, win0_9.index t = ![0, 31 - t.val, 0, 0] := by decide +kernel

theorem host_dt (A : Args D m c) (g : Fin 8) (r : Fin 4096) (h : Fin 4) :
    (V m c main_v1 : FVec Ideal S8x4096x4 .f32) (ix3 g r h) = (D.dt r (gh g h) : EReal) := by
  simp only [V, hostOps0]
  after_reads_at
  refine (A.dt _ _).trans (congrArg _ (congrArg₂ D.dt (Fin.ext ?_) (Fin.ext ?_)))
  · first | rfl | (simp; done) | (simp; omega)
  · first | rfl | (simp [gh]; done) | (simp [gh]; omega)

theorem host_nw (A : Args D m c) (g : Fin 8) (w : Fin 256) :
    (V m c main_v9 : FVec Ideal S8x1x256 .f32) (ix3 g 0 w) = (D.nw (gw g w) : EReal) := by
  simp only [V, hostOps0]
  after_reads_at
  refine (A.nw _).trans (congrArg _ (congrArg D.nw (Fin.ext ?_)))
  simp [gh, gw] <;> omega

theorem host_bias (A : Args D m c) (g : Fin 8) (h : Fin 4) :
    (V m c main_v8 : FVec Ideal S8x3x4 .f32) (ix3 g 0 h) = (D.bias (gh g h) : EReal) := by
  simp only [V, hostOps0]
  after_reads_at
  after_reads_at
  refine (A.bias _).trans (congrArg _ (congrArg D.bias (Fin.ext ?_)))
  simp [gh, gw] <;> omega

theorem host_alog (A : Args D m c) (g : Fin 8) (h : Fin 4) :
    (V m c main_v8 : FVec Ideal S8x3x4 .f32) (ix3 g 1 h) = (D.alog (gh g h) : EReal) := by
  simp only [V, hostOps0]
  after_reads_at
  after_reads_at
  refine (A.alog _).trans (congrArg _ (congrArg D.alog (Fin.ext ?_)))
  simp [gh, gw] <;> omega

theorem host_skip (A : Args D m c) (g : Fin 8) (h : Fin 4) :
    (V m c main_v8 : FVec Ideal S8x3x4 .f32) (ix3 g 2 h) = (D.skip (gh g h) : EReal) := by
  simp only [V, hostOps0]
  after_reads_at
  after_reads_at
  refine (A.skip _).trans (congrArg _ (congrArg D.skip (Fin.ext ?_)))
  simp [gh, gw] <;> omega

theorem blk_dyn (A : Args D m c) (t : Fin cfg0.N) (l : Fin 128) (w : Fin 2048) :
    (iblk m c 0 t : FVec Ideal S128x2048 .f32) (ix2 l w) = (D.dyn (tok (rev t.val) l) w : EReal) := by
  have ht : t.val < 32 := t.isLt
  refine Eq.trans ?_ (A.dyn (tok (rev t.val) l) w)
  blk_ext [iblk, V, idx0 t, tok, rev]

theorem blk_y (A : Args D m c) (t : Fin cfg0.N) (l : Fin 128) (w : Fin 2048) :
    (iblk m c 8 t : FVec Ideal S128x2048 .f32) (ix2 l w) = (D.y (tok (rev t.val) l) w : EReal) := by
  have ht : t.val < 32 := t.isLt
  refine Eq.trans ?_ (A.y (tok (rev t.val) l) w)
  blk_ext [iblk, V, idx8 t, tok, rev]

theorem blk_x (A : Args D m c) (t : Fin cfg0.N) (l : Fin 128) (w : Fin 2048) :
    (iblk m c 1 t : FVec Ideal S128x2048 .bf16) (ix2 l w) = (D.conv (tok (rev t.val) l) ⟨w.val, by omega⟩ : EReal) := by
  have ht : t.val < 32 := t.isLt
  refine Eq.trans ?_ (A.conv (tok (rev t.val) l) ⟨w.val, by omega⟩ (by dsimp only; omega))
  blk_ext [iblk, V, idx1 t, tok, rev]

theorem blk_z (A : Args D m c) (t : Fin cfg0.N) (l : Fin 128) (w : Fin 2048) :
    (iblk m c 4 t : FVec Ideal S128x2048 .bf16) (ix2 l w) = (D.proj (tok (rev t.val) l) ⟨w.val, by omega⟩ : EReal) := by
  have ht : t.val < 32 := t.isLt
  refine Eq.trans ?_ (A.proj (tok (rev t.val) l) ⟨w.val, by omega⟩ (by dsimp only; omega))
  blk_ext [iblk, V, idx4 t, tok, rev]

theorem blk_B (A : Args D m c) (t : Fin cfg0.N) (l : Fin 128) (w : Fin 1024) :
    (iblk m c 2 t : FVec Ideal S128x1024 .bf16) (ix2 l w) = (D.conv (tok (rev t.val) l) ⟨2048 + w.val, by omega⟩ : EReal) := by
  have ht : t.val < 32 := t.isLt
  refine Eq.trans ?_ (A.conv (tok (rev t.val) l) ⟨2048 + w.val, by omega⟩ (by dsimp only; omega))
  blk_ext [iblk, V, idx2 t, tok, rev]

theorem blk_C (A : Args D m c) (t : Fin cfg0.N) (l : Fin 128) (w : Fin 1024) :
    (iblk m c 3 t : FVec Ideal S128x1024 .bf16) (ix2 l w) = (D.conv (tok (rev t.val) l) ⟨3072 + w.val, by omega⟩ : EReal) := by
  have ht : t.val < 32 := t.isLt
  refine Eq.trans ?_ (A.conv (tok (rev t.val) l) ⟨3072 + w.val, by omega⟩ (by dsimp only; omega))
  blk_ext [iblk, V, idx3 t, tok, rev]

theorem blk_S (A : Args D m c) (t : Fin cfg0.N) (g : Fin 8) (w : Fin 256) (n : Fin 128) :
    (iblk m c 9 t : FVec Ideal S8x1x256x128 .f32) (ix4 g 0 w n) = (D.S g (rev t.val) w n : EReal) := by
  have ht : t.val < 32 := t.isLt
  refine Eq.trans ?_ (A.S g (rev t.val) w n)
  blk_ext [iblk, V, idx9 t, tok, rev]

theorem blk_dt (A : Args D m c) (t : Fin cfg0.N) (g : Fin 8) (l : Fin 128) (h : Fin 4) :
    (iblk m c 5 t : FVec Ideal S8x128x4 .f32) (ix3 g l h) = (D.dt (tok (rev t.val) l) (gh g h) : EReal) := by
  have ht : t.val < 32 := t.isLt
  refine Eq.trans ?_ (host_dt A g (tok (rev t.val) l) h)
  blk_ext [iblk, V, idx5 t, tok, rev]

theorem blk_nw (A : Args D m c) (t : Fin cfg0.N) (g : Fin 8) (w : Fin 256) :
    (iblk m c 7 t : FVec Ideal S8x1x256 .f32) (ix3 g 0 w) = (D.nw (gw g w) : EReal) := by
  have ht : t.val < 32 := t.isLt
  refine Eq.trans ?_ (host_nw A g w)
  blk_ext [iblk, V, idx7 t, tok, rev]

theorem blk_bias (A : Args D m c) (t : Fin cfg0.N) (g : Fin 8) (h : Fin 4) :
    (iblk m c 6 t : FVec Ideal S8x3x4 .f32) (ix3 g 0 h) = (D.bias (gh g h) : EReal) := by
  have ht : t.val < 32 := t.isLt
  refine Eq.trans ?_ (host_bias A g h)
  blk_ext [iblk, V, idx6 t, tok, rev]

theorem blk_alog (A : Args D m c) (t : Fin cfg0.N) (g : Fin 8) (h : Fin 4) :
    (iblk m c 6 t : FVec Ideal S8x3x4 .f32) (ix3 g 1 h) = (D.alog (gh g h) : EReal) := by
  have ht : t.val < 32 := t.isLt
  refine Eq.trans ?_ (host_alog A g h)
  blk_ext [iblk, V, idx6 t, tok, rev]

theorem blk_skip (A : Args D m c) (t : Fin cfg0.N) (g : Fin 8) (h : Fin 4) :
    (iblk m c 6 t : FVec Ideal S8x3x4 .f32) (ix3 g 2 h) = (D.skip (gh g h) : EReal) := by
  have ht : t.val < 32 := t.isLt
  refine Eq.trans ?_ (host_skip A g h)
  blk_ext [iblk, V, idx6 t, tok, rev]

/-- At point `t`, over the running sums `dp`, `dnw` and the state's gradient `dS`. -/
theorem holds_at (A : Args D m c) (t : Fin cfg0.N) (dp : Vec Ideal S8x3x4 .f32) (dnw : Vec Ideal S8x1x256 .f32) (dS : Vec Ideal S2048x128 .f32)
    (an : Fin 8 → Fin 256 → ℝ) (ap : Fin 8 → Fin 3 → Fin 4 → ℝ)
    (h1 : ∀ g r h, (dp : FVec Ideal S8x3x4 .f32) (ix3 g r h) = (ap g r h : EReal))
    (h2 : ∀ g w, (dnw : FVec Ideal S8x1x256 .f32) (ix3 g 0 w) = (an g w : EReal))
    (h3 : ∀ (g : Fin 8) (w : Fin 256) n, (dS : FVec Ideal S2048x128 .f32) (ix2 (⟨g.val * 256 + w.val, by omega⟩ : Fin 2048) n) = (D.dSat g t.val w n : EReal)) :
    Holds ⟨iblk m c 0 t, iblk m c 1 t, iblk m c 2 t, iblk m c 3 t, iblk m c 4 t, iblk m c 5 t, iblk m c 6 t, iblk m c 7 t, iblk m c 8 t, iblk m c 9 t, dp, dnw, dS⟩
      (D.chunk t.val) an ap where
  dyn g l w := blk_dyn A t l _
  y g l w := blk_y A t l _
  x g l w := blk_x A t l _
  z g l w := blk_z A t l _
  B g l n := (blk_B A t l _).trans (congrArg (fun k => ((D.conv _ k : ℝ) : EReal)) (Fin.ext (Nat.add_assoc _ _ _).symm))
  C g l n := (blk_C A t l _).trans (congrArg (fun k => ((D.conv _ k : ℝ) : EReal)) (Fin.ext (Nat.add_assoc _ _ _).symm))
  dt g l h := blk_dt A t g l h
  bias g h := blk_bias A t g h
  alog g h := blk_alog A t g h
  skip g h := blk_skip A t g h
  nw g w := blk_nw A t g w
  S0 g w n := blk_S A t g w n
  dp := h1
  dnw := h2
  dS := h3

end Cert.KernelIdeal.Group

end
-- ==== Proof.Pay1.lean ====
module

public import proofs.«01_k».proof.Proof.Tower

@[expose] public section

set_option maxRecDepth 16384
set_option synthInstance.maxSize 4096

noncomputable section

namespace Cert.KernelIdeal.Group

open Idealize.ShloMosaic Idealize.SL.Sem Cert.KernelIdeal Cert.KernelIdeal.Gen

variable {F : FTy → Type} [FloatOps F]

theorem p1 (L : Loads F) : k0_pay1 (t542 L) = t543 L := rfl
theorem p2 (L : Loads F) : k0_pay2 (t124 L) (t143 L) (t562 L) (t520 L) (t536 L) L.l544 = t572 L := rfl
theorem p6 : k0_pay6 = (t95 : FVec F S128x128 .bf16) := rfl
theorem p7 : k0_pay7 = (t354 : FVec F S128x128 .bf16) := rfl
theorem p8 : k0_pay8 = (t97 : IVec S128x128 1) := rfl
theorem p9 : k0_pay9 = (t7 : IVec S1x128 1) := rfl
theorem p10 : k0_pay10 = (t406 : IVec S256x256 32) := rfl
theorem p11 : k0_pay11 = (t401 : IVec S256x256 1) := rfl
theorem p12 : k0_pay12 = (t404 : IVec S256x256 1) := rfl
theorem p13 (i411 : IVec S256x256 32) (h411 : i411 = t411) : k0_pay13 i411 t406 t401 t404 = (t428 : FVec F S256x256 .bf16) := by subst h411; rfl
theorem p14 : k0_pay14 = (t89 : FVec F S128x256 .bf16) := rfl
theorem p15 : k0_pay15 = (t361 : FVec F S128x128 .bf16) := rfl
theorem p16 : k0_pay16 = (t439 : IVec S128x1 32) := rfl
theorem p17 (i437 : IVec S128x1 32) (h437 : i437 = t437) : k0_pay17 i437 t439 = (t440 : IVec S128x1 1) := by subst h437; rfl
theorem p18 (L : Loads F) : k0_pay18 L.l28 = t29 L := rfl
theorem p19 (L : Loads F) : k0_pay19 L.l32 = t33 L := rfl
theorem p20 (L : Loads F) : k0_pay20 L.l282 = t283 L := rfl
theorem p21 (L : Loads F) : k0_pay21 L.l214 L.l184 = t355 L := rfl
theorem p22 (L : Loads F) : k0_pay22 L.l214 L.l184 = t215 L := rfl
theorem p23 (L : Loads F) : k0_pay23 L.l184 L.l282 = t381 L := rfl
theorem p24 (L : Loads F) : k0_pay24 L.l214 L.l177 = t271 L := rfl
theorem p25 (L : Loads F) : k0_pay25 L.l8 = t9 L := rfl
theorem p26 (L : Loads F) : k0_pay26 L.l98 L.l8 = t102 L := rfl
theorem p27 (L : Loads F) : k0_pay27 t97 L.l98 L.l8 = t109 L := rfl
theorem p28 (L : Loads F) : k0_pay28 L.l98 L.l8 = t112 L := rfl
theorem p29 (L : Loads F) : k0_pay29 L.l98 L.l8 = t115 L := rfl
theorem p30 (L : Loads F) : k0_pay30 t97 (t109 L) (t112 L) (t115 L) = t118 L := rfl
theorem p31 (L : Loads F) : k0_pay31 t97 (t109 L) (t112 L) (t115 L) = t124 L := rfl
theorem p32 (L : Loads F) : k0_pay32 t7 (t9 L) = t143 L := rfl
theorem p33 (L : Loads F) : k0_pay33 t95 t97 t7 (t9 L) (t109 L) (t112 L) (t115 L) = t159 L := rfl
theorem p34 (L : Loads F) : k0_pay34 L.l28 = t29 L := rfl
theorem p35 (L : Loads F) : k0_pay35 L.l32 = t33 L := rfl
theorem p36 (L : Loads F) : k0_pay36 L.l282 = t283 L := rfl
theorem p37 (L : Loads F) : k0_pay37 L.l214 L.l184 = t355 L := rfl
theorem p38 (L : Loads F) : k0_pay38 L.l214 L.l184 = t215 L := rfl
theorem p39 (L : Loads F) : k0_pay39 L.l184 L.l282 = t381 L := rfl
theorem p40 (L : Loads F) : k0_pay40 L.l214 L.l177 = t271 L := rfl
theorem p41 (L : Loads F) : k0_pay41 L.l8 = t9 L := rfl
theorem p42 (L : Loads F) : k0_pay42 t97 L.l98 L.l8 = t118 L := rfl
theorem p43 (L : Loads F) : k0_pay43 t97 L.l98 L.l8 = t119 L := rfl
theorem p44 (L : Loads F) : k0_pay44 t97 L.l98 L.l8 = t121 L := rfl
theorem p45 (L : Loads F) : k0_pay45 (t119 L) (t121 L) = t124 L := rfl
theorem p46 (L : Loads F) : k0_pay46 t7 (t9 L) = t143 L := rfl
theorem p47 (L : Loads F) : k0_pay47 t95 t7 (t9 L) (t119 L) (t121 L) = t159 L := rfl
theorem p48 (L : Loads F) : k0_pay48 L.l28 = t29 L := rfl
theorem p49 (L : Loads F) : k0_pay49 L.l32 = t33 L := rfl
theorem p50 (L : Loads F) : k0_pay50 L.l282 = t283 L := rfl
theorem p51 (L : Loads F) : k0_pay51 L.l214 L.l184 = t355 L := rfl
theorem p52 (L : Loads F) : k0_pay52 L.l214 L.l184 = t215 L := rfl
theorem p53 (L : Loads F) : k0_pay53 L.l184 L.l282 = t381 L := rfl
theorem p54 (L : Loads F) : k0_pay54 L.l214 L.l177 = t271 L := rfl
theorem p55 (L : Loads F) : k0_pay55 L.l8 = t9 L := rfl
theorem p56 (L : Loads F) : k0_pay56 t97 L.l98 L.l8 = t118 L := rfl
theorem p57 (L : Loads F) : k0_pay57 t97 L.l98 L.l8 = t124 L := rfl
theorem p58 (L : Loads F) : k0_pay58 L.l8 = t128 L := rfl
theorem p59 (L : Loads F) : k0_pay59 L.l8 = t129 L := rfl
theorem p60 (L : Loads F) : k0_pay60 t7 (t128 L) (t129 L) = t143 L := rfl
theorem p61 (L : Loads F) : k0_pay61 t95 t7 (t124 L) (t128 L) (t129 L) = t159 L := rfl
theorem p62 (L : Loads F) : k0_pay62 L.l28 = t29 L := rfl
theorem p63 (L : Loads F) : k0_pay63 L.l32 = t33 L := rfl
theorem p64 (L : Loads F) : k0_pay64 L.l282 = t283 L := rfl
theorem p65 (L : Loads F) : k0_pay65 L.l214 L.l184 = t355 L := rfl
theorem p66 (L : Loads F) (i161 : FVec F S128x128 .f32) (h161 : i161 = t161) : k0_pay66 L.l214 L.l184 i161 = t215 L := by subst h161; rfl
theorem p67 (L : Loads F) : k0_pay67 L.l184 (t283 L) = t381 L := rfl
theorem p68 (L : Loads F) : k0_pay68 L.l214 L.l177 = t271 L := rfl
theorem p69 (L : Loads F) : k0_pay69 L.l8 = t9 L := rfl
theorem p70 (L : Loads F) : k0_pay70 t97 L.l98 L.l8 = t118 L := rfl
theorem p71 (L : Loads F) : k0_pay71 t97 L.l98 L.l8 = t124 L := rfl
theorem p72 (L : Loads F) : k0_pay72 L.l8 = t128 L := rfl
theorem p73 (L : Loads F) : k0_pay73 t7 L.l8 = t135 L := rfl
theorem p74 (L : Loads F) : k0_pay74 L.l8 = t138 L := rfl
theorem p75 (L : Loads F) : k0_pay75 t7 (t128 L) (t135 L) (t138 L) = t143 L := rfl
theorem p76 (L : Loads F) : k0_pay76 t95 t7 (t124 L) (t128 L) (t135 L) (t138 L) = t159 L := rfl
theorem p77 (L : Loads F) : k0_pay77 L.l28 = t29 L := rfl
theorem p78 (L : Loads F) : k0_pay78 L.l32 = t33 L := rfl
theorem p79 (L : Loads F) : k0_pay79 L.l282 = t283 L := rfl
theorem p80 (L : Loads F) : k0_pay80 L.l214 L.l184 = t355 L := rfl
theorem p81 (L : Loads F) : k0_pay81 L.l214 L.l184 = t215 L := rfl
theorem p82 (L : Loads F) : k0_pay82 L.l184 L.l282 = t381 L := rfl
theorem p83 (L : Loads F) : k0_pay83 L.l214 L.l177 = t271 L := rfl
theorem p84 (L : Loads F) : k0_pay84 L.l8 = t9 L := rfl
theorem p85 (L : Loads F) : k0_pay85 t97 L.l98 L.l8 = t118 L := rfl
theorem p86 (L : Loads F) : k0_pay86 t97 L.l98 L.l8 = t124 L := rfl
theorem p87 (L : Loads F) : k0_pay87 t7 L.l8 = t143 L := rfl
theorem p88 (L : Loads F) : k0_pay88 t97 t7 L.l98 L.l8 = t145 L := rfl
theorem p89 (L : Loads F) : k0_pay89 t97 t7 L.l98 L.l8 = t146 L := rfl
theorem p90 (L : Loads F) : k0_pay90 t97 t7 L.l98 L.l8 = t150 L := rfl
theorem p91 (L : Loads F) : k0_pay91 t95 (t145 L) (t146 L) (t150 L) = t159 L := rfl
theorem p92 (L : Loads F) : k0_pay92 L.l28 = t29 L := rfl
theorem p93 (L : Loads F) : k0_pay93 L.l32 = t33 L := rfl
theorem p94 (L : Loads F) : k0_pay94 L.l282 = t283 L := rfl
theorem p95 (L : Loads F) : k0_pay95 L.l214 L.l184 = t355 L := rfl
theorem p96 (L : Loads F) : k0_pay96 L.l214 L.l184 = t215 L := rfl
theorem p97 (L : Loads F) : k0_pay97 L.l184 L.l282 = t381 L := rfl
theorem p98 (L : Loads F) : k0_pay98 L.l214 L.l177 = t271 L := rfl
theorem p99 (L : Loads F) : k0_pay99 L.l98 = t99 L := rfl
theorem p100 (L : Loads F) : k0_pay100 L.l8 = t9 L := rfl
theorem p101 (L : Loads F) : k0_pay101 L.l8 = t100 L := rfl
theorem p102 (L : Loads F) : k0_pay102 t97 (t99 L) (t100 L) = t118 L := rfl
theorem p103 (L : Loads F) : k0_pay103 t97 (t99 L) (t100 L) = t124 L := rfl
theorem p104 (L : Loads F) : k0_pay104 t7 (t9 L) = t143 L := rfl
theorem p105 (L : Loads F) : k0_pay105 t97 t7 (t99 L) (t9 L) (t100 L) = t145 L := rfl
theorem p106 (L : Loads F) : k0_pay106 t97 t7 (t99 L) (t9 L) (t100 L) = t146 L := rfl
theorem p107 (L : Loads F) : k0_pay107 t97 t7 (t99 L) (t9 L) (t100 L) = t151 L := rfl
theorem p108 (L : Loads F) : k0_pay108 t97 t7 (t99 L) (t9 L) (t100 L) = t152 L := rfl
theorem p109 (L : Loads F) : k0_pay109 t97 t7 (t99 L) (t9 L) (t100 L) = t157 L := rfl
theorem p110 (L : Loads F) : k0_pay110 t95 t97 t7 (t99 L) (t9 L) (t100 L) = t148 L := rfl
theorem p111 : k0_pay111 = (t87 : FVec F S128x256 .f32) := rfl
theorem p112 (L : Loads F) : k0_pay112 t95 (t152 L) (t157 L) (t148 L) t87 = t159 L := rfl
theorem p113 (L : Loads F) : k0_pay113 L.l28 = t29 L := rfl
theorem p114 (L : Loads F) : k0_pay114 L.l32 = t33 L := rfl
theorem p115 (L : Loads F) : k0_pay115 L.l282 = t283 L := rfl
theorem p116 (L : Loads F) : k0_pay116 L.l214 L.l184 = t355 L := rfl
theorem p117 (L : Loads F) : k0_pay117 L.l214 L.l184 = t215 L := rfl
theorem p118 (L : Loads F) : k0_pay118 L.l184 L.l282 = t381 L := rfl
theorem p119 (L : Loads F) : k0_pay119 L.l214 L.l177 = t271 L := rfl
theorem p120 (L : Loads F) : k0_pay120 L.l8 = t9 L := rfl
theorem p121 (L : Loads F) : k0_pay121 L.l98 L.l8 = t102 L := rfl
theorem p122 (L : Loads F) : k0_pay122 t97 L.l98 L.l8 = t109 L := rfl
theorem p123 (L : Loads F) : k0_pay123 t97 (t102 L) (t109 L) = t118 L := rfl
theorem p124 (L : Loads F) : k0_pay124 t97 (t102 L) (t109 L) = t124 L := rfl
theorem p125 (L : Loads F) : k0_pay125 t7 (t9 L) = t143 L := rfl
theorem p126 (L : Loads F) : k0_pay126 t95 t97 t7 (t9 L) (t102 L) (t109 L) = t159 L := rfl
theorem p127 (L : Loads F) : k0_pay127 L.l28 = t29 L := rfl
theorem p128 (L : Loads F) : k0_pay128 L.l32 = t33 L := rfl
theorem p129 (L : Loads F) : k0_pay129 L.l282 = t283 L := rfl
theorem p130 (L : Loads F) : k0_pay130 L.l214 L.l184 = t355 L := rfl
theorem p131 (L : Loads F) : k0_pay131 L.l214 L.l184 = t215 L := rfl
theorem p132 (L : Loads F) : k0_pay132 L.l184 L.l282 = t381 L := rfl
theorem p133 (L : Loads F) : k0_pay133 L.l214 L.l177 = t271 L := rfl
theorem p134 (L : Loads F) : k0_pay134 L.l8 = t9 L := rfl
theorem p135 (L : Loads F) : k0_pay135 t97 L.l98 L.l8 = t118 L := rfl
theorem p136 (L : Loads F) (i80 : F .f32) (h80 : i80 = t80) : k0_pay136 (t118 L) i80 = t124 L := by subst h80; rfl
theorem p137 (L : Loads F) : k0_pay137 t7 (t9 L) = t143 L := rfl
theorem p138 (L : Loads F) (i80 : F .f32) (h80 : i80 = t80) : k0_pay138 t95 t7 (t9 L) (t118 L) i80 = t159 L := by subst h80; rfl
theorem p139 (L : Loads F) : k0_pay139 (t159 L) = t160 L := rfl
theorem p140 (L : Loads F) : k0_pay140 (t159 L) = t165 L := rfl
theorem p141 (L : Loads F) : k0_pay141 (t159 L) = t166 L := rfl
theorem p142 (L : Loads F) : k0_pay142 (t159 L) = t171 L := rfl
theorem p143 (L : Loads F) : k0_pay143 t89 (t159 L) = t162 L := rfl
theorem p144 : k0_pay144 = (t81 : FVec F S128x128 .f32) := rfl
theorem p145 (L : Loads F) : k0_pay145 t89 (t166 L) (t171 L) (t162 L) t81 = t173 L := rfl
theorem p146 (L : Loads F) : k0_pay146 t89 (t159 L) = t173 L := rfl
theorem p147 (L : Loads F) : k0_pay147 t89 (t159 L) = t173 L := rfl
theorem p148 (L : Loads F) : k0_pay148 (t159 L) = t160 L := rfl
theorem p149 (L : Loads F) : k0_pay149 (t159 L) = t165 L := rfl
theorem p150 (L : Loads F) : k0_pay150 (t159 L) = t166 L := rfl
theorem p151 (L : Loads F) : k0_pay151 t89 (t159 L) = t168 L := rfl
theorem p152 (L : Loads F) : k0_pay152 t89 (t159 L) = t172 L := rfl
theorem p153 (L : Loads F) : k0_pay153 (t168 L) (t172 L) = t173 L := rfl
theorem p154 (L : Loads F) : k0_pay154 t89 (t159 L) = t173 L := rfl
theorem p155 (L : Loads F) : k0_pay155 t89 (t159 L) = t173 L := rfl
theorem p156 (L : Loads F) : k0_pay156 t89 (t159 L) = t173 L := rfl
theorem p157 (L : Loads F) : k0_pay157 (t159 L) = t160 L := rfl
theorem p158 (L : Loads F) : k0_pay158 (t159 L) = t165 L := rfl
theorem p159 (L : Loads F) : k0_pay159 (t159 L) = t166 L := rfl
theorem p160 (L : Loads F) : k0_pay160 (t159 L) = t169 L := rfl
theorem p161 (L : Loads F) : k0_pay161 t89 (t160 L) (t165 L) (t166 L) (t169 L) = t173 L := rfl
theorem p162 (L : Loads F) : k0_pay162 (t159 L) = t272 L := rfl
theorem p163 (L : Loads F) : k0_pay163 (t159 L) = t217 L := rfl
theorem p164 (L : Loads F) : k0_pay164 (t159 L) = t218 L := rfl
theorem p165 (L : Loads F) : k0_pay165 (t159 L) = t244 L := rfl
theorem p166 (L : Loads F) : k0_pay166 (t159 L) = t245 L := rfl
theorem p167 (L : Loads F) : k0_pay167 t97 (t159 L) = t258 L := rfl
theorem p168 (L : Loads F) : k0_pay168 t97 (t159 L) (t173 L) = t222 L := rfl
theorem p169 (L : Loads F) (i90 : IVec S128x128 32) (h90 : i90 = t90) (i91 : IVec S128x128 32) (h91 : i91 = t91) : k0_pay169 i90 i91 t97 (t159 L) (t173 L) = t293 L := by subst h90 h91; rfl
theorem p170 (L : Loads F) (i90 : IVec S128x128 32) (h90 : i90 = t90) (i91 : IVec S128x128 32) (h91 : i91 = t91) : k0_pay170 i90 i91 t97 (t159 L) (t173 L) = t227 L := by subst h90 h91; rfl
theorem p171 (L : Loads F) : k0_pay171 t97 (t159 L) (t173 L) = t236 L := rfl
theorem p172 (L : Loads F) (i90 : IVec S128x128 32) (h90 : i90 = t90) (i91 : IVec S128x128 32) (h91 : i91 = t91) : k0_pay172 i90 i91 t97 (t159 L) (t173 L) = t302 L := by subst h90 h91; rfl
theorem p173 (L : Loads F) (i90 : IVec S128x128 32) (h90 : i90 = t90) (i91 : IVec S128x128 32) (h91 : i91 = t91) : k0_pay173 i90 i91 t97 (t159 L) (t173 L) = t239 L := by subst h90 h91; rfl
theorem p174 (L : Loads F) : k0_pay174 t97 (t159 L) (t173 L) = t249 L := rfl
theorem p175 (i90 : IVec S128x128 32) (h90 : i90 = t90) (i91 : IVec S128x128 32) (h91 : i91 = t91) : k0_pay175 i90 i91 = (t92 : IVec S128x128 1) := by subst h90 h91; rfl
theorem p176 (L : Loads F) : k0_pay176 (t249 L) t92 = t311 L := rfl
theorem p177 (L : Loads F) (i90 : IVec S128x128 32) (h90 : i90 = t90) (i91 : IVec S128x128 32) (h91 : i91 = t91) : k0_pay177 i90 i91 (t249 L) = t252 L := by subst h90 h91; rfl
theorem p178 (L : Loads F) : k0_pay178 (t173 L) (t258 L) = t261 L := rfl
theorem p179 (L : Loads F) (i90 : IVec S128x128 32) (h90 : i90 = t90) (i91 : IVec S128x128 32) (h91 : i91 = t91) : k0_pay179 i90 i91 (t173 L) (t258 L) = t318 L := by subst h90 h91; rfl
theorem p180 (L : Loads F) (i90 : IVec S128x128 32) (h90 : i90 = t90) (i91 : IVec S128x128 32) (h91 : i91 = t91) : k0_pay180 i90 i91 (t173 L) (t258 L) = t264 L := by subst h90 h91; rfl
theorem p181 (L : Loads F) : k0_pay181 t7 (t9 L) = t26 L := rfl
theorem p182 (L : Loads F) : k0_pay182 (t159 L) = t181 L := rfl
theorem p183 (L : Loads F) : k0_pay183 (t159 L) (t272 L) = t275 L := rfl
theorem p184 (L : Loads F) : k0_pay184 (t173 L) = t175 L := rfl
theorem p185 (L : Loads F) : k0_pay185 (t173 L) = t191 L := rfl
theorem p186 (L : Loads F) : k0_pay186 (t173 L) = t199 L := rfl
theorem p187 (L : Loads F) : k0_pay187 (t173 L) = t207 L := rfl
theorem p188 (L : Loads F) : k0_pay188 t7 (t9 L) = t27 L := rfl
theorem p189 (L : Loads F) : k0_pay189 (t29 L) L.l3 (t27 L) = t31 L := rfl
theorem p190 (L : Loads F) : k0_pay190 (t33 L) = t40 L := rfl
theorem p191 (L : Loads F) : k0_pay191 (t29 L) (t33 L) L.l3 (t27 L) = t41 L := rfl
theorem p192 (L : Loads F) : k0_pay192 (t29 L) (t33 L) L.l3 (t27 L) = t51 L := rfl
theorem p193 (L : Loads F) : k0_pay193 (t29 L) (t33 L) L.l3 (t27 L) = t53 L := rfl
theorem p194 (L : Loads F) : k0_pay194 (t29 L) (t33 L) L.l3 (t27 L) L.l2 L.l0 = t58 L := rfl
theorem p195 (L : Loads F) : k0_pay195 L.l2 L.l59 = t62 L := rfl
theorem p196 (L : Loads F) : k0_pay196 (t29 L) (t33 L) L.l3 (t27 L) L.l2 L.l59 = t65 L := rfl
theorem p197 : k0_pay197 = (t46 : FVec F S128x1 .f32) := rfl
theorem p198 (L : Loads F) : k0_pay198 (t51 L) (t53 L) (t62 L) (t65 L) t46 = t70 L := rfl
theorem p199 (L : Loads F) : k0_pay199 (t33 L) (t31 L) (t51 L) (t53 L) (t62 L) (t65 L) t46 = t79 L := rfl
theorem p200 (L : Loads F) : k0_pay200 (t40 L) (t51 L) (t53 L) (t62 L) (t65 L) t46 = t180 L := rfl
theorem p201 (L : Loads F) : k0_pay201 (t29 L) (t124 L) = t288 L := rfl
theorem p202 (L : Loads F) : k0_pay202 (t181 L) (t40 L) (t51 L) (t53 L) (t62 L) (t65 L) t46 = t182 L := rfl
theorem p203 (L : Loads F) : k0_pay203 (t283 L) (t181 L) (t40 L) (t51 L) (t53 L) (t62 L) (t65 L) t46 = t285 L := rfl
theorem p204 (L : Loads F) : k0_pay204 (t29 L) L.l177 (t124 L) (t275 L) = t327 L := rfl
theorem p205 (L : Loads F) : k0_pay205 L.l184 (t181 L) (t40 L) (t51 L) (t53 L) (t62 L) (t65 L) t46 = t186 L := rfl
theorem p206 (L : Loads F) : k0_pay206 (t40 L) (t51 L) (t53 L) (t62 L) (t65 L) t46 = t230 L := rfl
theorem p207 (L : Loads F) : k0_pay207 (t29 L) (t124 L) = t289 L := rfl
theorem p208 (L : Loads F) : k0_pay208 t97 (t215 L) (t227 L) (t239 L) (t40 L) (t51 L) (t53 L) (t62 L) (t65 L) t46 = t243 L := rfl
theorem p209 (i296 : IVec S128x128 1) (h296 : i296 = t296) : k0_pay209 t97 i296 = (t297 : IVec S128x128 1) := by subst h296; rfl
theorem p210 (L : Loads F) : k0_pay210 t97 (t230 L) (t289 L) = t291 L := rfl
theorem p211 (L : Loads F) : k0_pay211 t97 (t230 L) (t289 L) = t330 L := rfl
theorem p212 (L : Loads F) (i296 : IVec S128x128 1) (h296 : i296 = t296) : k0_pay212 t97 (t230 L) (t289 L) i296 = t300 L := by subst h296; rfl
theorem p213 (L : Loads F) (i296 : IVec S128x128 1) (h296 : i296 = t296) : k0_pay213 t97 (t230 L) (t289 L) i296 = t335 L := by subst h296; rfl
theorem p214 (L : Loads F) : k0_pay214 (t180 L) = t255 L := rfl
theorem p215 (L : Loads F) : k0_pay215 (t288 L) = t307 L := rfl
theorem p216 (L : Loads F) : k0_pay216 t97 (t215 L) (t252 L) (t264 L) (t180 L) = t268 L := rfl
theorem p217 : k0_pay217 t97 = (t297 : IVec S128x128 1) := rfl
theorem p218 (L : Loads F) : k0_pay218 t97 (t180 L) (t288 L) = t309 L := rfl
theorem p219 (L : Loads F) : k0_pay219 t97 (t180 L) (t288 L) = t340 L := rfl
theorem p220 : k0_pay220 = (t81 : FVec F S128x128 .f32) := rfl
theorem p221 (L : Loads F) : k0_pay221 (t255 L) (t307 L) t297 t81 = t316 L := rfl
theorem p222 (L : Loads F) : k0_pay222 (t255 L) (t307 L) t297 = t345 L := rfl
theorem p223 (L : Loads F) : k0_pay223 (t159 L) = t272 L := rfl
theorem p224 (L : Loads F) : k0_pay224 (t159 L) = t217 L := rfl
theorem p225 (L : Loads F) : k0_pay225 (t159 L) = t218 L := rfl
theorem p226 (L : Loads F) : k0_pay226 (t159 L) = t244 L := rfl
theorem p227 (L : Loads F) : k0_pay227 (t159 L) = t245 L := rfl
theorem p228 (L : Loads F) : k0_pay228 t97 (t159 L) = t258 L := rfl
theorem p229 (L : Loads F) : k0_pay229 t97 (t159 L) (t173 L) = t222 L := rfl
theorem p230 (L : Loads F) (i90 : IVec S128x128 32) (h90 : i90 = t90) (i91 : IVec S128x128 32) (h91 : i91 = t91) : k0_pay230 i90 i91 t97 (t159 L) (t173 L) = t293 L := by subst h90 h91; rfl
theorem p231 (L : Loads F) (i90 : IVec S128x128 32) (h90 : i90 = t90) (i91 : IVec S128x128 32) (h91 : i91 = t91) : k0_pay231 i90 i91 t97 (t159 L) (t173 L) = t227 L := by subst h90 h91; rfl
theorem p232 (L : Loads F) : k0_pay232 t97 (t159 L) (t173 L) = t236 L := rfl
theorem p233 (L : Loads F) (i90 : IVec S128x128 32) (h90 : i90 = t90) (i91 : IVec S128x128 32) (h91 : i91 = t91) : k0_pay233 i90 i91 t97 (t159 L) (t173 L) = t302 L := by subst h90 h91; rfl
theorem p234 (L : Loads F) (i90 : IVec S128x128 32) (h90 : i90 = t90) (i91 : IVec S128x128 32) (h91 : i91 = t91) : k0_pay234 i90 i91 t97 (t159 L) (t173 L) = t239 L := by subst h90 h91; rfl
theorem p235 (L : Loads F) : k0_pay235 t97 (t159 L) (t173 L) = t249 L := rfl
theorem p236 (i90 : IVec S128x128 32) (h90 : i90 = t90) (i91 : IVec S128x128 32) (h91 : i91 = t91) : k0_pay236 i90 i91 = (t92 : IVec S128x128 1) := by subst h90 h91; rfl
theorem p237 (L : Loads F) (i224 : F .f32) (h224 : i224 = t224) : k0_pay237 (t249 L) t92 i224 = t311 L := by subst h224; rfl
theorem p238 (L : Loads F) (i90 : IVec S128x128 32) (h90 : i90 = t90) (i91 : IVec S128x128 32) (h91 : i91 = t91) : k0_pay238 i90 i91 (t249 L) = t252 L := by subst h90 h91; rfl
theorem p239 (L : Loads F) : k0_pay239 (t173 L) (t258 L) = t261 L := rfl
theorem p240 (L : Loads F) (i90 : IVec S128x128 32) (h90 : i90 = t90) (i91 : IVec S128x128 32) (h91 : i91 = t91) : k0_pay240 i90 i91 (t173 L) (t258 L) = t318 L := by subst h90 h91; rfl
theorem p241 (L : Loads F) (i90 : IVec S128x128 32) (h90 : i90 = t90) (i91 : IVec S128x128 32) (h91 : i91 = t91) : k0_pay241 i90 i91 (t173 L) (t258 L) = t264 L := by subst h90 h91; rfl
theorem p242 (L : Loads F) : k0_pay242 t7 (t9 L) = t26 L := rfl
theorem p243 (L : Loads F) : k0_pay243 (t159 L) = t181 L := rfl
theorem p244 (L : Loads F) : k0_pay244 (t159 L) (t272 L) = t275 L := rfl
theorem p245 (L : Loads F) : k0_pay245 (t173 L) = t175 L := rfl
theorem p246 (L : Loads F) : k0_pay246 (t173 L) = t191 L := rfl
theorem p247 (L : Loads F) : k0_pay247 (t173 L) = t199 L := rfl
theorem p248 (L : Loads F) : k0_pay248 (t173 L) = t207 L := rfl
theorem p249 (L : Loads F) : k0_pay249 t7 (t29 L) (t9 L) = t30 L := rfl

end Cert.KernelIdeal.Group
-- ==== Proof.Pay2.lean ====
module

public import proofs.«01_k».proof.Proof.Tower

@[expose] public section

set_option maxRecDepth 16384
set_option synthInstance.maxSize 4096

noncomputable section

namespace Cert.KernelIdeal.Group

open Idealize.ShloMosaic Idealize.SL.Sem Cert.KernelIdeal Cert.KernelIdeal.Gen

variable {F : FTy → Type} [FloatOps F]

theorem p250 (L : Loads F) : k0_pay250 L.l3 (t30 L) = t31 L := rfl
theorem p251 (L : Loads F) : k0_pay251 (t33 L) = t40 L := rfl
theorem p252 (L : Loads F) : k0_pay252 (t33 L) L.l3 (t30 L) = t41 L := rfl
theorem p253 (L : Loads F) : k0_pay253 (t33 L) L.l3 (t30 L) = t51 L := rfl
theorem p254 (L : Loads F) : k0_pay254 (t33 L) L.l3 (t30 L) = t53 L := rfl
theorem p255 (L : Loads F) : k0_pay255 (t33 L) L.l3 (t30 L) L.l2 L.l0 = t58 L := rfl
theorem p256 (L : Loads F) : k0_pay256 L.l2 L.l59 = t62 L := rfl
theorem p257 (L : Loads F) : k0_pay257 (t33 L) L.l3 (t30 L) L.l2 L.l59 = t66 L := rfl
theorem p258 (L : Loads F) : k0_pay258 (t51 L) (t53 L) (t62 L) (t66 L) = t70 L := rfl
theorem p259 (L : Loads F) : k0_pay259 (t33 L) (t31 L) (t51 L) (t53 L) (t62 L) (t66 L) = t79 L := rfl
theorem p260 (L : Loads F) : k0_pay260 (t40 L) (t51 L) (t53 L) (t62 L) (t66 L) = t180 L := rfl
theorem p261 (L : Loads F) : k0_pay261 (t29 L) (t124 L) = t288 L := rfl
theorem p262 (L : Loads F) : k0_pay262 (t181 L) (t40 L) (t51 L) (t53 L) (t62 L) (t66 L) = t182 L := rfl
theorem p263 (L : Loads F) : k0_pay263 (t283 L) (t181 L) (t40 L) (t51 L) (t53 L) (t62 L) (t66 L) = t285 L := rfl
theorem p264 (L : Loads F) : k0_pay264 (t29 L) L.l177 (t124 L) (t275 L) = t327 L := rfl
theorem p265 (L : Loads F) : k0_pay265 L.l184 (t181 L) (t40 L) (t51 L) (t53 L) (t62 L) (t66 L) = t186 L := rfl
theorem p266 (L : Loads F) : k0_pay266 (t40 L) (t51 L) (t53 L) (t62 L) (t66 L) = t230 L := rfl
theorem p267 (L : Loads F) : k0_pay267 (t29 L) (t124 L) = t289 L := rfl
theorem p268 (L : Loads F) : k0_pay268 t97 (t215 L) (t227 L) (t239 L) (t40 L) (t51 L) (t53 L) (t62 L) (t66 L) = t243 L := rfl
theorem p269 : k0_pay269 t97 = (t297 : IVec S128x128 1) := rfl
theorem p270 (L : Loads F) : k0_pay270 t97 (t230 L) (t289 L) = t291 L := rfl
theorem p271 (L : Loads F) : k0_pay271 t97 (t230 L) (t289 L) = t330 L := rfl
theorem p272 (L : Loads F) : k0_pay272 (t230 L) (t289 L) t297 = t300 L := rfl
theorem p273 (L : Loads F) : k0_pay273 (t230 L) (t289 L) t297 = t335 L := rfl
theorem p274 (L : Loads F) : k0_pay274 (t180 L) = t255 L := rfl
theorem p275 (L : Loads F) : k0_pay275 (t288 L) = t307 L := rfl
theorem p276 (L : Loads F) : k0_pay276 t97 (t215 L) (t252 L) (t264 L) (t180 L) = t268 L := rfl
theorem p277 : k0_pay277 t97 = (t297 : IVec S128x128 1) := rfl
theorem p278 (L : Loads F) : k0_pay278 t97 (t180 L) (t288 L) = t309 L := rfl
theorem p279 (L : Loads F) : k0_pay279 t97 (t180 L) (t288 L) = t340 L := rfl
theorem p280 (L : Loads F) : k0_pay280 t97 (t180 L) = t314 L := rfl
theorem p281 (L : Loads F) : k0_pay281 (t307 L) (t314 L) = t316 L := rfl
theorem p282 (L : Loads F) : k0_pay282 (t255 L) (t307 L) t297 = t345 L := rfl
theorem p283 (L : Loads F) : k0_pay283 (t159 L) = t272 L := rfl
theorem p284 (L : Loads F) : k0_pay284 (t159 L) = t217 L := rfl
theorem p285 (L : Loads F) : k0_pay285 (t159 L) = t218 L := rfl
theorem p286 (L : Loads F) : k0_pay286 (t159 L) = t244 L := rfl
theorem p287 (L : Loads F) : k0_pay287 (t159 L) = t245 L := rfl
theorem p288 (L : Loads F) : k0_pay288 t97 (t159 L) = t258 L := rfl
theorem p289 (L : Loads F) : k0_pay289 t97 (t159 L) (t173 L) = t222 L := rfl
theorem p290 (L : Loads F) (i90 : IVec S128x128 32) (h90 : i90 = t90) (i91 : IVec S128x128 32) (h91 : i91 = t91) : k0_pay290 i90 i91 t97 (t159 L) (t173 L) = t293 L := by subst h90 h91; rfl
theorem p291 (L : Loads F) (i90 : IVec S128x128 32) (h90 : i90 = t90) (i91 : IVec S128x128 32) (h91 : i91 = t91) : k0_pay291 i90 i91 t97 (t159 L) (t173 L) = t227 L := by subst h90 h91; rfl
theorem p292 (L : Loads F) : k0_pay292 t97 (t159 L) (t173 L) = t236 L := rfl
theorem p293 (L : Loads F) (i90 : IVec S128x128 32) (h90 : i90 = t90) (i91 : IVec S128x128 32) (h91 : i91 = t91) : k0_pay293 i90 i91 t97 (t159 L) (t173 L) = t302 L := by subst h90 h91; rfl
theorem p294 (L : Loads F) (i90 : IVec S128x128 32) (h90 : i90 = t90) (i91 : IVec S128x128 32) (h91 : i91 = t91) : k0_pay294 i90 i91 t97 (t159 L) (t173 L) = t239 L := by subst h90 h91; rfl
theorem p295 (L : Loads F) : k0_pay295 t97 (t159 L) (t173 L) = t249 L := rfl
theorem p296 (i90 : IVec S128x128 32) (h90 : i90 = t90) (i91 : IVec S128x128 32) (h91 : i91 = t91) : k0_pay296 i90 i91 = (t92 : IVec S128x128 1) := by subst h90 h91; rfl
theorem p297 : k0_pay297 = (t225 : FVec F S128x128 .f32) := rfl
theorem p298 (L : Loads F) : k0_pay298 (t249 L) t92 t225 = t311 L := rfl
theorem p299 (L : Loads F) (i90 : IVec S128x128 32) (h90 : i90 = t90) (i91 : IVec S128x128 32) (h91 : i91 = t91) : k0_pay299 i90 i91 (t249 L) = t252 L := by subst h90 h91; rfl
theorem p300 (L : Loads F) : k0_pay300 (t173 L) (t258 L) = t261 L := rfl
theorem p301 (L : Loads F) (i90 : IVec S128x128 32) (h90 : i90 = t90) (i91 : IVec S128x128 32) (h91 : i91 = t91) : k0_pay301 i90 i91 (t173 L) (t258 L) = t318 L := by subst h90 h91; rfl
theorem p302 (L : Loads F) (i90 : IVec S128x128 32) (h90 : i90 = t90) (i91 : IVec S128x128 32) (h91 : i91 = t91) : k0_pay302 i90 i91 (t173 L) (t258 L) = t264 L := by subst h90 h91; rfl
theorem p303 (L : Loads F) : k0_pay303 t7 (t9 L) = t26 L := rfl
theorem p304 (L : Loads F) : k0_pay304 (t159 L) = t181 L := rfl
theorem p305 (L : Loads F) : k0_pay305 (t159 L) (t272 L) = t275 L := rfl
theorem p306 (L : Loads F) : k0_pay306 (t173 L) = t175 L := rfl
theorem p307 (L : Loads F) : k0_pay307 (t173 L) = t191 L := rfl
theorem p308 (L : Loads F) : k0_pay308 (t173 L) = t199 L := rfl
theorem p309 (L : Loads F) : k0_pay309 (t173 L) = t207 L := rfl
theorem p310 (L : Loads F) : k0_pay310 t7 (t29 L) (t9 L) L.l3 = t31 L := rfl
theorem p311 (L : Loads F) : k0_pay311 (t33 L) = t40 L := rfl
theorem p312 (L : Loads F) : k0_pay312 (t33 L) (t31 L) = t41 L := rfl
theorem p313 (L : Loads F) : k0_pay313 (t33 L) (t31 L) = t51 L := rfl
theorem p314 (L : Loads F) : k0_pay314 (t33 L) (t31 L) = t53 L := rfl
theorem p315 (L : Loads F) : k0_pay315 (t33 L) (t31 L) L.l2 L.l0 = t58 L := rfl
theorem p316 (L : Loads F) : k0_pay316 L.l2 L.l59 = t62 L := rfl
theorem p317 (L : Loads F) : k0_pay317 (t33 L) (t31 L) L.l2 L.l59 = t67 L := rfl
theorem p318 (L : Loads F) : k0_pay318 (t51 L) (t53 L) (t62 L) (t67 L) = t70 L := rfl
theorem p319 (L : Loads F) : k0_pay319 (t33 L) (t31 L) (t51 L) (t53 L) (t62 L) (t67 L) = t79 L := rfl
theorem p320 (L : Loads F) : k0_pay320 (t40 L) (t51 L) (t53 L) (t62 L) (t67 L) = t180 L := rfl
theorem p321 (L : Loads F) : k0_pay321 (t29 L) (t124 L) = t288 L := rfl
theorem p322 (L : Loads F) : k0_pay322 (t181 L) (t40 L) (t51 L) (t53 L) (t62 L) (t67 L) = t182 L := rfl
theorem p323 (L : Loads F) : k0_pay323 (t283 L) (t181 L) (t40 L) (t51 L) (t53 L) (t62 L) (t67 L) = t285 L := rfl
theorem p324 (L : Loads F) : k0_pay324 (t29 L) L.l177 (t124 L) (t275 L) = t327 L := rfl
theorem p325 (L : Loads F) : k0_pay325 L.l184 (t181 L) (t40 L) (t51 L) (t53 L) (t62 L) (t67 L) = t186 L := rfl
theorem p326 (L : Loads F) : k0_pay326 (t40 L) (t51 L) (t53 L) (t62 L) (t67 L) = t230 L := rfl
theorem p327 (L : Loads F) : k0_pay327 (t29 L) (t124 L) = t289 L := rfl
theorem p328 (L : Loads F) : k0_pay328 t97 (t215 L) (t227 L) (t239 L) (t40 L) (t51 L) (t53 L) (t62 L) (t67 L) = t243 L := rfl
theorem p329 : k0_pay329 t97 = (t297 : IVec S128x128 1) := rfl
theorem p330 (L : Loads F) (i80 : F .f32) (h80 : i80 = t80) : k0_pay330 t97 (t230 L) (t289 L) i80 = t291 L := by subst h80; rfl
theorem p331 (L : Loads F) : k0_pay331 t97 (t230 L) (t289 L) = t330 L := rfl
theorem p332 (L : Loads F) : k0_pay332 (t230 L) (t289 L) t297 = t300 L := rfl
theorem p333 (L : Loads F) : k0_pay333 (t230 L) (t289 L) t297 = t335 L := rfl
theorem p334 (L : Loads F) : k0_pay334 (t180 L) = t255 L := rfl
theorem p335 (L : Loads F) : k0_pay335 (t288 L) = t307 L := rfl
theorem p336 (L : Loads F) : k0_pay336 t97 (t215 L) (t252 L) (t264 L) (t180 L) = t268 L := rfl
theorem p337 : k0_pay337 t97 = (t297 : IVec S128x128 1) := rfl
theorem p338 (L : Loads F) : k0_pay338 t97 (t180 L) (t288 L) = t309 L := rfl
theorem p339 (L : Loads F) : k0_pay339 t97 (t180 L) (t288 L) = t340 L := rfl
theorem p340 (L : Loads F) : k0_pay340 t97 (t180 L) = t315 L := rfl
theorem p341 (L : Loads F) : k0_pay341 (t307 L) (t315 L) = t316 L := rfl
theorem p342 (L : Loads F) : k0_pay342 (t255 L) (t307 L) t297 = t345 L := rfl
theorem p343 (L : Loads F) : k0_pay343 (t159 L) = t272 L := rfl
theorem p344 (L : Loads F) : k0_pay344 (t159 L) = t217 L := rfl
theorem p345 (L : Loads F) : k0_pay345 (t159 L) = t218 L := rfl
theorem p346 (L : Loads F) : k0_pay346 (t159 L) = t244 L := rfl
theorem p347 (L : Loads F) : k0_pay347 (t159 L) = t245 L := rfl
theorem p348 (L : Loads F) : k0_pay348 t97 (t159 L) = t258 L := rfl
theorem p349 (L : Loads F) : k0_pay349 t97 (t159 L) (t173 L) = t222 L := rfl
theorem p350 (L : Loads F) (i90 : IVec S128x128 32) (h90 : i90 = t90) (i91 : IVec S128x128 32) (h91 : i91 = t91) : k0_pay350 i90 i91 t97 (t159 L) (t173 L) = t293 L := by subst h90 h91; rfl
theorem p351 (L : Loads F) (i90 : IVec S128x128 32) (h90 : i90 = t90) (i91 : IVec S128x128 32) (h91 : i91 = t91) : k0_pay351 i90 i91 t97 (t159 L) (t173 L) = t227 L := by subst h90 h91; rfl
theorem p352 (L : Loads F) : k0_pay352 t97 (t159 L) (t173 L) = t236 L := rfl
theorem p353 (L : Loads F) (i90 : IVec S128x128 32) (h90 : i90 = t90) (i91 : IVec S128x128 32) (h91 : i91 = t91) : k0_pay353 i90 i91 t97 (t159 L) (t173 L) = t302 L := by subst h90 h91; rfl
theorem p354 (L : Loads F) (i90 : IVec S128x128 32) (h90 : i90 = t90) (i91 : IVec S128x128 32) (h91 : i91 = t91) : k0_pay354 i90 i91 t97 (t159 L) (t173 L) = t239 L := by subst h90 h91; rfl
theorem p355 (L : Loads F) : k0_pay355 t97 (t159 L) (t173 L) = t249 L := rfl
theorem p356 (L : Loads F) (i90 : IVec S128x128 32) (h90 : i90 = t90) (i91 : IVec S128x128 32) (h91 : i91 = t91) : k0_pay356 i90 i91 t97 (t159 L) (t173 L) = t310 L := by subst h90 h91; rfl
theorem p357 (L : Loads F) : k0_pay357 (t310 L) = t311 L := rfl
theorem p358 (L : Loads F) (i90 : IVec S128x128 32) (h90 : i90 = t90) (i91 : IVec S128x128 32) (h91 : i91 = t91) : k0_pay358 i90 i91 (t249 L) = t252 L := by subst h90 h91; rfl
theorem p359 (L : Loads F) : k0_pay359 (t173 L) (t258 L) = t261 L := rfl
theorem p360 (L : Loads F) (i90 : IVec S128x128 32) (h90 : i90 = t90) (i91 : IVec S128x128 32) (h91 : i91 = t91) : k0_pay360 i90 i91 (t173 L) (t258 L) = t318 L := by subst h90 h91; rfl
theorem p361 (L : Loads F) (i90 : IVec S128x128 32) (h90 : i90 = t90) (i91 : IVec S128x128 32) (h91 : i91 = t91) : k0_pay361 i90 i91 (t173 L) (t258 L) = t264 L := by subst h90 h91; rfl
theorem p362 (L : Loads F) : k0_pay362 t7 (t9 L) = t26 L := rfl
theorem p363 (L : Loads F) : k0_pay363 (t159 L) = t181 L := rfl
theorem p364 (L : Loads F) : k0_pay364 (t159 L) (t272 L) = t275 L := rfl
theorem p365 (L : Loads F) : k0_pay365 (t173 L) = t175 L := rfl
theorem p366 (L : Loads F) : k0_pay366 (t173 L) = t191 L := rfl
theorem p367 (L : Loads F) : k0_pay367 (t173 L) = t199 L := rfl
theorem p368 (L : Loads F) : k0_pay368 (t173 L) = t207 L := rfl
theorem p369 (L : Loads F) : k0_pay369 t7 (t29 L) (t9 L) L.l3 = t31 L := rfl
theorem p370 (L : Loads F) (i34 : F .f32) (h34 : i34 = t34) : k0_pay370 (t33 L) i34 = t40 L := by subst h34; rfl
theorem p371 (L : Loads F) (i34 : F .f32) (h34 : i34 = t34) : k0_pay371 (t33 L) (t31 L) i34 = t41 L := by subst h34; rfl
theorem p372 (L : Loads F) (i34 : F .f32) (h34 : i34 = t34) : k0_pay372 (t33 L) (t31 L) i34 = t51 L := by subst h34; rfl
theorem p373 (L : Loads F) (i34 : F .f32) (h34 : i34 = t34) : k0_pay373 (t33 L) (t31 L) i34 = t53 L := by subst h34; rfl
theorem p374 (L : Loads F) (i34 : F .f32) (h34 : i34 = t34) : k0_pay374 (t33 L) (t31 L) i34 L.l2 L.l0 = t58 L := by subst h34; rfl
theorem p375 (L : Loads F) : k0_pay375 L.l2 L.l59 = t62 L := rfl
theorem p376 (L : Loads F) (i34 : F .f32) (h34 : i34 = t34) : k0_pay376 (t33 L) (t31 L) i34 L.l2 L.l59 = t68 L := by subst h34; rfl
theorem p377 (L : Loads F) : k0_pay377 (t51 L) (t62 L) (t68 L) = t70 L := rfl
theorem p378 (L : Loads F) : k0_pay378 (t33 L) (t31 L) (t51 L) (t62 L) (t68 L) = t79 L := rfl
theorem p379 (L : Loads F) : k0_pay379 (t40 L) (t51 L) (t62 L) (t68 L) = t180 L := rfl
theorem p380 (L : Loads F) : k0_pay380 (t29 L) (t124 L) = t288 L := rfl
theorem p381 (L : Loads F) : k0_pay381 (t181 L) (t40 L) (t51 L) (t62 L) (t68 L) = t182 L := rfl
theorem p382 (L : Loads F) : k0_pay382 (t283 L) (t181 L) (t40 L) (t51 L) (t62 L) (t68 L) = t285 L := rfl
theorem p383 (L : Loads F) : k0_pay383 (t29 L) L.l177 (t124 L) (t275 L) = t327 L := rfl
theorem p384 (L : Loads F) : k0_pay384 L.l184 (t181 L) (t40 L) (t51 L) (t62 L) (t68 L) = t186 L := rfl
theorem p385 (L : Loads F) : k0_pay385 (t40 L) (t51 L) (t62 L) (t68 L) = t230 L := rfl
theorem p386 (L : Loads F) : k0_pay386 (t29 L) (t124 L) = t289 L := rfl
theorem p387 (L : Loads F) : k0_pay387 t97 (t215 L) (t227 L) (t239 L) (t40 L) (t51 L) (t62 L) (t68 L) = t243 L := rfl
theorem p388 : k0_pay388 t97 = (t297 : IVec S128x128 1) := rfl
theorem p389 : k0_pay389 = (t81 : FVec F S128x128 .f32) := rfl
theorem p390 (L : Loads F) : k0_pay390 t97 (t230 L) (t289 L) t81 = t291 L := rfl
theorem p391 (L : Loads F) : k0_pay391 t97 (t230 L) (t289 L) = t330 L := rfl
theorem p392 (L : Loads F) : k0_pay392 (t230 L) (t289 L) t297 = t300 L := rfl
theorem p393 (L : Loads F) : k0_pay393 (t230 L) (t289 L) t297 = t335 L := rfl
theorem p394 (L : Loads F) : k0_pay394 (t180 L) = t255 L := rfl
theorem p395 (L : Loads F) : k0_pay395 (t288 L) = t307 L := rfl
theorem p396 (L : Loads F) : k0_pay396 t97 (t215 L) (t252 L) (t264 L) (t180 L) = t268 L := rfl
theorem p397 : k0_pay397 t97 = (t297 : IVec S128x128 1) := rfl
theorem p398 (L : Loads F) : k0_pay398 t97 (t180 L) (t288 L) = t309 L := rfl
theorem p399 (L : Loads F) : k0_pay399 t97 (t180 L) (t288 L) = t340 L := rfl
theorem p400 (L : Loads F) : k0_pay400 t97 (t180 L) = t315 L := rfl
theorem p401 (L : Loads F) : k0_pay401 (t288 L) = t308 L := rfl
theorem p402 (L : Loads F) : k0_pay402 (t315 L) (t308 L) = t316 L := rfl
theorem p403 (L : Loads F) : k0_pay403 (t255 L) (t307 L) t297 = t345 L := rfl
theorem p404 (L : Loads F) : k0_pay404 (t159 L) = t272 L := rfl
theorem p405 (L : Loads F) : k0_pay405 (t159 L) = t217 L := rfl
theorem p406 (L : Loads F) : k0_pay406 (t159 L) = t218 L := rfl
theorem p407 (L : Loads F) : k0_pay407 (t159 L) = t244 L := rfl
theorem p408 (L : Loads F) : k0_pay408 (t159 L) = t245 L := rfl
theorem p409 (L : Loads F) : k0_pay409 t97 (t159 L) = t258 L := rfl
theorem p410 (L : Loads F) : k0_pay410 t97 (t159 L) (t173 L) = t222 L := rfl
theorem p411 (L : Loads F) (i90 : IVec S128x128 32) (h90 : i90 = t90) (i91 : IVec S128x128 32) (h91 : i91 = t91) : k0_pay411 i90 i91 t97 (t159 L) (t173 L) = t293 L := by subst h90 h91; rfl
theorem p412 (L : Loads F) (i90 : IVec S128x128 32) (h90 : i90 = t90) (i91 : IVec S128x128 32) (h91 : i91 = t91) : k0_pay412 i90 i91 t97 (t159 L) (t173 L) = t227 L := by subst h90 h91; rfl
theorem p413 (L : Loads F) : k0_pay413 t97 (t159 L) (t173 L) = t236 L := rfl
theorem p414 (L : Loads F) (i90 : IVec S128x128 32) (h90 : i90 = t90) (i91 : IVec S128x128 32) (h91 : i91 = t91) : k0_pay414 i90 i91 t97 (t159 L) (t173 L) = t302 L := by subst h90 h91; rfl
theorem p415 (L : Loads F) (i90 : IVec S128x128 32) (h90 : i90 = t90) (i91 : IVec S128x128 32) (h91 : i91 = t91) : k0_pay415 i90 i91 t97 (t159 L) (t173 L) = t239 L := by subst h90 h91; rfl
theorem p416 (L : Loads F) : k0_pay416 t97 (t159 L) (t173 L) = t249 L := rfl
theorem p417 (L : Loads F) (i90 : IVec S128x128 32) (h90 : i90 = t90) (i91 : IVec S128x128 32) (h91 : i91 = t91) : k0_pay417 i90 i91 t97 (t159 L) (t173 L) = t311 L := by subst h90 h91; rfl
theorem p418 (L : Loads F) (i90 : IVec S128x128 32) (h90 : i90 = t90) (i91 : IVec S128x128 32) (h91 : i91 = t91) : k0_pay418 i90 i91 (t249 L) = t252 L := by subst h90 h91; rfl
theorem p419 (L : Loads F) : k0_pay419 (t173 L) (t258 L) = t261 L := rfl
theorem p420 (L : Loads F) (i90 : IVec S128x128 32) (h90 : i90 = t90) (i91 : IVec S128x128 32) (h91 : i91 = t91) : k0_pay420 i90 i91 (t173 L) (t258 L) = t318 L := by subst h90 h91; rfl
theorem p421 (L : Loads F) (i90 : IVec S128x128 32) (h90 : i90 = t90) (i91 : IVec S128x128 32) (h91 : i91 = t91) : k0_pay421 i90 i91 (t173 L) (t258 L) = t264 L := by subst h90 h91; rfl
theorem p422 (L : Loads F) : k0_pay422 t7 (t9 L) = t26 L := rfl
theorem p423 (L : Loads F) : k0_pay423 (t159 L) = t181 L := rfl
theorem p424 (L : Loads F) : k0_pay424 (t159 L) (t272 L) = t275 L := rfl
theorem p425 (L : Loads F) : k0_pay425 (t173 L) = t175 L := rfl
theorem p426 (L : Loads F) : k0_pay426 (t173 L) = t191 L := rfl
theorem p427 (L : Loads F) : k0_pay427 (t173 L) = t199 L := rfl
theorem p428 (L : Loads F) : k0_pay428 (t173 L) = t207 L := rfl
theorem p429 (L : Loads F) : k0_pay429 t7 (t29 L) (t9 L) L.l3 = t31 L := rfl
theorem p430 : k0_pay430 = (t35 : FVec F S128x256 .f32) := rfl
theorem p431 (L : Loads F) : k0_pay431 (t33 L) t35 = t40 L := rfl
theorem p432 (L : Loads F) : k0_pay432 (t33 L) (t31 L) t35 = t41 L := rfl
theorem p433 (L : Loads F) : k0_pay433 (t33 L) (t31 L) t35 = t51 L := rfl
theorem p434 (L : Loads F) : k0_pay434 (t33 L) (t31 L) t35 = t53 L := rfl
theorem p435 (L : Loads F) : k0_pay435 (t33 L) (t31 L) t35 L.l2 L.l0 = t58 L := rfl
theorem p436 (L : Loads F) : k0_pay436 (t33 L) (t31 L) t35 L.l2 L.l59 = t69 L := rfl
theorem p437 (L : Loads F) : k0_pay437 (t51 L) (t69 L) = t70 L := rfl
theorem p438 (L : Loads F) : k0_pay438 (t33 L) (t31 L) (t51 L) (t69 L) = t79 L := rfl
theorem p439 (L : Loads F) : k0_pay439 (t40 L) (t51 L) (t69 L) = t180 L := rfl
theorem p440 (L : Loads F) : k0_pay440 (t29 L) (t124 L) = t288 L := rfl
theorem p441 (L : Loads F) : k0_pay441 (t181 L) (t40 L) (t51 L) (t69 L) = t182 L := rfl
theorem p442 (L : Loads F) : k0_pay442 (t283 L) (t181 L) (t40 L) (t51 L) (t69 L) = t285 L := rfl
theorem p443 (L : Loads F) : k0_pay443 (t29 L) L.l177 (t124 L) (t275 L) = t327 L := rfl
theorem p444 (L : Loads F) : k0_pay444 L.l184 (t181 L) (t40 L) (t51 L) (t69 L) = t186 L := rfl
theorem p445 (L : Loads F) : k0_pay445 (t40 L) (t51 L) (t69 L) = t230 L := rfl
theorem p446 (L : Loads F) : k0_pay446 (t29 L) (t124 L) = t289 L := rfl
theorem p447 (L : Loads F) : k0_pay447 t97 (t215 L) (t227 L) (t239 L) (t40 L) (t51 L) (t69 L) = t243 L := rfl
theorem p448 : k0_pay448 t97 = (t297 : IVec S128x128 1) := rfl
theorem p449 (L : Loads F) : k0_pay449 t97 (t40 L) (t51 L) (t69 L) = t286 L := rfl
theorem p450 (L : Loads F) : k0_pay450 (t289 L) (t286 L) = t291 L := rfl
theorem p451 (L : Loads F) : k0_pay451 t97 (t230 L) (t289 L) = t330 L := rfl
theorem p452 (L : Loads F) : k0_pay452 (t230 L) (t289 L) t297 = t300 L := rfl
theorem p453 (L : Loads F) : k0_pay453 (t230 L) (t289 L) t297 = t335 L := rfl
theorem p454 (L : Loads F) : k0_pay454 (t180 L) = t255 L := rfl
theorem p455 (L : Loads F) : k0_pay455 (t288 L) = t307 L := rfl
theorem p456 (L : Loads F) : k0_pay456 t97 (t215 L) (t252 L) (t264 L) (t180 L) = t268 L := rfl
theorem p457 : k0_pay457 t97 = (t297 : IVec S128x128 1) := rfl
theorem p458 (L : Loads F) : k0_pay458 t97 (t180 L) (t288 L) = t309 L := rfl
theorem p459 (L : Loads F) : k0_pay459 t97 (t180 L) (t288 L) = t340 L := rfl
theorem p460 (L : Loads F) : k0_pay460 t97 (t180 L) = t315 L := rfl
theorem p461 (L : Loads F) : k0_pay461 (t288 L) = t308 L := rfl
theorem p462 (L : Loads F) (i161 : FVec F S128x128 .f32) (h161 : i161 = t161) : k0_pay462 (t315 L) (t308 L) i161 = t316 L := by subst h161; rfl
theorem p463 (L : Loads F) : k0_pay463 (t255 L) (t307 L) t297 = t345 L := rfl
theorem p464 (L : Loads F) : k0_pay464 (t159 L) = t272 L := rfl
theorem p465 (L : Loads F) : k0_pay465 (t159 L) = t217 L := rfl
theorem p466 (L : Loads F) : k0_pay466 (t159 L) = t218 L := rfl
theorem p467 (L : Loads F) : k0_pay467 (t159 L) = t244 L := rfl
theorem p468 (L : Loads F) : k0_pay468 (t159 L) = t245 L := rfl
theorem p469 (L : Loads F) : k0_pay469 t97 (t159 L) = t258 L := rfl
theorem p470 (L : Loads F) : k0_pay470 t97 (t159 L) (t173 L) = t222 L := rfl
theorem p471 (L : Loads F) (i90 : IVec S128x128 32) (h90 : i90 = t90) (i91 : IVec S128x128 32) (h91 : i91 = t91) : k0_pay471 i90 i91 t97 (t159 L) (t173 L) = t293 L := by subst h90 h91; rfl
theorem p472 (L : Loads F) (i90 : IVec S128x128 32) (h90 : i90 = t90) (i91 : IVec S128x128 32) (h91 : i91 = t91) : k0_pay472 i90 i91 t97 (t159 L) (t173 L) = t227 L := by subst h90 h91; rfl
theorem p473 (L : Loads F) : k0_pay473 t97 (t159 L) (t173 L) = t236 L := rfl
theorem p474 (L : Loads F) (i90 : IVec S128x128 32) (h90 : i90 = t90) (i91 : IVec S128x128 32) (h91 : i91 = t91) : k0_pay474 i90 i91 t97 (t159 L) (t173 L) = t302 L := by subst h90 h91; rfl
theorem p475 (L : Loads F) (i90 : IVec S128x128 32) (h90 : i90 = t90) (i91 : IVec S128x128 32) (h91 : i91 = t91) : k0_pay475 i90 i91 t97 (t159 L) (t173 L) = t239 L := by subst h90 h91; rfl
theorem p476 (L : Loads F) : k0_pay476 t97 (t159 L) (t173 L) = t249 L := rfl
theorem p477 (L : Loads F) (i90 : IVec S128x128 32) (h90 : i90 = t90) (i91 : IVec S128x128 32) (h91 : i91 = t91) : k0_pay477 i90 i91 t97 (t159 L) (t173 L) = t311 L := by subst h90 h91; rfl
theorem p478 (i90 : IVec S128x128 32) (h90 : i90 = t90) (i91 : IVec S128x128 32) (h91 : i91 = t91) : k0_pay478 i90 i91 = (t216 : IVec S128x128 1) := by subst h90 h91; rfl
theorem p479 (L : Loads F) : k0_pay479 (t249 L) t216 = t252 L := rfl
theorem p480 (L : Loads F) : k0_pay480 (t173 L) (t258 L) = t261 L := rfl
theorem p481 (L : Loads F) (i90 : IVec S128x128 32) (h90 : i90 = t90) (i91 : IVec S128x128 32) (h91 : i91 = t91) : k0_pay481 i90 i91 (t173 L) (t258 L) = t318 L := by subst h90 h91; rfl
theorem p482 (L : Loads F) (i90 : IVec S128x128 32) (h90 : i90 = t90) (i91 : IVec S128x128 32) (h91 : i91 = t91) : k0_pay482 i90 i91 (t173 L) (t258 L) = t264 L := by subst h90 h91; rfl
theorem p483 (L : Loads F) : k0_pay483 t7 (t9 L) = t26 L := rfl
theorem p484 (L : Loads F) : k0_pay484 (t159 L) = t181 L := rfl
theorem p485 (L : Loads F) : k0_pay485 (t159 L) (t272 L) = t275 L := rfl
theorem p486 (L : Loads F) : k0_pay486 (t173 L) = t175 L := rfl
theorem p487 (L : Loads F) : k0_pay487 (t173 L) = t191 L := rfl
theorem p488 (L : Loads F) : k0_pay488 (t173 L) = t199 L := rfl
theorem p489 (L : Loads F) : k0_pay489 (t173 L) = t207 L := rfl
theorem p490 (L : Loads F) : k0_pay490 t7 (t29 L) (t9 L) L.l3 = t31 L := rfl
theorem p491 (L : Loads F) : k0_pay491 (t33 L) = t36 L := rfl
theorem p492 (L : Loads F) : k0_pay492 (t33 L) (t36 L) = t40 L := rfl
theorem p493 (L : Loads F) : k0_pay493 (t33 L) (t31 L) (t36 L) = t41 L := rfl
theorem p494 (L : Loads F) : k0_pay494 (t33 L) (t31 L) (t36 L) = t51 L := rfl
theorem p495 (L : Loads F) : k0_pay495 (t33 L) (t31 L) (t36 L) = t53 L := rfl

end Cert.KernelIdeal.Group
-- ==== Proof.Pay3.lean ====
module

public import proofs.«01_k».proof.Proof.Tower

@[expose] public section

set_option maxRecDepth 16384
set_option synthInstance.maxSize 4096

noncomputable section

namespace Cert.KernelIdeal.Group

open Idealize.ShloMosaic Idealize.SL.Sem Cert.KernelIdeal Cert.KernelIdeal.Gen

variable {F : FTy → Type} [FloatOps F]

theorem p496 (L : Loads F) : k0_pay496 (t33 L) (t31 L) (t36 L) L.l2 L.l0 = t58 L := rfl
theorem p497 (L : Loads F) : k0_pay497 (t33 L) (t31 L) (t36 L) L.l2 L.l59 = t69 L := rfl
theorem p498 (L : Loads F) : k0_pay498 (t33 L) (t31 L) (t36 L) = t52 L := rfl
theorem p499 (L : Loads F) : k0_pay499 (t69 L) (t52 L) = t70 L := rfl
theorem p500 (L : Loads F) : k0_pay500 (t33 L) (t31 L) (t69 L) (t52 L) = t79 L := rfl
theorem p501 (L : Loads F) : k0_pay501 (t40 L) (t69 L) (t52 L) = t180 L := rfl
theorem p502 (L : Loads F) : k0_pay502 (t29 L) (t124 L) = t288 L := rfl
theorem p503 (L : Loads F) : k0_pay503 (t181 L) (t40 L) (t69 L) (t52 L) = t182 L := rfl
theorem p504 (L : Loads F) : k0_pay504 (t283 L) (t181 L) (t40 L) (t69 L) (t52 L) = t285 L := rfl
theorem p505 (L : Loads F) : k0_pay505 (t29 L) L.l177 (t124 L) (t275 L) = t327 L := rfl
theorem p506 (L : Loads F) : k0_pay506 L.l184 (t181 L) (t40 L) (t69 L) (t52 L) = t186 L := rfl
theorem p507 (L : Loads F) : k0_pay507 (t40 L) (t69 L) (t52 L) = t230 L := rfl
theorem p508 (L : Loads F) : k0_pay508 (t29 L) (t124 L) = t289 L := rfl
theorem p509 (L : Loads F) : k0_pay509 t97 (t215 L) (t227 L) (t239 L) (t40 L) (t69 L) (t52 L) = t243 L := rfl
theorem p510 : k0_pay510 t97 = (t297 : IVec S128x128 1) := rfl
theorem p511 (L : Loads F) : k0_pay511 t97 (t40 L) (t69 L) (t52 L) = t287 L := rfl
theorem p512 (L : Loads F) : k0_pay512 (t289 L) (t287 L) = t291 L := rfl
theorem p513 (L : Loads F) : k0_pay513 t97 (t230 L) (t289 L) = t330 L := rfl
theorem p514 (L : Loads F) : k0_pay514 (t230 L) (t289 L) t297 = t300 L := rfl
theorem p515 (L : Loads F) : k0_pay515 (t230 L) (t289 L) t297 = t335 L := rfl
theorem p516 (L : Loads F) : k0_pay516 (t180 L) = t255 L := rfl
theorem p517 (L : Loads F) : k0_pay517 (t288 L) = t307 L := rfl
theorem p518 (L : Loads F) : k0_pay518 t97 (t215 L) (t252 L) (t264 L) (t180 L) = t268 L := rfl
theorem p519 : k0_pay519 t97 = (t297 : IVec S128x128 1) := rfl
theorem p520 (L : Loads F) : k0_pay520 t97 (t180 L) (t288 L) = t309 L := rfl
theorem p521 (L : Loads F) : k0_pay521 t97 (t180 L) (t288 L) = t340 L := rfl
theorem p522 (L : Loads F) : k0_pay522 t97 (t180 L) (t288 L) = t316 L := rfl
theorem p523 (L : Loads F) : k0_pay523 (t255 L) (t307 L) t297 = t345 L := rfl
theorem p524 (L : Loads F) : k0_pay524 (t159 L) = t272 L := rfl
theorem p525 (L : Loads F) : k0_pay525 (t159 L) = t217 L := rfl
theorem p526 (L : Loads F) : k0_pay526 (t159 L) = t218 L := rfl
theorem p527 (L : Loads F) : k0_pay527 (t159 L) = t244 L := rfl
theorem p528 (L : Loads F) : k0_pay528 (t159 L) = t245 L := rfl
theorem p529 (L : Loads F) : k0_pay529 t97 (t159 L) = t258 L := rfl
theorem p530 (L : Loads F) : k0_pay530 t97 (t159 L) (t173 L) = t222 L := rfl
theorem p531 (L : Loads F) (i90 : IVec S128x128 32) (h90 : i90 = t90) (i91 : IVec S128x128 32) (h91 : i91 = t91) : k0_pay531 i90 i91 t97 (t159 L) (t173 L) = t293 L := by subst h90 h91; rfl
theorem p532 (L : Loads F) (i90 : IVec S128x128 32) (h90 : i90 = t90) (i91 : IVec S128x128 32) (h91 : i91 = t91) : k0_pay532 i90 i91 t97 (t159 L) (t173 L) = t227 L := by subst h90 h91; rfl
theorem p533 (L : Loads F) : k0_pay533 t97 (t159 L) (t173 L) = t236 L := rfl
theorem p534 (L : Loads F) (i90 : IVec S128x128 32) (h90 : i90 = t90) (i91 : IVec S128x128 32) (h91 : i91 = t91) : k0_pay534 i90 i91 t97 (t159 L) (t173 L) = t302 L := by subst h90 h91; rfl
theorem p535 (L : Loads F) (i90 : IVec S128x128 32) (h90 : i90 = t90) (i91 : IVec S128x128 32) (h91 : i91 = t91) : k0_pay535 i90 i91 t97 (t159 L) (t173 L) = t239 L := by subst h90 h91; rfl
theorem p536 (L : Loads F) : k0_pay536 t97 (t159 L) (t173 L) = t249 L := rfl
theorem p537 (L : Loads F) (i90 : IVec S128x128 32) (h90 : i90 = t90) (i91 : IVec S128x128 32) (h91 : i91 = t91) : k0_pay537 i90 i91 t97 (t159 L) (t173 L) = t311 L := by subst h90 h91; rfl
theorem p538 (i90 : IVec S128x128 32) (h90 : i90 = t90) (i91 : IVec S128x128 32) (h91 : i91 = t91) : k0_pay538 i90 i91 = (t216 : IVec S128x128 1) := by subst h90 h91; rfl
theorem p539 (L : Loads F) (i80 : F .f32) (h80 : i80 = t80) : k0_pay539 (t249 L) t216 i80 = t252 L := by subst h80; rfl
theorem p540 (L : Loads F) : k0_pay540 (t173 L) (t258 L) = t261 L := rfl
theorem p541 (L : Loads F) (i90 : IVec S128x128 32) (h90 : i90 = t90) (i91 : IVec S128x128 32) (h91 : i91 = t91) : k0_pay541 i90 i91 (t173 L) (t258 L) = t318 L := by subst h90 h91; rfl
theorem p542 (L : Loads F) (i90 : IVec S128x128 32) (h90 : i90 = t90) (i91 : IVec S128x128 32) (h91 : i91 = t91) : k0_pay542 i90 i91 (t173 L) (t258 L) = t264 L := by subst h90 h91; rfl
theorem p543 (L : Loads F) : k0_pay543 t7 (t9 L) = t26 L := rfl
theorem p544 (L : Loads F) : k0_pay544 (t159 L) = t181 L := rfl
theorem p545 (L : Loads F) : k0_pay545 (t159 L) (t272 L) = t275 L := rfl
theorem p546 (L : Loads F) : k0_pay546 (t173 L) = t175 L := rfl
theorem p547 (L : Loads F) : k0_pay547 (t173 L) = t191 L := rfl
theorem p548 (L : Loads F) : k0_pay548 (t173 L) = t199 L := rfl
theorem p549 (L : Loads F) : k0_pay549 (t173 L) = t207 L := rfl
theorem p550 (L : Loads F) : k0_pay550 t7 (t29 L) (t9 L) L.l3 = t31 L := rfl
theorem p551 (L : Loads F) : k0_pay551 (t33 L) = t37 L := rfl
theorem p552 (L : Loads F) : k0_pay552 (t33 L) (t37 L) = t40 L := rfl
theorem p553 (L : Loads F) : k0_pay553 (t33 L) (t31 L) (t37 L) = t41 L := rfl
theorem p554 (L : Loads F) : k0_pay554 (t33 L) (t31 L) (t37 L) = t51 L := rfl
theorem p555 (L : Loads F) : k0_pay555 (t33 L) (t31 L) (t37 L) = t53 L := rfl
theorem p556 (L : Loads F) : k0_pay556 (t33 L) (t31 L) (t37 L) L.l2 L.l0 = t58 L := rfl
theorem p557 (L : Loads F) : k0_pay557 (t33 L) (t31 L) (t37 L) L.l2 L.l59 = t70 L := rfl
theorem p558 (L : Loads F) : k0_pay558 (t33 L) (t31 L) (t70 L) = t79 L := rfl
theorem p559 (L : Loads F) : k0_pay559 (t40 L) (t70 L) = t180 L := rfl
theorem p560 (L : Loads F) : k0_pay560 (t29 L) (t124 L) = t288 L := rfl
theorem p561 (L : Loads F) : k0_pay561 (t181 L) (t40 L) (t70 L) = t182 L := rfl
theorem p562 (L : Loads F) : k0_pay562 (t283 L) (t181 L) (t40 L) (t70 L) = t285 L := rfl
theorem p563 (L : Loads F) : k0_pay563 (t29 L) L.l177 (t124 L) (t275 L) = t327 L := rfl
theorem p564 (L : Loads F) : k0_pay564 L.l184 (t181 L) (t40 L) (t70 L) = t186 L := rfl
theorem p565 (L : Loads F) : k0_pay565 (t40 L) (t70 L) = t230 L := rfl
theorem p566 (L : Loads F) : k0_pay566 (t29 L) (t124 L) = t289 L := rfl
theorem p567 (L : Loads F) : k0_pay567 t97 (t215 L) (t227 L) (t239 L) (t40 L) (t70 L) = t243 L := rfl
theorem p568 : k0_pay568 t97 = (t297 : IVec S128x128 1) := rfl
theorem p569 (L : Loads F) : k0_pay569 t97 (t40 L) (t70 L) = t287 L := rfl
theorem p570 (L : Loads F) : k0_pay570 (t29 L) (t124 L) = t290 L := rfl
theorem p571 (L : Loads F) : k0_pay571 (t287 L) (t290 L) = t291 L := rfl
theorem p572 (L : Loads F) : k0_pay572 t97 (t230 L) (t289 L) = t330 L := rfl
theorem p573 (L : Loads F) : k0_pay573 (t230 L) (t289 L) t297 = t300 L := rfl
theorem p574 (L : Loads F) : k0_pay574 (t230 L) (t289 L) t297 = t335 L := rfl
theorem p575 (L : Loads F) : k0_pay575 (t180 L) = t255 L := rfl
theorem p576 (L : Loads F) : k0_pay576 (t288 L) = t307 L := rfl
theorem p577 (L : Loads F) : k0_pay577 t97 (t215 L) (t252 L) (t264 L) (t180 L) = t268 L := rfl
theorem p578 : k0_pay578 t97 = (t297 : IVec S128x128 1) := rfl
theorem p579 (L : Loads F) : k0_pay579 t97 (t180 L) (t288 L) = t309 L := rfl
theorem p580 (L : Loads F) : k0_pay580 t97 (t180 L) (t288 L) = t340 L := rfl
theorem p581 (L : Loads F) : k0_pay581 t97 (t180 L) (t288 L) = t316 L := rfl
theorem p582 (L : Loads F) (i80 : F .f32) (h80 : i80 = t80) : k0_pay582 (t255 L) (t307 L) t297 i80 = t345 L := by subst h80; rfl
theorem p583 (L : Loads F) : k0_pay583 (t159 L) = t272 L := rfl
theorem p584 (L : Loads F) : k0_pay584 (t159 L) = t217 L := rfl
theorem p585 (L : Loads F) : k0_pay585 (t159 L) = t218 L := rfl
theorem p586 (L : Loads F) : k0_pay586 (t159 L) = t244 L := rfl
theorem p587 (L : Loads F) : k0_pay587 (t159 L) = t245 L := rfl
theorem p588 (L : Loads F) : k0_pay588 t97 (t159 L) = t258 L := rfl
theorem p589 (L : Loads F) : k0_pay589 t97 (t159 L) (t173 L) = t222 L := rfl
theorem p590 (L : Loads F) (i90 : IVec S128x128 32) (h90 : i90 = t90) (i91 : IVec S128x128 32) (h91 : i91 = t91) : k0_pay590 i90 i91 t97 (t159 L) (t173 L) = t293 L := by subst h90 h91; rfl
theorem p591 (L : Loads F) (i90 : IVec S128x128 32) (h90 : i90 = t90) (i91 : IVec S128x128 32) (h91 : i91 = t91) : k0_pay591 i90 i91 t97 (t159 L) (t173 L) = t227 L := by subst h90 h91; rfl
theorem p592 (L : Loads F) : k0_pay592 t97 (t159 L) (t173 L) = t236 L := rfl
theorem p593 (L : Loads F) (i90 : IVec S128x128 32) (h90 : i90 = t90) (i91 : IVec S128x128 32) (h91 : i91 = t91) : k0_pay593 i90 i91 t97 (t159 L) (t173 L) = t302 L := by subst h90 h91; rfl
theorem p594 (L : Loads F) (i90 : IVec S128x128 32) (h90 : i90 = t90) (i91 : IVec S128x128 32) (h91 : i91 = t91) : k0_pay594 i90 i91 t97 (t159 L) (t173 L) = t239 L := by subst h90 h91; rfl
theorem p595 (L : Loads F) : k0_pay595 t97 (t159 L) (t173 L) = t249 L := rfl
theorem p596 (L : Loads F) (i90 : IVec S128x128 32) (h90 : i90 = t90) (i91 : IVec S128x128 32) (h91 : i91 = t91) : k0_pay596 i90 i91 t97 (t159 L) (t173 L) = t311 L := by subst h90 h91; rfl
theorem p597 (i90 : IVec S128x128 32) (h90 : i90 = t90) (i91 : IVec S128x128 32) (h91 : i91 = t91) : k0_pay597 i90 i91 = (t216 : IVec S128x128 1) := by subst h90 h91; rfl
theorem p598 : k0_pay598 = (t81 : FVec F S128x128 .f32) := rfl
theorem p599 (L : Loads F) : k0_pay599 (t249 L) t216 t81 = t252 L := rfl
theorem p600 (L : Loads F) : k0_pay600 (t173 L) (t258 L) = t261 L := rfl
theorem p601 (L : Loads F) (i90 : IVec S128x128 32) (h90 : i90 = t90) (i91 : IVec S128x128 32) (h91 : i91 = t91) : k0_pay601 i90 i91 (t173 L) (t258 L) = t318 L := by subst h90 h91; rfl
theorem p602 (L : Loads F) (i90 : IVec S128x128 32) (h90 : i90 = t90) (i91 : IVec S128x128 32) (h91 : i91 = t91) : k0_pay602 i90 i91 (t173 L) (t258 L) = t264 L := by subst h90 h91; rfl
theorem p603 (L : Loads F) : k0_pay603 t7 (t9 L) = t26 L := rfl
theorem p604 (L : Loads F) : k0_pay604 (t159 L) = t181 L := rfl
theorem p605 (L : Loads F) : k0_pay605 (t159 L) (t272 L) = t275 L := rfl
theorem p606 (L : Loads F) : k0_pay606 (t173 L) = t175 L := rfl
theorem p607 (L : Loads F) : k0_pay607 (t173 L) = t191 L := rfl
theorem p608 (L : Loads F) : k0_pay608 (t173 L) = t199 L := rfl
theorem p609 (L : Loads F) : k0_pay609 (t173 L) = t207 L := rfl
theorem p610 (L : Loads F) : k0_pay610 t7 (t29 L) (t9 L) L.l3 = t31 L := rfl
theorem p611 (L : Loads F) : k0_pay611 (t33 L) = t37 L := rfl
theorem p612 (L : Loads F) (i34 : F .f32) (h34 : i34 = t34) : k0_pay612 (t33 L) (t37 L) i34 = t40 L := by subst h34; rfl
theorem p613 (L : Loads F) (i34 : F .f32) (h34 : i34 = t34) : k0_pay613 (t33 L) (t31 L) (t37 L) i34 = t41 L := by subst h34; rfl
theorem p614 (L : Loads F) (i34 : F .f32) (h34 : i34 = t34) : k0_pay614 (t33 L) (t31 L) (t37 L) i34 = t51 L := by subst h34; rfl
theorem p615 (L : Loads F) (i34 : F .f32) (h34 : i34 = t34) : k0_pay615 (t33 L) (t31 L) (t37 L) i34 = t53 L := by subst h34; rfl
theorem p616 (L : Loads F) (i34 : F .f32) (h34 : i34 = t34) : k0_pay616 (t33 L) (t31 L) (t37 L) i34 L.l2 L.l0 = t58 L := by subst h34; rfl
theorem p617 (L : Loads F) (i34 : F .f32) (h34 : i34 = t34) : k0_pay617 (t33 L) (t31 L) (t37 L) i34 L.l2 L.l59 = t70 L := by subst h34; rfl
theorem p618 (L : Loads F) (i34 : F .f32) (h34 : i34 = t34) : k0_pay618 (t33 L) (t31 L) (t37 L) i34 L.l2 L.l59 = t71 L := by subst h34; rfl
theorem p619 (L : Loads F) : k0_pay619 (t33 L) (t71 L) = t79 L := rfl
theorem p620 (L : Loads F) : k0_pay620 (t40 L) (t70 L) = t180 L := rfl
theorem p621 (L : Loads F) : k0_pay621 (t29 L) (t124 L) = t288 L := rfl
theorem p622 (L : Loads F) : k0_pay622 (t181 L) (t40 L) (t70 L) = t182 L := rfl
theorem p623 (L : Loads F) : k0_pay623 (t283 L) (t181 L) (t40 L) (t70 L) = t285 L := rfl
theorem p624 (L : Loads F) : k0_pay624 (t29 L) L.l177 (t124 L) (t275 L) = t327 L := rfl
theorem p625 (L : Loads F) : k0_pay625 L.l184 (t181 L) (t40 L) (t70 L) = t186 L := rfl
theorem p626 (L : Loads F) : k0_pay626 (t40 L) (t70 L) = t230 L := rfl
theorem p627 (L : Loads F) : k0_pay627 (t29 L) (t124 L) = t289 L := rfl
theorem p628 (L : Loads F) : k0_pay628 t97 (t215 L) (t227 L) (t239 L) (t40 L) (t70 L) = t243 L := rfl
theorem p629 : k0_pay629 t97 = (t297 : IVec S128x128 1) := rfl
theorem p630 (L : Loads F) : k0_pay630 t97 (t40 L) (t70 L) = t287 L := rfl
theorem p631 (L : Loads F) : k0_pay631 (t29 L) (t124 L) = t290 L := rfl
theorem p632 (L : Loads F) (i161 : FVec F S128x128 .f32) (h161 : i161 = t161) : k0_pay632 (t287 L) (t290 L) i161 = t291 L := by subst h161; rfl
theorem p633 (L : Loads F) : k0_pay633 t97 (t230 L) (t289 L) = t330 L := rfl
theorem p634 (L : Loads F) : k0_pay634 (t230 L) (t289 L) t297 = t300 L := rfl
theorem p635 (L : Loads F) : k0_pay635 (t230 L) (t289 L) t297 = t335 L := rfl
theorem p636 (L : Loads F) : k0_pay636 (t180 L) = t255 L := rfl
theorem p637 (L : Loads F) : k0_pay637 (t288 L) = t307 L := rfl
theorem p638 (L : Loads F) : k0_pay638 t97 (t215 L) (t252 L) (t264 L) (t180 L) = t268 L := rfl
theorem p639 : k0_pay639 t97 = (t297 : IVec S128x128 1) := rfl
theorem p640 (L : Loads F) : k0_pay640 t97 (t180 L) (t288 L) = t309 L := rfl
theorem p641 (L : Loads F) : k0_pay641 t97 (t180 L) (t288 L) = t340 L := rfl
theorem p642 (L : Loads F) : k0_pay642 t97 (t180 L) (t288 L) = t316 L := rfl
theorem p643 : k0_pay643 = (t81 : FVec F S128x128 .f32) := rfl
theorem p644 (L : Loads F) : k0_pay644 (t255 L) (t307 L) t297 t81 = t345 L := rfl
theorem p645 (L : Loads F) : k0_pay645 (t271 L) (t275 L) = t276 L := rfl
theorem p646 (L : Loads F) : k0_pay646 (t271 L) (t275 L) (t243 L) (t268 L) = t277 L := rfl
theorem p647 (L : Loads F) : k0_pay647 (t293 L) (t291 L) = t294 L := rfl
theorem p648 (L : Loads F) : k0_pay648 (t227 L) (t330 L) = t331 L := rfl
theorem p649 (L : Loads F) : k0_pay649 (t302 L) (t300 L) = t303 L := rfl
theorem p650 (L : Loads F) : k0_pay650 (t239 L) (t335 L) = t336 L := rfl
theorem p651 (L : Loads F) : k0_pay651 (t311 L) (t309 L) = t312 L := rfl
theorem p652 (L : Loads F) : k0_pay652 (t252 L) (t340 L) = t341 L := rfl
theorem p653 (L : Loads F) : k0_pay653 (t318 L) (t316 L) = t319 L := rfl
theorem p654 (L : Loads F) : k0_pay654 (t264 L) (t345 L) = t346 L := rfl
theorem p655 (L : Loads F) : k0_pay655 (t293 L) (t302 L) (t311 L) (t318 L) (t291 L) (t300 L) (t309 L) (t316 L) = t320 L := rfl
theorem p656 (L : Loads F) : k0_pay656 (t227 L) (t239 L) (t252 L) (t264 L) (t330 L) (t335 L) (t340 L) (t345 L) = t347 L := rfl
theorem p657 (L : Loads F) : k0_pay657 t97 t361 (t355 L) (t215 L) (t293 L) (t227 L) (t302 L) (t239 L) (t311 L) (t252 L) (t318 L) (t264 L) (t291 L) (t330 L) (t300 L) (t335 L) (t309 L) (t340 L) (t316 L) (t345 L) = t380 L := rfl
theorem p658 (L : Loads F) : k0_pay658 (t271 L) (t275 L) (t288 L) = t384 L := rfl
theorem p659 (L : Loads F) : k0_pay659 (t283 L) L.l177 = t459 L := rfl
theorem p660 (L : Loads F) : k0_pay660 t7 (t283 L) L.l177 (t175 L) (t191 L) (t199 L) (t207 L) (t459 L) = t502 L := rfl
theorem p661 (L : Loads F) : k0_pay661 (t384 L) = t447 L := rfl
theorem p662 (L : Loads F) : k0_pay662 (t384 L) = t448 L := rfl
theorem p663 (L : Loads F) : k0_pay663 (t384 L) = t453 L := rfl
theorem p664 (L : Loads F) : k0_pay664 t428 t440 (t381 L) (t181 L) (t180 L) (t380 L) (t384 L) (t502 L) (t448 L) (t453 L) = t507 L := rfl
theorem p665 (L : Loads F) : k0_pay665 t428 (t29 L) (t277 L) = t530 L := rfl
theorem p666 (L : Loads F) : k0_pay666 (t29 L) (t180 L) = t552 L := rfl
theorem p667 (L : Loads F) : k0_pay667 (t29 L) (t180 L) = t553 L := rfl
theorem p668 (L : Loads F) : k0_pay668 t428 (t29 L) (t180 L) = t555 L := rfl
theorem p669 (L : Loads F) : k0_pay669 t428 (t29 L) (t180 L) = t559 L := rfl
theorem p670 (L : Loads F) : k0_pay670 (t555 L) (t559 L) = t562 L := rfl
theorem p671 (L : Loads F) : k0_pay671 L.l177 (t175 L) (t186 L) = t189 L := rfl
theorem p672 (L : Loads F) : k0_pay672 L.l177 (t191 L) (t186 L) = t197 L := rfl
theorem p673 (L : Loads F) : k0_pay673 L.l177 (t199 L) (t186 L) = t205 L := rfl
theorem p674 (L : Loads F) : k0_pay674 L.l177 (t207 L) (t186 L) = t213 L := rfl
theorem p675 (L : Loads F) : k0_pay675 L.l214 (t320 L) = t322 L := rfl
theorem p676 (L : Loads F) : k0_pay676 L.l184 (t347 L) = t349 L := rfl
theorem p677 (L : Loads F) : k0_pay677 (t271 L) (t275 L) = t276 L := rfl
theorem p678 (L : Loads F) : k0_pay678 (t271 L) (t275 L) (t243 L) (t268 L) = t277 L := rfl
theorem p679 (L : Loads F) : k0_pay679 (t293 L) (t291 L) = t294 L := rfl
theorem p680 (L : Loads F) : k0_pay680 (t227 L) (t330 L) = t331 L := rfl
theorem p681 (L : Loads F) : k0_pay681 (t302 L) (t300 L) = t303 L := rfl
theorem p682 (L : Loads F) : k0_pay682 (t239 L) (t335 L) = t336 L := rfl
theorem p683 (L : Loads F) : k0_pay683 (t311 L) (t309 L) = t312 L := rfl
theorem p684 (L : Loads F) : k0_pay684 (t252 L) (t340 L) = t341 L := rfl
theorem p685 (L : Loads F) : k0_pay685 (t318 L) (t316 L) = t319 L := rfl
theorem p686 (L : Loads F) : k0_pay686 (t264 L) (t345 L) = t346 L := rfl
theorem p687 (L : Loads F) (i80 : F .f32) (h80 : i80 = t80) : k0_pay687 (t302 L) (t311 L) (t318 L) (t300 L) (t309 L) (t316 L) (t294 L) i80 = t320 L := by subst h80; rfl
theorem p688 (L : Loads F) : k0_pay688 (t239 L) (t252 L) (t264 L) (t335 L) (t340 L) (t345 L) (t331 L) = t347 L := rfl
theorem p689 (L : Loads F) : k0_pay689 t97 t361 (t355 L) (t215 L) (t302 L) (t239 L) (t311 L) (t252 L) (t318 L) (t264 L) (t300 L) (t335 L) (t309 L) (t340 L) (t316 L) (t345 L) (t294 L) (t331 L) = t380 L := rfl
theorem p690 (L : Loads F) : k0_pay690 (t288 L) (t276 L) = t384 L := rfl
theorem p691 (L : Loads F) : k0_pay691 (t283 L) L.l177 (t175 L) = t464 L := rfl
theorem p692 (L : Loads F) : k0_pay692 (t283 L) L.l177 = t467 L := rfl
theorem p693 (L : Loads F) : k0_pay693 t7 t428 (t283 L) L.l177 (t191 L) (t199 L) (t207 L) (t384 L) (t464 L) (t467 L) = t503 L := rfl
theorem p694 (L : Loads F) : k0_pay694 t428 t440 (t381 L) (t181 L) (t180 L) (t380 L) (t384 L) (t503 L) = t507 L := rfl
theorem p695 (L : Loads F) : k0_pay695 t428 (t29 L) (t277 L) = t530 L := rfl
theorem p696 (L : Loads F) : k0_pay696 t428 (t29 L) (t180 L) = t562 L := rfl
theorem p697 (L : Loads F) : k0_pay697 L.l177 (t175 L) (t186 L) = t188 L := rfl
theorem p698 (L : Loads F) : k0_pay698 (t188 L) = t189 L := rfl
theorem p699 (L : Loads F) : k0_pay699 L.l177 (t191 L) (t186 L) = t197 L := rfl
theorem p700 (L : Loads F) : k0_pay700 L.l177 (t199 L) (t186 L) = t205 L := rfl
theorem p701 (L : Loads F) : k0_pay701 L.l177 (t207 L) (t186 L) = t213 L := rfl
theorem p702 (L : Loads F) : k0_pay702 L.l214 (t320 L) = t322 L := rfl
theorem p703 (L : Loads F) : k0_pay703 L.l184 (t347 L) = t349 L := rfl
theorem p704 (L : Loads F) : k0_pay704 (t271 L) (t275 L) = t276 L := rfl
theorem p705 (L : Loads F) : k0_pay705 (t271 L) (t275 L) (t243 L) (t268 L) = t277 L := rfl
theorem p706 (L : Loads F) : k0_pay706 (t293 L) (t291 L) = t294 L := rfl
theorem p707 (L : Loads F) : k0_pay707 (t227 L) (t330 L) = t331 L := rfl
theorem p708 (L : Loads F) : k0_pay708 (t293 L) (t291 L) = t295 L := rfl
theorem p709 (L : Loads F) : k0_pay709 (t227 L) (t330 L) = t332 L := rfl
theorem p710 (L : Loads F) : k0_pay710 t361 (t355 L) (t215 L) (t293 L) (t227 L) (t291 L) (t330 L) = t362 L := rfl
theorem p711 (L : Loads F) : k0_pay711 (t302 L) (t300 L) = t303 L := rfl
theorem p712 (L : Loads F) : k0_pay712 (t239 L) (t335 L) = t336 L := rfl
theorem p713 (L : Loads F) : k0_pay713 (t311 L) (t309 L) = t312 L := rfl
theorem p714 (L : Loads F) : k0_pay714 (t252 L) (t340 L) = t341 L := rfl
theorem p715 (L : Loads F) : k0_pay715 (t318 L) (t316 L) = t319 L := rfl
theorem p716 (L : Loads F) : k0_pay716 (t264 L) (t345 L) = t346 L := rfl
theorem p717 (L : Loads F) : k0_pay717 (t302 L) (t311 L) (t318 L) (t300 L) (t309 L) (t316 L) (t295 L) = t320 L := rfl
theorem p718 (L : Loads F) : k0_pay718 (t239 L) (t252 L) (t264 L) (t335 L) (t340 L) (t345 L) (t332 L) = t347 L := rfl
theorem p719 (L : Loads F) : k0_pay719 t97 t361 (t355 L) (t215 L) (t302 L) (t239 L) (t311 L) (t252 L) (t318 L) (t264 L) (t300 L) (t335 L) (t309 L) (t340 L) (t316 L) (t345 L) (t362 L) = t380 L := rfl
theorem p720 (L : Loads F) : k0_pay720 (t288 L) (t276 L) = t384 L := rfl
theorem p721 (L : Loads F) : k0_pay721 (t283 L) L.l177 (t175 L) = t464 L := rfl
theorem p722 (L : Loads F) : k0_pay722 (t283 L) L.l177 (t191 L) = t471 L := rfl
theorem p723 (L : Loads F) : k0_pay723 (t283 L) L.l177 = t475 L := rfl
theorem p724 (L : Loads F) : k0_pay724 t7 t428 (t283 L) L.l177 (t199 L) (t207 L) (t384 L) (t464 L) (t471 L) (t475 L) = t503 L := rfl
theorem p725 (L : Loads F) : k0_pay725 (t381 L) (t181 L) (t180 L) (t384 L) = t385 L := rfl
theorem p726 (L : Loads F) : k0_pay726 (t381 L) (t181 L) (t180 L) (t384 L) = t386 L := rfl
theorem p727 (L : Loads F) : k0_pay727 (t381 L) (t181 L) (t180 L) (t384 L) = t433 L := rfl
theorem p728 (L : Loads F) : k0_pay728 t428 (t381 L) (t181 L) (t180 L) (t384 L) = t429 L := rfl
theorem p729 : k0_pay729 = (t87 : FVec F S128x256 .f32) := rfl
theorem p730 (L : Loads F) : k0_pay730 t428 t440 (t380 L) (t503 L) (t433 L) (t429 L) t87 = t507 L := rfl
theorem p731 (L : Loads F) : k0_pay731 t428 (t29 L) (t277 L) = t530 L := rfl
theorem p732 (L : Loads F) : k0_pay732 t428 (t29 L) (t180 L) = t562 L := rfl
theorem p733 (L : Loads F) : k0_pay733 L.l177 (t175 L) (t186 L) = t189 L := rfl
theorem p734 (L : Loads F) : k0_pay734 L.l177 (t191 L) (t186 L) = t196 L := rfl
theorem p735 (L : Loads F) : k0_pay735 (t196 L) = t197 L := rfl
theorem p736 (L : Loads F) : k0_pay736 L.l177 (t199 L) (t186 L) = t205 L := rfl
theorem p737 (L : Loads F) : k0_pay737 L.l177 (t207 L) (t186 L) = t213 L := rfl
theorem p738 (L : Loads F) : k0_pay738 L.l214 (t320 L) = t322 L := rfl
theorem p739 (L : Loads F) : k0_pay739 L.l184 (t347 L) = t349 L := rfl
theorem p740 (L : Loads F) : k0_pay740 (t271 L) (t275 L) = t276 L := rfl
theorem p741 (L : Loads F) : k0_pay741 (t271 L) (t275 L) (t243 L) (t268 L) = t277 L := rfl

end Cert.KernelIdeal.Group
-- ==== Proof.Pay4.lean ====
module

public import proofs.«01_k».proof.Proof.Tower

@[expose] public section

set_option maxRecDepth 16384
set_option synthInstance.maxSize 4096

noncomputable section

namespace Cert.KernelIdeal.Group

open Idealize.ShloMosaic Idealize.SL.Sem Cert.KernelIdeal Cert.KernelIdeal.Gen

variable {F : FTy → Type} [FloatOps F]

theorem p742 (L : Loads F) : k0_pay742 (t293 L) (t291 L) = t294 L := rfl
theorem p743 (L : Loads F) : k0_pay743 (t227 L) (t330 L) = t331 L := rfl
theorem p744 (L : Loads F) : k0_pay744 t361 (t355 L) (t215 L) (t293 L) (t227 L) (t291 L) (t330 L) = t362 L := rfl
theorem p745 (L : Loads F) : k0_pay745 (t302 L) (t300 L) = t303 L := rfl
theorem p746 (L : Loads F) : k0_pay746 (t239 L) (t335 L) = t336 L := rfl
theorem p747 (L : Loads F) : k0_pay747 (t293 L) (t302 L) (t291 L) (t300 L) = t304 L := rfl
theorem p748 (L : Loads F) : k0_pay748 (t227 L) (t239 L) (t330 L) (t335 L) = t337 L := rfl
theorem p749 (L : Loads F) : k0_pay749 t361 (t355 L) (t215 L) (t302 L) (t239 L) (t300 L) (t335 L) = t367 L := rfl
theorem p750 (L : Loads F) : k0_pay750 (t311 L) (t309 L) = t312 L := rfl
theorem p751 (L : Loads F) : k0_pay751 (t252 L) (t340 L) = t341 L := rfl
theorem p752 (L : Loads F) : k0_pay752 (t318 L) (t316 L) = t319 L := rfl
theorem p753 (L : Loads F) : k0_pay753 (t264 L) (t345 L) = t346 L := rfl
theorem p754 (L : Loads F) : k0_pay754 (t318 L) (t316 L) (t304 L) (t312 L) = t320 L := rfl
theorem p755 (L : Loads F) : k0_pay755 (t252 L) (t264 L) (t340 L) (t345 L) (t337 L) = t347 L := rfl
theorem p756 (L : Loads F) : k0_pay756 t97 t361 (t355 L) (t215 L) (t252 L) (t318 L) (t264 L) (t340 L) (t316 L) (t345 L) (t362 L) (t367 L) (t312 L) = t380 L := rfl
theorem p757 (L : Loads F) : k0_pay757 (t288 L) (t276 L) = t384 L := rfl
theorem p758 (L : Loads F) : k0_pay758 (t283 L) L.l177 (t175 L) = t464 L := rfl
theorem p759 (L : Loads F) : k0_pay759 (t283 L) L.l177 (t191 L) = t471 L := rfl
theorem p760 (L : Loads F) : k0_pay760 (t283 L) L.l177 (t199 L) = t478 L := rfl
theorem p761 (L : Loads F) : k0_pay761 (t283 L) L.l177 = t482 L := rfl
theorem p762 (L : Loads F) : k0_pay762 t428 (t381 L) (t181 L) (t180 L) (t380 L) (t384 L) = t436 L := rfl
theorem p763 : k0_pay763 t440 = (t442 : IVec S128x256 1) := rfl
theorem p764 (L : Loads F) : k0_pay764 t7 t428 (t207 L) (t384 L) (t464 L) (t471 L) (t478 L) (t482 L) = t505 L := rfl
theorem p765 : k0_pay765 = (t87 : FVec F S128x256 .f32) := rfl
theorem p766 (L : Loads F) : k0_pay766 (t436 L) t442 (t505 L) t87 = t507 L := rfl
theorem p767 (L : Loads F) : k0_pay767 t428 (t29 L) (t277 L) = t530 L := rfl
theorem p768 (L : Loads F) : k0_pay768 t428 (t29 L) (t180 L) = t562 L := rfl
theorem p769 (L : Loads F) : k0_pay769 L.l177 (t175 L) (t186 L) = t189 L := rfl
theorem p770 (L : Loads F) : k0_pay770 L.l177 (t191 L) (t186 L) = t197 L := rfl
theorem p771 (L : Loads F) : k0_pay771 L.l177 (t199 L) (t186 L) = t204 L := rfl
theorem p772 (L : Loads F) : k0_pay772 (t204 L) = t205 L := rfl
theorem p773 (L : Loads F) : k0_pay773 L.l177 (t207 L) (t186 L) = t213 L := rfl
theorem p774 (L : Loads F) : k0_pay774 L.l214 (t320 L) = t322 L := rfl
theorem p775 (L : Loads F) : k0_pay775 L.l184 (t347 L) = t349 L := rfl
theorem p776 (L : Loads F) : k0_pay776 (t271 L) (t275 L) = t276 L := rfl
theorem p777 (L : Loads F) : k0_pay777 (t271 L) (t275 L) (t243 L) (t268 L) = t277 L := rfl
theorem p778 (L : Loads F) : k0_pay778 (t293 L) (t291 L) = t294 L := rfl
theorem p779 (L : Loads F) : k0_pay779 (t227 L) (t330 L) = t331 L := rfl
theorem p780 (L : Loads F) : k0_pay780 t361 (t355 L) (t215 L) (t293 L) (t227 L) (t291 L) (t330 L) = t362 L := rfl
theorem p781 (L : Loads F) : k0_pay781 (t302 L) (t300 L) = t303 L := rfl
theorem p782 (L : Loads F) : k0_pay782 (t239 L) (t335 L) = t336 L := rfl
theorem p783 (L : Loads F) : k0_pay783 t361 (t355 L) (t215 L) (t302 L) (t239 L) (t300 L) (t335 L) = t367 L := rfl
theorem p784 (L : Loads F) : k0_pay784 (t311 L) (t309 L) = t312 L := rfl
theorem p785 (L : Loads F) : k0_pay785 (t252 L) (t340 L) = t341 L := rfl
theorem p786 (L : Loads F) : k0_pay786 (t293 L) (t302 L) (t311 L) (t291 L) (t300 L) (t309 L) = t313 L := rfl
theorem p787 (L : Loads F) : k0_pay787 (t227 L) (t239 L) (t252 L) (t330 L) (t335 L) (t340 L) = t342 L := rfl
theorem p788 (L : Loads F) : k0_pay788 t361 (t355 L) (t215 L) (t311 L) (t252 L) (t309 L) (t340 L) = t373 L := rfl
theorem p789 (L : Loads F) : k0_pay789 (t318 L) (t316 L) = t319 L := rfl
theorem p790 (L : Loads F) : k0_pay790 (t264 L) (t345 L) = t346 L := rfl
theorem p791 (L : Loads F) : k0_pay791 (t313 L) (t319 L) = t320 L := rfl
theorem p792 (L : Loads F) : k0_pay792 (t342 L) (t346 L) = t347 L := rfl
theorem p793 (L : Loads F) : k0_pay793 t97 t361 (t355 L) (t215 L) (t362 L) (t367 L) (t373 L) (t319 L) (t346 L) = t380 L := rfl
theorem p794 (L : Loads F) : k0_pay794 (t288 L) (t276 L) = t384 L := rfl
theorem p795 (L : Loads F) : k0_pay795 (t283 L) L.l177 (t175 L) (t191 L) (t199 L) (t207 L) = t487 L := rfl
theorem p796 (L : Loads F) : k0_pay796 t7 (t283 L) L.l177 (t175 L) (t191 L) (t199 L) (t207 L) = t494 L := rfl
theorem p797 (L : Loads F) : k0_pay797 t7 t428 t440 (t381 L) (t181 L) (t180 L) (t380 L) (t384 L) (t487 L) (t494 L) = t507 L := rfl
theorem p798 (L : Loads F) : k0_pay798 (t29 L) (t277 L) = t522 L := rfl
theorem p799 (L : Loads F) : k0_pay799 (t29 L) (t277 L) = t523 L := rfl
theorem p800 (L : Loads F) : k0_pay800 (t29 L) (t277 L) = t528 L := rfl
theorem p801 (L : Loads F) : k0_pay801 t428 (t29 L) (t277 L) = t524 L := rfl
theorem p802 : k0_pay802 = (t87 : FVec F S128x256 .f32) := rfl
theorem p803 (L : Loads F) : k0_pay803 t428 (t528 L) (t524 L) t87 = t530 L := rfl
theorem p804 (L : Loads F) : k0_pay804 t428 (t29 L) (t180 L) = t562 L := rfl
theorem p805 (L : Loads F) : k0_pay805 L.l177 (t175 L) (t186 L) = t189 L := rfl
theorem p806 (L : Loads F) : k0_pay806 L.l177 (t191 L) (t186 L) = t197 L := rfl
theorem p807 (L : Loads F) : k0_pay807 L.l177 (t199 L) (t186 L) = t205 L := rfl
theorem p808 (L : Loads F) : k0_pay808 L.l177 (t207 L) (t186 L) = t212 L := rfl
theorem p809 (L : Loads F) : k0_pay809 (t212 L) = t213 L := rfl
theorem p810 (L : Loads F) : k0_pay810 L.l214 (t320 L) = t322 L := rfl
theorem p811 (L : Loads F) : k0_pay811 L.l184 (t347 L) = t349 L := rfl
theorem p812 (L : Loads F) : k0_pay812 (t271 L) (t275 L) = t276 L := rfl
theorem p813 (L : Loads F) : k0_pay813 (t271 L) (t275 L) (t243 L) (t268 L) = t277 L := rfl
theorem p814 (L : Loads F) : k0_pay814 (t293 L) (t291 L) = t294 L := rfl
theorem p815 (L : Loads F) : k0_pay815 (t227 L) (t330 L) = t331 L := rfl
theorem p816 (L : Loads F) : k0_pay816 (t302 L) (t300 L) = t303 L := rfl
theorem p817 (L : Loads F) : k0_pay817 (t239 L) (t335 L) = t336 L := rfl
theorem p818 (L : Loads F) : k0_pay818 (t311 L) (t309 L) = t312 L := rfl
theorem p819 (L : Loads F) : k0_pay819 (t252 L) (t340 L) = t341 L := rfl
theorem p820 (L : Loads F) : k0_pay820 (t318 L) (t316 L) = t319 L := rfl
theorem p821 (L : Loads F) : k0_pay821 (t264 L) (t345 L) = t346 L := rfl
theorem p822 (L : Loads F) : k0_pay822 (t293 L) (t302 L) (t311 L) (t318 L) (t291 L) (t300 L) (t309 L) (t316 L) = t320 L := rfl
theorem p823 (L : Loads F) : k0_pay823 (t227 L) (t239 L) (t252 L) (t264 L) (t330 L) (t335 L) (t340 L) (t345 L) = t347 L := rfl
theorem p824 (L : Loads F) : k0_pay824 t97 t361 (t355 L) (t215 L) (t293 L) (t227 L) (t302 L) (t239 L) (t311 L) (t252 L) (t318 L) (t264 L) (t291 L) (t330 L) (t300 L) (t335 L) (t309 L) (t340 L) (t316 L) (t345 L) = t380 L := rfl
theorem p825 (L : Loads F) : k0_pay825 (t288 L) (t276 L) = t384 L := rfl
theorem p826 (L : Loads F) : k0_pay826 t7 (t283 L) L.l177 (t175 L) (t191 L) (t199 L) (t207 L) = t502 L := rfl
theorem p827 (L : Loads F) : k0_pay827 (t288 L) (t276 L) = t445 L := rfl
theorem p828 (L : Loads F) : k0_pay828 t428 t440 (t381 L) (t181 L) (t180 L) (t380 L) (t384 L) (t502 L) (t445 L) = t507 L := rfl
theorem p829 (L : Loads F) : k0_pay829 t428 (t29 L) (t277 L) = t530 L := rfl
theorem p830 (L : Loads F) : k0_pay830 (t29 L) (t180 L) = t552 L := rfl
theorem p831 (L : Loads F) : k0_pay831 (t29 L) (t180 L) = t553 L := rfl
theorem p832 (L : Loads F) : k0_pay832 (t29 L) (t180 L) = t558 L := rfl
theorem p833 (L : Loads F) : k0_pay833 t428 (t29 L) (t180 L) = t554 L := rfl
theorem p834 (L : Loads F) : k0_pay834 t428 (t558 L) (t554 L) = t562 L := rfl
theorem p835 (L : Loads F) : k0_pay835 L.l177 (t175 L) (t186 L) = t189 L := rfl
theorem p836 (L : Loads F) : k0_pay836 L.l177 (t191 L) (t186 L) = t197 L := rfl
theorem p837 (L : Loads F) : k0_pay837 L.l177 (t199 L) (t186 L) = t205 L := rfl
theorem p838 (L : Loads F) : k0_pay838 L.l177 (t207 L) (t186 L) = t213 L := rfl
theorem p839 (L : Loads F) : k0_pay839 L.l214 (t320 L) = t322 L := rfl
theorem p840 (L : Loads F) : k0_pay840 L.l184 (t347 L) = t349 L := rfl
theorem p841 (L : Loads F) : k0_pay841 (t271 L) (t275 L) = t276 L := rfl
theorem p842 (L : Loads F) : k0_pay842 (t243 L) (t268 L) (t276 L) = t277 L := rfl
theorem p843 (L : Loads F) : k0_pay843 (t293 L) (t291 L) = t294 L := rfl
theorem p844 (L : Loads F) : k0_pay844 (t227 L) (t330 L) = t331 L := rfl
theorem p845 (L : Loads F) : k0_pay845 (t302 L) (t300 L) = t303 L := rfl
theorem p846 (L : Loads F) : k0_pay846 (t239 L) (t335 L) = t336 L := rfl
theorem p847 (L : Loads F) : k0_pay847 (t311 L) (t309 L) = t312 L := rfl
theorem p848 (L : Loads F) : k0_pay848 (t252 L) (t340 L) = t341 L := rfl
theorem p849 (L : Loads F) : k0_pay849 (t318 L) (t316 L) = t319 L := rfl
theorem p850 (L : Loads F) : k0_pay850 (t264 L) (t345 L) = t346 L := rfl
theorem p851 (L : Loads F) : k0_pay851 (t293 L) (t302 L) (t311 L) (t318 L) (t291 L) (t300 L) (t309 L) (t316 L) = t320 L := rfl
theorem p852 (L : Loads F) : k0_pay852 (t227 L) (t239 L) (t252 L) (t264 L) (t330 L) (t335 L) (t340 L) (t345 L) = t347 L := rfl
theorem p853 (L : Loads F) : k0_pay853 t97 t361 (t355 L) (t215 L) (t293 L) (t227 L) (t302 L) (t239 L) (t311 L) (t252 L) (t318 L) (t264 L) (t291 L) (t330 L) (t300 L) (t335 L) (t309 L) (t340 L) (t316 L) (t345 L) = t380 L := rfl
theorem p854 (L : Loads F) : k0_pay854 (t288 L) (t276 L) = t384 L := rfl
theorem p855 (L : Loads F) : k0_pay855 (t283 L) L.l177 (t175 L) = t464 L := rfl
theorem p856 (L : Loads F) : k0_pay856 t7 (t283 L) L.l177 (t191 L) (t199 L) (t207 L) (t464 L) = t502 L := rfl
theorem p857 (L : Loads F) : k0_pay857 (t384 L) = t447 L := rfl
theorem p858 (L : Loads F) : k0_pay858 (t384 L) = t448 L := rfl
theorem p859 (L : Loads F) : k0_pay859 (t384 L) = t454 L := rfl
theorem p860 (L : Loads F) : k0_pay860 t428 (t384 L) = t451 L := rfl
theorem p861 (L : Loads F) : k0_pay861 t428 t440 (t381 L) (t181 L) (t180 L) (t380 L) (t384 L) (t502 L) (t454 L) (t451 L) = t507 L := rfl
theorem p862 (L : Loads F) : k0_pay862 t428 (t29 L) (t277 L) = t530 L := rfl
theorem p863 (L : Loads F) : k0_pay863 t428 (t29 L) (t180 L) = t562 L := rfl
theorem p864 (L : Loads F) : k0_pay864 L.l177 = t178 L := rfl
theorem p865 (L : Loads F) : k0_pay865 (t175 L) = t176 L := rfl
theorem p866 (L : Loads F) : k0_pay866 (t186 L) (t178 L) (t176 L) = t189 L := rfl
theorem p867 (L : Loads F) : k0_pay867 L.l177 (t191 L) (t186 L) = t197 L := rfl
theorem p868 (L : Loads F) : k0_pay868 L.l177 (t199 L) (t186 L) = t205 L := rfl
theorem p869 (L : Loads F) : k0_pay869 L.l177 (t207 L) (t186 L) = t213 L := rfl
theorem p870 (L : Loads F) : k0_pay870 L.l214 (t320 L) = t322 L := rfl
theorem p871 (L : Loads F) : k0_pay871 L.l184 (t347 L) = t349 L := rfl
theorem p872 (L : Loads F) : k0_pay872 (t271 L) (t275 L) = t276 L := rfl
theorem p873 (L : Loads F) : k0_pay873 (t271 L) (t275 L) (t243 L) (t268 L) = t277 L := rfl
theorem p874 (L : Loads F) : k0_pay874 (t293 L) (t291 L) = t294 L := rfl
theorem p875 (L : Loads F) : k0_pay875 (t227 L) (t330 L) = t331 L := rfl
theorem p876 (L : Loads F) : k0_pay876 (t293 L) (t291 L) = t295 L := rfl
theorem p877 (L : Loads F) : k0_pay877 (t227 L) (t330 L) = t332 L := rfl
theorem p878 (L : Loads F) : k0_pay878 (t355 L) (t293 L) (t291 L) = t356 L := rfl
theorem p879 (L : Loads F) : k0_pay879 (t302 L) (t300 L) = t303 L := rfl
theorem p880 (L : Loads F) : k0_pay880 (t239 L) (t335 L) = t336 L := rfl
theorem p881 (L : Loads F) : k0_pay881 (t311 L) (t309 L) = t312 L := rfl
theorem p882 (L : Loads F) : k0_pay882 (t252 L) (t340 L) = t341 L := rfl
theorem p883 (L : Loads F) : k0_pay883 (t318 L) (t316 L) = t319 L := rfl
theorem p884 (L : Loads F) : k0_pay884 (t264 L) (t345 L) = t346 L := rfl
theorem p885 (L : Loads F) : k0_pay885 (t302 L) (t311 L) (t318 L) (t300 L) (t309 L) (t316 L) (t295 L) = t320 L := rfl
theorem p886 (L : Loads F) : k0_pay886 (t239 L) (t252 L) (t264 L) (t335 L) (t340 L) (t345 L) (t332 L) = t347 L := rfl
theorem p887 (L : Loads F) : k0_pay887 t97 t361 (t355 L) (t215 L) (t302 L) (t239 L) (t311 L) (t252 L) (t318 L) (t264 L) (t300 L) (t335 L) (t309 L) (t340 L) (t316 L) (t345 L) (t331 L) (t356 L) = t380 L := rfl
theorem p888 (L : Loads F) : k0_pay888 (t288 L) (t276 L) = t384 L := rfl
theorem p889 (L : Loads F) : k0_pay889 (t283 L) L.l177 (t175 L) = t464 L := rfl
theorem p890 (L : Loads F) : k0_pay890 (t283 L) L.l177 (t191 L) = t471 L := rfl
theorem p891 (L : Loads F) : k0_pay891 L.l177 = t201 L := rfl
theorem p892 (L : Loads F) : k0_pay892 t7 t428 (t283 L) L.l177 (t199 L) (t207 L) (t384 L) (t464 L) (t471 L) (t201 L) = t503 L := rfl
theorem p893 (L : Loads F) : k0_pay893 (t381 L) (t181 L) (t180 L) (t384 L) = t385 L := rfl
theorem p894 (L : Loads F) : k0_pay894 (t381 L) (t181 L) (t180 L) (t384 L) = t386 L := rfl
theorem p895 (L : Loads F) : k0_pay895 (t381 L) (t181 L) (t180 L) (t384 L) = t432 L := rfl
theorem p896 (L : Loads F) : k0_pay896 t428 t440 (t380 L) (t503 L) (t386 L) (t432 L) = t507 L := rfl
theorem p897 (L : Loads F) : k0_pay897 t428 (t29 L) (t277 L) = t530 L := rfl
theorem p898 (L : Loads F) : k0_pay898 t428 (t29 L) (t180 L) = t562 L := rfl
theorem p899 (L : Loads F) : k0_pay899 L.l177 (t175 L) (t186 L) = t189 L := rfl
theorem p900 (L : Loads F) : k0_pay900 L.l177 = t193 L := rfl
theorem p901 (L : Loads F) : k0_pay901 (t191 L) = t192 L := rfl
theorem p902 (L : Loads F) : k0_pay902 (t186 L) (t193 L) (t192 L) = t197 L := rfl
theorem p903 (L : Loads F) : k0_pay903 L.l177 (t199 L) (t186 L) = t205 L := rfl
theorem p904 (L : Loads F) : k0_pay904 L.l177 (t207 L) (t186 L) = t213 L := rfl
theorem p905 (L : Loads F) : k0_pay905 L.l214 (t320 L) = t322 L := rfl
theorem p906 (L : Loads F) : k0_pay906 L.l184 (t347 L) = t349 L := rfl
theorem p907 (L : Loads F) : k0_pay907 t354 (t507 L) = t520 L := rfl
theorem p908 (L : Loads F) : k0_pay908 (t507 L) = t508 L := rfl
theorem p909 (L : Loads F) : k0_pay909 (t507 L) = t512 L := rfl
theorem p910 (L : Loads F) : k0_pay910 (t507 L) = t513 L := rfl
theorem p911 (L : Loads F) : k0_pay911 (t507 L) = t516 L := rfl
theorem p912 (L : Loads F) : k0_pay912 t354 (t508 L) (t512 L) (t513 L) (t516 L) = t520 L := rfl
theorem p913 (L : Loads F) : k0_pay913 t354 (t507 L) = t520 L := rfl
theorem p914 (L : Loads F) : k0_pay914 t354 (t507 L) = t520 L := rfl
theorem p915 (L : Loads F) : k0_pay915 (t507 L) = t508 L := rfl
theorem p916 (L : Loads F) : k0_pay916 (t507 L) = t512 L := rfl
theorem p917 (L : Loads F) : k0_pay917 (t507 L) = t513 L := rfl
theorem p918 (L : Loads F) : k0_pay918 (t507 L) = t518 L := rfl
theorem p919 (L : Loads F) : k0_pay919 t354 (t507 L) = t509 L := rfl
theorem p920 : k0_pay920 = (t87 : FVec F S128x256 .f32) := rfl
theorem p921 (L : Loads F) : k0_pay921 t354 (t513 L) (t518 L) (t509 L) t87 = t520 L := rfl
theorem p922 (L : Loads F) : k0_pay922 t354 (t507 L) = t520 L := rfl
theorem p923 (L : Loads F) : k0_pay923 t354 (t507 L) = t520 L := rfl
theorem p924 (L : Loads F) : k0_pay924 (t507 L) = t508 L := rfl
theorem p925 (L : Loads F) : k0_pay925 (t507 L) = t512 L := rfl
theorem p926 (L : Loads F) : k0_pay926 (t507 L) = t513 L := rfl
theorem p927 (L : Loads F) : k0_pay927 t354 (t507 L) = t515 L := rfl
theorem p928 (L : Loads F) : k0_pay928 t354 (t507 L) = t519 L := rfl
theorem p929 (L : Loads F) : k0_pay929 (t515 L) (t519 L) = t520 L := rfl
theorem p930 (L : Loads F) : k0_pay930 (t118 L) (t143 L) (t530 L) (t520 L) = t536 L := rfl
theorem p931 (L : Loads F) : k0_pay931 (t124 L) (t26 L) (t180 L) (t277 L) = t281 L := rfl
theorem p932 (L : Loads F) : k0_pay932 (t285 L) (t322 L) = t324 L := rfl
theorem p933 (L : Loads F) : k0_pay933 (t327 L) (t349 L) = t351 L := rfl
theorem p934 (L : Loads F) : k0_pay934 (t118 L) (t143 L) (t530 L) (t520 L) = t543 L := rfl
theorem p935 (L : Loads F) : k0_pay935 L.l544 = t545 L := rfl
theorem p936 (L : Loads F) : k0_pay936 (t118 L) (t143 L) (t530 L) (t520 L) = t547 L := rfl
theorem p937 (L : Loads F) : k0_pay937 (t124 L) (t520 L) = t550 L := rfl
theorem p938 (L : Loads F) : k0_pay938 (t143 L) (t562 L) (t545 L) (t547 L) (t550 L) = t572 L := rfl
theorem p939 (L : Loads F) : k0_pay939 (t118 L) (t143 L) (t530 L) (t520 L) = t536 L := rfl
theorem p940 (L : Loads F) : k0_pay940 (t124 L) (t26 L) (t180 L) (t277 L) = t281 L := rfl
theorem p941 (L : Loads F) : k0_pay941 (t285 L) (t322 L) = t324 L := rfl
theorem p942 (L : Loads F) : k0_pay942 (t327 L) (t349 L) = t351 L := rfl
theorem p943 (L : Loads F) : k0_pay943 (t118 L) (t143 L) (t530 L) (t520 L) = t542 L := rfl
theorem p944 (L : Loads F) : k0_pay944 (t542 L) = t543 L := rfl
theorem p945 (L : Loads F) : k0_pay945 (t124 L) (t143 L) (t562 L) (t520 L) (t536 L) L.l544 = t572 L := rfl
theorem p946 (L : Loads F) : k0_pay946 (t118 L) (t143 L) (t530 L) (t520 L) = t536 L := rfl
theorem p947 (L : Loads F) : k0_pay947 (t124 L) (t26 L) (t180 L) (t277 L) = t281 L := rfl
theorem p948 (L : Loads F) : k0_pay948 (t285 L) (t322 L) = t324 L := rfl
theorem p949 (L : Loads F) : k0_pay949 (t327 L) (t349 L) = t351 L := rfl
theorem p950 (L : Loads F) : k0_pay950 (t536 L) = t543 L := rfl
theorem p951 (L : Loads F) : k0_pay951 (t124 L) (t143 L) (t562 L) (t520 L) (t536 L) L.l544 = t572 L := rfl
theorem p952 (L : Loads F) : k0_pay952 (t118 L) (t143 L) (t530 L) (t520 L) = t536 L := rfl
theorem p953 (L : Loads F) : k0_pay953 (t124 L) (t277 L) = t278 L := rfl
theorem p954 (L : Loads F) : k0_pay954 (t26 L) (t180 L) = t279 L := rfl
theorem p955 (L : Loads F) : k0_pay955 (t278 L) (t279 L) = t281 L := rfl
theorem p956 (L : Loads F) : k0_pay956 (t285 L) (t322 L) = t324 L := rfl
theorem p957 (L : Loads F) : k0_pay957 (t327 L) (t349 L) = t351 L := rfl
theorem p958 (L : Loads F) : k0_pay958 (t536 L) = t543 L := rfl
theorem p959 (L : Loads F) : k0_pay959 (t124 L) (t143 L) (t562 L) (t520 L) (t536 L) L.l544 = t572 L := rfl
theorem p960 (L : Loads F) : k0_pay960 (t143 L) (t530 L) (t520 L) = t531 L := rfl
theorem p961 (L : Loads F) : k0_pay961 (t118 L) (t531 L) = t536 L := rfl
theorem p962 (L : Loads F) : k0_pay962 (t124 L) (t26 L) (t180 L) (t277 L) = t281 L := rfl
theorem p963 (L : Loads F) : k0_pay963 (t285 L) (t322 L) = t324 L := rfl
theorem p964 (L : Loads F) : k0_pay964 (t327 L) (t349 L) = t351 L := rfl
theorem p965 (L : Loads F) : k0_pay965 (t118 L) (t531 L) = t543 L := rfl
theorem p966 (L : Loads F) : k0_pay966 L.l544 = t545 L := rfl
theorem p967 (L : Loads F) : k0_pay967 (t118 L) (t124 L) (t143 L) (t562 L) (t520 L) (t531 L) = t564 L := rfl
theorem p968 (L : Loads F) : k0_pay968 (t118 L) (t124 L) (t143 L) (t562 L) (t520 L) (t531 L) = t565 L := rfl
theorem p969 (L : Loads F) : k0_pay969 (t118 L) (t124 L) (t143 L) (t562 L) (t520 L) (t531 L) = t566 L := rfl
theorem p970 (L : Loads F) : k0_pay970 (t545 L) (t564 L) (t565 L) (t566 L) = t572 L := rfl
theorem p971 (L : Loads F) : k0_pay971 (t118 L) (t143 L) (t530 L) (t520 L) = t536 L := rfl
theorem p972 (L : Loads F) : k0_pay972 (t124 L) (t26 L) (t180 L) (t277 L) = t281 L := rfl
theorem p973 (L : Loads F) : k0_pay973 (t285 L) (t322 L) = t324 L := rfl
theorem p974 (L : Loads F) : k0_pay974 (t327 L) (t349 L) = t351 L := rfl
theorem p975 (L : Loads F) : k0_pay975 (t118 L) (t143 L) (t530 L) (t520 L) = t543 L := rfl
theorem p976 (L : Loads F) : k0_pay976 (t124 L) (t143 L) (t562 L) (t520 L) (t536 L) L.l544 = t572 L := rfl
theorem p977 (L : Loads F) : k0_pay977 (t118 L) (t143 L) (t530 L) (t520 L) = t536 L := rfl
theorem p978 (L : Loads F) : k0_pay978 (t124 L) (t26 L) (t180 L) (t277 L) = t281 L := rfl
theorem p979 (L : Loads F) : k0_pay979 (t285 L) (t322 L) = t324 L := rfl
theorem p980 (L : Loads F) : k0_pay980 (t327 L) (t349 L) = t351 L := rfl
theorem p981 (L : Loads F) : k0_pay981 (t536 L) = t543 L := rfl
theorem p982 (L : Loads F) : k0_pay982 (t124 L) (t143 L) (t562 L) (t520 L) (t536 L) L.l544 = t572 L := rfl
theorem p983 (L : Loads F) : k0_pay983 (t118 L) (t143 L) (t530 L) (t520 L) = t536 L := rfl
theorem p984 (L : Loads F) : k0_pay984 (t124 L) (t26 L) (t180 L) (t277 L) = t281 L := rfl
theorem p985 (L : Loads F) : k0_pay985 (t285 L) (t322 L) = t324 L := rfl
theorem p986 (L : Loads F) : k0_pay986 (t327 L) (t349 L) = t351 L := rfl
theorem p987 (L : Loads F) : k0_pay987 (t536 L) = t542 L := rfl

end Cert.KernelIdeal.Group
-- ==== Proof.PiecesA.lean ====
module

public import proofs.«01_k».proof.Proof.Groups

public import proofs.«01_k».proof.Proof.Pay1
public import proofs.«01_k».proof.Proof.Pay2
public import proofs.«01_k».proof.Proof.Pay3
public import proofs.«01_k».proof.Proof.Pay4
import Idealize.ShloMosaic.Lib.Pipeline.ReadBack

@[expose] public section

set_option maxRecDepth 1000000
set_option synthInstance.maxSize 4096

noncomputable section

namespace Cert.KernelIdeal.Group

open Idealize.ShloMosaic Idealize.SL.Sem Cert.KernelIdeal Cert.KernelIdeal.Gen

variable {F : FTy → Type} [FloatOps F]

set_option maxHeartbeats 4000000 in
/-- The pieces that the body stores into each output and each carried buffer. -/
theorem piecesA (c : Dev nD) (i : grid0.Coords) (arg2 : Memref sig .tc .vmem S128x2048 .f32) (harg2 : arg2.IsWhole) (arg3 : Memref sig .tc .vmem S128x2048 .bf16) (harg3 : arg3.IsWhole) (arg4 : Memref sig .tc .vmem S128x1024 .bf16) (harg4 : arg4.IsWhole) (arg5 : Memref sig .tc .vmem S128x1024 .bf16) (harg5 : arg5.IsWhole) (arg6 : Memref sig .tc .vmem S128x2048 .bf16) (harg6 : arg6.IsWhole) (arg7 : Memref sig .tc .vmem S8x128x4 .f32) (harg7 : arg7.IsWhole) (arg8 : Memref sig .tc .vmem S8x3x4 .f32) (harg8 : arg8.IsWhole) (arg9 : Memref sig .tc .vmem S8x1x256 .f32) (harg9 : arg9.IsWhole) (arg10 : Memref sig .tc .vmem S128x2048 .f32) (harg10 : arg10.IsWhole) (arg11 : Memref sig .tc .vmem S8x1x256x128 .f32) (harg11 : arg11.IsWhole) (arg14 : Memref sig .tc .vmem S128x4096 .bf16) (harg14 : arg14.IsWhole) (arg15 : Memref sig .tc .vmem S128x2048 .bf16) (harg15 : arg15.IsWhole) (arg16 : Memref sig .tc .vmem S8x128x4 .f32) (harg16 : arg16.IsWhole) (arg17 : Memref sig .tc .vmem S8x3x4 .f32) (harg17 : arg17.IsWhole) (arg18 : Memref sig .tc .vmem S8x1x256 .f32) (harg18 : arg18.IsWhole) (arg19 : Memref sig .tc .vmem S2048x128 .f32) (harg19 : arg19.IsWhole) (hc0 : cond0_0 i) (b : Blocks F) (h13 : b.dp = k0_pay4) (h14 : b.dnw = k0_pay5) (hs : b.dS = k0_pay3) :
    (kernelRun0_A c i arg2 harg2 arg3 harg3 arg4 harg4 arg5 harg5 arg6 harg6 arg7 harg7 arg8 harg8 arg9 harg9 arg10 harg10 arg11 harg11 arg14 harg14 arg15 harg15 arg16 harg16 arg17 harg17 arg18 harg18 arg19 harg19 hc0 b.dyn b.x b.B b.C b.z b.dt b.par b.nw b.y b.S).1
      = ([⟨(Rect.unit (s := S128x4096) ![0, 2944] S128x128.size inb_S128x4096_S128x128_0_2944), t351 (G7 b)⟩,
 ⟨(Rect.unit (s := S128x4096) ![0, 3968] S128x128.size inb_S128x4096_S128x128_0_3968), t324 (G7 b)⟩,
 ⟨(Rect.unit (s := S128x4096) ![0, 1792] S128x256.size inb_S128x4096_S128x256_0_1792), t281 (G7 b)⟩,
 ⟨(Rect.unit (s := S128x4096) ![0, 2816] S128x128.size inb_S128x4096_S128x128_0_2816), t351 (G6 b)⟩,
 ⟨(Rect.unit (s := S128x4096) ![0, 3840] S128x128.size inb_S128x4096_S128x128_0_3840), t324 (G6 b)⟩,
 ⟨(Rect.unit (s := S128x4096) ![0, 1536] S128x256.size inb_S128x4096_S128x256_0_1536), t281 (G6 b)⟩,
 ⟨(Rect.unit (s := S128x4096) ![0, 2688] S128x128.size inb_S128x4096_S128x128_0_2688), t351 (G5 b)⟩,
 ⟨(Rect.unit (s := S128x4096) ![0, 3712] S128x128.size inb_S128x4096_S128x128_0_3712), t324 (G5 b)⟩,
 ⟨(Rect.unit (s := S128x4096) ![0, 1280] S128x256.size inb_S128x4096_S128x256_0_1280), t281 (G5 b)⟩,
 ⟨(Rect.unit (s := S128x4096) ![0, 2560] S128x128.size inb_S128x4096_S128x128_0_2560), t351 (G4 b)⟩,
 ⟨(Rect.unit (s := S128x4096) ![0, 3584] S128x128.size inb_S128x4096_S128x128_0_3584), t324 (G4 b)⟩,
 ⟨(Rect.unit (s := S128x4096) ![0, 1024] S128x256.size inb_S128x4096_S128x256_0_1024), t281 (G4 b)⟩,
 ⟨(Rect.unit (s := S128x4096) ![0, 2432] S128x128.size inb_S128x4096_S128x128_0_2432), t351 (G3 b)⟩,
 ⟨(Rect.unit (s := S128x4096) ![0, 3456] S128x128.size inb_S128x4096_S128x128_0_3456), t324 (G3 b)⟩,
 ⟨(Rect.unit (s := S128x4096) ![0, 768] S128x256.size inb_S128x4096_S128x256_0_768), t281 (G3 b)⟩,
 ⟨(Rect.unit (s := S128x4096) ![0, 2304] S128x128.size inb_S128x4096_S128x128_0_2304), t351 (G2 b)⟩,
 ⟨(Rect.unit (s := S128x4096) ![0, 3328] S128x128.size inb_S128x4096_S128x128_0_3328), t324 (G2 b)⟩,
 ⟨(Rect.unit (s := S128x4096) ![0, 512] S128x256.size inb_S128x4096_S128x256_0_512), t281 (G2 b)⟩,
 ⟨(Rect.unit (s := S128x4096) ![0, 2176] S128x128.size inb_S128x4096_S128x128_0_2176), t351 (G1 b)⟩,
 ⟨(Rect.unit (s := S128x4096) ![0, 3200] S128x128.size inb_S128x4096_S128x128_0_3200), t324 (G1 b)⟩,
 ⟨(Rect.unit (s := S128x4096) ![0, 256] S128x256.size inb_S128x4096_S128x256_0_256), t281 (G1 b)⟩,
 ⟨(Rect.unit (s := S128x4096) ![0, 2048] S128x128.size inb_S128x4096_S128x128_0_2048), t351 (G0 b)⟩,
 ⟨(Rect.unit (s := S128x4096) ![0, 3072] S128x128.size inb_S128x4096_S128x128_0_3072), t324 (G0 b)⟩,
 ⟨(Rect.unit (s := S128x4096) ![0, 0] S128x256.size inb_S128x4096_S128x256_0_0), t281 (G0 b)⟩] : List (View.Piece (Elt F) S128x4096 .bf16)) ∧
    (kernelRun0_A c i arg2 harg2 arg3 harg3 arg4 harg4 arg5 harg5 arg6 harg6 arg7 harg7 arg8 harg8 arg9 harg9 arg10 harg10 arg11 harg11 arg14 harg14 arg15 harg15 arg16 harg16 arg17 harg17 arg18 harg18 arg19 harg19 hc0 b.dyn b.x b.B b.C b.z b.dt b.par b.nw b.y b.S).2.1
      = ([⟨(Rect.unit (s := S128x2048) ![0, 1792] S128x256.size inb_S128x2048_S128x256_0_1792), t79 (G7 b)⟩,
 ⟨(Rect.unit (s := S128x2048) ![0, 1536] S128x256.size inb_S128x2048_S128x256_0_1536), t79 (G6 b)⟩,
 ⟨(Rect.unit (s := S128x2048) ![0, 1280] S128x256.size inb_S128x2048_S128x256_0_1280), t79 (G5 b)⟩,
 ⟨(Rect.unit (s := S128x2048) ![0, 1024] S128x256.size inb_S128x2048_S128x256_0_1024), t79 (G4 b)⟩,
 ⟨(Rect.unit (s := S128x2048) ![0, 768] S128x256.size inb_S128x2048_S128x256_0_768), t79 (G3 b)⟩,
 ⟨(Rect.unit (s := S128x2048) ![0, 512] S128x256.size inb_S128x2048_S128x256_0_512), t79 (G2 b)⟩,
 ⟨(Rect.unit (s := S128x2048) ![0, 256] S128x256.size inb_S128x2048_S128x256_0_256), t79 (G1 b)⟩,
 ⟨(Rect.unit (s := S128x2048) ![0, 0] S128x256.size inb_S128x2048_S128x256_0_0), t79 (G0 b)⟩] : List (View.Piece (Elt F) S128x2048 .bf16)) ∧
    (kernelRun0_A c i arg2 harg2 arg3 harg3 arg4 harg4 arg5 harg5 arg6 harg6 arg7 harg7 arg8 harg8 arg9 harg9 arg10 harg10 arg11 harg11 arg14 harg14 arg15 harg15 arg16 harg16 arg17 harg17 arg18 harg18 arg19 harg19 hc0 b.dyn b.x b.B b.C b.z b.dt b.par b.nw b.y b.S).2.2.1
      = ([⟨(Rect.unit (s := S8x128x4) ![7, 0, 0] S1x128x4.size inb_S8x128x4_S1x128x4_7_0_0), t543 (G7 b)⟩,
 ⟨(Rect.unit (s := S8x128x4) ![6, 0, 0] S1x128x4.size inb_S8x128x4_S1x128x4_6_0_0), t543 (G6 b)⟩,
 ⟨(Rect.unit (s := S8x128x4) ![5, 0, 0] S1x128x4.size inb_S8x128x4_S1x128x4_5_0_0), t543 (G5 b)⟩,
 ⟨(Rect.unit (s := S8x128x4) ![4, 0, 0] S1x128x4.size inb_S8x128x4_S1x128x4_4_0_0), t543 (G4 b)⟩,
 ⟨(Rect.unit (s := S8x128x4) ![3, 0, 0] S1x128x4.size inb_S8x128x4_S1x128x4_3_0_0), t543 (G3 b)⟩,
 ⟨(Rect.unit (s := S8x128x4) ![2, 0, 0] S1x128x4.size inb_S8x128x4_S1x128x4_2_0_0), t543 (G2 b)⟩,
 ⟨(Rect.unit (s := S8x128x4) ![1, 0, 0] S1x128x4.size inb_S8x128x4_S1x128x4_1_0_0), t543 (G1 b)⟩,
 ⟨(Rect.unit (s := S8x128x4) ![0, 0, 0] S1x128x4.size inb_S8x128x4_S1x128x4_0_0_0), t543 (G0 b)⟩] : List (View.Piece (Elt F) S8x128x4 .f32)) ∧
    (kernelRun0_A c i arg2 harg2 arg3 harg3 arg4 harg4 arg5 harg5 arg6 harg6 arg7 harg7 arg8 harg8 arg9 harg9 arg10 harg10 arg11 harg11 arg14 harg14 arg15 harg15 arg16 harg16 arg17 harg17 arg18 harg18 arg19 harg19 hc0 b.dyn b.x b.B b.C b.z b.dt b.par b.nw b.y b.S).2.2.2.1
      = ([⟨(Rect.unit (s := S8x3x4) ![7, 0, 0] S1x3x4.size inb_S8x3x4_S1x3x4_7_0_0), t572 (G7 b)⟩,
 ⟨(Rect.unit (s := S8x3x4) ![6, 0, 0] S1x3x4.size inb_S8x3x4_S1x3x4_6_0_0), t572 (G6 b)⟩,
 ⟨(Rect.unit (s := S8x3x4) ![5, 0, 0] S1x3x4.size inb_S8x3x4_S1x3x4_5_0_0), t572 (G5 b)⟩,
 ⟨(Rect.unit (s := S8x3x4) ![4, 0, 0] S1x3x4.size inb_S8x3x4_S1x3x4_4_0_0), t572 (G4 b)⟩,
 ⟨(Rect.unit (s := S8x3x4) ![3, 0, 0] S1x3x4.size inb_S8x3x4_S1x3x4_3_0_0), t572 (G3 b)⟩,
 ⟨(Rect.unit (s := S8x3x4) ![2, 0, 0] S1x3x4.size inb_S8x3x4_S1x3x4_2_0_0), t572 (G2 b)⟩,
 ⟨(Rect.unit (s := S8x3x4) ![1, 0, 0] S1x3x4.size inb_S8x3x4_S1x3x4_1_0_0), t572 (G1 b)⟩,
 ⟨(Rect.unit (s := S8x3x4) ![0, 0, 0] S1x3x4.size inb_S8x3x4_S1x3x4_0_0_0), t572 (G0 b)⟩,
 ⟨(Rect.unit (s := S8x3x4) ![0, 0, 0] S8x3x4.size inb_S8x3x4_S8x3x4_0_0_0), k0_pay4⟩] : List (View.Piece (Elt F) S8x3x4 .f32)) ∧
    (kernelRun0_A c i arg2 harg2 arg3 harg3 arg4 harg4 arg5 harg5 arg6 harg6 arg7 harg7 arg8 harg8 arg9 harg9 arg10 harg10 arg11 harg11 arg14 harg14 arg15 harg15 arg16 harg16 arg17 harg17 arg18 harg18 arg19 harg19 hc0 b.dyn b.x b.B b.C b.z b.dt b.par b.nw b.y b.S).2.2.2.2.1
      = ([⟨(Rect.unit (s := S8x1x256) ![7, 0, 0] S1x1x256.size inb_S8x1x256_S1x1x256_7_0_0), t58 (G7 b)⟩,
 ⟨(Rect.unit (s := S8x1x256) ![6, 0, 0] S1x1x256.size inb_S8x1x256_S1x1x256_6_0_0), t58 (G6 b)⟩,
 ⟨(Rect.unit (s := S8x1x256) ![5, 0, 0] S1x1x256.size inb_S8x1x256_S1x1x256_5_0_0), t58 (G5 b)⟩,
 ⟨(Rect.unit (s := S8x1x256) ![4, 0, 0] S1x1x256.size inb_S8x1x256_S1x1x256_4_0_0), t58 (G4 b)⟩,
 ⟨(Rect.unit (s := S8x1x256) ![3, 0, 0] S1x1x256.size inb_S8x1x256_S1x1x256_3_0_0), t58 (G3 b)⟩,
 ⟨(Rect.unit (s := S8x1x256) ![2, 0, 0] S1x1x256.size inb_S8x1x256_S1x1x256_2_0_0), t58 (G2 b)⟩,
 ⟨(Rect.unit (s := S8x1x256) ![1, 0, 0] S1x1x256.size inb_S8x1x256_S1x1x256_1_0_0), t58 (G1 b)⟩,
 ⟨(Rect.unit (s := S8x1x256) ![0, 0, 0] S1x1x256.size inb_S8x1x256_S1x1x256_0_0_0), t58 (G0 b)⟩,
 ⟨(Rect.unit (s := S8x1x256) ![0, 0, 0] S8x1x256.size inb_S8x1x256_S8x1x256_0_0_0), k0_pay5⟩] : List (View.Piece (Elt F) S8x1x256 .f32)) ∧
    (kernelRun0_A c i arg2 harg2 arg3 harg3 arg4 harg4 arg5 harg5 arg6 harg6 arg7 harg7 arg8 harg8 arg9 harg9 arg10 harg10 arg11 harg11 arg14 harg14 arg15 harg15 arg16 harg16 arg17 harg17 arg18 harg18 arg19 harg19 hc0 b.dyn b.x b.B b.C b.z b.dt b.par b.nw b.y b.S).2.2.2.2.2.1
      = ([⟨(Rect.unit (s := S2048x128) ![1984, 0] S64x128.size inb_S2048x128_S64x128_1984_0), t213 (G7 b)⟩,
 ⟨(Rect.unit (s := S2048x128) ![1920, 0] S64x128.size inb_S2048x128_S64x128_1920_0), t205 (G7 b)⟩,
 ⟨(Rect.unit (s := S2048x128) ![1856, 0] S64x128.size inb_S2048x128_S64x128_1856_0), t197 (G7 b)⟩,
 ⟨(Rect.unit (s := S2048x128) ![1792, 0] S64x128.size inb_S2048x128_S64x128_1792_0), t189 (G7 b)⟩,
 ⟨(Rect.unit (s := S2048x128) ![1728, 0] S64x128.size inb_S2048x128_S64x128_1728_0), t213 (G6 b)⟩,
 ⟨(Rect.unit (s := S2048x128) ![1664, 0] S64x128.size inb_S2048x128_S64x128_1664_0), t205 (G6 b)⟩,
 ⟨(Rect.unit (s := S2048x128) ![1600, 0] S64x128.size inb_S2048x128_S64x128_1600_0), t197 (G6 b)⟩,
 ⟨(Rect.unit (s := S2048x128) ![1536, 0] S64x128.size inb_S2048x128_S64x128_1536_0), t189 (G6 b)⟩,
 ⟨(Rect.unit (s := S2048x128) ![1472, 0] S64x128.size inb_S2048x128_S64x128_1472_0), t213 (G5 b)⟩,
 ⟨(Rect.unit (s := S2048x128) ![1408, 0] S64x128.size inb_S2048x128_S64x128_1408_0), t205 (G5 b)⟩,
 ⟨(Rect.unit (s := S2048x128) ![1344, 0] S64x128.size inb_S2048x128_S64x128_1344_0), t197 (G5 b)⟩,
 ⟨(Rect.unit (s := S2048x128) ![1280, 0] S64x128.size inb_S2048x128_S64x128_1280_0), t189 (G5 b)⟩,
 ⟨(Rect.unit (s := S2048x128) ![1216, 0] S64x128.size inb_S2048x128_S64x128_1216_0), t213 (G4 b)⟩,
 ⟨(Rect.unit (s := S2048x128) ![1152, 0] S64x128.size inb_S2048x128_S64x128_1152_0), t205 (G4 b)⟩,
 ⟨(Rect.unit (s := S2048x128) ![1088, 0] S64x128.size inb_S2048x128_S64x128_1088_0), t197 (G4 b)⟩,
 ⟨(Rect.unit (s := S2048x128) ![1024, 0] S64x128.size inb_S2048x128_S64x128_1024_0), t189 (G4 b)⟩,
 ⟨(Rect.unit (s := S2048x128) ![960, 0] S64x128.size inb_S2048x128_S64x128_960_0), t213 (G3 b)⟩,
 ⟨(Rect.unit (s := S2048x128) ![896, 0] S64x128.size inb_S2048x128_S64x128_896_0), t205 (G3 b)⟩,
 ⟨(Rect.unit (s := S2048x128) ![832, 0] S64x128.size inb_S2048x128_S64x128_832_0), t197 (G3 b)⟩,
 ⟨(Rect.unit (s := S2048x128) ![768, 0] S64x128.size inb_S2048x128_S64x128_768_0), t189 (G3 b)⟩,
 ⟨(Rect.unit (s := S2048x128) ![704, 0] S64x128.size inb_S2048x128_S64x128_704_0), t213 (G2 b)⟩,
 ⟨(Rect.unit (s := S2048x128) ![640, 0] S64x128.size inb_S2048x128_S64x128_640_0), t205 (G2 b)⟩,
 ⟨(Rect.unit (s := S2048x128) ![576, 0] S64x128.size inb_S2048x128_S64x128_576_0), t197 (G2 b)⟩,
 ⟨(Rect.unit (s := S2048x128) ![512, 0] S64x128.size inb_S2048x128_S64x128_512_0), t189 (G2 b)⟩,
 ⟨(Rect.unit (s := S2048x128) ![448, 0] S64x128.size inb_S2048x128_S64x128_448_0), t213 (G1 b)⟩,
 ⟨(Rect.unit (s := S2048x128) ![384, 0] S64x128.size inb_S2048x128_S64x128_384_0), t205 (G1 b)⟩,
 ⟨(Rect.unit (s := S2048x128) ![320, 0] S64x128.size inb_S2048x128_S64x128_320_0), t197 (G1 b)⟩,
 ⟨(Rect.unit (s := S2048x128) ![256, 0] S64x128.size inb_S2048x128_S64x128_256_0), t189 (G1 b)⟩,
 ⟨(Rect.unit (s := S2048x128) ![192, 0] S64x128.size inb_S2048x128_S64x128_192_0), t213 (G0 b)⟩,
 ⟨(Rect.unit (s := S2048x128) ![128, 0] S64x128.size inb_S2048x128_S64x128_128_0), t205 (G0 b)⟩,
 ⟨(Rect.unit (s := S2048x128) ![64, 0] S64x128.size inb_S2048x128_S64x128_64_0), t197 (G0 b)⟩,
 ⟨(Rect.unit (s := S2048x128) ![0, 0] S64x128.size inb_S2048x128_S64x128_0_0), t189 (G0 b)⟩,
 ⟨(Rect.unit (s := S2048x128) ![0, 0] S2048x128.size inb_S2048x128_S2048x128_0_0), k0_pay3⟩] : List (View.Piece (Elt F) S2048x128 .f32)) := by
  refine ⟨?_, ?_, ?_, ?_, ?_, ?_⟩
  all_goals
    unfold kernelRun0_A
    dsimp only
    sl_unfold_words
    simp (disch := decide) only [↓ View.readCov_skip, ↓ View.readCov_fill]
    simp -implicitDefEqProofs (disch := rfl) only [← h13, ← h14, ← hs, View.readAt_eq_ld, Memref.IsWhole.read_unread, a0_0, b0_0, a0_2, b0_2, a0_3, b0_3, a0_8, b0_8, a0_28, b0_28, a0_32, b0_32, a0_59, b0_59, a0_98, b0_98, a0_177, b0_177, a0_184, b0_184, a0_214, b0_214, a0_282, b0_282, a0_544, b0_544, a1_0, b1_0, a1_2, b1_2, a1_3, b1_3, a1_8, b1_8, a1_28, b1_28, a1_32, b1_32, a1_59, b1_59, a1_98, b1_98, a1_177, b1_177, a1_184, b1_184, a1_214, b1_214, a1_282, b1_282, a1_544, b1_544, a2_0, b2_0, a2_2, b2_2, a2_3, b2_3, a2_8, b2_8, a2_28, b2_28, a2_32, b2_32, a2_59, b2_59, a2_98, b2_98, a2_177, b2_177, a2_184, b2_184, a2_214, b2_214, a2_282, b2_282, a2_544, b2_544, a3_0, b3_0, a3_2, b3_2, a3_3, b3_3, a3_8, b3_8, a3_28, b3_28, a3_32, b3_32, a3_59, b3_59, a3_98, b3_98, a3_177, b3_177, a3_184, b3_184, a3_214, b3_214, a3_282, b3_282, a3_544, b3_544, a4_0, b4_0, a4_2, b4_2, a4_3, b4_3, a4_8, b4_8, a4_28, b4_28, a4_32, b4_32, a4_59, b4_59, a4_98, b4_98, a4_177, b4_177, a4_184, b4_184, a4_214, b4_214, a4_282, b4_282, a4_544, b4_544, a5_0, b5_0, a5_2, b5_2, a5_3, b5_3, a5_8, b5_8, a5_28, b5_28, a5_32, b5_32, a5_59, b5_59, a5_98, b5_98, a5_177, b5_177, a5_184, b5_184, a5_214, b5_214, a5_282, b5_282, a5_544, b5_544, a6_0, b6_0, a6_2, b6_2, a6_3, b6_3, a6_8, b6_8, a6_28, b6_28, a6_32, b6_32, a6_59, b6_59, a6_98, b6_98, a6_177, b6_177, a6_184, b6_184, a6_214, b6_214, a6_282, b6_282, a6_544, b6_544, a7_0, b7_0, a7_2, b7_2, a7_3, b7_3, a7_8, b7_8, a7_28, b7_28, a7_32, b7_32, a7_59, b7_59, a7_98, b7_98, a7_177, b7_177, a7_184, b7_184, a7_214, b7_214, a7_282, b7_282, a7_544, b7_544, p1, p2, p6, p7, p8, p9, p10, p11, p12, p13, p14, p15, p16, p17, p18, p19, p20, p21, p22, p23, p24, p25, p26, p27, p28, p29, p30, p31, p32, p33, p34, p35, p36, p37, p38, p39, p40, p41, p42, p43, p44, p45, p46, p47, p48, p49, p50, p51, p52, p53, p54, p55, p56, p57, p58, p59, p60, p61, p62, p63, p64, p65, p66, p67, p68, p69, p70, p71, p72, p73, p74, p75, p76, p77, p78, p79, p80, p81, p82, p83, p84, p85, p86, p87, p88, p89, p90, p91, p92, p93, p94, p95, p96, p97, p98, p99, p100, p101, p102, p103, p104, p105, p106, p107, p108, p109, p110, p111, p112, p113, p114, p115, p116, p117, p118, p119, p120, p121, p122, p123, p124, p125, p126, p127, p128, p129, p130, p131, p132, p133, p134, p135, p136, p137, p138, p139, p140, p141, p142, p143, p144, p145, p146, p147, p148, p149, p150, p151, p152, p153, p154, p155, p156, p157, p158, p159, p160, p161, p162, p163, p164, p165, p166, p167, p168, p169, p170, p171, p172, p173, p174, p175, p176, p177, p178, p179, p180, p181, p182, p183, p184, p185, p186, p187, p188, p189, p190, p191, p192, p193, p194, p195, p196, p197, p198, p199, p200, p201, p202, p203, p204, p205, p206, p207, p208, p209, p210, p211, p212, p213, p214, p215, p216, p217, p218, p219, p220, p221, p222, p223, p224, p225, p226, p227, p228, p229, p230, p231, p232, p233, p234, p235, p236, p237, p238, p239, p240, p241, p242, p243, p244, p245, p246, p247, p248, p249, p250, p251, p252, p253, p254, p255, p256, p257, p258, p259, p260, p261, p262, p263, p264, p265, p266, p267, p268, p269, p270, p271, p272, p273, p274, p275, p276, p277, p278, p279, p280, p281, p282, p283, p284, p285, p286, p287, p288, p289, p290, p291, p292, p293, p294, p295, p296, p297, p298, p299, p300, p301, p302, p303, p304, p305, p306, p307, p308, p309, p310, p311, p312, p313, p314, p315, p316, p317, p318, p319, p320, p321, p322, p323, p324, p325, p326, p327, p328, p329, p330, p331, p332, p333, p334, p335, p336, p337, p338, p339, p340, p341, p342, p343, p344, p345, p346, p347, p348, p349, p350, p351, p352, p353, p354, p355, p356, p357, p358, p359, p360, p361, p362, p363, p364, p365, p366, p367, p368, p369, p370, p371, p372, p373, p374, p375, p376, p377, p378, p379, p380, p381, p382, p383, p384, p385, p386, p387, p388, p389, p390, p391, p392, p393, p394, p395, p396, p397, p398, p399, p400, p401, p402, p403, p404, p405, p406, p407, p408, p409, p410, p411, p412, p413, p414, p415, p416, p417, p418, p419, p420, p421, p422, p423, p424, p425, p426, p427, p428, p429, p430, p431, p432, p433, p434, p435, p436, p437, p438, p439, p440, p441, p442, p443, p444, p445, p446, p447, p448, p449, p450, p451, p452, p453, p454, p455, p456, p457, p458, p459, p460, p461, p462, p463, p464, p465, p466, p467, p468, p469, p470, p471, p472, p473, p474, p475, p476, p477, p478, p479, p480, p481, p482, p483, p484, p485, p486, p487, p488, p489, p490, p491, p492, p493, p494, p495, p496, p497, p498, p499, p500, p501, p502, p503, p504, p505, p506, p507, p508, p509, p510, p511, p512, p513, p514, p515, p516, p517, p518, p519, p520, p521, p522, p523, p524, p525, p526, p527, p528, p529, p530, p531, p532, p533, p534, p535, p536, p537, p538, p539, p540, p541, p542, p543, p544, p545, p546, p547, p548, p549, p550, p551, p552, p553, p554, p555, p556, p557, p558, p559, p560, p561, p562, p563, p564, p565, p566, p567, p568, p569, p570, p571, p572, p573, p574, p575, p576, p577, p578, p579, p580, p581, p582, p583, p584, p585, p586, p587, p588, p589, p590, p591, p592, p593, p594, p595, p596, p597, p598, p599, p600, p601, p602, p603, p604, p605, p606, p607, p608, p609, p610, p611, p612, p613, p614, p615, p616, p617, p618, p619, p620, p621, p622, p623, p624, p625, p626, p627, p628, p629, p630, p631, p632, p633, p634, p635, p636, p637, p638, p639, p640, p641, p642, p643, p644, p645, p646, p647, p648, p649, p650, p651, p652, p653, p654, p655, p656, p657, p658, p659, p660, p661, p662, p663, p664, p665, p666, p667, p668, p669, p670, p671, p672, p673, p674, p675, p676, p677, p678, p679, p680, p681, p682, p683, p684, p685, p686, p687, p688, p689, p690, p691, p692, p693, p694, p695, p696, p697, p698, p699, p700, p701, p702, p703, p704, p705, p706, p707, p708, p709, p710, p711, p712, p713, p714, p715, p716, p717, p718, p719, p720, p721, p722, p723, p724, p725, p726, p727, p728, p729, p730, p731, p732, p733, p734, p735, p736, p737, p738, p739, p740, p741, p742, p743, p744, p745, p746, p747, p748, p749, p750, p751, p752, p753, p754, p755, p756, p757, p758, p759, p760, p761, p762, p763, p764, p765, p766, p767, p768, p769, p770, p771, p772, p773, p774, p775, p776, p777, p778, p779, p780, p781, p782, p783, p784, p785, p786, p787, p788, p789, p790, p791, p792, p793, p794, p795, p796, p797, p798, p799, p800, p801, p802, p803, p804, p805, p806, p807, p808, p809, p810, p811, p812, p813, p814, p815, p816, p817, p818, p819, p820, p821, p822, p823, p824, p825, p826, p827, p828, p829, p830, p831, p832, p833, p834, p835, p836, p837, p838, p839, p840, p841, p842, p843, p844, p845, p846, p847, p848, p849, p850, p851, p852, p853, p854, p855, p856, p857, p858, p859, p860, p861, p862, p863, p864, p865, p866, p867, p868, p869, p870, p871, p872, p873, p874, p875, p876, p877, p878, p879, p880, p881, p882, p883, p884, p885, p886, p887, p888, p889, p890, p891, p892, p893, p894, p895, p896, p897, p898, p899, p900, p901, p902, p903, p904, p905, p906, p907, p908, p909, p910, p911, p912, p913, p914, p915, p916, p917, p918, p919, p920, p921, p922, p923, p924, p925, p926, p927, p928, p929, p930, p931, p932, p933, p934, p935, p936, p937, p938, p939, p940, p941, p942, p943, p944, p945, p946, p947, p948, p949, p950, p951, p952, p953, p954, p955, p956, p957, p958, p959, p960, p961, p962, p963, p964, p965, p966, p967, p968, p969, p970, p971, p972, p973, p974, p975, p976, p977, p978, p979, p980, p981, p982, p983, p984, p985, p986, p987]
    try rfl

end Cert.KernelIdeal.Group
-- ==== Proof.PiecesB.lean ====
module

public import proofs.«01_k».proof.Proof.Groups

public import proofs.«01_k».proof.Proof.Pay1
public import proofs.«01_k».proof.Proof.Pay2
public import proofs.«01_k».proof.Proof.Pay3
public import proofs.«01_k».proof.Proof.Pay4
import Idealize.ShloMosaic.Lib.Pipeline.ReadBack

@[expose] public section

set_option maxRecDepth 1000000
set_option synthInstance.maxSize 4096

noncomputable section

namespace Cert.KernelIdeal.Group

open Idealize.ShloMosaic Idealize.SL.Sem Cert.KernelIdeal Cert.KernelIdeal.Gen

variable {F : FTy → Type} [FloatOps F]

set_option maxHeartbeats 4000000 in
/-- The pieces that the body stores into each output and each carried buffer. -/
theorem piecesB (c : Dev nD) (i : grid0.Coords) (arg2 : Memref sig .tc .vmem S128x2048 .f32) (harg2 : arg2.IsWhole) (arg3 : Memref sig .tc .vmem S128x2048 .bf16) (harg3 : arg3.IsWhole) (arg4 : Memref sig .tc .vmem S128x1024 .bf16) (harg4 : arg4.IsWhole) (arg5 : Memref sig .tc .vmem S128x1024 .bf16) (harg5 : arg5.IsWhole) (arg6 : Memref sig .tc .vmem S128x2048 .bf16) (harg6 : arg6.IsWhole) (arg7 : Memref sig .tc .vmem S8x128x4 .f32) (harg7 : arg7.IsWhole) (arg8 : Memref sig .tc .vmem S8x3x4 .f32) (harg8 : arg8.IsWhole) (arg9 : Memref sig .tc .vmem S8x1x256 .f32) (harg9 : arg9.IsWhole) (arg10 : Memref sig .tc .vmem S128x2048 .f32) (harg10 : arg10.IsWhole) (arg11 : Memref sig .tc .vmem S8x1x256x128 .f32) (harg11 : arg11.IsWhole) (arg14 : Memref sig .tc .vmem S128x4096 .bf16) (harg14 : arg14.IsWhole) (arg15 : Memref sig .tc .vmem S128x2048 .bf16) (harg15 : arg15.IsWhole) (arg16 : Memref sig .tc .vmem S8x128x4 .f32) (harg16 : arg16.IsWhole) (arg17 : Memref sig .tc .vmem S8x3x4 .f32) (harg17 : arg17.IsWhole) (arg18 : Memref sig .tc .vmem S8x1x256 .f32) (harg18 : arg18.IsWhole) (arg19 : Memref sig .tc .vmem S2048x128 .f32) (harg19 : arg19.IsWhole) (hc0 : ¬cond0_0 i) (b : Blocks F) :
    (kernelRun0_B c i arg2 harg2 arg3 harg3 arg4 harg4 arg5 harg5 arg6 harg6 arg7 harg7 arg8 harg8 arg9 harg9 arg10 harg10 arg11 harg11 arg14 harg14 arg15 harg15 arg16 harg16 arg17 harg17 arg18 harg18 arg19 harg19 hc0 b.dyn b.x b.B b.C b.z b.dt b.par b.nw b.y b.S b.dp b.dnw b.dS).1
      = ([⟨(Rect.unit (s := S128x4096) ![0, 2944] S128x128.size inb_S128x4096_S128x128_0_2944), t351 (G7 b)⟩,
 ⟨(Rect.unit (s := S128x4096) ![0, 3968] S128x128.size inb_S128x4096_S128x128_0_3968), t324 (G7 b)⟩,
 ⟨(Rect.unit (s := S128x4096) ![0, 1792] S128x256.size inb_S128x4096_S128x256_0_1792), t281 (G7 b)⟩,
 ⟨(Rect.unit (s := S128x4096) ![0, 2816] S128x128.size inb_S128x4096_S128x128_0_2816), t351 (G6 b)⟩,
 ⟨(Rect.unit (s := S128x4096) ![0, 3840] S128x128.size inb_S128x4096_S128x128_0_3840), t324 (G6 b)⟩,
 ⟨(Rect.unit (s := S128x4096) ![0, 1536] S128x256.size inb_S128x4096_S128x256_0_1536), t281 (G6 b)⟩,
 ⟨(Rect.unit (s := S128x4096) ![0, 2688] S128x128.size inb_S128x4096_S128x128_0_2688), t351 (G5 b)⟩,
 ⟨(Rect.unit (s := S128x4096) ![0, 3712] S128x128.size inb_S128x4096_S128x128_0_3712), t324 (G5 b)⟩,
 ⟨(Rect.unit (s := S128x4096) ![0, 1280] S128x256.size inb_S128x4096_S128x256_0_1280), t281 (G5 b)⟩,
 ⟨(Rect.unit (s := S128x4096) ![0, 2560] S128x128.size inb_S128x4096_S128x128_0_2560), t351 (G4 b)⟩,
 ⟨(Rect.unit (s := S128x4096) ![0, 3584] S128x128.size inb_S128x4096_S128x128_0_3584), t324 (G4 b)⟩,
 ⟨(Rect.unit (s := S128x4096) ![0, 1024] S128x256.size inb_S128x4096_S128x256_0_1024), t281 (G4 b)⟩,
 ⟨(Rect.unit (s := S128x4096) ![0, 2432] S128x128.size inb_S128x4096_S128x128_0_2432), t351 (G3 b)⟩,
 ⟨(Rect.unit (s := S128x4096) ![0, 3456] S128x128.size inb_S128x4096_S128x128_0_3456), t324 (G3 b)⟩,
 ⟨(Rect.unit (s := S128x4096) ![0, 768] S128x256.size inb_S128x4096_S128x256_0_768), t281 (G3 b)⟩,
 ⟨(Rect.unit (s := S128x4096) ![0, 2304] S128x128.size inb_S128x4096_S128x128_0_2304), t351 (G2 b)⟩,
 ⟨(Rect.unit (s := S128x4096) ![0, 3328] S128x128.size inb_S128x4096_S128x128_0_3328), t324 (G2 b)⟩,
 ⟨(Rect.unit (s := S128x4096) ![0, 512] S128x256.size inb_S128x4096_S128x256_0_512), t281 (G2 b)⟩,
 ⟨(Rect.unit (s := S128x4096) ![0, 2176] S128x128.size inb_S128x4096_S128x128_0_2176), t351 (G1 b)⟩,
 ⟨(Rect.unit (s := S128x4096) ![0, 3200] S128x128.size inb_S128x4096_S128x128_0_3200), t324 (G1 b)⟩,
 ⟨(Rect.unit (s := S128x4096) ![0, 256] S128x256.size inb_S128x4096_S128x256_0_256), t281 (G1 b)⟩,
 ⟨(Rect.unit (s := S128x4096) ![0, 2048] S128x128.size inb_S128x4096_S128x128_0_2048), t351 (G0 b)⟩,
 ⟨(Rect.unit (s := S128x4096) ![0, 3072] S128x128.size inb_S128x4096_S128x128_0_3072), t324 (G0 b)⟩,
 ⟨(Rect.unit (s := S128x4096) ![0, 0] S128x256.size inb_S128x4096_S128x256_0_0), t281 (G0 b)⟩] : List (View.Piece (Elt F) S128x4096 .bf16)) ∧
    (kernelRun0_B c i arg2 harg2 arg3 harg3 arg4 harg4 arg5 harg5 arg6 harg6 arg7 harg7 arg8 harg8 arg9 harg9 arg10 harg10 arg11 harg11 arg14 harg14 arg15 harg15 arg16 harg16 arg17 harg17 arg18 harg18 arg19 harg19 hc0 b.dyn b.x b.B b.C b.z b.dt b.par b.nw b.y b.S b.dp b.dnw b.dS).2.1
      = ([⟨(Rect.unit (s := S128x2048) ![0, 1792] S128x256.size inb_S128x2048_S128x256_0_1792), t79 (G7 b)⟩,
 ⟨(Rect.unit (s := S128x2048) ![0, 1536] S128x256.size inb_S128x2048_S128x256_0_1536), t79 (G6 b)⟩,
 ⟨(Rect.unit (s := S128x2048) ![0, 1280] S128x256.size inb_S128x2048_S128x256_0_1280), t79 (G5 b)⟩,
 ⟨(Rect.unit (s := S128x2048) ![0, 1024] S128x256.size inb_S128x2048_S128x256_0_1024), t79 (G4 b)⟩,
 ⟨(Rect.unit (s := S128x2048) ![0, 768] S128x256.size inb_S128x2048_S128x256_0_768), t79 (G3 b)⟩,
 ⟨(Rect.unit (s := S128x2048) ![0, 512] S128x256.size inb_S128x2048_S128x256_0_512), t79 (G2 b)⟩,
 ⟨(Rect.unit (s := S128x2048) ![0, 256] S128x256.size inb_S128x2048_S128x256_0_256), t79 (G1 b)⟩,
 ⟨(Rect.unit (s := S128x2048) ![0, 0] S128x256.size inb_S128x2048_S128x256_0_0), t79 (G0 b)⟩] : List (View.Piece (Elt F) S128x2048 .bf16)) ∧
    (kernelRun0_B c i arg2 harg2 arg3 harg3 arg4 harg4 arg5 harg5 arg6 harg6 arg7 harg7 arg8 harg8 arg9 harg9 arg10 harg10 arg11 harg11 arg14 harg14 arg15 harg15 arg16 harg16 arg17 harg17 arg18 harg18 arg19 harg19 hc0 b.dyn b.x b.B b.C b.z b.dt b.par b.nw b.y b.S b.dp b.dnw b.dS).2.2.1
      = ([⟨(Rect.unit (s := S8x128x4) ![7, 0, 0] S1x128x4.size inb_S8x128x4_S1x128x4_7_0_0), t543 (G7 b)⟩,
 ⟨(Rect.unit (s := S8x128x4) ![6, 0, 0] S1x128x4.size inb_S8x128x4_S1x128x4_6_0_0), t543 (G6 b)⟩,
 ⟨(Rect.unit (s := S8x128x4) ![5, 0, 0] S1x128x4.size inb_S8x128x4_S1x128x4_5_0_0), t543 (G5 b)⟩,
 ⟨(Rect.unit (s := S8x128x4) ![4, 0, 0] S1x128x4.size inb_S8x128x4_S1x128x4_4_0_0), t543 (G4 b)⟩,
 ⟨(Rect.unit (s := S8x128x4) ![3, 0, 0] S1x128x4.size inb_S8x128x4_S1x128x4_3_0_0), t543 (G3 b)⟩,
 ⟨(Rect.unit (s := S8x128x4) ![2, 0, 0] S1x128x4.size inb_S8x128x4_S1x128x4_2_0_0), t543 (G2 b)⟩,
 ⟨(Rect.unit (s := S8x128x4) ![1, 0, 0] S1x128x4.size inb_S8x128x4_S1x128x4_1_0_0), t543 (G1 b)⟩,
 ⟨(Rect.unit (s := S8x128x4) ![0, 0, 0] S1x128x4.size inb_S8x128x4_S1x128x4_0_0_0), t543 (G0 b)⟩] : List (View.Piece (Elt F) S8x128x4 .f32)) ∧
    (kernelRun0_B c i arg2 harg2 arg3 harg3 arg4 harg4 arg5 harg5 arg6 harg6 arg7 harg7 arg8 harg8 arg9 harg9 arg10 harg10 arg11 harg11 arg14 harg14 arg15 harg15 arg16 harg16 arg17 harg17 arg18 harg18 arg19 harg19 hc0 b.dyn b.x b.B b.C b.z b.dt b.par b.nw b.y b.S b.dp b.dnw b.dS).2.2.2.1
      = ([⟨(Rect.unit (s := S8x3x4) ![7, 0, 0] S1x3x4.size inb_S8x3x4_S1x3x4_7_0_0), t572 (G7 b)⟩,
 ⟨(Rect.unit (s := S8x3x4) ![6, 0, 0] S1x3x4.size inb_S8x3x4_S1x3x4_6_0_0), t572 (G6 b)⟩,
 ⟨(Rect.unit (s := S8x3x4) ![5, 0, 0] S1x3x4.size inb_S8x3x4_S1x3x4_5_0_0), t572 (G5 b)⟩,
 ⟨(Rect.unit (s := S8x3x4) ![4, 0, 0] S1x3x4.size inb_S8x3x4_S1x3x4_4_0_0), t572 (G4 b)⟩,
 ⟨(Rect.unit (s := S8x3x4) ![3, 0, 0] S1x3x4.size inb_S8x3x4_S1x3x4_3_0_0), t572 (G3 b)⟩,
 ⟨(Rect.unit (s := S8x3x4) ![2, 0, 0] S1x3x4.size inb_S8x3x4_S1x3x4_2_0_0), t572 (G2 b)⟩,
 ⟨(Rect.unit (s := S8x3x4) ![1, 0, 0] S1x3x4.size inb_S8x3x4_S1x3x4_1_0_0), t572 (G1 b)⟩,
 ⟨(Rect.unit (s := S8x3x4) ![0, 0, 0] S1x3x4.size inb_S8x3x4_S1x3x4_0_0_0), t572 (G0 b)⟩] : List (View.Piece (Elt F) S8x3x4 .f32)) ∧
    (kernelRun0_B c i arg2 harg2 arg3 harg3 arg4 harg4 arg5 harg5 arg6 harg6 arg7 harg7 arg8 harg8 arg9 harg9 arg10 harg10 arg11 harg11 arg14 harg14 arg15 harg15 arg16 harg16 arg17 harg17 arg18 harg18 arg19 harg19 hc0 b.dyn b.x b.B b.C b.z b.dt b.par b.nw b.y b.S b.dp b.dnw b.dS).2.2.2.2.1
      = ([⟨(Rect.unit (s := S8x1x256) ![7, 0, 0] S1x1x256.size inb_S8x1x256_S1x1x256_7_0_0), t58 (G7 b)⟩,
 ⟨(Rect.unit (s := S8x1x256) ![6, 0, 0] S1x1x256.size inb_S8x1x256_S1x1x256_6_0_0), t58 (G6 b)⟩,
 ⟨(Rect.unit (s := S8x1x256) ![5, 0, 0] S1x1x256.size inb_S8x1x256_S1x1x256_5_0_0), t58 (G5 b)⟩,
 ⟨(Rect.unit (s := S8x1x256) ![4, 0, 0] S1x1x256.size inb_S8x1x256_S1x1x256_4_0_0), t58 (G4 b)⟩,
 ⟨(Rect.unit (s := S8x1x256) ![3, 0, 0] S1x1x256.size inb_S8x1x256_S1x1x256_3_0_0), t58 (G3 b)⟩,
 ⟨(Rect.unit (s := S8x1x256) ![2, 0, 0] S1x1x256.size inb_S8x1x256_S1x1x256_2_0_0), t58 (G2 b)⟩,
 ⟨(Rect.unit (s := S8x1x256) ![1, 0, 0] S1x1x256.size inb_S8x1x256_S1x1x256_1_0_0), t58 (G1 b)⟩,
 ⟨(Rect.unit (s := S8x1x256) ![0, 0, 0] S1x1x256.size inb_S8x1x256_S1x1x256_0_0_0), t58 (G0 b)⟩] : List (View.Piece (Elt F) S8x1x256 .f32)) ∧
    (kernelRun0_B c i arg2 harg2 arg3 harg3 arg4 harg4 arg5 harg5 arg6 harg6 arg7 harg7 arg8 harg8 arg9 harg9 arg10 harg10 arg11 harg11 arg14 harg14 arg15 harg15 arg16 harg16 arg17 harg17 arg18 harg18 arg19 harg19 hc0 b.dyn b.x b.B b.C b.z b.dt b.par b.nw b.y b.S b.dp b.dnw b.dS).2.2.2.2.2.1
      = ([⟨(Rect.unit (s := S2048x128) ![1984, 0] S64x128.size inb_S2048x128_S64x128_1984_0), t213 (G7 b)⟩,
 ⟨(Rect.unit (s := S2048x128) ![1920, 0] S64x128.size inb_S2048x128_S64x128_1920_0), t205 (G7 b)⟩,
 ⟨(Rect.unit (s := S2048x128) ![1856, 0] S64x128.size inb_S2048x128_S64x128_1856_0), t197 (G7 b)⟩,
 ⟨(Rect.unit (s := S2048x128) ![1792, 0] S64x128.size inb_S2048x128_S64x128_1792_0), t189 (G7 b)⟩,
 ⟨(Rect.unit (s := S2048x128) ![1728, 0] S64x128.size inb_S2048x128_S64x128_1728_0), t213 (G6 b)⟩,
 ⟨(Rect.unit (s := S2048x128) ![1664, 0] S64x128.size inb_S2048x128_S64x128_1664_0), t205 (G6 b)⟩,
 ⟨(Rect.unit (s := S2048x128) ![1600, 0] S64x128.size inb_S2048x128_S64x128_1600_0), t197 (G6 b)⟩,
 ⟨(Rect.unit (s := S2048x128) ![1536, 0] S64x128.size inb_S2048x128_S64x128_1536_0), t189 (G6 b)⟩,
 ⟨(Rect.unit (s := S2048x128) ![1472, 0] S64x128.size inb_S2048x128_S64x128_1472_0), t213 (G5 b)⟩,
 ⟨(Rect.unit (s := S2048x128) ![1408, 0] S64x128.size inb_S2048x128_S64x128_1408_0), t205 (G5 b)⟩,
 ⟨(Rect.unit (s := S2048x128) ![1344, 0] S64x128.size inb_S2048x128_S64x128_1344_0), t197 (G5 b)⟩,
 ⟨(Rect.unit (s := S2048x128) ![1280, 0] S64x128.size inb_S2048x128_S64x128_1280_0), t189 (G5 b)⟩,
 ⟨(Rect.unit (s := S2048x128) ![1216, 0] S64x128.size inb_S2048x128_S64x128_1216_0), t213 (G4 b)⟩,
 ⟨(Rect.unit (s := S2048x128) ![1152, 0] S64x128.size inb_S2048x128_S64x128_1152_0), t205 (G4 b)⟩,
 ⟨(Rect.unit (s := S2048x128) ![1088, 0] S64x128.size inb_S2048x128_S64x128_1088_0), t197 (G4 b)⟩,
 ⟨(Rect.unit (s := S2048x128) ![1024, 0] S64x128.size inb_S2048x128_S64x128_1024_0), t189 (G4 b)⟩,
 ⟨(Rect.unit (s := S2048x128) ![960, 0] S64x128.size inb_S2048x128_S64x128_960_0), t213 (G3 b)⟩,
 ⟨(Rect.unit (s := S2048x128) ![896, 0] S64x128.size inb_S2048x128_S64x128_896_0), t205 (G3 b)⟩,
 ⟨(Rect.unit (s := S2048x128) ![832, 0] S64x128.size inb_S2048x128_S64x128_832_0), t197 (G3 b)⟩,
 ⟨(Rect.unit (s := S2048x128) ![768, 0] S64x128.size inb_S2048x128_S64x128_768_0), t189 (G3 b)⟩,
 ⟨(Rect.unit (s := S2048x128) ![704, 0] S64x128.size inb_S2048x128_S64x128_704_0), t213 (G2 b)⟩,
 ⟨(Rect.unit (s := S2048x128) ![640, 0] S64x128.size inb_S2048x128_S64x128_640_0), t205 (G2 b)⟩,
 ⟨(Rect.unit (s := S2048x128) ![576, 0] S64x128.size inb_S2048x128_S64x128_576_0), t197 (G2 b)⟩,
 ⟨(Rect.unit (s := S2048x128) ![512, 0] S64x128.size inb_S2048x128_S64x128_512_0), t189 (G2 b)⟩,
 ⟨(Rect.unit (s := S2048x128) ![448, 0] S64x128.size inb_S2048x128_S64x128_448_0), t213 (G1 b)⟩,
 ⟨(Rect.unit (s := S2048x128) ![384, 0] S64x128.size inb_S2048x128_S64x128_384_0), t205 (G1 b)⟩,
 ⟨(Rect.unit (s := S2048x128) ![320, 0] S64x128.size inb_S2048x128_S64x128_320_0), t197 (G1 b)⟩,
 ⟨(Rect.unit (s := S2048x128) ![256, 0] S64x128.size inb_S2048x128_S64x128_256_0), t189 (G1 b)⟩,
 ⟨(Rect.unit (s := S2048x128) ![192, 0] S64x128.size inb_S2048x128_S64x128_192_0), t213 (G0 b)⟩,
 ⟨(Rect.unit (s := S2048x128) ![128, 0] S64x128.size inb_S2048x128_S64x128_128_0), t205 (G0 b)⟩,
 ⟨(Rect.unit (s := S2048x128) ![64, 0] S64x128.size inb_S2048x128_S64x128_64_0), t197 (G0 b)⟩,
 ⟨(Rect.unit (s := S2048x128) ![0, 0] S64x128.size inb_S2048x128_S64x128_0_0), t189 (G0 b)⟩] : List (View.Piece (Elt F) S2048x128 .f32)) := by
  refine ⟨?_, ?_, ?_, ?_, ?_, ?_⟩
  all_goals
    unfold kernelRun0_B
    dsimp only
    sl_unfold_words
    simp -implicitDefEqProofs (disch := rfl) only [View.readAt_eq_ld, Memref.IsWhole.read_unread, a0_0, b0_0, a0_2, b0_2, a0_3, b0_3, a0_8, b0_8, a0_28, b0_28, a0_32, b0_32, a0_59, b0_59, a0_98, b0_98, a0_177, b0_177, a0_184, b0_184, a0_214, b0_214, a0_282, b0_282, a0_544, b0_544, a1_0, b1_0, a1_2, b1_2, a1_3, b1_3, a1_8, b1_8, a1_28, b1_28, a1_32, b1_32, a1_59, b1_59, a1_98, b1_98, a1_177, b1_177, a1_184, b1_184, a1_214, b1_214, a1_282, b1_282, a1_544, b1_544, a2_0, b2_0, a2_2, b2_2, a2_3, b2_3, a2_8, b2_8, a2_28, b2_28, a2_32, b2_32, a2_59, b2_59, a2_98, b2_98, a2_177, b2_177, a2_184, b2_184, a2_214, b2_214, a2_282, b2_282, a2_544, b2_544, a3_0, b3_0, a3_2, b3_2, a3_3, b3_3, a3_8, b3_8, a3_28, b3_28, a3_32, b3_32, a3_59, b3_59, a3_98, b3_98, a3_177, b3_177, a3_184, b3_184, a3_214, b3_214, a3_282, b3_282, a3_544, b3_544, a4_0, b4_0, a4_2, b4_2, a4_3, b4_3, a4_8, b4_8, a4_28, b4_28, a4_32, b4_32, a4_59, b4_59, a4_98, b4_98, a4_177, b4_177, a4_184, b4_184, a4_214, b4_214, a4_282, b4_282, a4_544, b4_544, a5_0, b5_0, a5_2, b5_2, a5_3, b5_3, a5_8, b5_8, a5_28, b5_28, a5_32, b5_32, a5_59, b5_59, a5_98, b5_98, a5_177, b5_177, a5_184, b5_184, a5_214, b5_214, a5_282, b5_282, a5_544, b5_544, a6_0, b6_0, a6_2, b6_2, a6_3, b6_3, a6_8, b6_8, a6_28, b6_28, a6_32, b6_32, a6_59, b6_59, a6_98, b6_98, a6_177, b6_177, a6_184, b6_184, a6_214, b6_214, a6_282, b6_282, a6_544, b6_544, a7_0, b7_0, a7_2, b7_2, a7_3, b7_3, a7_8, b7_8, a7_28, b7_28, a7_32, b7_32, a7_59, b7_59, a7_98, b7_98, a7_177, b7_177, a7_184, b7_184, a7_214, b7_214, a7_282, b7_282, a7_544, b7_544, p1, p2, p6, p7, p8, p9, p10, p11, p12, p13, p14, p15, p16, p17, p18, p19, p20, p21, p22, p23, p24, p25, p26, p27, p28, p29, p30, p31, p32, p33, p34, p35, p36, p37, p38, p39, p40, p41, p42, p43, p44, p45, p46, p47, p48, p49, p50, p51, p52, p53, p54, p55, p56, p57, p58, p59, p60, p61, p62, p63, p64, p65, p66, p67, p68, p69, p70, p71, p72, p73, p74, p75, p76, p77, p78, p79, p80, p81, p82, p83, p84, p85, p86, p87, p88, p89, p90, p91, p92, p93, p94, p95, p96, p97, p98, p99, p100, p101, p102, p103, p104, p105, p106, p107, p108, p109, p110, p111, p112, p113, p114, p115, p116, p117, p118, p119, p120, p121, p122, p123, p124, p125, p126, p127, p128, p129, p130, p131, p132, p133, p134, p135, p136, p137, p138, p139, p140, p141, p142, p143, p144, p145, p146, p147, p148, p149, p150, p151, p152, p153, p154, p155, p156, p157, p158, p159, p160, p161, p162, p163, p164, p165, p166, p167, p168, p169, p170, p171, p172, p173, p174, p175, p176, p177, p178, p179, p180, p181, p182, p183, p184, p185, p186, p187, p188, p189, p190, p191, p192, p193, p194, p195, p196, p197, p198, p199, p200, p201, p202, p203, p204, p205, p206, p207, p208, p209, p210, p211, p212, p213, p214, p215, p216, p217, p218, p219, p220, p221, p222, p223, p224, p225, p226, p227, p228, p229, p230, p231, p232, p233, p234, p235, p236, p237, p238, p239, p240, p241, p242, p243, p244, p245, p246, p247, p248, p249, p250, p251, p252, p253, p254, p255, p256, p257, p258, p259, p260, p261, p262, p263, p264, p265, p266, p267, p268, p269, p270, p271, p272, p273, p274, p275, p276, p277, p278, p279, p280, p281, p282, p283, p284, p285, p286, p287, p288, p289, p290, p291, p292, p293, p294, p295, p296, p297, p298, p299, p300, p301, p302, p303, p304, p305, p306, p307, p308, p309, p310, p311, p312, p313, p314, p315, p316, p317, p318, p319, p320, p321, p322, p323, p324, p325, p326, p327, p328, p329, p330, p331, p332, p333, p334, p335, p336, p337, p338, p339, p340, p341, p342, p343, p344, p345, p346, p347, p348, p349, p350, p351, p352, p353, p354, p355, p356, p357, p358, p359, p360, p361, p362, p363, p364, p365, p366, p367, p368, p369, p370, p371, p372, p373, p374, p375, p376, p377, p378, p379, p380, p381, p382, p383, p384, p385, p386, p387, p388, p389, p390, p391, p392, p393, p394, p395, p396, p397, p398, p399, p400, p401, p402, p403, p404, p405, p406, p407, p408, p409, p410, p411, p412, p413, p414, p415, p416, p417, p418, p419, p420, p421, p422, p423, p424, p425, p426, p427, p428, p429, p430, p431, p432, p433, p434, p435, p436, p437, p438, p439, p440, p441, p442, p443, p444, p445, p446, p447, p448, p449, p450, p451, p452, p453, p454, p455, p456, p457, p458, p459, p460, p461, p462, p463, p464, p465, p466, p467, p468, p469, p470, p471, p472, p473, p474, p475, p476, p477, p478, p479, p480, p481, p482, p483, p484, p485, p486, p487, p488, p489, p490, p491, p492, p493, p494, p495, p496, p497, p498, p499, p500, p501, p502, p503, p504, p505, p506, p507, p508, p509, p510, p511, p512, p513, p514, p515, p516, p517, p518, p519, p520, p521, p522, p523, p524, p525, p526, p527, p528, p529, p530, p531, p532, p533, p534, p535, p536, p537, p538, p539, p540, p541, p542, p543, p544, p545, p546, p547, p548, p549, p550, p551, p552, p553, p554, p555, p556, p557, p558, p559, p560, p561, p562, p563, p564, p565, p566, p567, p568, p569, p570, p571, p572, p573, p574, p575, p576, p577, p578, p579, p580, p581, p582, p583, p584, p585, p586, p587, p588, p589, p590, p591, p592, p593, p594, p595, p596, p597, p598, p599, p600, p601, p602, p603, p604, p605, p606, p607, p608, p609, p610, p611, p612, p613, p614, p615, p616, p617, p618, p619, p620, p621, p622, p623, p624, p625, p626, p627, p628, p629, p630, p631, p632, p633, p634, p635, p636, p637, p638, p639, p640, p641, p642, p643, p644, p645, p646, p647, p648, p649, p650, p651, p652, p653, p654, p655, p656, p657, p658, p659, p660, p661, p662, p663, p664, p665, p666, p667, p668, p669, p670, p671, p672, p673, p674, p675, p676, p677, p678, p679, p680, p681, p682, p683, p684, p685, p686, p687, p688, p689, p690, p691, p692, p693, p694, p695, p696, p697, p698, p699, p700, p701, p702, p703, p704, p705, p706, p707, p708, p709, p710, p711, p712, p713, p714, p715, p716, p717, p718, p719, p720, p721, p722, p723, p724, p725, p726, p727, p728, p729, p730, p731, p732, p733, p734, p735, p736, p737, p738, p739, p740, p741, p742, p743, p744, p745, p746, p747, p748, p749, p750, p751, p752, p753, p754, p755, p756, p757, p758, p759, p760, p761, p762, p763, p764, p765, p766, p767, p768, p769, p770, p771, p772, p773, p774, p775, p776, p777, p778, p779, p780, p781, p782, p783, p784, p785, p786, p787, p788, p789, p790, p791, p792, p793, p794, p795, p796, p797, p798, p799, p800, p801, p802, p803, p804, p805, p806, p807, p808, p809, p810, p811, p812, p813, p814, p815, p816, p817, p818, p819, p820, p821, p822, p823, p824, p825, p826, p827, p828, p829, p830, p831, p832, p833, p834, p835, p836, p837, p838, p839, p840, p841, p842, p843, p844, p845, p846, p847, p848, p849, p850, p851, p852, p853, p854, p855, p856, p857, p858, p859, p860, p861, p862, p863, p864, p865, p866, p867, p868, p869, p870, p871, p872, p873, p874, p875, p876, p877, p878, p879, p880, p881, p882, p883, p884, p885, p886, p887, p888, p889, p890, p891, p892, p893, p894, p895, p896, p897, p898, p899, p900, p901, p902, p903, p904, p905, p906, p907, p908, p909, p910, p911, p912, p913, p914, p915, p916, p917, p918, p919, p920, p921, p922, p923, p924, p925, p926, p927, p928, p929, p930, p931, p932, p933, p934, p935, p936, p937, p938, p939, p940, p941, p942, p943, p944, p945, p946, p947, p948, p949, p950, p951, p952, p953, p954, p955, p956, p957, p958, p959, p960, p961, p962, p963, p964, p965, p966, p967, p968, p969, p970, p971, p972, p973, p974, p975, p976, p977, p978, p979, p980, p981, p982, p983, p984, p985, p986, p987]
    try rfl

end Cert.KernelIdeal.Group
-- ==== Proof.Step.lean ====
/- What each grid point leaves, over the real numbers. -/
module

public import proofs.«01_k».proof.Proof.Fetch
public import proofs.«01_k».proof.Proof.PiecesA
public import proofs.«01_k».proof.Proof.PiecesB
import Idealize.ShloMosaic.Lib.Ring

@[expose] public section

set_option maxRecDepth 16384

noncomputable section

namespace Cert.KernelIdeal.Group

open Cert.Ssd Cert.KernelIdeal Cert.KernelIdeal.Gen
open Idealize.ShloMosaic Idealize.ShloMosaic.TcCoe Idealize.ShloMosaic.Tactic Idealize.SL.Sem
open scoped BigOperators

theorem read_pieces {sig : RefSig} {κ : Kind} {sp : Space} {S : Shape} {e : EltTy} (w : View sig κ sp S e) (f : w.ty.Contents (Elt Ideal)) {L L' : List (View.Piece (Elt Ideal) S e)} (hL : L = L')
    (y : S.Idx) (hc : ∃ p ∈ L', y ∈ p.1.set) (v : Elt Ideal e) (hv : View.AllAt L' y v) : w.read (Elt Ideal) (w.writes (Elt Ideal) f L) y = v := by
  subst hL
  exact (View.read_writes_apply_eq_canon w f y L hc).trans (View.canon_eq_of_allAt L y v hc hv)

theorem read_pieces_over {sig : RefSig} {κ : Kind} {sp : Space} {S : Shape} {e : EltTy} (w : View sig κ sp S e) (f : w.ty.Contents (Elt Ideal)) {L M L' : List (View.Piece (Elt Ideal) S e)} (hL : L = L' ++ M)
    (y : S.Idx) (hc : ∃ p ∈ L', y ∈ p.1.set) (v : Elt Ideal e) (hv : View.AllAt L' y v) : w.read (Elt Ideal) (w.writes (Elt Ideal) f L) y = v := by
  subst hL
  refine (View.read_writes_apply_eq_canon w f y (L' ++ M) ?_).trans (canon_append L' M y v hc hv)
  obtain ⟨p, hp, hy⟩ := hc
  exact ⟨p, List.mem_append_left _ hp, hy⟩

variable {b : Blocks Ideal}

theorem cover_dconv (y : S128x4096.Idx) : ∃ p ∈ lDconv b, y ∈ p.1.set := View.cover_of_tiledBy (lDconv b) ![128, 128] (by sl_kernel_rfl) y
theorem cover_dproj (y : S128x2048.Idx) : ∃ p ∈ lDproj b, y ∈ p.1.set := View.cover_of_tiledL (lDproj b) S128x256.size (by rfl) y
theorem cover_ddt (y : S8x128x4.Idx) : ∃ p ∈ lDdt b, y ∈ p.1.set := View.cover_of_tiledL (lDdt b) S1x128x4.size (by rfl) y

variable (m : (ℓ : Loc nD τ sig) → Buf (Elt Ideal) ℓ) (c : Dev nD)

/-- The blocks at a point, over the running values. -/
abbrev blocksAt (t : Fin cfg0.N) (dp : Vec Ideal S8x3x4 .f32) (dnw : Vec Ideal S8x1x256 .f32) (dS : Vec Ideal S2048x128 .f32) : Blocks Ideal :=
  ⟨iblk m c 0 t, iblk m c 1 t, iblk m c 2 t, iblk m c 3 t, iblk m c 4 t, iblk m c 5 t, iblk m c 6 t, iblk m c 7 t, iblk m c 8 t, iblk m c 9 t, dp, dnw, dS⟩

/-- A point's outputs and scratch. -/
abbrev Outs := Vec Ideal S128x4096 .bf16 × Vec Ideal S128x2048 .bf16 × Vec Ideal S8x128x4 .f32 × Vec Ideal S8x3x4 .f32 × Vec Ideal S8x1x256 .f32 × Vec Ideal S2048x128 .f32

/-- They are what the pieces over the blocks `b` say. -/
structure Written (o : Outs) (b : Blocks Ideal) : Prop where
  dconv : ∀ (y : S128x4096.Idx) (v : Elt Ideal .bf16), View.AllAt (lDconv b) y v → o.1 y = v
  dproj : ∀ (y : S128x2048.Idx) (v : Elt Ideal .bf16), View.AllAt (lDproj b) y v → o.2.1 y = v
  ddt : ∀ (y : S8x128x4.Idx) (v : Elt Ideal .f32), View.AllAt (lDdt b) y v → o.2.2.1 y = v
  dp : ∀ (y : S8x3x4.Idx) (v : Elt Ideal .f32), View.AllAt (lDp b) y v → o.2.2.2.1 y = v
  dnw : ∀ (y : S8x1x256.Idx) (v : Elt Ideal .f32), View.AllAt (lDnw b) y v → o.2.2.2.2.1 y = v
  dS : ∀ (y : S2048x128.Idx) (v : Elt Ideal .f32), View.AllAt (lDS b) y v → o.2.2.2.2.2 y = v

set_option maxHeartbeats 4000000 in
theorem writtenA (t : Fin cfg0.N) (h0 : t.val % 32 = 0) :
    Written (outsAt0 m c t.val t.isLt) (blocksAt m c t (k0_pay4 (F := Ideal)) (k0_pay5 (F := Ideal)) (k0_pay3 (F := Ideal))) := by
  rw [outsAt0_A m c t h0]
  constructor
  · intro y v hv
    dsimp only
    unfold out0_A_10
    have e := (piecesA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) ((hcond0_0 t).mpr h0) (blocksAt m c t (k0_pay4 (F := Ideal)) (k0_pay5 (F := Ideal)) (k0_pay3 (F := Ideal))) rfl rfl rfl).1
    dsimp only at e
    rw [e]
    exact read_pieces VO0_10 VO0_10.junk rfl y (cover_dconv y) v hv
  · intro y v hv
    dsimp only
    unfold out0_A_11
    have e := (piecesA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) ((hcond0_0 t).mpr h0) (blocksAt m c t (k0_pay4 (F := Ideal)) (k0_pay5 (F := Ideal)) (k0_pay3 (F := Ideal))) rfl rfl rfl).2.1
    dsimp only at e
    rw [e]
    exact read_pieces VO0_11 VO0_11.junk rfl y (cover_dproj y) v hv
  · intro y v hv
    dsimp only
    unfold out0_A_12
    have e := (piecesA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) ((hcond0_0 t).mpr h0) (blocksAt m c t (k0_pay4 (F := Ideal)) (k0_pay5 (F := Ideal)) (k0_pay3 (F := Ideal))) rfl rfl rfl).2.2.1
    dsimp only at e
    rw [e]
    exact read_pieces VO0_12 VO0_12.junk rfl y (cover_ddt y) v hv
  · intro y v hv
    dsimp only
    unfold out0_A_13
    have e := (piecesA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) ((hcond0_0 t).mpr h0) (blocksAt m c t (k0_pay4 (F := Ideal)) (k0_pay5 (F := Ideal)) (k0_pay3 (F := Ideal))) rfl rfl rfl).2.2.2.1
    dsimp only at e
    rw [e]
    exact read_pieces_over VO0_13 VO0_13.junk rfl y (cover_dp y) v hv
  · intro y v hv
    dsimp only
    unfold out0_A_14
    have e := (piecesA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) ((hcond0_0 t).mpr h0) (blocksAt m c t (k0_pay4 (F := Ideal)) (k0_pay5 (F := Ideal)) (k0_pay3 (F := Ideal))) rfl rfl rfl).2.2.2.2.1
    dsimp only at e
    rw [e]
    exact read_pieces_over VO0_14 VO0_14.junk rfl y (cover_dnw y) v hv
  · intro y v hv
    dsimp only
    unfold sout0_A_0
    have e := (piecesA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) ((hcond0_0 t).mpr h0) (blocksAt m c t (k0_pay4 (F := Ideal)) (k0_pay5 (F := Ideal)) (k0_pay3 (F := Ideal))) rfl rfl rfl).2.2.2.2.2
    dsimp only at e
    rw [e]
    exact read_pieces_over VS0_0 VS0_0.junk rfl y (cover_dS y) v hv

set_option maxHeartbeats 4000000 in
theorem writtenB (t : Fin cfg0.N) (h0 : ¬t.val % 32 = 0) :
    Written (outsAt0 m c t.val t.isLt) (blocksAt m c t (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2) := by
  rw [outsAt0_B m c t h0]
  constructor
  · intro y v hv
    dsimp only
    unfold out0_B_10
    have e := (piecesB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) (fun h => h0 ((hcond0_0 t).mp h)) (blocksAt m c t (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2)).1
    dsimp only at e
    rw [e]
    exact read_pieces VO0_10 VO0_10.junk rfl y (cover_dconv y) v hv
  · intro y v hv
    dsimp only
    unfold out0_B_11
    have e := (piecesB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) (fun h => h0 ((hcond0_0 t).mp h)) (blocksAt m c t (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2)).2.1
    dsimp only at e
    rw [e]
    exact read_pieces VO0_11 VO0_11.junk rfl y (cover_dproj y) v hv
  · intro y v hv
    dsimp only
    unfold out0_B_12
    have e := (piecesB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) (fun h => h0 ((hcond0_0 t).mp h)) (blocksAt m c t (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2)).2.2.1
    dsimp only at e
    rw [e]
    exact read_pieces VO0_12 VO0_12.junk rfl y (cover_ddt y) v hv
  · intro y v hv
    dsimp only
    unfold out0_B_13
    have e := (piecesB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) (fun h => h0 ((hcond0_0 t).mp h)) (blocksAt m c t (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2)).2.2.2.1
    dsimp only at e
    rw [e]
    exact read_pieces VO0_13 VO0_13.junk rfl y (cover_dp y) v hv
  · intro y v hv
    dsimp only
    unfold out0_B_14
    have e := (piecesB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) (fun h => h0 ((hcond0_0 t).mp h)) (blocksAt m c t (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2)).2.2.2.2.1
    dsimp only at e
    rw [e]
    exact read_pieces VO0_14 VO0_14.junk rfl y (cover_dnw y) v hv
  · intro y v hv
    dsimp only
    unfold sout0_B_0
    have e := (piecesB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) (fun h => h0 ((hcond0_0 t).mp h)) (blocksAt m c t (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2)).2.2.2.2.2
    dsimp only at e
    rw [e]
    exact read_pieces VS0_0 VS0_0.junk rfl y (cover_dS y) v hv

variable (D : Data)

/-- The sums of the parameters' gradients over the first `n` trips. -/
def apAt (n : ℕ) (g : Fin 8) (r : Fin 3) (h : Fin 4) : ℝ := ∑ k ∈ Finset.range n, dpar (D.chunk k g) r h
def anAt (n : ℕ) (g : Fin 8) (w : Fin 256) : ℝ := ∑ k ∈ Finset.range n, (D.chunk k g).dnw w

/-- What point `n` leaves. -/
structure Left (o : Outs) (n : ℕ) : Prop where
  dx : ∀ (g : Fin 8) l (w : Fin 256), (o.1 : FVec Ideal S128x4096 .bf16) (ix2 l (⟨g.val * 256 + w.val, by omega⟩ : Fin 4096)) = ((D.chunk n g).dx l w : EReal)
  dB : ∀ (g : Fin 8) l (w : Fin 128), (o.1 : FVec Ideal S128x4096 .bf16) (ix2 l (⟨2048 + g.val * 128 + w.val, by omega⟩ : Fin 4096)) = ((D.chunk n g).dB l w : EReal)
  dC : ∀ (g : Fin 8) l (w : Fin 128), (o.1 : FVec Ideal S128x4096 .bf16) (ix2 l (⟨3072 + g.val * 128 + w.val, by omega⟩ : Fin 4096)) = ((D.chunk n g).dC l w : EReal)
  dz : ∀ (g : Fin 8) l (w : Fin 256), (o.2.1 : FVec Ideal S128x2048 .bf16) (ix2 l (⟨g.val * 256 + w.val, by omega⟩ : Fin 2048)) = ((D.chunk n g).dz l w : EReal)
  ddt : ∀ (g : Fin 8) l h, (o.2.2.1 : FVec Ideal S8x128x4 .f32) (ix3 g l h) = ((D.chunk n g).ddt l h : EReal)
  dp : ∀ (g : Fin 8) r h, (o.2.2.2.1 : FVec Ideal S8x3x4 .f32) (ix3 g r h) = (apAt D (n + 1) g r h : EReal)
  dnw : ∀ (g : Fin 8) w, (o.2.2.2.2.1 : FVec Ideal S8x1x256 .f32) (ix3 g 0 w) = (anAt D (n + 1) g w : EReal)
  dS : ∀ (g : Fin 8) (w : Fin 256) q, (o.2.2.2.2.2 : FVec Ideal S2048x128 .f32) (ix2 (⟨g.val * 256 + w.val, by omega⟩ : Fin 2048) q) = (D.dSat g (n + 1) w q : EReal)

variable {D m c}

theorem left_of_written {o : Outs} {b : Blocks Ideal} {n : ℕ} (W : Written o b) (R : ReadsAll b (D.chunk n) (anAt D n) (apAt D n)) : Left D o n where
  dx g l w := W.dconv _ _ (at_dx R g l w)
  dB g l w := W.dconv _ _ (at_dB R g l w)
  dC g l w := W.dconv _ _ (at_dC R g l w)
  dz g l w := W.dproj _ _ (at_dz R g l w)
  ddt g l h := W.ddt _ _ (at_ddt R g l h)
  dp g r h := (W.dp _ _ (at_dp R g r h)).trans (congrArg (fun a : ℝ => (a : EReal)) (Finset.sum_range_succ (fun k => dpar (D.chunk k g) r h) n).symm)
  dnw g w := (W.dnw _ _ (at_dnw R g w)).trans (congrArg (fun a : ℝ => (a : EReal)) (Finset.sum_range_succ (fun k => (D.chunk k g).dnw w) n).symm)
  dS g w q := W.dS _ _ (at_dS R g w q)

theorem pay4_zero (y : S8x3x4.Idx) : (k0_pay4 (F := Ideal) : FVec Ideal S8x3x4 .f32) y = ((0 : ℝ) : EReal) := by
  rw [EReal.coe_zero]; pointwise [k0_pay4]
theorem pay5_zero (y : S8x1x256.Idx) : (k0_pay5 (F := Ideal) : FVec Ideal S8x1x256 .f32) y = ((0 : ℝ) : EReal) := by
  rw [EReal.coe_zero]; pointwise [k0_pay5]
theorem pay3_zero (y : S2048x128.Idx) : (k0_pay3 (F := Ideal) : FVec Ideal S2048x128 .f32) y = ((0 : ℝ) : EReal) := by
  rw [EReal.coe_zero]; pointwise [k0_pay3]

/-- Every point leaves what the trips so far give. -/
theorem left_at (A : Args D m c) : ∀ (n : ℕ) (hn : n < cfg0.N), Left D (outsAt0 m c n hn) n
  | 0, hn => by
    have h0 : (⟨0, hn⟩ : Fin cfg0.N).val % 32 = 0 := Nat.zero_mod _
    refine left_of_written (writtenA m c ⟨0, hn⟩ h0) (Holds.all (holds_at A ⟨0, hn⟩ _ _ _ _ _ ?_ ?_ ?_))
    · exact fun g r h => pay4_zero _
    · exact fun g w => pay5_zero _
    · exact fun g w q => pay3_zero _
  | n + 1, hn => by
    have hN : n + 1 < 32 := hn
    have h0 : ¬(⟨n + 1, hn⟩ : Fin cfg0.N).val % 32 = 0 := by
      show ¬(n + 1) % 32 = 0
      omega
    have ih := left_at A n (Nat.lt_of_succ_lt hn)
    refine left_of_written (writtenB m c ⟨n + 1, hn⟩ h0) (Holds.all (holds_at A ⟨n + 1, hn⟩ _ _ _ _ _ ?_ ?_ ?_))
    · exact fun g r h => ih.dp g r h
    · exact fun g w => ih.dnw g w
    · exact fun g w q => ih.dS g w q

end Cert.KernelIdeal.Group

end
-- ==== Proof.Arrays.lean ====
/- The kernel's output arrays, over the real numbers. -/
module

public import proofs.«01_k».proof.Proof.Step

@[expose] public section

set_option maxRecDepth 16384

noncomputable section

namespace Cert.KernelIdeal.Group

open Cert.Ssd Cert.KernelIdeal Cert.KernelIdeal.Gen Idealize.ShloMosaic.StableHlo
open Idealize.ShloMosaic Idealize.ShloMosaic.TcCoe Idealize.SL.Sem

variable (m : (ℓ : Loc nD τ sig) → Buf (Elt Ideal) ℓ) (c : Dev nD)

theorem idx10 : ∀ t : Fin grid0.N, win0_10.index t = ![31 - t.val, 0] := by decide +kernel
theorem idx11 : ∀ t : Fin grid0.N, win0_11.index t = ![31 - t.val, 0] := by decide +kernel
theorem idx12 : ∀ t : Fin grid0.N, win0_12.index t = ![0, 31 - t.val, 0] := by decide +kernel
theorem idx13 : ∀ t : Fin grid0.N, win0_13.index t = ![0, 0, 0] := by decide +kernel
theorem idx14 : ∀ t : Fin grid0.N, win0_14.index t = ![0, 0, 0] := by decide +kernel

/-- The point that handles chunk `q`. -/
abbrev pt (q : Fin 32) : Fin cfg0.N := ⟨31 - q.val, (by omega : 31 - q.val < 32)⟩

theorem array10 (q : Fin 32) (l : Fin 128) (w : Fin 4096) :
    ((dats m 0 c).arrAt 10 cfg0.N : FVec Ideal S4096x8192 .bf16) (ix2 (tok q l) (⟨w.val, by omega⟩ : Fin 8192))
      = ((outsAt0 m c (31 - q.val) (pt q).isLt).1 : FVec Ideal S128x4096 .bf16) (ix2 l w) := by
  have h := congrFun (Value.blocks10 m c (pt q) (flush0_10 (pt q))) (ix2 l w)
  rw [Value.flushed10] at h
  refine Eq.trans ?_ (h.trans ?_)
  · blk_ext [idx10, tok]
  · rfl

theorem array11 (q : Fin 32) (l : Fin 128) (w : Fin 2048) :
    ((dats m 0 c).arrAt 11 cfg0.N : FVec Ideal S4096x14336 .bf16) (ix2 (tok q l) (⟨w.val, by omega⟩ : Fin 14336))
      = ((outsAt0 m c (31 - q.val) (pt q).isLt).2.1 : FVec Ideal S128x2048 .bf16) (ix2 l w) := by
  have h := congrFun (Value.blocks11 m c (pt q) (flush0_11 (pt q))) (ix2 l w)
  rw [Value.flushed11] at h
  refine Eq.trans ?_ (h.trans ?_)
  · blk_ext [idx11, tok]
  · rfl

theorem array12 (q : Fin 32) (g : Fin 8) (l : Fin 128) (w : Fin 4) :
    ((dats m 0 c).arrAt 12 cfg0.N : FVec Ideal S8x4096x4 .f32) (ix3 g (tok q l) w)
      = ((outsAt0 m c (31 - q.val) (pt q).isLt).2.2.1 : FVec Ideal S8x128x4 .f32) (ix3 g l w) := by
  have h := congrFun (Value.blocks12 m c (pt q) (flush0_12 (pt q))) (ix3 g l w)
  rw [Value.flushed12] at h
  refine Eq.trans ?_ (h.trans ?_)
  · blk_ext [idx12, tok]
  · rfl

/-- The last point. -/
abbrev last : Fin cfg0.N := ⟨31, (by omega : 31 < 32)⟩

theorem array13 : (dats m 0 c).arrAt 13 cfg0.N = (outsAt0 m c 31 last.isLt).2.2.2.1 := by
  refine (dats m 0 c).arrAt_eq_of_after_last 13 last (by decide +kernel) _ fun j => ?_
  rw [after0_13]
  blk_simp
  rfl

theorem array14 : (dats m 0 c).arrAt 14 cfg0.N = (outsAt0 m c 31 last.isLt).2.2.2.2.1 := by
  refine (dats m 0 c).arrAt_eq_of_after_last 14 last (by decide +kernel) _ fun j => ?_
  rw [after0_14]
  blk_simp
  rfl

theorem rest10 (r : Fin 4096) (w : Fin 8192) (hw : 4096 ≤ w.val) :
    ((dats m 0 c).arrAt 10 cfg0.N : FVec Ideal S4096x8192 .bf16) (ix2 r w) = (m ((c.tc : Thread nD τ).loc main_arg11) : FVec Ideal S4096x8192 .bf16) (ix2 r w) := by
  refine (Value.entry10 m c (ix2 r w) fun t _ h => ?_).trans ?_
  · mem_blk [idx10] at h
    have := h.2.2
    exact absurd this (Nat.not_lt.mpr hw)
  · show (V m c main_v10_0 : FVec Ideal S4096x8192 .bf16) (ix2 r w) = _
    simp only [V, hostOps0]
    after_reads_at
    rfl

theorem rest11 (r : Fin 4096) (w : Fin 14336) (hw : 2048 ≤ w.val) :
    ((dats m 0 c).arrAt 11 cfg0.N : FVec Ideal S4096x14336 .bf16) (ix2 r w) = (m ((c.tc : Thread nD τ).loc main_arg10) : FVec Ideal S4096x14336 .bf16) (ix2 r w) := by
  refine (Value.entry11 m c (ix2 r w) fun t _ h => ?_).trans ?_
  · mem_blk [idx11] at h
    have := h.2.2
    exact absurd this (Nat.not_lt.mpr hw)
  · show (V m c main_v10_1 : FVec Ideal S4096x14336 .bf16) (ix2 r w) = _
    simp only [V, hostOps0]
    after_reads_at
    rfl

end Cert.KernelIdeal.Group

end
-- ==== Proof.RefChunk.lean ====
/- One trip of the reference's loop over the real numbers: each value of the trip at an index, from the values the trip
   reads. -/
module

public import proofs.«01_k».proof.Proof.Gen.ReferenceIdeal.Run
public import proofs.«01_k».proof.Proof.Scalars
public import proofs.«01_k».proof.Proof.Sums
public import Idealize.ShloMosaic.Lib.Tactic.CleanTypes

@[expose] public section

set_option maxRecDepth 16384

noncomputable section

namespace Cert.ReferenceIdeal.Chunk

open Cert.ReferenceIdeal Cert.ReferenceIdeal.Gen Cert.ReferenceIdeal.Value Cert.Ssd
open Idealize.ShloMosaic Idealize.ShloMosaic.TcCoe Idealize.SL.Sem
open Finset (univ_unique sum_singleton)
open Fin (default_eq_zero)

variable {F : FTy → Type} [FloatOps F]

/-- The chunk of the saved outputs that the trip reads. -/
def yin (V0 : Valuation τ sig (Elt F)) : FVec F S128x8x4x64 .f32 :=
  shapeCast S128x8x4x64 (Host.dynamicSlice S1x128x8x4x64 (V0 (Proc.devRef .tc main_v30_6)) (fun k => (((![res_main_while0b_v50 V0, constantI S_ 32 0#32, constantI S_ 32 0#32, constantI S_ 32 0#32, constantI S_ 32 0#32] : Fin 5 → (⟨S_, .i32⟩ : BufTy).Contents (Elt F))) k (Shape.Idx.first h_S_)).toInt) sliceFits_S32x128x8x4x64_S1x128x8x4x64) shapeCasts_S1x128x8x4x64_S128x8x4x64

/-- The chunk of the steps that the trip reads. -/
def dtin (V0 : Valuation τ sig (Elt F)) : FVec F S128x8x4 .f32 :=
  shapeCast S128x8x4 (Host.dynamicSlice S1x128x8x4 (V0 (Proc.devRef .tc main_v30_2)) (fun k => (((![res_main_while0b_v50 V0, constantI S_ 32 0#32, constantI S_ 32 0#32, constantI S_ 32 0#32] : Fin 4 → (⟨S_, .i32⟩ : BufTy).Contents (Elt F))) k (Shape.Idx.first h_S_)).toInt) sliceFits_S32x128x8x4_S1x128x8x4) shapeCasts_S1x128x8x4_S128x8x4

variable (V0 : Valuation τ sig (Elt Ideal)) (I : Fin 8 → In)

/-- The trip reads the chunk `I`. -/
structure Reads : Prop where
  S0 : ∀ g h p n, (res_main_while0b_v51 V0 : FVec Ideal S8x4x64x128 .f32) (ix4 g h p n) = ((I g).S0 (hp h p) n : EReal)
  x : ∀ l g h p, (res_main_while0b_v52 V0 : FVec Ideal S128x8x4x64 .f32) (ix4 l g h p) = ((I g).x l (hp h p) : EReal)
  B : ∀ l g n, (res_main_while0b_v54 V0 : FVec Ideal S128x8x128 .f32) (ix3 l g n) = ((I g).B l n : EReal)
  C : ∀ l g n, (res_main_while0b_v55 V0 : FVec Ideal S128x8x128 .f32) (ix3 l g n) = ((I g).C l n : EReal)
  z : ∀ l g w, (res_main_while0b_v56 V0 : FVec Ideal S128x8x256 .f32) (ix3 l g w) = ((I g).z l w : EReal)
  dyn : ∀ l g w, (res_main_while0b_v58 V0 : FVec Ideal S128x8x256 .f32) (ix3 l g w) = ((I g).dyn l w : EReal)
  y : ∀ l g h p, yin V0 (ix4 l g h p) = ((I g).y l (hp h p) : EReal)
  dt : ∀ l g h, dtin V0 (ix3 l g h) = ((I g).dt l h : EReal)
  skip : ∀ g h, (V0 (Proc.devRef .tc main_v30_8) : FVec Ideal S8x4 .f32) (ix2 g h) = ((I g).skip h : EReal)
  nw : ∀ g w, (V0 (Proc.devRef .tc main_v30_9) : FVec Ideal S8x256 .f32) (ix2 g w) = ((I g).nw w : EReal)
  bias : ∀ g h, (V0 (Proc.devRef .tc main_v30_10) : FVec Ideal S8x4 .f32) (ix2 g h) = ((I g).bias h : EReal)
  alog : ∀ g h, (V0 (Proc.devRef .tc main_v30_11) : FVec Ideal S8x4 .f32) (ix2 g h) = ((I g).alog h : EReal)
  dS : ∀ g h p n, (V0 (Proc.devRef .tc main_v30_13) : FVec Ideal S8x4x64x128 .f32) (ix4 g h p n) = ((I g).dS (hp h p) n : EReal)

variable {V0 I} (H : Reads V0 I)
include H

omit H in
theorem lane (w : Fin 256) (h2 : w.val % 64 < 64) : hp (hd w) ⟨w.val % 64, h2⟩ = w := hp_hd w _ _ rfl rfl
omit H in
theorem head (w : Fin 256) (h1 : w.val / 64 < 4) : (⟨w.val / 64, h1⟩ : Fin 4) = hd w := rfl
omit H in
theorem lane' (h : Fin 4) (p : Fin 64) (h1 : h.val * 64 + p.val < 256) : (⟨h.val * 64 + p.val, h1⟩ : Fin 256) = hp h p := rfl
omit H in
theorem keep (l s : Fin 128) (a b : EReal) :
    Scalar.select (Scalar.select (IntOp.cmpi .sge (IntOp.addi (BitVec.ofNat 32 l) 0#32) (BitVec.ofNat 32 s)) 1#1 0#1) a b
      = if s ≤ l then a else b := by
  have h : IntOp.cmpi .sge (IntOp.addi (BitVec.ofNat 32 l) 0#32) (BitVec.ofNat 32 s)
      = BitVec.ofBool (decide (s ≤ l)) := by
    simp only [IntOp.cmpi, IntOp.addi, BitVec.add_zero, BitVec.sle_eq_decide]
    congr 2
    have e (k : Fin 128) : (BitVec.ofNat 32 k).toInt = (k : ℕ) := by
      have hk := k.isLt
      have hn : (BitVec.ofNat 32 k).toNat = k := by rw [BitVec.toNat_ofNat]; omega
      rw [BitVec.toInt_eq_toNat_of_lt (by omega), hn]
    rw [e, e]; simp
  rw [h]
  by_cases hc : s ≤ l <;> simp [hc, Scalar.select]
omit H in
theorem zero_add' (t : ℝ) : (0 : EReal) + (t : EReal) = (t : EReal) := zero_add _

theorem e60 (g : Fin 8) (h : Fin 4) :
    (res_main_while0b_v60 V0 : FVec Ideal S1x8x4x1 .f32) (ix4 0 g h 0) = (((I g).skip h : ℝ) : EReal) := by
  unfold res_main_while0b_v60; clean_types; pointwise; exact H.skip g h

theorem e64 (l : Fin 128) (g : Fin 8) (w : Fin 256) :
    (res_main_while0b_v64 V0 : FVec Ideal S128x8x256 .f32) (ix3 l g w) = ((I g).y1 l w : EReal) := by
  change shapeCast S128x8x256 (addf (yin V0) (mulf (broadcastInDim S128x8x4x64 ![0, 1, 2, 3] bcast_S1x8x4x1_S128x8x4x64_0_1_2_3 (res_main_while0b_v60 V0)) (res_main_while0b_v52 V0))) shapeCasts_S128x8x4x64_S128x8x256 (ix3 l g w) = _
  pointwise
  simp only [H.y, H.x, e60 H, head, lane, ← cmul, ← cadd, ← csub, ← cneg, ← coe_sum, Ideal.exp_coe, zero_add, univ_unique, sum_singleton]
  rfl

theorem e652 (l : Fin 128) (g : Fin 8) (w : Fin 256) :
    (res_main_while0b_v65_2 V0 : FVec Ideal S128x8x256 .f32) (ix3 l g w) = ((sg ((I g).z l w) : ℝ) : EReal) := by
  unfold res_main_while0b_v65_2; clean_types; pointwise
  simp only [H.z]
  exact logistic_real _

theorem e650 (l : Fin 128) (g : Fin 8) (w : Fin 256) :
    (res_main_while0b_v65_0 V0 : FVec Ideal S128x8x256 .f32) (ix3 l g w) = (((I g).sz l w : ℝ) : EReal) := by
  unfold res_main_while0b_v65_0; clean_types; pointwise
  simp only [H.z, e652 H, ← cmul, ← cadd, ← csub, ← cneg, ← coe_sum, Ideal.exp_coe, zero_add, univ_unique, sum_singleton]
  rfl

theorem e66 (l : Fin 128) (g : Fin 8) (w : Fin 256) :
    (res_main_while0b_v66 V0 : FVec Ideal S128x8x256 .f32) (ix3 l g w) = (((I g).y2 l w : ℝ) : EReal) := by
  unfold res_main_while0b_v66; clean_types; pointwise
  simp only [e64 H, e650 H, ← cmul, ← cadd, ← csub, ← cneg, ← coe_sum, Ideal.exp_coe, zero_add, univ_unique, sum_singleton]
  rfl

theorem e73 (l : Fin 128) (g : Fin 8) :
    (res_main_while0b_v73 V0 : FVec Ideal S128x8x1 .f32) (ix3 l g 0) = (((I g).ms l : ℝ) : EReal) := by
  unfold res_main_while0b_v73; clean_types; pointwise
  simp only [e66 H, word_256, word_eps, div_256, ← cmul, ← cadd, ← csub, ← cneg, ← coe_sum, Ideal.exp_coe, zero_add, univ_unique, sum_singleton]
  rfl

theorem e74 (l : Fin 128) (g : Fin 8) :
    (res_main_while0b_v74 V0 : FVec Ideal S128x8x1 .f32) (ix3 l g 0) = (((I g).r l : ℝ) : EReal) := by
  unfold res_main_while0b_v74; clean_types; pointwise
  rw [e73 H, rsqrt_real ((I g).ms_pos l)]
  rfl

theorem e79 (l : Fin 128) (g : Fin 8) (w : Fin 256) :
    (res_main_while0b_v79 V0 : FVec Ideal S128x8x256 .f32) (ix3 l g w) = (((I g).y2h l w : ℝ) : EReal) := by
  unfold res_main_while0b_v79; clean_types; pointwise
  simp only [e66 H, e74 H, ← cmul, ← cadd, ← csub, ← cneg, ← coe_sum, Ideal.exp_coe, zero_add, univ_unique, sum_singleton]
  rfl

theorem e80 (g : Fin 8) (w : Fin 256) :
    (res_main_while0b_v80 V0 : FVec Ideal S1x8x256 .f32) (ix3 0 g w) = (((I g).nw w : ℝ) : EReal) := by
  unfold res_main_while0b_v80; clean_types; pointwise; exact H.nw g w

theorem e87 (l : Fin 128) (g : Fin 8) (w : Fin 256) :
    (res_main_while0b_v87 V0 : FVec Ideal S128x8x256 .f32) (ix3 l g w) = (((I g).dyh l w : ℝ) : EReal) := by
  unfold res_main_while0b_v87; clean_types; pointwise
  simp only [H.dyn, e80 H, ← cmul, ← cadd, ← csub, ← cneg, ← coe_sum, Ideal.exp_coe, zero_add, univ_unique, sum_singleton]
  rfl

theorem e98 (l : Fin 128) (g : Fin 8) (w : Fin 256) :
    (res_main_while0b_v98 V0 : FVec Ideal S128x8x256 .f32) (ix3 l g w) = ((-(1 / 2) * ((∑ w, (I g).y2 l w * (I g).dyh l w) * ((I g).r l / (I g).ms l) / 256) : ℝ) : EReal) := by
  unfold res_main_while0b_v98; clean_types; pointwise
  have hm := ((I g).ms_pos l).ne'
  simp only [e66 H, e87 H, e74 H, e73 H, word_neg_half, word_256, div_real _ hm, div_256, ← cmul, ← cadd, ← csub, ← cneg, ← coe_sum, Ideal.exp_coe, zero_add, univ_unique, sum_singleton, default_eq_zero, Fin.isValue]
  congr 1; ring

theorem e102 (l : Fin 128) (g : Fin 8) (w : Fin 256) :
    (res_main_while0b_v102 V0 : FVec Ideal S128x8x256 .f32) (ix3 l g w) = (((I g).dy2 l w : ℝ) : EReal) := by
  unfold res_main_while0b_v102; clean_types; pointwise
  simp only [e66 H, e87 H, e74 H, e98 H, ← cmul, ← cadd, ← csub, ← cneg, ← coe_sum, Ideal.exp_coe, zero_add, univ_unique, sum_singleton]
  congr 1
  have hr : (I g).r l / (I g).ms l = (I g).r l * ((I g).r l * (I g).r l) := by rw [(I g).r_sq l]; rfl
  have hs : ∑ w, (I g).dyh l w * (I g).y2h l w = (∑ w, (I g).y2 l w * (I g).dyh l w) * (I g).r l := by
    rw [Finset.sum_mul]; refine Finset.sum_congr rfl fun w _ => ?_; unfold In.y2h; ring
  unfold In.dy2 In.mm; rw [hs, hr]; unfold In.y2h; ring

theorem e103 (l : Fin 128) (g : Fin 8) (w : Fin 256) :
    (res_main_while0b_v103 V0 : FVec Ideal S128x8x256 .f32) (ix3 l g w) = (((I g).y1 l w * (I g).dy2 l w : ℝ) : EReal) := by
  unfold res_main_while0b_v103; clean_types; pointwise
  simp only [e64 H, e102 H, ← cmul, ← cadd, ← csub, ← cneg, ← coe_sum, Ideal.exp_coe, zero_add, univ_unique, sum_singleton]

theorem e106 (l : Fin 128) (g : Fin 8) (h : Fin 4) (p : Fin 64) :
    (res_main_while0b_v106 V0 : FVec Ideal S128x8x4x64 .f32) (ix4 l g h p) = (((I g).dY l (hp h p) : ℝ) : EReal) := by
  unfold res_main_while0b_v106; clean_types; pointwise
  simp only [e102 H, e650 H, lane', ← cmul, ← cadd, ← csub, ← cneg, ← coe_sum, Ideal.exp_coe, zero_add, univ_unique, sum_singleton]
  rfl

theorem e117 (l : Fin 128) (g : Fin 8) (h : Fin 4) :
    (res_main_while0b_v117 V0 : FVec Ideal S128x8x4 .f32) (ix3 l g h) = ((I g).dtr l h : EReal) := by
  change addf (dtin V0) (broadcastInDim S128x8x4 ![0, 1, 2] bcast_S1x8x4_S128x8x4_0_1_2 (broadcastInDim S1x8x4 ![1, 2] bcast_S8x4_S1x8x4_1_2 (V0 (Proc.devRef .tc main_v30_10)))) (ix3 l g h) = _
  pointwise
  simp only [H.dt, H.bias, ← cmul, ← cadd, ← csub, ← cneg, ← coe_sum, Ideal.exp_coe, zero_add, univ_unique, sum_singleton]
  rfl

theorem e118 (l : Fin 128) (g : Fin 8) (h : Fin 4) :
    (res_main_while0b_v118_0 V0 : FVec Ideal S128x8x4 .f32) (ix3 l g h) = (((I g).sp l h : ℝ) : EReal) := by
  unfold res_main_while0b_v118_0 res_main_while0b_call10_v3 res_main_while0b_call10_cst; clean_types; pointwise
  simp only [e117 H, ne_eq, not_true_eq_false, if_false]
  exact softplus_ereal _

theorem e119 (g : Fin 8) (h : Fin 4) :
    (res_main_while0b_v119 V0 : FVec Ideal S8x4 .f32) (ix2 g h) = ((Real.exp ((I g).alog h) : ℝ) : EReal) := by
  unfold res_main_while0b_v119; clean_types; pointwise
  rw [H.alog, Ideal.exp_coe]

theorem e121 (l : Fin 128) (g : Fin 8) (h : Fin 4) :
    (res_main_while0b_v121 V0 : FVec Ideal S128x8x4x1 .f32) (ix4 l g h 0) = (((I g).sp l h : ℝ) : EReal) := by
  unfold res_main_while0b_v121; clean_types; pointwise
  simp only [e118 H, ← cmul, ← cadd, ← csub, ← cneg, ← coe_sum, Ideal.exp_coe, zero_add, univ_unique, sum_singleton]

theorem e123 (l : Fin 128) (g : Fin 8) (h : Fin 4) (p : Fin 64) :
    (res_main_while0b_v123 V0 : FVec Ideal S128x8x4x64 .f32) (ix4 l g h p) = (((I g).X l (hp h p) : ℝ) : EReal) := by
  unfold res_main_while0b_v123; clean_types; pointwise
  simp only [H.x, e121 H, ← cmul, ← cadd, ← csub, ← cneg, ← coe_sum, Ideal.exp_coe, zero_add, univ_unique, sum_singleton]
  unfold In.X; rw [hd_hp]

theorem e127 (g : Fin 8) (h : Fin 4) :
    (res_main_while0b_v127 V0 : FVec Ideal S1x8x4 .f32) (ix3 0 g h) = (((I g).A h : ℝ) : EReal) := by
  unfold res_main_while0b_v127; clean_types; pointwise
  simp only [e119 H, ← cmul, ← cadd, ← csub, ← cneg, ← coe_sum, Ideal.exp_coe, zero_add, univ_unique, sum_singleton]
  rfl

theorem e130 (l : Fin 128) (g : Fin 8) (h : Fin 4) :
    (res_main_while0b_v130 V0 : FVec Ideal S128x8x4 .f32) (ix3 l g h) = ((I g).acum l h : EReal) := by
  unfold res_main_while0b_v130; clean_types
  refine Eq.trans (running_low _ _ ?_ reduceWindows_S128x8x4_S128x8x4_w128s1p127_0_w1s1p0_0_w1s1p0_0 l g h) ?_
  · pointwise
  · pointwise
    simp only [e118 H, e127 H, ← cmul, ← cadd, ← csub, ← cneg, ← coe_sum, Ideal.exp_coe, zero_add, univ_unique, sum_singleton]
    unfold In.acum
    rw [coe_sum]
    refine Finset.sum_congr rfl fun s _ => ?_
    split
    · rfl
    · rfl

theorem e137 (l s : Fin 128) (g : Fin 8) (h : Fin 4) :
    (res_main_while0b_v137 V0 : FVec Ideal S128x128x8x4 .f32) (ix4 l s g h) = ((I g).dec l s h : EReal) := by
  unfold res_main_while0b_v137 res_main_while0b_v136_1; clean_types; pointwise
  simp only [e130 H, keep, ← cmul, ← cadd, ← csub, ← cneg, ← coe_sum, Ideal.exp_coe, zero_add, univ_unique, sum_singleton]
  unfold In.dec
  split
  · rw [Ideal.exp_coe]
  · change Ideal.exp (Ideal.ofBits .f32 0xFF800000#32) = _
    rw [word_bot, EReal.coe_zero]; rfl

theorem e140 (l : Fin 128) (s : Fin 128) (g : Fin 8) :
    (res_main_while0b_v140 V0 : FVec Ideal S128x128x8x1 .f32) (ix4 l s g 0) = (((I g).CB l s : ℝ) : EReal) := by
  unfold res_main_while0b_v140; clean_types; pointwise
  simp only [H.B, H.C, ← cmul, ← cadd, ← csub, ← cneg, ← coe_sum, Ideal.exp_coe, zero_add, univ_unique, sum_singleton]
  refine congrArg _ (Finset.sum_congr rfl fun _ _ => mul_comm _ _)

theorem e142 (l : Fin 128) (s : Fin 128) (g : Fin 8) (h : Fin 4) :
    (res_main_while0b_v142 V0 : FVec Ideal S128x128x8x4 .f32) (ix4 l s g h) = (((I g).CB l s * (I g).dec l s h : ℝ) : EReal) := by
  unfold res_main_while0b_v142; clean_types; pointwise
  simp only [e140 H, e137 H, ← cmul, ← cadd, ← csub, ← cneg, ← coe_sum, Ideal.exp_coe, zero_add, univ_unique, sum_singleton]

theorem e146 (l : Fin 128) (g : Fin 8) (h : Fin 4) (p : Fin 64) :
    (res_main_while0b_v146 V0 : FVec Ideal S128x8x4x64 .f32) (ix4 l g h p) = (((I g).CS l (hp h p) : ℝ) : EReal) := by
  unfold res_main_while0b_v146; clean_types; pointwise
  simp only [H.S0, H.C, ← cmul, ← cadd, ← csub, ← cneg, ← coe_sum, Ideal.exp_coe, zero_add, univ_unique, sum_singleton]
  refine congrArg _ (Finset.sum_congr rfl fun _ _ => mul_comm _ _)

theorem e147 (l : Fin 128) (g : Fin 8) (h : Fin 4) :
    (res_main_while0b_v147 V0 : FVec Ideal S128x8x4 .f32) (ix3 l g h) = (((I g).eac l h : ℝ) : EReal) := by
  unfold res_main_while0b_v147; clean_types; pointwise
  simp only [e130 H, ← cmul, ← cadd, ← csub, ← cneg, ← coe_sum, Ideal.exp_coe, zero_add, univ_unique, sum_singleton]
  rfl

theorem e148 (l : Fin 128) (g : Fin 8) (h : Fin 4) :
    (res_main_while0b_v148 V0 : FVec Ideal S128x8x4x1 .f32) (ix4 l g h 0) = (((I g).eac l h : ℝ) : EReal) := by
  unfold res_main_while0b_v148; clean_types; pointwise; exact e147 H l g h

theorem e152 (g : Fin 8) (h : Fin 4) :
    (res_main_while0b_v152 V0 : FVec Ideal S8x4 .f32) (ix2 g h) = (((I g).acum 127 h : ℝ) : EReal) := by
  unfold res_main_while0b_v152; clean_types; pointwise
  simp only [e130 H, ← cmul, ← cadd, ← csub, ← cneg, ← coe_sum, Ideal.exp_coe, zero_add, univ_unique, sum_singleton]

theorem e156 (l : Fin 128) (g : Fin 8) (h : Fin 4) :
    (res_main_while0b_v156 V0 : FVec Ideal S128x8x4 .f32) (ix3 l g h) = (((I g).wdec l h : ℝ) : EReal) := by
  unfold res_main_while0b_v156; clean_types; pointwise
  simp only [e130 H, e152 H, ← cmul, ← cadd, ← csub, ← cneg, ← coe_sum, Ideal.exp_coe, zero_add, univ_unique, sum_singleton]
  rfl

theorem e157 (g : Fin 8) (h : Fin 4) :
    (res_main_while0b_v157 V0 : FVec Ideal S8x4 .f32) (ix2 g h) = (((I g).ea h : ℝ) : EReal) := by
  unfold res_main_while0b_v157; clean_types; pointwise
  simp only [e152 H, ← cmul, ← cadd, ← csub, ← cneg, ← coe_sum, Ideal.exp_coe, zero_add, univ_unique, sum_singleton]
  rfl

theorem e158 (g : Fin 8) (h : Fin 4) :
    (res_main_while0b_v158 V0 : FVec Ideal S8x4x1x1 .f32) (ix4 g h 0 0) = (((I g).ea h : ℝ) : EReal) := by
  unfold res_main_while0b_v158; clean_types; pointwise; exact e157 H g h

theorem e161 (l : Fin 128) (g : Fin 8) (h : Fin 4) :
    (res_main_while0b_v161 V0 : FVec Ideal S128x8x4x1 .f32) (ix4 l g h 0) = (((I g).wdec l h : ℝ) : EReal) := by
  unfold res_main_while0b_v161; clean_types; pointwise; exact e156 H l g h

theorem e163 (l : Fin 128) (g : Fin 8) (h : Fin 4) (p : Fin 64) :
    (res_main_while0b_v163 V0 : FVec Ideal S128x8x4x64 .f32) (ix4 l g h p) = (((I g).wdec l h * (I g).X l (hp h p) : ℝ) : EReal) := by
  unfold res_main_while0b_v163; clean_types; pointwise
  simp only [e161 H, e123 H, ← cmul, ← cadd, ← csub, ← cneg, ← coe_sum, Ideal.exp_coe, zero_add, univ_unique, sum_singleton]

theorem e170 (l : Fin 128) (g : Fin 8) (h : Fin 4) (p : Fin 64) :
    (res_main_while0b_v170 V0 : FVec Ideal S128x8x4x64 .f32) (ix4 l g h p) = (((I g).BdS l (hp h p) : ℝ) : EReal) := by
  unfold res_main_while0b_v170; clean_types; pointwise
  simp only [H.dS, H.B, ← cmul, ← cadd, ← csub, ← cneg, ← coe_sum, Ideal.exp_coe, zero_add, univ_unique, sum_singleton]
  refine congrArg _ (Finset.sum_congr rfl fun _ _ => mul_comm _ _)

theorem e184 (l : Fin 128) (g : Fin 8) (h : Fin 4) :
    (res_main_while0b_v184 V0 : FVec Ideal S128x8x4 .f32) (ix3 l g h) = ((∑ p, (I g).X l (hp h p) * (I g).dXs l (hp h p) : ℝ) : EReal) := by
  unfold res_main_while0b_v184; clean_types; pointwise
  simp only [e170 H, e123 H, e156 H, ← cmul, ← cadd, ← csub, ← cneg, ← coe_sum, Ideal.exp_coe, zero_add, univ_unique, sum_singleton]
  congr 1
  rw [Finset.sum_mul]; refine Finset.sum_congr rfl fun _ _ => ?_; unfold In.dXs; rw [hd_hp]; ring

theorem e201 (g : Fin 8) (h : Fin 4) (p : Fin 64) (l : Fin 128) :
    (res_main_while0b_v201 V0 : FVec Ideal S8x4x64x128 .f32) (ix4 g h p l) = (((I g).dYe l (hp h p) : ℝ) : EReal) := by
  unfold res_main_while0b_v201; clean_types; pointwise
  simp only [e106 H, e148 H, ← cmul, ← cadd, ← csub, ← cneg, ← coe_sum, Ideal.exp_coe, zero_add, univ_unique, sum_singleton]
  unfold In.dYe; rw [hd_hp]

theorem e206 (g : Fin 8) (h : Fin 4) (p : Fin 64) (l : Fin 128) :
    (res_main_while0b_v206 V0 : FVec Ideal S8x4x64x128 .f32) (ix4 g h p l) = (((I g).dY l (hp h p) : ℝ) : EReal) := by
  unfold res_main_while0b_v206; clean_types; pointwise; exact e106 H l g h p

theorem e208 (l : Fin 128) (s : Fin 128) (g : Fin 8) (h : Fin 4) :
    (res_main_while0b_v208 V0 : FVec Ideal S128x128x8x4 .f32) (ix4 l s g h) = (((I g).G l s h : ℝ) : EReal) := by
  unfold res_main_while0b_v208; clean_types; pointwise
  simp only [e206 H, e123 H, ← cmul, ← cadd, ← csub, ← cneg, ← coe_sum, Ideal.exp_coe, zero_add, univ_unique, sum_singleton]
  rfl

theorem e211 (l : Fin 128) (g : Fin 8) (h : Fin 4) (p : Fin 64) :
    (res_main_while0b_v211 V0 : FVec Ideal S128x8x4x64 .f32) (ix4 l g h p) = (((I g).dX l (hp h p) : ℝ) : EReal) := by
  unfold res_main_while0b_v211; clean_types; pointwise
  simp only [e161 H, e170 H, e206 H, e142 H, ← cmul, ← cadd, ← csub, ← cneg, ← coe_sum, Ideal.exp_coe, zero_add, univ_unique, sum_singleton]
  congr 1
  unfold In.dX In.dXs; simp only [hd_hp]
  rw [add_comm, mul_comm]; congr 1; refine Finset.sum_congr rfl fun _ _ => ?_; ring

theorem e218 (g : Fin 8) (s : Fin 128) (l : Fin 128) :
    (res_main_while0b_v218 V0 : FVec Ideal S8x128x128 .f32) (ix3 g s l) = (((I g).dCB l s : ℝ) : EReal) := by
  unfold res_main_while0b_v218; clean_types; pointwise
  simp only [e208 H, e137 H, ← cmul, ← cadd, ← csub, ← cneg, ← coe_sum, Ideal.exp_coe, zero_add, univ_unique, sum_singleton]
  rfl

theorem e226 (l : Fin 128) (s : Fin 128) (g : Fin 8) (h : Fin 4) :
    (res_main_while0b_v226 V0 : FVec Ideal S128x128x8x4 .f32) (ix4 l s g h) = (((I g).CB l s * (I g).gd l s h : ℝ) : EReal) := by
  unfold res_main_while0b_v226 res_main_while0b_v136_1; clean_types; pointwise
  simp only [e140 H, e208 H, e137 H, keep, ← cmul, ← cadd, ← csub, ← cneg, ← coe_sum, Ideal.exp_coe, zero_add, univ_unique, sum_singleton]
  unfold In.gd In.dec
  split
  · congr 1; ring
  · simp

theorem e236 (l : Fin 128) (g : Fin 8) (h : Fin 4) :
    (res_main_while0b_v236 V0 : FVec Ideal S128x8x4 .f32) (ix3 l g h) = (((I g).da l h : ℝ) : EReal) := by
  unfold res_main_while0b_v236; clean_types
  refine Eq.trans (running_high _ _ ?_ reduceWindows_S128x8x4_S128x8x4_w128s1p0_127_w1s1p0_0_w1s1p0_0 l g h) ?_
  · pointwise
  · clean_types; pointwise
    simp only [e184 H, H.S0, H.dS, e157 H, e146 H, e106 H, e147 H, e226 H, ← cmul, ← cadd, ← csub, ← cneg, ← coe_sum, Ideal.exp_coe, zero_add, univ_unique, sum_singleton]
    unfold In.da
    rw [coe_sum]
    refine Finset.sum_congr rfl fun s _ => ?_
    split
    · have e : (if h_1 : 127 ≤ s.val ∧ s.val - 127 < 1 then
          (((∑ p, ∑ n, (I g).S0 (hp h p) n * (I g).dS (hp h p) n) * (I g).ea h
            + ∑ l, ∑ p, (I g).X l (hp h p) * (I g).dXs l (hp h p) : ℝ) : EReal) else 0)
          = ((if s = 127 then (I g).tot h else 0 : ℝ) : EReal) := by
        by_cases hs : s = 127
        · subst hs; rw [dif_pos (by decide), if_pos rfl]
          congr 1; unfold In.tot; rw [add_comm]; congr 2
          refine Finset.sum_congr rfl fun _ _ => Finset.sum_congr rfl fun _ _ => mul_comm _ _
        · rw [dif_neg, if_neg hs, EReal.coe_zero]
          rintro ⟨h1, -⟩; exact hs (Fin.ext (by have := s.isLt; show s.val = 127; omega))
      rw [e]; simp only [← cadd]; congr 1
      unfold In.dacum In.q
      rw [Finset.sum_sub_distrib, Finset.sum_sub_distrib, Finset.sum_neg_distrib, Finset.sum_mul]
      have e2 : ∑ p, (I g).dY s (hp h p) * ((I g).CS s (hp h p) * (I g).eac s h)
          = ∑ p, (I g).CS s (hp h p) * (I g).dY s (hp h p) * (I g).eac s h :=
        Finset.sum_congr rfl fun _ _ => by ring
      rw [e2]; ring
    · rfl

theorem e252 (l : Fin 128) (g : Fin 8) (h : Fin 4) :
    (res_main_while0b_v252 V0 : FVec Ideal S128x8x4 .f32) (ix3 l g h) = (((I g).ddt l h : ℝ) : EReal) := by
  unfold res_main_while0b_v252; clean_types; pointwise
  simp only [e236 H, e127 H, H.x, e211 H, e117 H, e118 H, word_top, EReal.coe_ne_top, if_false, ← cmul, ← cadd, ← csub, ← cneg, ← coe_sum, Ideal.exp_coe, zero_add, univ_unique, sum_singleton]
  congr 1
  unfold In.ddt In.sp
  rw [exp_sub_softplus]
  congr 2
  refine Finset.sum_congr rfl fun _ _ => mul_comm _ _

end Cert.ReferenceIdeal.Chunk
-- ==== Proof.Rows.lean ====
/- Rows of an array: the row that a slice at a computed start reads, and the array in which a row is replaced. -/
module

public import Idealize.ShloMosaic.Lib.Pointwise

@[expose] public section

noncomputable section

namespace Cert.Ssd

open Idealize.ShloMosaic

theorem slice_at {α : Type} {s t : Shape} (x : s.Idx → α) (st : Fin s.rank → Int) (h : s.Slices (fun _ => 0) t)
    (j : t.Idx) (i : s.Idx)
    (e : ∀ a, Host.clampedStart s t h.1 st a + (j (a.cast h.1.symm)).val = (i a).val) :
    Host.dynamicSlice t x st h j = x i :=
  congrArg x (funext fun a => Fin.ext (e a))

theorem put_in {α : Type} {s u : Shape} (x : s.Idx → α) (v : u.Idx → α) (st : Fin s.rank → Int)
    (h : s.Slices (fun _ => 0) u) (i : s.Idx) (j : u.Idx)
    (e : ∀ a : Fin s.rank, (i a).val = Host.clampedStart s u h.1 st a + (j (a.cast h.1.symm)).val) :
    Host.dynamicUpdateSlice x v st h i = v j := by
  rw [Host.dynamicUpdateSlice_apply, dif_pos]
  · refine congrArg v (funext fun b => Fin.ext ?_)
    show (i (b.cast h.1)).val - Host.clampedStart s u h.1 st (b.cast h.1) = (j b).val
    have eb := e (b.cast h.1)
    have ec : (b.cast h.1).cast h.1.symm = b := rfl
    rw [ec] at eb
    omega
  · intro a
    have ea := e a
    have := (j (a.cast h.1.symm)).isLt
    omega

theorem put_out {α : Type} {s u : Shape} (x : s.Idx → α) (v : u.Idx → α) (st : Fin s.rank → Int)
    (h : s.Slices (fun _ => 0) u) (i : s.Idx) (a : Fin s.rank)
    (e : ¬ (Host.clampedStart s u h.1 st a ≤ (i a).val
      ∧ (i a).val < Host.clampedStart s u h.1 st a + u.size (a.cast h.1.symm))) :
    Host.dynamicUpdateSlice x v st h i = x i := by
  rw [Host.dynamicUpdateSlice_apply, dif_neg]
  exact fun hin => e (hin a)

theorem start5_0 {b f d e : ℕ} (st : Fin 5 → Int) (h : (⟨5, ![32, b, f, d, e]⟩ : Shape).Slices (fun _ => 0) (⟨5, ![1, b, f, d, e]⟩ : Shape)) (r : Fin 32) (h0 : st 0 = r.val):
    Host.clampedStart (⟨5, ![32, b, f, d, e]⟩ : Shape) (⟨5, ![1, b, f, d, e]⟩ : Shape) h.1 st 0 = r.val :=
  Host.clampedStart_of_le (s := (⟨5, ![32, b, f, d, e]⟩ : Shape)) (t := (⟨5, ![1, b, f, d, e]⟩ : Shape)) h.1 st 0 r.val h0 (show r.val + 1 ≤ 32 from r.isLt)
theorem start5_1 {b f d e : ℕ} (st : Fin 5 → Int) (h : (⟨5, ![32, b, f, d, e]⟩ : Shape).Slices (fun _ => 0) (⟨5, ![1, b, f, d, e]⟩ : Shape)) (hz : st 1 = 0):
    Host.clampedStart (⟨5, ![32, b, f, d, e]⟩ : Shape) (⟨5, ![1, b, f, d, e]⟩ : Shape) h.1 st 1 = 0 :=
  Host.clampedStart_of_le (s := (⟨5, ![32, b, f, d, e]⟩ : Shape)) (t := (⟨5, ![1, b, f, d, e]⟩ : Shape)) h.1 st 1 0 hz (show 0 + b ≤ b from (Nat.zero_add _).le)
theorem start5_2 {b f d e : ℕ} (st : Fin 5 → Int) (h : (⟨5, ![32, b, f, d, e]⟩ : Shape).Slices (fun _ => 0) (⟨5, ![1, b, f, d, e]⟩ : Shape)) (hz : st 2 = 0):
    Host.clampedStart (⟨5, ![32, b, f, d, e]⟩ : Shape) (⟨5, ![1, b, f, d, e]⟩ : Shape) h.1 st 2 = 0 :=
  Host.clampedStart_of_le (s := (⟨5, ![32, b, f, d, e]⟩ : Shape)) (t := (⟨5, ![1, b, f, d, e]⟩ : Shape)) h.1 st 2 0 hz (show 0 + f ≤ f from (Nat.zero_add _).le)
theorem start5_3 {b f d e : ℕ} (st : Fin 5 → Int) (h : (⟨5, ![32, b, f, d, e]⟩ : Shape).Slices (fun _ => 0) (⟨5, ![1, b, f, d, e]⟩ : Shape)) (hz : st 3 = 0):
    Host.clampedStart (⟨5, ![32, b, f, d, e]⟩ : Shape) (⟨5, ![1, b, f, d, e]⟩ : Shape) h.1 st 3 = 0 :=
  Host.clampedStart_of_le (s := (⟨5, ![32, b, f, d, e]⟩ : Shape)) (t := (⟨5, ![1, b, f, d, e]⟩ : Shape)) h.1 st 3 0 hz (show 0 + d ≤ d from (Nat.zero_add _).le)
theorem start5_4 {b f d e : ℕ} (st : Fin 5 → Int) (h : (⟨5, ![32, b, f, d, e]⟩ : Shape).Slices (fun _ => 0) (⟨5, ![1, b, f, d, e]⟩ : Shape)) (hz : st 4 = 0):
    Host.clampedStart (⟨5, ![32, b, f, d, e]⟩ : Shape) (⟨5, ![1, b, f, d, e]⟩ : Shape) h.1 st 4 = 0 :=
  Host.clampedStart_of_le (s := (⟨5, ![32, b, f, d, e]⟩ : Shape)) (t := (⟨5, ![1, b, f, d, e]⟩ : Shape)) h.1 st 4 0 hz (show 0 + e ≤ e from (Nat.zero_add _).le)
/-- The row `r` of an array of 32 rows. -/
theorem row5 {α : Type} {b f d e : ℕ} (x : (⟨5, ![32, b, f, d, e]⟩ : Shape).Idx → α) (st : Fin 5 → Int) (h : (⟨5, ![32, b, f, d, e]⟩ : Shape).Slices (fun _ => 0) (⟨5, ![1, b, f, d, e]⟩ : Shape))
    (r : Fin 32) (h0 : st 0 = r.val) (h1 : st 1 = 0) (h2 : st 2 = 0) (h3 : st 3 = 0) (h4 : st 4 = 0) (jb : Fin b) (jf : Fin f) (jd : Fin d) (je : Fin e) :
    Host.dynamicSlice (⟨5, ![1, b, f, d, e]⟩ : Shape) x st h (ix5 0 jb jf jd je) = x (ix5 r jb jf jd je) :=
  slice_at (s := (⟨5, ![32, b, f, d, e]⟩ : Shape)) (t := (⟨5, ![1, b, f, d, e]⟩ : Shape)) x st h _ _ fun a => match a with
    | ⟨0, _⟩ => (congrArg (· + _) (start5_0 st h r h0)).trans (Nat.add_zero _)
    | ⟨1, _⟩ => (congrArg (· + _) (start5_1 st h h1)).trans (Nat.zero_add _)
    | ⟨2, _⟩ => (congrArg (· + _) (start5_2 st h h2)).trans (Nat.zero_add _)
    | ⟨3, _⟩ => (congrArg (· + _) (start5_3 st h h3)).trans (Nat.zero_add _)
    | ⟨4, _⟩ => (congrArg (· + _) (start5_4 st h h4)).trans (Nat.zero_add _)

/-- An array of 32 rows with its row `r` replaced. -/
theorem put5 {α : Type} {b f d e : ℕ} (x : (⟨5, ![32, b, f, d, e]⟩ : Shape).Idx → α) (u : (⟨5, ![1, b, f, d, e]⟩ : Shape).Idx → α) (st : Fin 5 → Int) (h : (⟨5, ![32, b, f, d, e]⟩ : Shape).Slices (fun _ => 0) (⟨5, ![1, b, f, d, e]⟩ : Shape))
    (r : Fin 32) (h0 : st 0 = r.val) (h1 : st 1 = 0) (h2 : st 2 = 0) (h3 : st 3 = 0) (h4 : st 4 = 0) (c : Fin 32) (jb : Fin b) (jf : Fin f) (jd : Fin d) (je : Fin e) :
    Host.dynamicUpdateSlice x u st h (ix5 c jb jf jd je) = if c = r then u (ix5 0 jb jf jd je) else x (ix5 c jb jf jd je) := by
  by_cases hc : c = r
  · subst hc
    rw [if_pos rfl]
    exact put_in (s := (⟨5, ![32, b, f, d, e]⟩ : Shape)) (u := (⟨5, ![1, b, f, d, e]⟩ : Shape)) x u st h _ _ fun a => match a with
      | ⟨0, _⟩ => ((congrArg (· + _) (start5_0 st h c h0)).trans (Nat.add_zero _)).symm
      | ⟨1, _⟩ => ((congrArg (· + _) (start5_1 st h h1)).trans (Nat.zero_add _)).symm
      | ⟨2, _⟩ => ((congrArg (· + _) (start5_2 st h h2)).trans (Nat.zero_add _)).symm
      | ⟨3, _⟩ => ((congrArg (· + _) (start5_3 st h h3)).trans (Nat.zero_add _)).symm
      | ⟨4, _⟩ => ((congrArg (· + _) (start5_4 st h h4)).trans (Nat.zero_add _)).symm
  · rw [if_neg hc]
    refine put_out (s := (⟨5, ![32, b, f, d, e]⟩ : Shape)) (u := (⟨5, ![1, b, f, d, e]⟩ : Shape)) x u st h _ 0 fun hin => hc (Fin.ext ?_)
    rw [start5_0 st h r h0] at hin
    have a1 : r.val ≤ c.val := hin.1
    have a2 : c.val < r.val + 1 := hin.2
    omega

theorem start4_0 {b f d : ℕ} (st : Fin 4 → Int) (h : (⟨4, ![32, b, f, d]⟩ : Shape).Slices (fun _ => 0) (⟨4, ![1, b, f, d]⟩ : Shape)) (r : Fin 32) (h0 : st 0 = r.val):
    Host.clampedStart (⟨4, ![32, b, f, d]⟩ : Shape) (⟨4, ![1, b, f, d]⟩ : Shape) h.1 st 0 = r.val :=
  Host.clampedStart_of_le (s := (⟨4, ![32, b, f, d]⟩ : Shape)) (t := (⟨4, ![1, b, f, d]⟩ : Shape)) h.1 st 0 r.val h0 (show r.val + 1 ≤ 32 from r.isLt)
theorem start4_1 {b f d : ℕ} (st : Fin 4 → Int) (h : (⟨4, ![32, b, f, d]⟩ : Shape).Slices (fun _ => 0) (⟨4, ![1, b, f, d]⟩ : Shape)) (hz : st 1 = 0):
    Host.clampedStart (⟨4, ![32, b, f, d]⟩ : Shape) (⟨4, ![1, b, f, d]⟩ : Shape) h.1 st 1 = 0 :=
  Host.clampedStart_of_le (s := (⟨4, ![32, b, f, d]⟩ : Shape)) (t := (⟨4, ![1, b, f, d]⟩ : Shape)) h.1 st 1 0 hz (show 0 + b ≤ b from (Nat.zero_add _).le)
theorem start4_2 {b f d : ℕ} (st : Fin 4 → Int) (h : (⟨4, ![32, b, f, d]⟩ : Shape).Slices (fun _ => 0) (⟨4, ![1, b, f, d]⟩ : Shape)) (hz : st 2 = 0):
    Host.clampedStart (⟨4, ![32, b, f, d]⟩ : Shape) (⟨4, ![1, b, f, d]⟩ : Shape) h.1 st 2 = 0 :=
  Host.clampedStart_of_le (s := (⟨4, ![32, b, f, d]⟩ : Shape)) (t := (⟨4, ![1, b, f, d]⟩ : Shape)) h.1 st 2 0 hz (show 0 + f ≤ f from (Nat.zero_add _).le)
theorem start4_3 {b f d : ℕ} (st : Fin 4 → Int) (h : (⟨4, ![32, b, f, d]⟩ : Shape).Slices (fun _ => 0) (⟨4, ![1, b, f, d]⟩ : Shape)) (hz : st 3 = 0):
    Host.clampedStart (⟨4, ![32, b, f, d]⟩ : Shape) (⟨4, ![1, b, f, d]⟩ : Shape) h.1 st 3 = 0 :=
  Host.clampedStart_of_le (s := (⟨4, ![32, b, f, d]⟩ : Shape)) (t := (⟨4, ![1, b, f, d]⟩ : Shape)) h.1 st 3 0 hz (show 0 + d ≤ d from (Nat.zero_add _).le)
/-- The row `r` of an array of 32 rows. -/
theorem row4 {α : Type} {b f d : ℕ} (x : (⟨4, ![32, b, f, d]⟩ : Shape).Idx → α) (st : Fin 4 → Int) (h : (⟨4, ![32, b, f, d]⟩ : Shape).Slices (fun _ => 0) (⟨4, ![1, b, f, d]⟩ : Shape))
    (r : Fin 32) (h0 : st 0 = r.val) (h1 : st 1 = 0) (h2 : st 2 = 0) (h3 : st 3 = 0) (jb : Fin b) (jf : Fin f) (jd : Fin d) :
    Host.dynamicSlice (⟨4, ![1, b, f, d]⟩ : Shape) x st h (ix4 0 jb jf jd) = x (ix4 r jb jf jd) :=
  slice_at (s := (⟨4, ![32, b, f, d]⟩ : Shape)) (t := (⟨4, ![1, b, f, d]⟩ : Shape)) x st h _ _ fun a => match a with
    | ⟨0, _⟩ => (congrArg (· + _) (start4_0 st h r h0)).trans (Nat.add_zero _)
    | ⟨1, _⟩ => (congrArg (· + _) (start4_1 st h h1)).trans (Nat.zero_add _)
    | ⟨2, _⟩ => (congrArg (· + _) (start4_2 st h h2)).trans (Nat.zero_add _)
    | ⟨3, _⟩ => (congrArg (· + _) (start4_3 st h h3)).trans (Nat.zero_add _)

/-- An array of 32 rows with its row `r` replaced. -/
theorem put4 {α : Type} {b f d : ℕ} (x : (⟨4, ![32, b, f, d]⟩ : Shape).Idx → α) (u : (⟨4, ![1, b, f, d]⟩ : Shape).Idx → α) (st : Fin 4 → Int) (h : (⟨4, ![32, b, f, d]⟩ : Shape).Slices (fun _ => 0) (⟨4, ![1, b, f, d]⟩ : Shape))
    (r : Fin 32) (h0 : st 0 = r.val) (h1 : st 1 = 0) (h2 : st 2 = 0) (h3 : st 3 = 0) (c : Fin 32) (jb : Fin b) (jf : Fin f) (jd : Fin d) :
    Host.dynamicUpdateSlice x u st h (ix4 c jb jf jd) = if c = r then u (ix4 0 jb jf jd) else x (ix4 c jb jf jd) := by
  by_cases hc : c = r
  · subst hc
    rw [if_pos rfl]
    exact put_in (s := (⟨4, ![32, b, f, d]⟩ : Shape)) (u := (⟨4, ![1, b, f, d]⟩ : Shape)) x u st h _ _ fun a => match a with
      | ⟨0, _⟩ => ((congrArg (· + _) (start4_0 st h c h0)).trans (Nat.add_zero _)).symm
      | ⟨1, _⟩ => ((congrArg (· + _) (start4_1 st h h1)).trans (Nat.zero_add _)).symm
      | ⟨2, _⟩ => ((congrArg (· + _) (start4_2 st h h2)).trans (Nat.zero_add _)).symm
      | ⟨3, _⟩ => ((congrArg (· + _) (start4_3 st h h3)).trans (Nat.zero_add _)).symm
  · rw [if_neg hc]
    refine put_out (s := (⟨4, ![32, b, f, d]⟩ : Shape)) (u := (⟨4, ![1, b, f, d]⟩ : Shape)) x u st h _ 0 fun hin => hc (Fin.ext ?_)
    rw [start4_0 st h r h0] at hin
    have a1 : r.val ≤ c.val := hin.1
    have a2 : c.val < r.val + 1 := hin.2
    omega

end Cert.Ssd
-- ==== Proof.RefRun.lean ====
/- The reference's loop over the real numbers. -/
module

public import proofs.«01_k».proof.Proof.RefChunk
public import proofs.«01_k».proof.Proof.Whole
public import proofs.«01_k».proof.Proof.Rows

@[expose] public section

set_option maxRecDepth 16384

noncomputable section

namespace Cert.ReferenceIdeal.Loop

open Cert.ReferenceIdeal Cert.ReferenceIdeal.Gen Cert.ReferenceIdeal.Value Cert.Ssd
open Cert.ReferenceIdeal.Chunk Idealize.ShloMosaic.StableHlo
open Idealize.ShloMosaic Idealize.ShloMosaic.TcCoe Idealize.SL.Sem
open Finset (univ_unique sum_singleton)
open Fin (default_eq_zero)

theorem cast_S8x4x64x128 (x : FVec Ideal S1x8x4x64x128 .f32) (a : Fin 8) (b : Fin 4) (c : Fin 64) (d : Fin 128) :
    shapeCast S8x4x64x128 x shapeCasts_S1x8x4x64x128_S8x4x64x128 (ix4 a b c d) = x (ix5 0 a b c d) := by
  pointwise

theorem cast_S128x8x4x64 (x : FVec Ideal S1x128x8x4x64 .f32) (a : Fin 128) (b : Fin 8) (c : Fin 4) (d : Fin 64) :
    shapeCast S128x8x4x64 x shapeCasts_S1x128x8x4x64_S128x8x4x64 (ix4 a b c d) = x (ix5 0 a b c d) := by
  pointwise

theorem cast_S128x8x128 (x : FVec Ideal S1x128x8x128 .f32) (a : Fin 128) (b : Fin 8) (c : Fin 128) :
    shapeCast S128x8x128 x shapeCasts_S1x128x8x128_S128x8x128 (ix3 a b c) = x (ix4 0 a b c) := by
  pointwise

theorem cast_S128x8x256 (x : FVec Ideal S1x128x8x256 .f32) (a : Fin 128) (b : Fin 8) (c : Fin 256) :
    shapeCast S128x8x256 x shapeCasts_S1x128x8x256_S128x8x256 (ix3 a b c) = x (ix4 0 a b c) := by
  pointwise

theorem cast_S128x8x4 (x : FVec Ideal S1x128x8x4 .f32) (a : Fin 128) (b : Fin 8) (c : Fin 4) :
    shapeCast S128x8x4 x shapeCasts_S1x128x8x4_S128x8x4 (ix3 a b c) = x (ix4 0 a b c) := by
  pointwise

/-- What the loop holds after `k` trips, as far as its results depend on it. -/
structure Inv (D : Data) (k : ℕ) (V : Valuation τ sig (Elt Ideal)) : Prop where
  S : ∀ c g h p n, (V (Proc.devRef .tc main_v30_0) : FVec Ideal S32x8x4x64x128 .f32) (ix5 c g h p n) = (D.S g c (hp h p) n : EReal)
  x : ∀ c l g h p, (V (Proc.devRef .tc main_v30_1) : FVec Ideal S32x128x8x4x64 .f32) (ix5 c l g h p)
    = ((D.inp g c 0).x l (hp h p) : EReal)
  dt : ∀ c l g h, (V (Proc.devRef .tc main_v30_2) : FVec Ideal S32x128x8x4 .f32) (ix4 c l g h) = ((D.inp g c 0).dt l h : EReal)
  B : ∀ c l g n, (V (Proc.devRef .tc main_v30_3) : FVec Ideal S32x128x8x128 .f32) (ix4 c l g n) = ((D.inp g c 0).B l n : EReal)
  C : ∀ c l g n, (V (Proc.devRef .tc main_v30_4) : FVec Ideal S32x128x8x128 .f32) (ix4 c l g n) = ((D.inp g c 0).C l n : EReal)
  z : ∀ c l g w, (V (Proc.devRef .tc main_v30_5) : FVec Ideal S32x128x8x256 .f32) (ix4 c l g w) = ((D.inp g c 0).z l w : EReal)
  y : ∀ c l g h p, (V (Proc.devRef .tc main_v30_6) : FVec Ideal S32x128x8x4x64 .f32) (ix5 c l g h p)
    = ((D.inp g c 0).y l (hp h p) : EReal)
  dyn : ∀ c l g w, (V (Proc.devRef .tc main_v30_7) : FVec Ideal S32x128x8x256 .f32) (ix4 c l g w) = ((D.inp g c 0).dyn l w : EReal)
  skip : ∀ g h, (V (Proc.devRef .tc main_v30_8) : FVec Ideal S8x4 .f32) (ix2 g h) = (D.skip (gh g h) : EReal)
  nw : ∀ g w, (V (Proc.devRef .tc main_v30_9) : FVec Ideal S8x256 .f32) (ix2 g w) = (D.nw (gw g w) : EReal)
  bias : ∀ g h, (V (Proc.devRef .tc main_v30_10) : FVec Ideal S8x4 .f32) (ix2 g h) = (D.bias (gh g h) : EReal)
  alog : ∀ g h, (V (Proc.devRef .tc main_v30_11) : FVec Ideal S8x4 .f32) (ix2 g h) = (D.alog (gh g h) : EReal)
  count : (V (Proc.devRef .tc main_v30_12) : IVec S_ 32) = fun _ => BitVec.ofNat 32 k
  dS : ∀ g h p n, (V (Proc.devRef .tc main_v30_13) : FVec Ideal S8x4x64x128 .f32) (ix4 g h p n) = (D.dSat g k (hp h p) n : EReal)
  dbias : ∀ g h, (V (Proc.devRef .tc main_v30_14) : FVec Ideal S8x4 .f32) (ix2 g h)
    = ((∑ j ∈ Finset.range k, (D.chunk j g).dbias h : ℝ) : EReal)
  dalog : ∀ g h, (V (Proc.devRef .tc main_v30_15) : FVec Ideal S8x4 .f32) (ix2 g h)
    = ((∑ j ∈ Finset.range k, (D.chunk j g).dalog h : ℝ) : EReal)
  dskip : ∀ g h, (V (Proc.devRef .tc main_v30_16) : FVec Ideal S8x4 .f32) (ix2 g h)
    = ((∑ j ∈ Finset.range k, (D.chunk j g).dskip h : ℝ) : EReal)
  dnw : ∀ g w, (V (Proc.devRef .tc main_v30_17) : FVec Ideal S8x256 .f32) (ix2 g w)
    = ((∑ j ∈ Finset.range k, (D.chunk j g).dnw w : ℝ) : EReal)
  dx : ∀ (c : Fin 32) l g h p, 31 - c.val < k → (V (Proc.devRef .tc main_v30_18) : FVec Ideal S32x128x8x4x64 .f32) (ix5 c l g h p)
    = ((D.chunk (31 - c.val) g).dx l (hp h p) : EReal)
  dB : ∀ (c : Fin 32) l g n, 31 - c.val < k → (V (Proc.devRef .tc main_v30_19) : FVec Ideal S32x128x8x128 .f32) (ix4 c l g n)
    = ((D.chunk (31 - c.val) g).dB l n : EReal)
  dC : ∀ (c : Fin 32) l g n, 31 - c.val < k → (V (Proc.devRef .tc main_v30_20) : FVec Ideal S32x128x8x128 .f32) (ix4 c l g n)
    = ((D.chunk (31 - c.val) g).dC l n : EReal)
  dz : ∀ (c : Fin 32) l g w, 31 - c.val < k → (V (Proc.devRef .tc main_v30_21) : FVec Ideal S32x128x8x256 .f32) (ix4 c l g w)
    = ((D.chunk (31 - c.val) g).dz l w : EReal)
  ddt : ∀ (c : Fin 32) l g h, 31 - c.val < k → (V (Proc.devRef .tc main_v30_22) : FVec Ideal S32x128x8x4 .f32) (ix4 c l g h)
    = ((D.chunk (31 - c.val) g).ddt l h : EReal)

variable {D : Data} {k : ℕ} {V : Valuation τ sig (Elt Ideal)}

theorem at_word (H : Inv D k V) (hk : k < 32) (i : S_.Idx) : (res_main_while0b_v50 V : IVec S_ 32) i = BitVec.ofNat 32 (31 - k) := by
  have e : res_main_while0b_v50 V = subi (subi (constantI S_ 32 32#32) (V (Proc.devRef .tc main_v30_12))) (constantI S_ 32 1#32) := rfl
  rw [e, H.count]
  show 32#32 - BitVec.ofNat 32 k - 1#32 = _
  interval_cases k <;> rfl

theorem at0 (H : Inv D k V) (hk : k < 32) (i : S_.Idx) : BitVec.toInt ((res_main_while0b_v50 V : IVec S_ 32) i) = ((rev k).val : ℕ) := by
  rw [at_word H hk i]
  unfold rev
  interval_cases k <;> rfl

theorem reads (H : Inv D k V) (hk : k < 32) : Reads V (D.chunk k) where
  S0 g h p n := by
    unfold res_main_while0b_v51; clean_types
    refine Eq.trans (cast_S8x4x64x128 _ g h p n) ?_
    exact (row5 _ _ _ (rev k) (at0 H hk _) rfl rfl rfl rfl g h p n).trans (H.S (rev k) g h p n)
  x l g h p := by
    unfold res_main_while0b_v52; clean_types
    refine Eq.trans (cast_S128x8x4x64 _ l g h p) ?_
    exact (row5 _ _ _ (rev k) (at0 H hk _) rfl rfl rfl rfl l g h p).trans (H.x (rev k) l g h p)
  B l g n := by
    unfold res_main_while0b_v54; clean_types
    refine Eq.trans (cast_S128x8x128 _ l g n) ?_
    exact (row4 _ _ _ (rev k) (at0 H hk _) rfl rfl rfl l g n).trans (H.B (rev k) l g n)
  C l g n := by
    unfold res_main_while0b_v55; clean_types
    refine Eq.trans (cast_S128x8x128 _ l g n) ?_
    exact (row4 _ _ _ (rev k) (at0 H hk _) rfl rfl rfl l g n).trans (H.C (rev k) l g n)
  z l g w := by
    unfold res_main_while0b_v56; clean_types
    refine Eq.trans (cast_S128x8x256 _ l g w) ?_
    exact (row4 _ _ _ (rev k) (at0 H hk _) rfl rfl rfl l g w).trans (H.z (rev k) l g w)
  dyn l g w := by
    unfold res_main_while0b_v58; clean_types
    refine Eq.trans (cast_S128x8x256 _ l g w) ?_
    exact (row4 _ _ _ (rev k) (at0 H hk _) rfl rfl rfl l g w).trans (H.dyn (rev k) l g w)
  y l g h p := by
    unfold yin; clean_types
    refine Eq.trans (cast_S128x8x4x64 _ l g h p) ?_
    exact (row5 _ _ _ (rev k) (at0 H hk _) rfl rfl rfl rfl l g h p).trans (H.y (rev k) l g h p)
  dt l g h := by
    unfold dtin; clean_types
    refine Eq.trans (cast_S128x8x4 _ l g h) ?_
    exact (row4 _ _ _ (rev k) (at0 H hk _) rfl rfl rfl l g h).trans (H.dt (rev k) l g h)
  skip g h := H.skip g h
  nw g w := H.nw g w
  bias g h := H.bias g h
  alog g h := H.alog g h
  dS g h p n := H.dS g h p n

theorem step_dS (H : Inv D k V) (hk : k < 32) (g : Fin 8) (h : Fin 4) (p : Fin 64) (n : Fin 128) :
    (step_main_v30_13 V : FVec Ideal S8x4x64x128 .f32) (ix4 g h p n) = ((D.dSat g (k + 1) (hp h p) n : ℝ) : EReal) := by
  have R := reads H hk
  unfold step_main_v30_13; clean_types; rw [id]; pointwise
  simp only [H.dS, e158 R, e201 R, R.C, ← cmul, ← cadd, ← csub, ← cneg, ← coe_sum, Ideal.exp_coe, zero_add, univ_unique, sum_singleton]
  rw [D.dSat_succ]; congr 1
  unfold In.dSn; rw [hd_hp, mul_comm]; rfl

theorem step_dbias (H : Inv D k V) (hk : k < 32) (g : Fin 8) (h : Fin 4) :
    (step_main_v30_14 V : FVec Ideal S8x4 .f32) (ix2 g h) = ((∑ j ∈ Finset.range (k + 1), (D.chunk j g).dbias h : ℝ) : EReal) := by
  have R := reads H hk
  unfold step_main_v30_14; clean_types; rw [id]; pointwise
  simp only [H.dbias, e252 R, ← cmul, ← cadd, ← csub, ← cneg, ← coe_sum, Ideal.exp_coe, zero_add, univ_unique, sum_singleton]
  rw [Finset.sum_range_succ]; rfl

theorem step_dalog (H : Inv D k V) (hk : k < 32) (g : Fin 8) (h : Fin 4) :
    (step_main_v30_15 V : FVec Ideal S8x4 .f32) (ix2 g h) = ((∑ j ∈ Finset.range (k + 1), (D.chunk j g).dalog h : ℝ) : EReal) := by
  have R := reads H hk
  unfold step_main_v30_15; clean_types; rw [id]; pointwise
  simp only [H.dalog, e118 R, e236 R, e119 R, ← cmul, ← cadd, ← csub, ← cneg, ← coe_sum, Ideal.exp_coe, zero_add, univ_unique, sum_singleton]
  rw [Finset.sum_range_succ]; congr 2
  unfold In.dalog In.A
  rw [neg_mul, mul_neg]; congr 2
  exact Finset.sum_congr rfl fun _ _ => mul_comm _ _

theorem step_dnw (H : Inv D k V) (hk : k < 32) (g : Fin 8) (w : Fin 256) :
    (step_main_v30_17 V : FVec Ideal S8x256 .f32) (ix2 g w) = ((∑ j ∈ Finset.range (k + 1), (D.chunk j g).dnw w : ℝ) : EReal) := by
  have R := reads H hk
  unfold step_main_v30_17; clean_types; rw [id]; pointwise
  simp only [H.dnw, e79 R, R.dyn, ← cmul, ← cadd, ← csub, ← cneg, ← coe_sum, Ideal.exp_coe, zero_add, univ_unique, sum_singleton]
  rw [Finset.sum_range_succ]; congr 2
  exact Finset.sum_congr rfl fun _ _ => mul_comm _ _

theorem step_dx (H : Inv D k V) (hk : k < 32) (c : Fin 32) (l : Fin 128) (g : Fin 8) (h : Fin 4) (p : Fin 64) (hc : 31 - c.val < k + 1) :
    (step_main_v30_18 V : FVec Ideal S32x128x8x4x64 .f32) (ix5 c l g h p) = (((D.chunk (31 - c.val) g).dx l (hp h p) : ℝ) : EReal) := by
  have R := reads H hk
  unfold step_main_v30_18; clean_types; rw [id]
  refine (put5 _ _ _ _ (rev k) (at0 H hk _) rfl rfl rfl rfl c l g h p).trans ?_
  by_cases hr : c = rev k
  · rw [if_pos hr]
    have hk' : 31 - c.val = k := by rw [hr]; show 31 - (31 - k) = k; omega
    rw [hk']
    pointwise
    simp only [e60 R, e106 R, e211 R, e121 R, ← cmul, ← cadd, ← csub, ← cneg, ← coe_sum, Ideal.exp_coe, zero_add, univ_unique, sum_singleton]
    unfold In.dx; rw [hd_hp, add_comm]
  · rw [if_neg hr]
    exact H.dx c l g h p (by
      have : c.val ≠ 31 - k := fun e => hr (Fin.ext e)
      omega)

theorem step_dB (H : Inv D k V) (hk : k < 32) (c : Fin 32) (l : Fin 128) (g : Fin 8) (n : Fin 128) (hc : 31 - c.val < k + 1) :
    (step_main_v30_19 V : FVec Ideal S32x128x8x128 .f32) (ix4 c l g n) = (((D.chunk (31 - c.val) g).dB l n : ℝ) : EReal) := by
  have R := reads H hk
  unfold step_main_v30_19; clean_types; rw [id]
  refine (put4 _ _ _ _ (rev k) (at0 H hk _) rfl rfl rfl c l g n).trans ?_
  by_cases hr : c = rev k
  · rw [if_pos hr]
    have hk' : 31 - c.val = k := by rw [hr]; show 31 - (31 - k) = k; omega
    rw [hk']
    pointwise
    simp only [H.dS, e163 R, e218 R, R.C, ← cmul, ← cadd, ← csub, ← cneg, ← coe_sum, Ideal.exp_coe, zero_add, univ_unique, sum_singleton]
    congr 1; unfold In.dB; rw [sum_lanes]; congr 1
    · refine Finset.sum_congr rfl fun _ _ => Finset.sum_congr rfl fun _ _ => ?_
      rw [hd_hp]; show D.dSat g k _ n * _ = _ * D.dSat g k _ n; ring
  · rw [if_neg hr]
    exact H.dB c l g n (by
      have : c.val ≠ 31 - k := fun e => hr (Fin.ext e)
      omega)

theorem step_dC (H : Inv D k V) (hk : k < 32) (c : Fin 32) (l : Fin 128) (g : Fin 8) (n : Fin 128) (hc : 31 - c.val < k + 1) :
    (step_main_v30_20 V : FVec Ideal S32x128x8x128 .f32) (ix4 c l g n) = (((D.chunk (31 - c.val) g).dC l n : ℝ) : EReal) := by
  have R := reads H hk
  unfold step_main_v30_20; clean_types; rw [id]
  refine (put4 _ _ _ _ (rev k) (at0 H hk _) rfl rfl rfl c l g n).trans ?_
  by_cases hr : c = rev k
  · rw [if_pos hr]
    have hk' : 31 - c.val = k := by rw [hr]; show 31 - (31 - k) = k; omega
    rw [hk']
    pointwise
    simp only [e201 R, R.S0, e218 R, R.B, ← cmul, ← cadd, ← csub, ← cneg, ← coe_sum, Ideal.exp_coe, zero_add, univ_unique, sum_singleton]
    congr 1; unfold In.dC; rw [sum_lanes]
  · rw [if_neg hr]
    exact H.dC c l g n (by
      have : c.val ≠ 31 - k := fun e => hr (Fin.ext e)
      omega)

theorem step_dz (H : Inv D k V) (hk : k < 32) (c : Fin 32) (l : Fin 128) (g : Fin 8) (w : Fin 256) (hc : 31 - c.val < k + 1) :
    (step_main_v30_21 V : FVec Ideal S32x128x8x256 .f32) (ix4 c l g w) = (((D.chunk (31 - c.val) g).dz l w : ℝ) : EReal) := by
  have R := reads H hk
  unfold step_main_v30_21; clean_types; rw [id]
  refine (put4 _ _ _ _ (rev k) (at0 H hk _) rfl rfl rfl c l g w).trans ?_
  by_cases hr : c = rev k
  · rw [if_pos hr]
    have hk' : 31 - c.val = k := by rw [hr]; show 31 - (31 - k) = k; omega
    rw [hk']
    pointwise
    simp only [e103 R, e652 R, R.z, ← cmul, ← cadd, ← csub, ← cneg, ← coe_sum, Ideal.exp_coe, zero_add, univ_unique, sum_singleton]
    rw [← EReal.coe_one]; simp only [← csub, ← cmul, ← cadd]
    congr 1; unfold In.dz In.dsz; ring
  · rw [if_neg hr]
    exact H.dz c l g w (by
      have : c.val ≠ 31 - k := fun e => hr (Fin.ext e)
      omega)

theorem step_ddt (H : Inv D k V) (hk : k < 32) (c : Fin 32) (l : Fin 128) (g : Fin 8) (h : Fin 4) (hc : 31 - c.val < k + 1) :
    (step_main_v30_22 V : FVec Ideal S32x128x8x4 .f32) (ix4 c l g h) = (((D.chunk (31 - c.val) g).ddt l h : ℝ) : EReal) := by
  have R := reads H hk
  unfold step_main_v30_22; clean_types; rw [id]
  refine (put4 _ _ _ _ (rev k) (at0 H hk _) rfl rfl rfl c l g h).trans ?_
  by_cases hr : c = rev k
  · rw [if_pos hr]
    have hk' : 31 - c.val = k := by rw [hr]; show 31 - (31 - k) = k; omega
    rw [hk']
    pointwise
    simp only [e252 R, ← cmul, ← cadd, ← csub, ← cneg, ← coe_sum, Ideal.exp_coe, zero_add, univ_unique, sum_singleton]
  · rw [if_neg hr]
    exact H.ddt c l g h (by
      have : c.val ≠ 31 - k := fun e => hr (Fin.ext e)
      omega)

theorem step_dskip (H : Inv D k V) (hk : k < 32) (g : Fin 8) (h : Fin 4) :
    (step_main_v30_16 V : FVec Ideal S8x4 .f32) (ix2 g h)
      = ((∑ j ∈ Finset.range (k + 1), (D.chunk j g).dskip h : ℝ) : EReal) := by
  have R := reads H hk
  unfold step_main_v30_16; clean_types; rw [id]; pointwise
  rw [sum_outer]
  simp only [univ_unique, sum_singleton]
  pointwise
  rw [sum_outer]; pointwise
  simp only [H.dskip, e106 R, R.x, zero_add, ← cmul, ← cadd, ← coe_sum]
  rw [Finset.sum_range_succ]; rfl
theorem step_count (H : Inv D k V) : (step_main_v30_12 V : IVec S_ 32) = fun _ => BitVec.ofNat 32 (k + 1) := by
  have e : step_main_v30_12 V = addi (V (Proc.devRef .tc main_v30_12)) (constantI S_ 32 1#32) := rfl
  rw [e, H.count]; funext i
  show BitVec.ofNat 32 k + 1#32 = _
  rw [BitVec.ofNat_add]

theorem step_inv (H : Inv D k V) (hk : k < 32) : Inv D (k + 1) (STEP V) where
  S c g h p n := (congrFun (STEP_main_v30_0 V) _).trans (H.S c g h p n)
  x c l g h p := (congrFun (STEP_main_v30_1 V) _).trans (H.x c l g h p)
  dt c l g h := (congrFun (STEP_main_v30_2 V) _).trans (H.dt c l g h)
  B c l g n := (congrFun (STEP_main_v30_3 V) _).trans (H.B c l g n)
  C c l g n := (congrFun (STEP_main_v30_4 V) _).trans (H.C c l g n)
  z c l g w := (congrFun (STEP_main_v30_5 V) _).trans (H.z c l g w)
  y c l g h p := (congrFun (STEP_main_v30_6 V) _).trans (H.y c l g h p)
  dyn c l g w := (congrFun (STEP_main_v30_7 V) _).trans (H.dyn c l g w)
  skip g h := (congrFun (STEP_main_v30_8 V) _).trans (H.skip g h)
  nw g w := (congrFun (STEP_main_v30_9 V) _).trans (H.nw g w)
  bias g h := (congrFun (STEP_main_v30_10 V) _).trans (H.bias g h)
  alog g h := (congrFun (STEP_main_v30_11 V) _).trans (H.alog g h)
  count := (STEP_main_v30_12 V).trans (step_count H)
  dS g h p n := (congrFun (STEP_main_v30_13 V) _).trans (step_dS H hk g h p n)
  dbias g h := (congrFun (STEP_main_v30_14 V) _).trans (step_dbias H hk g h)
  dalog g h := (congrFun (STEP_main_v30_15 V) _).trans (step_dalog H hk g h)
  dskip g h := (congrFun (STEP_main_v30_16 V) _).trans (step_dskip H hk g h)
  dnw g w := (congrFun (STEP_main_v30_17 V) _).trans (step_dnw H hk g w)
  dx c l g h p hc := (congrFun (STEP_main_v30_18 V) _).trans (step_dx H hk c l g h p hc)
  dB c l g n hc := (congrFun (STEP_main_v30_19 V) _).trans (step_dB H hk c l g n hc)
  dC c l g n hc := (congrFun (STEP_main_v30_20 V) _).trans (step_dC H hk c l g n hc)
  dz c l g w hc := (congrFun (STEP_main_v30_21 V) _).trans (step_dz H hk c l g w hc)
  ddt c l g h hc := (congrFun (STEP_main_v30_22 V) _).trans (step_ddt H hk c l g h hc)

end Cert.ReferenceIdeal.Loop
-- ==== Proof.RefEntry.lean ====
/- The reference's loop from its arguments. -/
module

public import proofs.«01_k».proof.Proof.RefRun
public import Idealize.ShloMosaic.Lib.StableHlo.ReadAt

@[expose] public section

set_option maxRecDepth 16384

noncomputable section

namespace Cert.ReferenceIdeal.Loop

open Cert.ReferenceIdeal Cert.ReferenceIdeal.Gen Cert.ReferenceIdeal.Value Cert.Ssd
open Cert.ReferenceIdeal.Chunk Idealize.ShloMosaic.StableHlo
open Idealize.ShloMosaic Idealize.ShloMosaic.TcCoe Idealize.SL.Sem

variable {D : Data}

/-- The arguments in memory are the numbers of `D`. -/
structure Args (D : Data) (m : (ℓ : Loc nD τ sig) → Buf (Elt Ideal) ℓ) (c : Dev nD) : Prop where
  dyn : ∀ r w, (m ((c.tc : Thread nD τ).loc main_arg0) : FVec Ideal S4096x2048 .f32) (ix2 r w) = (D.dyn r w : EReal)
  conv : ∀ r w, w.val < 4096 → (m ((c.tc : Thread nD τ).loc main_arg1) : FVec Ideal S4096x8192 .bf16) (ix2 r w) = (D.conv r w : EReal)
  proj : ∀ r w, w.val < 2048 → (m ((c.tc : Thread nD τ).loc main_arg2) : FVec Ideal S4096x14336 .bf16) (ix2 r w) = (D.proj r w : EReal)
  dt : ∀ r h, (m ((c.tc : Thread nD τ).loc main_arg3) : FVec Ideal S4096x32 .f32) (ix2 r h) = (D.dt r h : EReal)
  bias : ∀ h, (m ((c.tc : Thread nD τ).loc main_arg4) : FVec Ideal S1x32 .f32) (ix2 0 h) = (D.bias h : EReal)
  alog : ∀ h, (m ((c.tc : Thread nD τ).loc main_arg5) : FVec Ideal S1x32 .f32) (ix2 0 h) = (D.alog h : EReal)
  skip : ∀ h, (m ((c.tc : Thread nD τ).loc main_arg6) : FVec Ideal S1x32 .f32) (ix2 0 h) = (D.skip h : EReal)
  nw : ∀ w, (m ((c.tc : Thread nD τ).loc main_arg7) : FVec Ideal S1x2048 .f32) (ix2 0 w) = (D.nw w : EReal)
  y : ∀ r w, (m ((c.tc : Thread nD τ).loc main_arg8) : FVec Ideal S4096x2048 .f32) (ix2 r w) = (D.y r w : EReal)
  S : ∀ g c' w n, (m ((c.tc : Thread nD τ).loc main_arg9) : FVec Ideal S8x32x256x128 .f32) (ix4 g c' w n) = (D.S g c' w n : EReal)

variable {m : (ℓ : Loc nD τ sig) → Buf (Elt Ideal) ℓ} {c : Dev nD}

theorem entry_S (A : Args D m c) (q : Fin 32) (g : Fin 8) (h : Fin 4) (p : Fin 64) (n : Fin 128) :
    (entryContents preI m c (Proc.devRef .tc main_v30_0) : FVec Ideal S32x8x4x64x128 .f32) (ix5 q g h p n) = (D.S g q (hp h p) n : EReal) := by
  simp only [entryContents, StableHlo.afterL_cons, StableHlo.afterL_nil]
  after_reads_at
  exact (A.S _ _ _ _).trans (by congr 1)

theorem entry_x (A : Args D m c) (q : Fin 32) (l : Fin 128) (g : Fin 8) (h : Fin 4) (p : Fin 64) :
    (entryContents preI m c (Proc.devRef .tc main_v30_1) : FVec Ideal S32x128x8x4x64 .f32) (ix5 q l g h p) = ((D.inp g q 0).x l (hp h p) : EReal) := by
  simp only [entryContents, StableHlo.afterL_cons, StableHlo.afterL_nil]
  after_reads_at
  refine (A.conv _ _ ?hw).trans (congrArg _ (congrArg₂ D.conv (Fin.ext ?_) (Fin.ext ?_)))
  case hw => first | (simp [gw, gh, hp]; done) | (simp [gw, gh, hp]; omega) | omega | (dsimp only; omega)
  · first | rfl | (simp [tok]; done) | (simp [tok]; omega)
  · first | rfl | (simp [gw, gh, hp]; done) | (simp [gw, gh, hp]; omega)

theorem entry_dt (A : Args D m c) (q : Fin 32) (l : Fin 128) (g : Fin 8) (h : Fin 4) :
    (entryContents preI m c (Proc.devRef .tc main_v30_2) : FVec Ideal S32x128x8x4 .f32) (ix4 q l g h) = ((D.inp g q 0).dt l h : EReal) := by
  simp only [entryContents, StableHlo.afterL_cons, StableHlo.afterL_nil]
  after_reads_at
  refine (A.dt _ _).trans (congrArg _ (congrArg₂ D.dt (Fin.ext ?_) (Fin.ext ?_)))
  · first | rfl | (simp [tok]; done) | (simp [tok]; omega)
  · first | rfl | (simp [gw, gh, hp]; done) | (simp [gw, gh, hp]; omega)

theorem entry_B (A : Args D m c) (q : Fin 32) (l : Fin 128) (g : Fin 8) (n : Fin 128) :
    (entryContents preI m c (Proc.devRef .tc main_v30_3) : FVec Ideal S32x128x8x128 .f32) (ix4 q l g n) = ((D.inp g q 0).B l n : EReal) := by
  simp only [entryContents, StableHlo.afterL_cons, StableHlo.afterL_nil]
  after_reads_at
  refine (A.conv _ _ ?hw).trans (congrArg _ (congrArg₂ D.conv (Fin.ext ?_) (Fin.ext ?_)))
  case hw => first | (simp [gw, gh, hp]; done) | (simp [gw, gh, hp]; omega) | omega | (dsimp only; omega)
  · first | rfl | (simp [tok]; done) | (simp [tok]; omega)
  · first | rfl | (simp [gw, gh, hp]; done) | (simp [gw, gh, hp]; omega)

theorem entry_C (A : Args D m c) (q : Fin 32) (l : Fin 128) (g : Fin 8) (n : Fin 128) :
    (entryContents preI m c (Proc.devRef .tc main_v30_4) : FVec Ideal S32x128x8x128 .f32) (ix4 q l g n) = ((D.inp g q 0).C l n : EReal) := by
  simp only [entryContents, StableHlo.afterL_cons, StableHlo.afterL_nil]
  after_reads_at
  refine (A.conv _ _ ?hw).trans (congrArg _ (congrArg₂ D.conv (Fin.ext ?_) (Fin.ext ?_)))
  case hw => first | (simp [gw, gh, hp]; done) | (simp [gw, gh, hp]; omega) | omega | (dsimp only; omega)
  · first | rfl | (simp [tok]; done) | (simp [tok]; omega)
  · first | rfl | (simp [gw, gh, hp]; done) | (simp [gw, gh, hp]; omega)

theorem entry_z (A : Args D m c) (q : Fin 32) (l : Fin 128) (g : Fin 8) (w : Fin 256) :
    (entryContents preI m c (Proc.devRef .tc main_v30_5) : FVec Ideal S32x128x8x256 .f32) (ix4 q l g w) = ((D.inp g q 0).z l w : EReal) := by
  simp only [entryContents, StableHlo.afterL_cons, StableHlo.afterL_nil]
  after_reads_at
  refine (A.proj _ _ ?hw).trans (congrArg _ (congrArg₂ D.proj (Fin.ext ?_) (Fin.ext ?_)))
  case hw => first | (simp [gw, gh, hp]; done) | (simp [gw, gh, hp]; omega) | omega | (dsimp only; omega)
  · first | rfl | (simp [tok]; done) | (simp [tok]; omega)
  · first | rfl | (simp [gw, gh, hp]; done) | (simp [gw, gh, hp]; omega)

theorem entry_y (A : Args D m c) (q : Fin 32) (l : Fin 128) (g : Fin 8) (h : Fin 4) (p : Fin 64) :
    (entryContents preI m c (Proc.devRef .tc main_v30_6) : FVec Ideal S32x128x8x4x64 .f32) (ix5 q l g h p) = ((D.inp g q 0).y l (hp h p) : EReal) := by
  simp only [entryContents, StableHlo.afterL_cons, StableHlo.afterL_nil]
  after_reads_at
  refine (A.y _ _).trans (congrArg _ (congrArg₂ D.y (Fin.ext ?_) (Fin.ext ?_)))
  · first | rfl | (simp [tok]; done) | (simp [tok]; omega)
  · first | rfl | (simp [gw, gh, hp]; done) | (simp [gw, gh, hp]; omega)

theorem entry_dyn (A : Args D m c) (q : Fin 32) (l : Fin 128) (g : Fin 8) (w : Fin 256) :
    (entryContents preI m c (Proc.devRef .tc main_v30_7) : FVec Ideal S32x128x8x256 .f32) (ix4 q l g w) = ((D.inp g q 0).dyn l w : EReal) := by
  simp only [entryContents, StableHlo.afterL_cons, StableHlo.afterL_nil]
  after_reads_at
  refine (A.dyn _ _).trans (congrArg _ (congrArg₂ D.dyn (Fin.ext ?_) (Fin.ext ?_)))
  · first | rfl | (simp [tok]; done) | (simp [tok]; omega)
  · first | rfl | (simp [gw, gh, hp]; done) | (simp [gw, gh, hp]; omega)

theorem entry_skip (A : Args D m c) (g : Fin 8) (h : Fin 4) :
    (entryContents preI m c (Proc.devRef .tc main_v30_8) : FVec Ideal S8x4 .f32) (ix2 g h) = (D.skip (gh g h) : EReal) := by
  simp only [entryContents, StableHlo.afterL_cons, StableHlo.afterL_nil]
  after_reads_at
  refine (A.skip _).trans (congrArg _ (congrArg D.skip (Fin.ext ?_)))
  simp [gh, gw] <;> omega

theorem entry_nw (A : Args D m c) (g : Fin 8) (w : Fin 256) :
    (entryContents preI m c (Proc.devRef .tc main_v30_9) : FVec Ideal S8x256 .f32) (ix2 g w) = (D.nw (gw g w) : EReal) := by
  simp only [entryContents, StableHlo.afterL_cons, StableHlo.afterL_nil]
  after_reads_at
  refine (A.nw _).trans (congrArg _ (congrArg D.nw (Fin.ext ?_)))
  simp [gh, gw] <;> omega

theorem entry_bias (A : Args D m c) (g : Fin 8) (h : Fin 4) :
    (entryContents preI m c (Proc.devRef .tc main_v30_10) : FVec Ideal S8x4 .f32) (ix2 g h) = (D.bias (gh g h) : EReal) := by
  simp only [entryContents, StableHlo.afterL_cons, StableHlo.afterL_nil]
  after_reads_at
  refine (A.bias _).trans (congrArg _ (congrArg D.bias (Fin.ext ?_)))
  simp [gh, gw] <;> omega

theorem entry_alog (A : Args D m c) (g : Fin 8) (h : Fin 4) :
    (entryContents preI m c (Proc.devRef .tc main_v30_11) : FVec Ideal S8x4 .f32) (ix2 g h) = (D.alog (gh g h) : EReal) := by
  simp only [entryContents, StableHlo.afterL_cons, StableHlo.afterL_nil]
  after_reads_at
  refine (A.alog _).trans (congrArg _ (congrArg D.alog (Fin.ext ?_)))
  simp [gh, gw] <;> omega

theorem entry_dS (i : S8x4x64x128.Idx) : (entryContents preI m c (Proc.devRef .tc main_v30_13) : FVec Ideal S8x4x64x128 .f32) i = (0 : EReal) := by
  simp only [entryContents, StableHlo.afterL_cons, StableHlo.afterL_nil]
  after_reads_at
  rw [id]; pointwise

theorem entry_dbias (i : S8x4.Idx) : (entryContents preI m c (Proc.devRef .tc main_v30_14) : FVec Ideal S8x4 .f32) i = (0 : EReal) := by
  simp only [entryContents, StableHlo.afterL_cons, StableHlo.afterL_nil]
  after_reads_at
  rw [id]; pointwise

theorem entry_dalog (i : S8x4.Idx) : (entryContents preI m c (Proc.devRef .tc main_v30_15) : FVec Ideal S8x4 .f32) i = (0 : EReal) := by
  simp only [entryContents, StableHlo.afterL_cons, StableHlo.afterL_nil]
  after_reads_at
  rw [id]; pointwise

theorem entry_dskip (i : S8x4.Idx) : (entryContents preI m c (Proc.devRef .tc main_v30_16) : FVec Ideal S8x4 .f32) i = (0 : EReal) := by
  simp only [entryContents, StableHlo.afterL_cons, StableHlo.afterL_nil]
  after_reads_at
  rw [id]; pointwise

theorem entry_dnw (i : S8x256.Idx) : (entryContents preI m c (Proc.devRef .tc main_v30_17) : FVec Ideal S8x256 .f32) i = (0 : EReal) := by
  simp only [entryContents, StableHlo.afterL_cons, StableHlo.afterL_nil]
  after_reads_at
  rw [id]; pointwise

theorem entry_count : (entryContents preI m c (Proc.devRef .tc main_v30_12) : IVec S_ 32) = fun _ => BitVec.ofNat 32 0 := ctr_entry m c

theorem entry_inv (A : Args D m c) : Inv D 0 (entryContents preI m c) where
  S q g h p n := entry_S A q g h p n
  x q l g h p := entry_x A q l g h p
  dt q l g h := entry_dt A q l g h
  B q l g n := entry_B A q l g n
  C q l g n := entry_C A q l g n
  z q l g w := entry_z A q l g w
  y q l g h p := entry_y A q l g h p
  dyn q l g w := entry_dyn A q l g w
  skip g h := entry_skip A g h
  nw g w := entry_nw A g w
  bias g h := entry_bias A g h
  alog g h := entry_alog A g h
  count := entry_count
  dS g h p n := (entry_dS _).trans EReal.coe_zero.symm
  dbias g w := (entry_dbias _).trans EReal.coe_zero.symm
  dalog g w := (entry_dalog _).trans EReal.coe_zero.symm
  dskip g w := (entry_dskip _).trans EReal.coe_zero.symm
  dnw g w := (entry_dnw _).trans EReal.coe_zero.symm
  dx c l g h p hc := absurd hc (Nat.not_lt_zero _)
  dB c l g n hc := absurd hc (Nat.not_lt_zero _)
  dC c l g n hc := absurd hc (Nat.not_lt_zero _)
  dz c l g w hc := absurd hc (Nat.not_lt_zero _)
  ddt c l g h hc := absurd hc (Nat.not_lt_zero _)

theorem iter_inv (A : Args D m c) : ∀ k ≤ 32, Inv D k (STEP^[k] (entryContents preI m c))
  | 0, _ => entry_inv A
  | k + 1, h => by
      rw [Function.iterate_succ_apply']
      exact step_inv (iter_inv A k (by omega)) (by omega)

end Cert.ReferenceIdeal.Loop
-- ==== Proof.RefOut.lean ====
/- What the reference returns, over the real numbers. -/
module

public import proofs.«01_k».proof.Proof.RefEntry

@[expose] public section

set_option maxRecDepth 16384

noncomputable section

namespace Cert.ReferenceIdeal.Loop

open Cert.ReferenceIdeal Cert.ReferenceIdeal.Gen Cert.ReferenceIdeal.Value Cert.Ssd
open Cert.ReferenceIdeal.Chunk Idealize.ShloMosaic.StableHlo
open Idealize.ShloMosaic Idealize.ShloMosaic.TcCoe Idealize.SL.Sem

variable {D : Data} {V : Valuation τ sig (Elt Ideal)}

theorem tok_div (q : Fin 32) (l : Fin 128) : (tok q l).val / 128 = q.val := by show (q.val * 128 + l.val) / 128 = _; omega
theorem tok_mod (q : Fin 32) (l : Fin 128) : (tok q l).val % 128 = l.val := by show (q.val * 128 + l.val) % 128 = _; omega

theorem out_dx (H : Inv D 32 V) (q : Fin 32) (l : Fin 128) (g : Fin 8) (w : Fin 256) :
    (out_main_v37 V : FVec Ideal S4096x8192 .bf16) (ix2 (tok q l) (⟨g.val * 256 + w.val, by omega⟩ : Fin 8192)) = ((D.chunk (31 - q.val) g).dx l w : EReal) := by
  unfold out_main_v37
  clean_types
  pointwise
  rw [dif_pos (by omega), dif_pos (by omega)]
  simp only [tok_div, tok_mod, Fin.eta]
  exact (H.dx _ _ _ _ _ (by omega)).trans (congrArg (fun k => (((D.chunk (31 - q.val) g).dx l k : ℝ) : EReal)) (Fin.ext (by unfold hp; show (g.val * 256 + w.val) / 64 % 4 * 64 + (g.val * 256 + w.val) % 64 = w.val; omega)))

theorem out_dB (H : Inv D 32 V) (q : Fin 32) (l : Fin 128) (g : Fin 8) (w : Fin 128) :
    (out_main_v37 V : FVec Ideal S4096x8192 .bf16) (ix2 (tok q l) (⟨2048 + g.val * 128 + w.val, by omega⟩ : Fin 8192)) = ((D.chunk (31 - q.val) g).dB l w : EReal) := by
  unfold out_main_v37
  clean_types
  pointwise
  rw [dif_pos (by omega), dif_neg (by omega), dif_pos (by omega)]
  have e1 : (2048 + g.val * 128 + w.val - 2048) / 128 = g.val := by omega
  have e2 : (2048 + g.val * 128 + w.val - 2048) % 128 = w.val := by omega
  simp only [tok_div, tok_mod, e1, e2, Fin.eta]
  exact H.dB _ _ _ _ (by omega)

theorem out_dC (H : Inv D 32 V) (q : Fin 32) (l : Fin 128) (g : Fin 8) (w : Fin 128) :
    (out_main_v37 V : FVec Ideal S4096x8192 .bf16) (ix2 (tok q l) (⟨3072 + g.val * 128 + w.val, by omega⟩ : Fin 8192)) = ((D.chunk (31 - q.val) g).dC l w : EReal) := by
  unfold out_main_v37
  clean_types
  pointwise
  rw [dif_pos (by omega), dif_neg (by omega), dif_neg (by omega)]
  have e1 : (3072 + g.val * 128 + w.val - 2048 - 1024) / 128 = g.val := by omega
  have e2 : (3072 + g.val * 128 + w.val - 2048 - 1024) % 128 = w.val := by omega
  simp only [tok_div, tok_mod, e1, e2, Fin.eta]
  exact H.dC _ _ _ _ (by omega)

theorem out_rest37 (H : Inv D 32 V) (r : Fin 4096) (w : Fin 8192) (hw : 4096 ≤ w.val) :
    (out_main_v37 V : FVec Ideal S4096x8192 .bf16) (ix2 r w) = (V (Proc.devRef .tc main_arg11) : FVec Ideal S4096x8192 .bf16) (ix2 r w) := by
  unfold out_main_v37
  clean_types
  pointwise
  rw [dif_neg (by omega)]
  have e1 : 4096 + (w.val - 4096) = w.val := by omega
  simp only [e1, Fin.eta]

theorem out_dz (H : Inv D 32 V) (q : Fin 32) (l : Fin 128) (g : Fin 8) (w : Fin 256) :
    (out_main_v41 V : FVec Ideal S4096x14336 .bf16) (ix2 (tok q l) (⟨g.val * 256 + w.val, by omega⟩ : Fin 14336)) = ((D.chunk (31 - q.val) g).dz l w : EReal) := by
  unfold out_main_v41
  clean_types
  pointwise
  rw [dif_pos (by omega)]
  have e1 : (g.val * 256 + w.val) / 256 = g.val := by omega
  have e2 : (g.val * 256 + w.val) % 256 = w.val := by omega
  simp only [tok_div, tok_mod, e1, e2, Fin.eta]
  exact H.dz _ _ _ _ (by omega)

theorem out_rest41 (H : Inv D 32 V) (r : Fin 4096) (w : Fin 14336) (hw : 2048 ≤ w.val) :
    (out_main_v41 V : FVec Ideal S4096x14336 .bf16) (ix2 r w) = (V (Proc.devRef .tc main_arg10) : FVec Ideal S4096x14336 .bf16) (ix2 r w) := by
  unfold out_main_v41
  clean_types
  pointwise
  rw [dif_neg (by omega)]
  have e1 : 2048 + (w.val - 2048) = w.val := by omega
  simp only [e1, Fin.eta]

theorem out_ddt (H : Inv D 32 V) (g : Fin 8) (q : Fin 32) (l : Fin 128) (h : Fin 4) :
    (out_main_v43 V : FVec Ideal S8x4096x4 .f32) (ix3 g (tok q l) h) = ((D.chunk (31 - q.val) g).ddt l h : EReal) := by
  unfold out_main_v43
  clean_types
  pointwise
  simp only [tok_div, tok_mod, Fin.eta]
  exact H.ddt _ _ _ _ (by omega)

theorem out_dbias (H : Inv D 32 V) (g : Fin 8) (h : Fin 4) :
    (out_main_v47 V : FVec Ideal S8x3x4 .f32) (ix3 g 0 h) = ((∑ j ∈ Finset.range 32, (D.chunk j g).dbias h : ℝ) : EReal) := by
  unfold out_main_v47
  clean_types
  pointwise
  exact H.dbias g h

theorem out_dalog (H : Inv D 32 V) (g : Fin 8) (h : Fin 4) :
    (out_main_v47 V : FVec Ideal S8x3x4 .f32) (ix3 g 1 h) = ((∑ j ∈ Finset.range 32, (D.chunk j g).dalog h : ℝ) : EReal) := by
  unfold out_main_v47
  clean_types
  pointwise
  exact H.dalog g h

theorem out_dskip (H : Inv D 32 V) (g : Fin 8) (h : Fin 4) :
    (out_main_v47 V : FVec Ideal S8x3x4 .f32) (ix3 g 2 h) = ((∑ j ∈ Finset.range 32, (D.chunk j g).dskip h : ℝ) : EReal) := by
  unfold out_main_v47
  clean_types
  pointwise
  exact H.dskip g h

theorem out_dnw (H : Inv D 32 V) (g : Fin 8) (w : Fin 256) :
    (out_main_v48 V : FVec Ideal S8x1x256 .f32) (ix3 g 0 w) = ((∑ j ∈ Finset.range 32, (D.chunk j g).dnw w : ℝ) : EReal) := by
  unfold out_main_v48
  clean_types
  pointwise
  exact H.dnw g w

end Cert.ReferenceIdeal.Loop

end
-- ==== Proof.Finite.lean ====
/- What the precondition says: every entry the call reads is a real number. -/
module

public import proofs.«01_k».proof.Defs
public import proofs.«01_k».proof.Proof.Gen.Pre_finite
public import proofs.«01_k».proof.Proof.Whole
public import Idealize.ShloMosaic.Lib.ReduceAll
public import Idealize.ShloMosaic.Lib.Affine
public import Idealize.ShloMosaic.Lib.Pointwise

@[expose] public section

set_option maxRecDepth 16384

noncomputable section

namespace Cert.Finite

open Cert.Ssd Cert.Pre_finite Idealize.ShloMosaic Idealize.SL.Sem

/-- The entry is a real number. -/
def Real (x : EReal) : Prop := x = ((x.toReal : ℝ) : EReal)

theorem real_of_lt {x y : EReal} (h : max x (-x) < y) : Real x := by
  refine (EReal.coe_toReal ?_ ?_).symm
  · rintro rfl
    exact not_top_lt (lt_of_le_of_lt (le_max_left _ _) h)
  · rintro rfl
    exact not_top_lt (lt_of_le_of_lt (le_max_right (⊥ : EReal) (-⊥)) h)

theorem real_of_cmp {x y : EReal} (h : Ideal.cmp .olt (max x (-x)) y = 1#1) : Real x := by
  refine real_of_lt (y := y) ?_
  by_contra hn
  simp [Ideal.cmp, hn] at h

instance : Subsingleton S_.Idx := ⟨fun _ _ => funext fun k => k.elim0⟩

/-- One conjunct of the precondition, read at an index. -/
theorem real_of_reduce {s : Shape} {axes : List (Fin s.rank)} (x y : FVec Ideal s .f32) (init : IVec S_ 1) (h : s.ReducesTo axes S_) (hu : 0 < S_.numel)
    (j : S_.Idx) (e : Host.reduce IntOp.andi (cmpf .olt (Host.absf x) y) init h hu j = 1#1) (i : s.Idx) : Real (x i) :=
  real_of_cmp (y := y i) (Host.reduce_andi_all _ init h hu j e i)

variable [Cert.Pre_finite.Facts]

theorem read (a0 : FVec Ideal S4096x2048 .f32) (a1 : FVec Ideal S4096x8192 .bf16) (a2 : FVec Ideal S4096x14336 .bf16) (a3 : FVec Ideal S4096x32 .f32) (a4 a5 a6 : FVec Ideal S1x32 .f32) (a7 : FVec Ideal S1x2048 .f32) (a8 : FVec Ideal S4096x2048 .f32) (a9 : FVec Ideal S8x32x256x128 .f32) (a10 : FVec Ideal S4096x14336 .bf16) (a11 : FVec Ideal S4096x8192 .bf16)
    (h : Cert.Pre_finite.fn (F := Ideal) a0 a1 a2 a3 a4 a5 a6 a7 a8 a9 a10 a11 = fun _ => 1#1) :
    (∀ i, Real (a0 i)) ∧ (∀ r (w : Fin 8192), w.val < 4096 → Real (a1 (ix2 r w))) ∧ (∀ r (w : Fin 14336), w.val < 2048 → Real (a2 (ix2 r w))) ∧ (∀ i, Real (a3 i))
      ∧ (∀ i, Real (a4 i)) ∧ (∀ i, Real (a5 i)) ∧ (∀ i, Real (a6 i)) ∧ (∀ i, Real (a7 i)) ∧ (∀ i, Real (a8 i)) ∧ (∀ i, Real (a9 i)) := by
  have e := congrFun h (fun k => k.elim0)
  dsimp only [fn, fn_part1, fn_part2, fn_part3] at e
  obtain ⟨e, h9⟩ := IntOp.andi_eq_one.1 e
  obtain ⟨e, h8⟩ := IntOp.andi_eq_one.1 e
  obtain ⟨e, h7⟩ := IntOp.andi_eq_one.1 e
  obtain ⟨e, h6⟩ := IntOp.andi_eq_one.1 e
  obtain ⟨e, h5⟩ := IntOp.andi_eq_one.1 e
  obtain ⟨e, h4⟩ := IntOp.andi_eq_one.1 e
  obtain ⟨e, h3⟩ := IntOp.andi_eq_one.1 e
  obtain ⟨e, h2⟩ := IntOp.andi_eq_one.1 e
  obtain ⟨h0, h1⟩ := IntOp.andi_eq_one.1 e
  refine ⟨real_of_reduce _ _ _ _ _ _ h0, fun r w hw => ?_, fun r w hw => ?_, real_of_reduce _ _ _ _ _ _ h3, real_of_reduce _ _ _ _ _ _ h4, real_of_reduce _ _ _ _ _ _ h5,
    real_of_reduce _ _ _ _ _ _ h6, real_of_reduce _ _ _ _ _ _ h7, real_of_reduce _ _ _ _ _ _ h8, real_of_reduce _ _ _ _ _ _ h9⟩
  · have k := real_of_reduce _ _ _ _ _ _ h1 (ix2 r (⟨w.val, hw⟩ : Fin 4096))
    have e1 : (extf .f32 (extractStridedSlice S4096x4096 ![0, 0] a1 Facts.slices_S4096x8192_S4096x4096_0_0) Facts.bitsLt_bf16_f32 : FVec Ideal S4096x4096 .f32) (ix2 r (⟨w.val, hw⟩ : Fin 4096)) = a1 (ix2 r w) := by
      pointwise
    rwa [e1] at k
  · have k := real_of_reduce _ _ _ _ _ _ h2 (ix2 r (⟨w.val, hw⟩ : Fin 2048))
    have e1 : (extf .f32 (extractStridedSlice S4096x2048 ![0, 0] a2 Facts.slices_S4096x14336_S4096x2048_0_0) Facts.bitsLt_bf16_f32 : FVec Ideal S4096x2048 .f32) (ix2 r (⟨w.val, hw⟩ : Fin 2048)) = a2 (ix2 r w) := by
      pointwise
    rwa [e1] at k

/-- The real numbers behind the arguments. -/
def data (a0 : FVec Ideal S4096x2048 .f32) (a1 : FVec Ideal S4096x8192 .bf16) (a2 : FVec Ideal S4096x14336 .bf16) (a3 : FVec Ideal S4096x32 .f32) (a4 a5 a6 : FVec Ideal S1x32 .f32) (a7 : FVec Ideal S1x2048 .f32) (a8 : FVec Ideal S4096x2048 .f32) (a9 : FVec Ideal S8x32x256x128 .f32) : Data where
  dyn r w := EReal.toReal (a0 (ix2 r w))
  conv r w := EReal.toReal (a1 (ix2 r w))
  proj r w := EReal.toReal (a2 (ix2 r w))
  dt r h := EReal.toReal (a3 (ix2 r h))
  bias h := EReal.toReal (a4 (ix2 0 h))
  alog h := EReal.toReal (a5 (ix2 0 h))
  skip h := EReal.toReal (a6 (ix2 0 h))
  nw w := EReal.toReal (a7 (ix2 0 w))
  y r w := EReal.toReal (a8 (ix2 r w))
  S g c w n := EReal.toReal (a9 (ix4 g c w n))

end Cert.Finite

end
-- ==== Proof.Final.lean ====
/- The kernel's results are the reference's, over the real numbers. -/
module

public import proofs.«01_k».proof.Proof.Arrays
public import proofs.«01_k».proof.Proof.RefOut
public import proofs.«01_k».proof.Proof.Finite

@[expose] public section

set_option maxRecDepth 16384

noncomputable section

namespace Cert.Final

open Cert.Ssd Cert.KernelIdeal.Gen Idealize.ShloMosaic.StableHlo
open Cert.KernelIdeal.Group (array10 array11 array12 array13 array14 rest10 rest11 left_at last pt apAt anAt dpar)
open Cert.ReferenceIdeal.Loop (Inv out_dx out_dB out_dC out_dz out_ddt out_dbias out_dalog out_dskip out_dnw out_rest37 out_rest41)
open Cert.ReferenceIdeal.Value (out_main_v37 out_main_v41 out_main_v43 out_main_v47 out_main_v48)
open Idealize.ShloMosaic Idealize.ShloMosaic.TcCoe Idealize.SL.Sem

section

open Cert.KernelIdeal

variable {D : Data} (m : (ℓ : Loc nD τ sig) → Buf (Elt Ideal) ℓ) (c : Dev nD) (A : Cert.KernelIdeal.Group.Args D m c)
variable {V : Valuation Cert.ReferenceIdeal.τ Cert.ReferenceIdeal.sig (Elt Ideal)} (H : Inv D 32 V)
include A H

omit A H in
theorem split_row {P : Fin 4096 → Prop} (h : ∀ q l, P (tok q l)) (r : Fin 4096) : P r := by
  have e : r = tok (⟨r.val / 128, by omega⟩ : Fin 32) (⟨r.val % 128, by omega⟩ : Fin 128) :=
    Fin.ext (by show r.val = r.val / 128 * 128 + r.val % 128; omega)
  rw [e]
  exact h _ _

theorem result0 (e : (V (Proc.devRef .tc Cert.ReferenceIdeal.main_arg11) : FVec Ideal S4096x8192 .bf16) = (m ((c.tc : Thread nD τ).loc main_arg11) : FVec Ideal S4096x8192 .bf16)) :
    ((dats m 0 c).arrAt 10 cfg0.N : FVec Ideal S4096x8192 .bf16) = (out_main_v37 V : FVec Ideal S4096x8192 .bf16) := by
  funext i
  rw [eq_ix2 i]
  generalize i 0 = r
  generalize i 1 = w
  revert r
  refine split_row fun q l => ?_
  have L := left_at A (31 - q.val) (pt q).isLt
  by_cases h1 : w.val < 2048
  · have ew : w = (⟨(⟨w.val / 256, by omega⟩ : Fin 8).val * 256 + (⟨w.val % 256, by omega⟩ : Fin 256).val, by dsimp only; omega⟩ : Fin 8192) := Fin.ext (by dsimp only; omega)
    rw [ew]
    exact (array10 m c q l ⟨_, by dsimp only; omega⟩).trans ((L.dx _ l _).trans (out_dx H q l _ _).symm)
  by_cases h2 : w.val < 3072
  · have ew : w = (⟨2048 + (⟨(w.val - 2048) / 128, by omega⟩ : Fin 8).val * 128 + (⟨(w.val - 2048) % 128, by omega⟩ : Fin 128).val, by dsimp only; omega⟩ : Fin 8192) := Fin.ext (by dsimp only; omega)
    rw [ew]
    exact (array10 m c q l ⟨_, by dsimp only; omega⟩).trans ((L.dB _ l _).trans (out_dB H q l _ _).symm)
  by_cases h3 : w.val < 4096
  · have ew : w = (⟨3072 + (⟨(w.val - 3072) / 128, by omega⟩ : Fin 8).val * 128 + (⟨(w.val - 3072) % 128, by omega⟩ : Fin 128).val, by dsimp only; omega⟩ : Fin 8192) := Fin.ext (by dsimp only; omega)
    rw [ew]
    exact (array10 m c q l ⟨_, by dsimp only; omega⟩).trans ((L.dC _ l _).trans (out_dC H q l _ _).symm)
  exact (rest10 m c _ w (by omega)).trans ((congrFun e _).symm.trans (out_rest37 H _ w (by omega)).symm)

theorem result1 (e : (V (Proc.devRef .tc Cert.ReferenceIdeal.main_arg10) : FVec Ideal S4096x14336 .bf16) = (m ((c.tc : Thread nD τ).loc main_arg10) : FVec Ideal S4096x14336 .bf16)) :
    ((dats m 0 c).arrAt 11 cfg0.N : FVec Ideal S4096x14336 .bf16) = (out_main_v41 V : FVec Ideal S4096x14336 .bf16) := by
  funext i
  rw [eq_ix2 i]
  generalize i 0 = r
  generalize i 1 = w
  revert r
  refine split_row fun q l => ?_
  have L := left_at A (31 - q.val) (pt q).isLt
  by_cases h1 : w.val < 2048
  · have ew : w = (⟨(⟨w.val / 256, by omega⟩ : Fin 8).val * 256 + (⟨w.val % 256, by omega⟩ : Fin 256).val, by dsimp only; omega⟩ : Fin 14336) := Fin.ext (by dsimp only; omega)
    rw [ew]
    exact (array11 m c q l ⟨_, by dsimp only; omega⟩).trans ((L.dz _ l _).trans (out_dz H q l _ _).symm)
  exact (rest11 m c _ w (by omega)).trans ((congrFun e _).symm.trans (out_rest41 H _ w (by omega)).symm)

theorem result2 : ((dats m 0 c).arrAt 12 cfg0.N : FVec Ideal S8x4096x4 .f32) = (out_main_v43 V : FVec Ideal S8x4096x4 .f32) := by
  funext i
  rw [eq_ix3 i]
  generalize i 0 = g
  generalize i 1 = r
  generalize i 2 = h
  revert r
  refine split_row fun q l => ?_
  exact (array12 m c q g l h).trans (((left_at A (31 - q.val) (pt q).isLt).ddt g l h).trans (out_ddt H g q l h).symm)

theorem result3 : ((dats m 0 c).arrAt 13 cfg0.N : FVec Ideal S8x3x4 .f32) = (out_main_v47 V : FVec Ideal S8x3x4 .f32) := by
  rw [array13]
  funext i
  rw [eq_ix3 i]
  generalize i 0 = g
  generalize i 1 = r
  generalize i 2 = h
  refine ((left_at A 31 last.isLt).dp g r h).trans ?_
  change Fin 3 at r
  match r with
  | 0 => exact (out_dbias H g h).symm
  | 1 => exact (out_dalog H g h).symm
  | 2 => exact (out_dskip H g h).symm

theorem result4 : ((dats m 0 c).arrAt 14 cfg0.N : FVec Ideal S8x1x256 .f32) = (out_main_v48 V : FVec Ideal S8x1x256 .f32) := by
  rw [array14]
  funext i
  rw [eq_ix3 i]
  generalize i 0 = g
  generalize i 1 = r
  generalize i 2 = w
  change Fin 1 at r
  match r with
  | 0 => exact ((left_at A 31 last.isLt).dnw g w).trans (out_dnw H g w).symm

end

section

variable [Cert.Pre_finite.Facts] (m : (ℓ : Loc Cert.KernelIdeal.nD Cert.KernelIdeal.τ Cert.KernelIdeal.sig) → Buf (Elt Ideal) ℓ) (c : Dev Cert.KernelIdeal.nD)

/-- The real numbers behind the arguments of one device. -/
def reals : Data :=
  Cert.Finite.data (m (c.tc.loc Cert.KernelIdeal.main_arg0)) (m (c.tc.loc Cert.KernelIdeal.main_arg1)) (m (c.tc.loc Cert.KernelIdeal.main_arg2)) (m (c.tc.loc Cert.KernelIdeal.main_arg3))
    (m (c.tc.loc Cert.KernelIdeal.main_arg4)) (m (c.tc.loc Cert.KernelIdeal.main_arg5)) (m (c.tc.loc Cert.KernelIdeal.main_arg6)) (m (c.tc.loc Cert.KernelIdeal.main_arg7))
    (m (c.tc.loc Cert.KernelIdeal.main_arg8)) (m (c.tc.loc Cert.KernelIdeal.main_arg9))

theorem args (h : Cert.Pre_KernelIdeal_finite m) : Cert.KernelIdeal.Group.Args (reals m c) m c := by
  obtain ⟨h0, h1, h2, h3, h4, h5, h6, h7, h8, h9⟩ := Cert.Finite.read _ _ _ _ _ _ _ _ _ _ _ _ (h c)
  exact ⟨fun _ _ => h0 _, h1, h2, fun _ _ => h3 _, fun _ => h4 _, fun _ => h5 _, fun _ => h6 _, fun _ => h7 _, fun _ _ => h8 _, fun _ _ _ _ => h9 _⟩

end

end Cert.Final

end
-- ==== Proof.Product.lean ====
/- Products of matrices over the extended reals, and what the products' proofs share. -/
module

public import Idealize.ShloMosaic.Lib.Pipeline.ValueKit
public import Idealize.ShloMosaic.Lib.Pointwise
public import Idealize.ShloMosaic.Lib.Quiescent

@[expose] public section

noncomputable section

namespace Cert.Product

open Idealize.ShloMosaic

/-- The transpose of `a` times `b`. -/
def tn (K M N : ℕ) (a : FVec Ideal ⟨2, ![K, M]⟩ .bf16) (b : FVec Ideal ⟨2, ![K, N]⟩ .bf16) (i : (⟨2, ![M, N]⟩ : Shape).Idx) : EReal :=
  ∑ k : Fin K, a (ix2 k (i 0)) * b (ix2 k (i 1))

/-- `a` times the transpose of `b`. -/
def nt (M K N : ℕ) (a : FVec Ideal ⟨2, ![M, K]⟩ .bf16) (b : FVec Ideal ⟨2, ![N, K]⟩ .bf16) (i : (⟨2, ![M, N]⟩ : Shape).Idx) : EReal :=
  ∑ k : Fin K, a (ix2 (i 0) k) * b (ix2 (i 1) k)

/-- `a` times `b`. -/
def nn (M K N : ℕ) (a : FVec Ideal ⟨2, ![M, K]⟩ .bf16) (b : FVec Ideal ⟨2, ![K, N]⟩ .bf16) (i : (⟨2, ![M, N]⟩ : Shape).Idx) : EReal :=
  ∑ k : Fin K, a (ix2 (i 0) k) * b (ix2 k (i 1))

theorem sums {K : ℕ} {f g : Fin K → EReal} (h : ∀ k, f k = g k) : ∑ k, f k = ∑ k, g k := Finset.sum_congr rfl fun k _ => h k

theorem pos_eq {a b : EReal} (h : a = b) : max a 0 = max b 0 := by rw [h]

theorem sq_eq {a b : EReal} (h : a = b) : max a 0 * max a 0 = max b 0 * max b 0 := by rw [h]

theorem twice_eq {a b c d : EReal} (e : EReal) (h : a = b) (k : c = d) : a * (e * c) = b * (e * d) := by rw [h, k]

theorem add_eq {a b c d : EReal} (h : a = b) (k : c = d) : a + c = b + d := by rw [h, k]

theorem pos_twice {u : EReal} (a e : EReal) (h : 0 ≤ u) : (if 0 < u then a * (e * max u 0) else 0) = a * (e * u) := by
  rcases h.lt_or_eq with k | k
  · rw [if_pos k, max_eq_left h]
  · rw [← k, if_neg (lt_irrefl _), mul_zero, mul_zero]

theorem congr3 {α β γ δ : Type*} (f : α → β → γ → δ) {a a' : α} {b b' : β} {c c' : γ} (h : a = a') (k : b = b') (l : c = c') : f a b c = f a' b' c' := by rw [h, k, l]

end Cert.Product

end
-- ==== Proof.MmProjDw.lean ====
/- The projection's weight gradient. -/
module

public import proofs.«01_k».proof.Defs
public import proofs.«01_k».proof.Proof.Product
public import proofs.«01_k».proof.Proof.Gen.ProjDwIdeal.Value
public import proofs.«01_k».proof.Proof.Gen.ProjDwRefIdeal.Run

@[expose] public section

set_option maxRecDepth 16384

noncomputable section

namespace Cert.ProjDwIdeal.Product

open Cert.ProjDwIdeal Cert.ProjDwIdeal.Gen Cert.Product
open Idealize.ShloMosaic Idealize.ShloMosaic.TcCoe Idealize.SL.Sem

theorem idx0 : ∀ t : Fin grid0.N, win0_0.index t = ![0, 0] := by decide +kernel
theorem idx1 : ∀ t : Fin grid0.N, win0_1.index t = ![0, t.val] := by decide +kernel
theorem idx2 : ∀ t : Fin grid0.N, win0_2.index t = ![0, t.val] := by decide +kernel

/-- The array that the kernel ends with. -/
theorem array (m : (ℓ : Loc nD τ sig) → Buf (Elt Ideal) ℓ) (c : Dev nD) : (dats m 0 c).arrAt 2 cfg0.N = tn 4096 1024 14336 (m (c.tc.loc main_arg0)) (m (c.tc.loc main_arg1)) := by
  refine (dats m 0 c).arrAt_eq_of_covers 2 _ (by decide +kernel) fun t hf y => ?_
  blk_simp
  rw [after0_2]
  frame_out
  rw [eq_ix2 y]
  pointwise [k0_pay1]
  refine sums fun k => ?_
  congr 1 <;> blk_ext [iblk, V, idx0 t, idx1 t, idx2 t]

theorem algebraic : Cert.algebraic_ProjDwIdeal_ProjDwRefIdeal (hProjDwIdeal := Gen.facts) (hProjDwRefIdeal := Cert.ProjDwRefIdeal.Gen.facts) := fun m ρ m' ρ' _ hm =>
  ⟨fun c => tn 4096 1024 14336 (m (c.tc.loc main_arg0)) (m (c.tc.loc main_arg1)),
    (θ_run defs _ _).mono (fun r h c => ⟨(h c).1.trans (array m c), (h c).2⟩) (Value.run_blocks m ρ),
    (θ_run Cert.ProjDwRefIdeal.defs _ _).mono (fun r h c => ⟨(h c).1.trans (Eq.trans (by
        funext i
        rw [eq_ix2 i]
        pointwise
        exact sums fun k => mul_comm _ _) (congrArg₂ (tn 4096 1024 14336) (hm c).1 (hm c).2)), (h c).2⟩) (Cert.ProjDwRefIdeal.Value.run m' ρ')⟩

theorem reference : Cert.quiescent_ProjDwRefIdeal (hProjDwRefIdeal := Cert.ProjDwRefIdeal.Gen.facts) := fun m ρ _ =>
  (θ_run Cert.ProjDwRefIdeal.defs _ _).mono (fun r h => ⟨fun c => (h c).2, sem_eq_zero_of_no_sems (by decide) r.2⟩) (Cert.ProjDwRefIdeal.Value.run (F := Ideal) m ρ)

end Cert.ProjDwIdeal.Product

end
-- ==== Proof.MmProjDx.lean ====
/- The input gradient of the projection, added to the gradient that passes by it: seven partial products per block. -/
module

public import proofs.«01_k».proof.Defs
public import proofs.«01_k».proof.Proof.Product
public import proofs.«01_k».proof.Proof.Gen.ProjDxIdeal.Value
public import proofs.«01_k».proof.Proof.Gen.ProjDxRefIdeal.Run

@[expose] public section

set_option maxRecDepth 16384

noncomputable section

namespace Cert.ProjDxIdeal.Product

open Cert.ProjDxIdeal Cert.ProjDxIdeal.Gen Cert.Product
open Idealize.ShloMosaic Idealize.ShloMosaic.TcCoe Idealize.SL.Sem

theorem idx0 : ∀ t : Fin grid0.N, win0_0.index t = ![t.val / 7, t.val % 7] := by decide +kernel
theorem idx1 : ∀ t : Fin grid0.N, win0_1.index t = ![0, t.val % 7] := by decide +kernel
theorem idx2 : ∀ t : Fin grid0.N, win0_2.index t = ![t.val / 7, 0] := by decide +kernel
theorem idx3 : ∀ t : Fin grid0.N, win0_3.index t = ![t.val / 7, 0] := by decide +kernel

theorem hz : (![0, 0] : Fin 2 → Nat) = fun _ => 0 := funext fun a => by fin_cases a <;> rfl

variable (m : (ℓ : Loc nD τ sig) → Buf (Elt Ideal) ℓ) (c : Dev nD)

/-- At the first point of a block the accumulator is reset before the first partial product. -/
theorem first (t : Fin cfg0.N) (h0 : t.val % 7 = 0) (h1 : ¬t.val % 7 = 6) :
    (outsAt0 m c t.val t.isLt).2 = k0_pay2 k0_pay1 (iblk m c 0 t) (iblk m c 1 t) := by
  rw [outsAt0_A m c t h0 h1]
  dsimp only
  unfold sout0_A_0
  rw [View.read_writes_eq_canon _ _ _ (scover0_A_0 _ _ _ _ _ _ _ _ _ _ _ _ _ _ _ _ _)]
  unfold kernelRun0_A
  dsimp only
  sl_unfold_words
  rw [View.canon_cons_unit_zero (S := S1024x1024) hz, View.readCov_unit_zero (S := S1024x1024) _ hz]
  simp only [View.readAt_eq_ld, (hs0_0 t).read_unread, (hs0_1 t).read_unread, View.ld_unit_zero (S := S1024x2048) hz]

/-- Each point between adds its partial product. -/
theorem middle (t : Fin cfg0.N) (h0 : ¬t.val % 7 = 0) (h1 : ¬t.val % 7 = 6) :
    (outsAt0 m c t.val t.isLt).2 = k0_pay2 (outsAt0 m c (t.val - 1) (Nat.lt_of_le_of_lt (Nat.sub_le _ _) t.isLt)).2 (iblk m c 0 t) (iblk m c 1 t) := by
  rw [outsAt0_B m c t h0 h1]
  dsimp only
  unfold sout0_B_0
  rw [View.read_writes_eq_canon _ _ _ (scover0_B_0 _ _ _ _ _ _ _ _ _ _ _ _ _ _ _ _ _ _)]
  unfold kernelRun0_B
  dsimp only
  rw [View.canon_unit_zero hz]
  simp only [View.readAt_eq_ld, (hs0_0 t).read_unread, (hs0_1 t).read_unread, (Memref.isWhole_whole _).read_unread, View.ld_unit_zero (S := S1024x2048) hz, View.ld_unit_zero (S := S1024x1024) hz]

/-- The last point adds its partial product and the passing gradient. -/
theorem last (t : Fin cfg0.N) (h0 : ¬t.val % 7 = 0) (h1 : t.val % 7 = 6) :
    (outsAt0 m c t.val t.isLt).1 = k0_pay3 (k0_pay2 (outsAt0 m c (t.val - 1) (Nat.lt_of_le_of_lt (Nat.sub_le _ _) t.isLt)).2 (iblk m c 0 t) (iblk m c 1 t)) (iblk m c 2 t) := by
  rw [outsAt0_C m c t h0 h1]
  dsimp only
  unfold out0_C_3
  rw [View.read_writes_eq_canon _ _ _ (cover0_C_3 _ _ _ _ _ _ _ _ _ _ _ _ _ _ _ _ _ _)]
  unfold kernelRun0_C
  dsimp only
  sl_unfold_words
  rw [View.canon_unit_zero hz]
  simp only [View.readCov_unit_zero (S := S1024x1024) _ hz, View.readAt_eq_ld, (hs0_0 t).read_unread, (hs0_1 t).read_unread, (hs0_2 t).read_unread, (Memref.isWhole_whole _).read_unread, View.ld_unit_zero (S := S1024x2048) hz, View.ld_unit_zero (S := S1024x1024) hz]

/-- The part of a product's entry that the `j`-th 2048 terms make. -/
def part (a : FVec Ideal S4096x14336 .bf16) (b : FVec Ideal S1024x14336 .bf16) (r : Fin 4096) (s : Fin 1024) (j : ℕ) : EReal :=
  if h : j < 7 then ∑ k : Fin 2048, a (ix2 r ⟨2048 * j + k.val, by omega⟩) * b (ix2 s ⟨2048 * j + k.val, by omega⟩) else 0

theorem part_eq (a : FVec Ideal S4096x14336 .bf16) (b : FVec Ideal S1024x14336 .bf16) (r : Fin 4096) (s : Fin 1024) (j : ℕ) (h : j < 7) :
    part a b r s j = ∑ k : Fin 2048, a (ix2 r ⟨2048 * j + k.val, by omega⟩) * b (ix2 s ⟨2048 * j + k.val, by omega⟩) := dif_pos h

theorem parts (a : FVec Ideal S4096x14336 .bf16) (b : FVec Ideal S1024x14336 .bf16) (i : S4096x1024.Idx) :
    nt 4096 14336 1024 a b i = ∑ j ∈ Finset.range 7, part a b (i 0) (i 1) j := by
  rw [Finset.sum_range]
  refine Eq.trans ((Equiv.sum_comp (finProdFinEquiv (m := 7) (n := 2048)) fun k => a (ix2 (i 0) k) * b (ix2 (i 1) k)).symm) ?_
  rw [Fintype.sum_prod_type]
  refine sums fun j => ?_
  refine Eq.trans ?_ (part_eq _ _ _ _ _ j.isLt).symm
  refine sums fun k => ?_
  have e : finProdFinEquiv (j, k) = (⟨2048 * j.val + k.val, by omega⟩ : Fin 14336) := Fin.ext (by simp [finProdFinEquiv]; omega)
  exact congrArg₂ (fun u v => a (ix2 (i 0) u) * b (ix2 (i 1) v)) e e

/-- A point's partial product. -/
theorem block (t : Fin cfg0.N) (acc : Vec Ideal S1024x1024 .f32) (y : S1024x1024.Idx) (r : Fin 4096) (hr : r.val = 1024 * (t.val / 7) + (y 0).val) :
    k0_pay2 acc (iblk m c 0 t) (iblk m c 1 t) y = (acc y : EReal) + part (m (c.tc.loc main_arg0)) (m (c.tc.loc main_arg1)) r (y 1) (t.val % 7) := by
  rw [eq_ix2 y]
  pointwise [k0_pay2]
  refine add_eq rfl (Eq.trans (sums fun k => ?_) (part_eq _ _ _ _ _ (Nat.mod_lt t.val (by decide : 0 < 7))).symm)
  congr 1 <;> blk_ext [iblk, V, idx0 t, idx1 t] <;> omega

theorem reset (y : S1024x1024.Idx) (p : ℕ → EReal) (j : ℕ) (h : j = 0) : (k0_pay1 (F := Ideal) y : EReal) + p j = ∑ i ∈ Finset.range (j + 1), p i := by
  have e : (k0_pay1 (F := Ideal) y : EReal) = 0 := by
    rw [eq_ix2 y]
    pointwise [k0_pay1]
  rw [e, h, Finset.sum_range_one, zero_add]

theorem acc (n : ℕ) : ∀ (h : n < cfg0.N) (y : S1024x1024.Idx) (r : Fin 4096) (hr : r.val = 1024 * (n / 7) + (y 0).val), n % 7 ≠ 6 →
    (outsAt0 m c n h).2 y = (∑ j ∈ Finset.range (n % 7 + 1), part (m (c.tc.loc main_arg0)) (m (c.tc.loc main_arg1)) r (y 1) j : EReal) := by
  induction n with
  | zero =>
    intro h y r hr h6
    rw [first m c ⟨0, h⟩ rfl h6, block m c ⟨0, h⟩ _ y r hr]
    exact reset y _ _ rfl
  | succ n ih =>
    intro h y r hr h6
    by_cases h0 : (n + 1) % 7 = 0
    · rw [first m c ⟨n + 1, h⟩ h0 h6, block m c ⟨n + 1, h⟩ _ y r hr]
      exact reset y _ _ h0
    · rw [middle m c ⟨n + 1, h⟩ h0 h6, block m c ⟨n + 1, h⟩ _ y r hr]
      have e : (n + 1) % 7 = n % 7 + 1 := by omega
      show (outsAt0 m c n _).2 y + _ = _
      rw [ih _ y r (by omega) (by omega), e, Finset.sum_range_succ _ (n % 7 + 1)]
      trace_state

def grad (a : FVec Ideal S4096x14336 .bf16) (b : FVec Ideal S1024x14336 .bf16) (d : FVec Ideal S4096x1024 .f32) (i : S4096x1024.Idx) : EReal :=
  nt 4096 14336 1024 a b i + d i

theorem array : (dats m 0 c).arrAt 3 cfg0.N = grad (m (c.tc.loc main_arg0)) (m (c.tc.loc main_arg1)) (m (c.tc.loc main_arg2)) := by
  refine (dats m 0 c).arrAt_eq_of_covers 3 _ (by decide +kernel) fun t hf y => ?_
  have h6 : t.val % 7 = 6 := (flush0_3 t).mp hf
  blk_simp
  rw [after0_3, last m c t (by omega) h6]
  have l : (y 0).val < 1024 := (y 0).isLt
  have hN : t.val < 28 := lt_of_lt_of_eq t.isLt N_0
  have e0 : 1024 * (t.val / 7) + (y 0).val < 4096 := by omega
  have e : (outsAt0 m c (t.val - 1) (Nat.lt_of_le_of_lt (Nat.sub_le _ _) t.isLt)).2 y = (∑ j ∈ Finset.range 6, part (m (c.tc.loc main_arg0)) (m (c.tc.loc main_arg1)) ⟨1024 * (t.val / 7) + (y 0).val, e0⟩ (y 1) j : EReal) := by
    have q : (t.val - 1) % 7 + 1 = 6 := by omega
    rw [acc m c (t.val - 1) _ y ⟨1024 * (t.val / 7) + (y 0).val, e0⟩ (by show 1024 * (t.val / 7) + (y 0).val = _; omega) (by omega), q]
  have g := block m c t (outsAt0 m c (t.val - 1) (Nat.lt_of_le_of_lt (Nat.sub_le _ _) t.isLt)).2 y ⟨1024 * (t.val / 7) + (y 0).val, e0⟩ rfl
  rw [e, h6, ← Finset.sum_range_succ _ 6] at g
  refine add_eq (g.trans ?_) ?_
  · have E : (win0_3.blk t).view.emb y = (ix2 ⟨1024 * (t.val / 7) + (y 0).val, e0⟩ (y 1) : S4096x1024.Idx) := by
      blk_ext [idx3 t]
    rw [E]
    exact (parts (m (c.tc.loc main_arg0)) (m (c.tc.loc main_arg1)) (ix2 ⟨1024 * (t.val / 7) + (y 0).val, e0⟩ (y 1))).symm
  · blk_ext [iblk, V, idx2 t, idx3 t]

theorem algebraic : Cert.algebraic_ProjDxIdeal_ProjDxRefIdeal (hProjDxIdeal := Gen.facts) (hProjDxRefIdeal := Cert.ProjDxRefIdeal.Gen.facts) := fun m ρ m' ρ' _ hm =>
  ⟨fun c => grad (m (c.tc.loc main_arg0)) (m (c.tc.loc main_arg1)) (m (c.tc.loc main_arg2)),
    (θ_run defs _ _).mono (fun r h c => ⟨(h c).1.trans (array m c), (h c).2⟩) (Value.run_blocks m ρ),
    (θ_run Cert.ProjDxRefIdeal.defs _ _).mono (fun r h c => ⟨(h c).1.trans (by
        obtain ⟨e0, e1, e2⟩ := hm c
        refine Eq.trans (b := grad (m' (c.tc.loc Cert.ProjDxRefIdeal.main_arg0)) (m' (c.tc.loc Cert.ProjDxRefIdeal.main_arg1)) (m' (c.tc.loc Cert.ProjDxRefIdeal.main_arg2))) ?_ (congr3 grad e0 e1 e2)
        funext i
        rw [eq_ix2 i]
        pointwise
        exact add_comm _ _), (h c).2⟩) (Cert.ProjDxRefIdeal.Value.run m' ρ')⟩

theorem reference : Cert.quiescent_ProjDxRefIdeal (hProjDxRefIdeal := Cert.ProjDxRefIdeal.Gen.facts) := fun m ρ _ =>
  (θ_run Cert.ProjDxRefIdeal.defs _ _).mono (fun r h => ⟨fun c => (h c).2, sem_eq_zero_of_no_sems (by decide) r.2⟩) (Cert.ProjDxRefIdeal.Value.run (F := Ideal) m ρ)

end Cert.ProjDxIdeal.Product

end
-- ==== Proof.MmDownDx.lean ====
/- The input gradient of the second product of the channel mixing, carried through the square of the positive part. -/
module

public import proofs.«01_k».proof.Defs
public import proofs.«01_k».proof.Proof.Product
public import proofs.«01_k».proof.Proof.Gen.DownDxIdeal.Value
public import proofs.«01_k».proof.Proof.Gen.DownDxRefIdeal.Run
public import proofs.«01_k».proof.Proof.Gen.Pre_nonneg
public import Idealize.ShloMosaic.Lib.ReduceAll

@[expose] public section

set_option maxRecDepth 16384

noncomputable section

namespace Cert.DownDxIdeal.Product

open Cert.DownDxIdeal Cert.DownDxIdeal.Gen Cert.Product
open Idealize.ShloMosaic Idealize.ShloMosaic.TcCoe Idealize.SL.Sem

theorem idx0 : ∀ t : Fin grid0.N, win0_0.index t = ![t.val / 2, 0] := by decide +kernel
theorem idx1 : ∀ t : Fin grid0.N, win0_1.index t = ![t.val % 2, 0] := by decide +kernel
theorem idx2 : ∀ t : Fin grid0.N, win0_2.index t = ![t.val / 2, t.val % 2] := by decide +kernel
theorem idx3 : ∀ t : Fin grid0.N, win0_3.index t = ![t.val / 2, t.val % 2] := by decide +kernel

def grad (a : FVec Ideal S4096x1024 .bf16) (b : FVec Ideal S4096x1024 .bf16) (u : FVec Ideal S4096x4096 .bf16) (i : S4096x4096.Idx) : EReal :=
  nt 4096 1024 4096 a b i * (Ideal.ofBits FTy.f32 1073741824#32 * u i)

theorem array (m : (ℓ : Loc nD τ sig) → Buf (Elt Ideal) ℓ) (c : Dev nD) :
    (dats m 0 c).arrAt 3 cfg0.N = grad (m (c.tc.loc main_arg0)) (m (c.tc.loc main_arg1)) (m (c.tc.loc main_arg2)) := by
  refine (dats m 0 c).arrAt_eq_of_covers 3 _ (by decide +kernel) fun t hf y => ?_
  blk_simp
  rw [after0_3]
  frame_out
  rw [eq_ix2 y]
  pointwise [k0_pay1]
  refine twice_eq _ (sums fun k => ?_) ?_
  · congr 1 <;> blk_ext [iblk, V, idx0 t, idx1 t, idx3 t]
  · blk_ext [iblk, V, idx2 t, idx3 t]

/-- The precondition at an entry. -/
theorem entry [Cert.Pre_nonneg.Facts] (a b : FVec Ideal S4096x1024 .bf16) (u : FVec Ideal S4096x4096 .bf16) (h : Cert.Pre_nonneg.fn a b u = fun _ => 1#1) (i : S4096x4096.Idx) :
    (0 : EReal) ≤ u i := by
  have e := Host.reduce_andi_all _ _ _ _ _ (congrFun h fun k => k.elim0) i
  have k : Ideal.cmp .oge (u i) 0 = 1#1 := by
    rw [← e]
    pointwise
  by_contra n
  simp [Ideal.cmp, n] at k

theorem algebraic [Cert.Pre_nonneg.Facts] : Cert.algebraic_DownDxIdeal_DownDxRefIdeal_pre_nonneg (hDownDxIdeal := Gen.facts) (hDownDxRefIdeal := Cert.DownDxRefIdeal.Gen.facts) := fun m ρ m' ρ' hp hm =>
  ⟨fun c => grad (m (c.tc.loc main_arg0)) (m (c.tc.loc main_arg1)) (m (c.tc.loc main_arg2)),
    (θ_run defs _ _).mono (fun r h c => ⟨(h c).1.trans (array m c), (h c).2⟩) (Value.run_blocks m ρ),
    (θ_run Cert.DownDxRefIdeal.defs _ _).mono (fun r h c => ⟨(h c).1.trans (by
        obtain ⟨e0, e1, e2⟩ := hm c
        refine Eq.trans (b := grad (m' (c.tc.loc Cert.DownDxRefIdeal.main_arg0)) (m' (c.tc.loc Cert.DownDxRefIdeal.main_arg1)) (m' (c.tc.loc Cert.DownDxRefIdeal.main_arg2))) ?_ (congr3 grad e0 e1 e2)
        funext i
        have hi := (entry _ _ _ (hp c) i).trans_eq (congrFun e2 i).symm
        rw [eq_ix2 i]
        pointwise
        exact pos_twice _ _ hi), (h c).2⟩) (Cert.DownDxRefIdeal.Value.run m' ρ')⟩

theorem reference : Cert.quiescent_DownDxRefIdeal (hDownDxRefIdeal := Cert.DownDxRefIdeal.Gen.facts) := fun m ρ _ =>
  (θ_run Cert.DownDxRefIdeal.defs _ _).mono (fun r h => ⟨fun c => (h c).2, sem_eq_zero_of_no_sems (by decide) r.2⟩) (Cert.DownDxRefIdeal.Value.run (F := Ideal) m ρ)

end Cert.DownDxIdeal.Product

end
-- ==== Proof.MmDownDw.lean ====
/- The weight gradient of the second product of the channel mixing. -/
module

public import proofs.«01_k».proof.Defs
public import proofs.«01_k».proof.Proof.Product
public import proofs.«01_k».proof.Proof.Gen.DownDwIdeal.Value
public import proofs.«01_k».proof.Proof.Gen.DownDwRefIdeal.Run

@[expose] public section

set_option maxRecDepth 16384

noncomputable section

namespace Cert.DownDwIdeal.Product

open Cert.DownDwIdeal Cert.DownDwIdeal.Gen Cert.Product
open Idealize.ShloMosaic Idealize.ShloMosaic.TcCoe Idealize.SL.Sem

theorem idx0 : ∀ t : Fin grid0.N, win0_0.index t = ![0, t.val] := by decide +kernel
theorem idx1 : ∀ t : Fin grid0.N, win0_1.index t = ![0, 0] := by decide +kernel
theorem idx2 : ∀ t : Fin grid0.N, win0_2.index t = ![t.val, 0] := by decide +kernel

/-- The array that the kernel ends with. -/
theorem array (m : (ℓ : Loc nD τ sig) → Buf (Elt Ideal) ℓ) (c : Dev nD) : (dats m 0 c).arrAt 2 cfg0.N = tn 4096 4096 1024 (m (c.tc.loc main_arg0)) (m (c.tc.loc main_arg1)) := by
  refine (dats m 0 c).arrAt_eq_of_covers 2 _ (by decide +kernel) fun t hf y => ?_
  blk_simp
  rw [after0_2]
  frame_out
  rw [eq_ix2 y]
  pointwise [k0_pay1]
  refine sums fun k => ?_
  congr 1 <;> blk_ext [iblk, V, idx0 t, idx1 t, idx2 t]

theorem algebraic : Cert.algebraic_DownDwIdeal_DownDwRefIdeal (hDownDwIdeal := Gen.facts) (hDownDwRefIdeal := Cert.DownDwRefIdeal.Gen.facts) := fun m ρ m' ρ' _ hm =>
  ⟨fun c => tn 4096 4096 1024 (m (c.tc.loc main_arg0)) (m (c.tc.loc main_arg1)),
    (θ_run defs _ _).mono (fun r h c => ⟨(h c).1.trans (array m c), (h c).2⟩) (Value.run_blocks m ρ),
    (θ_run Cert.DownDwRefIdeal.defs _ _).mono (fun r h c => ⟨(h c).1.trans (Eq.trans (by
        funext i
        rw [eq_ix2 i]
        pointwise
        exact sums fun k => mul_comm _ _) (congrArg₂ (tn 4096 4096 1024) (hm c).1 (hm c).2)), (h c).2⟩) (Cert.DownDwRefIdeal.Value.run m' ρ')⟩

theorem reference : Cert.quiescent_DownDwRefIdeal (hDownDwRefIdeal := Cert.DownDwRefIdeal.Gen.facts) := fun m ρ _ =>
  (θ_run Cert.DownDwRefIdeal.defs _ _).mono (fun r h => ⟨fun c => (h c).2, sem_eq_zero_of_no_sems (by decide) r.2⟩) (Cert.DownDwRefIdeal.Value.run (F := Ideal) m ρ)

end Cert.DownDwIdeal.Product

end
-- ==== Proof.MmUpDx.lean ====
/- The input gradient of the first product of the channel mixing. -/
module

public import proofs.«01_k».proof.Defs
public import proofs.«01_k».proof.Proof.Product
public import proofs.«01_k».proof.Proof.Gen.UpDxIdeal.Value
public import proofs.«01_k».proof.Proof.Gen.UpDxRefIdeal.Run

@[expose] public section

set_option maxRecDepth 16384

noncomputable section

namespace Cert.UpDxIdeal.Product

open Cert.UpDxIdeal Cert.UpDxIdeal.Gen Cert.Product
open Idealize.ShloMosaic Idealize.ShloMosaic.TcCoe Idealize.SL.Sem

theorem idx0 : ∀ t : Fin grid0.N, win0_0.index t = ![t.val, 0] := by decide +kernel
theorem idx1 : ∀ t : Fin grid0.N, win0_1.index t = ![0, 0] := by decide +kernel
theorem idx2 : ∀ t : Fin grid0.N, win0_2.index t = ![t.val, 0] := by decide +kernel

/-- The array that the kernel ends with. -/
theorem array (m : (ℓ : Loc nD τ sig) → Buf (Elt Ideal) ℓ) (c : Dev nD) : (dats m 0 c).arrAt 2 cfg0.N = nt 4096 4096 1024 (m (c.tc.loc main_arg0)) (m (c.tc.loc main_arg1)) := by
  refine (dats m 0 c).arrAt_eq_of_covers 2 _ (by decide +kernel) fun t hf y => ?_
  blk_simp
  rw [after0_2]
  frame_out
  rw [eq_ix2 y]
  pointwise [k0_pay1]
  refine sums fun k => ?_
  congr 1 <;> blk_ext [iblk, V, idx0 t, idx1 t, idx2 t]

theorem algebraic : Cert.algebraic_UpDxIdeal_UpDxRefIdeal (hUpDxIdeal := Gen.facts) (hUpDxRefIdeal := Cert.UpDxRefIdeal.Gen.facts) := fun m ρ m' ρ' _ hm =>
  ⟨fun c => nt 4096 4096 1024 (m (c.tc.loc main_arg0)) (m (c.tc.loc main_arg1)),
    (θ_run defs _ _).mono (fun r h c => ⟨(h c).1.trans (array m c), (h c).2⟩) (Value.run_blocks m ρ),
    (θ_run Cert.UpDxRefIdeal.defs _ _).mono (fun r h c => ⟨(h c).1.trans (Eq.trans (by
        funext i
        rw [eq_ix2 i]
        pointwise
        rfl) (congrArg₂ (nt 4096 4096 1024) (hm c).1 (hm c).2)), (h c).2⟩) (Cert.UpDxRefIdeal.Value.run m' ρ')⟩

theorem reference : Cert.quiescent_UpDxRefIdeal (hUpDxRefIdeal := Cert.UpDxRefIdeal.Gen.facts) := fun m ρ _ =>
  (θ_run Cert.UpDxRefIdeal.defs _ _).mono (fun r h => ⟨fun c => (h c).2, sem_eq_zero_of_no_sems (by decide) r.2⟩) (Cert.UpDxRefIdeal.Value.run (F := Ideal) m ρ)

end Cert.UpDxIdeal.Product

end
-- ==== Proof.MmUpDw.lean ====
/- The weight gradient of the first product of the channel mixing. -/
module

public import proofs.«01_k».proof.Defs
public import proofs.«01_k».proof.Proof.Product
public import proofs.«01_k».proof.Proof.Gen.UpDwIdeal.Value
public import proofs.«01_k».proof.Proof.Gen.UpDwRefIdeal.Run

@[expose] public section

set_option maxRecDepth 16384

noncomputable section

namespace Cert.UpDwIdeal.Product

open Cert.UpDwIdeal Cert.UpDwIdeal.Gen Cert.Product
open Idealize.ShloMosaic Idealize.ShloMosaic.TcCoe Idealize.SL.Sem

theorem idx0 : ∀ t : Fin grid0.N, win0_0.index t = ![0, 0] := by decide +kernel
theorem idx1 : ∀ t : Fin grid0.N, win0_1.index t = ![0, t.val] := by decide +kernel
theorem idx2 : ∀ t : Fin grid0.N, win0_2.index t = ![0, t.val] := by decide +kernel

/-- The array that the kernel ends with. -/
theorem array (m : (ℓ : Loc nD τ sig) → Buf (Elt Ideal) ℓ) (c : Dev nD) : (dats m 0 c).arrAt 2 cfg0.N = tn 4096 1024 4096 (m (c.tc.loc main_arg0)) (m (c.tc.loc main_arg1)) := by
  refine (dats m 0 c).arrAt_eq_of_covers 2 _ (by decide +kernel) fun t hf y => ?_
  blk_simp
  rw [after0_2]
  frame_out
  rw [eq_ix2 y]
  pointwise [k0_pay1]
  refine sums fun k => ?_
  congr 1 <;> blk_ext [iblk, V, idx0 t, idx1 t, idx2 t]

theorem algebraic : Cert.algebraic_UpDwIdeal_UpDwRefIdeal (hUpDwIdeal := Gen.facts) (hUpDwRefIdeal := Cert.UpDwRefIdeal.Gen.facts) := fun m ρ m' ρ' _ hm =>
  ⟨fun c => tn 4096 1024 4096 (m (c.tc.loc main_arg0)) (m (c.tc.loc main_arg1)),
    (θ_run defs _ _).mono (fun r h c => ⟨(h c).1.trans (array m c), (h c).2⟩) (Value.run_blocks m ρ),
    (θ_run Cert.UpDwRefIdeal.defs _ _).mono (fun r h c => ⟨(h c).1.trans (Eq.trans (by
        funext i
        rw [eq_ix2 i]
        pointwise
        exact sums fun k => mul_comm _ _) (congrArg₂ (tn 4096 1024 4096) (hm c).1 (hm c).2)), (h c).2⟩) (Cert.UpDwRefIdeal.Value.run m' ρ')⟩

theorem reference : Cert.quiescent_UpDwRefIdeal (hUpDwRefIdeal := Cert.UpDwRefIdeal.Gen.facts) := fun m ρ _ =>
  (θ_run Cert.UpDwRefIdeal.defs _ _).mono (fun r h => ⟨fun c => (h c).2, sem_eq_zero_of_no_sems (by decide) r.2⟩) (Cert.UpDwRefIdeal.Value.run (F := Ideal) m ρ)

end Cert.UpDwIdeal.Product

end
-- ==== Proof.MmOutDw.lean ====
/- The weight gradient of the mixer's output product. -/
module

public import proofs.«01_k».proof.Defs
public import proofs.«01_k».proof.Proof.Product
public import proofs.«01_k».proof.Proof.Gen.OutDwIdeal.Value
public import proofs.«01_k».proof.Proof.Gen.OutDwRefIdeal.Run

@[expose] public section

set_option maxRecDepth 16384

noncomputable section

namespace Cert.OutDwIdeal.Product

open Cert.OutDwIdeal Cert.OutDwIdeal.Gen Cert.Product
open Idealize.ShloMosaic Idealize.ShloMosaic.TcCoe Idealize.SL.Sem

theorem idx0 : ∀ t : Fin grid0.N, win0_0.index t = ![0, 0] := by decide +kernel
theorem idx1 : ∀ t : Fin grid0.N, win0_1.index t = ![0, 0] := by decide +kernel
theorem idx2 : ∀ t : Fin grid0.N, win0_2.index t = ![0, 0] := by decide +kernel

/-- The array that the kernel ends with. -/
theorem array (m : (ℓ : Loc nD τ sig) → Buf (Elt Ideal) ℓ) (c : Dev nD) : (dats m 0 c).arrAt 2 cfg0.N = tn 4096 1024 1024 (m (c.tc.loc main_arg0)) (m (c.tc.loc main_arg1)) := by
  refine (dats m 0 c).arrAt_eq_of_covers 2 _ (by decide +kernel) fun t hf y => ?_
  blk_simp
  rw [after0_2]
  frame_out
  rw [eq_ix2 y]
  pointwise [k0_pay1]
  refine sums fun k => ?_
  congr 1 <;> blk_ext [iblk, V, idx0 t, idx1 t, idx2 t]

theorem algebraic : Cert.algebraic_OutDwIdeal_OutDwRefIdeal (hOutDwIdeal := Gen.facts) (hOutDwRefIdeal := Cert.OutDwRefIdeal.Gen.facts) := fun m ρ m' ρ' _ hm =>
  ⟨fun c => tn 4096 1024 1024 (m (c.tc.loc main_arg0)) (m (c.tc.loc main_arg1)),
    (θ_run defs _ _).mono (fun r h c => ⟨(h c).1.trans (array m c), (h c).2⟩) (Value.run_blocks m ρ),
    (θ_run Cert.OutDwRefIdeal.defs _ _).mono (fun r h c => ⟨(h c).1.trans (Eq.trans (by
        funext i
        rw [eq_ix2 i]
        pointwise
        exact sums fun k => mul_comm _ _) (congrArg₂ (tn 4096 1024 1024) (hm c).1 (hm c).2)), (h c).2⟩) (Cert.OutDwRefIdeal.Value.run m' ρ')⟩

theorem reference : Cert.quiescent_OutDwRefIdeal (hOutDwRefIdeal := Cert.OutDwRefIdeal.Gen.facts) := fun m ρ _ =>
  (θ_run Cert.OutDwRefIdeal.defs _ _).mono (fun r h => ⟨fun c => (h c).2, sem_eq_zero_of_no_sems (by decide) r.2⟩) (Cert.OutDwRefIdeal.Value.run (F := Ideal) m ρ)

end Cert.OutDwIdeal.Product

end
-- ==== Proof.MmSsmDx.lean ====
/- The input gradient of the SSD branch's up projection. -/
module

public import proofs.«01_k».proof.Defs
public import proofs.«01_k».proof.Proof.Product
public import proofs.«01_k».proof.Proof.Gen.SsmDxIdeal.Value
public import proofs.«01_k».proof.Proof.Gen.SsmDxRefIdeal.Run

@[expose] public section

set_option maxRecDepth 16384

noncomputable section

namespace Cert.SsmDxIdeal.Product

open Cert.SsmDxIdeal Cert.SsmDxIdeal.Gen Cert.Product
open Idealize.ShloMosaic Idealize.ShloMosaic.TcCoe Idealize.SL.Sem

theorem idx0 : ∀ t : Fin grid0.N, win0_0.index t = ![t.val, 0] := by decide +kernel
theorem idx1 : ∀ t : Fin grid0.N, win0_1.index t = ![0, 0] := by decide +kernel
theorem idx2 : ∀ t : Fin grid0.N, win0_2.index t = ![t.val, 0] := by decide +kernel

/-- The array that the kernel ends with. -/
theorem array (m : (ℓ : Loc nD τ sig) → Buf (Elt Ideal) ℓ) (c : Dev nD) : (dats m 0 c).arrAt 2 cfg0.N = nt 4096 1024 2048 (m (c.tc.loc main_arg0)) (m (c.tc.loc main_arg1)) := by
  refine (dats m 0 c).arrAt_eq_of_covers 2 _ (by decide +kernel) fun t hf y => ?_
  blk_simp
  rw [after0_2]
  frame_out
  rw [eq_ix2 y]
  pointwise [k0_pay1]
  refine sums fun k => ?_
  congr 1 <;> blk_ext [iblk, V, idx0 t, idx1 t, idx2 t]

theorem algebraic : Cert.algebraic_SsmDxIdeal_SsmDxRefIdeal (hSsmDxIdeal := Gen.facts) (hSsmDxRefIdeal := Cert.SsmDxRefIdeal.Gen.facts) := fun m ρ m' ρ' _ hm =>
  ⟨fun c => nt 4096 1024 2048 (m (c.tc.loc main_arg0)) (m (c.tc.loc main_arg1)),
    (θ_run defs _ _).mono (fun r h c => ⟨(h c).1.trans (array m c), (h c).2⟩) (Value.run_blocks m ρ),
    (θ_run Cert.SsmDxRefIdeal.defs _ _).mono (fun r h c => ⟨(h c).1.trans (Eq.trans (by
        funext i
        rw [eq_ix2 i]
        pointwise
        rfl) (congrArg₂ (nt 4096 1024 2048) (hm c).1 (hm c).2)), (h c).2⟩) (Cert.SsmDxRefIdeal.Value.run m' ρ')⟩

theorem reference : Cert.quiescent_SsmDxRefIdeal (hSsmDxRefIdeal := Cert.SsmDxRefIdeal.Gen.facts) := fun m ρ _ =>
  (θ_run Cert.SsmDxRefIdeal.defs _ _).mono (fun r h => ⟨fun c => (h c).2, sem_eq_zero_of_no_sems (by decide) r.2⟩) (Cert.SsmDxRefIdeal.Value.run (F := Ideal) m ρ)

end Cert.SsmDxIdeal.Product

end
-- ==== Proof.MmSsmDw.lean ====
/- The weight gradient of the SSD branch's up projection. -/
module

public import proofs.«01_k».proof.Defs
public import proofs.«01_k».proof.Proof.Product
public import proofs.«01_k».proof.Proof.Gen.SsmDwIdeal.Value
public import proofs.«01_k».proof.Proof.Gen.SsmDwRefIdeal.Run

@[expose] public section

set_option maxRecDepth 16384

noncomputable section

namespace Cert.SsmDwIdeal.Product

open Cert.SsmDwIdeal Cert.SsmDwIdeal.Gen Cert.Product
open Idealize.ShloMosaic Idealize.ShloMosaic.TcCoe Idealize.SL.Sem

theorem idx0 : ∀ t : Fin grid0.N, win0_0.index t = ![0, t.val] := by decide +kernel
theorem idx1 : ∀ t : Fin grid0.N, win0_1.index t = ![0, 0] := by decide +kernel
theorem idx2 : ∀ t : Fin grid0.N, win0_2.index t = ![t.val, 0] := by decide +kernel

/-- The array that the kernel ends with. -/
theorem array (m : (ℓ : Loc nD τ sig) → Buf (Elt Ideal) ℓ) (c : Dev nD) : (dats m 0 c).arrAt 2 cfg0.N = tn 4096 2048 1024 (m (c.tc.loc main_arg0)) (m (c.tc.loc main_arg1)) := by
  refine (dats m 0 c).arrAt_eq_of_covers 2 _ (by decide +kernel) fun t hf y => ?_
  blk_simp
  rw [after0_2]
  frame_out
  rw [eq_ix2 y]
  pointwise [k0_pay1]
  refine sums fun k => ?_
  congr 1 <;> blk_ext [iblk, V, idx0 t, idx1 t, idx2 t]

theorem algebraic : Cert.algebraic_SsmDwIdeal_SsmDwRefIdeal (hSsmDwIdeal := Gen.facts) (hSsmDwRefIdeal := Cert.SsmDwRefIdeal.Gen.facts) := fun m ρ m' ρ' _ hm =>
  ⟨fun c => tn 4096 2048 1024 (m (c.tc.loc main_arg0)) (m (c.tc.loc main_arg1)),
    (θ_run defs _ _).mono (fun r h c => ⟨(h c).1.trans (array m c), (h c).2⟩) (Value.run_blocks m ρ),
    (θ_run Cert.SsmDwRefIdeal.defs _ _).mono (fun r h c => ⟨(h c).1.trans (Eq.trans (by
        funext i
        rw [eq_ix2 i]
        pointwise
        exact sums fun k => mul_comm _ _) (congrArg₂ (tn 4096 2048 1024) (hm c).1 (hm c).2)), (h c).2⟩) (Cert.SsmDwRefIdeal.Value.run m' ρ')⟩

theorem reference : Cert.quiescent_SsmDwRefIdeal (hSsmDwRefIdeal := Cert.SsmDwRefIdeal.Gen.facts) := fun m ρ _ =>
  (θ_run Cert.SsmDwRefIdeal.defs _ _).mono (fun r h => ⟨fun c => (h c).2, sem_eq_zero_of_no_sems (by decide) r.2⟩) (Cert.SsmDwRefIdeal.Value.run (F := Ideal) m ρ)

end Cert.SsmDwIdeal.Product

end
-- ==== Proof.MmGdnDx.lean ====
/- The input gradient of the delta rule branch's up projection. -/
module

public import proofs.«01_k».proof.Defs
public import proofs.«01_k».proof.Proof.Product
public import proofs.«01_k».proof.Proof.Gen.GdnDxIdeal.Value
public import proofs.«01_k».proof.Proof.Gen.GdnDxRefIdeal.Run

@[expose] public section

set_option maxRecDepth 16384

noncomputable section

namespace Cert.GdnDxIdeal.Product

open Cert.GdnDxIdeal Cert.GdnDxIdeal.Gen Cert.Product
open Idealize.ShloMosaic Idealize.ShloMosaic.TcCoe Idealize.SL.Sem

theorem idx0 : ∀ t : Fin grid0.N, win0_0.index t = ![t.val, 0] := by decide +kernel
theorem idx1 : ∀ t : Fin grid0.N, win0_1.index t = ![0, 0] := by decide +kernel
theorem idx2 : ∀ t : Fin grid0.N, win0_2.index t = ![t.val, 0] := by decide +kernel

/-- The array that the kernel ends with. -/
theorem array (m : (ℓ : Loc nD τ sig) → Buf (Elt Ideal) ℓ) (c : Dev nD) : (dats m 0 c).arrAt 2 cfg0.N = nt 4096 1024 2048 (m (c.tc.loc main_arg0)) (m (c.tc.loc main_arg1)) := by
  refine (dats m 0 c).arrAt_eq_of_covers 2 _ (by decide +kernel) fun t hf y => ?_
  blk_simp
  rw [after0_2]
  frame_out
  rw [eq_ix2 y]
  pointwise [k0_pay1]
  refine sums fun k => ?_
  congr 1 <;> blk_ext [iblk, V, idx0 t, idx1 t, idx2 t]

theorem algebraic : Cert.algebraic_GdnDxIdeal_GdnDxRefIdeal (hGdnDxIdeal := Gen.facts) (hGdnDxRefIdeal := Cert.GdnDxRefIdeal.Gen.facts) := fun m ρ m' ρ' _ hm =>
  ⟨fun c => nt 4096 1024 2048 (m (c.tc.loc main_arg0)) (m (c.tc.loc main_arg1)),
    (θ_run defs _ _).mono (fun r h c => ⟨(h c).1.trans (array m c), (h c).2⟩) (Value.run_blocks m ρ),
    (θ_run Cert.GdnDxRefIdeal.defs _ _).mono (fun r h c => ⟨(h c).1.trans (Eq.trans (by
        funext i
        rw [eq_ix2 i]
        pointwise
        rfl) (congrArg₂ (nt 4096 1024 2048) (hm c).1 (hm c).2)), (h c).2⟩) (Cert.GdnDxRefIdeal.Value.run m' ρ')⟩

theorem reference : Cert.quiescent_GdnDxRefIdeal (hGdnDxRefIdeal := Cert.GdnDxRefIdeal.Gen.facts) := fun m ρ _ =>
  (θ_run Cert.GdnDxRefIdeal.defs _ _).mono (fun r h => ⟨fun c => (h c).2, sem_eq_zero_of_no_sems (by decide) r.2⟩) (Cert.GdnDxRefIdeal.Value.run (F := Ideal) m ρ)

end Cert.GdnDxIdeal.Product

end
-- ==== Proof.MmGdnDw.lean ====
/- The weight gradient of the delta rule branch's up projection. -/
module

public import proofs.«01_k».proof.Defs
public import proofs.«01_k».proof.Proof.Product
public import proofs.«01_k».proof.Proof.Gen.GdnDwIdeal.Value
public import proofs.«01_k».proof.Proof.Gen.GdnDwRefIdeal.Run

@[expose] public section

set_option maxRecDepth 16384

noncomputable section

namespace Cert.GdnDwIdeal.Product

open Cert.GdnDwIdeal Cert.GdnDwIdeal.Gen Cert.Product
open Idealize.ShloMosaic Idealize.ShloMosaic.TcCoe Idealize.SL.Sem

theorem idx0 : ∀ t : Fin grid0.N, win0_0.index t = ![0, t.val] := by decide +kernel
theorem idx1 : ∀ t : Fin grid0.N, win0_1.index t = ![0, 0] := by decide +kernel
theorem idx2 : ∀ t : Fin grid0.N, win0_2.index t = ![t.val, 0] := by decide +kernel

/-- The array that the kernel ends with. -/
theorem array (m : (ℓ : Loc nD τ sig) → Buf (Elt Ideal) ℓ) (c : Dev nD) : (dats m 0 c).arrAt 2 cfg0.N = tn 4096 2048 1024 (m (c.tc.loc main_arg0)) (m (c.tc.loc main_arg1)) := by
  refine (dats m 0 c).arrAt_eq_of_covers 2 _ (by decide +kernel) fun t hf y => ?_
  blk_simp
  rw [after0_2]
  frame_out
  rw [eq_ix2 y]
  pointwise [k0_pay1]
  refine sums fun k => ?_
  congr 1 <;> blk_ext [iblk, V, idx0 t, idx1 t, idx2 t]

theorem algebraic : Cert.algebraic_GdnDwIdeal_GdnDwRefIdeal (hGdnDwIdeal := Gen.facts) (hGdnDwRefIdeal := Cert.GdnDwRefIdeal.Gen.facts) := fun m ρ m' ρ' _ hm =>
  ⟨fun c => tn 4096 2048 1024 (m (c.tc.loc main_arg0)) (m (c.tc.loc main_arg1)),
    (θ_run defs _ _).mono (fun r h c => ⟨(h c).1.trans (array m c), (h c).2⟩) (Value.run_blocks m ρ),
    (θ_run Cert.GdnDwRefIdeal.defs _ _).mono (fun r h c => ⟨(h c).1.trans (Eq.trans (by
        funext i
        rw [eq_ix2 i]
        pointwise
        exact sums fun k => mul_comm _ _) (congrArg₂ (tn 4096 2048 1024) (hm c).1 (hm c).2)), (h c).2⟩) (Cert.GdnDwRefIdeal.Value.run m' ρ')⟩

theorem reference : Cert.quiescent_GdnDwRefIdeal (hGdnDwRefIdeal := Cert.GdnDwRefIdeal.Gen.facts) := fun m ρ _ =>
  (θ_run Cert.GdnDwRefIdeal.defs _ _).mono (fun r h => ⟨fun c => (h c).2, sem_eq_zero_of_no_sems (by decide) r.2⟩) (Cert.GdnDwRefIdeal.Value.run (F := Ideal) m ρ)

end Cert.GdnDwIdeal.Product

end
-- ==== Proof.MmProj.lean ====
/- The projection. -/
module

public import proofs.«01_k».proof.Defs
public import proofs.«01_k».proof.Proof.Product
public import proofs.«01_k».proof.Proof.Gen.ProjIdeal.Value
public import proofs.«01_k».proof.Proof.Gen.ProjRefIdeal.Run

@[expose] public section

set_option maxRecDepth 16384

noncomputable section

namespace Cert.ProjIdeal.Product

open Cert.ProjIdeal Cert.ProjIdeal.Gen Cert.Product
open Idealize.ShloMosaic Idealize.ShloMosaic.TcCoe Idealize.SL.Sem

theorem idx0 : ∀ t : Fin grid0.N, win0_0.index t = ![t.val / 7, 0] := by decide +kernel
theorem idx1 : ∀ t : Fin grid0.N, win0_1.index t = ![0, t.val % 7] := by decide +kernel
theorem idx2 : ∀ t : Fin grid0.N, win0_2.index t = ![t.val / 7, t.val % 7] := by decide +kernel

/-- The array that the kernel ends with. -/
theorem array (m : (ℓ : Loc nD τ sig) → Buf (Elt Ideal) ℓ) (c : Dev nD) : (dats m 0 c).arrAt 2 cfg0.N = nn 4096 1024 14336 (m (c.tc.loc main_arg0)) (m (c.tc.loc main_arg1)) := by
  refine (dats m 0 c).arrAt_eq_of_covers 2 _ (by decide +kernel) fun t hf y => ?_
  blk_simp
  rw [after0_2]
  frame_out
  rw [eq_ix2 y]
  pointwise [k0_pay1]
  refine sums fun k => ?_
  congr 1 <;> blk_ext [iblk, V, idx0 t, idx1 t, idx2 t]

theorem algebraic : Cert.algebraic_ProjIdeal_ProjRefIdeal (hProjIdeal := Gen.facts) (hProjRefIdeal := Cert.ProjRefIdeal.Gen.facts) := fun m ρ m' ρ' _ hm =>
  ⟨fun c => nn 4096 1024 14336 (m (c.tc.loc main_arg0)) (m (c.tc.loc main_arg1)),
    (θ_run defs _ _).mono (fun r h c => ⟨(h c).1.trans (array m c), (h c).2⟩) (Value.run_blocks m ρ),
    (θ_run Cert.ProjRefIdeal.defs _ _).mono (fun r h c => ⟨(h c).1.trans (Eq.trans (by
        funext i
        rw [eq_ix2 i]
        pointwise
        rfl) (congrArg₂ (nn 4096 1024 14336) (hm c).1 (hm c).2)), (h c).2⟩) (Cert.ProjRefIdeal.Value.run m' ρ')⟩

theorem reference : Cert.quiescent_ProjRefIdeal (hProjRefIdeal := Cert.ProjRefIdeal.Gen.facts) := fun m ρ _ =>
  (θ_run Cert.ProjRefIdeal.defs _ _).mono (fun r h => ⟨fun c => (h c).2, sem_eq_zero_of_no_sems (by decide) r.2⟩) (Cert.ProjRefIdeal.Value.run (F := Ideal) m ρ)

end Cert.ProjIdeal.Product

end
-- ==== Proof.MmUp.lean ====
/- The first product of the channel mixing, its positive part and the square of that. -/
module

public import proofs.«01_k».proof.Defs
public import proofs.«01_k».proof.Proof.Product
public import proofs.«01_k».proof.Proof.Gen.UpIdeal.Value
public import proofs.«01_k».proof.Proof.Gen.UpRefIdeal.Run

@[expose] public section

set_option maxRecDepth 16384

noncomputable section

namespace Cert.UpIdeal.Product

open Cert.UpIdeal Cert.UpIdeal.Gen Cert.Product
open Idealize.ShloMosaic Idealize.ShloMosaic.TcCoe Idealize.SL.Sem

theorem idx0 : ∀ t : Fin grid0.N, win0_0.index t = ![t.val / 2, 0] := by decide +kernel
theorem idx1 : ∀ t : Fin grid0.N, win0_1.index t = ![0, t.val % 2] := by decide +kernel
theorem idx2 : ∀ t : Fin grid0.N, win0_2.index t = ![t.val / 2, t.val % 2] := by decide +kernel
theorem idx3 : ∀ t : Fin grid0.N, win0_3.index t = ![t.val / 2, t.val % 2] := by decide +kernel

def pos (a : FVec Ideal S4096x1024 .bf16) (b : FVec Ideal S1024x4096 .bf16) (i : S4096x4096.Idx) : EReal := max (nn 4096 1024 4096 a b i) 0
def sq (a : FVec Ideal S4096x1024 .bf16) (b : FVec Ideal S1024x4096 .bf16) (i : S4096x4096.Idx) : EReal := pos a b i * pos a b i

theorem array2 (m : (ℓ : Loc nD τ sig) → Buf (Elt Ideal) ℓ) (c : Dev nD) : (dats m 0 c).arrAt 2 cfg0.N = pos (m (c.tc.loc main_arg0)) (m (c.tc.loc main_arg1)) := by
  refine (dats m 0 c).arrAt_eq_of_covers 2 _ (by decide +kernel) fun t hf y => ?_
  blk_simp
  rw [after0_2]
  frame_out
  rw [eq_ix2 y]
  pointwise [k0_pay2, k0_pay1]
  refine pos_eq (sums fun k => ?_)
  congr 1 <;> blk_ext [iblk, V, idx0 t, idx1 t, idx2 t]

theorem array3 (m : (ℓ : Loc nD τ sig) → Buf (Elt Ideal) ℓ) (c : Dev nD) : (dats m 0 c).arrAt 3 cfg0.N = sq (m (c.tc.loc main_arg0)) (m (c.tc.loc main_arg1)) := by
  refine (dats m 0 c).arrAt_eq_of_covers 3 _ (by decide +kernel) fun t hf y => ?_
  blk_simp
  rw [after0_3]
  frame_out
  rw [eq_ix2 y]
  pointwise [k0_pay3, k0_pay1]
  refine sq_eq (sums fun k => ?_)
  congr 1 <;> blk_ext [iblk, V, idx0 t, idx1 t, idx3 t]

theorem algebraic : Cert.algebraic_UpIdeal_UpRefIdeal (hUpIdeal := Gen.facts) (hUpRefIdeal := Cert.UpRefIdeal.Gen.facts) := fun m ρ m' ρ' _ hm =>
  ⟨fun c => pos (m (c.tc.loc main_arg0)) (m (c.tc.loc main_arg1)), fun c => sq (m (c.tc.loc main_arg0)) (m (c.tc.loc main_arg1)),
    (θ_run defs _ _).mono (fun r h c => ⟨(h c).1.trans (array2 m c), (h c).2.1.trans (array3 m c), (h c).2.2⟩) (Value.run_blocks m ρ),
    (θ_run Cert.UpRefIdeal.defs _ _).mono (fun r h c => ⟨(h c).1.trans (Eq.trans (by
        funext i
        rw [eq_ix2 i]
        pointwise
        rfl) (congrArg₂ pos (hm c).1 (hm c).2)), (h c).2.1.trans (Eq.trans (by
        funext i
        rw [eq_ix2 i]
        pointwise
        rfl) (congrArg₂ sq (hm c).1 (hm c).2)), (h c).2.2⟩) (Cert.UpRefIdeal.Value.run m' ρ')⟩

theorem reference : Cert.quiescent_UpRefIdeal (hUpRefIdeal := Cert.UpRefIdeal.Gen.facts) := fun m ρ _ =>
  (θ_run Cert.UpRefIdeal.defs _ _).mono (fun r h => ⟨fun c => (h c).2.2, sem_eq_zero_of_no_sems (by decide) r.2⟩) (Cert.UpRefIdeal.Value.run (F := Ideal) m ρ)

end Cert.UpIdeal.Product

end
-- ==== Proof.MmDown.lean ====
/- The second product of the channel mixing. -/
module

public import proofs.«01_k».proof.Defs
public import proofs.«01_k».proof.Proof.Product
public import proofs.«01_k».proof.Proof.Gen.DownIdeal.Value
public import proofs.«01_k».proof.Proof.Gen.DownRefIdeal.Run

@[expose] public section

set_option maxRecDepth 16384

noncomputable section

namespace Cert.DownIdeal.Product

open Cert.DownIdeal Cert.DownIdeal.Gen Cert.Product
open Idealize.ShloMosaic Idealize.ShloMosaic.TcCoe Idealize.SL.Sem

theorem idx0 : ∀ t : Fin grid0.N, win0_0.index t = ![t.val, 0] := by decide +kernel
theorem idx1 : ∀ t : Fin grid0.N, win0_1.index t = ![0, 0] := by decide +kernel
theorem idx2 : ∀ t : Fin grid0.N, win0_2.index t = ![t.val, 0] := by decide +kernel

/-- The array that the kernel ends with. -/
theorem array (m : (ℓ : Loc nD τ sig) → Buf (Elt Ideal) ℓ) (c : Dev nD) : (dats m 0 c).arrAt 2 cfg0.N = nn 4096 4096 1024 (m (c.tc.loc main_arg0)) (m (c.tc.loc main_arg1)) := by
  refine (dats m 0 c).arrAt_eq_of_covers 2 _ (by decide +kernel) fun t hf y => ?_
  blk_simp
  rw [after0_2]
  frame_out
  rw [eq_ix2 y]
  pointwise [k0_pay1]
  refine sums fun k => ?_
  congr 1 <;> blk_ext [iblk, V, idx0 t, idx1 t, idx2 t]

theorem algebraic : Cert.algebraic_DownIdeal_DownRefIdeal (hDownIdeal := Gen.facts) (hDownRefIdeal := Cert.DownRefIdeal.Gen.facts) := fun m ρ m' ρ' _ hm =>
  ⟨fun c => nn 4096 4096 1024 (m (c.tc.loc main_arg0)) (m (c.tc.loc main_arg1)),
    (θ_run defs _ _).mono (fun r h c => ⟨(h c).1.trans (array m c), (h c).2⟩) (Value.run_blocks m ρ),
    (θ_run Cert.DownRefIdeal.defs _ _).mono (fun r h c => ⟨(h c).1.trans (Eq.trans (by
        funext i
        rw [eq_ix2 i]
        pointwise
        rfl) (congrArg₂ (nn 4096 4096 1024) (hm c).1 (hm c).2)), (h c).2⟩) (Cert.DownRefIdeal.Value.run m' ρ')⟩

theorem reference : Cert.quiescent_DownRefIdeal (hDownRefIdeal := Cert.DownRefIdeal.Gen.facts) := fun m ρ _ =>
  (θ_run Cert.DownRefIdeal.defs _ _).mono (fun r h => ⟨fun c => (h c).2, sem_eq_zero_of_no_sems (by decide) r.2⟩) (Cert.DownRefIdeal.Value.run (F := Ideal) m ρ)

end Cert.DownIdeal.Product

end
-- ==== Proof.MmSsm.lean ====
/- The SSD branch's up projection. -/
module

public import proofs.«01_k».proof.Defs
public import proofs.«01_k».proof.Proof.Product
public import proofs.«01_k».proof.Proof.Gen.SsmIdeal.Value
public import proofs.«01_k».proof.Proof.Gen.SsmRefIdeal.Run

@[expose] public section

set_option maxRecDepth 16384

noncomputable section

namespace Cert.SsmIdeal.Product

open Cert.SsmIdeal Cert.SsmIdeal.Gen Cert.Product
open Idealize.ShloMosaic Idealize.ShloMosaic.TcCoe Idealize.SL.Sem

theorem idx0 : ∀ t : Fin grid0.N, win0_0.index t = ![t.val, 0] := by decide +kernel
theorem idx1 : ∀ t : Fin grid0.N, win0_1.index t = ![0, 0] := by decide +kernel
theorem idx2 : ∀ t : Fin grid0.N, win0_2.index t = ![t.val, 0] := by decide +kernel

/-- The array that the kernel ends with. -/
theorem array (m : (ℓ : Loc nD τ sig) → Buf (Elt Ideal) ℓ) (c : Dev nD) : (dats m 0 c).arrAt 2 cfg0.N = nn 4096 2048 1024 (m (c.tc.loc main_arg0)) (m (c.tc.loc main_arg1)) := by
  refine (dats m 0 c).arrAt_eq_of_covers 2 _ (by decide +kernel) fun t hf y => ?_
  blk_simp
  rw [after0_2]
  frame_out
  rw [eq_ix2 y]
  pointwise [k0_pay1]
  refine sums fun k => ?_
  congr 1 <;> blk_ext [iblk, V, idx0 t, idx1 t, idx2 t]

theorem algebraic : Cert.algebraic_SsmIdeal_SsmRefIdeal (hSsmIdeal := Gen.facts) (hSsmRefIdeal := Cert.SsmRefIdeal.Gen.facts) := fun m ρ m' ρ' _ hm =>
  ⟨fun c => nn 4096 2048 1024 (m (c.tc.loc main_arg0)) (m (c.tc.loc main_arg1)),
    (θ_run defs _ _).mono (fun r h c => ⟨(h c).1.trans (array m c), (h c).2⟩) (Value.run_blocks m ρ),
    (θ_run Cert.SsmRefIdeal.defs _ _).mono (fun r h c => ⟨(h c).1.trans (Eq.trans (by
        funext i
        rw [eq_ix2 i]
        pointwise
        rfl) (congrArg₂ (nn 4096 2048 1024) (hm c).1 (hm c).2)), (h c).2⟩) (Cert.SsmRefIdeal.Value.run m' ρ')⟩

theorem reference : Cert.quiescent_SsmRefIdeal (hSsmRefIdeal := Cert.SsmRefIdeal.Gen.facts) := fun m ρ _ =>
  (θ_run Cert.SsmRefIdeal.defs _ _).mono (fun r h => ⟨fun c => (h c).2, sem_eq_zero_of_no_sems (by decide) r.2⟩) (Cert.SsmRefIdeal.Value.run (F := Ideal) m ρ)

end Cert.SsmIdeal.Product

end
-- ==== Proof.MmSmall.lean ====
/- The projection's columns for the heads' scalars. -/
module

public import proofs.«01_k».proof.Defs
public import proofs.«01_k».proof.Proof.Product
public import proofs.«01_k».proof.Proof.Gen.SmallIdeal.Value
public import proofs.«01_k».proof.Proof.Gen.SmallRefIdeal.Run

@[expose] public section

set_option maxRecDepth 16384

noncomputable section

namespace Cert.SmallIdeal.Product

open Cert.SmallIdeal Cert.SmallIdeal.Gen Cert.Product
open Idealize.ShloMosaic Idealize.ShloMosaic.TcCoe Idealize.SL.Sem

theorem idx0 : ∀ t : Fin grid0.N, win0_0.index t = ![t.val, 0] := by decide +kernel
theorem idx1 : ∀ t : Fin grid0.N, win0_1.index t = ![0, 0] := by decide +kernel
theorem idx2 : ∀ t : Fin grid0.N, win0_2.index t = ![t.val, 0] := by decide +kernel

/-- The array that the kernel ends with. -/
theorem array (m : (ℓ : Loc nD τ sig) → Buf (Elt Ideal) ℓ) (c : Dev nD) : (dats m 0 c).arrAt 2 cfg0.N = nn 4096 1024 128 (m (c.tc.loc main_arg0)) (m (c.tc.loc main_arg1)) := by
  refine (dats m 0 c).arrAt_eq_of_covers 2 _ (by decide +kernel) fun t hf y => ?_
  blk_simp
  rw [after0_2]
  frame_out
  rw [eq_ix2 y]
  pointwise [k0_pay1]
  refine sums fun k => ?_
  congr 1 <;> blk_ext [iblk, V, idx0 t, idx1 t, idx2 t]

theorem algebraic : Cert.algebraic_SmallIdeal_SmallRefIdeal (hSmallIdeal := Gen.facts) (hSmallRefIdeal := Cert.SmallRefIdeal.Gen.facts) := fun m ρ m' ρ' _ hm =>
  ⟨fun c => nn 4096 1024 128 (m (c.tc.loc main_arg0)) (m (c.tc.loc main_arg1)),
    (θ_run defs _ _).mono (fun r h c => ⟨(h c).1.trans (array m c), (h c).2⟩) (Value.run_blocks m ρ),
    (θ_run Cert.SmallRefIdeal.defs _ _).mono (fun r h c => ⟨(h c).1.trans (Eq.trans (by
        funext i
        rw [eq_ix2 i]
        pointwise
        rfl) (congrArg₂ (nn 4096 1024 128) (hm c).1 (hm c).2)), (h c).2⟩) (Cert.SmallRefIdeal.Value.run m' ρ')⟩

theorem reference : Cert.quiescent_SmallRefIdeal (hSmallRefIdeal := Cert.SmallRefIdeal.Gen.facts) := fun m ρ _ =>
  (θ_run Cert.SmallRefIdeal.defs _ _).mono (fun r h => ⟨fun c => (h c).2, sem_eq_zero_of_no_sems (by decide) r.2⟩) (Cert.SmallRefIdeal.Value.run (F := Ideal) m ρ)

end Cert.SmallIdeal.Product

end
-- ==== Proof.MmSmallDw.lean ====
/- The weight gradient of the projection's columns for the heads' scalars. -/
module

public import proofs.«01_k».proof.Defs
public import proofs.«01_k».proof.Proof.Product
public import proofs.«01_k».proof.Proof.Gen.SmallDwIdeal.Value
public import proofs.«01_k».proof.Proof.Gen.SmallDwRefIdeal.Run

@[expose] public section

set_option maxRecDepth 16384

noncomputable section

namespace Cert.SmallDwIdeal.Product

open Cert.SmallDwIdeal Cert.SmallDwIdeal.Gen Cert.Product
open Idealize.ShloMosaic Idealize.ShloMosaic.TcCoe Idealize.SL.Sem

theorem idx0 : ∀ t : Fin grid0.N, win0_0.index t = ![0, 0] := by decide +kernel
theorem idx1 : ∀ t : Fin grid0.N, win0_1.index t = ![0, 0] := by decide +kernel
theorem idx2 : ∀ t : Fin grid0.N, win0_2.index t = ![0, 0] := by decide +kernel

/-- The array that the kernel ends with. -/
theorem array (m : (ℓ : Loc nD τ sig) → Buf (Elt Ideal) ℓ) (c : Dev nD) : (dats m 0 c).arrAt 2 cfg0.N = tn 4096 1024 128 (m (c.tc.loc main_arg0)) (m (c.tc.loc main_arg1)) := by
  refine (dats m 0 c).arrAt_eq_of_covers 2 _ (by decide +kernel) fun t hf y => ?_
  blk_simp
  rw [after0_2]
  frame_out
  rw [eq_ix2 y]
  pointwise [k0_pay1]
  refine sums fun k => ?_
  congr 1 <;> blk_ext [iblk, V, idx0 t, idx1 t, idx2 t]

theorem algebraic : Cert.algebraic_SmallDwIdeal_SmallDwRefIdeal (hSmallDwIdeal := Gen.facts) (hSmallDwRefIdeal := Cert.SmallDwRefIdeal.Gen.facts) := fun m ρ m' ρ' _ hm =>
  ⟨fun c => tn 4096 1024 128 (m (c.tc.loc main_arg0)) (m (c.tc.loc main_arg1)),
    (θ_run defs _ _).mono (fun r h c => ⟨(h c).1.trans (array m c), (h c).2⟩) (Value.run_blocks m ρ),
    (θ_run Cert.SmallDwRefIdeal.defs _ _).mono (fun r h c => ⟨(h c).1.trans (Eq.trans (by
        funext i
        rw [eq_ix2 i]
        pointwise
        exact sums fun k => mul_comm _ _) (congrArg₂ (tn 4096 1024 128) (hm c).1 (hm c).2)), (h c).2⟩) (Cert.SmallDwRefIdeal.Value.run m' ρ')⟩

theorem reference : Cert.quiescent_SmallDwRefIdeal (hSmallDwRefIdeal := Cert.SmallDwRefIdeal.Gen.facts) := fun m ρ _ =>
  (θ_run Cert.SmallDwRefIdeal.defs _ _).mono (fun r h => ⟨fun c => (h c).2, sem_eq_zero_of_no_sems (by decide) r.2⟩) (Cert.SmallDwRefIdeal.Value.run (F := Ideal) m ρ)

end Cert.SmallDwIdeal.Product

end
-- ==== Proof.MmSmallDx.lean ====
/- The input gradient of the projection's columns for the heads' scalars. -/
module

public import proofs.«01_k».proof.Defs
public import proofs.«01_k».proof.Proof.Product
public import proofs.«01_k».proof.Proof.Gen.SmallDxIdeal.Value
public import proofs.«01_k».proof.Proof.Gen.SmallDxRefIdeal.Run

@[expose] public section

set_option maxRecDepth 16384

noncomputable section

namespace Cert.SmallDxIdeal.Product

open Cert.SmallDxIdeal Cert.SmallDxIdeal.Gen Cert.Product
open Idealize.ShloMosaic Idealize.ShloMosaic.TcCoe Idealize.SL.Sem

theorem idx0 : ∀ t : Fin grid0.N, win0_0.index t = ![t.val, 0] := by decide +kernel
theorem idx1 : ∀ t : Fin grid0.N, win0_1.index t = ![0, 0] := by decide +kernel
theorem idx2 : ∀ t : Fin grid0.N, win0_2.index t = ![t.val, 0] := by decide +kernel

/-- The array that the kernel ends with. -/
theorem array (m : (ℓ : Loc nD τ sig) → Buf (Elt Ideal) ℓ) (c : Dev nD) : (dats m 0 c).arrAt 2 cfg0.N = nt 4096 128 1024 (m (c.tc.loc main_arg0)) (m (c.tc.loc main_arg1)) := by
  refine (dats m 0 c).arrAt_eq_of_covers 2 _ (by decide +kernel) fun t hf y => ?_
  blk_simp
  rw [after0_2]
  frame_out
  rw [eq_ix2 y]
  pointwise [k0_pay1]
  refine sums fun k => ?_
  congr 1 <;> blk_ext [iblk, V, idx0 t, idx1 t, idx2 t]

theorem algebraic : Cert.algebraic_SmallDxIdeal_SmallDxRefIdeal (hSmallDxIdeal := Gen.facts) (hSmallDxRefIdeal := Cert.SmallDxRefIdeal.Gen.facts) := fun m ρ m' ρ' _ hm =>
  ⟨fun c => nt 4096 128 1024 (m (c.tc.loc main_arg0)) (m (c.tc.loc main_arg1)),
    (θ_run defs _ _).mono (fun r h c => ⟨(h c).1.trans (array m c), (h c).2⟩) (Value.run_blocks m ρ),
    (θ_run Cert.SmallDxRefIdeal.defs _ _).mono (fun r h c => ⟨(h c).1.trans (Eq.trans (by
        funext i
        rw [eq_ix2 i]
        pointwise
        rfl) (congrArg₂ (nt 4096 128 1024) (hm c).1 (hm c).2)), (h c).2⟩) (Cert.SmallDxRefIdeal.Value.run m' ρ')⟩

theorem reference : Cert.quiescent_SmallDxRefIdeal (hSmallDxRefIdeal := Cert.SmallDxRefIdeal.Gen.facts) := fun m ρ _ =>
  (θ_run Cert.SmallDxRefIdeal.defs _ _).mono (fun r h => ⟨fun c => (h c).2, sem_eq_zero_of_no_sems (by decide) r.2⟩) (Cert.SmallDxRefIdeal.Value.run (F := Ideal) m ρ)

end Cert.SmallDxIdeal.Product

end
-- ==== Proof.Adam.lean ====
/- One step of AdamW for one weight, over the extended reals: the devices' contributions added, the two averages, the change. -/
module

public import proofs.«01_k».proof.Proof.Product

@[expose] public section

noncomputable section

namespace Cert.Adam

open Idealize.ShloMosaic

/-- The average of the gradient. -/
def avg (m g : EReal) : EReal := Ideal.ofBits .f32 0x3F666666#32 * m + Ideal.ofBits .f32 0x3DCCCCCD#32 * g

/-- The average of the gradient's square. -/
def avg2 (v g : EReal) : EReal := Ideal.ofBits .f32 0x3F7FBE77#32 * v + Ideal.ofBits .f32 0x3A83126F#32 * (g * g)

/-- The change of the weight. -/
def delta (w m v : EReal) : EReal := Ideal.ofBits .f32 0xBA83126F#32 *
  (Ideal.div (Ideal.div m (Ideal.ofBits .f32 0x3F26BD02#32)) (Ideal.sqrt (Ideal.div v (Ideal.ofBits .f32 0x3C231ACC#32)) + Ideal.ofBits .f32 0x322BCC77#32)
    + Ideal.ofBits .f32 0x3C23D70A#32 * w)

variable (n R C : ℕ) (f : FTy)

/-- The sum of the devices' contributions. -/
def gradient (c : FVec Ideal ⟨3, ![n, R, C]⟩ f) (i : (⟨2, ![R, C]⟩ : Shape).Idx) : EReal := ∑ k : Fin n, c (ix3 k (i 0) (i 1))

def first (c : FVec Ideal ⟨3, ![n, R, C]⟩ f) (m : FVec Ideal ⟨2, ![R, C]⟩ .f32) (i : (⟨2, ![R, C]⟩ : Shape).Idx) : EReal := avg (m i) (gradient n R C f c i)

def second (c : FVec Ideal ⟨3, ![n, R, C]⟩ f) (v : FVec Ideal ⟨2, ![R, C]⟩ .f32) (i : (⟨2, ![R, C]⟩ : Shape).Idx) : EReal := avg2 (v i) (gradient n R C f c i)

def change (c : FVec Ideal ⟨3, ![n, R, C]⟩ f) (w m v : FVec Ideal ⟨2, ![R, C]⟩ .f32) (i : (⟨2, ![R, C]⟩ : Shape).Idx) : EReal :=
  delta (w i) (first n R C f c m i) (second n R C f c v i)

theorem avg_eq {m g m' g' : EReal} (h : m = m') (k : g = g') :
    Ideal.ofBits .f32 0x3F666666#32 * m + Ideal.ofBits .f32 0x3DCCCCCD#32 * g = avg m' g' := by rw [h, k, avg]

theorem avg2_eq {v g v' g' : EReal} (h : v = v') (k : g = g') :
    Ideal.ofBits .f32 0x3F7FBE77#32 * v + Ideal.ofBits .f32 0x3A83126F#32 * (g * g) = avg2 v' g' := by rw [h, k, avg2]

theorem delta_eq {w m v w' m' v' : EReal} (h : w = w') (k : m = m') (l : v = v') :
    Ideal.ofBits .f32 0xBA83126F#32 *
      (Ideal.div (Ideal.div m (Ideal.ofBits .f32 0x3F26BD02#32)) (Ideal.sqrt (Ideal.div v (Ideal.ofBits .f32 0x3C231ACC#32)) + Ideal.ofBits .f32 0x322BCC77#32)
        + Ideal.ofBits .f32 0x3C23D70A#32 * w) = delta w' m' v' := by rw [h, k, l, delta]

theorem eight {f : Fin 8 → EReal} {a b c d e g h i : EReal} (h0 : a = f 0) (h1 : b = f 1) (h2 : c = f 2) (h3 : d = f 3) (h4 : e = f 4) (h5 : g = f 5)
    (h6 : h = f 6) (h7 : i = f 7) : a + b + c + d + e + g + h + i = ∑ k, f k := by rw [h0, h1, h2, h3, h4, h5, h6, h7, Fin.sum_univ_eight]

theorem four {f : Fin 4 → EReal} {a b c d : EReal} (h0 : a = f 0) (h1 : b = f 1) (h2 : c = f 2) (h3 : d = f 3) : a + b + c + d = ∑ k, f k := by
  rw [h0, h1, h2, h3, Fin.sum_univ_four]

theorem one {f : Fin 1 → EReal} {a : EReal} (h0 : a = f 0) : a = ∑ k, f k := by rw [h0, Fin.sum_univ_one]

theorem cell (R C : ℕ) (y : (⟨2, ![R, C]⟩ : Shape).Idx) : ∃ (p : Fin R) (q : Fin C), y = ix2 p q := ⟨_, _, eq_ix2 y⟩

theorem trans4 {α β γ δ : Type*} {a a' a'' : α} {b b' b'' : β} {c c' c'' : γ} {d d' d'' : δ} {P : Prop} (h : a = a' ∧ b = b' ∧ c = c' ∧ d = d' ∧ P)
    (k : a' = a'' ∧ b' = b'' ∧ c' = c'' ∧ d' = d'') : a = a'' ∧ b = b'' ∧ c = c'' ∧ d = d'' ∧ P :=
  ⟨h.1.trans k.1, h.2.1.trans k.2.1, h.2.2.1.trans k.2.2.1, h.2.2.2.1.trans k.2.2.2, h.2.2.2.2⟩

end Cert.Adam

end
-- ==== Proof.MmAdamUp.lean ====
/- One step of AdamW: an up projection's weight. -/
module

public import proofs.«01_k».proof.Defs
public import proofs.«01_k».proof.Proof.Adam
public import proofs.«01_k».proof.Proof.Gen.AdamUpIdeal.Value
public import proofs.«01_k».proof.Proof.Gen.AdamUpRefIdeal.Run

@[expose] public section

set_option maxRecDepth 16384

noncomputable section

namespace Cert.AdamUpIdeal.Step

open Gen Cert.Adam Idealize.ShloMosaic Idealize.ShloMosaic.TcCoe Idealize.SL.Sem

theorem idx : ∀ t : Fin grid0.N, win0_0.index t = ![0, t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] := by decide +kernel

variable (m : (ℓ : Loc nD τ sig) → Buf (Elt Ideal) ℓ) (c : Dev nD)

abbrev G := gradient 8 256 1024 .bf16 (m (c.tc.loc main_arg0))
abbrev D := change 8 256 1024 .bf16 (m (c.tc.loc main_arg0)) (m (c.tc.loc main_arg1)) (m (c.tc.loc main_arg2)) (m (c.tc.loc main_arg3))
abbrev A := first 8 256 1024 .bf16 (m (c.tc.loc main_arg0)) (m (c.tc.loc main_arg2))
abbrev B := second 8 256 1024 .bf16 (m (c.tc.loc main_arg0)) (m (c.tc.loc main_arg3))

/-- The sum in one block. -/
theorem total (x0 : Vec Ideal ⟨3, ![8, 128, 1024]⟩ .bf16) (x1 x2 x3 : Vec Ideal ⟨2, ![128, 1024]⟩ .f32) (p : Fin 128) (q : Fin 1024) :
    k0_pay5 x0 x1 x2 x3 (ix2 p q) = gradient 8 128 1024 .bf16 x0 (ix2 p q) := by
  pointwise [k0_pay5, k0_pay4]
  refine eight ?_ ?_ ?_ ?_ ?_ ?_ ?_ ?_ <;> pointwise

theorem sums (t : Fin cfg0.N) (p : Fin 128) (q : Fin 1024) (i : Shape.Idx ⟨2, ![256, 1024]⟩) (h0 : (i 0 : ℕ) = t.val * 128 + p) (h1 : (i 1 : ℕ) = q) :
    k0_pay5 (iblk m c 0 t) (iblk m c 1 t) (iblk m c 2 t) (iblk m c 3 t) (ix2 p q) = G m c i :=
  (total _ _ _ _ p q).trans (Finset.sum_congr rfl fun k _ => by blk_ext [iblk, V, idx t])

set_option maxHeartbeats 1000000 in
/-- The arrays that the kernel ends with. -/
theorem arrays : (dats m 0 c).arrAt 4 cfg0.N = G m c ∧ (dats m 0 c).arrAt 5 cfg0.N = D m c ∧ (dats m 0 c).arrAt 6 cfg0.N = A m c ∧
    (dats m 0 c).arrAt 7 cfg0.N = B m c := by
  refine ⟨(dats m 0 c).arrAt_eq_of_covers 4 _ (by decide +kernel) fun t hf y => ?_, (dats m 0 c).arrAt_eq_of_covers 5 _ (by decide +kernel) fun t hf y => ?_,
    (dats m 0 c).arrAt_eq_of_covers 6 _ (by decide +kernel) fun t hf y => ?_, (dats m 0 c).arrAt_eq_of_covers 7 _ (by decide +kernel) fun t hf y => ?_⟩ <;> blk_simp
  on_goal 4 => rw [after0_7]; frame_out; obtain ⟨p, q, rfl⟩ := cell 128 1024 y; pointwise [k0_pay1, k0_pay2, k0_pay3]; refine avg2_eq ?_ (sums m c t p q _ ?_ ?_)
  on_goal 3 => rw [after0_6]; frame_out; obtain ⟨p, q, rfl⟩ := cell 128 1024 y; pointwise [k0_pay1, k0_pay2, k0_pay3]; refine avg_eq ?_ (sums m c t p q _ ?_ ?_)
  on_goal 2 => rw [after0_5]; frame_out; obtain ⟨p, q, rfl⟩ := cell 128 1024 y; pointwise [k0_pay1, k0_pay2, k0_pay3]; refine delta_eq ?_ (avg_eq ?_ (sums m c t p q _ ?_ ?_)) (avg2_eq ?_ (sums m c t p q _ ?_ ?_))
  on_goal 1 => rw [after0_4]; frame_out; obtain ⟨p, q, rfl⟩ := cell 128 1024 y; pointwise; refine sums m c t p q _ ?_ ?_
  all_goals first | blk_ext [iblk, V, idx t] | (pointwise; blk_ext [iblk, V, idx t]) | blk_simp [idx t]

theorem algebraic : Cert.algebraic_AdamUpIdeal_AdamUpRefIdeal (hAdamUpIdeal := Gen.facts) (hAdamUpRefIdeal := Cert.AdamUpRefIdeal.Gen.facts) := fun m ρ m' ρ' _ hm =>
  ⟨G m, D m, A m, B m, (θ_run defs _ _).mono (fun r h c => trans4 (h c) (arrays m c)) (Value.run_blocks m ρ),
    (θ_run Cert.AdamUpRefIdeal.defs _ _).mono (fun r h c => trans4 (h c) (by
      obtain ⟨e0, e1, e2, e3⟩ := hm c
      rw [e0, e1, e2, e3]
      refine ⟨?_, ?_, ?_, ?_⟩ <;> (funext i; obtain ⟨p, q, rfl⟩ := cell _ _ i; pointwise; rfl))) (Cert.AdamUpRefIdeal.Value.run m' ρ')⟩

theorem reference : Cert.quiescent_AdamUpRefIdeal (hAdamUpRefIdeal := Cert.AdamUpRefIdeal.Gen.facts) := fun m ρ _ =>
  (θ_run Cert.AdamUpRefIdeal.defs _ _).mono (fun r h => ⟨fun c => (h c).2.2.2.2, sem_eq_zero_of_no_sems (by decide) r.2⟩) (Cert.AdamUpRefIdeal.Value.run (F := Ideal) m ρ)

end Cert.AdamUpIdeal.Step

end
-- ==== Proof.MmAdamRep.lean ====
/- One step of AdamW: the weights that every device holds whole. -/
module

public import proofs.«01_k».proof.Defs
public import proofs.«01_k».proof.Proof.Adam
public import proofs.«01_k».proof.Proof.Gen.AdamRepIdeal.Value
public import proofs.«01_k».proof.Proof.Gen.AdamRepRefIdeal.Run

@[expose] public section

set_option maxRecDepth 16384

noncomputable section

namespace Cert.AdamRepIdeal.Step

open Gen Cert.Adam Idealize.ShloMosaic Idealize.ShloMosaic.TcCoe Idealize.SL.Sem

theorem idx : ∀ t : Fin grid0.N, win0_0.index t = ![0, 0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] := by decide +kernel

variable (m : (ℓ : Loc nD τ sig) → Buf (Elt Ideal) ℓ) (c : Dev nD)

abbrev G := gradient 8 130 128 .f32 (m (c.tc.loc main_arg0))
abbrev D := change 8 130 128 .f32 (m (c.tc.loc main_arg0)) (m (c.tc.loc main_arg1)) (m (c.tc.loc main_arg2)) (m (c.tc.loc main_arg3))
abbrev A := first 8 130 128 .f32 (m (c.tc.loc main_arg0)) (m (c.tc.loc main_arg2))
abbrev B := second 8 130 128 .f32 (m (c.tc.loc main_arg0)) (m (c.tc.loc main_arg3))

/-- The sum in one block. -/
theorem total (x0 : Vec Ideal ⟨3, ![8, 130, 128]⟩ .f32) (x1 x2 x3 : Vec Ideal ⟨2, ![130, 128]⟩ .f32) (p : Fin 130) (q : Fin 128) :
    k0_pay5 x0 x1 x2 x3 (ix2 p q) = gradient 8 130 128 .f32 x0 (ix2 p q) := by
  pointwise [k0_pay5, k0_pay3]
  refine eight ?_ ?_ ?_ ?_ ?_ ?_ ?_ ?_ <;> pointwise

theorem sums (t : Fin cfg0.N) (p : Fin 130) (q : Fin 128) (i : Shape.Idx ⟨2, ![130, 128]⟩) (h0 : (i 0 : ℕ) = 0 * 130 + p) (h1 : (i 1 : ℕ) = q) :
    k0_pay5 (iblk m c 0 t) (iblk m c 1 t) (iblk m c 2 t) (iblk m c 3 t) (ix2 p q) = G m c i :=
  (total _ _ _ _ p q).trans (Finset.sum_congr rfl fun k _ => by blk_ext [iblk, V, idx t])

set_option maxHeartbeats 1000000 in
/-- The arrays that the kernel ends with. -/
theorem arrays : (dats m 0 c).arrAt 4 cfg0.N = G m c ∧ (dats m 0 c).arrAt 5 cfg0.N = D m c ∧ (dats m 0 c).arrAt 6 cfg0.N = A m c ∧
    (dats m 0 c).arrAt 7 cfg0.N = B m c := by
  refine ⟨(dats m 0 c).arrAt_eq_of_covers 4 _ (by decide +kernel) fun t hf y => ?_, (dats m 0 c).arrAt_eq_of_covers 5 _ (by decide +kernel) fun t hf y => ?_,
    (dats m 0 c).arrAt_eq_of_covers 6 _ (by decide +kernel) fun t hf y => ?_, (dats m 0 c).arrAt_eq_of_covers 7 _ (by decide +kernel) fun t hf y => ?_⟩ <;> blk_simp
  on_goal 4 => rw [after0_7]; frame_out; obtain ⟨p, q, rfl⟩ := cell 130 128 y; pointwise [k0_pay1, k0_pay2, k0_pay4]; refine avg2_eq ?_ (sums m c t p q _ ?_ ?_)
  on_goal 3 => rw [after0_6]; frame_out; obtain ⟨p, q, rfl⟩ := cell 130 128 y; pointwise [k0_pay1, k0_pay2, k0_pay4]; refine avg_eq ?_ (sums m c t p q _ ?_ ?_)
  on_goal 2 => rw [after0_5]; frame_out; obtain ⟨p, q, rfl⟩ := cell 130 128 y; pointwise [k0_pay1, k0_pay2, k0_pay4]; refine delta_eq ?_ (avg_eq ?_ (sums m c t p q _ ?_ ?_)) (avg2_eq ?_ (sums m c t p q _ ?_ ?_))
  on_goal 1 => rw [after0_4]; frame_out; obtain ⟨p, q, rfl⟩ := cell 130 128 y; pointwise; refine sums m c t p q _ ?_ ?_
  all_goals first | blk_ext [iblk, V, idx t] | (pointwise; blk_ext [iblk, V, idx t]) | blk_simp [idx t]

theorem algebraic : Cert.algebraic_AdamRepIdeal_AdamRepRefIdeal (hAdamRepIdeal := Gen.facts) (hAdamRepRefIdeal := Cert.AdamRepRefIdeal.Gen.facts) := fun m ρ m' ρ' _ hm =>
  ⟨G m, D m, A m, B m, (θ_run defs _ _).mono (fun r h c => trans4 (h c) (arrays m c)) (Value.run_blocks m ρ),
    (θ_run Cert.AdamRepRefIdeal.defs _ _).mono (fun r h c => trans4 (h c) (by
      obtain ⟨e0, e1, e2, e3⟩ := hm c
      rw [e0, e1, e2, e3]
      refine ⟨?_, ?_, ?_, ?_⟩ <;> (funext i; obtain ⟨p, q, rfl⟩ := cell _ _ i; pointwise; rfl))) (Cert.AdamRepRefIdeal.Value.run m' ρ')⟩

theorem reference : Cert.quiescent_AdamRepRefIdeal (hAdamRepRefIdeal := Cert.AdamRepRefIdeal.Gen.facts) := fun m ρ _ =>
  (θ_run Cert.AdamRepRefIdeal.defs _ _).mono (fun r h => ⟨fun c => (h c).2.2.2.2, sem_eq_zero_of_no_sems (by decide) r.2⟩) (Cert.AdamRepRefIdeal.Value.run (F := Ideal) m ρ)

end Cert.AdamRepIdeal.Step

end
-- ==== Proof.MmAdamOut.lean ====
/- One step of AdamW: the weight of the mixer's output product. -/
module

public import proofs.«01_k».proof.Defs
public import proofs.«01_k».proof.Proof.Adam
public import proofs.«01_k».proof.Proof.Gen.AdamOutIdeal.Value
public import proofs.«01_k».proof.Proof.Gen.AdamOutRefIdeal.Run

@[expose] public section

set_option maxRecDepth 16384

noncomputable section

namespace Cert.AdamOutIdeal.Step

open Gen Cert.Adam Idealize.ShloMosaic Idealize.ShloMosaic.TcCoe Idealize.SL.Sem

theorem idx : ∀ t : Fin grid0.N, win0_0.index t = ![0, 0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] := by decide +kernel

variable (m : (ℓ : Loc nD τ sig) → Buf (Elt Ideal) ℓ) (c : Dev nD)

abbrev G := gradient 8 128 1024 .bf16 (m (c.tc.loc main_arg0))
abbrev D := change 8 128 1024 .bf16 (m (c.tc.loc main_arg0)) (m (c.tc.loc main_arg1)) (m (c.tc.loc main_arg2)) (m (c.tc.loc main_arg3))
abbrev A := first 8 128 1024 .bf16 (m (c.tc.loc main_arg0)) (m (c.tc.loc main_arg2))
abbrev B := second 8 128 1024 .bf16 (m (c.tc.loc main_arg0)) (m (c.tc.loc main_arg3))

/-- The sum in one block. -/
theorem total (x0 : Vec Ideal ⟨3, ![8, 128, 1024]⟩ .bf16) (x1 x2 x3 : Vec Ideal ⟨2, ![128, 1024]⟩ .f32) (p : Fin 128) (q : Fin 1024) :
    k0_pay5 x0 x1 x2 x3 (ix2 p q) = gradient 8 128 1024 .bf16 x0 (ix2 p q) := by
  pointwise [k0_pay5, k0_pay4]
  refine eight ?_ ?_ ?_ ?_ ?_ ?_ ?_ ?_ <;> pointwise

theorem sums (t : Fin cfg0.N) (p : Fin 128) (q : Fin 1024) (i : Shape.Idx ⟨2, ![128, 1024]⟩) (h0 : (i 0 : ℕ) = 0 * 128 + p) (h1 : (i 1 : ℕ) = q) :
    k0_pay5 (iblk m c 0 t) (iblk m c 1 t) (iblk m c 2 t) (iblk m c 3 t) (ix2 p q) = G m c i :=
  (total _ _ _ _ p q).trans (Finset.sum_congr rfl fun k _ => by blk_ext [iblk, V, idx t])

set_option maxHeartbeats 1000000 in
/-- The arrays that the kernel ends with. -/
theorem arrays : (dats m 0 c).arrAt 4 cfg0.N = G m c ∧ (dats m 0 c).arrAt 5 cfg0.N = D m c ∧ (dats m 0 c).arrAt 6 cfg0.N = A m c ∧
    (dats m 0 c).arrAt 7 cfg0.N = B m c := by
  refine ⟨(dats m 0 c).arrAt_eq_of_covers 4 _ (by decide +kernel) fun t hf y => ?_, (dats m 0 c).arrAt_eq_of_covers 5 _ (by decide +kernel) fun t hf y => ?_,
    (dats m 0 c).arrAt_eq_of_covers 6 _ (by decide +kernel) fun t hf y => ?_, (dats m 0 c).arrAt_eq_of_covers 7 _ (by decide +kernel) fun t hf y => ?_⟩ <;> blk_simp
  on_goal 4 => rw [after0_7]; frame_out; obtain ⟨p, q, rfl⟩ := cell 128 1024 y; pointwise [k0_pay1, k0_pay2, k0_pay3]; refine avg2_eq ?_ (sums m c t p q _ ?_ ?_)
  on_goal 3 => rw [after0_6]; frame_out; obtain ⟨p, q, rfl⟩ := cell 128 1024 y; pointwise [k0_pay1, k0_pay2, k0_pay3]; refine avg_eq ?_ (sums m c t p q _ ?_ ?_)
  on_goal 2 => rw [after0_5]; frame_out; obtain ⟨p, q, rfl⟩ := cell 128 1024 y; pointwise [k0_pay1, k0_pay2, k0_pay3]; refine delta_eq ?_ (avg_eq ?_ (sums m c t p q _ ?_ ?_)) (avg2_eq ?_ (sums m c t p q _ ?_ ?_))
  on_goal 1 => rw [after0_4]; frame_out; obtain ⟨p, q, rfl⟩ := cell 128 1024 y; pointwise; refine sums m c t p q _ ?_ ?_
  all_goals first | blk_ext [iblk, V, idx t] | (pointwise; blk_ext [iblk, V, idx t]) | blk_simp [idx t]

theorem algebraic : Cert.algebraic_AdamOutIdeal_AdamOutRefIdeal (hAdamOutIdeal := Gen.facts) (hAdamOutRefIdeal := Cert.AdamOutRefIdeal.Gen.facts) := fun m ρ m' ρ' _ hm =>
  ⟨G m, D m, A m, B m, (θ_run defs _ _).mono (fun r h c => trans4 (h c) (arrays m c)) (Value.run_blocks m ρ),
    (θ_run Cert.AdamOutRefIdeal.defs _ _).mono (fun r h c => trans4 (h c) (by
      obtain ⟨e0, e1, e2, e3⟩ := hm c
      rw [e0, e1, e2, e3]
      refine ⟨?_, ?_, ?_, ?_⟩ <;> (funext i; obtain ⟨p, q, rfl⟩ := cell _ _ i; pointwise; rfl))) (Cert.AdamOutRefIdeal.Value.run m' ρ')⟩

theorem reference : Cert.quiescent_AdamOutRefIdeal (hAdamOutRefIdeal := Cert.AdamOutRefIdeal.Gen.facts) := fun m ρ _ =>
  (θ_run Cert.AdamOutRefIdeal.defs _ _).mono (fun r h => ⟨fun c => (h c).2.2.2.2, sem_eq_zero_of_no_sems (by decide) r.2⟩) (Cert.AdamOutRefIdeal.Value.run (F := Ideal) m ρ)

end Cert.AdamOutIdeal.Step

end
-- ==== Proof.MmAdamMlpUp.lean ====
/- One step of AdamW: the weight of the first product of the channel mixing. -/
module

public import proofs.«01_k».proof.Defs
public import proofs.«01_k».proof.Proof.Adam
public import proofs.«01_k».proof.Proof.Gen.AdamMlpUpIdeal.Value
public import proofs.«01_k».proof.Proof.Gen.AdamMlpUpRefIdeal.Run

@[expose] public section

set_option maxRecDepth 16384

noncomputable section

namespace Cert.AdamMlpUpIdeal.Step

open Gen Cert.Adam Idealize.ShloMosaic Idealize.ShloMosaic.TcCoe Idealize.SL.Sem

theorem idx : ∀ t : Fin grid0.N, win0_0.index t = ![0, t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] := by decide +kernel

variable (m : (ℓ : Loc nD τ sig) → Buf (Elt Ideal) ℓ) (c : Dev nD)

abbrev G := gradient 8 1024 512 .bf16 (m (c.tc.loc main_arg0))
abbrev D := change 8 1024 512 .bf16 (m (c.tc.loc main_arg0)) (m (c.tc.loc main_arg1)) (m (c.tc.loc main_arg2)) (m (c.tc.loc main_arg3))
abbrev A := first 8 1024 512 .bf16 (m (c.tc.loc main_arg0)) (m (c.tc.loc main_arg2))
abbrev B := second 8 1024 512 .bf16 (m (c.tc.loc main_arg0)) (m (c.tc.loc main_arg3))

/-- The sum in one block. -/
theorem total (x0 : Vec Ideal ⟨3, ![8, 256, 512]⟩ .bf16) (x1 x2 x3 : Vec Ideal ⟨2, ![256, 512]⟩ .f32) (p : Fin 256) (q : Fin 512) :
    k0_pay5 x0 x1 x2 x3 (ix2 p q) = gradient 8 256 512 .bf16 x0 (ix2 p q) := by
  pointwise [k0_pay5, k0_pay4]
  refine eight ?_ ?_ ?_ ?_ ?_ ?_ ?_ ?_ <;> pointwise

theorem sums (t : Fin cfg0.N) (p : Fin 256) (q : Fin 512) (i : Shape.Idx ⟨2, ![1024, 512]⟩) (h0 : (i 0 : ℕ) = t.val * 256 + p) (h1 : (i 1 : ℕ) = q) :
    k0_pay5 (iblk m c 0 t) (iblk m c 1 t) (iblk m c 2 t) (iblk m c 3 t) (ix2 p q) = G m c i :=
  (total _ _ _ _ p q).trans (Finset.sum_congr rfl fun k _ => by blk_ext [iblk, V, idx t])

set_option maxHeartbeats 1000000 in
/-- The arrays that the kernel ends with. -/
theorem arrays : (dats m 0 c).arrAt 4 cfg0.N = G m c ∧ (dats m 0 c).arrAt 5 cfg0.N = D m c ∧ (dats m 0 c).arrAt 6 cfg0.N = A m c ∧
    (dats m 0 c).arrAt 7 cfg0.N = B m c := by
  refine ⟨(dats m 0 c).arrAt_eq_of_covers 4 _ (by decide +kernel) fun t hf y => ?_, (dats m 0 c).arrAt_eq_of_covers 5 _ (by decide +kernel) fun t hf y => ?_,
    (dats m 0 c).arrAt_eq_of_covers 6 _ (by decide +kernel) fun t hf y => ?_, (dats m 0 c).arrAt_eq_of_covers 7 _ (by decide +kernel) fun t hf y => ?_⟩ <;> blk_simp
  on_goal 4 => rw [after0_7]; frame_out; obtain ⟨p, q, rfl⟩ := cell 256 512 y; pointwise [k0_pay1, k0_pay2, k0_pay3]; refine avg2_eq ?_ (sums m c t p q _ ?_ ?_)
  on_goal 3 => rw [after0_6]; frame_out; obtain ⟨p, q, rfl⟩ := cell 256 512 y; pointwise [k0_pay1, k0_pay2, k0_pay3]; refine avg_eq ?_ (sums m c t p q _ ?_ ?_)
  on_goal 2 => rw [after0_5]; frame_out; obtain ⟨p, q, rfl⟩ := cell 256 512 y; pointwise [k0_pay1, k0_pay2, k0_pay3]; refine delta_eq ?_ (avg_eq ?_ (sums m c t p q _ ?_ ?_)) (avg2_eq ?_ (sums m c t p q _ ?_ ?_))
  on_goal 1 => rw [after0_4]; frame_out; obtain ⟨p, q, rfl⟩ := cell 256 512 y; pointwise; refine sums m c t p q _ ?_ ?_
  all_goals first | blk_ext [iblk, V, idx t] | (pointwise; blk_ext [iblk, V, idx t]) | blk_simp [idx t]

theorem algebraic : Cert.algebraic_AdamMlpUpIdeal_AdamMlpUpRefIdeal (hAdamMlpUpIdeal := Gen.facts) (hAdamMlpUpRefIdeal := Cert.AdamMlpUpRefIdeal.Gen.facts) := fun m ρ m' ρ' _ hm =>
  ⟨G m, D m, A m, B m, (θ_run defs _ _).mono (fun r h c => trans4 (h c) (arrays m c)) (Value.run_blocks m ρ),
    (θ_run Cert.AdamMlpUpRefIdeal.defs _ _).mono (fun r h c => trans4 (h c) (by
      obtain ⟨e0, e1, e2, e3⟩ := hm c
      rw [e0, e1, e2, e3]
      refine ⟨?_, ?_, ?_, ?_⟩ <;> (funext i; obtain ⟨p, q, rfl⟩ := cell _ _ i; pointwise; rfl))) (Cert.AdamMlpUpRefIdeal.Value.run m' ρ')⟩

theorem reference : Cert.quiescent_AdamMlpUpRefIdeal (hAdamMlpUpRefIdeal := Cert.AdamMlpUpRefIdeal.Gen.facts) := fun m ρ _ =>
  (θ_run Cert.AdamMlpUpRefIdeal.defs _ _).mono (fun r h => ⟨fun c => (h c).2.2.2.2, sem_eq_zero_of_no_sems (by decide) r.2⟩) (Cert.AdamMlpUpRefIdeal.Value.run (F := Ideal) m ρ)

end Cert.AdamMlpUpIdeal.Step

end
-- ==== Proof.MmAdamMlpDown.lean ====
/- One step of AdamW: the weight of the second product of the channel mixing. -/
module

public import proofs.«01_k».proof.Defs
public import proofs.«01_k».proof.Proof.Adam
public import proofs.«01_k».proof.Proof.Gen.AdamMlpDownIdeal.Value
public import proofs.«01_k».proof.Proof.Gen.AdamMlpDownRefIdeal.Run

@[expose] public section

set_option maxRecDepth 16384

noncomputable section

namespace Cert.AdamMlpDownIdeal.Step

open Gen Cert.Adam Idealize.ShloMosaic Idealize.ShloMosaic.TcCoe Idealize.SL.Sem

theorem idx : ∀ t : Fin grid0.N, win0_0.index t = ![0, t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] := by decide +kernel

variable (m : (ℓ : Loc nD τ sig) → Buf (Elt Ideal) ℓ) (c : Dev nD)

abbrev G := gradient 8 512 1024 .bf16 (m (c.tc.loc main_arg0))
abbrev D := change 8 512 1024 .bf16 (m (c.tc.loc main_arg0)) (m (c.tc.loc main_arg1)) (m (c.tc.loc main_arg2)) (m (c.tc.loc main_arg3))
abbrev A := first 8 512 1024 .bf16 (m (c.tc.loc main_arg0)) (m (c.tc.loc main_arg2))
abbrev B := second 8 512 1024 .bf16 (m (c.tc.loc main_arg0)) (m (c.tc.loc main_arg3))

/-- The sum in one block. -/
theorem total (x0 : Vec Ideal ⟨3, ![8, 128, 1024]⟩ .bf16) (x1 x2 x3 : Vec Ideal ⟨2, ![128, 1024]⟩ .f32) (p : Fin 128) (q : Fin 1024) :
    k0_pay5 x0 x1 x2 x3 (ix2 p q) = gradient 8 128 1024 .bf16 x0 (ix2 p q) := by
  pointwise [k0_pay5, k0_pay4]
  refine eight ?_ ?_ ?_ ?_ ?_ ?_ ?_ ?_ <;> pointwise

theorem sums (t : Fin cfg0.N) (p : Fin 128) (q : Fin 1024) (i : Shape.Idx ⟨2, ![512, 1024]⟩) (h0 : (i 0 : ℕ) = t.val * 128 + p) (h1 : (i 1 : ℕ) = q) :
    k0_pay5 (iblk m c 0 t) (iblk m c 1 t) (iblk m c 2 t) (iblk m c 3 t) (ix2 p q) = G m c i :=
  (total _ _ _ _ p q).trans (Finset.sum_congr rfl fun k _ => by blk_ext [iblk, V, idx t])

set_option maxHeartbeats 1000000 in
/-- The arrays that the kernel ends with. -/
theorem arrays : (dats m 0 c).arrAt 4 cfg0.N = G m c ∧ (dats m 0 c).arrAt 5 cfg0.N = D m c ∧ (dats m 0 c).arrAt 6 cfg0.N = A m c ∧
    (dats m 0 c).arrAt 7 cfg0.N = B m c := by
  refine ⟨(dats m 0 c).arrAt_eq_of_covers 4 _ (by decide +kernel) fun t hf y => ?_, (dats m 0 c).arrAt_eq_of_covers 5 _ (by decide +kernel) fun t hf y => ?_,
    (dats m 0 c).arrAt_eq_of_covers 6 _ (by decide +kernel) fun t hf y => ?_, (dats m 0 c).arrAt_eq_of_covers 7 _ (by decide +kernel) fun t hf y => ?_⟩ <;> blk_simp
  on_goal 4 => rw [after0_7]; frame_out; obtain ⟨p, q, rfl⟩ := cell 128 1024 y; pointwise [k0_pay1, k0_pay2, k0_pay3]; refine avg2_eq ?_ (sums m c t p q _ ?_ ?_)
  on_goal 3 => rw [after0_6]; frame_out; obtain ⟨p, q, rfl⟩ := cell 128 1024 y; pointwise [k0_pay1, k0_pay2, k0_pay3]; refine avg_eq ?_ (sums m c t p q _ ?_ ?_)
  on_goal 2 => rw [after0_5]; frame_out; obtain ⟨p, q, rfl⟩ := cell 128 1024 y; pointwise [k0_pay1, k0_pay2, k0_pay3]; refine delta_eq ?_ (avg_eq ?_ (sums m c t p q _ ?_ ?_)) (avg2_eq ?_ (sums m c t p q _ ?_ ?_))
  on_goal 1 => rw [after0_4]; frame_out; obtain ⟨p, q, rfl⟩ := cell 128 1024 y; pointwise; refine sums m c t p q _ ?_ ?_
  all_goals first | blk_ext [iblk, V, idx t] | (pointwise; blk_ext [iblk, V, idx t]) | blk_simp [idx t]

theorem algebraic : Cert.algebraic_AdamMlpDownIdeal_AdamMlpDownRefIdeal (hAdamMlpDownIdeal := Gen.facts) (hAdamMlpDownRefIdeal := Cert.AdamMlpDownRefIdeal.Gen.facts) := fun m ρ m' ρ' _ hm =>
  ⟨G m, D m, A m, B m, (θ_run defs _ _).mono (fun r h c => trans4 (h c) (arrays m c)) (Value.run_blocks m ρ),
    (θ_run Cert.AdamMlpDownRefIdeal.defs _ _).mono (fun r h c => trans4 (h c) (by
      obtain ⟨e0, e1, e2, e3⟩ := hm c
      rw [e0, e1, e2, e3]
      refine ⟨?_, ?_, ?_, ?_⟩ <;> (funext i; obtain ⟨p, q, rfl⟩ := cell _ _ i; pointwise; rfl))) (Cert.AdamMlpDownRefIdeal.Value.run m' ρ')⟩

theorem reference : Cert.quiescent_AdamMlpDownRefIdeal (hAdamMlpDownRefIdeal := Cert.AdamMlpDownRefIdeal.Gen.facts) := fun m ρ _ =>
  (θ_run Cert.AdamMlpDownRefIdeal.defs _ _).mono (fun r h => ⟨fun c => (h c).2.2.2.2, sem_eq_zero_of_no_sems (by decide) r.2⟩) (Cert.AdamMlpDownRefIdeal.Value.run (F := Ideal) m ρ)

end Cert.AdamMlpDownIdeal.Step

end
-- ==== Proof.MmAdamAda.lean ====
/- One step of AdamW: the modulation's weight. -/
module

public import proofs.«01_k».proof.Defs
public import proofs.«01_k».proof.Proof.Adam
public import proofs.«01_k».proof.Proof.Gen.AdamAdaIdeal.Value
public import proofs.«01_k».proof.Proof.Gen.AdamAdaRefIdeal.Run

@[expose] public section

set_option maxRecDepth 16384

noncomputable section

namespace Cert.AdamAdaIdeal.Step

open Gen Cert.Adam Idealize.ShloMosaic Idealize.ShloMosaic.TcCoe Idealize.SL.Sem

theorem idx : ∀ t : Fin grid0.N, win0_0.index t = ![0, t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] := by decide +kernel

variable (m : (ℓ : Loc nD τ sig) → Buf (Elt Ideal) ℓ) (c : Dev nD)

abbrev G := gradient 1 1024 768 .f32 (m (c.tc.loc main_arg0))
abbrev D := change 1 1024 768 .f32 (m (c.tc.loc main_arg0)) (m (c.tc.loc main_arg1)) (m (c.tc.loc main_arg2)) (m (c.tc.loc main_arg3))
abbrev A := first 1 1024 768 .f32 (m (c.tc.loc main_arg0)) (m (c.tc.loc main_arg2))
abbrev B := second 1 1024 768 .f32 (m (c.tc.loc main_arg0)) (m (c.tc.loc main_arg3))

set_option maxHeartbeats 1000000 in
/-- The arrays that the kernel ends with. -/
theorem arrays : (dats m 0 c).arrAt 4 cfg0.N = G m c ∧ (dats m 0 c).arrAt 5 cfg0.N = D m c ∧ (dats m 0 c).arrAt 6 cfg0.N = A m c ∧
    (dats m 0 c).arrAt 7 cfg0.N = B m c := by
  refine ⟨(dats m 0 c).arrAt_eq_of_covers 4 _ (by decide +kernel) fun t hf y => ?_, (dats m 0 c).arrAt_eq_of_covers 5 _ (by decide +kernel) fun t hf y => ?_,
    (dats m 0 c).arrAt_eq_of_covers 6 _ (by decide +kernel) fun t hf y => ?_, (dats m 0 c).arrAt_eq_of_covers 7 _ (by decide +kernel) fun t hf y => ?_⟩ <;> blk_simp
  on_goal 4 => rw [after0_7]; frame_out; obtain ⟨p, q, rfl⟩ := cell 512 768 y; pointwise [k0_pay1, k0_pay2, k0_pay3, k0_pay4]; refine avg2_eq ?_ (one ?_)
  on_goal 3 => rw [after0_6]; frame_out; obtain ⟨p, q, rfl⟩ := cell 512 768 y; pointwise [k0_pay1, k0_pay2, k0_pay3, k0_pay4]; refine avg_eq ?_ (one ?_)
  on_goal 2 => rw [after0_5]; frame_out; obtain ⟨p, q, rfl⟩ := cell 512 768 y; pointwise [k0_pay1, k0_pay2, k0_pay3, k0_pay4]; refine delta_eq ?_ (avg_eq ?_ (one ?_)) (avg2_eq ?_ (one ?_))
  on_goal 1 => rw [after0_4]; frame_out; obtain ⟨p, q, rfl⟩ := cell 512 768 y; pointwise [k0_pay1, k0_pay2, k0_pay3, k0_pay4]; refine one ?_
  all_goals first | blk_ext [iblk, V, idx t] | (pointwise; blk_ext [iblk, V, idx t]) | blk_simp [idx t]

theorem algebraic : Cert.algebraic_AdamAdaIdeal_AdamAdaRefIdeal (hAdamAdaIdeal := Gen.facts) (hAdamAdaRefIdeal := Cert.AdamAdaRefIdeal.Gen.facts) := fun m ρ m' ρ' _ hm =>
  ⟨G m, D m, A m, B m, (θ_run defs _ _).mono (fun r h c => trans4 (h c) (arrays m c)) (Value.run_blocks m ρ),
    (θ_run Cert.AdamAdaRefIdeal.defs _ _).mono (fun r h c => trans4 (h c) (by
      obtain ⟨e0, e1, e2, e3⟩ := hm c
      rw [e0, e1, e2, e3]
      refine ⟨?_, ?_, ?_, ?_⟩ <;> (funext i; obtain ⟨p, q, rfl⟩ := cell _ _ i; pointwise; rfl))) (Cert.AdamAdaRefIdeal.Value.run m' ρ')⟩

theorem reference : Cert.quiescent_AdamAdaRefIdeal (hAdamAdaRefIdeal := Cert.AdamAdaRefIdeal.Gen.facts) := fun m ρ _ =>
  (θ_run Cert.AdamAdaRefIdeal.defs _ _).mono (fun r h => ⟨fun c => (h c).2.2.2.2, sem_eq_zero_of_no_sems (by decide) r.2⟩) (Cert.AdamAdaRefIdeal.Value.run (F := Ideal) m ρ)

end Cert.AdamAdaIdeal.Step

end
-- ==== Proof.MmAdamIn.lean ====
/- One step of AdamW: the projection's weight. -/
module

public import proofs.«01_k».proof.Defs
public import proofs.«01_k».proof.Proof.Adam
public import proofs.«01_k».proof.Proof.Gen.AdamInIdeal.Value
public import proofs.«01_k».proof.Proof.Gen.AdamInRefIdeal.Run

@[expose] public section

set_option maxRecDepth 16384

noncomputable section

namespace Cert.AdamInIdeal.Step

open Gen Cert.Adam Idealize.ShloMosaic Idealize.ShloMosaic.TcCoe Idealize.SL.Sem

theorem idx : ∀ t : Fin grid0.N, win0_0.index t = ![0, t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] := by decide +kernel

variable (m : (ℓ : Loc nD τ sig) → Buf (Elt Ideal) ℓ) (c : Dev nD)

abbrev G := gradient 4 1024 1800 .bf16 (m (c.tc.loc main_arg0))
abbrev D := change 4 1024 1800 .bf16 (m (c.tc.loc main_arg0)) (m (c.tc.loc main_arg1)) (m (c.tc.loc main_arg2)) (m (c.tc.loc main_arg3))
abbrev A := first 4 1024 1800 .bf16 (m (c.tc.loc main_arg0)) (m (c.tc.loc main_arg2))
abbrev B := second 4 1024 1800 .bf16 (m (c.tc.loc main_arg0)) (m (c.tc.loc main_arg3))

set_option maxHeartbeats 1000000 in
/-- The arrays that the kernel ends with. -/
theorem arrays : (dats m 0 c).arrAt 4 cfg0.N = G m c ∧ (dats m 0 c).arrAt 5 cfg0.N = D m c ∧ (dats m 0 c).arrAt 6 cfg0.N = A m c ∧
    (dats m 0 c).arrAt 7 cfg0.N = B m c := by
  refine ⟨(dats m 0 c).arrAt_eq_of_covers 4 _ (by decide +kernel) fun t hf y => ?_, (dats m 0 c).arrAt_eq_of_covers 5 _ (by decide +kernel) fun t hf y => ?_,
    (dats m 0 c).arrAt_eq_of_covers 6 _ (by decide +kernel) fun t hf y => ?_, (dats m 0 c).arrAt_eq_of_covers 7 _ (by decide +kernel) fun t hf y => ?_⟩ <;> blk_simp
  on_goal 4 => rw [after0_7]; frame_out; obtain ⟨p, q, rfl⟩ := cell 128 1800 y; pointwise [k0_pay1, k0_pay2, k0_pay3, k0_pay4, k0_pay5, k0_pay6]; refine avg2_eq ?_ (four ?_ ?_ ?_ ?_)
  on_goal 3 => rw [after0_6]; frame_out; obtain ⟨p, q, rfl⟩ := cell 128 1800 y; pointwise [k0_pay1, k0_pay2, k0_pay3, k0_pay4, k0_pay5, k0_pay6]; refine avg_eq ?_ (four ?_ ?_ ?_ ?_)
  on_goal 2 => rw [after0_5]; frame_out; obtain ⟨p, q, rfl⟩ := cell 128 1800 y; pointwise [k0_pay1, k0_pay2, k0_pay3, k0_pay4, k0_pay5, k0_pay6]; refine delta_eq ?_ (avg_eq ?_ (four ?_ ?_ ?_ ?_)) (avg2_eq ?_ (four ?_ ?_ ?_ ?_))
  on_goal 1 => rw [after0_4]; frame_out; obtain ⟨p, q, rfl⟩ := cell 128 1800 y; pointwise [k0_pay1, k0_pay2, k0_pay3, k0_pay4, k0_pay5, k0_pay6]; refine four ?_ ?_ ?_ ?_
  all_goals first | blk_ext [iblk, V, idx t] | (pointwise; blk_ext [iblk, V, idx t]) | blk_simp [idx t]

theorem algebraic : Cert.algebraic_AdamInIdeal_AdamInRefIdeal (hAdamInIdeal := Gen.facts) (hAdamInRefIdeal := Cert.AdamInRefIdeal.Gen.facts) := fun m ρ m' ρ' _ hm =>
  ⟨G m, D m, A m, B m, (θ_run defs _ _).mono (fun r h c => trans4 (h c) (arrays m c)) (Value.run_blocks m ρ),
    (θ_run Cert.AdamInRefIdeal.defs _ _).mono (fun r h c => trans4 (h c) (by
      obtain ⟨e0, e1, e2, e3⟩ := hm c
      rw [e0, e1, e2, e3]
      refine ⟨?_, ?_, ?_, ?_⟩ <;> (funext i; obtain ⟨p, q, rfl⟩ := cell _ _ i; pointwise; rfl))) (Cert.AdamInRefIdeal.Value.run m' ρ')⟩

theorem reference : Cert.quiescent_AdamInRefIdeal (hAdamInRefIdeal := Cert.AdamInRefIdeal.Gen.facts) := fun m ρ _ =>
  (θ_run Cert.AdamInRefIdeal.defs _ _).mono (fun r h => ⟨fun c => (h c).2.2.2.2, sem_eq_zero_of_no_sems (by decide) r.2⟩) (Cert.AdamInRefIdeal.Value.run (F := Ideal) m ρ)

end Cert.AdamInIdeal.Step

end
-- ==== Proof.MmAdamConv.lean ====
/- One step of AdamW: the convolutions' weights. -/
module

public import proofs.«01_k».proof.Defs
public import proofs.«01_k».proof.Proof.Adam
public import proofs.«01_k».proof.Proof.Gen.AdamConvIdeal.Value
public import proofs.«01_k».proof.Proof.Gen.AdamConvRefIdeal.Run

@[expose] public section

set_option maxRecDepth 16384

noncomputable section

namespace Cert.AdamConvIdeal.Step

open Gen Cert.Adam Idealize.ShloMosaic Idealize.ShloMosaic.TcCoe Idealize.SL.Sem

theorem idx : ∀ t : Fin grid0.N, win0_0.index t = ![0, 0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] := by decide +kernel

variable (m : (ℓ : Loc nD τ sig) → Buf (Elt Ideal) ℓ) (c : Dev nD)

abbrev G := gradient 8 8 512 .f32 (m (c.tc.loc main_arg0))
abbrev D := change 8 8 512 .f32 (m (c.tc.loc main_arg0)) (m (c.tc.loc main_arg1)) (m (c.tc.loc main_arg2)) (m (c.tc.loc main_arg3))
abbrev A := first 8 8 512 .f32 (m (c.tc.loc main_arg0)) (m (c.tc.loc main_arg2))
abbrev B := second 8 8 512 .f32 (m (c.tc.loc main_arg0)) (m (c.tc.loc main_arg3))

/-- The sum in one block. -/
theorem total (x0 : Vec Ideal ⟨3, ![8, 8, 512]⟩ .f32) (x1 x2 x3 : Vec Ideal ⟨2, ![8, 512]⟩ .f32) (p : Fin 8) (q : Fin 512) :
    k0_pay5 x0 x1 x2 x3 (ix2 p q) = gradient 8 8 512 .f32 x0 (ix2 p q) := by
  pointwise [k0_pay5, k0_pay3]
  refine eight ?_ ?_ ?_ ?_ ?_ ?_ ?_ ?_ <;> pointwise

theorem sums (t : Fin cfg0.N) (p : Fin 8) (q : Fin 512) (i : Shape.Idx ⟨2, ![8, 512]⟩) (h0 : (i 0 : ℕ) = 0 * 8 + p) (h1 : (i 1 : ℕ) = q) :
    k0_pay5 (iblk m c 0 t) (iblk m c 1 t) (iblk m c 2 t) (iblk m c 3 t) (ix2 p q) = G m c i :=
  (total _ _ _ _ p q).trans (Finset.sum_congr rfl fun k _ => by blk_ext [iblk, V, idx t])

set_option maxHeartbeats 1000000 in
/-- The arrays that the kernel ends with. -/
theorem arrays : (dats m 0 c).arrAt 4 cfg0.N = G m c ∧ (dats m 0 c).arrAt 5 cfg0.N = D m c ∧ (dats m 0 c).arrAt 6 cfg0.N = A m c ∧
    (dats m 0 c).arrAt 7 cfg0.N = B m c := by
  refine ⟨(dats m 0 c).arrAt_eq_of_covers 4 _ (by decide +kernel) fun t hf y => ?_, (dats m 0 c).arrAt_eq_of_covers 5 _ (by decide +kernel) fun t hf y => ?_,
    (dats m 0 c).arrAt_eq_of_covers 6 _ (by decide +kernel) fun t hf y => ?_, (dats m 0 c).arrAt_eq_of_covers 7 _ (by decide +kernel) fun t hf y => ?_⟩ <;> blk_simp
  on_goal 4 => rw [after0_7]; frame_out; obtain ⟨p, q, rfl⟩ := cell 8 512 y; pointwise [k0_pay1, k0_pay2, k0_pay4]; refine avg2_eq ?_ (sums m c t p q _ ?_ ?_)
  on_goal 3 => rw [after0_6]; frame_out; obtain ⟨p, q, rfl⟩ := cell 8 512 y; pointwise [k0_pay1, k0_pay2, k0_pay4]; refine avg_eq ?_ (sums m c t p q _ ?_ ?_)
  on_goal 2 => rw [after0_5]; frame_out; obtain ⟨p, q, rfl⟩ := cell 8 512 y; pointwise [k0_pay1, k0_pay2, k0_pay4]; refine delta_eq ?_ (avg_eq ?_ (sums m c t p q _ ?_ ?_)) (avg2_eq ?_ (sums m c t p q _ ?_ ?_))
  on_goal 1 => rw [after0_4]; frame_out; obtain ⟨p, q, rfl⟩ := cell 8 512 y; pointwise; refine sums m c t p q _ ?_ ?_
  all_goals first | blk_ext [iblk, V, idx t] | (pointwise; blk_ext [iblk, V, idx t]) | blk_simp [idx t]

theorem algebraic : Cert.algebraic_AdamConvIdeal_AdamConvRefIdeal (hAdamConvIdeal := Gen.facts) (hAdamConvRefIdeal := Cert.AdamConvRefIdeal.Gen.facts) := fun m ρ m' ρ' _ hm =>
  ⟨G m, D m, A m, B m, (θ_run defs _ _).mono (fun r h c => trans4 (h c) (arrays m c)) (Value.run_blocks m ρ),
    (θ_run Cert.AdamConvRefIdeal.defs _ _).mono (fun r h c => trans4 (h c) (by
      obtain ⟨e0, e1, e2, e3⟩ := hm c
      rw [e0, e1, e2, e3]
      refine ⟨?_, ?_, ?_, ?_⟩ <;> (funext i; obtain ⟨p, q, rfl⟩ := cell _ _ i; pointwise; rfl))) (Cert.AdamConvRefIdeal.Value.run m' ρ')⟩

theorem reference : Cert.quiescent_AdamConvRefIdeal (hAdamConvRefIdeal := Cert.AdamConvRefIdeal.Gen.facts) := fun m ρ _ =>
  (θ_run Cert.AdamConvRefIdeal.defs _ _).mono (fun r h => ⟨fun c => (h c).2.2.2.2, sem_eq_zero_of_no_sems (by decide) r.2⟩) (Cert.AdamConvRefIdeal.Value.run (F := Ideal) m ρ)

end Cert.AdamConvIdeal.Step

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.ProjDw.Frame
public import proofs.«01_k».proof.Proof.Gen.ProjDwIdeal.Value
public import proofs.«01_k».proof.Proof.Gen.ProjDwRefIdeal.Run
public import proofs.«01_k».proof.Proof.Gen.ProjDx.Frame
public import proofs.«01_k».proof.Proof.Gen.ProjDxIdeal.Value
public import proofs.«01_k».proof.Proof.Gen.ProjDxRefIdeal.Run
public import proofs.«01_k».proof.Proof.Gen.DownDx.Frame
public import proofs.«01_k».proof.Proof.Gen.DownDxIdeal.Value
public import proofs.«01_k».proof.Proof.Gen.DownDxRefIdeal.Run
public import proofs.«01_k».proof.Proof.Gen.DownDw.Frame
public import proofs.«01_k».proof.Proof.Gen.DownDwIdeal.Value
public import proofs.«01_k».proof.Proof.Gen.DownDwRefIdeal.Run
public import proofs.«01_k».proof.Proof.Gen.UpDx.Frame
public import proofs.«01_k».proof.Proof.Gen.UpDxIdeal.Value
public import proofs.«01_k».proof.Proof.Gen.UpDxRefIdeal.Run
public import proofs.«01_k».proof.Proof.Gen.UpDw.Frame
public import proofs.«01_k».proof.Proof.Gen.UpDwIdeal.Value
public import proofs.«01_k».proof.Proof.Gen.UpDwRefIdeal.Run
public import proofs.«01_k».proof.Proof.Gen.OutDw.Frame
public import proofs.«01_k».proof.Proof.Gen.OutDwIdeal.Value
public import proofs.«01_k».proof.Proof.Gen.OutDwRefIdeal.Run
public import proofs.«01_k».proof.Proof.Gen.SsmDx.Frame
public import proofs.«01_k».proof.Proof.Gen.SsmDxIdeal.Value
public import proofs.«01_k».proof.Proof.Gen.SsmDxRefIdeal.Run
public import proofs.«01_k».proof.Proof.Gen.SsmDw.Frame
public import proofs.«01_k».proof.Proof.Gen.SsmDwIdeal.Value
public import proofs.«01_k».proof.Proof.Gen.SsmDwRefIdeal.Run
public import proofs.«01_k».proof.Proof.Gen.GdnDx.Frame
public import proofs.«01_k».proof.Proof.Gen.GdnDxIdeal.Value
public import proofs.«01_k».proof.Proof.Gen.GdnDxRefIdeal.Run
public import proofs.«01_k».proof.Proof.Gen.GdnDw.Frame
public import proofs.«01_k».proof.Proof.Gen.GdnDwIdeal.Value
public import proofs.«01_k».proof.Proof.Gen.GdnDwRefIdeal.Run
public import proofs.«01_k».proof.Proof.Gen.Proj.Frame
public import proofs.«01_k».proof.Proof.Gen.ProjIdeal.Value
public import proofs.«01_k».proof.Proof.Gen.ProjRefIdeal.Run
public import proofs.«01_k».proof.Proof.Gen.Up.Frame
public import proofs.«01_k».proof.Proof.Gen.UpIdeal.Value
public import proofs.«01_k».proof.Proof.Gen.UpRefIdeal.Run
public import proofs.«01_k».proof.Proof.Gen.Down.Frame
public import proofs.«01_k».proof.Proof.Gen.DownIdeal.Value
public import proofs.«01_k».proof.Proof.Gen.DownRefIdeal.Run
public import proofs.«01_k».proof.Proof.Gen.Ssm.Frame
public import proofs.«01_k».proof.Proof.Gen.SsmIdeal.Value
public import proofs.«01_k».proof.Proof.Gen.SsmRefIdeal.Run
public import proofs.«01_k».proof.Proof.Gen.Small.Frame
public import proofs.«01_k».proof.Proof.Gen.SmallIdeal.Value
public import proofs.«01_k».proof.Proof.Gen.SmallRefIdeal.Run
public import proofs.«01_k».proof.Proof.Gen.SmallDw.Frame
public import proofs.«01_k».proof.Proof.Gen.SmallDwIdeal.Value
public import proofs.«01_k».proof.Proof.Gen.SmallDwRefIdeal.Run
public import proofs.«01_k».proof.Proof.Gen.SmallDx.Frame
public import proofs.«01_k».proof.Proof.Gen.SmallDxIdeal.Value
public import proofs.«01_k».proof.Proof.Gen.SmallDxRefIdeal.Run
public import proofs.«01_k».proof.Proof.Gen.Pre_nonneg
public import Idealize.ShloMosaic.Adequacy
public import Idealize.ShloMosaic.Lib.StableHlo.RunHlo
public import proofs.«01_k».proof.Proof.Final
public import proofs.«01_k».proof.Proof.MmProjDw
public import proofs.«01_k».proof.Proof.MmProjDx
public import proofs.«01_k».proof.Proof.MmDownDx
public import proofs.«01_k».proof.Proof.MmDownDw
public import proofs.«01_k».proof.Proof.MmUpDx
public import proofs.«01_k».proof.Proof.MmUpDw
public import proofs.«01_k».proof.Proof.MmOutDw
public import proofs.«01_k».proof.Proof.MmSsmDx
public import proofs.«01_k».proof.Proof.MmSsmDw
public import proofs.«01_k».proof.Proof.MmGdnDx
public import proofs.«01_k».proof.Proof.MmGdnDw
public import proofs.«01_k».proof.Proof.MmProj
public import proofs.«01_k».proof.Proof.MmUp
public import proofs.«01_k».proof.Proof.MmDown
public import proofs.«01_k».proof.Proof.MmSsm
public import proofs.«01_k».proof.Proof.MmSmall
public import proofs.«01_k».proof.Proof.MmSmallDw
public import proofs.«01_k».proof.Proof.MmSmallDx
public import Idealize.ShloMosaic.Init
public import proofs.«01_k».proof.Proof.Gen.AdamUp.Frame
public import proofs.«01_k».proof.Proof.Gen.AdamUpIdeal.Value
public import proofs.«01_k».proof.Proof.Gen.AdamUpRefIdeal.Run
public import proofs.«01_k».proof.Proof.MmAdamUp
public import proofs.«01_k».proof.Proof.Gen.AdamRep.Frame
public import proofs.«01_k».proof.Proof.Gen.AdamRepIdeal.Value
public import proofs.«01_k».proof.Proof.Gen.AdamRepRefIdeal.Run
public import proofs.«01_k».proof.Proof.MmAdamRep
public import proofs.«01_k».proof.Proof.Gen.AdamOut.Frame
public import proofs.«01_k».proof.Proof.Gen.AdamOutIdeal.Value
public import proofs.«01_k».proof.Proof.Gen.AdamOutRefIdeal.Run
public import proofs.«01_k».proof.Proof.MmAdamOut
public import proofs.«01_k».proof.Proof.Gen.AdamMlpUp.Frame
public import proofs.«01_k».proof.Proof.Gen.AdamMlpUpIdeal.Value
public import proofs.«01_k».proof.Proof.Gen.AdamMlpUpRefIdeal.Run
public import proofs.«01_k».proof.Proof.MmAdamMlpUp
public import proofs.«01_k».proof.Proof.Gen.AdamMlpDown.Frame
public import proofs.«01_k».proof.Proof.Gen.AdamMlpDownIdeal.Value
public import proofs.«01_k».proof.Proof.Gen.AdamMlpDownRefIdeal.Run
public import proofs.«01_k».proof.Proof.MmAdamMlpDown
public import proofs.«01_k».proof.Proof.Gen.AdamAda.Frame
public import proofs.«01_k».proof.Proof.Gen.AdamAdaIdeal.Value
public import proofs.«01_k».proof.Proof.Gen.AdamAdaRefIdeal.Run
public import proofs.«01_k».proof.Proof.MmAdamAda
public import proofs.«01_k».proof.Proof.Gen.AdamIn.Frame
public import proofs.«01_k».proof.Proof.Gen.AdamInIdeal.Value
public import proofs.«01_k».proof.Proof.Gen.AdamInRefIdeal.Run
public import proofs.«01_k».proof.Proof.MmAdamIn
public import proofs.«01_k».proof.Proof.Gen.AdamConv.Frame
public import proofs.«01_k».proof.Proof.Gen.AdamConvIdeal.Value
public import proofs.«01_k».proof.Proof.Gen.AdamConvRefIdeal.Run
public import proofs.«01_k».proof.Proof.MmAdamConv

@[expose] public section

set_option maxRecDepth 16384

noncomputable section

namespace Cert.Proof

open Idealize.ShloMosaic Idealize.SL.Sem Cert.Kernel

/-- The kernel's run and the reference's end with the same results. -/
theorem algebraic [Cert.Pre_finite.Facts] : Cert.algebraic_KernelIdeal_ReferenceIdeal_pre_finite (hKernelIdeal := Cert.KernelIdeal.Gen.facts) (hReferenceIdeal := Cert.ReferenceIdeal.Gen.facts) := by
  intro m ρ m' ρ' hp hm
  refine ⟨_, _, _, _, _, Cert.KernelIdeal.Value.run_blocks m ρ, (θ_run Cert.ReferenceIdeal.defs _ _).mono (fun r h c => ?_) (Cert.ReferenceIdeal.Value.run m' ρ')⟩
  obtain ⟨k0, k1, k2, k3, k4, k⟩ := h c
  obtain ⟨e0, e1, e2, e3, e4, e5, e6, e7, e8, e9, e10, e11⟩ := hm c
  have A := Cert.Final.args m c hp
  have B : Cert.ReferenceIdeal.Loop.Args (Cert.Final.reals m c) m' c :=
    ⟨fun r w => (congrFun e0 _).trans (A.dyn r w), fun r w hw => (congrFun e1 _).trans (A.conv r w hw), fun r w hw => (congrFun e2 _).trans (A.proj r w hw),
      fun r h => (congrFun e3 _).trans (A.dt r h), fun h => (congrFun e4 _).trans (A.bias h), fun h => (congrFun e5 _).trans (A.alog h), fun h => (congrFun e6 _).trans (A.skip h),
      fun w => (congrFun e7 _).trans (A.nw w), fun r w => (congrFun e8 _).trans (A.y r w), fun g q w n => (congrFun e9 _).trans (A.S g q w n)⟩
  have H := Cert.ReferenceIdeal.Loop.iter_inv B 32 (Nat.le_refl 32)
  exact ⟨k0.trans (Cert.Final.result0 m c A H ((Cert.ReferenceIdeal.Value.iter_main_arg11 m' c 32).trans e11)).symm,
    k1.trans (Cert.Final.result1 m c A H ((Cert.ReferenceIdeal.Value.iter_main_arg10 m' c 32).trans e10)).symm,
    k2.trans (Cert.Final.result2 m c A H).symm, k3.trans (Cert.Final.result3 m c A H).symm, k4.trans (Cert.Final.result4 m c A H).symm, k⟩

/-- The reference's frame: its run ends with every argument unchanged, and it declares no semaphore. -/
theorem reference : Cert.quiescent_ReferenceIdeal (hReferenceIdeal := Cert.ReferenceIdeal.Gen.facts) := fun m ρ _ =>
  (θ_run Cert.ReferenceIdeal.defs _ _).mono (fun r h => And.intro (fun c => (h c).2.2.2.2.2) (sem_eq_zero_of_no_sems (by decide) r.2))
    (Cert.ReferenceIdeal.Value.run (F := Ideal) m ρ)

theorem claim : Cert.Claim := ⟨Kernel.Gen.facts, KernelIdeal.Gen.facts, ReferenceIdeal.Gen.facts,
  ProjDw.Gen.facts, ProjDwIdeal.Gen.facts, ProjDwRefIdeal.Gen.facts,
  ProjDx.Gen.facts, ProjDxIdeal.Gen.facts, ProjDxRefIdeal.Gen.facts,
  DownDx.Gen.facts, DownDxIdeal.Gen.facts, DownDxRefIdeal.Gen.facts,
  DownDw.Gen.facts, DownDwIdeal.Gen.facts, DownDwRefIdeal.Gen.facts,
  UpDx.Gen.facts, UpDxIdeal.Gen.facts, UpDxRefIdeal.Gen.facts,
  UpDw.Gen.facts, UpDwIdeal.Gen.facts, UpDwRefIdeal.Gen.facts,
  OutDw.Gen.facts, OutDwIdeal.Gen.facts, OutDwRefIdeal.Gen.facts,
  SsmDx.Gen.facts, SsmDxIdeal.Gen.facts, SsmDxRefIdeal.Gen.facts,
  SsmDw.Gen.facts, SsmDwIdeal.Gen.facts, SsmDwRefIdeal.Gen.facts,
  GdnDx.Gen.facts, GdnDxIdeal.Gen.facts, GdnDxRefIdeal.Gen.facts,
  GdnDw.Gen.facts, GdnDwIdeal.Gen.facts, GdnDwRefIdeal.Gen.facts,
  Proj.Gen.facts, ProjIdeal.Gen.facts, ProjRefIdeal.Gen.facts,
  Up.Gen.facts, UpIdeal.Gen.facts, UpRefIdeal.Gen.facts,
  Down.Gen.facts, DownIdeal.Gen.facts, DownRefIdeal.Gen.facts,
  Ssm.Gen.facts, SsmIdeal.Gen.facts, SsmRefIdeal.Gen.facts,
  Small.Gen.facts, SmallIdeal.Gen.facts, SmallRefIdeal.Gen.facts,
  SmallDw.Gen.facts, SmallDwIdeal.Gen.facts, SmallDwRefIdeal.Gen.facts,
  SmallDx.Gen.facts, SmallDxIdeal.Gen.facts, SmallDxRefIdeal.Gen.facts,
  AdamUp.Gen.facts, AdamUpIdeal.Gen.facts, AdamUpRefIdeal.Gen.facts,
  AdamRep.Gen.facts, AdamRepIdeal.Gen.facts, AdamRepRefIdeal.Gen.facts,
  AdamOut.Gen.facts, AdamOutIdeal.Gen.facts, AdamOutRefIdeal.Gen.facts,
  AdamMlpUp.Gen.facts, AdamMlpUpIdeal.Gen.facts, AdamMlpUpRefIdeal.Gen.facts,
  AdamMlpDown.Gen.facts, AdamMlpDownIdeal.Gen.facts, AdamMlpDownRefIdeal.Gen.facts,
  AdamAda.Gen.facts, AdamAdaIdeal.Gen.facts, AdamAdaRefIdeal.Gen.facts,
  AdamIn.Gen.facts, AdamInIdeal.Gen.facts, AdamInRefIdeal.Gen.facts,
  AdamConv.Gen.facts, AdamConvIdeal.Gen.facts, AdamConvRefIdeal.Gen.facts,
  Pre_finite.Gen.facts, Pre_nonneg.Gen.facts,
  fun m ρ _ => Kernel.Gen.frame m ρ, fun m ρ _ => KernelIdeal.Gen.frame m ρ, fun m ρ _ => KernelIdeal.Gen.frame m ρ, reference, fun m ρ _ => reference m ρ trivial,
  fun m ρ _ => ProjDw.Gen.frame m ρ, fun m ρ _ => ProjDwIdeal.Gen.frame m ρ, ProjDwIdeal.Product.reference,
  fun m ρ _ => ProjDx.Gen.frame m ρ, fun m ρ _ => ProjDxIdeal.Gen.frame m ρ, ProjDxIdeal.Product.reference,
  fun m ρ _ => DownDx.Gen.frame m ρ, fun m ρ _ => DownDxIdeal.Gen.frame m ρ, fun m ρ _ => DownDxIdeal.Gen.frame m ρ, DownDxIdeal.Product.reference, fun m ρ _ => DownDxIdeal.Product.reference m ρ trivial,
  fun m ρ _ => DownDw.Gen.frame m ρ, fun m ρ _ => DownDwIdeal.Gen.frame m ρ, DownDwIdeal.Product.reference,
  fun m ρ _ => UpDx.Gen.frame m ρ, fun m ρ _ => UpDxIdeal.Gen.frame m ρ, UpDxIdeal.Product.reference,
  fun m ρ _ => UpDw.Gen.frame m ρ, fun m ρ _ => UpDwIdeal.Gen.frame m ρ, UpDwIdeal.Product.reference,
  fun m ρ _ => OutDw.Gen.frame m ρ, fun m ρ _ => OutDwIdeal.Gen.frame m ρ, OutDwIdeal.Product.reference,
  fun m ρ _ => SsmDx.Gen.frame m ρ, fun m ρ _ => SsmDxIdeal.Gen.frame m ρ, SsmDxIdeal.Product.reference,
  fun m ρ _ => SsmDw.Gen.frame m ρ, fun m ρ _ => SsmDwIdeal.Gen.frame m ρ, SsmDwIdeal.Product.reference,
  fun m ρ _ => GdnDx.Gen.frame m ρ, fun m ρ _ => GdnDxIdeal.Gen.frame m ρ, GdnDxIdeal.Product.reference,
  fun m ρ _ => GdnDw.Gen.frame m ρ, fun m ρ _ => GdnDwIdeal.Gen.frame m ρ, GdnDwIdeal.Product.reference,
  fun m ρ _ => Proj.Gen.frame m ρ, fun m ρ _ => ProjIdeal.Gen.frame m ρ, ProjIdeal.Product.reference,
  fun m ρ _ => Up.Gen.frame m ρ, fun m ρ _ => UpIdeal.Gen.frame m ρ, UpIdeal.Product.reference,
  fun m ρ _ => Down.Gen.frame m ρ, fun m ρ _ => DownIdeal.Gen.frame m ρ, DownIdeal.Product.reference,
  fun m ρ _ => Ssm.Gen.frame m ρ, fun m ρ _ => SsmIdeal.Gen.frame m ρ, SsmIdeal.Product.reference,
  fun m ρ _ => Small.Gen.frame m ρ, fun m ρ _ => SmallIdeal.Gen.frame m ρ, SmallIdeal.Product.reference,
  fun m ρ _ => SmallDw.Gen.frame m ρ, fun m ρ _ => SmallDwIdeal.Gen.frame m ρ, SmallDwIdeal.Product.reference,
  fun m ρ _ => SmallDx.Gen.frame m ρ, fun m ρ _ => SmallDxIdeal.Gen.frame m ρ, SmallDxIdeal.Product.reference,
  fun m ρ _ => AdamUp.Gen.frame m ρ, fun m ρ _ => AdamUpIdeal.Gen.frame m ρ, AdamUpIdeal.Step.reference,
  fun m ρ _ => AdamRep.Gen.frame m ρ, fun m ρ _ => AdamRepIdeal.Gen.frame m ρ, AdamRepIdeal.Step.reference,
  fun m ρ _ => AdamOut.Gen.frame m ρ, fun m ρ _ => AdamOutIdeal.Gen.frame m ρ, AdamOutIdeal.Step.reference,
  fun m ρ _ => AdamMlpUp.Gen.frame m ρ, fun m ρ _ => AdamMlpUpIdeal.Gen.frame m ρ, AdamMlpUpIdeal.Step.reference,
  fun m ρ _ => AdamMlpDown.Gen.frame m ρ, fun m ρ _ => AdamMlpDownIdeal.Gen.frame m ρ, AdamMlpDownIdeal.Step.reference,
  fun m ρ _ => AdamAda.Gen.frame m ρ, fun m ρ _ => AdamAdaIdeal.Gen.frame m ρ, AdamAdaIdeal.Step.reference,
  fun m ρ _ => AdamIn.Gen.frame m ρ, fun m ρ _ => AdamInIdeal.Gen.frame m ρ, AdamInIdeal.Step.reference,
  fun m ρ _ => AdamConv.Gen.frame m ρ, fun m ρ _ => AdamConvIdeal.Gen.frame m ρ, AdamConvIdeal.Step.reference,
  trivial, algebraic,
  trivial, ProjDwIdeal.Product.algebraic,
  trivial, ProjDxIdeal.Product.algebraic,
  trivial, DownDxIdeal.Product.algebraic,
  trivial, DownDwIdeal.Product.algebraic,
  trivial, UpDxIdeal.Product.algebraic,
  trivial, UpDwIdeal.Product.algebraic,
  trivial, OutDwIdeal.Product.algebraic,
  trivial, SsmDxIdeal.Product.algebraic,
  trivial, SsmDwIdeal.Product.algebraic,
  trivial, GdnDxIdeal.Product.algebraic,
  trivial, GdnDwIdeal.Product.algebraic,
  trivial, ProjIdeal.Product.algebraic,
  trivial, UpIdeal.Product.algebraic,
  trivial, DownIdeal.Product.algebraic,
  trivial, SsmIdeal.Product.algebraic,
  trivial, SmallIdeal.Product.algebraic,
  trivial, SmallDwIdeal.Product.algebraic,
  trivial, SmallDxIdeal.Product.algebraic,
  trivial, AdamUpIdeal.Step.algebraic,
  trivial, AdamRepIdeal.Step.algebraic,
  trivial, AdamOutIdeal.Step.algebraic,
  trivial, AdamMlpUpIdeal.Step.algebraic,
  trivial, AdamMlpDownIdeal.Step.algebraic,
  trivial, AdamAdaIdeal.Step.algebraic,
  trivial, AdamInIdeal.Step.algebraic,
  trivial, AdamConvIdeal.Step.algebraic⟩

end Cert.Proof

end
